-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactRefIdeal (m : (ℓ : Loc Cert.DactRefIdeal.nD Cert.DactRefIdeal.τ Cert.DactRefIdeal.sig) → Buf (Elt Ideal) ℓ) : Prop :=
  True

def Pre_Dnorm (m : (ℓ : Loc Cert.Dnorm.nD Cert.Dnorm.τ Cert.Dnorm.sig) → Buf (Elt Bits) ℓ) : Prop :=
  True

def Pre_DnormIdeal (m : (ℓ : Loc Cert.DnormIdeal.nD Cert.DnormIdeal.τ Cert.DnormIdeal.sig) → Buf (Elt Ideal) ℓ) : Prop :=
  True

def Pre_DnormIdeal_finite_dnorm [hPre_finite_dnorm : Cert.Pre_finite_dnorm.Facts] (m : (ℓ : Loc Cert.DnormIdeal.nD Cert.DnormIdeal.τ Cert.DnormIdeal.sig) → Buf (Elt Ideal) ℓ) : Prop :=
  ∀ c : Dev Cert.DnormIdeal.nD,
    (Cert.Pre_finite_dnorm.fn (F := Ideal) (m ((c.tc : Thread Cert.DnormIdeal.nD Cert.DnormIdeal.τ).loc Cert.DnormIdeal.main_arg0)) (m ((c.tc : Thread Cert.DnormIdeal.nD Cert.DnormIdeal.τ).loc Cert.DnormIdeal.main_arg1)) (m ((c.tc : Thread Cert.DnormIdeal.nD Cert.DnormIdeal.τ).loc Cert.DnormIdeal.main_arg2)) (m ((c.tc : Thread Cert.DnormIdeal.nD Cert.DnormIdeal.τ).loc Cert.DnormIdeal.main_arg3)) (m ((c.tc : Thread Cert.DnormIdeal.nD Cert.DnormIdeal.τ).loc Cert.DnormIdeal.main_arg4))).1 = (fun _ => 1#1)
    ∧ (Cert.Pre_finite_dnorm.fn (F := Ideal) (m ((c.tc : Thread Cert.DnormIdeal.nD Cert.DnormIdeal.τ).loc Cert.DnormIdeal.main_arg0)) (m ((c.tc : Thread Cert.DnormIdeal.nD Cert.DnormIdeal.τ).loc Cert.DnormIdeal.main_arg1)) (m ((c.tc : Thread Cert.DnormIdeal.nD Cert.DnormIdeal.τ).loc Cert.DnormIdeal.main_arg2)) (m ((c.tc : Thread Cert.DnormIdeal.nD Cert.DnormIdeal.τ).loc Cert.DnormIdeal.main_arg3)) (m ((c.tc : Thread Cert.DnormIdeal.nD Cert.DnormIdeal.τ).loc Cert.DnormIdeal.main_arg4))).2.1 = (fun _ => 1#1)
    ∧ (Cert.Pre_finite_dnorm.fn (F := Ideal) (m ((c.tc : Thread Cert.DnormIdeal.nD Cert.DnormIdeal.τ).loc Cert.DnormIdeal.main_arg0)) (m ((c.tc : Thread Cert.DnormIdeal.nD Cert.DnormIdeal.τ).loc Cert.DnormIdeal.main_arg1)) (m ((c.tc : Thread Cert.DnormIdeal.nD Cert.DnormIdeal.τ).loc Cert.DnormIdeal.main_arg2)) (m ((c.tc : Thread Cert.DnormIdeal.nD Cert.DnormIdeal.τ).loc Cert.DnormIdeal.main_arg3)) (m ((c.tc : Thread Cert.DnormIdeal.nD Cert.DnormIdeal.τ).loc Cert.DnormIdeal.main_arg4))).2.2.1 = (fun _ => 1#1)
    ∧ (Cert.Pre_finite_dnorm.fn (F := Ideal) (m ((c.tc : Thread Cert.DnormIdeal.nD Cert.DnormIdeal.τ).loc Cert.DnormIdeal.main_arg0)) (m ((c.tc : Thread Cert.DnormIdeal.nD Cert.DnormIdeal.τ).loc Cert.DnormIdeal.main_arg1)) (m ((c.tc : Thread Cert.DnormIdeal.nD Cert.DnormIdeal.τ).loc Cert.DnormIdeal.main_arg2)) (m ((c.tc : Thread Cert.DnormIdeal.nD Cert.DnormIdeal.τ).loc Cert.DnormIdeal.main_arg3)) (m ((c.tc : Thread Cert.DnormIdeal.nD Cert.DnormIdeal.τ).loc Cert.DnormIdeal.main_arg4))).2.2.2.1 = (fun _ => 1#1)
    ∧ (Cert.Pre_finite_dnorm.fn (F := Ideal) (m ((c.tc : Thread Cert.DnormIdeal.nD Cert.DnormIdeal.τ).loc Cert.DnormIdeal.main_arg0)) (m ((c.tc : Thread Cert.DnormIdeal.nD Cert.DnormIdeal.τ).loc Cert.DnormIdeal.main_arg1)) (m ((c.tc : Thread Cert.DnormIdeal.nD Cert.DnormIdeal.τ).loc Cert.DnormIdeal.main_arg2)) (m ((c.tc : Thread Cert.DnormIdeal.nD Cert.DnormIdeal.τ).loc Cert.DnormIdeal.main_arg3)) (m ((c.tc : Thread Cert.DnormIdeal.nD Cert.DnormIdeal.τ).loc Cert.DnormIdeal.main_arg4))).2.2.2.2 = (fun _ => 1#1)

def Pre_DnormRefIdeal (m : (ℓ : Loc Cert.DnormRefIdeal.nD Cert.DnormRefIdeal.τ Cert.DnormRefIdeal.sig) → Buf (Elt Ideal) ℓ) : Prop :=
  True

def Pre_DnormRefIdeal_finite_dnorm [hPre_finite_dnorm : Cert.Pre_finite_dnorm.Facts] (m : (ℓ : Loc Cert.DnormRefIdeal.nD Cert.DnormRefIdeal.τ Cert.DnormRefIdeal.sig) → Buf (Elt Ideal) ℓ) : Prop :=
  ∀ c : Dev Cert.DnormRefIdeal.nD,
    (Cert.Pre_finite_dnorm.fn (F := Ideal) (m ((c.tc : Thread Cert.DnormRefIdeal.nD Cert.DnormRefIdeal.τ).loc Cert.DnormRefIdeal.main_arg0)) (m ((c.tc : Thread Cert.DnormRefIdeal.nD Cert.DnormRefIdeal.τ).loc Cert.DnormRefIdeal.main_arg1)) (m ((c.tc : Thread Cert.DnormRefIdeal.nD Cert.DnormRefIdeal.τ).loc Cert.DnormRefIdeal.main_arg2)) (m ((c.tc : Thread Cert.DnormRefIdeal.nD Cert.DnormRefIdeal.τ).loc Cert.DnormRefIdeal.main_arg3)) (m ((c.tc : Thread Cert.DnormRefIdeal.nD Cert.DnormRefIdeal.τ).loc Cert.DnormRefIdeal.main_arg4))).1 = (fun _ => 1#1)
    ∧ (Cert.Pre_finite_dnorm.fn (F := Ideal) (m ((c.tc : Thread Cert.DnormRefIdeal.nD Cert.DnormRefIdeal.τ).loc Cert.DnormRefIdeal.main_arg0)) (m ((c.tc : Thread Cert.DnormRefIdeal.nD Cert.DnormRefIdeal.τ).loc Cert.DnormRefIdeal.main_arg1)) (m ((c.tc : Thread Cert.DnormRefIdeal.nD Cert.DnormRefIdeal.τ).loc Cert.DnormRefIdeal.main_arg2)) (m ((c.tc : Thread Cert.DnormRefIdeal.nD Cert.DnormRefIdeal.τ).loc Cert.DnormRefIdeal.main_arg3)) (m ((c.tc : Thread Cert.DnormRefIdeal.nD Cert.DnormRefIdeal.τ).loc Cert.DnormRefIdeal.main_arg4))).2.1 = (fun _ => 1#1)
    ∧ (Cert.Pre_finite_dnorm.fn (F := Ideal) (m ((c.tc : Thread Cert.DnormRefIdeal.nD Cert.DnormRefIdeal.τ).loc Cert.DnormRefIdeal.main_arg0)) (m ((c.tc : Thread Cert.DnormRefIdeal.nD Cert.DnormRefIdeal.τ).loc Cert.DnormRefIdeal.main_arg1)) (m ((c.tc : Thread Cert.DnormRefIdeal.nD Cert.DnormRefIdeal.τ).loc Cert.DnormRefIdeal.main_arg2)) (m ((c.tc : Thread Cert.DnormRefIdeal.nD Cert.DnormRefIdeal.τ).loc Cert.DnormRefIdeal.main_arg3)) (m ((c.tc : Thread Cert.DnormRefIdeal.nD Cert.DnormRefIdeal.τ).loc Cert.DnormRefIdeal.main_arg4))).2.2.1 = (fun _ => 1#1)
    ∧ (Cert.Pre_finite_dnorm.fn (F := Ideal) (m ((c.tc : Thread Cert.DnormRefIdeal.nD Cert.DnormRefIdeal.τ).loc Cert.DnormRefIdeal.main_arg0)) (m ((c.tc : Thread Cert.DnormRefIdeal.nD Cert.DnormRefIdeal.τ).loc Cert.DnormRefIdeal.main_arg1)) (m ((c.tc : Thread Cert.DnormRefIdeal.nD Cert.DnormRefIdeal.τ).loc Cert.DnormRefIdeal.main_arg2)) (m ((c.tc : Thread Cert.DnormRefIdeal.nD Cert.DnormRefIdeal.τ).loc Cert.DnormRefIdeal.main_arg3)) (m ((c.tc : Thread Cert.DnormRefIdeal.nD Cert.DnormRefIdeal.τ).loc Cert.DnormRefIdeal.main_arg4))).2.2.2.1 = (fun _ => 1#1)
    ∧ (Cert.Pre_finite_dnorm.fn (F := Ideal) (m ((c.tc : Thread Cert.DnormRefIdeal.nD Cert.DnormRefIdeal.τ).loc Cert.DnormRefIdeal.main_arg0)) (m ((c.tc : Thread Cert.DnormRefIdeal.nD Cert.DnormRefIdeal.τ).loc Cert.DnormRefIdeal.main_arg1)) (m ((c.tc : Thread Cert.DnormRefIdeal.nD Cert.DnormRefIdeal.τ).loc Cert.DnormRefIdeal.main_arg2)) (m ((c.tc : Thread Cert.DnormRefIdeal.nD Cert.DnormRefIdeal.τ).loc Cert.DnormRefIdeal.main_arg3)) (m ((c.tc : Thread Cert.DnormRefIdeal.nD Cert.DnormRefIdeal.τ).loc Cert.DnormRefIdeal.main_arg4))).2.2.2.2 = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_GradDown [hPre_half_graddown : Cert.Pre_half_graddown.Facts] (m : (ℓ : Loc Cert.GradDown.nD Cert.GradDown.τ Cert.GradDown.sig) → Buf (Elt Bits) ℓ) : Prop :=
  ∀ c : Dev Cert.GradDown.nD,
    (Cert.Pre_half_graddown.fn (F := Bits) (m ((c.tc : Thread Cert.GradDown.nD Cert.GradDown.τ).loc Cert.GradDown.main_arg0)) (m ((c.tc : Thread Cert.GradDown.nD Cert.GradDown.τ).loc Cert.GradDown.main_arg1)) (m ((c.tc : Thread Cert.GradDown.nD Cert.GradDown.τ).loc Cert.GradDown.main_arg2))) = (fun _ => 1#1)

def Pre_GradDownIdeal [hPre_half_graddown : Cert.Pre_half_graddown.Facts] (m : (ℓ : Loc Cert.GradDownIdeal.nD Cert.GradDownIdeal.τ Cert.GradDownIdeal.sig) → Buf (Elt Ideal) ℓ) : Prop :=
  ∀ c : Dev Cert.GradDownIdeal.nD,
    (Cert.Pre_half_graddown.fn (F := Ideal) (m ((c.tc : Thread Cert.GradDownIdeal.nD Cert.GradDownIdeal.τ).loc Cert.GradDownIdeal.main_arg0)) (m ((c.tc : Thread Cert.GradDownIdeal.nD Cert.GradDownIdeal.τ).loc Cert.GradDownIdeal.main_arg1)) (m ((c.tc : Thread Cert.GradDownIdeal.nD Cert.GradDownIdeal.τ).loc Cert.GradDownIdeal.main_arg2))) = (fun _ => 1#1)

def Pre_GradDownRefIdeal (m : (ℓ : Loc Cert.GradDownRefIdeal.nD Cert.GradDownRefIdeal.τ Cert.GradDownRefIdeal.sig) → Buf (Elt Ideal) ℓ) : Prop :=
  True

def Pre_GradDownRefIdeal_half_graddown [hPre_half_graddown : Cert.Pre_half_graddown.Facts] (m : (ℓ : Loc Cert.GradDownRefIdeal.nD Cert.GradDownRefIdeal.τ Cert.GradDownRefIdeal.sig) → Buf (Elt Ideal) ℓ) : Prop :=
  ∀ c : Dev Cert.GradDownRefIdeal.nD,
    (Cert.Pre_half_graddown.fn (F := Ideal) (m ((c.tc : Thread Cert.GradDownRefIdeal.nD Cert.GradDownRefIdeal.τ).loc Cert.GradDownRefIdeal.main_arg0)) (m ((c.tc : Thread Cert.GradDownRefIdeal.nD Cert.GradDownRefIdeal.τ).loc Cert.GradDownRefIdeal.main_arg1)) (m ((c.tc : Thread Cert.GradDownRefIdeal.nD Cert.GradDownRefIdeal.τ).loc Cert.GradDownRefIdeal.main_arg2))) = (fun _ => 1#1)

def Pre_GradDownAdd [hPre_half_graddownadd : Cert.Pre_half_graddownadd.Facts] (m : (ℓ : Loc Cert.GradDownAdd.nD Cert.GradDownAdd.τ Cert.GradDownAdd.sig) → Buf (Elt Bits) ℓ) : Prop :=
  ∀ c : Dev Cert.GradDownAdd.nD,
    (Cert.Pre_half_graddownadd.fn (F := Bits) (m ((c.tc : Thread Cert.GradDownAdd.nD Cert.GradDownAdd.τ).loc Cert.GradDownAdd.main_arg0)) (m ((c.tc : Thread Cert.GradDownAdd.nD Cert.GradDownAdd.τ).loc Cert.GradDownAdd.main_arg1)) (m ((c.tc : Thread Cert.GradDownAdd.nD Cert.GradDownAdd.τ).loc Cert.GradDownAdd.main_arg2)) (m ((c.tc : Thread Cert.GradDownAdd.nD Cert.GradDownAdd.τ).loc Cert.GradDownAdd.main_arg3))) = (fun _ => 1#1)

def Pre_GradDownAddIdeal [hPre_half_graddownadd : Cert.Pre_half_graddownadd.Facts] (m : (ℓ : Loc Cert.GradDownAddIdeal.nD Cert.GradDownAddIdeal.τ Cert.GradDownAddIdeal.sig) → Buf (Elt Ideal) ℓ) : Prop :=
  ∀ c : Dev Cert.GradDownAddIdeal.nD,
    (Cert.Pre_half_graddownadd.fn (F := Ideal) (m ((c.tc : Thread Cert.GradDownAddIdeal.nD Cert.GradDownAddIdeal.τ).loc Cert.GradDownAddIdeal.main_arg0)) (m ((c.tc : Thread Cert.GradDownAddIdeal.nD Cert.GradDownAddIdeal.τ).loc Cert.GradDownAddIdeal.main_arg1)) (m ((c.tc : Thread Cert.GradDownAddIdeal.nD Cert.GradDownAddIdeal.τ).loc Cert.GradDownAddIdeal.main_arg2)) (m ((c.tc : Thread Cert.GradDownAddIdeal.nD Cert.GradDownAddIdeal.τ).loc Cert.GradDownAddIdeal.main_arg3))) = (fun _ => 1#1)

def Pre_GradDownAddRefIdeal (m : (ℓ : Loc Cert.GradDownAddRefIdeal.nD Cert.GradDownAddRefIdeal.τ Cert.GradDownAddRefIdeal.sig) → Buf (Elt Ideal) ℓ) : Prop :=
  True

def Pre_GradDownAddRefIdeal_half_graddownadd [hPre_half_graddownadd : Cert.Pre_half_graddownadd.Facts] (m : (ℓ : Loc Cert.GradDownAddRefIdeal.nD Cert.GradDownAddRefIdeal.τ Cert.GradDownAddRefIdeal.sig) → Buf (Elt Ideal) ℓ) : Prop :=
  ∀ c : Dev Cert.GradDownAddRefIdeal.nD,
    (Cert.Pre_half_graddownadd.fn (F := Ideal) (m ((c.tc : Thread Cert.GradDownAddRefIdeal.nD Cert.GradDownAddRefIdeal.τ).loc Cert.GradDownAddRefIdeal.main_arg0)) (m ((c.tc : Thread Cert.GradDownAddRefIdeal.nD Cert.GradDownAddRefIdeal.τ).loc Cert.GradDownAddRefIdeal.main_arg1)) (m ((c.tc : Thread Cert.GradDownAddRefIdeal.nD Cert.GradDownAddRefIdeal.τ).loc Cert.GradDownAddRefIdeal.main_arg2)) (m ((c.tc : Thread Cert.GradDownAddRefIdeal.nD Cert.GradDownAddRefIdeal.τ).loc Cert.GradDownAddRefIdeal.main_arg3))) = (fun _ => 1#1)

def Pre_GradUp [hPre_half_gradup : Cert.Pre_half_gradup.Facts] (m : (ℓ : Loc Cert.GradUp.nD Cert.GradUp.τ Cert.GradUp.sig) → Buf (Elt Bits) ℓ) : Prop :=
  ∀ c : Dev Cert.GradUp.nD,
    (Cert.Pre_half_gradup.fn (F := Bits) (m ((c.tc : Thread Cert.GradUp.nD Cert.GradUp.τ).loc Cert.GradUp.main_arg0)) (m ((c.tc : Thread Cert.GradUp.nD Cert.GradUp.τ).loc Cert.GradUp.main_arg1)) (m ((c.tc : Thread Cert.GradUp.nD Cert.GradUp.τ).loc Cert.GradUp.main_arg2))) = (fun _ => 1#1)

def Pre_GradUpIdeal [hPre_half_gradup : Cert.Pre_half_gradup.Facts] (m : (ℓ : Loc Cert.GradUpIdeal.nD Cert.GradUpIdeal.τ Cert.GradUpIdeal.sig) → Buf (Elt Ideal) ℓ) : Prop :=
  ∀ c : Dev Cert.GradUpIdeal.nD,
    (Cert.Pre_half_gradup.fn (F := Ideal) (m ((c.tc : Thread Cert.GradUpIdeal.nD Cert.GradUpIdeal.τ).loc Cert.GradUpIdeal.main_arg0)) (m ((c.tc : Thread Cert.GradUpIdeal.nD Cert.GradUpIdeal.τ).loc Cert.GradUpIdeal.main_arg1)) (m ((c.tc : Thread Cert.GradUpIdeal.nD Cert.GradUpIdeal.τ).loc Cert.GradUpIdeal.main_arg2))) = (fun _ => 1#1)

def Pre_GradUpRefIdeal (m : (ℓ : Loc Cert.GradUpRefIdeal.nD Cert.GradUpRefIdeal.τ Cert.GradUpRefIdeal.sig) → Buf (Elt Ideal) ℓ) : Prop :=
  True

def Pre_GradUpRefIdeal_half_gradup [hPre_half_gradup : Cert.Pre_half_gradup.Facts] (m : (ℓ : Loc Cert.GradUpRefIdeal.nD Cert.GradUpRefIdeal.τ Cert.GradUpRefIdeal.sig) → Buf (Elt Ideal) ℓ) : Prop :=
  ∀ c : Dev Cert.GradUpRefIdeal.nD,
    (Cert.Pre_half_gradup.fn (F := Ideal) (m ((c.tc : Thread Cert.GradUpRefIdeal.nD Cert.GradUpRefIdeal.τ).loc Cert.GradUpRefIdeal.main_arg0)) (m ((c.tc : Thread Cert.GradUpRefIdeal.nD Cert.GradUpRefIdeal.τ).loc Cert.GradUpRefIdeal.main_arg1)) (m ((c.tc : Thread Cert.GradUpRefIdeal.nD Cert.GradUpRefIdeal.τ).loc Cert.GradUpRefIdeal.main_arg2))) = (fun _ => 1#1)

def Pre_GradUpAdd [hPre_half_gradupadd : Cert.Pre_half_gradupadd.Facts] (m : (ℓ : Loc Cert.GradUpAdd.nD Cert.GradUpAdd.τ Cert.GradUpAdd.sig) → Buf (Elt Bits) ℓ) : Prop :=
  ∀ c : Dev Cert.GradUpAdd.nD,
    (Cert.Pre_half_gradupadd.fn (F := Bits) (m ((c.tc : Thread Cert.GradUpAdd.nD Cert.GradUpAdd.τ).loc Cert.GradUpAdd.main_arg0)) (m ((c.tc : Thread Cert.GradUpAdd.nD Cert.GradUpAdd.τ).loc Cert.GradUpAdd.main_arg1)) (m ((c.tc : Thread Cert.GradUpAdd.nD Cert.GradUpAdd.τ).loc Cert.GradUpAdd.main_arg2)) (m ((c.tc : Thread Cert.GradUpAdd.nD Cert.GradUpAdd.τ).loc Cert.GradUpAdd.main_arg3))) = (fun _ => 1#1)

def Pre_GradUpAddIdeal [hPre_half_gradupadd : Cert.Pre_half_gradupadd.Facts] (m : (ℓ : Loc Cert.GradUpAddIdeal.nD Cert.GradUpAddIdeal.τ Cert.GradUpAddIdeal.sig) → Buf (Elt Ideal) ℓ) : Prop :=
  ∀ c : Dev Cert.GradUpAddIdeal.nD,
    (Cert.Pre_half_gradupadd.fn (F := Ideal) (m ((c.tc : Thread Cert.GradUpAddIdeal.nD Cert.GradUpAddIdeal.τ).loc Cert.GradUpAddIdeal.main_arg0)) (m ((c.tc : Thread Cert.GradUpAddIdeal.nD Cert.GradUpAddIdeal.τ).loc Cert.GradUpAddIdeal.main_arg1)) (m ((c.tc : Thread Cert.GradUpAddIdeal.nD Cert.GradUpAddIdeal.τ).loc Cert.GradUpAddIdeal.main_arg2)) (m ((c.tc : Thread Cert.GradUpAddIdeal.nD Cert.GradUpAddIdeal.τ).loc Cert.GradUpAddIdeal.main_arg3))) = (fun _ => 1#1)

def Pre_GradUpAddRefIdeal (m : (ℓ : Loc Cert.GradUpAddRefIdeal.nD Cert.GradUpAddRefIdeal.τ Cert.GradUpAddRefIdeal.sig) → Buf (Elt Ideal) ℓ) : Prop :=
  True

def Pre_GradUpAddRefIdeal_half_gradupadd [hPre_half_gradupadd : Cert.Pre_half_gradupadd.Facts] (m : (ℓ : Loc Cert.GradUpAddRefIdeal.nD Cert.GradUpAddRefIdeal.τ Cert.GradUpAddRefIdeal.sig) → Buf (Elt Ideal) ℓ) : Prop :=
  ∀ c : Dev Cert.GradUpAddRefIdeal.nD,
    (Cert.Pre_half_gradupadd.fn (F := Ideal) (m ((c.tc : Thread Cert.GradUpAddRefIdeal.nD Cert.GradUpAddRefIdeal.τ).loc Cert.GradUpAddRefIdeal.main_arg0)) (m ((c.tc : Thread Cert.GradUpAddRefIdeal.nD Cert.GradUpAddRefIdeal.τ).loc Cert.GradUpAddRefIdeal.main_arg1)) (m ((c.tc : Thread Cert.GradUpAddRefIdeal.nD Cert.GradUpAddRefIdeal.τ).loc Cert.GradUpAddRefIdeal.main_arg2)) (m ((c.tc : Thread Cert.GradUpAddRefIdeal.nD Cert.GradUpAddRefIdeal.τ).loc Cert.GradUpAddRefIdeal.main_arg3))) = (fun _ => 1#1)

def Pre_GradOut [hPre_half_gradout : Cert.Pre_half_gradout.Facts] (m : (ℓ : Loc Cert.GradOut.nD Cert.GradOut.τ Cert.GradOut.sig) → Buf (Elt Bits) ℓ) : Prop :=
  ∀ c : Dev Cert.GradOut.nD,
    (Cert.Pre_half_gradout.fn (F := Bits) (m ((c.tc : Thread Cert.GradOut.nD Cert.GradOut.τ).loc Cert.GradOut.main_arg0)) (m ((c.tc : Thread Cert.GradOut.nD Cert.GradOut.τ).loc Cert.GradOut.main_arg1)) (m ((c.tc : Thread Cert.GradOut.nD Cert.GradOut.τ).loc Cert.GradOut.main_arg2))) = (fun _ => 1#1)

def Pre_GradOutIdeal [hPre_half_gradout : Cert.Pre_half_gradout.Facts] (m : (ℓ : Loc Cert.GradOutIdeal.nD Cert.GradOutIdeal.τ Cert.GradOutIdeal.sig) → Buf (Elt Ideal) ℓ) : Prop :=
  ∀ c : Dev Cert.GradOutIdeal.nD,
    (Cert.Pre_half_gradout.fn (F := Ideal) (m ((c.tc : Thread Cert.GradOutIdeal.nD Cert.GradOutIdeal.τ).loc Cert.GradOutIdeal.main_arg0)) (m ((c.tc : Thread Cert.GradOutIdeal.nD Cert.GradOutIdeal.τ).loc Cert.GradOutIdeal.main_arg1)) (m ((c.tc : Thread Cert.GradOutIdeal.nD Cert.GradOutIdeal.τ).loc Cert.GradOutIdeal.main_arg2))) = (fun _ => 1#1)

def Pre_GradOutRefIdeal (m : (ℓ : Loc Cert.GradOutRefIdeal.nD Cert.GradOutRefIdeal.τ Cert.GradOutRefIdeal.sig) → Buf (Elt Ideal) ℓ) : Prop :=
  True

def Pre_GradOutRefIdeal_half_gradout [hPre_half_gradout : Cert.Pre_half_gradout.Facts] (m : (ℓ : Loc Cert.GradOutRefIdeal.nD Cert.GradOutRefIdeal.τ Cert.GradOutRefIdeal.sig) → Buf (Elt Ideal) ℓ) : Prop :=
  ∀ c : Dev Cert.GradOutRefIdeal.nD,
    (Cert.Pre_half_gradout.fn (F := Ideal) (m ((c.tc : Thread Cert.GradOutRefIdeal.nD Cert.GradOutRefIdeal.τ).loc Cert.GradOutRefIdeal.main_arg0)) (m ((c.tc : Thread Cert.GradOutRefIdeal.nD Cert.GradOutRefIdeal.τ).loc Cert.GradOutRefIdeal.main_arg1)) (m ((c.tc : Thread Cert.GradOutRefIdeal.nD Cert.GradOutRefIdeal.τ).loc Cert.GradOutRefIdeal.main_arg2))) = (fun _ => 1#1)

def Pre_GradOutAdd [hPre_half_gradoutadd : Cert.Pre_half_gradoutadd.Facts] (m : (ℓ : Loc Cert.GradOutAdd.nD Cert.GradOutAdd.τ Cert.GradOutAdd.sig) → Buf (Elt Bits) ℓ) : Prop :=
  ∀ c : Dev Cert.GradOutAdd.nD,
    (Cert.Pre_half_gradoutadd.fn (F := Bits) (m ((c.tc : Thread Cert.GradOutAdd.nD Cert.GradOutAdd.τ).loc Cert.GradOutAdd.main_arg0)) (m ((c.tc : Thread Cert.GradOutAdd.nD Cert.GradOutAdd.τ).loc Cert.GradOutAdd.main_arg1)) (m ((c.tc : Thread Cert.GradOutAdd.nD Cert.GradOutAdd.τ).loc Cert.GradOutAdd.main_arg2)) (m ((c.tc : Thread Cert.GradOutAdd.nD Cert.GradOutAdd.τ).loc Cert.GradOutAdd.main_arg3))) = (fun _ => 1#1)

def Pre_GradOutAddIdeal [hPre_half_gradoutadd : Cert.Pre_half_gradoutadd.Facts] (m : (ℓ : Loc Cert.GradOutAddIdeal.nD Cert.GradOutAddIdeal.τ Cert.GradOutAddIdeal.sig) → Buf (Elt Ideal) ℓ) : Prop :=
  ∀ c : Dev Cert.GradOutAddIdeal.nD,
    (Cert.Pre_half_gradoutadd.fn (F := Ideal) (m ((c.tc : Thread Cert.GradOutAddIdeal.nD Cert.GradOutAddIdeal.τ).loc Cert.GradOutAddIdeal.main_arg0)) (m ((c.tc : Thread Cert.GradOutAddIdeal.nD Cert.GradOutAddIdeal.τ).loc Cert.GradOutAddIdeal.main_arg1)) (m ((c.tc : Thread Cert.GradOutAddIdeal.nD Cert.GradOutAddIdeal.τ).loc Cert.GradOutAddIdeal.main_arg2)) (m ((c.tc : Thread Cert.GradOutAddIdeal.nD Cert.GradOutAddIdeal.τ).loc Cert.GradOutAddIdeal.main_arg3))) = (fun _ => 1#1)

def Pre_GradOutAddRefIdeal (m : (ℓ : Loc Cert.GradOutAddRefIdeal.nD Cert.GradOutAddRefIdeal.τ Cert.GradOutAddRefIdeal.sig) → Buf (Elt Ideal) ℓ) : Prop :=
  True

def Pre_GradOutAddRefIdeal_half_gradoutadd [hPre_half_gradoutadd : Cert.Pre_half_gradoutadd.Facts] (m : (ℓ : Loc Cert.GradOutAddRefIdeal.nD Cert.GradOutAddRefIdeal.τ Cert.GradOutAddRefIdeal.sig) → Buf (Elt Ideal) ℓ) : Prop :=
  ∀ c : Dev Cert.GradOutAddRefIdeal.nD,
    (Cert.Pre_half_gradoutadd.fn (F := Ideal) (m ((c.tc : Thread Cert.GradOutAddRefIdeal.nD Cert.GradOutAddRefIdeal.τ).loc Cert.GradOutAddRefIdeal.main_arg0)) (m ((c.tc : Thread Cert.GradOutAddRefIdeal.nD Cert.GradOutAddRefIdeal.τ).loc Cert.GradOutAddRefIdeal.main_arg1)) (m ((c.tc : Thread Cert.GradOutAddRefIdeal.nD Cert.GradOutAddRefIdeal.τ).loc Cert.GradOutAddRefIdeal.main_arg2)) (m ((c.tc : Thread Cert.GradOutAddRefIdeal.nD Cert.GradOutAddRefIdeal.τ).loc Cert.GradOutAddRefIdeal.main_arg3))) = (fun _ => 1#1)

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInRefIdeal (m : (ℓ : Loc Cert.GradInRefIdeal.nD Cert.GradInRefIdeal.τ Cert.GradInRefIdeal.sig) → Buf (Elt Ideal) ℓ) : Prop :=
  True

def Pre_InDnorm (m : (ℓ : Loc Cert.InDnorm.nD Cert.InDnorm.τ Cert.InDnorm.sig) → Buf (Elt Bits) ℓ) : Prop :=
  True

def Pre_InDnormIdeal (m : (ℓ : Loc Cert.InDnormIdeal.nD Cert.InDnormIdeal.τ Cert.InDnormIdeal.sig) → Buf (Elt Ideal) ℓ) : Prop :=
  True

def Pre_InDnormIdeal_finite_indnorm [hPre_finite_indnorm : Cert.Pre_finite_indnorm.Facts] (m : (ℓ : Loc Cert.InDnormIdeal.nD Cert.InDnormIdeal.τ Cert.InDnormIdeal.sig) → Buf (Elt Ideal) ℓ) : Prop :=
  ∀ c : Dev Cert.InDnormIdeal.nD,
    (Cert.Pre_finite_indnorm.fn (F := Ideal) (m ((c.tc : Thread Cert.InDnormIdeal.nD Cert.InDnormIdeal.τ).loc Cert.InDnormIdeal.main_arg0)) (m ((c.tc : Thread Cert.InDnormIdeal.nD Cert.InDnormIdeal.τ).loc Cert.InDnormIdeal.main_arg1)) (m ((c.tc : Thread Cert.InDnormIdeal.nD Cert.InDnormIdeal.τ).loc Cert.InDnormIdeal.main_arg2)) (m ((c.tc : Thread Cert.InDnormIdeal.nD Cert.InDnormIdeal.τ).loc Cert.InDnormIdeal.main_arg3)) (m ((c.tc : Thread Cert.InDnormIdeal.nD Cert.InDnormIdeal.τ).loc Cert.InDnormIdeal.main_arg4))).1 = (fun _ => 1#1)
    ∧ (Cert.Pre_finite_indnorm.fn (F := Ideal) (m ((c.tc : Thread Cert.InDnormIdeal.nD Cert.InDnormIdeal.τ).loc Cert.InDnormIdeal.main_arg0)) (m ((c.tc : Thread Cert.InDnormIdeal.nD Cert.InDnormIdeal.τ).loc Cert.InDnormIdeal.main_arg1)) (m ((c.tc : Thread Cert.InDnormIdeal.nD Cert.InDnormIdeal.τ).loc Cert.InDnormIdeal.main_arg2)) (m ((c.tc : Thread Cert.InDnormIdeal.nD Cert.InDnormIdeal.τ).loc Cert.InDnormIdeal.main_arg3)) (m ((c.tc : Thread Cert.InDnormIdeal.nD Cert.InDnormIdeal.τ).loc Cert.InDnormIdeal.main_arg4))).2.1 = (fun _ => 1#1)
    ∧ (Cert.Pre_finite_indnorm.fn (F := Ideal) (m ((c.tc : Thread Cert.InDnormIdeal.nD Cert.InDnormIdeal.τ).loc Cert.InDnormIdeal.main_arg0)) (m ((c.tc : Thread Cert.InDnormIdeal.nD Cert.InDnormIdeal.τ).loc Cert.InDnormIdeal.main_arg1)) (m ((c.tc : Thread Cert.InDnormIdeal.nD Cert.InDnormIdeal.τ).loc Cert.InDnormIdeal.main_arg2)) (m ((c.tc : Thread Cert.InDnormIdeal.nD Cert.InDnormIdeal.τ).loc Cert.InDnormIdeal.main_arg3)) (m ((c.tc : Thread Cert.InDnormIdeal.nD Cert.InDnormIdeal.τ).loc Cert.InDnormIdeal.main_arg4))).2.2.1 = (fun _ => 1#1)
    ∧ (Cert.Pre_finite_indnorm.fn (F := Ideal) (m ((c.tc : Thread Cert.InDnormIdeal.nD Cert.InDnormIdeal.τ).loc Cert.InDnormIdeal.main_arg0)) (m ((c.tc : Thread Cert.InDnormIdeal.nD Cert.InDnormIdeal.τ).loc Cert.InDnormIdeal.main_arg1)) (m ((c.tc : Thread Cert.InDnormIdeal.nD Cert.InDnormIdeal.τ).loc Cert.InDnormIdeal.main_arg2)) (m ((c.tc : Thread Cert.InDnormIdeal.nD Cert.InDnormIdeal.τ).loc Cert.InDnormIdeal.main_arg3)) (m ((c.tc : Thread Cert.InDnormIdeal.nD Cert.InDnormIdeal.τ).loc Cert.InDnormIdeal.main_arg4))).2.2.2.1 = (fun _ => 1#1)
    ∧ (Cert.Pre_finite_indnorm.fn (F := Ideal) (m ((c.tc : Thread Cert.InDnormIdeal.nD Cert.InDnormIdeal.τ).loc Cert.InDnormIdeal.main_arg0)) (m ((c.tc : Thread Cert.InDnormIdeal.nD Cert.InDnormIdeal.τ).loc Cert.InDnormIdeal.main_arg1)) (m ((c.tc : Thread Cert.InDnormIdeal.nD Cert.InDnormIdeal.τ).loc Cert.InDnormIdeal.main_arg2)) (m ((c.tc : Thread Cert.InDnormIdeal.nD Cert.InDnormIdeal.τ).loc Cert.InDnormIdeal.main_arg3)) (m ((c.tc : Thread Cert.InDnormIdeal.nD Cert.InDnormIdeal.τ).loc Cert.InDnormIdeal.main_arg4))).2.2.2.2 = (fun _ => 1#1)

def Pre_InDnormRefIdeal (m : (ℓ : Loc Cert.InDnormRefIdeal.nD Cert.InDnormRefIdeal.τ Cert.InDnormRefIdeal.sig) → Buf (Elt Ideal) ℓ) : Prop :=
  True

def Pre_InDnormRefIdeal_finite_indnorm [hPre_finite_indnorm : Cert.Pre_finite_indnorm.Facts] (m : (ℓ : Loc Cert.InDnormRefIdeal.nD Cert.InDnormRefIdeal.τ Cert.InDnormRefIdeal.sig) → Buf (Elt Ideal) ℓ) : Prop :=
  ∀ c : Dev Cert.InDnormRefIdeal.nD,
    (Cert.Pre_finite_indnorm.fn (F := Ideal) (m ((c.tc : Thread Cert.InDnormRefIdeal.nD Cert.InDnormRefIdeal.τ).loc Cert.InDnormRefIdeal.main_arg0)) (m ((c.tc : Thread Cert.InDnormRefIdeal.nD Cert.InDnormRefIdeal.τ).loc Cert.InDnormRefIdeal.main_arg1)) (m ((c.tc : Thread Cert.InDnormRefIdeal.nD Cert.InDnormRefIdeal.τ).loc Cert.InDnormRefIdeal.main_arg2)) (m ((c.tc : Thread Cert.InDnormRefIdeal.nD Cert.InDnormRefIdeal.τ).loc Cert.InDnormRefIdeal.main_arg3)) (m ((c.tc : Thread Cert.InDnormRefIdeal.nD Cert.InDnormRefIdeal.τ).loc Cert.InDnormRefIdeal.main_arg4))).1 = (fun _ => 1#1)
    ∧ (Cert.Pre_finite_indnorm.fn (F := Ideal) (m ((c.tc : Thread Cert.InDnormRefIdeal.nD Cert.InDnormRefIdeal.τ).loc Cert.InDnormRefIdeal.main_arg0)) (m ((c.tc : Thread Cert.InDnormRefIdeal.nD Cert.InDnormRefIdeal.τ).loc Cert.InDnormRefIdeal.main_arg1)) (m ((c.tc : Thread Cert.InDnormRefIdeal.nD Cert.InDnormRefIdeal.τ).loc Cert.InDnormRefIdeal.main_arg2)) (m ((c.tc : Thread Cert.InDnormRefIdeal.nD Cert.InDnormRefIdeal.τ).loc Cert.InDnormRefIdeal.main_arg3)) (m ((c.tc : Thread Cert.InDnormRefIdeal.nD Cert.InDnormRefIdeal.τ).loc Cert.InDnormRefIdeal.main_arg4))).2.1 = (fun _ => 1#1)
    ∧ (Cert.Pre_finite_indnorm.fn (F := Ideal) (m ((c.tc : Thread Cert.InDnormRefIdeal.nD Cert.InDnormRefIdeal.τ).loc Cert.InDnormRefIdeal.main_arg0)) (m ((c.tc : Thread Cert.InDnormRefIdeal.nD Cert.InDnormRefIdeal.τ).loc Cert.InDnormRefIdeal.main_arg1)) (m ((c.tc : Thread Cert.InDnormRefIdeal.nD Cert.InDnormRefIdeal.τ).loc Cert.InDnormRefIdeal.main_arg2)) (m ((c.tc : Thread Cert.InDnormRefIdeal.nD Cert.InDnormRefIdeal.τ).loc Cert.InDnormRefIdeal.main_arg3)) (m ((c.tc : Thread Cert.InDnormRefIdeal.nD Cert.InDnormRefIdeal.τ).loc Cert.InDnormRefIdeal.main_arg4))).2.2.1 = (fun _ => 1#1)
    ∧ (Cert.Pre_finite_indnorm.fn (F := Ideal) (m ((c.tc : Thread Cert.InDnormRefIdeal.nD Cert.InDnormRefIdeal.τ).loc Cert.InDnormRefIdeal.main_arg0)) (m ((c.tc : Thread Cert.InDnormRefIdeal.nD Cert.InDnormRefIdeal.τ).loc Cert.InDnormRefIdeal.main_arg1)) (m ((c.tc : Thread Cert.InDnormRefIdeal.nD Cert.InDnormRefIdeal.τ).loc Cert.InDnormRefIdeal.main_arg2)) (m ((c.tc : Thread Cert.InDnormRefIdeal.nD Cert.InDnormRefIdeal.τ).loc Cert.InDnormRefIdeal.main_arg3)) (m ((c.tc : Thread Cert.InDnormRefIdeal.nD Cert.InDnormRefIdeal.τ).loc Cert.InDnormRefIdeal.main_arg4))).2.2.2.1 = (fun _ => 1#1)
    ∧ (Cert.Pre_finite_indnorm.fn (F := Ideal) (m ((c.tc : Thread Cert.InDnormRefIdeal.nD Cert.InDnormRefIdeal.τ).loc Cert.InDnormRefIdeal.main_arg0)) (m ((c.tc : Thread Cert.InDnormRefIdeal.nD Cert.InDnormRefIdeal.τ).loc Cert.InDnormRefIdeal.main_arg1)) (m ((c.tc : Thread Cert.InDnormRefIdeal.nD Cert.InDnormRefIdeal.τ).loc Cert.InDnormRefIdeal.main_arg2)) (m ((c.tc : Thread Cert.InDnormRefIdeal.nD Cert.InDnormRefIdeal.τ).loc Cert.InDnormRefIdeal.main_arg3)) (m ((c.tc : Thread Cert.InDnormRefIdeal.nD Cert.InDnormRefIdeal.τ).loc Cert.InDnormRefIdeal.main_arg4))).2.2.2.2 = (fun _ => 1#1)

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2))
      ∧ r.2.sem = fun _ => 0)

def quiescent_Dnorm [hDnorm : Cert.Dnorm.Facts] : Prop :=
  ∀ (m : (ℓ : Loc Cert.Dnorm.nD Cert.Dnorm.τ Cert.Dnorm.sig) → Buf (Elt Bits) ℓ) (g : Dev Cert.Dnorm.nD → PrngReg), Pre_Dnorm m →
    θ_run (Cert.Dnorm.defs (F := Bits)) (onTc (τ := Cert.Dnorm.τ) (Cert.Dnorm.main (F := Bits))) ⟨m, fun _ => 0, g⟩ (fun r => (∀ c : Dev Cert.Dnorm.nD,
      r.2.mem ((c.tc : Thread Cert.Dnorm.nD Cert.Dnorm.τ).loc Cert.Dnorm.main_arg0) = m ((c.tc : Thread Cert.Dnorm.nD Cert.Dnorm.τ).loc Cert.Dnorm.main_arg0)
      ∧ r.2.mem ((c.tc : Thread Cert.Dnorm.nD Cert.Dnorm.τ).loc Cert.Dnorm.main_arg1) = m ((c.tc : Thread Cert.Dnorm.nD Cert.Dnorm.τ).loc Cert.Dnorm.main_arg1)
      ∧ r.2.mem ((c.tc : Thread Cert.Dnorm.nD Cert.Dnorm.τ).loc Cert.Dnorm.main_arg2) = m ((c.tc : Thread Cert.Dnorm.nD Cert.Dnorm.τ).loc Cert.Dnorm.main_arg2)
      ∧ r.2.mem ((c.tc : Thread Cert.Dnorm.nD Cert.Dnorm.τ).loc Cert.Dnorm.main_arg3) = m ((c.tc : Thread Cert.Dnorm.nD Cert.Dnorm.τ).loc Cert.Dnorm.main_arg3)
      ∧ r.2.mem ((c.tc : Thread Cert.Dnorm.nD Cert.Dnorm.τ).loc Cert.Dnorm.main_arg4) = m ((c.tc : Thread Cert.Dnorm.nD Cert.Dnorm.τ).loc Cert.Dnorm.main_arg4))
      ∧ r.2.sem = fun _ => 0)

def quiescent_DnormIdeal [hDnormIdeal : Cert.DnormIdeal.Facts] : Prop :=
  ∀ (m : (ℓ : Loc Cert.DnormIdeal.nD Cert.DnormIdeal.τ Cert.DnormIdeal.sig) → Buf (Elt Ideal) ℓ) (g : Dev Cert.DnormIdeal.nD → PrngReg), Pre_DnormIdeal m →
    θ_run (Cert.DnormIdeal.defs (F := Ideal)) (onTc (τ := Cert.DnormIdeal.τ) (Cert.DnormIdeal.main (F := Ideal))) ⟨m, fun _ => 0, g⟩ (fun r => (∀ c : Dev Cert.DnormIdeal.nD,
      r.2.mem ((c.tc : Thread Cert.DnormIdeal.nD Cert.DnormIdeal.τ).loc Cert.DnormIdeal.main_arg0) = m ((c.tc : Thread Cert.DnormIdeal.nD Cert.DnormIdeal.τ).loc Cert.DnormIdeal.main_arg0)
      ∧ r.2.mem ((c.tc : Thread Cert.DnormIdeal.nD Cert.DnormIdeal.τ).loc Cert.DnormIdeal.main_arg1) = m ((c.tc : Thread Cert.DnormIdeal.nD Cert.DnormIdeal.τ).loc Cert.DnormIdeal.main_arg1)
      ∧ r.2.mem ((c.tc : Thread Cert.DnormIdeal.nD Cert.DnormIdeal.τ).loc Cert.DnormIdeal.main_arg2) = m ((c.tc : Thread Cert.DnormIdeal.nD Cert.DnormIdeal.τ).loc Cert.DnormIdeal.main_arg2)
      ∧ r.2.mem ((c.tc : Thread Cert.DnormIdeal.nD Cert.DnormIdeal.τ).loc Cert.DnormIdeal.main_arg3) = m ((c.tc : Thread Cert.DnormIdeal.nD Cert.DnormIdeal.τ).loc Cert.DnormIdeal.main_arg3)
      ∧ r.2.mem ((c.tc : Thread Cert.DnormIdeal.nD Cert.DnormIdeal.τ).loc Cert.DnormIdeal.main_arg4) = m ((c.tc : Thread Cert.DnormIdeal.nD Cert.DnormIdeal.τ).loc Cert.DnormIdeal.main_arg4))
      ∧ r.2.sem = fun _ => 0)

def quiescent_DnormIdeal_pre_finite_dnorm [hDnormIdeal : Cert.DnormIdeal.Facts] [hPre_finite_dnorm : Cert.Pre_finite_dnorm.Facts] : Prop :=
  ∀ (m : (ℓ : Loc Cert.DnormIdeal.nD Cert.DnormIdeal.τ Cert.DnormIdeal.sig) → Buf (Elt Ideal) ℓ) (g : Dev Cert.DnormIdeal.nD → PrngReg), Pre_DnormIdeal_finite_dnorm m →
    θ_run (Cert.DnormIdeal.defs (F := Ideal)) (onTc (τ := Cert.DnormIdeal.τ) (Cert.DnormIdeal.main (F := Ideal))) ⟨m, fun _ => 0, g⟩ (fun r => (∀ c : Dev Cert.DnormIdeal.nD,
      r.2.mem ((c.tc : Thread Cert.DnormIdeal.nD Cert.DnormIdeal.τ).loc Cert.DnormIdeal.main_arg0) = m ((c.tc : Thread Cert.DnormIdeal.nD Cert.DnormIdeal.τ).loc Cert.DnormIdeal.main_arg0)
      ∧ r.2.mem ((c.tc : Thread Cert.DnormIdeal.nD Cert.DnormIdeal.τ).loc Cert.DnormIdeal.main_arg1) = m ((c.tc : Thread Cert.DnormIdeal.nD Cert.DnormIdeal.τ).loc Cert.DnormIdeal.main_arg1)
      ∧ r.2.mem ((c.tc : Thread Cert.DnormIdeal.nD Cert.DnormIdeal.τ).loc Cert.DnormIdeal.main_arg2) = m ((c.tc : Thread Cert.DnormIdeal.nD Cert.DnormIdeal.τ).loc Cert.DnormIdeal.main_arg2)
      ∧ r.2.mem ((c.tc : Thread Cert.DnormIdeal.nD Cert.DnormIdeal.τ).loc Cert.DnormIdeal.main_arg3) = m ((c.tc : Thread Cert.DnormIdeal.nD Cert.DnormIdeal.τ).loc Cert.DnormIdeal.main_arg3)
      ∧ r.2.mem ((c.tc : Thread Cert.DnormIdeal.nD Cert.DnormIdeal.τ).loc Cert.DnormIdeal.main_arg4) = m ((c.tc : Thread Cert.DnormIdeal.nD Cert.DnormIdeal.τ).loc Cert.DnormIdeal.main_arg4))
      ∧ r.2.sem = fun _ => 0)

def quiescent_DnormRefIdeal [hDnormRefIdeal : Cert.DnormRefIdeal.Facts] : Prop :=
  ∀ (m : (ℓ : Loc Cert.DnormRefIdeal.nD Cert.DnormRefIdeal.τ Cert.DnormRefIdeal.sig) → Buf (Elt Ideal) ℓ) (g : Dev Cert.DnormRefIdeal.nD → PrngReg), Pre_DnormRefIdeal m →
    θ_run (Cert.DnormRefIdeal.defs (F := Ideal)) (onTc (τ := Cert.DnormRefIdeal.τ) (Cert.DnormRefIdeal.main (F := Ideal))) ⟨m, fun _ => 0, g⟩ (fun r => (∀ c : Dev Cert.DnormRefIdeal.nD,
      r.2.mem ((c.tc : Thread Cert.DnormRefIdeal.nD Cert.DnormRefIdeal.τ).loc Cert.DnormRefIdeal.main_arg0) = m ((c.tc : Thread Cert.DnormRefIdeal.nD Cert.DnormRefIdeal.τ).loc Cert.DnormRefIdeal.main_arg0)
      ∧ r.2.mem ((c.tc : Thread Cert.DnormRefIdeal.nD Cert.DnormRefIdeal.τ).loc Cert.DnormRefIdeal.main_arg1) = m ((c.tc : Thread Cert.DnormRefIdeal.nD Cert.DnormRefIdeal.τ).loc Cert.DnormRefIdeal.main_arg1)
      ∧ r.2.mem ((c.tc : Thread Cert.DnormRefIdeal.nD Cert.DnormRefIdeal.τ).loc Cert.DnormRefIdeal.main_arg2) = m ((c.tc : Thread Cert.DnormRefIdeal.nD Cert.DnormRefIdeal.τ).loc Cert.DnormRefIdeal.main_arg2)
      ∧ r.2.mem ((c.tc : Thread Cert.DnormRefIdeal.nD Cert.DnormRefIdeal.τ).loc Cert.DnormRefIdeal.main_arg3) = m ((c.tc : Thread Cert.DnormRefIdeal.nD Cert.DnormRefIdeal.τ).loc Cert.DnormRefIdeal.main_arg3)
      ∧ r.2.mem ((c.tc : Thread Cert.DnormRefIdeal.nD Cert.DnormRefIdeal.τ).loc Cert.DnormRefIdeal.main_arg4) = m ((c.tc : Thread Cert.DnormRefIdeal.nD Cert.DnormRefIdeal.τ).loc Cert.DnormRefIdeal.main_arg4))
      ∧ r.2.sem = fun _ => 0)

def quiescent_DnormRefIdeal_pre_finite_dnorm [hDnormRefIdeal : Cert.DnormRefIdeal.Facts] [hPre_finite_dnorm : Cert.Pre_finite_dnorm.Facts] : Prop :=
  ∀ (m : (ℓ : Loc Cert.DnormRefIdeal.nD Cert.DnormRefIdeal.τ Cert.DnormRefIdeal.sig) → Buf (Elt Ideal) ℓ) (g : Dev Cert.DnormRefIdeal.nD → PrngReg), Pre_DnormRefIdeal_finite_dnorm m →
    θ_run (Cert.DnormRefIdeal.defs (F := Ideal)) (onTc (τ := Cert.DnormRefIdeal.τ) (Cert.DnormRefIdeal.main (F := Ideal))) ⟨m, fun _ => 0, g⟩ (fun r => (∀ c : Dev Cert.DnormRefIdeal.nD,
      r.2.mem ((c.tc : Thread Cert.DnormRefIdeal.nD Cert.DnormRefIdeal.τ).loc Cert.DnormRefIdeal.main_arg0) = m ((c.tc : Thread Cert.DnormRefIdeal.nD Cert.DnormRefIdeal.τ).loc Cert.DnormRefIdeal.main_arg0)
      ∧ r.2.mem ((c.tc : Thread Cert.DnormRefIdeal.nD Cert.DnormRefIdeal.τ).loc Cert.DnormRefIdeal.main_arg1) = m ((c.tc : Thread Cert.DnormRefIdeal.nD Cert.DnormRefIdeal.τ).loc Cert.DnormRefIdeal.main_arg1)
      ∧ r.2.mem ((c.tc : Thread Cert.DnormRefIdeal.nD Cert.DnormRefIdeal.τ).loc Cert.DnormRefIdeal.main_arg2) = m ((c.tc : Thread Cert.DnormRefIdeal.nD Cert.DnormRefIdeal.τ).loc Cert.DnormRefIdeal.main_arg2)
      ∧ r.2.mem ((c.tc : Thread Cert.DnormRefIdeal.nD Cert.DnormRefIdeal.τ).loc Cert.DnormRefIdeal.main_arg3) = m ((c.tc : Thread Cert.DnormRefIdeal.nD Cert.DnormRefIdeal.τ).loc Cert.DnormRefIdeal.main_arg3)
      ∧ r.2.mem ((c.tc : Thread Cert.DnormRefIdeal.nD Cert.DnormRefIdeal.τ).loc Cert.DnormRefIdeal.main_arg4) = m ((c.tc : Thread Cert.DnormRefIdeal.nD Cert.DnormRefIdeal.τ).loc Cert.DnormRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_GradDown [hGradDown : Cert.GradDown.Facts] [hPre_half_graddown : Cert.Pre_half_graddown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1)
      ∧ r.2.mem ((c.tc : Thread Cert.GradDown.nD Cert.GradDown.τ).loc Cert.GradDown.main_arg2) = m ((c.tc : Thread Cert.GradDown.nD Cert.GradDown.τ).loc Cert.GradDown.main_arg2))
      ∧ r.2.sem = fun _ => 0)

def quiescent_GradDownIdeal [hGradDownIdeal : Cert.GradDownIdeal.Facts] [hPre_half_graddown : Cert.Pre_half_graddown.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1)
      ∧ r.2.mem ((c.tc : Thread Cert.GradDownIdeal.nD Cert.GradDownIdeal.τ).loc Cert.GradDownIdeal.main_arg2) = m ((c.tc : Thread Cert.GradDownIdeal.nD Cert.GradDownIdeal.τ).loc Cert.GradDownIdeal.main_arg2))
      ∧ r.2.sem = fun _ => 0)

def quiescent_GradDownRefIdeal [hGradDownRefIdeal : Cert.GradDownRefIdeal.Facts] : Prop :=
  ∀ (m : (ℓ : Loc Cert.GradDownRefIdeal.nD Cert.GradDownRefIdeal.τ Cert.GradDownRefIdeal.sig) → Buf (Elt Ideal) ℓ) (g : Dev Cert.GradDownRefIdeal.nD → PrngReg), Pre_GradDownRefIdeal m →
    θ_run (Cert.GradDownRefIdeal.defs (F := Ideal)) (onTc (τ := Cert.GradDownRefIdeal.τ) (Cert.GradDownRefIdeal.main (F := Ideal))) ⟨m, fun _ => 0, g⟩ (fun r => (∀ c : Dev Cert.GradDownRefIdeal.nD,
      r.2.mem ((c.tc : Thread Cert.GradDownRefIdeal.nD Cert.GradDownRefIdeal.τ).loc Cert.GradDownRefIdeal.main_arg0) = m ((c.tc : Thread Cert.GradDownRefIdeal.nD Cert.GradDownRefIdeal.τ).loc Cert.GradDownRefIdeal.main_arg0)
      ∧ r.2.mem ((c.tc : Thread Cert.GradDownRefIdeal.nD Cert.GradDownRefIdeal.τ).loc Cert.GradDownRefIdeal.main_arg1) = m ((c.tc : Thread Cert.GradDownRefIdeal.nD Cert.GradDownRefIdeal.τ).loc Cert.GradDownRefIdeal.main_arg1)
      ∧ r.2.mem ((c.tc : Thread Cert.GradDownRefIdeal.nD Cert.GradDownRefIdeal.τ).loc Cert.GradDownRefIdeal.main_arg2) = m ((c.tc : Thread Cert.GradDownRefIdeal.nD Cert.GradDownRefIdeal.τ).loc Cert.GradDownRefIdeal.main_arg2))
      ∧ r.2.sem = fun _ => 0)

def quiescent_GradDownRefIdeal_pre_half_graddown [hGradDownRefIdeal : Cert.GradDownRefIdeal.Facts] [hPre_half_graddown : Cert.Pre_half_graddown.Facts] : Prop :=
  ∀ (m : (ℓ : Loc Cert.GradDownRefIdeal.nD Cert.GradDownRefIdeal.τ Cert.GradDownRefIdeal.sig) → Buf (Elt Ideal) ℓ) (g : Dev Cert.GradDownRefIdeal.nD → PrngReg), Pre_GradDownRefIdeal_half_graddown m →
    θ_run (Cert.GradDownRefIdeal.defs (F := Ideal)) (onTc (τ := Cert.GradDownRefIdeal.τ) (Cert.GradDownRefIdeal.main (F := Ideal))) ⟨m, fun _ => 0, g⟩ (fun r => (∀ c : Dev Cert.GradDownRefIdeal.nD,
      r.2.mem ((c.tc : Thread Cert.GradDownRefIdeal.nD Cert.GradDownRefIdeal.τ).loc Cert.GradDownRefIdeal.main_arg0) = m ((c.tc : Thread Cert.GradDownRefIdeal.nD Cert.GradDownRefIdeal.τ).loc Cert.GradDownRefIdeal.main_arg0)
      ∧ r.2.mem ((c.tc : Thread Cert.GradDownRefIdeal.nD Cert.GradDownRefIdeal.τ).loc Cert.GradDownRefIdeal.main_arg1) = m ((c.tc : Thread Cert.GradDownRefIdeal.nD Cert.GradDownRefIdeal.τ).loc Cert.GradDownRefIdeal.main_arg1)
      ∧ r.2.mem ((c.tc : Thread Cert.GradDownRefIdeal.nD Cert.GradDownRefIdeal.τ).loc Cert.GradDownRefIdeal.main_arg2) = m ((c.tc : Thread Cert.GradDownRefIdeal.nD Cert.GradDownRefIdeal.τ).loc Cert.GradDownRefIdeal.main_arg2))
      ∧ r.2.sem = fun _ => 0)

def quiescent_GradDownAdd [hGradDownAdd : Cert.GradDownAdd.Facts] [hPre_half_graddownadd : Cert.Pre_half_graddownadd.Facts] : Prop :=
  ∀ (m : (ℓ : Loc Cert.GradDownAdd.nD Cert.GradDownAdd.τ Cert.GradDownAdd.sig) → Buf (Elt Bits) ℓ) (g : Dev Cert.GradDownAdd.nD → PrngReg), Pre_GradDownAdd m →
    θ_run (Cert.GradDownAdd.defs (F := Bits)) (onTc (τ := Cert.GradDownAdd.τ) (Cert.GradDownAdd.main (F := Bits))) ⟨m, fun _ => 0, g⟩ (fun r => (∀ c : Dev Cert.GradDownAdd.nD,
      r.2.mem ((c.tc : Thread Cert.GradDownAdd.nD Cert.GradDownAdd.τ).loc Cert.GradDownAdd.main_arg0) = m ((c.tc : Thread Cert.GradDownAdd.nD Cert.GradDownAdd.τ).loc Cert.GradDownAdd.main_arg0)
      ∧ r.2.mem ((c.tc : Thread Cert.GradDownAdd.nD Cert.GradDownAdd.τ).loc Cert.GradDownAdd.main_arg1) = m ((c.tc : Thread Cert.GradDownAdd.nD Cert.GradDownAdd.τ).loc Cert.GradDownAdd.main_arg1)
      ∧ r.2.mem ((c.tc : Thread Cert.GradDownAdd.nD Cert.GradDownAdd.τ).loc Cert.GradDownAdd.main_arg2) = m ((c.tc : Thread Cert.GradDownAdd.nD Cert.GradDownAdd.τ).loc Cert.GradDownAdd.main_arg2)
      ∧ r.2.mem ((c.tc : Thread Cert.GradDownAdd.nD Cert.GradDownAdd.τ).loc Cert.GradDownAdd.main_arg3) = m ((c.tc : Thread Cert.GradDownAdd.nD Cert.GradDownAdd.τ).loc Cert.GradDownAdd.main_arg3))
      ∧ r.2.sem = fun _ => 0)

def quiescent_GradDownAddIdeal [hGradDownAddIdeal : Cert.GradDownAddIdeal.Facts] [hPre_half_graddownadd : Cert.Pre_half_graddownadd.Facts] : Prop :=
  ∀ (m : (ℓ : Loc Cert.GradDownAddIdeal.nD Cert.GradDownAddIdeal.τ Cert.GradDownAddIdeal.sig) → Buf (Elt Ideal) ℓ) (g : Dev Cert.GradDownAddIdeal.nD → PrngReg), Pre_GradDownAddIdeal m →
    θ_run (Cert.GradDownAddIdeal.defs (F := Ideal)) (onTc (τ := Cert.GradDownAddIdeal.τ) (Cert.GradDownAddIdeal.main (F := Ideal))) ⟨m, fun _ => 0, g⟩ (fun r => (∀ c : Dev Cert.GradDownAddIdeal.nD,
      r.2.mem ((c.tc : Thread Cert.GradDownAddIdeal.nD Cert.GradDownAddIdeal.τ).loc Cert.GradDownAddIdeal.main_arg0) = m ((c.tc : Thread Cert.GradDownAddIdeal.nD Cert.GradDownAddIdeal.τ).loc Cert.GradDownAddIdeal.main_arg0)
      ∧ r.2.mem ((c.tc : Thread Cert.GradDownAddIdeal.nD Cert.GradDownAddIdeal.τ).loc Cert.GradDownAddIdeal.main_arg1) = m ((c.tc : Thread Cert.GradDownAddIdeal.nD Cert.GradDownAddIdeal.τ).loc Cert.GradDownAddIdeal.main_arg1)
      ∧ r.2.mem ((c.tc : Thread Cert.GradDownAddIdeal.nD Cert.GradDownAddIdeal.τ).loc Cert.GradDownAddIdeal.main_arg2) = m ((c.tc : Thread Cert.GradDownAddIdeal.nD Cert.GradDownAddIdeal.τ).loc Cert.GradDownAddIdeal.main_arg2)
      ∧ r.2.mem ((c.tc : Thread Cert.GradDownAddIdeal.nD Cert.GradDownAddIdeal.τ).loc Cert.GradDownAddIdeal.main_arg3) = m ((c.tc : Thread Cert.GradDownAddIdeal.nD Cert.GradDownAddIdeal.τ).loc Cert.GradDownAddIdeal.main_arg3))
      ∧ r.2.sem = fun _ => 0)

def quiescent_GradDownAddRefIdeal [hGradDownAddRefIdeal : Cert.GradDownAddRefIdeal.Facts] : Prop :=
  ∀ (m : (ℓ : Loc Cert.GradDownAddRefIdeal.nD Cert.GradDownAddRefIdeal.τ Cert.GradDownAddRefIdeal.sig) → Buf (Elt Ideal) ℓ) (g : Dev Cert.GradDownAddRefIdeal.nD → PrngReg), Pre_GradDownAddRefIdeal m →
    θ_run (Cert.GradDownAddRefIdeal.defs (F := Ideal)) (onTc (τ := Cert.GradDownAddRefIdeal.τ) (Cert.GradDownAddRefIdeal.main (F := Ideal))) ⟨m, fun _ => 0, g⟩ (fun r => (∀ c : Dev Cert.GradDownAddRefIdeal.nD,
      r.2.mem ((c.tc : Thread Cert.GradDownAddRefIdeal.nD Cert.GradDownAddRefIdeal.τ).loc Cert.GradDownAddRefIdeal.main_arg0) = m ((c.tc : Thread Cert.GradDownAddRefIdeal.nD Cert.GradDownAddRefIdeal.τ).loc Cert.GradDownAddRefIdeal.main_arg0)
      ∧ r.2.mem ((c.tc : Thread Cert.GradDownAddRefIdeal.nD Cert.GradDownAddRefIdeal.τ).loc Cert.GradDownAddRefIdeal.main_arg1) = m ((c.tc : Thread Cert.GradDownAddRefIdeal.nD Cert.GradDownAddRefIdeal.τ).loc Cert.GradDownAddRefIdeal.main_arg1)
      ∧ r.2.mem ((c.tc : Thread Cert.GradDownAddRefIdeal.nD Cert.GradDownAddRefIdeal.τ).loc Cert.GradDownAddRefIdeal.main_arg2) = m ((c.tc : Thread Cert.GradDownAddRefIdeal.nD Cert.GradDownAddRefIdeal.τ).loc Cert.GradDownAddRefIdeal.main_arg2)
      ∧ r.2.mem ((c.tc : Thread Cert.GradDownAddRefIdeal.nD Cert.GradDownAddRefIdeal.τ).loc Cert.GradDownAddRefIdeal.main_arg3) = m ((c.tc : Thread Cert.GradDownAddRefIdeal.nD Cert.GradDownAddRefIdeal.τ).loc Cert.GradDownAddRefIdeal.main_arg3))
      ∧ r.2.sem = fun _ => 0)

def quiescent_GradDownAddRefIdeal_pre_half_graddownadd [hGradDownAddRefIdeal : Cert.GradDownAddRefIdeal.Facts] [hPre_half_graddownadd : Cert.Pre_half_graddownadd.Facts] : Prop :=
  ∀ (m : (ℓ : Loc Cert.GradDownAddRefIdeal.nD Cert.GradDownAddRefIdeal.τ Cert.GradDownAddRefIdeal.sig) → Buf (Elt Ideal) ℓ) (g : Dev Cert.GradDownAddRefIdeal.nD → PrngReg), Pre_GradDownAddRefIdeal_half_graddownadd m →
    θ_run (Cert.GradDownAddRefIdeal.defs (F := Ideal)) (onTc (τ := Cert.GradDownAddRefIdeal.τ) (Cert.GradDownAddRefIdeal.main (F := Ideal))) ⟨m, fun _ => 0, g⟩ (fun r => (∀ c : Dev Cert.GradDownAddRefIdeal.nD,
      r.2.mem ((c.tc : Thread Cert.GradDownAddRefIdeal.nD Cert.GradDownAddRefIdeal.τ).loc Cert.GradDownAddRefIdeal.main_arg0) = m ((c.tc : Thread Cert.GradDownAddRefIdeal.nD Cert.GradDownAddRefIdeal.τ).loc Cert.GradDownAddRefIdeal.main_arg0)
      ∧ r.2.mem ((c.tc : Thread Cert.GradDownAddRefIdeal.nD Cert.GradDownAddRefIdeal.τ).loc Cert.GradDownAddRefIdeal.main_arg1) = m ((c.tc : Thread Cert.GradDownAddRefIdeal.nD Cert.GradDownAddRefIdeal.τ).loc Cert.GradDownAddRefIdeal.main_arg1)
      ∧ r.2.mem ((c.tc : Thread Cert.GradDownAddRefIdeal.nD Cert.GradDownAddRefIdeal.τ).loc Cert.GradDownAddRefIdeal.main_arg2) = m ((c.tc : Thread Cert.GradDownAddRefIdeal.nD Cert.GradDownAddRefIdeal.τ).loc Cert.GradDownAddRefIdeal.main_arg2)
      ∧ r.2.mem ((c.tc : Thread Cert.GradDownAddRefIdeal.nD Cert.GradDownAddRefIdeal.τ).loc Cert.GradDownAddRefIdeal.main_arg3) = m ((c.tc : Thread Cert.GradDownAddRefIdeal.nD Cert.GradDownAddRefIdeal.τ).loc Cert.GradDownAddRefIdeal.main_arg3))
      ∧ r.2.sem = fun _ => 0)

def quiescent_GradUp [hGradUp : Cert.GradUp.Facts] [hPre_half_gradup : Cert.Pre_half_gradup.Facts] : Prop :=
  ∀ (m : (ℓ : Loc Cert.GradUp.nD Cert.GradUp.τ Cert.GradUp.sig) → Buf (Elt Bits) ℓ) (g : Dev Cert.GradUp.nD → PrngReg), Pre_GradUp m →
    θ_run (Cert.GradUp.defs (F := Bits)) (onTc (τ := Cert.GradUp.τ) (Cert.GradUp.main (F := Bits))) ⟨m, fun _ => 0, g⟩ (fun r => (∀ c : Dev Cert.GradUp.nD,
      r.2.mem ((c.tc : Thread Cert.GradUp.nD Cert.GradUp.τ).loc Cert.GradUp.main_arg0) = m ((c.tc : Thread Cert.GradUp.nD Cert.GradUp.τ).loc Cert.GradUp.main_arg0)
      ∧ r.2.mem ((c.tc : Thread Cert.GradUp.nD Cert.GradUp.τ).loc Cert.GradUp.main_arg1) = m ((c.tc : Thread Cert.GradUp.nD Cert.GradUp.τ).loc Cert.GradUp.main_arg1)
      ∧ r.2.mem ((c.tc : Thread Cert.GradUp.nD Cert.GradUp.τ).loc Cert.GradUp.main_arg2) = m ((c.tc : Thread Cert.GradUp.nD Cert.GradUp.τ).loc Cert.GradUp.main_arg2))
      ∧ r.2.sem = fun _ => 0)

def quiescent_GradUpIdeal [hGradUpIdeal : Cert.GradUpIdeal.Facts] [hPre_half_gradup : Cert.Pre_half_gradup.Facts] : Prop :=
  ∀ (m : (ℓ : Loc Cert.GradUpIdeal.nD Cert.GradUpIdeal.τ Cert.GradUpIdeal.sig) → Buf (Elt Ideal) ℓ) (g : Dev Cert.GradUpIdeal.nD → PrngReg), Pre_GradUpIdeal m →
    θ_run (Cert.GradUpIdeal.defs (F := Ideal)) (onTc (τ := Cert.GradUpIdeal.τ) (Cert.GradUpIdeal.main (F := Ideal))) ⟨m, fun _ => 0, g⟩ (fun r => (∀ c : Dev Cert.GradUpIdeal.nD,
      r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
      ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1)
      ∧ r.2.mem ((c.tc : Thread Cert.GradUpIdeal.nD Cert.GradUpIdeal.τ).loc Cert.GradUpIdeal.main_arg2) = m ((c.tc : Thread Cert.GradUpIdeal.nD Cert.GradUpIdeal.τ).loc Cert.GradUpIdeal.main_arg2))
      ∧ r.2.sem = fun _ => 0)

def quiescent_GradUpRefIdeal [hGradUpRefIdeal : Cert.GradUpRefIdeal.Facts] : Prop :=
  ∀ (m : (ℓ : Loc Cert.GradUpRefIdeal.nD Cert.GradUpRefIdeal.τ Cert.GradUpRefIdeal.sig) → Buf (Elt Ideal) ℓ) (g : Dev Cert.GradUpRefIdeal.nD → PrngReg), Pre_GradUpRefIdeal m →
    θ_run (Cert.GradUpRefIdeal.defs (F := Ideal)) (onTc (τ := Cert.GradUpRefIdeal.τ) (Cert.GradUpRefIdeal.main (F := Ideal))) ⟨m, fun _ => 0, g⟩ (fun r => (∀ c : Dev Cert.GradUpRefIdeal.nD,
      r.2.mem ((c.tc : Thread Cert.GradUpRefIdeal.nD Cert.GradUpRefIdeal.τ).loc Cert.GradUpRefIdeal.main_arg0) = m ((c.tc : Thread Cert.GradUpRefIdeal.nD Cert.GradUpRefIdeal.τ).loc Cert.GradUpRefIdeal.main_arg0)
      ∧ r.2.mem ((c.tc : Thread Cert.GradUpRefIdeal.nD Cert.GradUpRefIdeal.τ).loc Cert.GradUpRefIdeal.main_arg1) = m ((c.tc : Thread Cert.GradUpRefIdeal.nD Cert.GradUpRefIdeal.τ).loc Cert.GradUpRefIdeal.main_arg1)
      ∧ r.2.mem ((c.tc : Thread Cert.GradUpRefIdeal.nD Cert.GradUpRefIdeal.τ).loc Cert.GradUpRefIdeal.main_arg2) = m ((c.tc : Thread Cert.GradUpRefIdeal.nD Cert.GradUpRefIdeal.τ).loc Cert.GradUpRefIdeal.main_arg2))
      ∧ r.2.sem = fun _ => 0)

def quiescent_GradUpRefIdeal_pre_half_gradup [hGradUpRefIdeal : Cert.GradUpRefIdeal.Facts] [hPre_half_gradup : Cert.Pre_half_gradup.Facts] : Prop :=
  ∀ (m : (ℓ : Loc Cert.GradUpRefIdeal.nD Cert.GradUpRefIdeal.τ Cert.GradUpRefIdeal.sig) → Buf (Elt Ideal) ℓ) (g : Dev Cert.GradUpRefIdeal.nD → PrngReg), Pre_GradUpRefIdeal_half_gradup m →
    θ_run (Cert.GradUpRefIdeal.defs (F := Ideal)) (onTc (τ := Cert.GradUpRefIdeal.τ) (Cert.GradUpRefIdeal.main (F := Ideal))) ⟨m, fun _ => 0, g⟩ (fun r => (∀ c : Dev Cert.GradUpRefIdeal.nD,
      r.2.mem ((c.tc : Thread Cert.GradUpRefIdeal.nD Cert.GradUpRefIdeal.τ).loc Cert.GradUpRefIdeal.main_arg0) = m ((c.tc : Thread Cert.GradUpRefIdeal.nD Cert.GradUpRefIdeal.τ).loc Cert.GradUpRefIdeal.main_arg0)
      ∧ r.2.mem ((c.tc : Thread Cert.GradUpRefIdeal.nD Cert.GradUpRefIdeal.τ).loc Cert.GradUpRefIdeal.main_arg1) = m ((c.tc : Thread Cert.GradUpRefIdeal.nD Cert.GradUpRefIdeal.τ).loc Cert.GradUpRefIdeal.main_arg1)
      ∧ r.2.mem ((c.tc : Thread Cert.GradUpRefIdeal.nD Cert.GradUpRefIdeal.τ).loc Cert.GradUpRefIdeal.main_arg2) = m ((c.tc : Thread Cert.GradUpRefIdeal.nD Cert.GradUpRefIdeal.τ).loc Cert.GradUpRefIdeal.main_arg2))
      ∧ r.2.sem = fun _ => 0)

def quiescent_GradUpAdd [hGradUpAdd : Cert.GradUpAdd.Facts] [hPre_half_gradupadd : Cert.Pre_half_gradupadd.Facts] : Prop :=
  ∀ (m : (ℓ : Loc Cert.GradUpAdd.nD Cert.GradUpAdd.τ Cert.GradUpAdd.sig) → Buf (Elt Bits) ℓ) (g : Dev Cert.GradUpAdd.nD → PrngReg), Pre_GradUpAdd m →
    θ_run (Cert.GradUpAdd.defs (F := Bits)) (onTc (τ := Cert.GradUpAdd.τ) (Cert.GradUpAdd.main (F := Bits))) ⟨m, fun _ => 0, g⟩ (fun r => (∀ c : Dev Cert.GradUpAdd.nD,
      r.2.mem ((c.tc : Thread Cert.GradUpAdd.nD Cert.GradUpAdd.τ).loc Cert.GradUpAdd.main_arg0) = m ((c.tc : Thread Cert.GradUpAdd.nD Cert.GradUpAdd.τ).loc Cert.GradUpAdd.main_arg0)
      ∧ r.2.mem ((c.tc : Thread Cert.GradUpAdd.nD Cert.GradUpAdd.τ).loc Cert.GradUpAdd.main_arg1) = m ((c.tc : Thread Cert.GradUpAdd.nD Cert.GradUpAdd.τ).loc Cert.GradUpAdd.main_arg1)
      ∧ r.2.mem ((c.tc : Thread Cert.GradUpAdd.nD Cert.GradUpAdd.τ).loc Cert.GradUpAdd.main_arg2) = m ((c.tc : Thread Cert.GradUpAdd.nD Cert.GradUpAdd.τ).loc Cert.GradUpAdd.main_arg2)
      ∧ r.2.mem ((c.tc : Thread Cert.GradUpAdd.nD Cert.GradUpAdd.τ).loc Cert.GradUpAdd.main_arg3) = m ((c.tc : Thread Cert.GradUpAdd.nD Cert.GradUpAdd.τ).loc Cert.GradUpAdd.main_arg3))
      ∧ r.2.sem = fun _ => 0)

def quiescent_GradUpAddIdeal [hGradUpAddIdeal : Cert.GradUpAddIdeal.Facts] [hPre_half_gradupadd : Cert.Pre_half_gradupadd.Facts] : Prop :=
  ∀ (m : (ℓ : Loc Cert.GradUpAddIdeal.nD Cert.GradUpAddIdeal.τ Cert.GradUpAddIdeal.sig) → Buf (Elt Ideal) ℓ) (g : Dev Cert.GradUpAddIdeal.nD → PrngReg), Pre_GradUpAddIdeal m →
    θ_run (Cert.GradUpAddIdeal.defs (F := Ideal)) (onTc (τ := Cert.GradUpAddIdeal.τ) (Cert.GradUpAddIdeal.main (F := Ideal))) ⟨m, fun _ => 0, g⟩ (fun r => (∀ c : Dev Cert.GradUpAddIdeal.nD,
      r.2.mem ((c.tc : Thread Cert.GradUpAddIdeal.nD Cert.GradUpAddIdeal.τ).loc Cert.GradUpAddIdeal.main_arg0) = m ((c.tc : Thread Cert.GradUpAddIdeal.nD Cert.GradUpAddIdeal.τ).loc Cert.GradUpAddIdeal.main_arg0)
      ∧ r.2.mem ((c.tc : Thread Cert.GradUpAddIdeal.nD Cert.GradUpAddIdeal.τ).loc Cert.GradUpAddIdeal.main_arg1) = m ((c.tc : Thread Cert.GradUpAddIdeal.nD Cert.GradUpAddIdeal.τ).loc Cert.GradUpAddIdeal.main_arg1)
      ∧ r.2.mem ((c.tc : Thread Cert.GradUpAddIdeal.nD Cert.GradUpAddIdeal.τ).loc Cert.GradUpAddIdeal.main_arg2) = m ((c.tc : Thread Cert.GradUpAddIdeal.nD Cert.GradUpAddIdeal.τ).loc Cert.GradUpAddIdeal.main_arg2)
      ∧ r.2.mem ((c.tc : Thread Cert.GradUpAddIdeal.nD Cert.GradUpAddIdeal.τ).loc Cert.GradUpAddIdeal.main_arg3) = m ((c.tc : Thread Cert.GradUpAddIdeal.nD Cert.GradUpAddIdeal.τ).loc Cert.GradUpAddIdeal.main_arg3))
      ∧ r.2.sem = fun _ => 0)

def quiescent_GradUpAddRefIdeal [hGradUpAddRefIdeal : Cert.GradUpAddRefIdeal.Facts] : Prop :=
  ∀ (m : (ℓ : Loc Cert.GradUpAddRefIdeal.nD Cert.GradUpAddRefIdeal.τ Cert.GradUpAddRefIdeal.sig) → Buf (Elt Ideal) ℓ) (g : Dev Cert.GradUpAddRefIdeal.nD → PrngReg), Pre_GradUpAddRefIdeal m →
    θ_run (Cert.GradUpAddRefIdeal.defs (F := Ideal)) (onTc (τ := Cert.GradUpAddRefIdeal.τ) (Cert.GradUpAddRefIdeal.main (F := Ideal))) ⟨m, fun _ => 0, g⟩ (fun r => (∀ c : Dev Cert.GradUpAddRefIdeal.nD,
      r.2.mem ((c.tc : Thread Cert.GradUpAddRefIdeal.nD Cert.GradUpAddRefIdeal.τ).loc Cert.GradUpAddRefIdeal.main_arg0) = m ((c.tc : Thread Cert.GradUpAddRefIdeal.nD Cert.GradUpAddRefIdeal.τ).loc Cert.GradUpAddRefIdeal.main_arg0)
      ∧ r.2.mem ((c.tc : Thread Cert.GradUpAddRefIdeal.nD Cert.GradUpAddRefIdeal.τ).loc Cert.GradUpAddRefIdeal.main_arg1) = m ((c.tc : Thread Cert.GradUpAddRefIdeal.nD Cert.GradUpAddRefIdeal.τ).loc Cert.GradUpAddRefIdeal.main_arg1)
      ∧ r.2.mem ((c.tc : Thread Cert.GradUpAddRefIdeal.nD Cert.GradUpAddRefIdeal.τ).loc Cert.GradUpAddRefIdeal.main_arg2) = m ((c.tc : Thread Cert.GradUpAddRefIdeal.nD Cert.GradUpAddRefIdeal.τ).loc Cert.GradUpAddRefIdeal.main_arg2)
      ∧ r.2.mem ((c.tc : Thread Cert.GradUpAddRefIdeal.nD Cert.GradUpAddRefIdeal.τ).loc Cert.GradUpAddRefIdeal.main_arg3) = m ((c.tc : Thread Cert.GradUpAddRefIdeal.nD Cert.GradUpAddRefIdeal.τ).loc Cert.GradUpAddRefIdeal.main_arg3))
      ∧ r.2.sem = fun _ => 0)

def quiescent_GradUpAddRefIdeal_pre_half_gradupadd [hGradUpAddRefIdeal : Cert.GradUpAddRefIdeal.Facts] [hPre_half_gradupadd : Cert.Pre_half_gradupadd.Facts] : Prop :=
  ∀ (m : (ℓ : Loc Cert.GradUpAddRefIdeal.nD Cert.GradUpAddRefIdeal.τ Cert.GradUpAddRefIdeal.sig) → Buf (Elt Ideal) ℓ) (g : Dev Cert.GradUpAddRefIdeal.nD → PrngReg), Pre_GradUpAddRefIdeal_half_gradupadd m →
    θ_run (Cert.GradUpAddRefIdeal.defs (F := Ideal)) (onTc (τ := Cert.GradUpAddRefIdeal.τ) (Cert.GradUpAddRefIdeal.main (F := Ideal))) ⟨m, fun _ => 0, g⟩ (fun r => (∀ c : Dev Cert.GradUpAddRefIdeal.nD,
      r.2.mem ((c.tc : Thread Cert.GradUpAddRefIdeal.nD Cert.GradUpAddRefIdeal.τ).loc Cert.GradUpAddRefIdeal.main_arg0) = m ((c.tc : Thread Cert.GradUpAddRefIdeal.nD Cert.GradUpAddRefIdeal.τ).loc Cert.GradUpAddRefIdeal.main_arg0)
      ∧ r.2.mem ((c.tc : Thread Cert.GradUpAddRefIdeal.nD Cert.GradUpAddRefIdeal.τ).loc Cert.GradUpAddRefIdeal.main_arg1) = m ((c.tc : Thread Cert.GradUpAddRefIdeal.nD Cert.GradUpAddRefIdeal.τ).loc Cert.GradUpAddRefIdeal.main_arg1)
      ∧ r.2.mem ((c.tc : Thread Cert.GradUpAddRefIdeal.nD Cert.GradUpAddRefIdeal.τ).loc Cert.GradUpAddRefIdeal.main_arg2) = m ((c.tc : Thread Cert.GradUpAddRefIdeal.nD Cert.GradUpAddRefIdeal.τ).loc Cert.GradUpAddRefIdeal.main_arg2)
      ∧ r.2.mem ((c.tc : Thread Cert.GradUpAddRefIdeal.nD Cert.GradUpAddRefIdeal.τ).loc Cert.GradUpAddRefIdeal.main_arg3) = m ((c.tc : Thread Cert.GradUpAddRefIdeal.nD Cert.GradUpAddRefIdeal.τ).loc Cert.GradUpAddRefIdeal.main_arg3))
      ∧ r.2.sem = fun _ => 0)

def quiescent_GradOut [hGradOut : Cert.GradOut.Facts] [hPre_half_gradout : Cert.Pre_half_gradout.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1)
      ∧ r.2.mem ((c.tc : Thread Cert.GradOut.nD Cert.GradOut.τ).loc Cert.GradOut.main_arg2) = m ((c.tc : Thread Cert.GradOut.nD Cert.GradOut.τ).loc Cert.GradOut.main_arg2))
      ∧ r.2.sem = fun _ => 0)

def quiescent_GradOutIdeal [hGradOutIdeal : Cert.GradOutIdeal.Facts] [hPre_half_gradout : Cert.Pre_half_gradout.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1)
      ∧ r.2.mem ((c.tc : Thread Cert.GradOutIdeal.nD Cert.GradOutIdeal.τ).loc Cert.GradOutIdeal.main_arg2) = m ((c.tc : Thread Cert.GradOutIdeal.nD Cert.GradOutIdeal.τ).loc Cert.GradOutIdeal.main_arg2))
      ∧ r.2.sem = fun _ => 0)

def quiescent_GradOutRefIdeal [hGradOutRefIdeal : Cert.GradOutRefIdeal.Facts] : Prop :=
  ∀ (m : (ℓ : Loc Cert.GradOutRefIdeal.nD Cert.GradOutRefIdeal.τ Cert.GradOutRefIdeal.sig) → Buf (Elt Ideal) ℓ) (g : Dev Cert.GradOutRefIdeal.nD → PrngReg), Pre_GradOutRefIdeal m →
    θ_run (Cert.GradOutRefIdeal.defs (F := Ideal)) (onTc (τ := Cert.GradOutRefIdeal.τ) (Cert.GradOutRefIdeal.main (F := Ideal))) ⟨m, fun _ => 0, g⟩ (fun r => (∀ c : Dev Cert.GradOutRefIdeal.nD,
      r.2.mem ((c.tc : Thread Cert.GradOutRefIdeal.nD Cert.GradOutRefIdeal.τ).loc Cert.GradOutRefIdeal.main_arg0) = m ((c.tc : Thread Cert.GradOutRefIdeal.nD Cert.GradOutRefIdeal.τ).loc Cert.GradOutRefIdeal.main_arg0)
      ∧ r.2.mem ((c.tc : Thread Cert.GradOutRefIdeal.nD Cert.GradOutRefIdeal.τ).loc Cert.GradOutRefIdeal.main_arg1) = m ((c.tc : Thread Cert.GradOutRefIdeal.nD Cert.GradOutRefIdeal.τ).loc Cert.GradOutRefIdeal.main_arg1)
      ∧ r.2.mem ((c.tc : Thread Cert.GradOutRefIdeal.nD Cert.GradOutRefIdeal.τ).loc Cert.GradOutRefIdeal.main_arg2) = m ((c.tc : Thread Cert.GradOutRefIdeal.nD Cert.GradOutRefIdeal.τ).loc Cert.GradOutRefIdeal.main_arg2))
      ∧ r.2.sem = fun _ => 0)

def quiescent_GradOutRefIdeal_pre_half_gradout [hGradOutRefIdeal : Cert.GradOutRefIdeal.Facts] [hPre_half_gradout : Cert.Pre_half_gradout.Facts] : Prop :=
  ∀ (m : (ℓ : Loc Cert.GradOutRefIdeal.nD Cert.GradOutRefIdeal.τ Cert.GradOutRefIdeal.sig) → Buf (Elt Ideal) ℓ) (g : Dev Cert.GradOutRefIdeal.nD → PrngReg), Pre_GradOutRefIdeal_half_gradout m →
    θ_run (Cert.GradOutRefIdeal.defs (F := Ideal)) (onTc (τ := Cert.GradOutRefIdeal.τ) (Cert.GradOutRefIdeal.main (F := Ideal))) ⟨m, fun _ => 0, g⟩ (fun r => (∀ c : Dev Cert.GradOutRefIdeal.nD,
      r.2.mem ((c.tc : Thread Cert.GradOutRefIdeal.nD Cert.GradOutRefIdeal.τ).loc Cert.GradOutRefIdeal.main_arg0) = m ((c.tc : Thread Cert.GradOutRefIdeal.nD Cert.GradOutRefIdeal.τ).loc Cert.GradOutRefIdeal.main_arg0)
      ∧ r.2.mem ((c.tc : Thread Cert.GradOutRefIdeal.nD Cert.GradOutRefIdeal.τ).loc Cert.GradOutRefIdeal.main_arg1) = m ((c.tc : Thread Cert.GradOutRefIdeal.nD Cert.GradOutRefIdeal.τ).loc Cert.GradOutRefIdeal.main_arg1)
      ∧ r.2.mem ((c.tc : Thread Cert.GradOutRefIdeal.nD Cert.GradOutRefIdeal.τ).loc Cert.GradOutRefIdeal.main_arg2) = m ((c.tc : Thread Cert.GradOutRefIdeal.nD Cert.GradOutRefIdeal.τ).loc Cert.GradOutRefIdeal.main_arg2))
      ∧ r.2.sem = fun _ => 0)

def quiescent_GradOutAdd [hGradOutAdd : Cert.GradOutAdd.Facts] [hPre_half_gradoutadd : Cert.Pre_half_gradoutadd.Facts] : Prop :=
  ∀ (m : (ℓ : Loc Cert.GradOutAdd.nD Cert.GradOutAdd.τ Cert.GradOutAdd.sig) → Buf (Elt Bits) ℓ) (g : Dev Cert.GradOutAdd.nD → PrngReg), Pre_GradOutAdd m →
    θ_run (Cert.GradOutAdd.defs (F := Bits)) (onTc (τ := Cert.GradOutAdd.τ) (Cert.GradOutAdd.main (F := Bits))) ⟨m, fun _ => 0, g⟩ (fun r => (∀ c : Dev Cert.GradOutAdd.nD,
      r.2.mem ((c.tc : Thread Cert.GradOutAdd.nD Cert.GradOutAdd.τ).loc Cert.GradOutAdd.main_arg0) = m ((c.tc : Thread Cert.GradOutAdd.nD Cert.GradOutAdd.τ).loc Cert.GradOutAdd.main_arg0)
      ∧ r.2.mem ((c.tc : Thread Cert.GradOutAdd.nD Cert.GradOutAdd.τ).loc Cert.GradOutAdd.main_arg1) = m ((c.tc : Thread Cert.GradOutAdd.nD Cert.GradOutAdd.τ).loc Cert.GradOutAdd.main_arg1)
      ∧ r.2.mem ((c.tc : Thread Cert.GradOutAdd.nD Cert.GradOutAdd.τ).loc Cert.GradOutAdd.main_arg2) = m ((c.tc : Thread Cert.GradOutAdd.nD Cert.GradOutAdd.τ).loc Cert.GradOutAdd.main_arg2)
      ∧ r.2.mem ((c.tc : Thread Cert.GradOutAdd.nD Cert.GradOutAdd.τ).loc Cert.GradOutAdd.main_arg3) = m ((c.tc : Thread Cert.GradOutAdd.nD Cert.GradOutAdd.τ).loc Cert.GradOutAdd.main_arg3))
      ∧ r.2.sem = fun _ => 0)

def quiescent_GradOutAddIdeal [hGradOutAddIdeal : Cert.GradOutAddIdeal.Facts] [hPre_half_gradoutadd : Cert.Pre_half_gradoutadd.Facts] : Prop :=
  ∀ (m : (ℓ : Loc Cert.GradOutAddIdeal.nD Cert.GradOutAddIdeal.τ Cert.GradOutAddIdeal.sig) → Buf (Elt Ideal) ℓ) (g : Dev Cert.GradOutAddIdeal.nD → PrngReg), Pre_GradOutAddIdeal m →
    θ_run (Cert.GradOutAddIdeal.defs (F := Ideal)) (onTc (τ := Cert.GradOutAddIdeal.τ) (Cert.GradOutAddIdeal.main (F := Ideal))) ⟨m, fun _ => 0, g⟩ (fun r => (∀ c : Dev Cert.GradOutAddIdeal.nD,
      r.2.mem ((c.tc : Thread Cert.GradOutAddIdeal.nD Cert.GradOutAddIdeal.τ).loc Cert.GradOutAddIdeal.main_arg0) = m ((c.tc : Thread Cert.GradOutAddIdeal.nD Cert.GradOutAddIdeal.τ).loc Cert.GradOutAddIdeal.main_arg0)
      ∧ r.2.mem ((c.tc : Thread Cert.GradOutAddIdeal.nD Cert.GradOutAddIdeal.τ).loc Cert.GradOutAddIdeal.main_arg1) = m ((c.tc : Thread Cert.GradOutAddIdeal.nD Cert.GradOutAddIdeal.τ).loc Cert.GradOutAddIdeal.main_arg1)
      ∧ r.2.mem ((c.tc : Thread Cert.GradOutAddIdeal.nD Cert.GradOutAddIdeal.τ).loc Cert.GradOutAddIdeal.main_arg2) = m ((c.tc : Thread Cert.GradOutAddIdeal.nD Cert.GradOutAddIdeal.τ).loc Cert.GradOutAddIdeal.main_arg2)
      ∧ r.2.mem ((c.tc : Thread Cert.GradOutAddIdeal.nD Cert.GradOutAddIdeal.τ).loc Cert.GradOutAddIdeal.main_arg3) = m ((c.tc : Thread Cert.GradOutAddIdeal.nD Cert.GradOutAddIdeal.τ).loc Cert.GradOutAddIdeal.main_arg3))
      ∧ r.2.sem = fun _ => 0)

def quiescent_GradOutAddRefIdeal [hGradOutAddRefIdeal : Cert.GradOutAddRefIdeal.Facts] : Prop :=
  ∀ (m : (ℓ : Loc Cert.GradOutAddRefIdeal.nD Cert.GradOutAddRefIdeal.τ Cert.GradOutAddRefIdeal.sig) → Buf (Elt Ideal) ℓ) (g : Dev Cert.GradOutAddRefIdeal.nD → PrngReg), Pre_GradOutAddRefIdeal m →
    θ_run (Cert.GradOutAddRefIdeal.defs (F := Ideal)) (onTc (τ := Cert.GradOutAddRefIdeal.τ) (Cert.GradOutAddRefIdeal.main (F := Ideal))) ⟨m, fun _ => 0, g⟩ (fun r => (∀ c : Dev Cert.GradOutAddRefIdeal.nD,
      r.2.mem ((c.tc : Thread Cert.GradOutAddRefIdeal.nD Cert.GradOutAddRefIdeal.τ).loc Cert.GradOutAddRefIdeal.main_arg0) = m ((c.tc : Thread Cert.GradOutAddRefIdeal.nD Cert.GradOutAddRefIdeal.τ).loc Cert.GradOutAddRefIdeal.main_arg0)
      ∧ r.2.mem ((c.tc : Thread Cert.GradOutAddRefIdeal.nD Cert.GradOutAddRefIdeal.τ).loc Cert.GradOutAddRefIdeal.main_arg1) = m ((c.tc : Thread Cert.GradOutAddRefIdeal.nD Cert.GradOutAddRefIdeal.τ).loc Cert.GradOutAddRefIdeal.main_arg1)
      ∧ r.2.mem ((c.tc : Thread Cert.GradOutAddRefIdeal.nD Cert.GradOutAddRefIdeal.τ).loc Cert.GradOutAddRefIdeal.main_arg2) = m ((c.tc : Thread Cert.GradOutAddRefIdeal.nD Cert.GradOutAddRefIdeal.τ).loc Cert.GradOutAddRefIdeal.main_arg2)
      ∧ r.2.mem ((c.tc : Thread Cert.GradOutAddRefIdeal.nD Cert.GradOutAddRefIdeal.τ).loc Cert.GradOutAddRefIdeal.main_arg3) = m ((c.tc : Thread Cert.GradOutAddRefIdeal.nD Cert.GradOutAddRefIdeal.τ).loc Cert.GradOutAddRefIdeal.main_arg3))
      ∧ r.2.sem = fun _ => 0)

def quiescent_GradOutAddRefIdeal_pre_half_gradoutadd [hGradOutAddRefIdeal : Cert.GradOutAddRefIdeal.Facts] [hPre_half_gradoutadd : Cert.Pre_half_gradoutadd.Facts] : Prop :=
  ∀ (m : (ℓ : Loc Cert.GradOutAddRefIdeal.nD Cert.GradOutAddRefIdeal.τ Cert.GradOutAddRefIdeal.sig) → Buf (Elt Ideal) ℓ) (g : Dev Cert.GradOutAddRefIdeal.nD → PrngReg), Pre_GradOutAddRefIdeal_half_gradoutadd m →
    θ_run (Cert.GradOutAddRefIdeal.defs (F := Ideal)) (onTc (τ := Cert.GradOutAddRefIdeal.τ) (Cert.GradOutAddRefIdeal.main (F := Ideal))) ⟨m, fun _ => 0, g⟩ (fun r => (∀ c : Dev Cert.GradOutAddRefIdeal.nD,
      r.2.mem ((c.tc : Thread Cert.GradOutAddRefIdeal.nD Cert.GradOutAddRefIdeal.τ).loc Cert.GradOutAddRefIdeal.main_arg0) = m ((c.tc : Thread Cert.GradOutAddRefIdeal.nD Cert.GradOutAddRefIdeal.τ).loc Cert.GradOutAddRefIdeal.main_arg0)
      ∧ r.2.mem ((c.tc : Thread Cert.GradOutAddRefIdeal.nD Cert.GradOutAddRefIdeal.τ).loc Cert.GradOutAddRefIdeal.main_arg1) = m ((c.tc : Thread Cert.GradOutAddRefIdeal.nD Cert.GradOutAddRefIdeal.τ).loc Cert.GradOutAddRefIdeal.main_arg1)
      ∧ r.2.mem ((c.tc : Thread Cert.GradOutAddRefIdeal.nD Cert.GradOutAddRefIdeal.τ).loc Cert.GradOutAddRefIdeal.main_arg2) = m ((c.tc : Thread Cert.GradOutAddRefIdeal.nD Cert.GradOutAddRefIdeal.τ).loc Cert.GradOutAddRefIdeal.main_arg2)
      ∧ r.2.mem ((c.tc : Thread Cert.GradOutAddRefIdeal.nD Cert.GradOutAddRefIdeal.τ).loc Cert.GradOutAddRefIdeal.main_arg3) = m ((c.tc : Thread Cert.GradOutAddRefIdeal.nD Cert.GradOutAddRefIdeal.τ).loc Cert.GradOutAddRefIdeal.main_arg3))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_GradInRefIdeal [hGradInRefIdeal : Cert.GradInRefIdeal.Facts] : Prop :=
  ∀ (m : (ℓ : Loc Cert.GradInRefIdeal.nD Cert.GradInRefIdeal.τ Cert.GradInRefIdeal.sig) → Buf (Elt Ideal) ℓ) (g : Dev Cert.GradInRefIdeal.nD → PrngReg), Pre_GradInRefIdeal m →
    θ_run (Cert.GradInRefIdeal.defs (F := Ideal)) (onTc (τ := Cert.GradInRefIdeal.τ) (Cert.GradInRefIdeal.main (F := Ideal))) ⟨m, fun _ => 0, g⟩ (fun r => (∀ c : Dev Cert.GradInRefIdeal.nD,
      r.2.mem ((c.tc : Thread Cert.GradInRefIdeal.nD Cert.GradInRefIdeal.τ).loc Cert.GradInRefIdeal.main_arg0) = m ((c.tc : Thread Cert.GradInRefIdeal.nD Cert.GradInRefIdeal.τ).loc Cert.GradInRefIdeal.main_arg0)
      ∧ r.2.mem ((c.tc : Thread Cert.GradInRefIdeal.nD Cert.GradInRefIdeal.τ).loc Cert.GradInRefIdeal.main_arg1) = m ((c.tc : Thread Cert.GradInRefIdeal.nD Cert.GradInRefIdeal.τ).loc Cert.GradInRefIdeal.main_arg1))
      ∧ r.2.sem = fun _ => 0)

def quiescent_InDnorm [hInDnorm : Cert.InDnorm.Facts] : Prop :=
  ∀ (m : (ℓ : Loc Cert.InDnorm.nD Cert.InDnorm.τ Cert.InDnorm.sig) → Buf (Elt Bits) ℓ) (g : Dev Cert.InDnorm.nD → PrngReg), Pre_InDnorm m →
    θ_run (Cert.InDnorm.defs (F := Bits)) (onTc (τ := Cert.InDnorm.τ) (Cert.InDnorm.main (F := Bits))) ⟨m, fun _ => 0, g⟩ (fun r => (∀ c : Dev Cert.InDnorm.nD,
      r.2.mem ((c.tc : Thread Cert.InDnorm.nD Cert.InDnorm.τ).loc Cert.InDnorm.main_arg0) = m ((c.tc : Thread Cert.InDnorm.nD Cert.InDnorm.τ).loc Cert.InDnorm.main_arg0)
      ∧ r.2.mem ((c.tc : Thread Cert.InDnorm.nD Cert.InDnorm.τ).loc Cert.InDnorm.main_arg1) = m ((c.tc : Thread Cert.InDnorm.nD Cert.InDnorm.τ).loc Cert.InDnorm.main_arg1)
      ∧ r.2.mem ((c.tc : Thread Cert.InDnorm.nD Cert.InDnorm.τ).loc Cert.InDnorm.main_arg2) = m ((c.tc : Thread Cert.InDnorm.nD Cert.InDnorm.τ).loc Cert.InDnorm.main_arg2)
      ∧ r.2.mem ((c.tc : Thread Cert.InDnorm.nD Cert.InDnorm.τ).loc Cert.InDnorm.main_arg3) = m ((c.tc : Thread Cert.InDnorm.nD Cert.InDnorm.τ).loc Cert.InDnorm.main_arg3)
      ∧ r.2.mem ((c.tc : Thread Cert.InDnorm.nD Cert.InDnorm.τ).loc Cert.InDnorm.main_arg4) = m ((c.tc : Thread Cert.InDnorm.nD Cert.InDnorm.τ).loc Cert.InDnorm.main_arg4))
      ∧ r.2.sem = fun _ => 0)

def quiescent_InDnormIdeal [hInDnormIdeal : Cert.InDnormIdeal.Facts] : Prop :=
  ∀ (m : (ℓ : Loc Cert.InDnormIdeal.nD Cert.InDnormIdeal.τ Cert.InDnormIdeal.sig) → Buf (Elt Ideal) ℓ) (g : Dev Cert.InDnormIdeal.nD → PrngReg), Pre_InDnormIdeal m →
    θ_run (Cert.InDnormIdeal.defs (F := Ideal)) (onTc (τ := Cert.InDnormIdeal.τ) (Cert.InDnormIdeal.main (F := Ideal))) ⟨m, fun _ => 0, g⟩ (fun r => (∀ c : Dev Cert.InDnormIdeal.nD,
      r.2.mem ((c.tc : Thread Cert.InDnormIdeal.nD Cert.InDnormIdeal.τ).loc Cert.InDnormIdeal.main_arg0) = m ((c.tc : Thread Cert.InDnormIdeal.nD Cert.InDnormIdeal.τ).loc Cert.InDnormIdeal.main_arg0)
      ∧ r.2.mem ((c.tc : Thread Cert.InDnormIdeal.nD Cert.InDnormIdeal.τ).loc Cert.InDnormIdeal.main_arg1) = m ((c.tc : Thread Cert.InDnormIdeal.nD Cert.InDnormIdeal.τ).loc Cert.InDnormIdeal.main_arg1)
      ∧ r.2.mem ((c.tc : Thread Cert.InDnormIdeal.nD Cert.InDnormIdeal.τ).loc Cert.InDnormIdeal.main_arg2) = m ((c.tc : Thread Cert.InDnormIdeal.nD Cert.InDnormIdeal.τ).loc Cert.InDnormIdeal.main_arg2)
      ∧ r.2.mem ((c.tc : Thread Cert.InDnormIdeal.nD Cert.InDnormIdeal.τ).loc Cert.InDnormIdeal.main_arg3) = m ((c.tc : Thread Cert.InDnormIdeal.nD Cert.InDnormIdeal.τ).loc Cert.InDnormIdeal.main_arg3)
      ∧ r.2.mem ((c.tc : Thread Cert.InDnormIdeal.nD Cert.InDnormIdeal.τ).loc Cert.InDnormIdeal.main_arg4) = m ((c.tc : Thread Cert.InDnormIdeal.nD Cert.InDnormIdeal.τ).loc Cert.InDnormIdeal.main_arg4))
      ∧ r.2.sem = fun _ => 0)

def quiescent_InDnormIdeal_pre_finite_indnorm [hInDnormIdeal : Cert.InDnormIdeal.Facts] [hPre_finite_indnorm : Cert.Pre_finite_indnorm.Facts] : Prop :=
  ∀ (m : (ℓ : Loc Cert.InDnormIdeal.nD Cert.InDnormIdeal.τ Cert.InDnormIdeal.sig) → Buf (Elt Ideal) ℓ) (g : Dev Cert.InDnormIdeal.nD → PrngReg), Pre_InDnormIdeal_finite_indnorm m →
    θ_run (Cert.InDnormIdeal.defs (F := Ideal)) (onTc (τ := Cert.InDnormIdeal.τ) (Cert.InDnormIdeal.main (F := Ideal))) ⟨m, fun _ => 0, g⟩ (fun r => (∀ c : Dev Cert.InDnormIdeal.nD,
      r.2.mem ((c.tc : Thread Cert.InDnormIdeal.nD Cert.InDnormIdeal.τ).loc Cert.InDnormIdeal.main_arg0) = m ((c.tc : Thread Cert.InDnormIdeal.nD Cert.InDnormIdeal.τ).loc Cert.InDnormIdeal.main_arg0)
      ∧ r.2.mem ((c.tc : Thread Cert.InDnormIdeal.nD Cert.InDnormIdeal.τ).loc Cert.InDnormIdeal.main_arg1) = m ((c.tc : Thread Cert.InDnormIdeal.nD Cert.InDnormIdeal.τ).loc Cert.InDnormIdeal.main_arg1)
      ∧ r.2.mem ((c.tc : Thread Cert.InDnormIdeal.nD Cert.InDnormIdeal.τ).loc Cert.InDnormIdeal.main_arg2) = m ((c.tc : Thread Cert.InDnormIdeal.nD Cert.InDnormIdeal.τ).loc Cert.InDnormIdeal.main_arg2)
      ∧ r.2.mem ((c.tc : Thread Cert.InDnormIdeal.nD Cert.InDnormIdeal.τ).loc Cert.InDnormIdeal.main_arg3) = m ((c.tc : Thread Cert.InDnormIdeal.nD Cert.InDnormIdeal.τ).loc Cert.InDnormIdeal.main_arg3)
      ∧ r.2.mem ((c.tc : Thread Cert.InDnormIdeal.nD Cert.InDnormIdeal.τ).loc Cert.InDnormIdeal.main_arg4) = m ((c.tc : Thread Cert.InDnormIdeal.nD Cert.InDnormIdeal.τ).loc Cert.InDnormIdeal.main_arg4))
      ∧ r.2.sem = fun _ => 0)

def quiescent_InDnormRefIdeal [hInDnormRefIdeal : Cert.InDnormRefIdeal.Facts] : Prop :=
  ∀ (m : (ℓ : Loc Cert.InDnormRefIdeal.nD Cert.InDnormRefIdeal.τ Cert.InDnormRefIdeal.sig) → Buf (Elt Ideal) ℓ) (g : Dev Cert.InDnormRefIdeal.nD → PrngReg), Pre_InDnormRefIdeal m →
    θ_run (Cert.InDnormRefIdeal.defs (F := Ideal)) (onTc (τ := Cert.InDnormRefIdeal.τ) (Cert.InDnormRefIdeal.main (F := Ideal))) ⟨m, fun _ => 0, g⟩ (fun r => (∀ c : Dev Cert.InDnormRefIdeal.nD,
      r.2.mem ((c.tc : Thread Cert.InDnormRefIdeal.nD Cert.InDnormRefIdeal.τ).loc Cert.InDnormRefIdeal.main_arg0) = m ((c.tc : Thread Cert.InDnormRefIdeal.nD Cert.InDnormRefIdeal.τ).loc Cert.InDnormRefIdeal.main_arg0)
      ∧ r.2.mem ((c.tc : Thread Cert.InDnormRefIdeal.nD Cert.InDnormRefIdeal.τ).loc Cert.InDnormRefIdeal.main_arg1) = m ((c.tc : Thread Cert.InDnormRefIdeal.nD Cert.InDnormRefIdeal.τ).loc Cert.InDnormRefIdeal.main_arg1)
      ∧ r.2.mem ((c.tc : Thread Cert.InDnormRefIdeal.nD Cert.InDnormRefIdeal.τ).loc Cert.InDnormRefIdeal.main_arg2) = m ((c.tc : Thread Cert.InDnormRefIdeal.nD Cert.InDnormRefIdeal.τ).loc Cert.InDnormRefIdeal.main_arg2)
      ∧ r.2.mem ((c.tc : Thread Cert.InDnormRefIdeal.nD Cert.InDnormRefIdeal.τ).loc Cert.InDnormRefIdeal.main_arg3) = m ((c.tc : Thread Cert.InDnormRefIdeal.nD Cert.InDnormRefIdeal.τ).loc Cert.InDnormRefIdeal.main_arg3)
      ∧ r.2.mem ((c.tc : Thread Cert.InDnormRefIdeal.nD Cert.InDnormRefIdeal.τ).loc Cert.InDnormRefIdeal.main_arg4) = m ((c.tc : Thread Cert.InDnormRefIdeal.nD Cert.InDnormRefIdeal.τ).loc Cert.InDnormRefIdeal.main_arg4))
      ∧ r.2.sem = fun _ => 0)

def quiescent_InDnormRefIdeal_pre_finite_indnorm [hInDnormRefIdeal : Cert.InDnormRefIdeal.Facts] [hPre_finite_indnorm : Cert.Pre_finite_indnorm.Facts] : Prop :=
  ∀ (m : (ℓ : Loc Cert.InDnormRefIdeal.nD Cert.InDnormRefIdeal.τ Cert.InDnormRefIdeal.sig) → Buf (Elt Ideal) ℓ) (g : Dev Cert.InDnormRefIdeal.nD → PrngReg), Pre_InDnormRefIdeal_finite_indnorm m →
    θ_run (Cert.InDnormRefIdeal.defs (F := Ideal)) (onTc (τ := Cert.InDnormRefIdeal.τ) (Cert.InDnormRefIdeal.main (F := Ideal))) ⟨m, fun _ => 0, g⟩ (fun r => (∀ c : Dev Cert.InDnormRefIdeal.nD,
      r.2.mem ((c.tc : Thread Cert.InDnormRefIdeal.nD Cert.InDnormRefIdeal.τ).loc Cert.InDnormRefIdeal.main_arg0) = m ((c.tc : Thread Cert.InDnormRefIdeal.nD Cert.InDnormRefIdeal.τ).loc Cert.InDnormRefIdeal.main_arg0)
      ∧ r.2.mem ((c.tc : Thread Cert.InDnormRefIdeal.nD Cert.InDnormRefIdeal.τ).loc Cert.InDnormRefIdeal.main_arg1) = m ((c.tc : Thread Cert.InDnormRefIdeal.nD Cert.InDnormRefIdeal.τ).loc Cert.InDnormRefIdeal.main_arg1)
      ∧ r.2.mem ((c.tc : Thread Cert.InDnormRefIdeal.nD Cert.InDnormRefIdeal.τ).loc Cert.InDnormRefIdeal.main_arg2) = m ((c.tc : Thread Cert.InDnormRefIdeal.nD Cert.InDnormRefIdeal.τ).loc Cert.InDnormRefIdeal.main_arg2)
      ∧ r.2.mem ((c.tc : Thread Cert.InDnormRefIdeal.nD Cert.InDnormRefIdeal.τ).loc Cert.InDnormRefIdeal.main_arg3) = m ((c.tc : Thread Cert.InDnormRefIdeal.nD Cert.InDnormRefIdeal.τ).loc Cert.InDnormRefIdeal.main_arg3)
      ∧ r.2.mem ((c.tc : Thread Cert.InDnormRefIdeal.nD Cert.InDnormRefIdeal.τ).loc Cert.InDnormRefIdeal.main_arg4) = m ((c.tc : Thread Cert.InDnormRefIdeal.nD Cert.InDnormRefIdeal.τ).loc Cert.InDnormRefIdeal.main_arg4))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1)
      ∧ r.2.mem ((c.tc : Thread Cert.MlpUp.nD Cert.MlpUp.τ).loc Cert.MlpUp.main_arg2) = m ((c.tc : Thread Cert.MlpUp.nD Cert.MlpUp.τ).loc Cert.MlpUp.main_arg2))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
      ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1)
      ∧ r.2.mem ((c.tc : Thread Cert.MlpUpRefIdeal.nD Cert.MlpUpRefIdeal.τ).loc Cert.MlpUpRefIdeal.main_arg2) = m ((c.tc : Thread Cert.MlpUpRefIdeal.nD Cert.MlpUpRefIdeal.τ).loc Cert.MlpUpRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)) (v2 : (c : Dev Cert.KernelIdeal.nD) → Buf (Elt Ideal) ((c.tc : Thread Cert.KernelIdeal.nD Cert.KernelIdeal.τ).loc Cert.KernelIdeal.main_v44_2)) (v3 : (c : Dev Cert.KernelIdeal.nD) → Buf (Elt Ideal) ((c.tc : Thread Cert.KernelIdeal.nD Cert.KernelIdeal.τ).loc Cert.KernelIdeal.main_v44_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_v44_2) = v2 c
          ∧ r.2.mem ((c.tc : Thread Cert.KernelIdeal.nD Cert.KernelIdeal.τ).loc Cert.KernelIdeal.main_v44_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v92) = v2 c
          ∧ r.2.mem ((c.tc : Thread Cert.ReferenceIdeal.nD Cert.ReferenceIdeal.τ).loc Cert.ReferenceIdeal.main_v96) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Dact_DactIdeal : Prop :=
  True

def algebraic_DactIdeal_DactRefIdeal [hDactIdeal : Cert.DactIdeal.Facts] [hDactRefIdeal : Cert.DactRefIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)
      ∧ m' ((c.tc : Thread Cert.DactRefIdeal.nD Cert.DactRefIdeal.τ).loc Cert.DactRefIdeal.main_arg2) = m ((c.tc : Thread Cert.DactIdeal.nD Cert.DactIdeal.τ).loc Cert.DactIdeal.main_arg2)) →
    ∃ (v0 : (c : Dev Cert.DactIdeal.nD) → Buf (Elt Ideal) ((c.tc : Thread Cert.DactIdeal.nD Cert.DactIdeal.τ).loc Cert.DactIdeal.main_v5)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v5) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v12) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1)
          ∧ r.2.mem ((c.tc : Thread Cert.DactRefIdeal.nD Cert.DactRefIdeal.τ).loc Cert.DactRefIdeal.main_arg2) = m' ((c.tc : Thread Cert.DactRefIdeal.nD Cert.DactRefIdeal.τ).loc Cert.DactRefIdeal.main_arg2))

def preserves_Dnorm_DnormIdeal : Prop :=
  True

def algebraic_DnormIdeal_DnormRefIdeal_pre_finite_dnorm [hDnormIdeal : Cert.DnormIdeal.Facts] [hDnormRefIdeal : Cert.DnormRefIdeal.Facts] [hPre_finite_dnorm : Cert.Pre_finite_dnorm.Facts] : Prop :=
  ∀ (m : (ℓ : Loc Cert.DnormIdeal.nD Cert.DnormIdeal.τ Cert.DnormIdeal.sig) → Buf (Elt Ideal) ℓ) (g : Dev Cert.DnormIdeal.nD → PrngReg)
    (m' : (ℓ : Loc Cert.DnormRefIdeal.nD Cert.DnormRefIdeal.τ Cert.DnormRefIdeal.sig) → Buf (Elt Ideal) ℓ) (g' : Dev Cert.DnormRefIdeal.nD → PrngReg), Pre_DnormIdeal_finite_dnorm m →
    (∀ c : Dev Cert.DnormIdeal.nD,
      m' ((c.tc : Thread Cert.DnormRefIdeal.nD Cert.DnormRefIdeal.τ).loc Cert.DnormRefIdeal.main_arg0) = m ((c.tc : Thread Cert.DnormIdeal.nD Cert.DnormIdeal.τ).loc Cert.DnormIdeal.main_arg0)
      ∧ m' ((c.tc : Thread Cert.DnormRefIdeal.nD Cert.DnormRefIdeal.τ).loc Cert.DnormRefIdeal.main_arg1) = m ((c.tc : Thread Cert.DnormIdeal.nD Cert.DnormIdeal.τ).loc Cert.DnormIdeal.main_arg1)
      ∧ m' ((c.tc : Thread Cert.DnormRefIdeal.nD Cert.DnormRefIdeal.τ).loc Cert.DnormRefIdeal.main_arg2) = m ((c.tc : Thread Cert.DnormIdeal.nD Cert.DnormIdeal.τ).loc Cert.DnormIdeal.main_arg2)
      ∧ m' ((c.tc : Thread Cert.DnormRefIdeal.nD Cert.DnormRefIdeal.τ).loc Cert.DnormRefIdeal.main_arg3) = m ((c.tc : Thread Cert.DnormIdeal.nD Cert.DnormIdeal.τ).loc Cert.DnormIdeal.main_arg3)
      ∧ m' ((c.tc : Thread Cert.DnormRefIdeal.nD Cert.DnormRefIdeal.τ).loc Cert.DnormRefIdeal.main_arg4) = m ((c.tc : Thread Cert.DnormIdeal.nD Cert.DnormIdeal.τ).loc Cert.DnormIdeal.main_arg4)) →
    ∃ (v0 : (c : Dev Cert.DnormIdeal.nD) → Buf (Elt Ideal) ((c.tc : Thread Cert.DnormIdeal.nD Cert.DnormIdeal.τ).loc Cert.DnormIdeal.main_v5_0)) (v1 : (c : Dev Cert.DnormIdeal.nD) → Buf (Elt Ideal) ((c.tc : Thread Cert.DnormIdeal.nD Cert.DnormIdeal.τ).loc Cert.DnormIdeal.main_v5_1)),
      θ_run (Cert.DnormIdeal.defs (F := Ideal)) (onTc (τ := Cert.DnormIdeal.τ) (Cert.DnormIdeal.main (F := Ideal))) ⟨m, fun _ => 0, g⟩ (fun r => ∀ c : Dev Cert.DnormIdeal.nD,
          r.2.mem ((c.tc : Thread Cert.DnormIdeal.nD Cert.DnormIdeal.τ).loc Cert.DnormIdeal.main_v5_0) = v0 c
          ∧ r.2.mem ((c.tc : Thread Cert.DnormIdeal.nD Cert.DnormIdeal.τ).loc Cert.DnormIdeal.main_v5_1) = v1 c
          ∧ r.2.mem ((c.tc : Thread Cert.DnormIdeal.nD Cert.DnormIdeal.τ).loc Cert.DnormIdeal.main_arg0) = m ((c.tc : Thread Cert.DnormIdeal.nD Cert.DnormIdeal.τ).loc Cert.DnormIdeal.main_arg0)
          ∧ r.2.mem ((c.tc : Thread Cert.DnormIdeal.nD Cert.DnormIdeal.τ).loc Cert.DnormIdeal.main_arg1) = m ((c.tc : Thread Cert.DnormIdeal.nD Cert.DnormIdeal.τ).loc Cert.DnormIdeal.main_arg1)
          ∧ r.2.mem ((c.tc : Thread Cert.DnormIdeal.nD Cert.DnormIdeal.τ).loc Cert.DnormIdeal.main_arg2) = m ((c.tc : Thread Cert.DnormIdeal.nD Cert.DnormIdeal.τ).loc Cert.DnormIdeal.main_arg2)
          ∧ r.2.mem ((c.tc : Thread Cert.DnormIdeal.nD Cert.DnormIdeal.τ).loc Cert.DnormIdeal.main_arg3) = m ((c.tc : Thread Cert.DnormIdeal.nD Cert.DnormIdeal.τ).loc Cert.DnormIdeal.main_arg3)
          ∧ r.2.mem ((c.tc : Thread Cert.DnormIdeal.nD Cert.DnormIdeal.τ).loc Cert.DnormIdeal.main_arg4) = m ((c.tc : Thread Cert.DnormIdeal.nD Cert.DnormIdeal.τ).loc Cert.DnormIdeal.main_arg4))
      ∧ θ_run (Cert.DnormRefIdeal.defs (F := Ideal)) (onTc (τ := Cert.DnormRefIdeal.τ) (Cert.DnormRefIdeal.main (F := Ideal))) ⟨m', fun _ => 0, g'⟩ (fun r => ∀ c : Dev Cert.DnormRefIdeal.nD,
          r.2.mem ((c.tc : Thread Cert.DnormRefIdeal.nD Cert.DnormRefIdeal.τ).loc Cert.DnormRefIdeal.main_v38) = v0 c
          ∧ r.2.mem ((c.tc : Thread Cert.DnormRefIdeal.nD Cert.DnormRefIdeal.τ).loc Cert.DnormRefIdeal.main_v40) = v1 c
          ∧ r.2.mem ((c.tc : Thread Cert.DnormRefIdeal.nD Cert.DnormRefIdeal.τ).loc Cert.DnormRefIdeal.main_arg0) = m' ((c.tc : Thread Cert.DnormRefIdeal.nD Cert.DnormRefIdeal.τ).loc Cert.DnormRefIdeal.main_arg0)
          ∧ r.2.mem ((c.tc : Thread Cert.DnormRefIdeal.nD Cert.DnormRefIdeal.τ).loc Cert.DnormRefIdeal.main_arg1) = m' ((c.tc : Thread Cert.DnormRefIdeal.nD Cert.DnormRefIdeal.τ).loc Cert.DnormRefIdeal.main_arg1)
          ∧ r.2.mem ((c.tc : Thread Cert.DnormRefIdeal.nD Cert.DnormRefIdeal.τ).loc Cert.DnormRefIdeal.main_arg2) = m' ((c.tc : Thread Cert.DnormRefIdeal.nD Cert.DnormRefIdeal.τ).loc Cert.DnormRefIdeal.main_arg2)
          ∧ r.2.mem ((c.tc : Thread Cert.DnormRefIdeal.nD Cert.DnormRefIdeal.τ).loc Cert.DnormRefIdeal.main_arg3) = m' ((c.tc : Thread Cert.DnormRefIdeal.nD Cert.DnormRefIdeal.τ).loc Cert.DnormRefIdeal.main_arg3)
          ∧ r.2.mem ((c.tc : Thread Cert.DnormRefIdeal.nD Cert.DnormRefIdeal.τ).loc Cert.DnormRefIdeal.main_arg4) = m' ((c.tc : Thread Cert.DnormRefIdeal.nD Cert.DnormRefIdeal.τ).loc Cert.DnormRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_GradDown_GradDownIdeal : Prop :=
  True

def algebraic_GradDownIdeal_GradDownRefIdeal [hGradDownIdeal : Cert.GradDownIdeal.Facts] [hGradDownRefIdeal : Cert.GradDownRefIdeal.Facts] [hPre_half_graddown : Cert.Pre_half_graddown.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.GradDownRefIdeal.nD Cert.GradDownRefIdeal.τ Cert.GradDownRefIdeal.sig) → Buf (Elt Ideal) ℓ) (g' : Dev Cert.GradDownRefIdeal.nD → PrngReg), Pre_GradDownIdeal m →
    (∀ c : Dev Cert.GradDownIdeal.nD,
      m' ((c.tc : Thread Cert.GradDownRefIdeal.nD Cert.GradDownRefIdeal.τ).loc Cert.GradDownRefIdeal.main_arg0) = m ((c.tc : Thread Cert.GradDownIdeal.nD Cert.GradDownIdeal.τ).loc Cert.GradDownIdeal.main_arg0)
      ∧ m' ((c.tc : Thread Cert.GradDownRefIdeal.nD Cert.GradDownRefIdeal.τ).loc Cert.GradDownRefIdeal.main_arg1) = m ((c.tc : Thread Cert.GradDownIdeal.nD Cert.GradDownIdeal.τ).loc Cert.GradDownIdeal.main_arg1)
      ∧ m' ((c.tc : Thread Cert.GradDownRefIdeal.nD Cert.GradDownRefIdeal.τ).loc Cert.GradDownRefIdeal.main_arg2) = m ((c.tc : Thread Cert.GradDownIdeal.nD Cert.GradDownIdeal.τ).loc Cert.GradDownIdeal.main_arg2)) →
    ∃ (v0 : (c : Dev Cert.GradDownIdeal.nD) → Buf (Elt Ideal) ((c.tc : Thread Cert.GradDownIdeal.nD Cert.GradDownIdeal.τ).loc Cert.GradDownIdeal.main_v2)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v2) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1)
          ∧ r.2.mem ((c.tc : Thread Cert.GradDownIdeal.nD Cert.GradDownIdeal.τ).loc Cert.GradDownIdeal.main_arg2) = m ((c.tc : Thread Cert.GradDownIdeal.nD Cert.GradDownIdeal.τ).loc Cert.GradDownIdeal.main_arg2))
      ∧ θ_run (Cert.GradDownRefIdeal.defs (F := Ideal)) (onTc (τ := Cert.GradDownRefIdeal.τ) (Cert.GradDownRefIdeal.main (F := Ideal))) ⟨m', fun _ => 0, g'⟩ (fun r => ∀ c : Dev Cert.GradDownRefIdeal.nD,
          r.2.mem ((c.tc : Thread Cert.GradDownRefIdeal.nD Cert.GradDownRefIdeal.τ).loc Cert.GradDownRefIdeal.main_v12) = v0 c
          ∧ r.2.mem ((c.tc : Thread Cert.GradDownRefIdeal.nD Cert.GradDownRefIdeal.τ).loc Cert.GradDownRefIdeal.main_arg0) = m' ((c.tc : Thread Cert.GradDownRefIdeal.nD Cert.GradDownRefIdeal.τ).loc Cert.GradDownRefIdeal.main_arg0)
          ∧ r.2.mem ((c.tc : Thread Cert.GradDownRefIdeal.nD Cert.GradDownRefIdeal.τ).loc Cert.GradDownRefIdeal.main_arg1) = m' ((c.tc : Thread Cert.GradDownRefIdeal.nD Cert.GradDownRefIdeal.τ).loc Cert.GradDownRefIdeal.main_arg1)
          ∧ r.2.mem ((c.tc : Thread Cert.GradDownRefIdeal.nD Cert.GradDownRefIdeal.τ).loc Cert.GradDownRefIdeal.main_arg2) = m' ((c.tc : Thread Cert.GradDownRefIdeal.nD Cert.GradDownRefIdeal.τ).loc Cert.GradDownRefIdeal.main_arg2))

def preserves_GradDownAdd_GradDownAddIdeal : Prop :=
  True

def algebraic_GradDownAddIdeal_GradDownAddRefIdeal [hGradDownAddIdeal : Cert.GradDownAddIdeal.Facts] [hGradDownAddRefIdeal : Cert.GradDownAddRefIdeal.Facts] [hPre_half_graddownadd : Cert.Pre_half_graddownadd.Facts] : Prop :=
  ∀ (m : (ℓ : Loc Cert.GradDownAddIdeal.nD Cert.GradDownAddIdeal.τ Cert.GradDownAddIdeal.sig) → Buf (Elt Ideal) ℓ) (g : Dev Cert.GradDownAddIdeal.nD → PrngReg)
    (m' : (ℓ : Loc Cert.GradDownAddRefIdeal.nD Cert.GradDownAddRefIdeal.τ Cert.GradDownAddRefIdeal.sig) → Buf (Elt Ideal) ℓ) (g' : Dev Cert.GradDownAddRefIdeal.nD → PrngReg), Pre_GradDownAddIdeal m →
    (∀ c : Dev Cert.GradDownAddIdeal.nD,
      m' ((c.tc : Thread Cert.GradDownAddRefIdeal.nD Cert.GradDownAddRefIdeal.τ).loc Cert.GradDownAddRefIdeal.main_arg0) = m ((c.tc : Thread Cert.GradDownAddIdeal.nD Cert.GradDownAddIdeal.τ).loc Cert.GradDownAddIdeal.main_arg0)
      ∧ m' ((c.tc : Thread Cert.GradDownAddRefIdeal.nD Cert.GradDownAddRefIdeal.τ).loc Cert.GradDownAddRefIdeal.main_arg1) = m ((c.tc : Thread Cert.GradDownAddIdeal.nD Cert.GradDownAddIdeal.τ).loc Cert.GradDownAddIdeal.main_arg1)
      ∧ m' ((c.tc : Thread Cert.GradDownAddRefIdeal.nD Cert.GradDownAddRefIdeal.τ).loc Cert.GradDownAddRefIdeal.main_arg2) = m ((c.tc : Thread Cert.GradDownAddIdeal.nD Cert.GradDownAddIdeal.τ).loc Cert.GradDownAddIdeal.main_arg2)
      ∧ m' ((c.tc : Thread Cert.GradDownAddRefIdeal.nD Cert.GradDownAddRefIdeal.τ).loc Cert.GradDownAddRefIdeal.main_arg3) = m ((c.tc : Thread Cert.GradDownAddIdeal.nD Cert.GradDownAddIdeal.τ).loc Cert.GradDownAddIdeal.main_arg3)) →
    ∃ (v0 : (c : Dev Cert.GradDownAddIdeal.nD) → Buf (Elt Ideal) ((c.tc : Thread Cert.GradDownAddIdeal.nD Cert.GradDownAddIdeal.τ).loc Cert.GradDownAddIdeal.main_v2)),
      θ_run (Cert.GradDownAddIdeal.defs (F := Ideal)) (onTc (τ := Cert.GradDownAddIdeal.τ) (Cert.GradDownAddIdeal.main (F := Ideal))) ⟨m, fun _ => 0, g⟩ (fun r => ∀ c : Dev Cert.GradDownAddIdeal.nD,
          r.2.mem ((c.tc : Thread Cert.GradDownAddIdeal.nD Cert.GradDownAddIdeal.τ).loc Cert.GradDownAddIdeal.main_v2) = v0 c
          ∧ r.2.mem ((c.tc : Thread Cert.GradDownAddIdeal.nD Cert.GradDownAddIdeal.τ).loc Cert.GradDownAddIdeal.main_arg0) = m ((c.tc : Thread Cert.GradDownAddIdeal.nD Cert.GradDownAddIdeal.τ).loc Cert.GradDownAddIdeal.main_arg0)
          ∧ r.2.mem ((c.tc : Thread Cert.GradDownAddIdeal.nD Cert.GradDownAddIdeal.τ).loc Cert.GradDownAddIdeal.main_arg1) = m ((c.tc : Thread Cert.GradDownAddIdeal.nD Cert.GradDownAddIdeal.τ).loc Cert.GradDownAddIdeal.main_arg1)
          ∧ r.2.mem ((c.tc : Thread Cert.GradDownAddIdeal.nD Cert.GradDownAddIdeal.τ).loc Cert.GradDownAddIdeal.main_arg2) = m ((c.tc : Thread Cert.GradDownAddIdeal.nD Cert.GradDownAddIdeal.τ).loc Cert.GradDownAddIdeal.main_arg2)
          ∧ r.2.mem ((c.tc : Thread Cert.GradDownAddIdeal.nD Cert.GradDownAddIdeal.τ).loc Cert.GradDownAddIdeal.main_arg3) = m ((c.tc : Thread Cert.GradDownAddIdeal.nD Cert.GradDownAddIdeal.τ).loc Cert.GradDownAddIdeal.main_arg3))
      ∧ θ_run (Cert.GradDownAddRefIdeal.defs (F := Ideal)) (onTc (τ := Cert.GradDownAddRefIdeal.τ) (Cert.GradDownAddRefIdeal.main (F := Ideal))) ⟨m', fun _ => 0, g'⟩ (fun r => ∀ c : Dev Cert.GradDownAddRefIdeal.nD,
          r.2.mem ((c.tc : Thread Cert.GradDownAddRefIdeal.nD Cert.GradDownAddRefIdeal.τ).loc Cert.GradDownAddRefIdeal.main_v14) = v0 c
          ∧ r.2.mem ((c.tc : Thread Cert.GradDownAddRefIdeal.nD Cert.GradDownAddRefIdeal.τ).loc Cert.GradDownAddRefIdeal.main_arg0) = m' ((c.tc : Thread Cert.GradDownAddRefIdeal.nD Cert.GradDownAddRefIdeal.τ).loc Cert.GradDownAddRefIdeal.main_arg0)
          ∧ r.2.mem ((c.tc : Thread Cert.GradDownAddRefIdeal.nD Cert.GradDownAddRefIdeal.τ).loc Cert.GradDownAddRefIdeal.main_arg1) = m' ((c.tc : Thread Cert.GradDownAddRefIdeal.nD Cert.GradDownAddRefIdeal.τ).loc Cert.GradDownAddRefIdeal.main_arg1)
          ∧ r.2.mem ((c.tc : Thread Cert.GradDownAddRefIdeal.nD Cert.GradDownAddRefIdeal.τ).loc Cert.GradDownAddRefIdeal.main_arg2) = m' ((c.tc : Thread Cert.GradDownAddRefIdeal.nD Cert.GradDownAddRefIdeal.τ).loc Cert.GradDownAddRefIdeal.main_arg2)
          ∧ r.2.mem ((c.tc : Thread Cert.GradDownAddRefIdeal.nD Cert.GradDownAddRefIdeal.τ).loc Cert.GradDownAddRefIdeal.main_arg3) = m' ((c.tc : Thread Cert.GradDownAddRefIdeal.nD Cert.GradDownAddRefIdeal.τ).loc Cert.GradDownAddRefIdeal.main_arg3))

def preserves_GradUp_GradUpIdeal : Prop :=
  True

def algebraic_GradUpIdeal_GradUpRefIdeal [hGradUpIdeal : Cert.GradUpIdeal.Facts] [hGradUpRefIdeal : Cert.GradUpRefIdeal.Facts] [hPre_half_gradup : Cert.Pre_half_gradup.Facts] : Prop :=
  ∀ (m : (ℓ : Loc Cert.GradUpIdeal.nD Cert.GradUpIdeal.τ Cert.GradUpIdeal.sig) → Buf (Elt Ideal) ℓ) (g : Dev Cert.GradUpIdeal.nD → PrngReg)
    (m' : (ℓ : Loc Cert.GradUpRefIdeal.nD Cert.GradUpRefIdeal.τ Cert.GradUpRefIdeal.sig) → Buf (Elt Ideal) ℓ) (g' : Dev Cert.GradUpRefIdeal.nD → PrngReg), Pre_GradUpIdeal m →
    (∀ c : Dev Cert.GradUpIdeal.nD,
      m' ((c.tc : Thread Cert.GradUpRefIdeal.nD Cert.GradUpRefIdeal.τ).loc Cert.GradUpRefIdeal.main_arg0) = m ((c.tc : Thread Cert.GradUpIdeal.nD Cert.GradUpIdeal.τ).loc Cert.GradUpIdeal.main_arg0)
      ∧ m' ((c.tc : Thread Cert.GradUpRefIdeal.nD Cert.GradUpRefIdeal.τ).loc Cert.GradUpRefIdeal.main_arg1) = m ((c.tc : Thread Cert.GradUpIdeal.nD Cert.GradUpIdeal.τ).loc Cert.GradUpIdeal.main_arg1)
      ∧ m' ((c.tc : Thread Cert.GradUpRefIdeal.nD Cert.GradUpRefIdeal.τ).loc Cert.GradUpRefIdeal.main_arg2) = m ((c.tc : Thread Cert.GradUpIdeal.nD Cert.GradUpIdeal.τ).loc Cert.GradUpIdeal.main_arg2)) →
    ∃ (v0 : (c : Dev Cert.GradUpIdeal.nD) → Buf (Elt Ideal) ((c.tc : Thread Cert.GradUpIdeal.nD Cert.GradUpIdeal.τ).loc Cert.GradUpIdeal.main_v2)),
      θ_run (Cert.GradUpIdeal.defs (F := Ideal)) (onTc (τ := Cert.GradUpIdeal.τ) (Cert.GradUpIdeal.main (F := Ideal))) ⟨m, fun _ => 0, g⟩ (fun r => ∀ c : Dev Cert.GradUpIdeal.nD,
          r.2.mem ((c.tc : Thread Cert.GradUpIdeal.nD Cert.GradUpIdeal.τ).loc Cert.GradUpIdeal.main_v2) = v0 c
          ∧ r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
          ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1)
          ∧ r.2.mem ((c.tc : Thread Cert.GradUpIdeal.nD Cert.GradUpIdeal.τ).loc Cert.GradUpIdeal.main_arg2) = m ((c.tc : Thread Cert.GradUpIdeal.nD Cert.GradUpIdeal.τ).loc Cert.GradUpIdeal.main_arg2))
      ∧ θ_run (Cert.GradUpRefIdeal.defs (F := Ideal)) (onTc (τ := Cert.GradUpRefIdeal.τ) (Cert.GradUpRefIdeal.main (F := Ideal))) ⟨m', fun _ => 0, g'⟩ (fun r => ∀ c : Dev Cert.GradUpRefIdeal.nD,
          r.2.mem ((c.tc : Thread Cert.GradUpRefIdeal.nD Cert.GradUpRefIdeal.τ).loc Cert.GradUpRefIdeal.main_v13) = v0 c
          ∧ r.2.mem ((c.tc : Thread Cert.GradUpRefIdeal.nD Cert.GradUpRefIdeal.τ).loc Cert.GradUpRefIdeal.main_arg0) = m' ((c.tc : Thread Cert.GradUpRefIdeal.nD Cert.GradUpRefIdeal.τ).loc Cert.GradUpRefIdeal.main_arg0)
          ∧ r.2.mem ((c.tc : Thread Cert.GradUpRefIdeal.nD Cert.GradUpRefIdeal.τ).loc Cert.GradUpRefIdeal.main_arg1) = m' ((c.tc : Thread Cert.GradUpRefIdeal.nD Cert.GradUpRefIdeal.τ).loc Cert.GradUpRefIdeal.main_arg1)
          ∧ r.2.mem ((c.tc : Thread Cert.GradUpRefIdeal.nD Cert.GradUpRefIdeal.τ).loc Cert.GradUpRefIdeal.main_arg2) = m' ((c.tc : Thread Cert.GradUpRefIdeal.nD Cert.GradUpRefIdeal.τ).loc Cert.GradUpRefIdeal.main_arg2))

def preserves_GradUpAdd_GradUpAddIdeal : Prop :=
  True

def algebraic_GradUpAddIdeal_GradUpAddRefIdeal [hGradUpAddIdeal : Cert.GradUpAddIdeal.Facts] [hGradUpAddRefIdeal : Cert.GradUpAddRefIdeal.Facts] [hPre_half_gradupadd : Cert.Pre_half_gradupadd.Facts] : Prop :=
  ∀ (m : (ℓ : Loc Cert.GradUpAddIdeal.nD Cert.GradUpAddIdeal.τ Cert.GradUpAddIdeal.sig) → Buf (Elt Ideal) ℓ) (g : Dev Cert.GradUpAddIdeal.nD → PrngReg)
    (m' : (ℓ : Loc Cert.GradUpAddRefIdeal.nD Cert.GradUpAddRefIdeal.τ Cert.GradUpAddRefIdeal.sig) → Buf (Elt Ideal) ℓ) (g' : Dev Cert.GradUpAddRefIdeal.nD → PrngReg), Pre_GradUpAddIdeal m →
    (∀ c : Dev Cert.GradUpAddIdeal.nD,
      m' ((c.tc : Thread Cert.GradUpAddRefIdeal.nD Cert.GradUpAddRefIdeal.τ).loc Cert.GradUpAddRefIdeal.main_arg0) = m ((c.tc : Thread Cert.GradUpAddIdeal.nD Cert.GradUpAddIdeal.τ).loc Cert.GradUpAddIdeal.main_arg0)
      ∧ m' ((c.tc : Thread Cert.GradUpAddRefIdeal.nD Cert.GradUpAddRefIdeal.τ).loc Cert.GradUpAddRefIdeal.main_arg1) = m ((c.tc : Thread Cert.GradUpAddIdeal.nD Cert.GradUpAddIdeal.τ).loc Cert.GradUpAddIdeal.main_arg1)
      ∧ m' ((c.tc : Thread Cert.GradUpAddRefIdeal.nD Cert.GradUpAddRefIdeal.τ).loc Cert.GradUpAddRefIdeal.main_arg2) = m ((c.tc : Thread Cert.GradUpAddIdeal.nD Cert.GradUpAddIdeal.τ).loc Cert.GradUpAddIdeal.main_arg2)
      ∧ m' ((c.tc : Thread Cert.GradUpAddRefIdeal.nD Cert.GradUpAddRefIdeal.τ).loc Cert.GradUpAddRefIdeal.main_arg3) = m ((c.tc : Thread Cert.GradUpAddIdeal.nD Cert.GradUpAddIdeal.τ).loc Cert.GradUpAddIdeal.main_arg3)) →
    ∃ (v0 : (c : Dev Cert.GradUpAddIdeal.nD) → Buf (Elt Ideal) ((c.tc : Thread Cert.GradUpAddIdeal.nD Cert.GradUpAddIdeal.τ).loc Cert.GradUpAddIdeal.main_v2)),
      θ_run (Cert.GradUpAddIdeal.defs (F := Ideal)) (onTc (τ := Cert.GradUpAddIdeal.τ) (Cert.GradUpAddIdeal.main (F := Ideal))) ⟨m, fun _ => 0, g⟩ (fun r => ∀ c : Dev Cert.GradUpAddIdeal.nD,
          r.2.mem ((c.tc : Thread Cert.GradUpAddIdeal.nD Cert.GradUpAddIdeal.τ).loc Cert.GradUpAddIdeal.main_v2) = v0 c
          ∧ r.2.mem ((c.tc : Thread Cert.GradUpAddIdeal.nD Cert.GradUpAddIdeal.τ).loc Cert.GradUpAddIdeal.main_arg0) = m ((c.tc : Thread Cert.GradUpAddIdeal.nD Cert.GradUpAddIdeal.τ).loc Cert.GradUpAddIdeal.main_arg0)
          ∧ r.2.mem ((c.tc : Thread Cert.GradUpAddIdeal.nD Cert.GradUpAddIdeal.τ).loc Cert.GradUpAddIdeal.main_arg1) = m ((c.tc : Thread Cert.GradUpAddIdeal.nD Cert.GradUpAddIdeal.τ).loc Cert.GradUpAddIdeal.main_arg1)
          ∧ r.2.mem ((c.tc : Thread Cert.GradUpAddIdeal.nD Cert.GradUpAddIdeal.τ).loc Cert.GradUpAddIdeal.main_arg2) = m ((c.tc : Thread Cert.GradUpAddIdeal.nD Cert.GradUpAddIdeal.τ).loc Cert.GradUpAddIdeal.main_arg2)
          ∧ r.2.mem ((c.tc : Thread Cert.GradUpAddIdeal.nD Cert.GradUpAddIdeal.τ).loc Cert.GradUpAddIdeal.main_arg3) = m ((c.tc : Thread Cert.GradUpAddIdeal.nD Cert.GradUpAddIdeal.τ).loc Cert.GradUpAddIdeal.main_arg3))
      ∧ θ_run (Cert.GradUpAddRefIdeal.defs (F := Ideal)) (onTc (τ := Cert.GradUpAddRefIdeal.τ) (Cert.GradUpAddRefIdeal.main (F := Ideal))) ⟨m', fun _ => 0, g'⟩ (fun r => ∀ c : Dev Cert.GradUpAddRefIdeal.nD,
          r.2.mem ((c.tc : Thread Cert.GradUpAddRefIdeal.nD Cert.GradUpAddRefIdeal.τ).loc Cert.GradUpAddRefIdeal.main_v15) = v0 c
          ∧ r.2.mem ((c.tc : Thread Cert.GradUpAddRefIdeal.nD Cert.GradUpAddRefIdeal.τ).loc Cert.GradUpAddRefIdeal.main_arg0) = m' ((c.tc : Thread Cert.GradUpAddRefIdeal.nD Cert.GradUpAddRefIdeal.τ).loc Cert.GradUpAddRefIdeal.main_arg0)
          ∧ r.2.mem ((c.tc : Thread Cert.GradUpAddRefIdeal.nD Cert.GradUpAddRefIdeal.τ).loc Cert.GradUpAddRefIdeal.main_arg1) = m' ((c.tc : Thread Cert.GradUpAddRefIdeal.nD Cert.GradUpAddRefIdeal.τ).loc Cert.GradUpAddRefIdeal.main_arg1)
          ∧ r.2.mem ((c.tc : Thread Cert.GradUpAddRefIdeal.nD Cert.GradUpAddRefIdeal.τ).loc Cert.GradUpAddRefIdeal.main_arg2) = m' ((c.tc : Thread Cert.GradUpAddRefIdeal.nD Cert.GradUpAddRefIdeal.τ).loc Cert.GradUpAddRefIdeal.main_arg2)
          ∧ r.2.mem ((c.tc : Thread Cert.GradUpAddRefIdeal.nD Cert.GradUpAddRefIdeal.τ).loc Cert.GradUpAddRefIdeal.main_arg3) = m' ((c.tc : Thread Cert.GradUpAddRefIdeal.nD Cert.GradUpAddRefIdeal.τ).loc Cert.GradUpAddRefIdeal.main_arg3))

def preserves_GradOut_GradOutIdeal : Prop :=
  True

def algebraic_GradOutIdeal_GradOutRefIdeal [hGradOutIdeal : Cert.GradOutIdeal.Facts] [hGradOutRefIdeal : Cert.GradOutRefIdeal.Facts] [hPre_half_gradout : Cert.Pre_half_gradout.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutRefIdeal.nD Cert.GradOutRefIdeal.τ Cert.GradOutRefIdeal.sig) → Buf (Elt Ideal) ℓ) (g' : Dev Cert.GradOutRefIdeal.nD → PrngReg), Pre_GradOutIdeal m →
    (∀ c : Dev Cert.GradOutIdeal.nD,
      m' ((c.tc : Thread Cert.GradOutRefIdeal.nD Cert.GradOutRefIdeal.τ).loc Cert.GradOutRefIdeal.main_arg0) = m ((c.tc : Thread Cert.GradOutIdeal.nD Cert.GradOutIdeal.τ).loc Cert.GradOutIdeal.main_arg0)
      ∧ m' ((c.tc : Thread Cert.GradOutRefIdeal.nD Cert.GradOutRefIdeal.τ).loc Cert.GradOutRefIdeal.main_arg1) = m ((c.tc : Thread Cert.GradOutIdeal.nD Cert.GradOutIdeal.τ).loc Cert.GradOutIdeal.main_arg1)
      ∧ m' ((c.tc : Thread Cert.GradOutRefIdeal.nD Cert.GradOutRefIdeal.τ).loc Cert.GradOutRefIdeal.main_arg2) = m ((c.tc : Thread Cert.GradOutIdeal.nD Cert.GradOutIdeal.τ).loc Cert.GradOutIdeal.main_arg2)) →
    ∃ (v0 : (c : Dev Cert.GradOutIdeal.nD) → Buf (Elt Ideal) ((c.tc : Thread Cert.GradOutIdeal.nD Cert.GradOutIdeal.τ).loc Cert.GradOutIdeal.main_v2)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v2) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1)
          ∧ r.2.mem ((c.tc : Thread Cert.GradOutIdeal.nD Cert.GradOutIdeal.τ).loc Cert.GradOutIdeal.main_arg2) = m ((c.tc : Thread Cert.GradOutIdeal.nD Cert.GradOutIdeal.τ).loc Cert.GradOutIdeal.main_arg2))
      ∧ θ_run (Cert.GradOutRefIdeal.defs (F := Ideal)) (onTc (τ := Cert.GradOutRefIdeal.τ) (Cert.GradOutRefIdeal.main (F := Ideal))) ⟨m', fun _ => 0, g'⟩ (fun r => ∀ c : Dev Cert.GradOutRefIdeal.nD,
          r.2.mem ((c.tc : Thread Cert.GradOutRefIdeal.nD Cert.GradOutRefIdeal.τ).loc Cert.GradOutRefIdeal.main_v12) = v0 c
          ∧ r.2.mem ((c.tc : Thread Cert.GradOutRefIdeal.nD Cert.GradOutRefIdeal.τ).loc Cert.GradOutRefIdeal.main_arg0) = m' ((c.tc : Thread Cert.GradOutRefIdeal.nD Cert.GradOutRefIdeal.τ).loc Cert.GradOutRefIdeal.main_arg0)
          ∧ r.2.mem ((c.tc : Thread Cert.GradOutRefIdeal.nD Cert.GradOutRefIdeal.τ).loc Cert.GradOutRefIdeal.main_arg1) = m' ((c.tc : Thread Cert.GradOutRefIdeal.nD Cert.GradOutRefIdeal.τ).loc Cert.GradOutRefIdeal.main_arg1)
          ∧ r.2.mem ((c.tc : Thread Cert.GradOutRefIdeal.nD Cert.GradOutRefIdeal.τ).loc Cert.GradOutRefIdeal.main_arg2) = m' ((c.tc : Thread Cert.GradOutRefIdeal.nD Cert.GradOutRefIdeal.τ).loc Cert.GradOutRefIdeal.main_arg2))

def preserves_GradOutAdd_GradOutAddIdeal : Prop :=
  True

def algebraic_GradOutAddIdeal_GradOutAddRefIdeal [hGradOutAddIdeal : Cert.GradOutAddIdeal.Facts] [hGradOutAddRefIdeal : Cert.GradOutAddRefIdeal.Facts] [hPre_half_gradoutadd : Cert.Pre_half_gradoutadd.Facts] : Prop :=
  ∀ (m : (ℓ : Loc Cert.GradOutAddIdeal.nD Cert.GradOutAddIdeal.τ Cert.GradOutAddIdeal.sig) → Buf (Elt Ideal) ℓ) (g : Dev Cert.GradOutAddIdeal.nD → PrngReg)
    (m' : (ℓ : Loc Cert.GradOutAddRefIdeal.nD Cert.GradOutAddRefIdeal.τ Cert.GradOutAddRefIdeal.sig) → Buf (Elt Ideal) ℓ) (g' : Dev Cert.GradOutAddRefIdeal.nD → PrngReg), Pre_GradOutAddIdeal m →
    (∀ c : Dev Cert.GradOutAddIdeal.nD,
      m' ((c.tc : Thread Cert.GradOutAddRefIdeal.nD Cert.GradOutAddRefIdeal.τ).loc Cert.GradOutAddRefIdeal.main_arg0) = m ((c.tc : Thread Cert.GradOutAddIdeal.nD Cert.GradOutAddIdeal.τ).loc Cert.GradOutAddIdeal.main_arg0)
      ∧ m' ((c.tc : Thread Cert.GradOutAddRefIdeal.nD Cert.GradOutAddRefIdeal.τ).loc Cert.GradOutAddRefIdeal.main_arg1) = m ((c.tc : Thread Cert.GradOutAddIdeal.nD Cert.GradOutAddIdeal.τ).loc Cert.GradOutAddIdeal.main_arg1)
      ∧ m' ((c.tc : Thread Cert.GradOutAddRefIdeal.nD Cert.GradOutAddRefIdeal.τ).loc Cert.GradOutAddRefIdeal.main_arg2) = m ((c.tc : Thread Cert.GradOutAddIdeal.nD Cert.GradOutAddIdeal.τ).loc Cert.GradOutAddIdeal.main_arg2)
      ∧ m' ((c.tc : Thread Cert.GradOutAddRefIdeal.nD Cert.GradOutAddRefIdeal.τ).loc Cert.GradOutAddRefIdeal.main_arg3) = m ((c.tc : Thread Cert.GradOutAddIdeal.nD Cert.GradOutAddIdeal.τ).loc Cert.GradOutAddIdeal.main_arg3)) →
    ∃ (v0 : (c : Dev Cert.GradOutAddIdeal.nD) → Buf (Elt Ideal) ((c.tc : Thread Cert.GradOutAddIdeal.nD Cert.GradOutAddIdeal.τ).loc Cert.GradOutAddIdeal.main_v2)),
      θ_run (Cert.GradOutAddIdeal.defs (F := Ideal)) (onTc (τ := Cert.GradOutAddIdeal.τ) (Cert.GradOutAddIdeal.main (F := Ideal))) ⟨m, fun _ => 0, g⟩ (fun r => ∀ c : Dev Cert.GradOutAddIdeal.nD,
          r.2.mem ((c.tc : Thread Cert.GradOutAddIdeal.nD Cert.GradOutAddIdeal.τ).loc Cert.GradOutAddIdeal.main_v2) = v0 c
          ∧ r.2.mem ((c.tc : Thread Cert.GradOutAddIdeal.nD Cert.GradOutAddIdeal.τ).loc Cert.GradOutAddIdeal.main_arg0) = m ((c.tc : Thread Cert.GradOutAddIdeal.nD Cert.GradOutAddIdeal.τ).loc Cert.GradOutAddIdeal.main_arg0)
          ∧ r.2.mem ((c.tc : Thread Cert.GradOutAddIdeal.nD Cert.GradOutAddIdeal.τ).loc Cert.GradOutAddIdeal.main_arg1) = m ((c.tc : Thread Cert.GradOutAddIdeal.nD Cert.GradOutAddIdeal.τ).loc Cert.GradOutAddIdeal.main_arg1)
          ∧ r.2.mem ((c.tc : Thread Cert.GradOutAddIdeal.nD Cert.GradOutAddIdeal.τ).loc Cert.GradOutAddIdeal.main_arg2) = m ((c.tc : Thread Cert.GradOutAddIdeal.nD Cert.GradOutAddIdeal.τ).loc Cert.GradOutAddIdeal.main_arg2)
          ∧ r.2.mem ((c.tc : Thread Cert.GradOutAddIdeal.nD Cert.GradOutAddIdeal.τ).loc Cert.GradOutAddIdeal.main_arg3) = m ((c.tc : Thread Cert.GradOutAddIdeal.nD Cert.GradOutAddIdeal.τ).loc Cert.GradOutAddIdeal.main_arg3))
      ∧ θ_run (Cert.GradOutAddRefIdeal.defs (F := Ideal)) (onTc (τ := Cert.GradOutAddRefIdeal.τ) (Cert.GradOutAddRefIdeal.main (F := Ideal))) ⟨m', fun _ => 0, g'⟩ (fun r => ∀ c : Dev Cert.GradOutAddRefIdeal.nD,
          r.2.mem ((c.tc : Thread Cert.GradOutAddRefIdeal.nD Cert.GradOutAddRefIdeal.τ).loc Cert.GradOutAddRefIdeal.main_v14) = v0 c
          ∧ r.2.mem ((c.tc : Thread Cert.GradOutAddRefIdeal.nD Cert.GradOutAddRefIdeal.τ).loc Cert.GradOutAddRefIdeal.main_arg0) = m' ((c.tc : Thread Cert.GradOutAddRefIdeal.nD Cert.GradOutAddRefIdeal.τ).loc Cert.GradOutAddRefIdeal.main_arg0)
          ∧ r.2.mem ((c.tc : Thread Cert.GradOutAddRefIdeal.nD Cert.GradOutAddRefIdeal.τ).loc Cert.GradOutAddRefIdeal.main_arg1) = m' ((c.tc : Thread Cert.GradOutAddRefIdeal.nD Cert.GradOutAddRefIdeal.τ).loc Cert.GradOutAddRefIdeal.main_arg1)
          ∧ r.2.mem ((c.tc : Thread Cert.GradOutAddRefIdeal.nD Cert.GradOutAddRefIdeal.τ).loc Cert.GradOutAddRefIdeal.main_arg2) = m' ((c.tc : Thread Cert.GradOutAddRefIdeal.nD Cert.GradOutAddRefIdeal.τ).loc Cert.GradOutAddRefIdeal.main_arg2)
          ∧ r.2.mem ((c.tc : Thread Cert.GradOutAddRefIdeal.nD Cert.GradOutAddRefIdeal.τ).loc Cert.GradOutAddRefIdeal.main_arg3) = m' ((c.tc : Thread Cert.GradOutAddRefIdeal.nD Cert.GradOutAddRefIdeal.τ).loc Cert.GradOutAddRefIdeal.main_arg3))

def preserves_GradIn_GradInIdeal : Prop :=
  True

def algebraic_GradInIdeal_GradInRefIdeal [hGradInIdeal : Cert.GradInIdeal.Facts] [hGradInRefIdeal : Cert.GradInRefIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInRefIdeal.nD Cert.GradInRefIdeal.τ Cert.GradInRefIdeal.sig) → Buf (Elt Ideal) ℓ) (g' : Dev Cert.GradInRefIdeal.nD → PrngReg), Pre_GradInIdeal m →
    (∀ c : Dev Cert.GradInIdeal.nD,
      m' ((c.tc : Thread Cert.GradInRefIdeal.nD Cert.GradInRefIdeal.τ).loc Cert.GradInRefIdeal.main_arg0) = m ((c.tc : Thread Cert.GradInIdeal.nD Cert.GradInIdeal.τ).loc Cert.GradInIdeal.main_arg0)
      ∧ m' ((c.tc : Thread Cert.GradInRefIdeal.nD Cert.GradInRefIdeal.τ).loc Cert.GradInRefIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v5)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v5) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.GradInRefIdeal.defs (F := Ideal)) (onTc (τ := Cert.GradInRefIdeal.τ) (Cert.GradInRefIdeal.main (F := Ideal))) ⟨m', fun _ => 0, g'⟩ (fun r => ∀ c : Dev Cert.GradInRefIdeal.nD,
          r.2.mem ((c.tc : Thread Cert.GradInRefIdeal.nD Cert.GradInRefIdeal.τ).loc Cert.GradInRefIdeal.main_v5) = v0 c
          ∧ r.2.mem ((c.tc : Thread Cert.GradInRefIdeal.nD Cert.GradInRefIdeal.τ).loc Cert.GradInRefIdeal.main_arg0) = m' ((c.tc : Thread Cert.GradInRefIdeal.nD Cert.GradInRefIdeal.τ).loc Cert.GradInRefIdeal.main_arg0)
          ∧ r.2.mem ((c.tc : Thread Cert.GradInRefIdeal.nD Cert.GradInRefIdeal.τ).loc Cert.GradInRefIdeal.main_arg1) = m' ((c.tc : Thread Cert.GradInRefIdeal.nD Cert.GradInRefIdeal.τ).loc Cert.GradInRefIdeal.main_arg1))

def preserves_InDnorm_InDnormIdeal : Prop :=
  True

def algebraic_InDnormIdeal_InDnormRefIdeal_pre_finite_indnorm [hInDnormIdeal : Cert.InDnormIdeal.Facts] [hInDnormRefIdeal : Cert.InDnormRefIdeal.Facts] [hPre_finite_indnorm : Cert.Pre_finite_indnorm.Facts] : Prop :=
  ∀ (m : (ℓ : Loc Cert.InDnormIdeal.nD Cert.InDnormIdeal.τ Cert.InDnormIdeal.sig) → Buf (Elt Ideal) ℓ) (g : Dev Cert.InDnormIdeal.nD → PrngReg)
    (m' : (ℓ : Loc Cert.InDnormRefIdeal.nD Cert.InDnormRefIdeal.τ Cert.InDnormRefIdeal.sig) → Buf (Elt Ideal) ℓ) (g' : Dev Cert.InDnormRefIdeal.nD → PrngReg), Pre_InDnormIdeal_finite_indnorm m →
    (∀ c : Dev Cert.InDnormIdeal.nD,
      m' ((c.tc : Thread Cert.InDnormRefIdeal.nD Cert.InDnormRefIdeal.τ).loc Cert.InDnormRefIdeal.main_arg0) = m ((c.tc : Thread Cert.InDnormIdeal.nD Cert.InDnormIdeal.τ).loc Cert.InDnormIdeal.main_arg0)
      ∧ m' ((c.tc : Thread Cert.InDnormRefIdeal.nD Cert.InDnormRefIdeal.τ).loc Cert.InDnormRefIdeal.main_arg1) = m ((c.tc : Thread Cert.InDnormIdeal.nD Cert.InDnormIdeal.τ).loc Cert.InDnormIdeal.main_arg1)
      ∧ m' ((c.tc : Thread Cert.InDnormRefIdeal.nD Cert.InDnormRefIdeal.τ).loc Cert.InDnormRefIdeal.main_arg2) = m ((c.tc : Thread Cert.InDnormIdeal.nD Cert.InDnormIdeal.τ).loc Cert.InDnormIdeal.main_arg2)
      ∧ m' ((c.tc : Thread Cert.InDnormRefIdeal.nD Cert.InDnormRefIdeal.τ).loc Cert.InDnormRefIdeal.main_arg3) = m ((c.tc : Thread Cert.InDnormIdeal.nD Cert.InDnormIdeal.τ).loc Cert.InDnormIdeal.main_arg3)
      ∧ m' ((c.tc : Thread Cert.InDnormRefIdeal.nD Cert.InDnormRefIdeal.τ).loc Cert.InDnormRefIdeal.main_arg4) = m ((c.tc : Thread Cert.InDnormIdeal.nD Cert.InDnormIdeal.τ).loc Cert.InDnormIdeal.main_arg4)) →
    ∃ (v0 : (c : Dev Cert.InDnormIdeal.nD) → Buf (Elt Ideal) ((c.tc : Thread Cert.InDnormIdeal.nD Cert.InDnormIdeal.τ).loc Cert.InDnormIdeal.main_v7_0)) (v1 : (c : Dev Cert.InDnormIdeal.nD) → Buf (Elt Ideal) ((c.tc : Thread Cert.InDnormIdeal.nD Cert.InDnormIdeal.τ).loc Cert.InDnormIdeal.main_v7_1)) (v2 : (c : Dev Cert.InDnormIdeal.nD) → Buf (Elt Ideal) ((c.tc : Thread Cert.InDnormIdeal.nD Cert.InDnormIdeal.τ).loc Cert.InDnormIdeal.main_v7_2)),
      θ_run (Cert.InDnormIdeal.defs (F := Ideal)) (onTc (τ := Cert.InDnormIdeal.τ) (Cert.InDnormIdeal.main (F := Ideal))) ⟨m, fun _ => 0, g⟩ (fun r => ∀ c : Dev Cert.InDnormIdeal.nD,
          r.2.mem ((c.tc : Thread Cert.InDnormIdeal.nD Cert.InDnormIdeal.τ).loc Cert.InDnormIdeal.main_v7_0) = v0 c
          ∧ r.2.mem ((c.tc : Thread Cert.InDnormIdeal.nD Cert.InDnormIdeal.τ).loc Cert.InDnormIdeal.main_v7_1) = v1 c
          ∧ r.2.mem ((c.tc : Thread Cert.InDnormIdeal.nD Cert.InDnormIdeal.τ).loc Cert.InDnormIdeal.main_v7_2) = v2 c
          ∧ r.2.mem ((c.tc : Thread Cert.InDnormIdeal.nD Cert.InDnormIdeal.τ).loc Cert.InDnormIdeal.main_arg0) = m ((c.tc : Thread Cert.InDnormIdeal.nD Cert.InDnormIdeal.τ).loc Cert.InDnormIdeal.main_arg0)
          ∧ r.2.mem ((c.tc : Thread Cert.InDnormIdeal.nD Cert.InDnormIdeal.τ).loc Cert.InDnormIdeal.main_arg1) = m ((c.tc : Thread Cert.InDnormIdeal.nD Cert.InDnormIdeal.τ).loc Cert.InDnormIdeal.main_arg1)
          ∧ r.2.mem ((c.tc : Thread Cert.InDnormIdeal.nD Cert.InDnormIdeal.τ).loc Cert.InDnormIdeal.main_arg2) = m ((c.tc : Thread Cert.InDnormIdeal.nD Cert.InDnormIdeal.τ).loc Cert.InDnormIdeal.main_arg2)
          ∧ r.2.mem ((c.tc : Thread Cert.InDnormIdeal.nD Cert.InDnormIdeal.τ).loc Cert.InDnormIdeal.main_arg3) = m ((c.tc : Thread Cert.InDnormIdeal.nD Cert.InDnormIdeal.τ).loc Cert.InDnormIdeal.main_arg3)
          ∧ r.2.mem ((c.tc : Thread Cert.InDnormIdeal.nD Cert.InDnormIdeal.τ).loc Cert.InDnormIdeal.main_arg4) = m ((c.tc : Thread Cert.InDnormIdeal.nD Cert.InDnormIdeal.τ).loc Cert.InDnormIdeal.main_arg4))
      ∧ θ_run (Cert.InDnormRefIdeal.defs (F := Ideal)) (onTc (τ := Cert.InDnormRefIdeal.τ) (Cert.InDnormRefIdeal.main (F := Ideal))) ⟨m', fun _ => 0, g'⟩ (fun r => ∀ c : Dev Cert.InDnormRefIdeal.nD,
          r.2.mem ((c.tc : Thread Cert.InDnormRefIdeal.nD Cert.InDnormRefIdeal.τ).loc Cert.InDnormRefIdeal.main_v38) = v0 c
          ∧ r.2.mem ((c.tc : Thread Cert.InDnormRefIdeal.nD Cert.InDnormRefIdeal.τ).loc Cert.InDnormRefIdeal.main_v39) = v1 c
          ∧ r.2.mem ((c.tc : Thread Cert.InDnormRefIdeal.nD Cert.InDnormRefIdeal.τ).loc Cert.InDnormRefIdeal.main_v41) = v2 c
          ∧ r.2.mem ((c.tc : Thread Cert.InDnormRefIdeal.nD Cert.InDnormRefIdeal.τ).loc Cert.InDnormRefIdeal.main_arg0) = m' ((c.tc : Thread Cert.InDnormRefIdeal.nD Cert.InDnormRefIdeal.τ).loc Cert.InDnormRefIdeal.main_arg0)
          ∧ r.2.mem ((c.tc : Thread Cert.InDnormRefIdeal.nD Cert.InDnormRefIdeal.τ).loc Cert.InDnormRefIdeal.main_arg1) = m' ((c.tc : Thread Cert.InDnormRefIdeal.nD Cert.InDnormRefIdeal.τ).loc Cert.InDnormRefIdeal.main_arg1)
          ∧ r.2.mem ((c.tc : Thread Cert.InDnormRefIdeal.nD Cert.InDnormRefIdeal.τ).loc Cert.InDnormRefIdeal.main_arg2) = m' ((c.tc : Thread Cert.InDnormRefIdeal.nD Cert.InDnormRefIdeal.τ).loc Cert.InDnormRefIdeal.main_arg2)
          ∧ r.2.mem ((c.tc : Thread Cert.InDnormRefIdeal.nD Cert.InDnormRefIdeal.τ).loc Cert.InDnormRefIdeal.main_arg3) = m' ((c.tc : Thread Cert.InDnormRefIdeal.nD Cert.InDnormRefIdeal.τ).loc Cert.InDnormRefIdeal.main_arg3)
          ∧ r.2.mem ((c.tc : Thread Cert.InDnormRefIdeal.nD Cert.InDnormRefIdeal.τ).loc Cert.InDnormRefIdeal.main_arg4) = m' ((c.tc : Thread Cert.InDnormRefIdeal.nD Cert.InDnormRefIdeal.τ).loc Cert.InDnormRefIdeal.main_arg4))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)
      ∧ m' ((c.tc : Thread Cert.MlpUpRefIdeal.nD Cert.MlpUpRefIdeal.τ).loc Cert.MlpUpRefIdeal.main_arg2) = m ((c.tc : Thread Cert.MlpUpIdeal.nD Cert.MlpUpIdeal.τ).loc Cert.MlpUpIdeal.main_arg2)) →
    ∃ (v0 : (c : Dev Cert.MlpUpIdeal.nD) → Buf (Elt Ideal) ((c.tc : Thread Cert.MlpUpIdeal.nD Cert.MlpUpIdeal.τ).loc Cert.MlpUpIdeal.main_v4_0)) (v1 : (c : Dev Cert.MlpUpIdeal.nD) → Buf (Elt Ideal) ((c.tc : Thread Cert.MlpUpIdeal.nD Cert.MlpUpIdeal.τ).loc Cert.MlpUpIdeal.main_v4_1)) (v2 : (c : Dev Cert.MlpUpIdeal.nD) → Buf (Elt Ideal) ((c.tc : Thread Cert.MlpUpIdeal.nD Cert.MlpUpIdeal.τ).loc Cert.MlpUpIdeal.main_v4_2)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v4_0) = v0 c
          ∧ r.2.mem ((c.tc : Thread Cert.MlpUpIdeal.nD Cert.MlpUpIdeal.τ).loc Cert.MlpUpIdeal.main_v4_1) = v1 c
          ∧ r.2.mem ((c.tc : Thread Cert.MlpUpIdeal.nD Cert.MlpUpIdeal.τ).loc Cert.MlpUpIdeal.main_v4_2) = v2 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
          ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v15) = v0 c
          ∧ r.2.mem ((c.tc : Thread Cert.MlpUpRefIdeal.nD Cert.MlpUpRefIdeal.τ).loc Cert.MlpUpRefIdeal.main_v17) = v1 c
          ∧ r.2.mem ((c.tc : Thread Cert.MlpUpRefIdeal.nD Cert.MlpUpRefIdeal.τ).loc Cert.MlpUpRefIdeal.main_v18) = v2 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1)
          ∧ r.2.mem ((c.tc : Thread Cert.MlpUpRefIdeal.nD Cert.MlpUpRefIdeal.τ).loc Cert.MlpUpRefIdeal.main_arg2) = m' ((c.tc : Thread Cert.MlpUpRefIdeal.nD Cert.MlpUpRefIdeal.τ).loc Cert.MlpUpRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v3_0)) (v1 : (c : Dev Cert.InProjIdeal.nD) → Buf (Elt Ideal) ((c.tc : Thread Cert.InProjIdeal.nD Cert.InProjIdeal.τ).loc Cert.InProjIdeal.main_v3_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3_0) = v0 c
          ∧ r.2.mem ((c.tc : Thread Cert.InProjIdeal.nD Cert.InProjIdeal.τ).loc Cert.InProjIdeal.main_v3_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v13) = v0 c
          ∧ r.2.mem ((c.tc : Thread Cert.InProjRefIdeal.nD Cert.InProjRefIdeal.τ).loc Cert.InProjRefIdeal.main_v14) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def Claim : Prop :=
  ∃ (hKernel : Cert.Kernel.Facts) (hKernelIdeal : Cert.KernelIdeal.Facts) (hReferenceIdeal : Cert.ReferenceIdeal.Facts) (hDact : Cert.Dact.Facts) (hDactIdeal : Cert.DactIdeal.Facts) (hDactRefIdeal : Cert.DactRefIdeal.Facts) (hDnorm : Cert.Dnorm.Facts) (hDnormIdeal : Cert.DnormIdeal.Facts) (hDnormRefIdeal : Cert.DnormRefIdeal.Facts) (hDown : Cert.Down.Facts) (hDownIdeal : Cert.DownIdeal.Facts) (hDownRefIdeal : Cert.DownRefIdeal.Facts) (hGradDown : Cert.GradDown.Facts) (hGradDownIdeal : Cert.GradDownIdeal.Facts) (hGradDownRefIdeal : Cert.GradDownRefIdeal.Facts) (hGradDownAdd : Cert.GradDownAdd.Facts) (hGradDownAddIdeal : Cert.GradDownAddIdeal.Facts) (hGradDownAddRefIdeal : Cert.GradDownAddRefIdeal.Facts) (hGradUp : Cert.GradUp.Facts) (hGradUpIdeal : Cert.GradUpIdeal.Facts) (hGradUpRefIdeal : Cert.GradUpRefIdeal.Facts) (hGradUpAdd : Cert.GradUpAdd.Facts) (hGradUpAddIdeal : Cert.GradUpAddIdeal.Facts) (hGradUpAddRefIdeal : Cert.GradUpAddRefIdeal.Facts) (hGradOut : Cert.GradOut.Facts) (hGradOutIdeal : Cert.GradOutIdeal.Facts) (hGradOutRefIdeal : Cert.GradOutRefIdeal.Facts) (hGradOutAdd : Cert.GradOutAdd.Facts) (hGradOutAddIdeal : Cert.GradOutAddIdeal.Facts) (hGradOutAddRefIdeal : Cert.GradOutAddRefIdeal.Facts) (hGradIn : Cert.GradIn.Facts) (hGradInIdeal : Cert.GradInIdeal.Facts) (hGradInRefIdeal : Cert.GradInRefIdeal.Facts) (hInDnorm : Cert.InDnorm.Facts) (hInDnormIdeal : Cert.InDnormIdeal.Facts) (hInDnormRefIdeal : Cert.InDnormRefIdeal.Facts) (hMlpUp : Cert.MlpUp.Facts) (hMlpUpIdeal : Cert.MlpUpIdeal.Facts) (hMlpUpRefIdeal : Cert.MlpUpRefIdeal.Facts) (hInProj : Cert.InProj.Facts) (hInProjIdeal : Cert.InProjIdeal.Facts) (hInProjRefIdeal : Cert.InProjRefIdeal.Facts) (hPre_finite : Cert.Pre_finite.Facts) (hPre_finite_dnorm : Cert.Pre_finite_dnorm.Facts) (hPre_half_graddown : Cert.Pre_half_graddown.Facts) (hPre_half_graddownadd : Cert.Pre_half_graddownadd.Facts) (hPre_half_gradup : Cert.Pre_half_gradup.Facts) (hPre_half_gradupadd : Cert.Pre_half_gradupadd.Facts) (hPre_half_gradout : Cert.Pre_half_gradout.Facts) (hPre_half_gradoutadd : Cert.Pre_half_gradoutadd.Facts) (hPre_finite_indnorm : Cert.Pre_finite_indnorm.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dact (hDact := hDact)
    ∧ quiescent_DactIdeal (hDactIdeal := hDactIdeal)
    ∧ quiescent_DactRefIdeal (hDactRefIdeal := hDactRefIdeal)
    ∧ quiescent_Dnorm (hDnorm := hDnorm)
    ∧ quiescent_DnormIdeal (hDnormIdeal := hDnormIdeal)
    ∧ quiescent_DnormIdeal_pre_finite_dnorm (hDnormIdeal := hDnormIdeal) (hPre_finite_dnorm := hPre_finite_dnorm)
    ∧ quiescent_DnormRefIdeal (hDnormRefIdeal := hDnormRefIdeal)
    ∧ quiescent_DnormRefIdeal_pre_finite_dnorm (hDnormRefIdeal := hDnormRefIdeal) (hPre_finite_dnorm := hPre_finite_dnorm)
    ∧ quiescent_Down (hDown := hDown)
    ∧ quiescent_DownIdeal (hDownIdeal := hDownIdeal)
    ∧ quiescent_DownRefIdeal (hDownRefIdeal := hDownRefIdeal)
    ∧ quiescent_GradDown (hGradDown := hGradDown) (hPre_half_graddown := hPre_half_graddown)
    ∧ quiescent_GradDownIdeal (hGradDownIdeal := hGradDownIdeal) (hPre_half_graddown := hPre_half_graddown)
    ∧ quiescent_GradDownRefIdeal (hGradDownRefIdeal := hGradDownRefIdeal)
    ∧ quiescent_GradDownRefIdeal_pre_half_graddown (hGradDownRefIdeal := hGradDownRefIdeal) (hPre_half_graddown := hPre_half_graddown)
    ∧ quiescent_GradDownAdd (hGradDownAdd := hGradDownAdd) (hPre_half_graddownadd := hPre_half_graddownadd)
    ∧ quiescent_GradDownAddIdeal (hGradDownAddIdeal := hGradDownAddIdeal) (hPre_half_graddownadd := hPre_half_graddownadd)
    ∧ quiescent_GradDownAddRefIdeal (hGradDownAddRefIdeal := hGradDownAddRefIdeal)
    ∧ quiescent_GradDownAddRefIdeal_pre_half_graddownadd (hGradDownAddRefIdeal := hGradDownAddRefIdeal) (hPre_half_graddownadd := hPre_half_graddownadd)
    ∧ quiescent_GradUp (hGradUp := hGradUp) (hPre_half_gradup := hPre_half_gradup)
    ∧ quiescent_GradUpIdeal (hGradUpIdeal := hGradUpIdeal) (hPre_half_gradup := hPre_half_gradup)
    ∧ quiescent_GradUpRefIdeal (hGradUpRefIdeal := hGradUpRefIdeal)
    ∧ quiescent_GradUpRefIdeal_pre_half_gradup (hGradUpRefIdeal := hGradUpRefIdeal) (hPre_half_gradup := hPre_half_gradup)
    ∧ quiescent_GradUpAdd (hGradUpAdd := hGradUpAdd) (hPre_half_gradupadd := hPre_half_gradupadd)
    ∧ quiescent_GradUpAddIdeal (hGradUpAddIdeal := hGradUpAddIdeal) (hPre_half_gradupadd := hPre_half_gradupadd)
    ∧ quiescent_GradUpAddRefIdeal (hGradUpAddRefIdeal := hGradUpAddRefIdeal)
    ∧ quiescent_GradUpAddRefIdeal_pre_half_gradupadd (hGradUpAddRefIdeal := hGradUpAddRefIdeal) (hPre_half_gradupadd := hPre_half_gradupadd)
    ∧ quiescent_GradOut (hGradOut := hGradOut) (hPre_half_gradout := hPre_half_gradout)
    ∧ quiescent_GradOutIdeal (hGradOutIdeal := hGradOutIdeal) (hPre_half_gradout := hPre_half_gradout)
    ∧ quiescent_GradOutRefIdeal (hGradOutRefIdeal := hGradOutRefIdeal)
    ∧ quiescent_GradOutRefIdeal_pre_half_gradout (hGradOutRefIdeal := hGradOutRefIdeal) (hPre_half_gradout := hPre_half_gradout)
    ∧ quiescent_GradOutAdd (hGradOutAdd := hGradOutAdd) (hPre_half_gradoutadd := hPre_half_gradoutadd)
    ∧ quiescent_GradOutAddIdeal (hGradOutAddIdeal := hGradOutAddIdeal) (hPre_half_gradoutadd := hPre_half_gradoutadd)
    ∧ quiescent_GradOutAddRefIdeal (hGradOutAddRefIdeal := hGradOutAddRefIdeal)
    ∧ quiescent_GradOutAddRefIdeal_pre_half_gradoutadd (hGradOutAddRefIdeal := hGradOutAddRefIdeal) (hPre_half_gradoutadd := hPre_half_gradoutadd)
    ∧ quiescent_GradIn (hGradIn := hGradIn)
    ∧ quiescent_GradInIdeal (hGradInIdeal := hGradInIdeal)
    ∧ quiescent_GradInRefIdeal (hGradInRefIdeal := hGradInRefIdeal)
    ∧ quiescent_InDnorm (hInDnorm := hInDnorm)
    ∧ quiescent_InDnormIdeal (hInDnormIdeal := hInDnormIdeal)
    ∧ quiescent_InDnormIdeal_pre_finite_indnorm (hInDnormIdeal := hInDnormIdeal) (hPre_finite_indnorm := hPre_finite_indnorm)
    ∧ quiescent_InDnormRefIdeal (hInDnormRefIdeal := hInDnormRefIdeal)
    ∧ quiescent_InDnormRefIdeal_pre_finite_indnorm (hInDnormRefIdeal := hInDnormRefIdeal) (hPre_finite_indnorm := hPre_finite_indnorm)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_InProj (hInProj := hInProj)
    ∧ quiescent_InProjIdeal (hInProjIdeal := hInProjIdeal)
    ∧ quiescent_InProjRefIdeal (hInProjRefIdeal := hInProjRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Dact_DactIdeal
    ∧ algebraic_DactIdeal_DactRefIdeal (hDactIdeal := hDactIdeal) (hDactRefIdeal := hDactRefIdeal)
    ∧ preserves_Dnorm_DnormIdeal
    ∧ algebraic_DnormIdeal_DnormRefIdeal_pre_finite_dnorm (hDnormIdeal := hDnormIdeal) (hDnormRefIdeal := hDnormRefIdeal) (hPre_finite_dnorm := hPre_finite_dnorm)
    ∧ preserves_Down_DownIdeal
    ∧ algebraic_DownIdeal_DownRefIdeal (hDownIdeal := hDownIdeal) (hDownRefIdeal := hDownRefIdeal)
    ∧ preserves_GradDown_GradDownIdeal
    ∧ algebraic_GradDownIdeal_GradDownRefIdeal (hGradDownIdeal := hGradDownIdeal) (hGradDownRefIdeal := hGradDownRefIdeal) (hPre_half_graddown := hPre_half_graddown)
    ∧ preserves_GradDownAdd_GradDownAddIdeal
    ∧ algebraic_GradDownAddIdeal_GradDownAddRefIdeal (hGradDownAddIdeal := hGradDownAddIdeal) (hGradDownAddRefIdeal := hGradDownAddRefIdeal) (hPre_half_graddownadd := hPre_half_graddownadd)
    ∧ preserves_GradUp_GradUpIdeal
    ∧ algebraic_GradUpIdeal_GradUpRefIdeal (hGradUpIdeal := hGradUpIdeal) (hGradUpRefIdeal := hGradUpRefIdeal) (hPre_half_gradup := hPre_half_gradup)
    ∧ preserves_GradUpAdd_GradUpAddIdeal
    ∧ algebraic_GradUpAddIdeal_GradUpAddRefIdeal (hGradUpAddIdeal := hGradUpAddIdeal) (hGradUpAddRefIdeal := hGradUpAddRefIdeal) (hPre_half_gradupadd := hPre_half_gradupadd)
    ∧ preserves_GradOut_GradOutIdeal
    ∧ algebraic_GradOutIdeal_GradOutRefIdeal (hGradOutIdeal := hGradOutIdeal) (hGradOutRefIdeal := hGradOutRefIdeal) (hPre_half_gradout := hPre_half_gradout)
    ∧ preserves_GradOutAdd_GradOutAddIdeal
    ∧ algebraic_GradOutAddIdeal_GradOutAddRefIdeal (hGradOutAddIdeal := hGradOutAddIdeal) (hGradOutAddRefIdeal := hGradOutAddRefIdeal) (hPre_half_gradoutadd := hPre_half_gradoutadd)
    ∧ preserves_GradIn_GradInIdeal
    ∧ algebraic_GradInIdeal_GradInRefIdeal (hGradInIdeal := hGradInIdeal) (hGradInRefIdeal := hGradInRefIdeal)
    ∧ preserves_InDnorm_InDnormIdeal
    ∧ algebraic_InDnormIdeal_InDnormRefIdeal_pre_finite_indnorm (hInDnormIdeal := hInDnormIdeal) (hInDnormRefIdeal := hInDnormRefIdeal) (hPre_finite_indnorm := hPre_finite_indnorm)
    ∧ preserves_MlpUp_MlpUpIdeal
    ∧ algebraic_MlpUpIdeal_MlpUpRefIdeal (hMlpUpIdeal := hMlpUpIdeal) (hMlpUpRefIdeal := hMlpUpRefIdeal)
    ∧ preserves_InProj_InProjIdeal
    ∧ algebraic_InProjIdeal_InProjRefIdeal (hInProjIdeal := hInProjIdeal) (hInProjRefIdeal := hInProjRefIdeal)
-- ==== Pre_finite.lean ====
abbrev S2048x3584 : Shape := ⟨2, ![2048, 3584]⟩
abbrev S2048x512 : Shape := ⟨2, ![2048, 512]⟩
abbrev S512 : Shape := ⟨1, ![512]⟩
abbrev S8x128x128 : Shape := ⟨3, ![8, 128, 128]⟩
abbrev S8x128 : Shape := ⟨2, ![8, 128]⟩
abbrev S_ : Shape := ⟨0, ![]⟩

class Facts : Prop where
  bcast_S_S2048x3584 : S_.BroadcastsInDim S2048x3584 (![] : Fin 0 → Fin S2048x3584.rank)
  bcast_S_S2048x512 : S_.BroadcastsInDim S2048x512 (![] : Fin 0 → Fin S2048x512.rank)
  bcast_S_S512 : S_.BroadcastsInDim S512 (![] : Fin 0 → Fin S512.rank)
  bcast_S_S8x128x128 : S_.BroadcastsInDim S8x128x128 (![] : Fin 0 → Fin S8x128x128.rank)
  bcast_S_S8x128 : S_.BroadcastsInDim S8x128 (![] : Fin 0 → Fin S8x128.rank)

variable [Facts]

def fn {F : FTy → Type} [FloatOps F] (main_arg0 : FVec F S2048x3584 .f32) (main_arg1 : FVec F S2048x512 .f32) (main_arg2 : FVec F S512 .f32) (main_arg3 : FVec F S512 .f32) (main_arg4 : FVec F S8x128x128 .f32) (main_arg5 : FVec F S8x128 .f32) : IVec S2048x3584 1 × IVec S2048x512 1 × IVec S512 1 × IVec S512 1 × IVec S8x128x128 1 × IVec S8x128 1 :=
  let main_v0 : FVec F S2048x3584 .f32 := Host.absf main_arg0
  let main_cst : FVec F S_ .f32 := constant S_ .f32 0x7F800000#32
  let main_v1 : FVec F S2048x3584 .f32 := broadcastInDim S2048x3584 ![] bcast_S_S2048x3584 main_cst
  let main_v2 : IVec S2048x3584 1 := cmpf .olt main_v0 main_v1
  let main_v3 : FVec F S2048x512 .f32 := Host.absf main_arg1
  let main_cst_0 : FVec F S_ .f32 := constant S_ .f32 0x7F800000#32
  let main_v4 : FVec F S2048x512 .f32 := broadcastInDim S2048x512 ![] bcast_S_S2048x512 main_cst_0
  let main_v5 : IVec S2048x512 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_v12 : FVec F S8x128x128 .f32 := Host.absf main_arg4
  let main_cst_3 : FVec F S_ .f32 := constant S_ .f32 0x7F800000#32
  let main_v13 : FVec F S8x128x128 .f32 := broadcastInDim S8x128x128 ![] bcast_S_S8x128x128 main_cst_3
  let main_v14 : IVec S8x128x128 1 := cmpf .olt main_v12 main_v13
  let main_v15 : FVec F S8x128 .f32 := Host.absf main_arg5
  let main_cst_4 : FVec F S_ .f32 := constant S_ .f32 0x7F800000#32
  let main_v16 : FVec F S8x128 .f32 := broadcastInDim S8x128 ![] bcast_S_S8x128 main_cst_4
  let main_v17 : IVec S8x128 1 := cmpf .olt main_v15 main_v16
  (main_v2, main_v5, main_v8, main_v11, main_v14, main_v17)
-- ==== Pre_finite_dnorm.lean ====
abbrev S2048x2048 : Shape := ⟨2, ![2048, 2048]⟩
abbrev S2048 : Shape := ⟨1, ![2048]⟩
abbrev S2048x8192 : Shape := ⟨2, ![2048, 8192]⟩
abbrev S_ : Shape := ⟨0, ![]⟩

class Facts : Prop where
  bcast_S_S2048x2048 : S_.BroadcastsInDim S2048x2048 (![] : Fin 0 → Fin S2048x2048.rank)
  bcast_S_S2048 : S_.BroadcastsInDim S2048 (![] : Fin 0 → Fin S2048.rank)
  bcast_S_S2048x8192 : S_.BroadcastsInDim S2048x8192 (![] : Fin 0 → Fin S2048x8192.rank)

variable [Facts]

def fn {F : FTy → Type} [FloatOps F] (main_arg0 : FVec F S2048x2048 .f32) (main_arg1 : FVec F S2048 .f32) (main_arg2 : FVec F S2048x8192 .f32) (main_arg3 : FVec F S2048x8192 .f32) (main_arg4 : FVec F S2048x2048 .f32) : IVec S2048x2048 1 × IVec S2048 1 × IVec S2048x8192 1 × IVec S2048x8192 1 × IVec S2048x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S2048x8192 .f32 := Host.absf main_arg2
  let main_cst_1 : FVec F S_ .f32 := constant S_ .f32 0x7F800000#32
  let main_v7 : FVec F S2048x8192 .f32 := broadcastInDim S2048x8192 ![] bcast_S_S2048x8192 main_cst_1
  let main_v8 : IVec S2048x8192 1 := cmpf .olt main_v6 main_v7
  let main_v9 : FVec F S2048x8192 .f32 := Host.absf main_arg3
  let main_cst_2 : FVec F S_ .f32 := constant S_ .f32 0x7F800000#32
  let main_v10 : FVec F S2048x8192 .f32 := broadcastInDim S2048x8192 ![] bcast_S_S2048x8192 main_cst_2
  let main_v11 : IVec S2048x8192 1 := cmpf .olt main_v9 main_v10
  let main_v12 : FVec F S2048x2048 .f32 := Host.absf main_arg4
  let main_cst_3 : FVec F S_ .f32 := constant S_ .f32 0x7F800000#32
  let main_v13 : FVec F S2048x2048 .f32 := broadcastInDim S2048x2048 ![] bcast_S_S2048x2048 main_cst_3
  let main_v14 : IVec S2048x2048 1 := cmpf .olt main_v12 main_v13
  (main_v2, main_v5, main_v8, main_v11, main_v14)
-- ==== Pre_finite_indnorm.lean ====
abbrev S2048x2048 : Shape := ⟨2, ![2048, 2048]⟩
abbrev S2048 : Shape := ⟨1, ![2048]⟩
abbrev S2048x3584 : Shape := ⟨2, ![2048, 3584]⟩
abbrev S_ : Shape := ⟨0, ![]⟩

class Facts : Prop where
  bcast_S_S2048x2048 : S_.BroadcastsInDim S2048x2048 (![] : Fin 0 → Fin S2048x2048.rank)
  bcast_S_S2048 : S_.BroadcastsInDim S2048 (![] : Fin 0 → Fin S2048.rank)
  bcast_S_S2048x3584 : S_.BroadcastsInDim S2048x3584 (![] : Fin 0 → Fin S2048x3584.rank)

variable [Facts]

def fn {F : FTy → Type} [FloatOps F] (main_arg0 : FVec F S2048x2048 .f32) (main_arg1 : FVec F S2048 .f32) (main_arg2 : FVec F S2048x3584 .f32) (main_arg3 : FVec F S2048x3584 .f32) (main_arg4 : FVec F S2048x2048 .f32) : IVec S2048x2048 1 × IVec S2048 1 × IVec S2048x3584 1 × IVec S2048x3584 1 × IVec S2048x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S2048x3584 .f32 := Host.absf main_arg2
  let main_cst_1 : FVec F S_ .f32 := constant S_ .f32 0x7F800000#32
  let main_v7 : FVec F S2048x3584 .f32 := broadcastInDim S2048x3584 ![] bcast_S_S2048x3584 main_cst_1
  let main_v8 : IVec S2048x3584 1 := cmpf .olt main_v6 main_v7
  let main_v9 : FVec F S2048x3584 .f32 := Host.absf main_arg3
  let main_cst_2 : FVec F S_ .f32 := constant S_ .f32 0x7F800000#32
  let main_v10 : FVec F S2048x3584 .f32 := broadcastInDim S2048x3584 ![] bcast_S_S2048x3584 main_cst_2
  let main_v11 : IVec S2048x3584 1 := cmpf .olt main_v9 main_v10
  let main_v12 : FVec F S2048x2048 .f32 := Host.absf main_arg4
  let main_cst_3 : FVec F S_ .f32 := constant S_ .f32 0x7F800000#32
  let main_v13 : FVec F S2048x2048 .f32 := broadcastInDim S2048x2048 ![] bcast_S_S2048x2048 main_cst_3
  let main_v14 : IVec S2048x2048 1 := cmpf .olt main_v12 main_v13
  (main_v2, main_v5, main_v8, main_v11, main_v14)
-- ==== Pre_half_graddown.lean ====
abbrev S2048x8192 : Shape := ⟨2, ![2048, 8192]⟩
abbrev S2048x2048 : Shape := ⟨2, ![2048, 2048]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S2048x8192 .f32) (main_arg1 : FVec F S2048x2048 .f32) (main_arg2 : IVec S1 32) : IVec S_ 1 :=
  let main_v0 : IVec S_ 32 := shapeCast S_ main_arg2 shapeCasts_S1_S_
  let main_c : IVec S_ 32 := constantI S_ 32 0#32
  let main_v1 : IVec S_ 1 := cmpi .eq main_v0 main_c
  let main_v2 : IVec S_ 32 := shapeCast S_ main_arg2 shapeCasts_S1_S_
  let main_c_0 : IVec S_ 32 := constantI S_ 32 1#32
  let main_v3 : IVec S_ 1 := cmpi .eq main_v2 main_c_0
  let main_v4 : IVec S_ 1 := ori main_v1 main_v3
  main_v4
-- ==== Pre_half_graddownadd.lean ====
abbrev S2048x8192 : Shape := ⟨2, ![2048, 8192]⟩
abbrev S2048x2048 : Shape := ⟨2, ![2048, 2048]⟩
abbrev S1 : Shape := ⟨1, ![1]⟩
abbrev S4x1024x2048 : Shape := ⟨3, ![4, 1024, 2048]⟩
abbrev S_ : Shape := ⟨0, ![]⟩

class Facts : Prop where
  shapeCasts_S1_S_ : S1.ShapeCasts S_

variable [Facts]

def fn {F : FTy → Type} [FloatOps F] (main_arg0 : FVec F S2048x8192 .f32) (main_arg1 : FVec F S2048x2048 .f32) (main_arg2 : IVec S1 32) (main_arg3 : FVec F S4x1024x2048 .bf16) : IVec S_ 1 :=
  let main_v0 : IVec S_ 32 := shapeCast S_ main_arg2 shapeCasts_S1_S_
  let main_c : IVec S_ 32 := constantI S_ 32 0#32
  let main_v1 : IVec S_ 1 := cmpi .eq main_v0 main_c
  let main_v2 : IVec S_ 32 := shapeCast S_ main_arg2 shapeCasts_S1_S_
  let main_c_0 : IVec S_ 32 := constantI S_ 32 1#32
  let main_v3 : IVec S_ 1 := cmpi .eq main_v2 main_c_0
  let main_v4 : IVec S_ 1 := ori main_v1 main_v3
  main_v4
-- ==== Pre_half_gradout.lean ====
abbrev S2048x2048 : Shape := ⟨2, ![2048, 2048]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S2048x2048 .f32) (main_arg1 : FVec F S2048x2048 .f32) (main_arg2 : IVec S1 32) : IVec S_ 1 :=
  let main_v0 : IVec S_ 32 := shapeCast S_ main_arg2 shapeCasts_S1_S_
  let main_c : IVec S_ 32 := constantI S_ 32 0#32
  let main_v1 : IVec S_ 1 := cmpi .eq main_v0 main_c
  let main_v2 : IVec S_ 32 := shapeCast S_ main_arg2 shapeCasts_S1_S_
  let main_c_0 : IVec S_ 32 := constantI S_ 32 1#32
  let main_v3 : IVec S_ 1 := cmpi .eq main_v2 main_c_0
  let main_v4 : IVec S_ 1 := ori main_v1 main_v3
  main_v4
-- ==== Pre_half_gradoutadd.lean ====
abbrev S2048x2048 : Shape := ⟨2, ![2048, 2048]⟩
abbrev S1 : Shape := ⟨1, ![1]⟩
abbrev S4x256x2048 : Shape := ⟨3, ![4, 256, 2048]⟩
abbrev S_ : Shape := ⟨0, ![]⟩

class Facts : Prop where
  shapeCasts_S1_S_ : S1.ShapeCasts S_

variable [Facts]

def fn {F : FTy → Type} [FloatOps F] (main_arg0 : FVec F S2048x2048 .f32) (main_arg1 : FVec F S2048x2048 .f32) (main_arg2 : IVec S1 32) (main_arg3 : FVec F S4x256x2048 .bf16) : IVec S_ 1 :=
  let main_v0 : IVec S_ 32 := shapeCast S_ main_arg2 shapeCasts_S1_S_
  let main_c : IVec S_ 32 := constantI S_ 32 0#32
  let main_v1 : IVec S_ 1 := cmpi .eq main_v0 main_c
  let main_v2 : IVec S_ 32 := shapeCast S_ main_arg2 shapeCasts_S1_S_
  let main_c_0 : IVec S_ 32 := constantI S_ 32 1#32
  let main_v3 : IVec S_ 1 := cmpi .eq main_v2 main_c_0
  let main_v4 : IVec S_ 1 := ori main_v1 main_v3
  main_v4
-- ==== Pre_half_gradup.lean ====
abbrev S2048x2048 : Shape := ⟨2, ![2048, 2048]⟩
abbrev S2048x8192 : Shape := ⟨2, ![2048, 8192]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S2048x2048 .f32) (main_arg1 : FVec F S2048x8192 .f32) (main_arg2 : IVec S1 32) : IVec S_ 1 :=
  let main_v0 : IVec S_ 32 := shapeCast S_ main_arg2 shapeCasts_S1_S_
  let main_c : IVec S_ 32 := constantI S_ 32 0#32
  let main_v1 : IVec S_ 1 := cmpi .eq main_v0 main_c
  let main_v2 : IVec S_ 32 := shapeCast S_ main_arg2 shapeCasts_S1_S_
  let main_c_0 : IVec S_ 32 := constantI S_ 32 1#32
  let main_v3 : IVec S_ 1 := cmpi .eq main_v2 main_c_0
  let main_v4 : IVec S_ 1 := ori main_v1 main_v3
  main_v4
-- ==== Pre_half_gradupadd.lean ====
abbrev S2048x2048 : Shape := ⟨2, ![2048, 2048]⟩
abbrev S2048x8192 : Shape := ⟨2, ![2048, 8192]⟩
abbrev S1 : Shape := ⟨1, ![1]⟩
abbrev S4x2048x1024 : Shape := ⟨3, ![4, 2048, 1024]⟩
abbrev S_ : Shape := ⟨0, ![]⟩

class Facts : Prop where
  shapeCasts_S1_S_ : S1.ShapeCasts S_

variable [Facts]

def fn {F : FTy → Type} [FloatOps F] (main_arg0 : FVec F S2048x2048 .f32) (main_arg1 : FVec F S2048x8192 .f32) (main_arg2 : IVec S1 32) (main_arg3 : FVec F S4x2048x1024 .bf16) : IVec S_ 1 :=
  let main_v0 : IVec S_ 32 := shapeCast S_ main_arg2 shapeCasts_S1_S_
  let main_c : IVec S_ 32 := constantI S_ 32 0#32
  let main_v1 : IVec S_ 1 := cmpi .eq main_v0 main_c
  let main_v2 : IVec S_ 32 := shapeCast S_ main_arg2 shapeCasts_S1_S_
  let main_c_0 : IVec S_ 32 := constantI S_ 32 1#32
  let main_v3 : IVec S_ 1 := cmpi .eq main_v2 main_c_0
  let main_v4 : IVec S_ 1 := ori main_v1 main_v3
  main_v4
-- ==== Kernel.lean ====
abbrev S2048x3584 : Shape := ⟨2, ![2048, 3584]⟩
abbrev S2048x512 : Shape := ⟨2, ![2048, 512]⟩
abbrev S512 : Shape := ⟨1, ![512]⟩
abbrev S8x128x128 : Shape := ⟨3, ![8, 128, 128]⟩
abbrev S8x128 : Shape := ⟨2, ![8, 128]⟩
abbrev S1x512 : Shape := ⟨2, ![1, 512]⟩
abbrev S128x8 : Shape := ⟨2, ![128, 8]⟩
abbrev S128x8x64 : Shape := ⟨3, ![128, 8, 64]⟩
abbrev S128x512 : Shape := ⟨2, ![128, 512]⟩
abbrev S2048x1024 : Shape := ⟨2, ![2048, 1024]⟩
abbrev S1x2048x1024 : Shape := ⟨3, ![1, 2048, 1024]⟩
abbrev S1x2048x512 : Shape := ⟨3, ![1, 2048, 512]⟩
abbrev S_ : Shape := ⟨0, ![]⟩
abbrev S1x2048 : Shape := ⟨2, ![1, 2048]⟩
abbrev S1x2048x1 : Shape := ⟨3, ![1, 2048, 1]⟩
abbrev S1x1x512 : Shape := ⟨3, ![1, 1, 512]⟩
abbrev S1x16x128x8x64 : Shape := ⟨5, ![1, 16, 128, 8, 64]⟩
abbrev S128x128 : Shape := ⟨2, ![128, 128]⟩
abbrev S1x128x128 : Shape := ⟨3, ![1, 128, 128]⟩
abbrev S8x1x16x64x128 : Shape := ⟨5, ![8, 1, 16, 64, 128]⟩
abbrev S1x1x128x8x1 : Shape := ⟨5, ![1, 1, 128, 8, 1]⟩
abbrev S8x512 : Shape := ⟨2, ![8, 512]⟩
abbrev S128x1024 : Shape := ⟨2, ![128, 1024]⟩
abbrev S128 : Shape := ⟨1, ![128]⟩
abbrev S128x1 : Shape := ⟨2, ![128, 1]⟩
abbrev S512x128 : Shape := ⟨2, ![512, 128]⟩

abbrev nBuf : Space → Nat
  | .hbm => 70
  | .vmem => 18
  | .smem => 0
  | _ => 0

abbrev bufTy : (tb : Table) → Fin (tcTables nBuf tb) → BufTy
  | .hbm, ⟨0, _⟩ => ⟨S2048x3584, .f32⟩
  | .hbm, ⟨1, _⟩ => ⟨S2048x512, .f32⟩
  | .hbm, ⟨2, _⟩ => ⟨S512, .f32⟩
  | .hbm, ⟨3, _⟩ => ⟨S512, .f32⟩
  | .hbm, ⟨4, _⟩ => ⟨S8x128x128, .f32⟩
  | .hbm, ⟨5, _⟩ => ⟨S8x128, .f32⟩
  | .hbm, ⟨6, _⟩ => ⟨S1x512, .f32⟩
  | .hbm, ⟨7, _⟩ => ⟨S1x512, .f32⟩
  | .hbm, ⟨8, _⟩ => ⟨S128x8, .f32⟩
  | .hbm, ⟨9, _⟩ => ⟨S128x8x64, .f32⟩
  | .hbm, ⟨10, _⟩ => ⟨S128x512, .f32⟩
  | .hbm, ⟨11, _⟩ => ⟨S2048x1024, .f32⟩
  | .hbm, ⟨12, _⟩ => ⟨S1x2048x1024, .f32⟩
  | .hbm, ⟨13, _⟩ => ⟨S1x2048x512, .f32⟩
  | .hbm, ⟨14, _⟩ => ⟨S1x2048x512, .f32⟩
  | .hbm, ⟨15, _⟩ => ⟨S_, .f32⟩
  | .hbm, ⟨16, _⟩ => ⟨S1x2048, .f32⟩
  | .hbm, ⟨17, _⟩ => ⟨S1x2048x1, .f32⟩
  | .hbm, ⟨18, _⟩ => ⟨S_, .f32⟩
  | .hbm, ⟨19, _⟩ => ⟨S1x2048x1, .f32⟩
  | .hbm, ⟨20, _⟩ => ⟨S1x2048x1, .f32⟩
  | .hbm, ⟨21, _⟩ => ⟨S1x2048x512, .f32⟩
  | .hbm, ⟨22, _⟩ => ⟨S1x2048x512, .f32⟩
  | .hbm, ⟨23, _⟩ => ⟨S1x2048x512, .f32⟩
  | .hbm, ⟨24, _⟩ => ⟨S_, .f32⟩
  | .hbm, ⟨25, _⟩ => ⟨S1x2048, .f32⟩
  | .hbm, ⟨26, _⟩ => ⟨S1x2048x1, .f32⟩
  | .hbm, ⟨27, _⟩ => ⟨S_, .f32⟩
  | .hbm, ⟨28, _⟩ => ⟨S1x2048x1, .f32⟩
  | .hbm, ⟨29, _⟩ => ⟨S1x2048x1, .f32⟩
  | .hbm, ⟨30, _⟩ => ⟨S_, .f32⟩
  | .hbm, ⟨31, _⟩ => ⟨S1x2048x1, .f32⟩
  | .hbm, ⟨32, _⟩ => ⟨S1x2048x1, .f32⟩
  | .hbm, ⟨33, _⟩ => ⟨S1x2048x1, .f32⟩
  | .hbm, ⟨34, _⟩ => ⟨S1x2048x512, .f32⟩
  | .hbm, ⟨35, _⟩ => ⟨S1x2048x512, .f32⟩
  | .hbm, ⟨36, _⟩ => ⟨S1x1x512, .f32⟩
  | .hbm, ⟨37, _⟩ => ⟨S1x2048x512, .f32⟩
  | .hbm, ⟨38, _⟩ => ⟨S1x2048x512, .f32⟩
  | .hbm, ⟨39, _⟩ => ⟨S1x1x512, .f32⟩
  | .hbm, ⟨40, _⟩ => ⟨S1x2048x512, .f32⟩
  | .hbm, ⟨41, _⟩ => ⟨S1x2048x512, .f32⟩
  | .hbm, ⟨42, _⟩ => ⟨S1x16x128x8x64, .f32⟩
  | .hbm, ⟨43, _⟩ => ⟨S_, .i1⟩
  | .hbm, ⟨44, _⟩ => ⟨S128x128, .i1⟩
  | .hbm, ⟨45, _⟩ => ⟨S128x128, .i32⟩
  | .hbm, ⟨46, _⟩ => ⟨S_, .i32⟩
  | .hbm, ⟨47, _⟩ => ⟨S128x128, .i32⟩
  | .hbm, ⟨48, _⟩ => ⟨S128x128, .i32⟩
  | .hbm, ⟨49, _⟩ => ⟨S128x128, .i32⟩
  | .hbm, ⟨50, _⟩ => ⟨S128x128, .i1⟩
  | .hbm, ⟨51, _⟩ => ⟨S_, .i1⟩
  | .hbm, ⟨52, _⟩ => ⟨S128x128, .i1⟩
  | .hbm, ⟨53, _⟩ => ⟨S128x128, .i1⟩
  | .hbm, ⟨54, _⟩ => ⟨S1x128x128, .i1⟩
  | .hbm, ⟨55, _⟩ => ⟨S_, .f32⟩
  | .hbm, ⟨56, _⟩ => ⟨S8x128x128, .f32⟩
  | .hbm, ⟨57, _⟩ => ⟨S8x128x128, .i1⟩
  | .hbm, ⟨58, _⟩ => ⟨S8x128x128, .f32⟩
  | .hbm, ⟨59, _⟩ => ⟨S8x1x16x64x128, .f32⟩
  | .hbm, ⟨60, _⟩ => ⟨S1x16x128x8x64, .f32⟩
  | .hbm, ⟨61, _⟩ => ⟨S128x8, .f32⟩
  | .hbm, ⟨62, _⟩ => ⟨S1x1x128x8x1, .f32⟩
  | .hbm, ⟨63, _⟩ => ⟨S1x16x128x8x64, .f32⟩
  | .hbm, ⟨64, _⟩ => ⟨S1x16x128x8x64, .f32⟩
  | .hbm, ⟨65, _⟩ => ⟨S2048x512, .f32⟩
  | .hbm, ⟨66, _⟩ => ⟨S2048x1024, .bf16⟩
  | .hbm, ⟨67, _⟩ => ⟨S8x128x128, .f32⟩
  | .hbm, ⟨68, _⟩ => ⟨S128x128, .f32⟩
  | .hbm, ⟨69, _⟩ => ⟨S8x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S1x512, .f32⟩
  | .local _ .vmem, ⟨5, _⟩ => ⟨S1x512, .f32⟩
  | .local _ .vmem, ⟨6, _⟩ => ⟨S8x128x128, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x1024, .bf16⟩
  | .local _ .vmem, ⟨13, _⟩ => ⟨S128x1024, .bf16⟩
  | .local _ .vmem, ⟨14, _⟩ => ⟨S8x128x128, .f32⟩
  | .local _ .vmem, ⟨15, _⟩ => ⟨S128x128, .f32⟩
  | .local _ .vmem, ⟨16, _⟩ => ⟨S8x512, .f32⟩
  | .local _ .vmem, ⟨17, _⟩ => ⟨S128x512, .f32⟩
  | _, _ => ⟨S2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c : Ref sig .tc := ⟨.hbm, 43, rfl⟩
abbrev main_v32 : Ref sig .tc := ⟨.hbm, 44, rfl⟩
abbrev main_call0_v0 : Ref sig .tc := ⟨.hbm, 45, rfl⟩
abbrev main_call0_c : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_c_0 : Ref sig .tc := ⟨.hbm, 51, rfl⟩
abbrev main_call0_v5 : Ref sig .tc := ⟨.hbm, 52, rfl⟩
abbrev main_v33 : Ref sig .tc := ⟨.hbm, 53, rfl⟩
abbrev main_v34 : Ref sig .tc := ⟨.hbm, 54, rfl⟩
abbrev main_cst_4 : Ref sig .tc := ⟨.hbm, 55, rfl⟩
abbrev main_v35 : Ref sig .tc := ⟨.hbm, 56, rfl⟩
abbrev main_call1_v0 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44_0 : Ref sig .tc := ⟨.hbm, 66, rfl⟩
abbrev main_v44_1 : Ref sig .tc := ⟨.hbm, 67, rfl⟩
abbrev main_v44_2 : Ref sig .tc := ⟨.hbm, 68, rfl⟩
abbrev main_v44_3 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v379 : BitVec 1 := Scalar.cmpi .eq arg0 c15_i32
  let v380 : BitVec 32 := Scalar.extui v379
  let c0_i32_167 : BitVec 32 := 0#32
  let v381 : BitVec 1 := Scalar.cmpi .ne v380 c0_i32_167
  v381

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S2048x3584 : Shape := ⟨2, ![2048, 3584]⟩
abbrev S2048x512 : Shape := ⟨2, ![2048, 512]⟩
abbrev S512 : Shape := ⟨1, ![512]⟩
abbrev S8x128x128 : Shape := ⟨3, ![8, 128, 128]⟩
abbrev S8x128 : Shape := ⟨2, ![8, 128]⟩
abbrev S2048x1024 : Shape := ⟨2, ![2048, 1024]⟩
abbrev S1x2048x1024 : Shape := ⟨3, ![1, 2048, 1024]⟩
abbrev S1x2048x512 : Shape := ⟨3, ![1, 2048, 512]⟩
abbrev S_ : Shape := ⟨0, ![]⟩
abbrev S1x2048 : Shape := ⟨2, ![1, 2048]⟩
abbrev S1x2048x1 : Shape := ⟨3, ![1, 2048, 1]⟩
abbrev S1x1x512 : Shape := ⟨3, ![1, 1, 512]⟩
abbrev S1x16x128x8x64 : Shape := ⟨5, ![1, 16, 128, 8, 64]⟩
abbrev S128x128 : Shape := ⟨2, ![128, 128]⟩
abbrev S1x128x128 : Shape := ⟨3, ![1, 128, 128]⟩
abbrev S8x1x16x64x128 : Shape := ⟨5, ![8, 1, 16, 64, 128]⟩
abbrev S128x8 : Shape := ⟨2, ![128, 8]⟩
abbrev S1x1x128x8x1 : Shape := ⟨5, ![1, 1, 128, 8, 1]⟩
abbrev S1x128x8 : Shape := ⟨3, ![1, 128, 8]⟩
abbrev S1x512 : Shape := ⟨2, ![1, 512]⟩
abbrev S2048 : Shape := ⟨1, ![2048]⟩
abbrev S6x512 : Shape := ⟨2, ![6, 512]⟩
abbrev S8x512 : Shape := ⟨2, ![8, 512]⟩

abbrev nBuf : Space → Nat
  | .hbm => 141
  | .vmem => 0
  | .smem => 0
  | _ => 0

abbrev hbmTy0_0 (i : Nat) : BufTy := match i % 128 with
  | 0 => ⟨S2048x3584, .f32⟩
  | 1 => ⟨S2048x512, .f32⟩
  | 2 => ⟨S512, .f32⟩
  | 3 => ⟨S512, .f32⟩
  | 4 => ⟨S8x128x128, .f32⟩
  | 5 => ⟨S8x128, .f32⟩
  | 6 => ⟨S2048x1024, .f32⟩
  | 7 => ⟨S1x2048x1024, .f32⟩
  | 8 => ⟨S1x2048x512, .f32⟩
  | 9 => ⟨S1x2048x512, .f32⟩
  | 10 => ⟨S_, .f32⟩
  | 11 => ⟨S1x2048, .f32⟩
  | 12 => ⟨S1x2048x1, .f32⟩
  | 13 => ⟨S_, .f32⟩
  | 14 => ⟨S1x2048x1, .f32⟩
  | 15 => ⟨S1x2048x1, .f32⟩
  | 16 => ⟨S1x2048x512, .f32⟩
  | 17 => ⟨S1x2048x512, .f32⟩
  | 18 => ⟨S1x2048x512, .f32⟩
  | 19 => ⟨S_, .f32⟩
  | 20 => ⟨S1x2048, .f32⟩
  | 21 => ⟨S1x2048x1, .f32⟩
  | 22 => ⟨S_, .f32⟩
  | 23 => ⟨S1x2048x1, .f32⟩
  | 24 => ⟨S1x2048x1, .f32⟩
  | 25 => ⟨S_, .f32⟩
  | 26 => ⟨S1x2048x1, .f32⟩
  | 27 => ⟨S1x2048x1, .f32⟩
  | 28 => ⟨S1x2048x1, .f32⟩
  | 29 => ⟨S1x2048x1, .f32⟩
  | 30 => ⟨S_, .f32⟩
  | 31 => ⟨S1x2048x1, .f32⟩
  | 32 => ⟨S1x2048x1, .f32⟩
  | 33 => ⟨S1x2048x512, .f32⟩
  | 34 => ⟨S1x2048x512, .f32⟩
  | 35 => ⟨S1x1x512, .f32⟩
  | 36 => ⟨S1x2048x512, .f32⟩
  | 37 => ⟨S1x2048x512, .f32⟩
  | 38 => ⟨S1x1x512, .f32⟩
  | 39 => ⟨S1x2048x512, .f32⟩
  | 40 => ⟨S1x2048x512, .f32⟩
  | 41 => ⟨S1x16x128x8x64, .f32⟩
  | 42 => ⟨S_, .i1⟩
  | 43 => ⟨S128x128, .i1⟩
  | 44 => ⟨S128x128, .i32⟩
  | 45 => ⟨S_, .i32⟩
  | 46 => ⟨S128x128, .i32⟩
  | 47 => ⟨S128x128, .i32⟩
  | 48 => ⟨S128x128, .i32⟩
  | 49 => ⟨S128x128, .i1⟩
  | 50 => ⟨S_, .i1⟩
  | 51 => ⟨S128x128, .i1⟩
  | 52 => ⟨S128x128, .i1⟩
  | 53 => ⟨S1x128x128, .i1⟩
  | 54 => ⟨S_, .f32⟩
  | 55 => ⟨S8x128x128, .f32⟩
  | 56 => ⟨S8x128x128, .i1⟩
  | 57 => ⟨S8x128x128, .f32⟩
  | 58 => ⟨S_, .f32⟩
  | 59 => ⟨S8x128x128, .f32⟩
  | 60 => ⟨S8x1x16x64x128, .f32⟩
  | 61 => ⟨S1x16x128x8x64, .f32⟩
  | 62 => ⟨S128x8, .f32⟩
  | 63 => ⟨S1x1x128x8x1, .f32⟩
  | 64 => ⟨S1x16x128x8x64, .f32⟩
  | 65 => ⟨S1x16x128x8x64, .f32⟩
  | 66 => ⟨S1x2048x512, .f32⟩
  | 67 => ⟨S1x2048x512, .f32⟩
  | 68 => ⟨S1x2048x512, .f32⟩
  | 69 => ⟨S1x2048x512, .f32⟩
  | 70 => ⟨S1x2048x512, .f32⟩
  | 71 => ⟨S1x16x128x8x64, .f32⟩
  | 72 => ⟨S_, .f32⟩
  | 73 => ⟨S1x128x8, .f32⟩
  | 74 => ⟨S1x1x128x8x1, .f32⟩
  | 75 => ⟨S_, .f32⟩
  | 76 => ⟨S128x8, .f32⟩
  | 77 => ⟨S8x128, .f32⟩
  | 78 => ⟨S8x1x16x64x128, .f32⟩
  | 79 => ⟨S8x128x128, .f32⟩
  | 80 => ⟨S8x1x16x64x128, .f32⟩
  | 81 => ⟨S1x16x128x8x64, .f32⟩
  | 82 => ⟨S_, .f32⟩
  | 83 => ⟨S8x128x128, .f32⟩
  | 84 => ⟨S8x128x128, .f32⟩
  | 85 => ⟨S1x2048x512, .f32⟩
  | 86 => ⟨S_, .f32⟩
  | 87 => ⟨S1x512, .f32⟩
  | 88 => ⟨S1x1x512, .f32⟩
  | 89 => ⟨S_, .f32⟩
  | 90 => ⟨S512, .f32⟩
  | 91 => ⟨S1x2048x512, .f32⟩
  | 92 => ⟨S_, .f32⟩
  | 93 => ⟨S1x512, .f32⟩
  | 94 => ⟨S1x1x512, .f32⟩
  | 95 => ⟨S1x2048x512, .f32⟩
  | 96 => ⟨S1x2048x512, .f32⟩
  | 97 => ⟨S_, .f32⟩
  | 98 => ⟨S512, .f32⟩
  | 99 => ⟨S1x2048x512, .f32⟩
  | 100 => ⟨S_, .f32⟩
  | 101 => ⟨S1x2048, .f32⟩
  | 102 => ⟨S1x2048x1, .f32⟩
  | 103 => ⟨S1x2048x512, .f32⟩
  | 104 => ⟨S1x2048x512, .f32⟩
  | 105 => ⟨S1x2048x1, .f32⟩
  | 106 => ⟨S_, .f32⟩
  | 107 => ⟨S1x2048x1, .f32⟩
  | 108 => ⟨S1x2048x1, .f32⟩
  | 109 => ⟨S_, .f32⟩
  | 110 => ⟨S2048, .f32⟩
  | 111 => ⟨S1x2048, .f32⟩
  | 112 => ⟨S1x2048x512, .f32⟩
  | 113 => ⟨S1x2048x512, .f32⟩
  | 114 => ⟨S1x2048x512, .f32⟩
  | 115 => ⟨S1x2048x512, .f32⟩
  | 116 => ⟨S1x2048x512, .f32⟩
  | 117 => ⟨S1x2048x512, .f32⟩
  | 118 => ⟨S_, .f32⟩
  | 119 => ⟨S1x2048, .f32⟩
  | 120 => ⟨S1x2048x1, .f32⟩
  | 121 => ⟨S_, .f32⟩
  | 122 => ⟨S1x2048x1, .f32⟩
  | 123 => ⟨S1x2048x1, .f32⟩
  | 124 => ⟨S_, .f32⟩
  | 125 => ⟨S2048, .f32⟩
  | 126 => ⟨S1x2048, .f32⟩
  | 127 => ⟨S1x2048x512, .f32⟩
  | _ => ⟨S2048x3584, .f32⟩

abbrev hbmTy0_1 (i : Nat) : BufTy := match i % 128 with
  | 0 => ⟨S1x2048x512, .f32⟩
  | 1 => ⟨S1x2048x1024, .f32⟩
  | 2 => ⟨S128x8, .f32⟩
  | 3 => ⟨S_, .i32⟩
  | 4 => ⟨S_, .f32⟩
  | 5 => ⟨S128x128, .f32⟩
  | 6 => ⟨S1x512, .f32⟩
  | 7 => ⟨S1x512, .f32⟩
  | 8 => ⟨S_, .f32⟩
  | 9 => ⟨S6x512, .f32⟩
  | 10 => ⟨S8x512, .f32⟩
  | 11 => ⟨S2048x1024, .f32⟩
  | 12 => ⟨S2048x1024, .bf16⟩
  | _ => ⟨S2048x3584, .f32⟩

abbrev hbmTy (i : Nat) : BufTy := match i / 128 with
  | 0 => hbmTy0_0 i
  | 1 => hbmTy0_1 i
  | _ => ⟨S2048x3584, .f32⟩

abbrev bufTy : (tb : Table) → Fin (tcTables nBuf tb) → BufTy
  | .hbm, ⟨i, _⟩ => hbmTy i
  | _, _ => ⟨S2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c : Ref sig .tc := ⟨.hbm, 42, rfl⟩
abbrev main_v30 : Ref sig .tc := ⟨.hbm, 43, rfl⟩
abbrev main_call0_v0 : Ref sig .tc := ⟨.hbm, 44, rfl⟩
abbrev main_call0_c : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_c_0 : Ref sig .tc := ⟨.hbm, 50, rfl⟩
abbrev main_call0_v5 : Ref sig .tc := ⟨.hbm, 51, rfl⟩
abbrev main_v31 : Ref sig .tc := ⟨.hbm, 52, rfl⟩
abbrev main_v32 : Ref sig .tc := ⟨.hbm, 53, rfl⟩
abbrev main_cst_5 : Ref sig .tc := ⟨.hbm, 54, rfl⟩
abbrev main_v33 : Ref sig .tc := ⟨.hbm, 55, rfl⟩
abbrev main_v34_1 : Ref sig .tc := ⟨.hbm, 56, rfl⟩
abbrev main_v34_0 : Ref sig .tc := ⟨.hbm, 57, rfl⟩
abbrev main_call1_cst : Ref sig .tc := ⟨.hbm, 58, rfl⟩
abbrev main_v34_2 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_6 : Ref sig .tc := ⟨.hbm, 72, rfl⟩
abbrev main_v47 : Ref sig .tc := ⟨.hbm, 73, rfl⟩
abbrev main_v48 : Ref sig .tc := ⟨.hbm, 74, rfl⟩
abbrev main_cst_7 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_call2_cst : Ref sig .tc := ⟨.hbm, 82, rfl⟩
abbrev main_call2_v0 : Ref sig .tc := ⟨.hbm, 83, rfl⟩
abbrev main_v55 : Ref sig .tc := ⟨.hbm, 84, rfl⟩
abbrev main_v56 : Ref sig .tc := ⟨.hbm, 85, rfl⟩
abbrev main_cst_8 : Ref sig .tc := ⟨.hbm, 86, rfl⟩
abbrev main_v57 : Ref sig .tc := ⟨.hbm, 87, rfl⟩
abbrev main_v58 : Ref sig .tc := ⟨.hbm, 88, rfl⟩
abbrev main_cst_9 : Ref sig .tc := ⟨.hbm, 89, rfl⟩
abbrev main_v59 : Ref sig .tc := ⟨.hbm, 90, rfl⟩
abbrev main_v60 : Ref sig .tc := ⟨.hbm, 91, rfl⟩
abbrev main_cst_10 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_11 : Ref sig .tc := ⟨.hbm, 97, rfl⟩
abbrev main_v65 : Ref sig .tc := ⟨.hbm, 98, rfl⟩
abbrev main_v66 : Ref sig .tc := ⟨.hbm, 99, rfl⟩
abbrev main_cst_12 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_13 : Ref sig .tc := ⟨.hbm, 106, rfl⟩
abbrev main_v72 : Ref sig .tc := ⟨.hbm, 107, rfl⟩
abbrev main_v73 : Ref sig .tc := ⟨.hbm, 108, rfl⟩
abbrev main_cst_14 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_15 : Ref sig .tc := ⟨.hbm, 118, rfl⟩
abbrev main_v82 : Ref sig .tc := ⟨.hbm, 119, rfl⟩
abbrev main_v83 : Ref sig .tc := ⟨.hbm, 120, rfl⟩
abbrev main_cst_16 : Ref sig .tc := ⟨.hbm, 121, rfl⟩
abbrev main_v84 : Ref sig .tc := ⟨.hbm, 122, rfl⟩
abbrev main_v85 : Ref sig .tc := ⟨.hbm, 123, rfl⟩
abbrev main_cst_17 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_c_18 : Ref sig .tc := ⟨.hbm, 131, rfl⟩
abbrev main_call3_v0 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_19 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩

abbrev nD : Nat := 1
abbrev τ : Topo := Topo.v7x

variable {F : FTy → Type} [FloatOps F]
-- ==== Dact.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩
abbrev S512x2048 : Shape := ⟨2, ![512, 2048]⟩
abbrev S2048x512 : Shape := ⟨2, ![2048, 512]⟩

abbrev nBuf : Space → Nat
  | .hbm => 10
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .bf16⟩
  | .hbm, ⟨7, _⟩ => ⟨S2048x2048, .bf16⟩
  | .hbm, ⟨8, _⟩ => ⟨S8192x2048, .bf16⟩
  | .hbm, ⟨9, _⟩ => ⟨S2048x8192, .bf16⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DactRefIdeal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S_, .f32⟩
  | .hbm, ⟨7, _⟩ => ⟨S2048x8192, .f32⟩
  | .hbm, ⟨8, _⟩ => ⟨S2048x8192, .i1⟩
  | .hbm, ⟨9, _⟩ => ⟨S_, .f32⟩
  | .hbm, ⟨10, _⟩ => ⟨S2048x8192, .f32⟩
  | .hbm, ⟨11, _⟩ => ⟨S2048x8192, .f32⟩
  | .hbm, ⟨12, _⟩ => ⟨S_, .f32⟩
  | .hbm, ⟨13, _⟩ => ⟨S2048x8192, .f32⟩
  | .hbm, ⟨14, _⟩ => ⟨S2048x8192, .f32⟩
  | .hbm, ⟨15, _⟩ => ⟨S2048x2048, .f32⟩
  | .hbm, ⟨16, _⟩ => ⟨S2048x8192, .f32⟩
  | .hbm, ⟨17, _⟩ => ⟨S2048x8192, .f32⟩
  | .hbm, ⟨18, _⟩ => ⟨S_, .f32⟩
  | .hbm, ⟨19, _⟩ => ⟨S2048x8192, .f32⟩
  | .hbm, ⟨20, _⟩ => ⟨S2048x8192, .f32⟩
  | .hbm, ⟨21, _⟩ => ⟨S2048x8192, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Dnorm.lean ====
abbrev S2048x2048 : Shape := ⟨2, ![2048, 2048]⟩
abbrev S2048 : Shape := ⟨1, ![2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S1x2048 : Shape := ⟨2, ![1, 2048]⟩
abbrev S8x2048 : Shape := ⟨2, ![8, 2048]⟩
abbrev S512x1024 : Shape := ⟨2, ![512, 1024]⟩
abbrev S1x2048x1024 : Shape := ⟨3, ![1, 2048, 1024]⟩
abbrev S512x2048 : Shape := ⟨2, ![512, 2048]⟩
abbrev S2048x1024 : Shape := ⟨2, ![2048, 1024]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x8192, .f32⟩
  | .hbm, ⟨3, _⟩ => ⟨S2048x8192, .f32⟩
  | .hbm, ⟨4, _⟩ => ⟨S2048x2048, .f32⟩
  | .hbm, ⟨5, _⟩ => ⟨S2048x8192, .bf16⟩
  | .hbm, ⟨6, _⟩ => ⟨S2048x8x1024, .bf16⟩
  | .hbm, ⟨7, _⟩ => ⟨S8x2048x1024, .bf16⟩
  | .hbm, ⟨8, _⟩ => ⟨S2048x8192, .bf16⟩
  | .hbm, ⟨9, _⟩ => ⟨S1x2048, .f32⟩
  | .hbm, ⟨10, _⟩ => ⟨S2048x2048, .f32⟩
  | .hbm, ⟨11, _⟩ => ⟨S8x2048, .f32⟩
  | .local _ .vmem, ⟨0, _⟩ => ⟨S512x1024, .bf16⟩
  | .local _ .vmem, ⟨1, _⟩ => ⟨S512x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S8x2048, .f32⟩
  | .local _ .vmem, ⟨12, _⟩ => ⟨S512x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_12 : BitVec 32 := 0#32
  let v20 : BitVec 1 := Scalar.cmpi .ne v19 c0_i32_12
  v20

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== DnormRefIdeal.lean ====
abbrev S2048x2048 : Shape := ⟨2, ![2048, 2048]⟩
abbrev S2048 : Shape := ⟨1, ![2048]⟩
abbrev S2048x8192 : Shape := ⟨2, ![2048, 8192]⟩
abbrev S_ : Shape := ⟨0, ![]⟩
abbrev S2048x1 : Shape := ⟨2, ![2048, 1]⟩
abbrev S1x2048 : Shape := ⟨2, ![1, 2048]⟩
abbrev S8x2048 : Shape := ⟨2, ![8, 2048]⟩

abbrev nBuf : Space → Nat
  | .hbm => 57
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x8192, .f32⟩
  | .hbm, ⟨3, _⟩ => ⟨S2048x8192, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2048x8192, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x2048, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S1x2048, .f32⟩
  | .hbm, ⟨54, _⟩ => ⟨S_, .i32⟩
  | .hbm, ⟨55, _⟩ => ⟨S_, .f32⟩
  | .hbm, ⟨56, _⟩ => ⟨S8x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c : Ref sig .tc := ⟨.hbm, 54, rfl⟩
abbrev main_call0_v0 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== Down.lean ====
abbrev S2048x8192 : Shape := ⟨2, ![2048, 8192]⟩
abbrev S8192x2048 : Shape := ⟨2, ![8192, 2048]⟩
abbrev S2048x2048 : Shape := ⟨2, ![2048, 2048]⟩
abbrev S1024x512 : Shape := ⟨2, ![1024, 512]⟩
abbrev S512x2048 : Shape := ⟨2, ![512, 2048]⟩
abbrev S1024x2048 : Shape := ⟨2, ![1024, 2048]⟩

abbrev nBuf : Space → Nat
  | .hbm => 6
  | .vmem => 9
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S2048x8192, .bf16⟩
  | .hbm, ⟨4, _⟩ => ⟨S8192x2048, .bf16⟩
  | .hbm, ⟨5, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S512x2048, .bf16⟩
  | .local _ .vmem, ⟨3, _⟩ => ⟨S512x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S2048x8192 : Shape := ⟨2, ![2048, 8192]⟩
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== GradDown.lean ====
abbrev S2048x8192 : Shape := ⟨2, ![2048, 8192]⟩
abbrev S2048x2048 : Shape := ⟨2, ![2048, 2048]⟩
abbrev S1 : Shape := ⟨1, ![1]⟩
abbrev S4x1024x2048 : Shape := ⟨3, ![4, 1024, 2048]⟩
abbrev S2048x512 : Shape := ⟨2, ![2048, 512]⟩
abbrev S1x512x2048 : Shape := ⟨3, ![1, 512, 2048]⟩
abbrev S512x2048 : Shape := ⟨2, ![512, 2048]⟩

abbrev nBuf : Space → Nat
  | .hbm => 5
  | .vmem => 5
  | .smem => 1
  | _ => 0

abbrev bufTy : (tb : Table) → Fin (tcTables nBuf tb) → BufTy
  | .hbm, ⟨0, _⟩ => ⟨S2048x8192, .f32⟩
  | .hbm, ⟨1, _⟩ => ⟨S2048x2048, .f32⟩
  | .hbm, ⟨2, _⟩ => ⟨S2048x8192, .bf16⟩
  | .hbm, ⟨3, _⟩ => ⟨S2048x2048, .bf16⟩
  | .hbm, ⟨4, _⟩ => ⟨S4x1024x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S1x512x2048, .bf16⟩
  | .local _ .vmem, ⟨4, _⟩ => ⟨S1x512x2048, .bf16⟩
  | .local _ .smem, ⟨0, _⟩ => ⟨S1, .i32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 2, 1], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c2_i32_0 : BitVec 32 := 2#32
  let v3 : BitVec 32 := Scalar.muli v2 c2_i32_0
  let v4 : BitVec 32 := Scalar.addi v3 arg1
  let c0_i32 : BitVec 32 := 0#32
  let c0_i32_1 : BitVec 32 := 0#32
  ![c0_i32.toNat, v4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== GradDownRefIdeal.lean ====
abbrev S2048x8192 : Shape := ⟨2, ![2048, 8192]⟩
abbrev S2048x2048 : Shape := ⟨2, ![2048, 2048]⟩
abbrev S1 : Shape := ⟨1, ![1]⟩
abbrev S_ : Shape := ⟨0, ![]⟩
abbrev S8192x2048 : Shape := ⟨2, ![8192, 2048]⟩
abbrev S4x2x1024x2048 : Shape := ⟨4, ![4, 2, 1024, 2048]⟩
abbrev S4x1x1024x2048 : Shape := ⟨4, ![4, 1, 1024, 2048]⟩
abbrev S4x1024x2048 : Shape := ⟨3, ![4, 1024, 2048]⟩

abbrev nBuf : Space → Nat
  | .hbm => 18
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x2048, .f32⟩
  | .hbm, ⟨2, _⟩ => ⟨S1, .i32⟩
  | .hbm, ⟨3, _⟩ => ⟨S_, .f32⟩
  | .hbm, ⟨4, _⟩ => ⟨S8192x2048, .f32⟩
  | .hbm, ⟨5, _⟩ => ⟨S2048x2048, .f32⟩
  | .hbm, ⟨6, _⟩ => ⟨S2048x8192, .f32⟩
  | .hbm, ⟨7, _⟩ => ⟨S8192x2048, .f32⟩
  | .hbm, ⟨8, _⟩ => ⟨S4x2x1024x2048, .f32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S4x1x1024x2048, .f32⟩
  | .hbm, ⟨13, _⟩ => ⟨S4x1024x2048, .f32⟩
  | .hbm, ⟨14, _⟩ => ⟨S4x1x1024x2048, .f32⟩
  | .hbm, ⟨15, _⟩ => ⟨S4x1024x2048, .f32⟩
  | .hbm, ⟨16, _⟩ => ⟨S4x1024x2048, .f32⟩
  | .hbm, ⟨17, _⟩ => ⟨S4x1024x2048, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== GradDownAdd.lean ====
abbrev S2048x8192 : Shape := ⟨2, ![2048, 8192]⟩
abbrev S2048x2048 : Shape := ⟨2, ![2048, 2048]⟩
abbrev S1 : Shape := ⟨1, ![1]⟩
abbrev S4x1024x2048 : Shape := ⟨3, ![4, 1024, 2048]⟩
abbrev S2048x512 : Shape := ⟨2, ![2048, 512]⟩
abbrev S1x512x2048 : Shape := ⟨3, ![1, 512, 2048]⟩
abbrev S512x2048 : Shape := ⟨2, ![512, 2048]⟩

abbrev nBuf : Space → Nat
  | .hbm => 6
  | .vmem => 7
  | .smem => 1
  | _ => 0

abbrev bufTy : (tb : Table) → Fin (tcTables nBuf tb) → BufTy
  | .hbm, ⟨0, _⟩ => ⟨S2048x8192, .f32⟩
  | .hbm, ⟨1, _⟩ => ⟨S2048x2048, .f32⟩
  | .hbm, ⟨2, _⟩ => ⟨S4x1024x2048, .bf16⟩
  | .hbm, ⟨3, _⟩ => ⟨S2048x8192, .bf16⟩
  | .hbm, ⟨4, _⟩ => ⟨S2048x2048, .bf16⟩
  | .hbm, ⟨5, _⟩ => ⟨S4x1024x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S1x512x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x512x2048, .bf16⟩
  | .local _ .smem, ⟨0, _⟩ => ⟨S1, .i32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 2, 1], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c2_i32_0 : BitVec 32 := 2#32
  let v3 : BitVec 32 := Scalar.muli v2 c2_i32_0
  let v4 : BitVec 32 := Scalar.addi v3 arg1
  let c0_i32 : BitVec 32 := 0#32
  let c0_i32_1 : BitVec 32 := 0#32
  ![c0_i32.toNat, v4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== GradDownAddRefIdeal.lean ====
abbrev S2048x8192 : Shape := ⟨2, ![2048, 8192]⟩
abbrev S2048x2048 : Shape := ⟨2, ![2048, 2048]⟩
abbrev S1 : Shape := ⟨1, ![1]⟩
abbrev S4x1024x2048 : Shape := ⟨3, ![4, 1024, 2048]⟩
abbrev S_ : Shape := ⟨0, ![]⟩
abbrev S8192x2048 : Shape := ⟨2, ![8192, 2048]⟩
abbrev S4x2x1024x2048 : Shape := ⟨4, ![4, 2, 1024, 2048]⟩
abbrev S4x1x1024x2048 : Shape := ⟨4, ![4, 1, 1024, 2048]⟩

abbrev nBuf : Space → Nat
  | .hbm => 21
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x2048, .f32⟩
  | .hbm, ⟨2, _⟩ => ⟨S1, .i32⟩
  | .hbm, ⟨3, _⟩ => ⟨S4x1024x2048, .bf16⟩
  | .hbm, ⟨4, _⟩ => ⟨S_, .f32⟩
  | .hbm, ⟨5, _⟩ => ⟨S8192x2048, .f32⟩
  | .hbm, ⟨6, _⟩ => ⟨S2048x2048, .f32⟩
  | .hbm, ⟨7, _⟩ => ⟨S2048x8192, .f32⟩
  | .hbm, ⟨8, _⟩ => ⟨S8192x2048, .f32⟩
  | .hbm, ⟨9, _⟩ => ⟨S4x2x1024x2048, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S4x1x1024x2048, .f32⟩
  | .hbm, ⟨14, _⟩ => ⟨S4x1024x2048, .f32⟩
  | .hbm, ⟨15, _⟩ => ⟨S4x1x1024x2048, .f32⟩
  | .hbm, ⟨16, _⟩ => ⟨S4x1024x2048, .f32⟩
  | .hbm, ⟨17, _⟩ => ⟨S4x1024x2048, .f32⟩
  | .hbm, ⟨18, _⟩ => ⟨S4x1024x2048, .f32⟩
  | .hbm, ⟨19, _⟩ => ⟨S4x1024x2048, .f32⟩
  | .hbm, ⟨20, _⟩ => ⟨S4x1024x2048, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== GradUp.lean ====
abbrev S2048x2048 : Shape := ⟨2, ![2048, 2048]⟩
abbrev S2048x8192 : Shape := ⟨2, ![2048, 8192]⟩
abbrev S1 : Shape := ⟨1, ![1]⟩
abbrev S4x2048x1024 : Shape := ⟨3, ![4, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 1
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x2048, .bf16⟩
  | .hbm, ⟨3, _⟩ => ⟨S2048x8192, .bf16⟩
  | .hbm, ⟨4, _⟩ => ⟨S4x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .smem, ⟨0, _⟩ => ⟨S1, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c1_i32 : BitVec 32 := 1#32
  let v3 : BitVec 32 := Scalar.muli v2 c1_i32
  let v4 : BitVec 32 := Scalar.addi v3 arg2
  let c0_i32 : BitVec 32 := 0#32
  let c0_i32_0 : BitVec 32 := 0#32
  ![c0_i32.toNat, v4.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== GradUpRefIdeal.lean ====
abbrev S2048x2048 : Shape := ⟨2, ![2048, 2048]⟩
abbrev S2048x8192 : Shape := ⟨2, ![2048, 8192]⟩
abbrev S1 : Shape := ⟨1, ![1]⟩
abbrev S_ : Shape := ⟨0, ![]⟩
abbrev S8192x2048 : Shape := ⟨2, ![8192, 2048]⟩
abbrev S2048x4x2x1024 : Shape := ⟨4, ![2048, 4, 2, 1024]⟩
abbrev S4x2x2048x1024 : Shape := ⟨4, ![4, 2, 2048, 1024]⟩
abbrev S4x1x2048x1024 : Shape := ⟨4, ![4, 1, 2048, 1024]⟩
abbrev S4x2048x1024 : Shape := ⟨3, ![4, 2048, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S1, .i32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S8192x2048, .f32⟩
  | .hbm, ⟨7, _⟩ => ⟨S2048x8192, .f32⟩
  | .hbm, ⟨8, _⟩ => ⟨S2048x4x2x1024, .f32⟩
  | .hbm, ⟨9, _⟩ => ⟨S4x2x2048x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S4x1x2048x1024, .f32⟩
  | .hbm, ⟨14, _⟩ => ⟨S4x2048x1024, .f32⟩
  | .hbm, ⟨15, _⟩ => ⟨S4x1x2048x1024, .f32⟩
  | .hbm, ⟨16, _⟩ => ⟨S4x2048x1024, .f32⟩
  | .hbm, ⟨17, _⟩ => ⟨S4x2048x1024, .f32⟩
  | .hbm, ⟨18, _⟩ => ⟨S4x2048x1024, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== GradUpAdd.lean ====
abbrev S2048x2048 : Shape := ⟨2, ![2048, 2048]⟩
abbrev S2048x8192 : Shape := ⟨2, ![2048, 8192]⟩
abbrev S1 : Shape := ⟨1, ![1]⟩
abbrev S4x2048x1024 : Shape := ⟨3, ![4, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 6
  | .vmem => 8
  | .smem => 1
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S4x2048x1024, .bf16⟩
  | .hbm, ⟨3, _⟩ => ⟨S2048x2048, .bf16⟩
  | .hbm, ⟨4, _⟩ => ⟨S2048x8192, .bf16⟩
  | .hbm, ⟨5, _⟩ => ⟨S4x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .smem, ⟨0, _⟩ => ⟨S1, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c1_i32 : BitVec 32 := 1#32
  let v3 : BitVec 32 := Scalar.muli v2 c1_i32
  let v4 : BitVec 32 := Scalar.addi v3 arg2
  let c0_i32 : BitVec 32 := 0#32
  let c0_i32_0 : BitVec 32 := 0#32
  ![c0_i32.toNat, v4.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== GradUpAddRefIdeal.lean ====
abbrev S2048x2048 : Shape := ⟨2, ![2048, 2048]⟩
abbrev S2048x8192 : Shape := ⟨2, ![2048, 8192]⟩
abbrev S1 : Shape := ⟨1, ![1]⟩
abbrev S4x2048x1024 : Shape := ⟨3, ![4, 2048, 1024]⟩
abbrev S_ : Shape := ⟨0, ![]⟩
abbrev S8192x2048 : Shape := ⟨2, ![8192, 2048]⟩
abbrev S2048x4x2x1024 : Shape := ⟨4, ![2048, 4, 2, 1024]⟩
abbrev S4x2x2048x1024 : Shape := ⟨4, ![4, 2, 2048, 1024]⟩
abbrev S4x1x2048x1024 : Shape := ⟨4, ![4, 1, 2048, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S1, .i32⟩
  | .hbm, ⟨3, _⟩ => ⟨S4x2048x1024, .bf16⟩
  | .hbm, ⟨4, _⟩ => ⟨S_, .f32⟩
  | .hbm, ⟨5, _⟩ => ⟨S2048x8192, .f32⟩
  | .hbm, ⟨6, _⟩ => ⟨S2048x8192, .f32⟩
  | .hbm, ⟨7, _⟩ => ⟨S8192x2048, .f32⟩
  | .hbm, ⟨8, _⟩ => ⟨S2048x8192, .f32⟩
  | .hbm, ⟨9, _⟩ => ⟨S2048x4x2x1024, .f32⟩
  | .hbm, ⟨10, _⟩ => ⟨S4x2x2048x1024, .f32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S4x1x2048x1024, .f32⟩
  | .hbm, ⟨15, _⟩ => ⟨S4x2048x1024, .f32⟩
  | .hbm, ⟨16, _⟩ => ⟨S4x1x2048x1024, .f32⟩
  | .hbm, ⟨17, _⟩ => ⟨S4x2048x1024, .f32⟩
  | .hbm, ⟨18, _⟩ => ⟨S4x2048x1024, .f32⟩
  | .hbm, ⟨19, _⟩ => ⟨S4x2048x1024, .f32⟩
  | .hbm, ⟨20, _⟩ => ⟨S4x2048x1024, .f32⟩
  | .hbm, ⟨21, _⟩ => ⟨S4x2048x1024, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== GradOut.lean ====
abbrev S2048x2048 : Shape := ⟨2, ![2048, 2048]⟩
abbrev S1 : Shape := ⟨1, ![1]⟩
abbrev S4x256x2048 : Shape := ⟨3, ![4, 256, 2048]⟩
abbrev S2048x256 : Shape := ⟨2, ![2048, 256]⟩
abbrev S1x256x2048 : Shape := ⟨3, ![1, 256, 2048]⟩
abbrev S256x2048 : Shape := ⟨2, ![256, 2048]⟩

abbrev nBuf : Space → Nat
  | .hbm => 5
  | .vmem => 5
  | .smem => 1
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S4x256x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x2048, .bf16⟩
  | .local _ .vmem, ⟨3, _⟩ => ⟨S1x256x2048, .bf16⟩
  | .local _ .vmem, ⟨4, _⟩ => ⟨S1x256x2048, .bf16⟩
  | .local _ .smem, ⟨0, _⟩ => ⟨S1, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c1_i32 : BitVec 32 := 1#32
  let v3 : BitVec 32 := Scalar.muli v2 c1_i32
  let v4 : BitVec 32 := Scalar.addi v3 arg1
  let c0_i32 : BitVec 32 := 0#32
  let c0_i32_0 : BitVec 32 := 0#32
  ![c0_i32.toNat, v4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== GradOutRefIdeal.lean ====
abbrev S2048x2048 : Shape := ⟨2, ![2048, 2048]⟩
abbrev S1 : Shape := ⟨1, ![1]⟩
abbrev S_ : Shape := ⟨0, ![]⟩
abbrev S4x2x256x2048 : Shape := ⟨4, ![4, 2, 256, 2048]⟩
abbrev S4x1x256x2048 : Shape := ⟨4, ![4, 1, 256, 2048]⟩
abbrev S4x256x2048 : Shape := ⟨3, ![4, 256, 2048]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1, .i32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S4x2x256x2048, .f32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S4x1x256x2048, .f32⟩
  | .hbm, ⟨13, _⟩ => ⟨S4x256x2048, .f32⟩
  | .hbm, ⟨14, _⟩ => ⟨S4x1x256x2048, .f32⟩
  | .hbm, ⟨15, _⟩ => ⟨S4x256x2048, .f32⟩
  | .hbm, ⟨16, _⟩ => ⟨S4x256x2048, .f32⟩
  | .hbm, ⟨17, _⟩ => ⟨S4x256x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== GradOutAdd.lean ====
abbrev S2048x2048 : Shape := ⟨2, ![2048, 2048]⟩
abbrev S1 : Shape := ⟨1, ![1]⟩
abbrev S4x256x2048 : Shape := ⟨3, ![4, 256, 2048]⟩
abbrev S2048x256 : Shape := ⟨2, ![2048, 256]⟩
abbrev S1x256x2048 : Shape := ⟨3, ![1, 256, 2048]⟩
abbrev S256x2048 : Shape := ⟨2, ![256, 2048]⟩

abbrev nBuf : Space → Nat
  | .hbm => 6
  | .vmem => 7
  | .smem => 1
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S4x256x2048, .bf16⟩
  | .hbm, ⟨3, _⟩ => ⟨S2048x2048, .bf16⟩
  | .hbm, ⟨4, _⟩ => ⟨S2048x2048, .bf16⟩
  | .hbm, ⟨5, _⟩ => ⟨S4x256x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x2048, .bf16⟩
  | .local _ .smem, ⟨0, _⟩ => ⟨S1, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c1_i32 : BitVec 32 := 1#32
  let v3 : BitVec 32 := Scalar.muli v2 c1_i32
  let v4 : BitVec 32 := Scalar.addi v3 arg1
  let c0_i32 : BitVec 32 := 0#32
  let c0_i32_0 : BitVec 32 := 0#32
  ![c0_i32.toNat, v4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== GradOutAddRefIdeal.lean ====
abbrev S2048x2048 : Shape := ⟨2, ![2048, 2048]⟩
abbrev S1 : Shape := ⟨1, ![1]⟩
abbrev S4x256x2048 : Shape := ⟨3, ![4, 256, 2048]⟩
abbrev S_ : Shape := ⟨0, ![]⟩
abbrev S4x2x256x2048 : Shape := ⟨4, ![4, 2, 256, 2048]⟩
abbrev S4x1x256x2048 : Shape := ⟨4, ![4, 1, 256, 2048]⟩

abbrev nBuf : Space → Nat
  | .hbm => 21
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1, .i32⟩
  | .hbm, ⟨3, _⟩ => ⟨S4x256x2048, .bf16⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S4x2x256x2048, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S4x1x256x2048, .f32⟩
  | .hbm, ⟨14, _⟩ => ⟨S4x256x2048, .f32⟩
  | .hbm, ⟨15, _⟩ => ⟨S4x1x256x2048, .f32⟩
  | .hbm, ⟨16, _⟩ => ⟨S4x256x2048, .f32⟩
  | .hbm, ⟨17, _⟩ => ⟨S4x256x2048, .f32⟩
  | .hbm, ⟨18, _⟩ => ⟨S4x256x2048, .f32⟩
  | .hbm, ⟨19, _⟩ => ⟨S4x256x2048, .f32⟩
  | .hbm, ⟨20, _⟩ => ⟨S4x256x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== GradIn.lean ====
abbrev S2048x2048 : Shape := ⟨2, ![2048, 2048]⟩
abbrev S2048x3584 : Shape := ⟨2, ![2048, 3584]⟩
abbrev S2048x1536 : Shape := ⟨2, ![2048, 1536]⟩
abbrev S2048x1024 : Shape := ⟨2, ![2048, 1024]⟩
abbrev S3584x2048 : Shape := ⟨2, ![3584, 2048]⟩
abbrev S2048x512 : Shape := ⟨2, ![2048, 512]⟩
abbrev S512x2048 : Shape := ⟨2, ![512, 2048]⟩

abbrev nBuf : Space → Nat
  | .hbm => 8
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x3584, .f32⟩
  | .hbm, ⟨2, _⟩ => ⟨S2048x3584, .bf16⟩
  | .hbm, ⟨3, _⟩ => ⟨S2048x1536, .bf16⟩
  | .hbm, ⟨4, _⟩ => ⟨S2048x1024, .bf16⟩
  | .hbm, ⟨5, _⟩ => ⟨S2048x1024, .bf16⟩
  | .hbm, ⟨6, _⟩ => ⟨S2048x2048, .bf16⟩
  | .hbm, ⟨7, _⟩ => ⟨S3584x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x2048, .bf16⟩
  | .local _ .vmem, ⟨7, _⟩ => ⟨S512x2048, .bf16⟩
  | .local _ .vmem, ⟨8, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![7], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c3_i32 : BitVec 32 := 3#32
  let v1 : BitVec 1 := Scalar.cmpi .slt arg0 c3_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c3_i32_1 : BitVec 32 := 3#32
  let v5 : BitVec 1 := Scalar.cmpi .sge arg0 c3_i32_1
  let c5_i32 : BitVec 32 := 5#32
  let v6 : BitVec 1 := Scalar.cmpi .slt arg0 c5_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c5_i32_3 : BitVec 32 := 5#32
  let v10 : BitVec 1 := Scalar.cmpi .sge arg0 c5_i32_3
  let c7_i32 : BitVec 32 := 7#32
  let v11 : BitVec 1 := Scalar.cmpi .slt arg0 c7_i32
  let v12 : BitVec 1 := Scalar.andi v10 v11
  let v13 : BitVec 32 := Scalar.extui v12
  let c0_i32_4 : BitVec 32 := 0#32
  let v14 : BitVec 1 := Scalar.cmpi .ne v13 c0_i32_4
  v14

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let c5_i32 : BitVec 32 := 5#32
  let v0 : BitVec 32 := Scalar.subi arg0 c5_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GradInRefIdeal.lean ====
abbrev S2048x2048 : Shape := ⟨2, ![2048, 2048]⟩
abbrev S2048x3584 : Shape := ⟨2, ![2048, 3584]⟩
abbrev S_ : Shape := ⟨0, ![]⟩
abbrev S3584x2048 : Shape := ⟨2, ![3584, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x3584, .f32⟩
  | .hbm, ⟨2, _⟩ => ⟨S_, .f32⟩
  | .hbm, ⟨3, _⟩ => ⟨S2048x3584, .f32⟩
  | .hbm, ⟨4, _⟩ => ⟨S2048x3584, .f32⟩
  | .hbm, ⟨5, _⟩ => ⟨S3584x2048, .f32⟩
  | .hbm, ⟨6, _⟩ => ⟨S2048x3584, .f32⟩
  | .hbm, ⟨7, _⟩ => ⟨S3584x2048, .f32⟩
  | .hbm, ⟨8, _⟩ => ⟨S3584x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InDnorm.lean ====
abbrev S2048x2048 : Shape := ⟨2, ![2048, 2048]⟩
abbrev S2048 : Shape := ⟨1, ![2048]⟩
abbrev S2048x3584 : Shape := ⟨2, ![2048, 3584]⟩
abbrev S2048x1536 : Shape := ⟨2, ![2048, 1536]⟩
abbrev S2048x1024 : Shape := ⟨2, ![2048, 1024]⟩
abbrev S3584x2048 : Shape := ⟨2, ![3584, 2048]⟩
abbrev S1x2048 : Shape := ⟨2, ![1, 2048]⟩
abbrev S8x2048 : Shape := ⟨2, ![8, 2048]⟩
abbrev S256x1536 : Shape := ⟨2, ![256, 1536]⟩
abbrev S256x1024 : Shape := ⟨2, ![256, 1024]⟩
abbrev S256x2048 : Shape := ⟨2, ![256, 2048]⟩
abbrev S1536x2048 : Shape := ⟨2, ![1536, 2048]⟩
abbrev S1024x2048 : Shape := ⟨2, ![1024, 2048]⟩
abbrev S256 : Shape := ⟨1, ![256]⟩
abbrev S256x1 : Shape := ⟨2, ![256, 1]⟩

abbrev nBuf : Space → Nat
  | .hbm => 15
  | .vmem => 17
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x3584, .f32⟩
  | .hbm, ⟨3, _⟩ => ⟨S2048x3584, .f32⟩
  | .hbm, ⟨4, _⟩ => ⟨S2048x2048, .f32⟩
  | .hbm, ⟨5, _⟩ => ⟨S2048x3584, .bf16⟩
  | .hbm, ⟨6, _⟩ => ⟨S2048x1536, .bf16⟩
  | .hbm, ⟨7, _⟩ => ⟨S2048x1024, .bf16⟩
  | .hbm, ⟨8, _⟩ => ⟨S2048x1024, .bf16⟩
  | .hbm, ⟨9, _⟩ => ⟨S3584x2048, .f32⟩
  | .hbm, ⟨10, _⟩ => ⟨S3584x2048, .bf16⟩
  | .hbm, ⟨11, _⟩ => ⟨S1x2048, .f32⟩
  | .hbm, ⟨12, _⟩ => ⟨S2048x2048, .f32⟩
  | .hbm, ⟨13, _⟩ => ⟨S2048x2048, .bf16⟩
  | .hbm, ⟨14, _⟩ => ⟨S8x2048, .f32⟩
  | .local _ .vmem, ⟨0, _⟩ => ⟨S256x1536, .bf16⟩
  | .local _ .vmem, ⟨1, _⟩ => ⟨S256x1536, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S3584x2048, .bf16⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | .local _ .vmem, ⟨16, _⟩ => ⟨S8x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3584x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== InDnormRefIdeal.lean ====
abbrev S2048x2048 : Shape := ⟨2, ![2048, 2048]⟩
abbrev S2048 : Shape := ⟨1, ![2048]⟩
abbrev S2048x3584 : Shape := ⟨2, ![2048, 3584]⟩
abbrev S_ : Shape := ⟨0, ![]⟩
abbrev S2048x1 : Shape := ⟨2, ![2048, 1]⟩
abbrev S1x2048 : Shape := ⟨2, ![1, 2048]⟩
abbrev S8x2048 : Shape := ⟨2, ![8, 2048]⟩

abbrev nBuf : Space → Nat
  | .hbm => 58
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x3584, .f32⟩
  | .hbm, ⟨3, _⟩ => ⟨S2048x3584, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2048x3584, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x2048, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S2048x2048, .bf16⟩
  | .hbm, ⟨54, _⟩ => ⟨S1x2048, .f32⟩
  | .hbm, ⟨55, _⟩ => ⟨S_, .i32⟩
  | .hbm, ⟨56, _⟩ => ⟨S_, .f32⟩
  | .hbm, ⟨57, _⟩ => ⟨S8x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c : Ref sig .tc := ⟨.hbm, 55, rfl⟩
abbrev main_call0_v0 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== MlpUp.lean ====
abbrev S2048x2048 : Shape := ⟨2, ![2048, 2048]⟩
abbrev S2048 : Shape := ⟨1, ![2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S1x2048 : Shape := ⟨2, ![1, 2048]⟩
abbrev S512x2048 : Shape := ⟨2, ![512, 2048]⟩
abbrev S1x2048x1024 : Shape := ⟨3, ![1, 2048, 1024]⟩
abbrev S512x1024 : Shape := ⟨2, ![512, 1024]⟩
abbrev S512 : Shape := ⟨1, ![512]⟩
abbrev S512x1 : Shape := ⟨2, ![512, 1]⟩
abbrev S2048x1024 : Shape := ⟨2, ![2048, 1024]⟩

abbrev nBuf : Space → Nat
  | .hbm => 10
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x8192, .f32⟩
  | .hbm, ⟨3, _⟩ => ⟨S2048x8192, .bf16⟩
  | .hbm, ⟨4, _⟩ => ⟨S2048x8x1024, .bf16⟩
  | .hbm, ⟨5, _⟩ => ⟨S8x2048x1024, .bf16⟩
  | .hbm, ⟨6, _⟩ => ⟨S1x2048, .f32⟩
  | .hbm, ⟨7, _⟩ => ⟨S2048x2048, .bf16⟩
  | .hbm, ⟨8, _⟩ => ⟨S2048x8192, .bf16⟩
  | .hbm, ⟨9, _⟩ => ⟨S2048x8192, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S512x2048, .bf16⟩
  | .local _ .vmem, ⟨6, _⟩ => ⟨S512x2048, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MlpUpRefIdeal.lean ====
abbrev S2048x2048 : Shape := ⟨2, ![2048, 2048]⟩
abbrev S2048 : Shape := ⟨1, ![2048]⟩
abbrev S2048x8192 : Shape := ⟨2, ![2048, 8192]⟩
abbrev S_ : Shape := ⟨0, ![]⟩
abbrev S2048x1 : Shape := ⟨2, ![2048, 1]⟩
abbrev S1x2048 : Shape := ⟨2, ![1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x8192, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S2048x8192, .f32⟩
  | .hbm, ⟨20, _⟩ => ⟨S_, .f32⟩
  | .hbm, ⟨21, _⟩ => ⟨S2048x8192, .f32⟩
  | .hbm, ⟨22, _⟩ => ⟨S2048x8192, .f32⟩
  | .hbm, ⟨23, _⟩ => ⟨S2048x2048, .bf16⟩
  | .hbm, ⟨24, _⟩ => ⟨S2048x8192, .f32⟩
  | .hbm, ⟨25, _⟩ => ⟨S2048x8192, .bf16⟩
  | .hbm, ⟨26, _⟩ => ⟨S2048x8192, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_cst : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== InProj.lean ====
abbrev S2048x2048 : Shape := ⟨2, ![2048, 2048]⟩
abbrev S2048 : Shape := ⟨1, ![2048]⟩
abbrev S2048x3584 : Shape := ⟨2, ![2048, 3584]⟩
abbrev S1x2048 : Shape := ⟨2, ![1, 2048]⟩
abbrev S3584x2048 : Shape := ⟨2, ![3584, 2048]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x3584, .f32⟩
  | .hbm, ⟨3, _⟩ => ⟨S1x2048, .f32⟩
  | .hbm, ⟨4, _⟩ => ⟨S3584x2048, .f32⟩
  | .hbm, ⟨5, _⟩ => ⟨S3584x2048, .bf16⟩
  | .hbm, ⟨6, _⟩ => ⟨S2048x2048, .bf16⟩
  | .hbm, ⟨7, _⟩ => ⟨S2048x3584, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x512, .f32⟩
  | .local _ .vmem, ⟨8, _⟩ => ⟨S512x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjRefIdeal.lean ====
abbrev S2048x2048 : Shape := ⟨2, ![2048, 2048]⟩
abbrev S2048 : Shape := ⟨1, ![2048]⟩
abbrev S2048x3584 : Shape := ⟨2, ![2048, 3584]⟩
abbrev S_ : Shape := ⟨0, ![]⟩
abbrev S2048x1 : Shape := ⟨2, ![2048, 1]⟩
abbrev S1x2048 : Shape := ⟨2, ![1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x3584, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | .hbm, ⟨20, _⟩ => ⟨S2048x3584, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.SguMath.lean ====
module

public import Idealize.ShloMosaic.PureOps.Ideal.Laws
public import Mathlib.Tactic.Ring
public import Mathlib.Tactic.NormNum

@[expose] public section

noncomputable section

/-! The gradient of the spatial gating unit as functions of real arrays, and the two forms of a layer norm's gradient. -/

namespace Cert.Sgu

/-! ## Coordinates -/

/-- Row `i` of chunk `n`. -/
def row (n : Fin 16) (i : Fin 128) : Fin 2048 := ⟨128 * n.val + i.val, by omega⟩
/-- Lane `d` of head `h`. -/
def lane (h : Fin 8) (d : Fin 64) : Fin 512 := ⟨64 * h.val + d.val, by omega⟩
/-- A row's chunk, its place in the chunk, and a lane's head and place in the head. -/
def chunk (r : Fin 2048) : Fin 16 := ⟨r.val / 128, by omega⟩
def pos (r : Fin 2048) : Fin 128 := ⟨r.val % 128, by omega⟩
def hd (l : Fin 512) : Fin 8 := ⟨l.val / 64, by omega⟩

theorem row_chunk_pos (r : Fin 2048) : row (chunk r) (pos r) = r := Fin.ext (by simp only [row, chunk, pos]; omega)
theorem chunk_row (n : Fin 16) (i : Fin 128) : chunk (row n i) = n := Fin.ext (by simp only [row, chunk]; omega)
theorem pos_row (n : Fin 16) (i : Fin 128) : pos (row n i) = i := Fin.ext (by simp only [row, pos]; omega)
theorem hd_lane (h : Fin 8) (d : Fin 64) : hd (lane h d) = h := Fin.ext (by simp only [lane, hd]; omega)

/-- Rows are pairs of a chunk and a place in it. -/
def rowEquiv : Fin 16 × Fin 128 ≃ Fin 2048 where
  toFun p := row p.1 p.2
  invFun r := (chunk r, pos r)
  left_inv p := by simp only [chunk_row, pos_row]
  right_inv r := row_chunk_pos r

theorem sum_rows {M : Type*} [AddCommMonoid M] (f : Fin 2048 → M) : ∑ r, f r = ∑ n, ∑ i, f (row n i) := by
  rw [← Equiv.sum_comp rowEquiv, Fintype.sum_prod_type]; rfl

/-- Lanes are pairs of a head and a place in it. -/
def laneEquiv : Fin 8 × Fin 64 ≃ Fin 512 where
  toFun p := lane p.1 p.2
  invFun l := (hd l, ⟨l.val % 64, by omega⟩)
  left_inv p := by
    refine Prod.ext (hd_lane p.1 p.2) (Fin.ext ?_)
    simp only [lane]; omega
  right_inv l := Fin.ext (by simp only [lane, hd]; omega)

theorem sum_lanes {M : Type*} [AddCommMonoid M] (f : Fin 512 → M) : ∑ l, f l = ∑ h, ∑ d, f (lane h d) := by
  rw [← Equiv.sum_comp laneEquiv, Fintype.sum_prod_type]; rfl

/-- A sum over the lanes of one head. -/
theorem sum_head {M : Type*} [AddCommMonoid M] (h : Fin 8) (f : Fin 512 → M) :
    (∑ l, if hd l = h then f l else 0) = ∑ d, f (lane h d) := by
  rw [sum_lanes]
  simp only [hd_lane]
  rw [Finset.sum_eq_single h]
  · simp
  · intro b _ hb; simp [hb]
  · intro hh; exact absurd (Finset.mem_univ h) hh

/-! ## One row: the layer norm and its gradient -/

/-- The constant `1e-6` as `f32` writes it. -/
def eps : ℝ := 8796093 / 8796093022208
theorem eps_pos : 0 < eps := by norm_num [eps]

def mean (z : Fin 512 → ℝ) : ℝ := (∑ l, z l) / 512
def cen (z : Fin 512 → ℝ) (l : Fin 512) : ℝ := z l - mean z
def var (z : Fin 512 → ℝ) : ℝ := mean (fun l => cen z l * cen z l) + eps
def rs (z : Fin 512 → ℝ) : ℝ := (Real.sqrt (var z))⁻¹
def hat (z : Fin 512 → ℝ) (l : Fin 512) : ℝ := cen z l * rs z
/-- The gradient with respect to the row `z`, where `y` is the gradient with respect to the normalised row. -/
def lnb (z y : Fin 512 → ℝ) (l : Fin 512) : ℝ := rs z * (y l - mean y - hat z l * mean (fun k => y k * hat z k))

theorem mean_sq_nonneg (z : Fin 512 → ℝ) : 0 ≤ mean (fun l => cen z l * cen z l) :=
  div_nonneg (Finset.sum_nonneg fun _ _ => mul_self_nonneg _) (by norm_num)
theorem var_pos (z : Fin 512 → ℝ) : 0 < var z := add_pos_of_nonneg_of_pos (mean_sq_nonneg z) eps_pos
theorem var_ne (z : Fin 512 → ℝ) : var z ≠ 0 := (var_pos z).ne'
theorem rs_sq (z : Fin 512 → ℝ) : rs z * rs z = (var z)⁻¹ := by
  unfold rs; rw [← mul_inv, Real.mul_self_sqrt (var_pos z).le]

theorem mean_cen (z : Fin 512 → ℝ) : ∑ l, cen z l = 0 := by
  unfold cen
  rw [Finset.sum_sub_distrib, Finset.sum_const, Finset.card_univ, Fintype.card_fin]
  unfold mean
  rw [nsmul_eq_mul]; push_cast; ring

/-- The coefficient of the centred row in the gradient: the gradient of the variance, over the row's length. -/
def vcoef (z y : Fin 512 → ℝ) : ℝ := (∑ k, cen z k * y k) * ((-1 / 2) * (rs z / var z)) / 512
/-- The gradient before the mean's own part. -/
def pre (z y : Fin 512 → ℝ) (l : Fin 512) : ℝ :=
  y l * rs z + cen z l * vcoef z y + vcoef z y * cen z l

/-- The gradient taken operation by operation is the closed form. -/
theorem lnb_eq (z y : Fin 512 → ℝ) (l : Fin 512) : pre z y l + (∑ k, -(pre z y k)) / 512 = lnb z y l := by
  have hs : ∑ k, -(pre z y k) = -(rs z * ∑ k, y k) := by
    unfold pre
    rw [Finset.sum_neg_distrib, Finset.sum_add_distrib, Finset.sum_add_distrib, ← Finset.sum_mul, ← Finset.sum_mul, ← Finset.mul_sum,
      mean_cen]
    ring
  have hm : (∑ k, y k * hat z k) = rs z * ∑ k, cen z k * y k := by
    rw [Finset.mul_sum]; exact Finset.sum_congr rfl fun k _ => by unfold hat; ring
  rw [hs]
  unfold lnb pre vcoef mean
  rw [hm]
  unfold hat
  rw [div_eq_mul_inv (rs z) (var z), ← rs_sq z]
  ring

/-! ## The arrays -/

/-- The arguments' real values. -/
structure Args where
  X : Fin 2048 → Fin 3584 → ℝ
  C : Fin 2048 → Fin 512 → ℝ
  g : Fin 512 → ℝ
  b : Fin 512 → ℝ
  W : Fin 8 → Fin 128 → Fin 128 → ℝ
  B : Fin 8 → Fin 128 → ℝ

variable (a : Args)

def u (r : Fin 2048) (l : Fin 512) : ℝ := a.X r ⟨2560 + l.val, by omega⟩
def v (r : Fin 2048) (l : Fin 512) : ℝ := a.X r ⟨3072 + l.val, by omega⟩
/-- The lower triangle of head `h`'s mixing matrix. -/
def tri (W : Fin 8 → Fin 128 → Fin 128 → ℝ) (h : Fin 8) (i j : Fin 128) : ℝ := if j.val ≤ i.val then W h i j else 0
def vn (r : Fin 2048) (l : Fin 512) : ℝ := hat (v a r) l * a.g l + a.b l
def gate (r : Fin 2048) (l : Fin 512) : ℝ :=
  (∑ k : Fin 128, vn a (row (chunk r) k) l * tri a.W (hd l) (pos r) k) + a.B (hd l) (pos r)
def dsv (r : Fin 2048) (l : Fin 512) : ℝ := u a r l * a.C r l
/-- The gradient with respect to the normalised rows: each chunk's gradient times the transposed triangle of its head. -/
def dvn (r : Fin 2048) (l : Fin 512) : ℝ := ∑ i : Fin 128, dsv a (row (chunk r) i) l * tri a.W (hd l) i (pos r)

/-- The four results. -/
def dU (r : Fin 2048) (l : Fin 512) : ℝ := a.C r l * gate a r l
def dV (r : Fin 2048) (l : Fin 512) : ℝ := lnb (v a r) (fun k => dvn a r k * a.g k) l
def dW (h : Fin 8) (i j : Fin 128) : ℝ :=
  if j.val ≤ i.val then ∑ n : Fin 16, ∑ d : Fin 64, dsv a (row n i) (lane h d) * vn a (row n j) (lane h d) else 0
def dB (i : Fin 128) (h : Fin 8) : ℝ := ∑ n : Fin 16, ∑ d : Fin 64, dsv a (row n i) (lane h d)
def dG (l : Fin 512) : ℝ := ∑ r, hat (v a r) l * dvn a r l
def dH (l : Fin 512) : ℝ := ∑ r, dvn a r l
/-- The gradient of the two halves side by side; the bias's gradient, padded; the gradients of the layer norm's scale and shift, padded. -/
def dUV (r : Fin 2048) (l : Fin 1024) : ℝ := if h : l.val < 512 then dU a r ⟨l.val, h⟩ else dV a r ⟨l.val - 512, by omega⟩
def dBpad (i : Fin 128) (h : Fin 128) : ℝ := if hh : h.val < 8 then dB a i ⟨h.val, hh⟩ else 0
def dVec (q : Fin 8) (l : Fin 512) : ℝ := if q.val = 0 then dG a l else if q.val = 1 then dH a l else 0

end Cert.Sgu

end
-- ==== Proof.SguRef.lean ====
module

public import proofs.«01_k».proof.Proof.SguMath
public import proofs.«01_k».proof.Proof.Gen.ReferenceIdeal.Read

@[expose] public section

set_option maxRecDepth 16384

noncomputable section

/-! What the reference computes, one operation at a time, as real arrays. -/

namespace Cert.ReferenceIdeal.RefValue

open Cert.ReferenceIdeal Cert.ReferenceIdeal.Gen Cert.ReferenceIdeal.Read Idealize.ShloMosaic Idealize.ShloMosaic.ValueIdx Cert.Sgu

/-- A sum of real numbers is the sum taken among the extended reals. -/
theorem coe_sum {ι : Type} (s : Finset ι) (f : ι → ℝ) : (∑ k ∈ s, ((f k : ℝ) : EReal)) = ((∑ k ∈ s, f k : ℝ) : EReal) := by
  classical
  induction s using Finset.induction_on with
  | empty => simp
  | insert x s hx ih => rw [Finset.sum_insert hx, Finset.sum_insert hx, ih, EReal.coe_add]

theorem lit_zero : Ideal.ofBits .f32 0x00000000#32 = ((0 : ℝ) : EReal) := by
  simp [Ideal.ofBits, Ideal.ieee, -EReal.coe_mul]
theorem lit_512 : Ideal.ofBits .f32 0x44000000#32 = ((512 : ℝ) : EReal) := by
  simp [Ideal.ofBits, Ideal.ieee, -EReal.coe_mul]; norm_num
theorem lit_eps : Ideal.ofBits .f32 0x358637BD#32 = ((eps : ℝ) : EReal) := by
  simp [Ideal.ofBits, Ideal.ieee, -EReal.coe_mul]; norm_num [eps]
theorem lit_half : Ideal.ofBits .f32 0xBF000000#32 = ((-1 / 2 : ℝ) : EReal) := by
  simp [Ideal.ofBits, Ideal.ieee, -EReal.coe_mul]; norm_num

theorem div_real (x y : ℝ) (h : y ≠ 0) : Ideal.div (x : EReal) (y : EReal) = ((x / y : ℝ) : EReal) := by
  rw [Ideal.div_coe h, ← EReal.coe_mul, mul_one_div]

theorem rsqrt_pos (x : ℝ) (h : 0 < x) : Ideal.rsqrt (x : EReal) = (((Real.sqrt x)⁻¹ : ℝ) : EReal) := by
  rw [Ideal.rsqrt_coe, if_neg h.not_gt, if_neg h.ne']

variable (x0 : (⟨S2048x3584, .f32⟩ : BufTy).Contents (Elt Ideal)) (x1 : (⟨S2048x512, .f32⟩ : BufTy).Contents (Elt Ideal))
  (x2 x3 : (⟨S512, .f32⟩ : BufTy).Contents (Elt Ideal)) (x4 : (⟨S8x128x128, .f32⟩ : BufTy).Contents (Elt Ideal))
  (x5 : (⟨S8x128, .f32⟩ : BufTy).Contents (Elt Ideal)) (a : Args)

/-- The arguments hold the real numbers `a`. -/
structure Holds : Prop where
  h0 : ∀ i, x0 i = ((a.X (i 0) (i 1) : ℝ) : EReal)
  h1 : ∀ i, x1 i = ((a.C (i 0) (i 1) : ℝ) : EReal)
  h2 : ∀ i, x2 i = ((a.g (i 0) : ℝ) : EReal)
  h3 : ∀ i, x3 i = ((a.b (i 0) : ℝ) : EReal)
  h4 : ∀ i, x4 i = ((a.W (i 0) (i 1) (i 2) : ℝ) : EReal)
  h5 : ∀ i, x5 i = ((a.B (i 0) (i 1) : ℝ) : EReal)

variable {x0 x1 x2 x3 x4 x5 a} (H : Holds x0 x1 x2 x3 x4 x5 a)
include H

theorem r2 (i : S1x2048x512.Idx) : val_main_v2 (F := Ideal) x0 i = ((u a (i 1) (i 2) : ℝ) : EReal) := by
  rw [val_main_v2_apply, val_main_v1_apply, val_main_v0_apply, H.h0]
  refine congrArg _ (congrArg₂ a.X (Fin.ext ?_) (Fin.ext ?_))
  · rfl
  · rfl

theorem r3 (i : S1x2048x512.Idx) : val_main_v3 (F := Ideal) x0 i = ((v a (i 1) (i 2) : ℝ) : EReal) := by
  rw [val_main_v3_apply, val_main_v1_apply, val_main_v0_apply, H.h0]
  refine congrArg _ (congrArg₂ a.X (Fin.ext ?_) (Fin.ext ?_))
  · rfl
  · show 2560 + (512 + (i 2).val) = 3072 + (i 2).val; omega

theorem r9 (i : S1x2048x512.Idx) : val_main_v9 (F := Ideal) x0 i = ((cen (v a (i 1)) (i 2) : ℝ) : EReal) := by
  rw [val_main_v9_apply, val_main_v8_apply, val_main_v7_apply, val_main_v5_apply, val_main_v4_apply, val_main_v6_apply]
  simp only [r3 H, val_main_cst_apply, val_main_cst_0_apply, Ideal.ofBits_def, lit_zero, lit_512, coe_sum, Ideal.hostDivf_def, Ideal.subf_def]
  rw [← EReal.coe_add, div_real _ _ (by norm_num), ← EReal.coe_sub, zero_add]
  rfl

theorem r16 (i : S1x2048x1.Idx) : val_main_v16 (F := Ideal) x0 i = ((var (v a (i 1)) : ℝ) : EReal) := by
  rw [val_main_v16_apply, val_main_v14_apply, val_main_v12_apply, val_main_v11_apply, val_main_v13_apply, val_main_v15_apply]
  simp only [val_main_v10_apply, r9 H, val_main_cst_1_apply, val_main_cst_2_apply, val_main_cst_3_apply, Ideal.ofBits_def, lit_zero, lit_512, lit_eps,
    Ideal.hostDivf_def, Ideal.mulf_def, Ideal.addf_def, ← EReal.coe_mul, coe_sum]
  rw [← EReal.coe_add, div_real _ _ (by norm_num), ← EReal.coe_add, zero_add]
  rfl

theorem r17 (i : S1x2048x1.Idx) : val_main_v17 (F := Ideal) x0 i = ((rs (v a (i 1)) : ℝ) : EReal) := by
  rw [val_main_v17_apply, r16 H]
  simp only [Ideal.hostUnary_rsqrt_def]
  exact rsqrt_pos _ (var_pos _)

theorem r20 (i : S1x2048x1.Idx) : val_main_v20 (F := Ideal) x0 i = (((-1 / 2) * (rs (v a (i 1)) / var (v a (i 1))) : ℝ) : EReal) := by
  rw [val_main_v20_apply, val_main_v18_apply, r17 H, r16 H, val_main_v19_apply]
  simp only [val_main_cst_4_apply, Ideal.ofBits_def, lit_half, Ideal.hostDivf_def, Ideal.mulf_def]
  rw [div_real _ _ (var_ne _), ← EReal.coe_mul]

theorem r22 (i : S1x2048x512.Idx) : val_main_v22 (F := Ideal) x0 i = ((hat (v a (i 1)) (i 2) : ℝ) : EReal) := by
  rw [val_main_v22_apply, r9 H, val_main_v21_apply, r17 H, Ideal.mulf_def, ← EReal.coe_mul]
  rfl

theorem r28 (i : S1x2048x512.Idx) : val_main_v28 (F := Ideal) x0 x2 x3 i = ((vn a (i 1) (i 2) : ℝ) : EReal) := by
  rw [val_main_v28_apply, val_main_v25_apply, r22 H, val_main_v24_apply, val_main_v23_apply, val_main_v27_apply, val_main_v26_apply, H.h2, H.h3,
    Ideal.mulf_def, Ideal.addf_def, ← EReal.coe_mul, ← EReal.coe_add]
  rfl

omit H in
/-- A row of the five-axis view and a lane of it. -/
theorem row_of (i : S1x16x128x8x64.Idx) :
    (⟨(((((i 0).val * 16 + (i 1).val) * 128 + (i 2).val) * 8 + (i 3).val) * 64 + (i 4).val) / 512 % 2048, Nat.mod_lt _ (by norm_num)⟩ : Fin 2048)
      = row (i 1) (i 2) := by
  have h0 : (i 0).val < 1 := (i 0).isLt
  have h1 : (i 1).val < 16 := (i 1).isLt
  have h2 : (i 2).val < 128 := (i 2).isLt
  have h3 : (i 3).val < 8 := (i 3).isLt
  have h4 : (i 4).val < 64 := (i 4).isLt
  refine Fin.ext ?_
  show _ = 128 * (i 1).val + (i 2).val
  dsimp only
  omega
omit H in
theorem lane_of (i : S1x16x128x8x64.Idx) :
    (⟨(((((i 0).val * 16 + (i 1).val) * 128 + (i 2).val) * 8 + (i 3).val) * 64 + (i 4).val) % 512, Nat.mod_lt _ (by norm_num)⟩ : Fin 512)
      = lane (i 3) (i 4) := by
  have h3 : (i 3).val < 8 := (i 3).isLt
  have h4 : (i 4).val < 64 := (i 4).isLt
  refine Fin.ext ?_
  show _ = 64 * (i 3).val + (i 4).val
  dsimp only
  omega

theorem r29 (i : S1x16x128x8x64.Idx) : val_main_v29 (F := Ideal) x0 x2 x3 i = ((vn a (row (i 1) (i 2)) (lane (i 3) (i 4)) : ℝ) : EReal) := by
  rw [val_main_v29_apply, r28 H]
  exact congrArg _ (congrArg₂ (vn a) (row_of i) (lane_of i))

/-! ## The triangle -/

omit H in
theorem tri_word : ∀ r c : Fin 128, Scalar.select (IntOp.cmpi .sge (IntOp.addi (BitVec.ofNat 32 r.val) 0#32) (BitVec.ofNat 32 c.val)) 1#1 0#1
    = if c.val ≤ r.val then 1#1 else 0#1 := by decide +kernel

omit H in
theorem r34m (i : S8x128x128.Idx) : val_main_v34_1 (F := Ideal) i = if (i 2).val ≤ (i 1).val then 1#1 else 0#1 := by
  rw [val_main_v34_1_apply, val_main_v32_apply, val_main_v31_apply, val_main_call0_v4_apply, val_main_v30_apply, val_main_call0_v5_apply]
  exact tri_word (i 1) (i 2)

theorem r34 (i : S8x128x128.Idx) : val_main_v34_0 (F := Ideal) x4 i = ((tri a.W (i 0) (i 1) (i 2) : ℝ) : EReal) := by
  rw [val_main_v34_0_apply, r34m, val_main_v33_apply, val_main_cst_5_apply, H.h4, Ideal.ofBits_def, lit_zero]
  unfold tri
  by_cases h : (i 2).val ≤ (i 1).val
  · rw [if_pos h, if_pos h]; rfl
  · rw [if_neg h, if_neg h]; rfl

theorem r35 (i : S8x1x16x64x128.Idx) : val_main_v35 (F := Ideal) x0 x2 x3 x4 i
    = ((∑ k : Fin 128, vn a (row (i 2) k) (lane (i 0) (i 3)) * tri a.W (i 0) (i 4) k : ℝ) : EReal) := by
  rw [val_main_v35_apply]
  simp only [r29 H, r34 H, ← EReal.coe_mul, coe_sum]
  rfl

theorem r40 (i : S1x16x128x8x64.Idx) : val_main_v40 (F := Ideal) x0 x2 x3 x4 x5 i
    = (((∑ k : Fin 128, vn a (row (i 1) k) (lane (i 3) (i 4)) * tri a.W (i 3) (i 2) k) + a.B (i 3) (i 2) : ℝ) : EReal) := by
  rw [val_main_v40_apply, val_main_v36_apply, r35 H, val_main_v39_apply, val_main_v38_apply, val_main_v37_apply, H.h5, Ideal.addf_def, ← EReal.coe_add]
  rfl

/-- The gate that the forward pass saved. -/
theorem r41 (i : S1x2048x512.Idx) : val_main_v41 (F := Ideal) x0 x2 x3 x4 x5 i = ((gate a (i 1) (i 2) : ℝ) : EReal) := by
  rw [val_main_v41_apply, r40 H]
  have h0 : (i 0).val < 1 := (i 0).isLt
  have h1 : (i 1).val < 2048 := (i 1).isLt
  have h2 : (i 2).val < 512 := (i 2).isLt
  have e1 : idx_main_v41 i 1 = chunk (i 1) := Fin.ext (by show _ = (i 1).val / 128; dsimp only [idx_main_v41]; omega)
  have e2 : idx_main_v41 i 2 = pos (i 1) := Fin.ext (by show _ = (i 1).val % 128; dsimp only [idx_main_v41]; omega)
  have e3 : idx_main_v41 i 3 = hd (i 2) := Fin.ext (by show _ = (i 2).val / 64; dsimp only [idx_main_v41]; omega)
  have e4 : lane (hd (i 2)) (idx_main_v41 i 4) = i 2 := Fin.ext (by show 64 * ((i 2).val / 64) + _ = (i 2).val; dsimp only [idx_main_v41]; omega)
  rw [e1, e2, e3, e4]
  rfl

theorem r44 (i : S1x2048x512.Idx) : val_main_v44 (F := Ideal) x0 x1 i = ((dsv a (i 1) (i 2) : ℝ) : EReal) := by
  rw [val_main_v44_apply, r2 H, val_main_v43_apply, H.h1, Ideal.mulf_def, ← EReal.coe_mul]
  rfl

theorem r45 (i : S1x2048x512.Idx) : val_main_v45 (F := Ideal) x0 x1 x2 x3 x4 x5 i = ((dU a (i 1) (i 2) : ℝ) : EReal) := by
  rw [val_main_v45_apply, r41 H, val_main_v43_apply, H.h1, Ideal.mulf_def, ← EReal.coe_mul]
  rfl

theorem r46 (i : S1x16x128x8x64.Idx) : val_main_v46 (F := Ideal) x0 x1 i = ((dsv a (row (i 1) (i 2)) (lane (i 3) (i 4)) : ℝ) : EReal) := by
  rw [val_main_v46_apply, r44 H]
  exact congrArg _ (congrArg₂ (dsv a) (row_of i) (lane_of i))

/-! ## The bias -/

theorem r47 (i : S1x128x8.Idx) : val_main_v47 (F := Ideal) x0 x1 i = ((dB a (i 1) (i 2) : ℝ) : EReal) := by
  unfold val_main_v47
  simp only [Host.reduceAdd, Ideal.hostReduceAdd_def]
  unfold Ideal.hostReduceAdd
  rw [val_main_cst_6_apply, Ideal.ofBits_def, lit_zero, EReal.coe_zero, zero_add]
  have : ∀ k : S1x16x128x8x64.Idx, reducesTo_S1x16x128x8x64_S1x128x8_d1_4.drop k = i ↔ k = ix5 (i 0) (k 1) (i 1) (i 2) (k 4) := by
    intro k
    constructor
    · rintro rfl; exact eq_ix5 k
    · intro h; funext b; rw [h]; match b with | ⟨0, _⟩ => rfl | ⟨1, _⟩ => rfl | ⟨2, _⟩ => rfl
  rw [Finset.sum_nbij' (s := Finset.univ.filter fun k => reducesTo_S1x16x128x8x64_S1x128x8_d1_4.drop k = i) (t := (Finset.univ : Finset (Fin 16 × Fin 64)))
    (i := fun k => (k 1, k 4)) (j := fun p => ix5 (i 0) p.1 (i 1) (i 2) p.2)
    (g := fun p => ((dsv a (row p.1 (i 1)) (lane (i 2) p.2) : ℝ) : EReal))]
  · rw [coe_sum, Fintype.sum_prod_type]; rfl
  · intro k _; exact Finset.mem_univ _
  · intro p _; rw [Finset.mem_filter]; exact ⟨Finset.mem_univ _, (this _).mpr rfl⟩
  · intro k hk; exact ((this k).mp (Finset.mem_filter.mp hk).2).symm
  · intro p _; rfl
  · intro k hk
    rw [r46 H]
    have e := (this k).mp (Finset.mem_filter.mp hk).2
    have e2 : k 2 = i 1 := by rw [e]
    have e3 : k 3 = i 2 := by rw [e]
    rw [e2, e3]

theorem r49 (i : S128x8.Idx) : val_main_v49 (F := Ideal) x0 x1 i = ((dB a (i 0) (i 1) : ℝ) : EReal) := by
  unfold val_main_v49
  simp only [Host.reduceAdd, Ideal.hostReduceAdd_def]
  unfold Ideal.hostReduceAdd
  rw [val_main_cst_7_apply, Ideal.ofBits_def, lit_zero, EReal.coe_zero, zero_add,
    Finset.sum_eq_single_of_mem (ix5 0 0 (i 0) (i 1) 0 : S1x1x128x8x1.Idx)]
  · rw [val_main_v48_apply, r47 H]
    have h0 : (i 0).val < 128 := (i 0).isLt
    have h1 : (i 1).val < 8 := (i 1).isLt
    refine congrArg _ (congrArg₂ (dB a) (Fin.ext ?_) (Fin.ext ?_))
    · show (((((0 : ℕ) * 1 + 0) * 128 + (i 0).val) * 8 + (i 1).val) * 1 + 0) / 8 % 128 = (i 0).val
      omega
    · show (((((0 : ℕ) * 1 + 0) * 128 + (i 0).val) * 8 + (i 1).val) * 1 + 0) % 8 = (i 1).val
      omega
  · rw [Finset.mem_filter]
    refine ⟨Finset.mem_univ _, ?_⟩
    funext b; match b with | ⟨0, _⟩ => rfl | ⟨1, _⟩ => rfl
  · intro k hk hne
    refine absurd ?_ hne
    rw [← (Finset.mem_filter.mp hk).2, eq_ix5 k]
    funext b
    match b with
    | ⟨0, _⟩ => exact Subsingleton.elim (α := Fin 1) _ _
    | ⟨1, _⟩ => exact Subsingleton.elim (α := Fin 1) _ _
    | ⟨2, _⟩ => rfl
    | ⟨3, _⟩ => rfl
    | ⟨4, _⟩ => exact Subsingleton.elim (α := Fin 1) _ _

theorem r91 (i : S128x8.Idx) : val_main_v91 (F := Ideal) x0 x1 i = ((dB a (i 0) (i 1) : ℝ) : EReal) := by
  rw [val_main_v91_apply, val_main_v50_apply, r49 H]
  rfl

end Cert.ReferenceIdeal.RefValue

end
-- ==== Proof.SguPre.lean ====
module

public import proofs.«01_k».proof.Proof.SguRef
public import proofs.«01_k».proof.Proof.Gen.Pre_finite

@[expose] public section

noncomputable section

/-! Arguments whose elements are below infinity in magnitude hold real numbers. -/

namespace Cert.Sgu

open Idealize.ShloMosaic

theorem lit_inf : Ideal.ofBits .f32 0x7F800000#32 = (⊤ : EReal) := by
  simp [Ideal.ofBits, Ideal.ieee]

/-- An element below infinity in magnitude is a real number. -/
theorem real_of_word (x : EReal) (h : Ideal.cmp .olt (max x (-x)) (⊤ : EReal) = 1#1) : ((x.toReal : ℝ) : EReal) = x := by
  induction x using EReal.rec <;> simp_all [Ideal.cmp]

/-- An array all of whose elements pass the comparison holds real numbers. -/
theorem real_of_vec {s : Shape} (hb : Cert.Pre_finite.S_.BroadcastsInDim s ![]) (x : FVec Ideal s .f32)
    (h : cmpf .olt (Host.absf x) (broadcastInDim s ![] hb (constant (F := Ideal) Cert.Pre_finite.S_ .f32 0x7F800000#32)) = fun _ => 1#1)
    (i : s.Idx) : (((x i).toReal : ℝ) : EReal) = x i := by
  have h' := congrFun h i
  refine real_of_word (x i) ?_
  rw [← lit_inf]
  exact h'

open Cert.ReferenceIdeal.RefValue Idealize.ShloMosaic.ValueIdx in
/-- Arrays of real numbers are the arrays of some `Args`. -/
theorem holds_of_reals (x0 : Cert.Pre_finite.S2048x3584.Idx → EReal) (x1 : Cert.Pre_finite.S2048x512.Idx → EReal) (x2 x3 : Cert.Pre_finite.S512.Idx → EReal)
    (x4 : Cert.Pre_finite.S8x128x128.Idx → EReal) (x5 : Cert.Pre_finite.S8x128.Idx → EReal)
    (h0 : ∀ i, (((x0 i).toReal : ℝ) : EReal) = x0 i) (h1 : ∀ i, (((x1 i).toReal : ℝ) : EReal) = x1 i)
    (h2 : ∀ i, (((x2 i).toReal : ℝ) : EReal) = x2 i) (h3 : ∀ i, (((x3 i).toReal : ℝ) : EReal) = x3 i)
    (h4 : ∀ i, (((x4 i).toReal : ℝ) : EReal) = x4 i) (h5 : ∀ i, (((x5 i).toReal : ℝ) : EReal) = x5 i) :
    ∃ a : Args, Holds x0 x1 x2 x3 x4 x5 a := by
  refine ⟨⟨fun p q => (x0 (ix2 p q)).toReal, fun p q => (x1 (ix2 p q)).toReal, fun p => (x2 (ix1 p)).toReal, fun p => (x3 (ix1 p)).toReal,
    fun p q r => (x4 (ix3 p q r)).toReal, fun p q => (x5 (ix2 p q)).toReal⟩, ?_, ?_, ?_, ?_, ?_, ?_⟩
  · intro i; obtain ⟨p, q, rfl⟩ : ∃ p q, i = ix2 p q := ⟨i 0, i 1, eq_ix2 i⟩; exact (h0 _).symm
  · intro i; obtain ⟨p, q, rfl⟩ : ∃ p q, i = ix2 p q := ⟨i 0, i 1, eq_ix2 i⟩; exact (h1 _).symm
  · intro i; obtain ⟨p, rfl⟩ : ∃ p, i = ix1 p := ⟨i 0, eq_ix1 i⟩; exact (h2 _).symm
  · intro i; obtain ⟨p, rfl⟩ : ∃ p, i = ix1 p := ⟨i 0, eq_ix1 i⟩; exact (h3 _).symm
  · intro i; obtain ⟨p, q, r, rfl⟩ : ∃ p q r, i = ix3 p q r := ⟨i 0, i 1, i 2, eq_ix3 i⟩; exact (h4 _).symm
  · intro i; obtain ⟨p, q, rfl⟩ : ∃ p q, i = ix2 p q := ⟨i 0, i 1, eq_ix2 i⟩; exact (h5 _).symm

open Cert.ReferenceIdeal.RefValue in
/-- Arguments that pass the comparison are the arrays of some `Args`. -/
theorem holds_of_finite (x0 : FVec Ideal Cert.Pre_finite.S2048x3584 .f32) (x1 : FVec Ideal Cert.Pre_finite.S2048x512 .f32)
    (x2 x3 : FVec Ideal Cert.Pre_finite.S512 .f32) (x4 : FVec Ideal Cert.Pre_finite.S8x128x128 .f32) (x5 : FVec Ideal Cert.Pre_finite.S8x128 .f32)
    (h : (Cert.Pre_finite.fn (F := Ideal) x0 x1 x2 x3 x4 x5).1 = (fun _ => 1#1)
      ∧ (Cert.Pre_finite.fn (F := Ideal) x0 x1 x2 x3 x4 x5).2.1 = (fun _ => 1#1)
      ∧ (Cert.Pre_finite.fn (F := Ideal) x0 x1 x2 x3 x4 x5).2.2.1 = (fun _ => 1#1)
      ∧ (Cert.Pre_finite.fn (F := Ideal) x0 x1 x2 x3 x4 x5).2.2.2.1 = (fun _ => 1#1)
      ∧ (Cert.Pre_finite.fn (F := Ideal) x0 x1 x2 x3 x4 x5).2.2.2.2.1 = (fun _ => 1#1)
      ∧ (Cert.Pre_finite.fn (F := Ideal) x0 x1 x2 x3 x4 x5).2.2.2.2.2 = (fun _ => 1#1)) :
    ∃ a : Args, Holds x0 x1 x2 x3 x4 x5 a := by
  unfold Cert.Pre_finite.fn at h
  obtain ⟨h0, h1, h2, h3, h4, h5⟩ := h
  exact holds_of_reals x0 x1 x2 x3 x4 x5 (real_of_vec _ x0 h0) (real_of_vec _ x1 h1) (real_of_vec _ x2 h2) (real_of_vec _ x3 h3)
    (real_of_vec _ x4 h4) (real_of_vec _ x5 h5)

end Cert.Sgu
end
-- ==== Proof.SguRef2.lean ====
module

public import proofs.«01_k».proof.Proof.SguRef
public import Idealize.ShloMosaic.Lib.KernelVsHost
public import proofs.«01_k».proof.Proof.Gen.ReferenceIdeal.Read

@[expose] public section

set_option maxRecDepth 16384

noncomputable section

/-! The rest of the reference's operations, and its four results as real arrays. -/

namespace Cert.ReferenceIdeal.RefValue

open Cert.ReferenceIdeal Cert.ReferenceIdeal.Gen Cert.ReferenceIdeal.Read Idealize.ShloMosaic Idealize.ShloMosaic.ValueIdx Cert.Sgu

variable {x0 : (⟨S2048x3584, .f32⟩ : BufTy).Contents (Elt Ideal)} {x1 : (⟨S2048x512, .f32⟩ : BufTy).Contents (Elt Ideal)}
  {x2 x3 : (⟨S512, .f32⟩ : BufTy).Contents (Elt Ideal)} {x4 : (⟨S8x128x128, .f32⟩ : BufTy).Contents (Elt Ideal)}
  {x5 : (⟨S8x128, .f32⟩ : BufTy).Contents (Elt Ideal)} {a : Args} (H : Holds x0 x1 x2 x3 x4 x5 a)

/-- The mixing matrix's gradient contracts over the chunks and the lanes of a head. -/
abbrev D52 := dot_S8x1x16x64x128_S1x16x128x8x64_S8x128x128_123_014_4_2_0_3

/-- A place of the contracted axes: a chunk and a lane of the head. -/
def q52 (n : Fin 16) (d : Fin 64) : D52.contr.Idx := fun b => match b with
  | ⟨0, _⟩ => (0 : Fin 1)
  | ⟨1, _⟩ => n
  | ⟨2, _⟩ => d

theorem sum52 (f : D52.contr.Idx → EReal) : ∑ q, f q = ∑ n : Fin 16, ∑ d : Fin 64, f (q52 n d) := by
  rw [← Fintype.sum_prod_type' (f := fun n d => f (q52 n d))]
  refine Finset.sum_nbij' (i := fun q => ((q ⟨1, by decide⟩ : Fin 16), (q ⟨2, by decide⟩ : Fin 64))) (j := fun p => q52 p.1 p.2) ?_ ?_ ?_ ?_ ?_
  · intro _ _; exact Finset.mem_univ _
  · intro _ _; exact Finset.mem_univ _
  · intro q _
    funext b
    match b with
    | ⟨0, _⟩ => exact Subsingleton.elim (α := Fin 1) _ _
    | ⟨1, _⟩ => rfl
    | ⟨2, _⟩ => rfl
  · intro p _; rfl
  · intro q _
    refine congrArg f (funext fun b => ?_)
    match b with
    | ⟨0, _⟩ => exact Subsingleton.elim (α := Fin 1) _ _
    | ⟨1, _⟩ => rfl
    | ⟨2, _⟩ => rfl

theorem q52_0 (n : Fin 16) (d : Fin 64) (k : ℕ) (hk : k < D52.contr.rank) (e : k = 0) : (q52 n d ⟨k, hk⟩).val = 0 := by subst e; rfl
theorem q52_1 (n : Fin 16) (d : Fin 64) (k : ℕ) (hk : k < D52.contr.rank) (e : k = 1) : (q52 n d ⟨k, hk⟩).val = n.val := by subst e; rfl
theorem q52_2 (n : Fin 16) (d : Fin 64) (k : ℕ) (hk : k < D52.contr.rank) (e : k = 2) : (q52 n d ⟨k, hk⟩).val = d.val := by subst e; rfl

theorem l52 (i : S8x128x128.Idx) (n : Fin 16) (d : Fin 64) : D52.lhsIdx i (q52 n d) = ix5 (i 0) (0 : Fin 1) n d (i 1) := by
  have c0 : (D52.lhsIdx i (q52 n d) 0).val = (i 0).val := by
    unfold DotDims.lhsIdx
    rw [dif_pos (show (0 : Fin S8x1x16x64x128.rank) ∈ D52.lhsBatch by decide)]
    rfl
  have c1 : (D52.lhsIdx i (q52 n d) 1).val = 0 := by
    unfold DotDims.lhsIdx
    rw [dif_neg (show ¬(1 : Fin S8x1x16x64x128.rank) ∈ D52.lhsBatch by decide), dif_neg (show ¬(1 : Fin S8x1x16x64x128.rank) ∈ D52.lhsNonContracting by decide)]
    exact q52_0 n d _ _ (by decide)
  have c2 : (D52.lhsIdx i (q52 n d) 2).val = n.val := by
    unfold DotDims.lhsIdx
    rw [dif_neg (show ¬(2 : Fin S8x1x16x64x128.rank) ∈ D52.lhsBatch by decide), dif_neg (show ¬(2 : Fin S8x1x16x64x128.rank) ∈ D52.lhsNonContracting by decide)]
    exact q52_1 n d _ _ (by decide)
  have c3 : (D52.lhsIdx i (q52 n d) 3).val = d.val := by
    unfold DotDims.lhsIdx
    rw [dif_neg (show ¬(3 : Fin S8x1x16x64x128.rank) ∈ D52.lhsBatch by decide), dif_neg (show ¬(3 : Fin S8x1x16x64x128.rank) ∈ D52.lhsNonContracting by decide)]
    exact q52_2 n d _ _ (by decide)
  have c4 : (D52.lhsIdx i (q52 n d) 4).val = (i 1).val := by
    unfold DotDims.lhsIdx
    rw [dif_neg (show ¬(4 : Fin S8x1x16x64x128.rank) ∈ D52.lhsBatch by decide), dif_pos (show (4 : Fin S8x1x16x64x128.rank) ∈ D52.lhsNonContracting by decide)]
    rfl
  funext b
  match b with
  | ⟨0, _⟩ => exact Fin.ext c0
  | ⟨1, _⟩ => exact Fin.ext c1
  | ⟨2, _⟩ => exact Fin.ext c2
  | ⟨3, _⟩ => exact Fin.ext c3
  | ⟨4, _⟩ => exact Fin.ext c4

theorem e52 (i : S8x128x128.Idx) (n : Fin 16) (d : Fin 64) : D52.rhsIdx i (q52 n d) = ix5 (0 : Fin 1) n (i 2) (i 0) d := by
  have c0 : (D52.rhsIdx i (q52 n d) 0).val = 0 := by
    unfold DotDims.rhsIdx
    rw [dif_neg (show ¬(0 : Fin S1x16x128x8x64.rank) ∈ D52.rhsBatch by decide), dif_neg (show ¬(0 : Fin S1x16x128x8x64.rank) ∈ D52.rhsNonContracting by decide)]
    exact q52_0 n d _ _ (by decide)
  have c1 : (D52.rhsIdx i (q52 n d) 1).val = n.val := by
    unfold DotDims.rhsIdx
    rw [dif_neg (show ¬(1 : Fin S1x16x128x8x64.rank) ∈ D52.rhsBatch by decide), dif_neg (show ¬(1 : Fin S1x16x128x8x64.rank) ∈ D52.rhsNonContracting by decide)]
    exact q52_1 n d _ _ (by decide)
  have c2 : (D52.rhsIdx i (q52 n d) 2).val = (i 2).val := by
    unfold DotDims.rhsIdx
    rw [dif_neg (show ¬(2 : Fin S1x16x128x8x64.rank) ∈ D52.rhsBatch by decide), dif_pos (show (2 : Fin S1x16x128x8x64.rank) ∈ D52.rhsNonContracting by decide)]
    rfl
  have c3 : (D52.rhsIdx i (q52 n d) 3).val = (i 0).val := by
    unfold DotDims.rhsIdx
    rw [dif_pos (show (3 : Fin S1x16x128x8x64.rank) ∈ D52.rhsBatch by decide)]
    rfl
  have c4 : (D52.rhsIdx i (q52 n d) 4).val = d.val := by
    unfold DotDims.rhsIdx
    rw [dif_neg (show ¬(4 : Fin S1x16x128x8x64.rank) ∈ D52.rhsBatch by decide), dif_neg (show ¬(4 : Fin S1x16x128x8x64.rank) ∈ D52.rhsNonContracting by decide)]
    exact q52_2 n d _ _ (by decide)
  funext b
  match b with
  | ⟨0, _⟩ => exact Fin.ext c0
  | ⟨1, _⟩ => exact Fin.ext c1
  | ⟨2, _⟩ => exact Fin.ext c2
  | ⟨3, _⟩ => exact Fin.ext c3
  | ⟨4, _⟩ => exact Fin.ext c4

include H

theorem r52 (i : S8x128x128.Idx) : val_main_v52 (F := Ideal) x0 x1 x2 x3 i
    = ((∑ n : Fin 16, ∑ d : Fin 64, dsv a (row n (i 1)) (lane (i 0) d) * vn a (row n (i 2)) (lane (i 0) d) : ℝ) : EReal) := by
  unfold val_main_v52
  simp only [Host.dotGeneral]
  rw [Ideal.dotGeneral_apply, sum52]
  have e : ∀ (n : Fin 16) (d : Fin 64), val_main_v51 (F := Ideal) x0 x1 (D52.lhsIdx i (q52 n d)) * val_main_v29 (F := Ideal) x0 x2 x3 (D52.rhsIdx i (q52 n d))
      = ((dsv a (row n (i 1)) (lane (i 0) d) * vn a (row n (i 2)) (lane (i 0) d) : ℝ) : EReal) := by
    intro n d
    rw [l52, e52, EReal.coe_mul]
    exact congrArg₂ (· * ·) ((val_main_v51_apply _ _ _).trans (r46 H _)) (r29 H _)
  simp only [e, coe_sum]

theorem r55 (i : S8x128x128.Idx) : val_main_v55 (F := Ideal) x0 x1 x2 x3 i = ((dW a (i 0) (i 1) (i 2) : ℝ) : EReal) := by
  rw [val_main_v55_apply, r34m, r52 H, val_main_call2_v0_apply, val_main_call2_cst_apply, Ideal.ofBits_def, lit_zero]
  unfold dW
  by_cases h : (i 2).val ≤ (i 1).val
  · rw [if_pos h, if_pos h]; rfl
  · rw [if_neg h, if_neg h]; rfl

/-! ## The gradient of the normalised rows -/

theorem r56 (i : S1x2048x512.Idx) : val_main_v56 (F := Ideal) x0 x1 x4 i = ((dvn a (i 1) (i 2) : ℝ) : EReal) := by
  rw [val_main_v56_apply, val_main_v54_apply, val_main_v53_apply]
  simp only [val_main_v51_apply, r46 H, r34 H, ← EReal.coe_mul, coe_sum]
  have h0 : (i 0).val < 1 := (i 0).isLt
  have h1 : (i 1).val < 2048 := (i 1).isLt
  have h2 : (i 2).val < 512 := (i 2).isLt
  have e1 : idx_main_v56 i 1 = chunk (i 1) := Fin.ext (by show _ = (i 1).val / 128; dsimp only [idx_main_v56]; omega)
  have e2 : idx_main_v56 i 2 = pos (i 1) := Fin.ext (by show _ = (i 1).val % 128; dsimp only [idx_main_v56]; omega)
  have e3 : idx_main_v56 i 3 = hd (i 2) := Fin.ext (by show _ = (i 2).val / 64; dsimp only [idx_main_v56]; omega)
  have e4 : lane (hd (i 2)) (idx_main_v56 i 4) = i 2 := Fin.ext (by show 64 * ((i 2).val / 64) + _ = (i 2).val; dsimp only [idx_main_v56]; omega)
  unfold dvn
  refine congrArg _ (Finset.sum_congr rfl fun k _ => ?_)
  have s1 : (idx_main_v51 (lidx_main_v53 (idx_main_v54 (idx_main_v56 i)) k)) 1 = idx_main_v56 i 1 := rfl
  have s2 : (idx_main_v51 (lidx_main_v53 (idx_main_v54 (idx_main_v56 i)) k)) 2 = k := rfl
  have s3 : (idx_main_v51 (lidx_main_v53 (idx_main_v54 (idx_main_v56 i)) k)) 3 = idx_main_v56 i 3 := rfl
  have s4 : (idx_main_v51 (lidx_main_v53 (idx_main_v54 (idx_main_v56 i)) k)) 4 = idx_main_v56 i 4 := rfl
  have t0 : ridx_main_v53 (idx_main_v54 (idx_main_v56 i)) k 0 = idx_main_v56 i 3 := rfl
  have t1 : ridx_main_v53 (idx_main_v54 (idx_main_v56 i)) k 1 = k := rfl
  have t2 : ridx_main_v53 (idx_main_v54 (idx_main_v56 i)) k 2 = idx_main_v56 i 2 := rfl
  rw [s1, s2, s3, s4, t0, t1, t2, e1, e2, e3, e4]

theorem r57 (i : S1x512.Idx) : val_main_v57 (F := Ideal) x0 x1 x4 i = ((dH a (i 1) : ℝ) : EReal) := by
  rw [val_main_v57_apply]
  simp only [r56 H, val_main_cst_8_apply, Ideal.ofBits_def, lit_zero, coe_sum]
  rw [← EReal.coe_add, zero_add]
  rfl

theorem r61 (i : S1x512.Idx) : val_main_v61 (F := Ideal) x0 x1 x4 i = ((dG a (i 1) : ℝ) : EReal) := by
  rw [val_main_v61_apply]
  simp only [val_main_v60_apply, r22 H, r56 H, val_main_cst_10_apply, Ideal.ofBits_def, lit_zero, Ideal.mulf_def, ← EReal.coe_mul, coe_sum]
  rw [← EReal.coe_add, zero_add]
  rfl

omit H in
/-- A sum over two axes of one place each. -/
theorem sum_unit (f : S1x1x512.Idx → EReal) (i : S512.Idx) :
    ∑ k ∈ Finset.univ.filter (fun k => reducesTo_S1x1x512_S512_d0_1.drop k = i), f k = f (ix3 0 0 (i 0)) := by
  refine Finset.sum_eq_single_of_mem (ix3 0 0 (i 0) : S1x1x512.Idx) ?_ ?_
  · rw [Finset.mem_filter]
    refine ⟨Finset.mem_univ _, ?_⟩
    funext b; match b with | ⟨0, _⟩ => rfl
  · intro k hk hne
    refine absurd ?_ hne
    rw [← (Finset.mem_filter.mp hk).2, eq_ix3 k]
    funext b
    match b with
    | ⟨0, _⟩ => exact Subsingleton.elim (α := Fin 1) _ _
    | ⟨1, _⟩ => exact Subsingleton.elim (α := Fin 1) _ _
    | ⟨2, _⟩ => rfl

theorem r59 (i : S512.Idx) : val_main_v59 (F := Ideal) x0 x1 x4 i = ((dH a (i 0) : ℝ) : EReal) := by
  unfold val_main_v59
  simp only [Host.reduceAdd, Ideal.hostReduceAdd_def]
  unfold Ideal.hostReduceAdd
  rw [val_main_cst_9_apply, Ideal.ofBits_def, lit_zero, EReal.coe_zero, zero_add, sum_unit, val_main_v58_apply, r57 H]
  refine congrArg _ (congrArg (dH a) (Fin.ext ?_))
  have h0 : (i 0).val < 512 := (i 0).isLt
  show (((0 : ℕ) * 1 + 0) * 512 + (i 0).val) % 512 = (i 0).val
  omega

theorem r65 (i : S512.Idx) : val_main_v65 (F := Ideal) x0 x1 x4 i = ((dG a (i 0) : ℝ) : EReal) := by
  unfold val_main_v65
  simp only [Host.reduceAdd, Ideal.hostReduceAdd_def]
  unfold Ideal.hostReduceAdd
  rw [val_main_cst_11_apply, Ideal.ofBits_def, lit_zero, EReal.coe_zero, zero_add, sum_unit, val_main_v62_apply, r61 H]
  refine congrArg _ (congrArg (dG a) (Fin.ext ?_))
  have h0 : (i 0).val < 512 := (i 0).isLt
  show (((0 : ℕ) * 1 + 0) * 512 + (i 0).val) % 512 = (i 0).val
  omega

theorem r64 (i : S1x2048x512.Idx) : val_main_v64 (F := Ideal) x0 x1 x2 x4 i = ((dvn a (i 1) (i 2) * a.g (i 2) : ℝ) : EReal) := by
  rw [val_main_v64_apply, r56 H, val_main_v63_apply, val_main_v23_apply, H.h2, Ideal.mulf_def, ← EReal.coe_mul]
  rfl

/-- The row's gradient before the layer norm. -/
theorem r73 (i : S1x2048x1.Idx) : val_main_v73 (F := Ideal) x0 x1 x2 x4 i
    = ((vcoef (v a (i 1)) (fun k => dvn a (i 1) k * a.g k) : ℝ) : EReal) := by
  rw [val_main_v73_apply, val_main_v71_apply, val_main_v68_apply, val_main_v67_apply, r20 H, val_main_v72_apply]
  simp only [val_main_v66_apply, r9 H, r64 H, val_main_cst_12_apply, val_main_cst_13_apply, Ideal.ofBits_def, lit_zero, lit_512, Ideal.mulf_def,
    Ideal.hostDivf_def, ← EReal.coe_mul, coe_sum]
  rw [← EReal.coe_add, zero_add, ← EReal.coe_mul, div_real _ _ (by norm_num)]
  have h0 : (i 0).val < 1 := (i 0).isLt
  have h1 : (i 1).val < 2048 := (i 1).isLt
  have h2 : (i 2).val < 1 := (i 2).isLt
  have e : ∀ k, idx_main_v67 (idx_main_v68 i) k 1 = i 1 := fun k => Fin.ext (by show _ = (i 1).val; dsimp only [idx_main_v67, idx_main_v68]; omega)
  simp only [e]
  rfl

omit H in
theorem sum_row1 (f : S1x2048x1.Idx → EReal) (i : S2048.Idx) :
    ∑ k ∈ Finset.univ.filter (fun k => reducesTo_S1x2048x1_S2048_d0_2.drop k = i), f k = f (ix3 0 (i 0) 0) := by
  refine Finset.sum_eq_single_of_mem (ix3 0 (i 0) 0 : S1x2048x1.Idx) ?_ ?_
  · rw [Finset.mem_filter]
    refine ⟨Finset.mem_univ _, ?_⟩
    funext b; match b with | ⟨0, _⟩ => rfl
  · intro k hk hne
    refine absurd ?_ hne
    rw [← (Finset.mem_filter.mp hk).2, eq_ix3 k]
    funext b
    match b with
    | ⟨0, _⟩ => exact Subsingleton.elim (α := Fin 1) _ _
    | ⟨1, _⟩ => rfl
    | ⟨2, _⟩ => exact Subsingleton.elim (α := Fin 1) _ _

theorem r76 (i : S1x2048x512.Idx) : val_main_v76 (F := Ideal) x0 x1 x2 x4 i
    = ((vcoef (v a (i 1)) (fun k => dvn a (i 1) k * a.g k) : ℝ) : EReal) := by
  rw [val_main_v76_apply, val_main_v75_apply]
  unfold val_main_v74
  simp only [Host.reduceAdd, Ideal.hostReduceAdd_def]
  unfold Ideal.hostReduceAdd
  rw [val_main_cst_14_apply, Ideal.ofBits_def, lit_zero, EReal.coe_zero, zero_add, sum_row1, r73 H]
  rfl

theorem r80 (i : S1x2048x512.Idx) : val_main_v80 (F := Ideal) x0 x1 x2 x4 i
    = ((pre (v a (i 1)) (fun k => dvn a (i 1) k * a.g k) (i 2) : ℝ) : EReal) := by
  rw [val_main_v80_apply, val_main_v78_apply, val_main_v70_apply, val_main_v69_apply, val_main_v77_apply, val_main_v79_apply, r64 H, r17 H, r9 H, r76 H]
  simp only [Ideal.mulf_def, Ideal.addf_def, ← EReal.coe_mul, ← EReal.coe_add]
  rfl

theorem r85 (i : S1x2048x1.Idx) : val_main_v85 (F := Ideal) x0 x1 x2 x4 i
    = (((∑ k, -(pre (v a (i 1)) (fun k => dvn a (i 1) k * a.g k) k)) / 512 : ℝ) : EReal) := by
  rw [val_main_v85_apply, val_main_v83_apply, val_main_v82_apply, val_main_v84_apply]
  simp only [val_main_v81_apply, r80 H, val_main_cst_15_apply, val_main_cst_16_apply, Ideal.ofBits_def, lit_zero, lit_512,
    Ideal.hostNegf_def, Ideal.negf_def, Ideal.hostDivf_def, ← EReal.coe_neg, coe_sum]
  rw [← EReal.coe_add, zero_add, div_real _ _ (by norm_num)]
  have h0 : (i 0).val < 1 := (i 0).isLt
  have h1 : (i 1).val < 2048 := (i 1).isLt
  have h2 : (i 2).val < 1 := (i 2).isLt
  have e : ∀ k, idx_main_v82 (idx_main_v83 i) k 1 = i 1 := fun k => Fin.ext (by show _ = (i 1).val; dsimp only [idx_main_v82, idx_main_v83]; omega)
  simp only [e]
  rfl

theorem r89 (i : S1x2048x512.Idx) : val_main_v89 (F := Ideal) x0 x1 x2 x4 i = ((dV a (i 1) (i 2) : ℝ) : EReal) := by
  rw [val_main_v89_apply, r80 H, val_main_v88_apply, val_main_v87_apply]
  unfold val_main_v86
  simp only [Host.reduceAdd, Ideal.hostReduceAdd_def]
  unfold Ideal.hostReduceAdd
  rw [val_main_cst_17_apply, Ideal.ofBits_def, lit_zero, EReal.coe_zero, zero_add, sum_row1, r85 H, Ideal.addf_def, ← EReal.coe_add]
  exact congrArg _ (lnb_eq _ _ _)

/-! ## The four results -/

theorem ref0 (i : S2048x1024.Idx) : val_main_v98 (F := Ideal) x0 x1 x2 x3 x4 x5 i = ((dUV a (i 0) (i 1) : ℝ) : EReal) := by
  rw [val_main_v98_apply, val_main_v97_apply, Ideal.truncf_def]
  unfold val_main_v90
  have h0 : (i 0).val < 2048 := (i 0).isLt
  have h1 : (i 1).val < 1024 := (i 1).isLt
  have e1 : (idx_main_v97 i 1).val = (i 0).val := by dsimp only [idx_main_v97]; omega
  have e2 : (idx_main_v97 i 2).val = (i 1).val := by dsimp only [idx_main_v97]; omega
  unfold dUV
  by_cases h : (i 1).val < 512
  · rw [dif_pos h]
    refine Eq.trans (concatenate_apply_piece (t := S1x2048x1024) _ _ _ _ 0 (by simp) S1x2048x512 _ rfl rfl 0 rfl (ix3 (0 : Fin 1) (i 0) ⟨(i 1).val, h⟩) ?_ ?_) ?_
    · intro b hb
      match b with
      | ⟨0, _⟩ => rfl
      | ⟨1, _⟩ => exact e1.symm
      | ⟨2, _⟩ => exact absurd rfl hb
    · exact (Nat.zero_add _).trans e2.symm
    · exact r45 H _
  · rw [dif_neg h]
    refine Eq.trans (concatenate_apply_piece (t := S1x2048x1024) _ _ _ _ 1 (by simp) S1x2048x512 _ rfl rfl 512 rfl (ix3 (0 : Fin 1) (i 0) ⟨(i 1).val - 512, by omega⟩) ?_ ?_) ?_
    · intro b hb
      match b with
      | ⟨0, _⟩ => rfl
      | ⟨1, _⟩ => exact e1.symm
      | ⟨2, _⟩ => exact absurd rfl hb
    · show 512 + ((i 1).val - 512) = _
      rw [e2]; omega
    · exact r89 H _

theorem ref1 (i : S8x128x128.Idx) : val_main_v55 (F := Ideal) x0 x1 x2 x3 i = ((dW a (i 0) (i 1) (i 2) : ℝ) : EReal) := r55 H i

theorem ref2 (i : S128x128.Idx) : val_main_v92 (F := Ideal) x0 x1 i = ((dBpad a (i 0) (i 1) : ℝ) : EReal) := by
  unfold val_main_v92 dBpad
  by_cases h : (i 1).val < 8
  · rw [dif_pos h]
    refine (pad_apply_of_inside _ _ _ _ _ _ _ _ (ix2 (i 0) ⟨(i 1).val, h⟩) ?_).trans (r91 H _)
    intro b
    match b with
    | ⟨0, _⟩ => show (i 0).val = 0 + (i 0).val * 1; omega
    | ⟨1, _⟩ => show (i 1).val = 0 + (i 1).val * 1; omega
  · rw [dif_neg h]
    refine (pad_apply_of_not_inside _ _ _ _ _ _ _ _ (1 : Fin 2) ?_).trans ?_
    · rintro ⟨-, -, h3⟩
      have : ((i 1).val - 0) / (0 + 1) < 8 := h3
      omega
    · rw [val_main_call3_v0_apply, val_main_c_18_apply]
      show (((0#32 : BitVec 32).toInt : ℝ) : EReal) = ((0 : ℝ) : EReal)
      simp

theorem ref3 (i : S8x512.Idx) : val_main_v96 (F := Ideal) x0 x1 x4 i = ((dVec a (i 0) (i 1) : ℝ) : EReal) := by
  unfold val_main_v96 dVec
  have h0 : (i 0).val < 8 := (i 0).isLt
  by_cases z : (i 0).val = 0
  · rw [if_pos z]
    refine Eq.trans (concatenate_apply_piece (t := S8x512) _ _ _ _ 0 (by simp) S1x512 _ rfl rfl 0 rfl (ix2 (0 : Fin 1) (i 1)) ?_ ?_) ?_
    · intro b hb
      match b with
      | ⟨0, _⟩ => exact absurd rfl hb
      | ⟨1, _⟩ => rfl
    · exact z.symm
    · rw [val_main_v93_apply, r65 H]; rfl
  rw [if_neg z]
  by_cases o : (i 0).val = 1
  · rw [if_pos o]
    refine Eq.trans (concatenate_apply_piece (t := S8x512) _ _ _ _ 1 (by simp) S1x512 _ rfl rfl 1 rfl (ix2 (0 : Fin 1) (i 1)) ?_ ?_) ?_
    · intro b hb
      match b with
      | ⟨0, _⟩ => exact absurd rfl hb
      | ⟨1, _⟩ => rfl
    · exact o.symm
    · rw [val_main_v94_apply, r59 H]; rfl
  rw [if_neg o]
  refine Eq.trans (concatenate_apply_piece (t := S8x512) _ _ _ _ 2 (by simp) S6x512 _ rfl rfl 2 rfl (ix2 (⟨(i 0).val - 2, by omega⟩ : Fin 6) (i 1)) ?_ ?_) ?_
  · intro b hb
    match b with
    | ⟨0, _⟩ => exact absurd rfl hb
    | ⟨1, _⟩ => rfl
  · show 2 + ((i 0).val - 2) = (i 0).val; omega
  · rw [val_main_v95_apply, val_main_cst_19_apply, Ideal.ofBits_def, lit_zero]

end Cert.ReferenceIdeal.RefValue

end
-- ==== Proof.SguPay.lean ====
module

public import proofs.«01_k».proof.Proof.SguMath
public import proofs.«01_k».proof.Proof.Gen.KernelIdeal.Value
public import Idealize.ShloMosaic.Lib.Pipeline.Value
public import Idealize.ShloMosaic.Lib.ValueIdx
public import Idealize.ShloMosaic.Lib.Pointwise.Contract
public import Idealize.ShloMosaic.PureOps.Ideal.Laws

@[expose] public section

set_option maxRecDepth 16384

noncomputable section

/-! What one step of the kernel computes from one chunk, as real arrays. -/

namespace Cert.KernelIdeal.Blk

open Idealize.ShloMosaic hiding ix0 ix1 ix2 ix3 ix4 ix5 eq_ix2 eq_ix3
open Cert.KernelIdeal Cert.KernelIdeal.Gen Idealize.ShloMosaic.ValueIdx Cert.Sgu

theorem coe_sum {ι : Type} (s : Finset ι) (f : ι → ℝ) : (∑ k ∈ s, ((f k : ℝ) : EReal)) = ((∑ k ∈ s, f k : ℝ) : EReal) := by
  classical
  induction s using Finset.induction_on with
  | empty => simp
  | insert x s hx ih => rw [Finset.sum_insert hx, Finset.sum_insert hx, ih, EReal.coe_add]

theorem lit_zero : Ideal.ofBits .f32 0x00000000#32 = ((0 : ℝ) : EReal) := by
  simp [Ideal.ofBits, Ideal.ieee, -EReal.coe_mul]
theorem lit_512 : Ideal.ofBits .f32 0x44000000#32 = ((512 : ℝ) : EReal) := by
  simp [Ideal.ofBits, Ideal.ieee, -EReal.coe_mul]; norm_num
theorem lit_eps : Ideal.ofBits .f32 0x358637BD#32 = ((eps : ℝ) : EReal) := by
  simp [Ideal.ofBits, Ideal.ieee, -EReal.coe_mul]; norm_num [eps]
theorem div_real (x y : ℝ) (h : y ≠ 0) : Ideal.div (x : EReal) (y : EReal) = ((x / y : ℝ) : EReal) := by
  rw [Ideal.div_coe h, ← EReal.coe_mul, mul_one_div]
theorem rsqrt_pos (x : ℝ) (h : 0 < x) : Ideal.rsqrt (x : EReal) = (((Real.sqrt x)⁻¹ : ℝ) : EReal) := by
  rw [Ideal.rsqrt_coe, if_neg h.not_gt, if_neg h.ne']

/-- The sum of a row, kept as a column. -/
theorem rowSum (x : FVec Ideal S128x512 .f32) (f : Fin 128 → Fin 512 → ℝ) (hx : ∀ i, x i = ((f (i 0) (i 1) : ℝ) : EReal)) (i : S128x1.Idx) :
    shapeCast S128x1 (multiReduction .add [1] S128 x 0x00000000#32 reduces_S128x512_S128 (.inl rfl) rfl) shapeCasts_S128_S128x1 i
      = ((∑ k, f (i 0) k : ℝ) : EReal) := by
  have hk : (S128.rowMajor (ix1 (i 0 : Fin 128))).val = (S128x1.rowMajor i).val := by
    have h1 : (i 1).val = 0 := by have : (i 1).val < 1 := (i 1).isLt; omega
    rw [Shape.rowMajor_val_one, Shape.rowMajor_val_two, h1]
    show (i 0).val = (i 0).val * 1 + 0; omega
  refine (shapeCast_apply _ _ i (ix1 (i 0 : Fin 128)) hk).trans ((Ideal.multiReduction_add_single _ _ _ _ _ _).trans (Eq.trans ?_ (coe_sum _ _)))
  refine Finset.sum_congr rfl fun k _ => ?_
  rw [hx]; rfl

/-- The sum of a column, kept as a row. -/
theorem colSum (x : FVec Ideal S128x512 .f32) (f : Fin 128 → Fin 512 → ℝ) (hx : ∀ i, x i = ((f (i 0) (i 1) : ℝ) : EReal)) (i : S1x512.Idx) :
    shapeCast S1x512 (multiReduction .add [0] S512 x 0x00000000#32 reduces_S128x512_S512 (.inl rfl) rfl) shapeCasts_S512_S1x512 i
      = ((∑ k, f k (i 1) : ℝ) : EReal) := by
  have hk : (S512.rowMajor (ix1 (i 1 : Fin 512))).val = (S1x512.rowMajor i).val := by
    have h1 : (i 0).val = 0 := by have : (i 0).val < 1 := (i 0).isLt; omega
    rw [Shape.rowMajor_val_one, Shape.rowMajor_val_two, h1]
    show (i 1).val = 0 * 512 + (i 1).val; omega
  refine (shapeCast_apply _ _ i (ix1 (i 1 : Fin 512)) hk).trans ((Ideal.multiReduction_add_single _ _ _ _ _ _).trans (Eq.trans ?_ (coe_sum _ _)))
  refine Finset.sum_congr rfl fun k _ => ?_
  rw [hx]; rfl

/-- A cast to the same shape changes nothing. -/
theorem cast_self {α : Type} {s : Shape} (x : s.Idx → α) (h : s.ShapeCasts s) (i : s.Idx) : shapeCast s x h i = x i :=
  shapeCast_apply x h i i rfl

theorem bcCol {α : Type} (x : S128x1.Idx → α) (i : S128x512.Idx) :
    broadcastTo S128x512 x broadcasts_S128x1_S128x512 i = x (ix2 (i 0 : Fin 128) (0 : Fin 1)) :=
  broadcastTo_apply x _ i _ (fun a => match a with | ⟨0, _⟩ => rfl | ⟨1, _⟩ => rfl)
theorem bcRow {α : Type} (x : S1x512.Idx → α) (i : S128x512.Idx) :
    broadcastTo S128x512 x broadcasts_S1x512_S128x512 i = x (ix2 (0 : Fin 1) (i 1 : Fin 512)) :=
  broadcastTo_apply x _ i _ (fun a => match a with | ⟨0, _⟩ => rfl | ⟨1, _⟩ => rfl)

theorem castIn {α : Type} (x : S1x128x128.Idx → α) (i : S128x128.Idx) :
    shapeCast S128x128 x shapeCasts_S1x128x128_S128x128 i = x (ix3 (0 : Fin 1) (i 0 : Fin 128) (i 1 : Fin 128)) := by
  refine shapeCast_apply x _ i _ ?_
  rw [Shape.rowMajor_val_three, Shape.rowMajor_val_two]
  show (0 * 128 + (i 0).val) * 128 + (i 1).val = (i 0).val * 128 + (i 1).val; omega
theorem castOut {α : Type} (x : S128x128.Idx → α) (i : S1x128x128.Idx) :
    shapeCast S1x128x128 x shapeCasts_S128x128_S1x128x128 i = x (ix2 (i 1 : Fin 128) (i 2 : Fin 128)) := by
  refine shapeCast_apply x _ i _ ?_
  have h1 : (i 0).val = 0 := by have : (i 0).val < 1 := (i 0).isLt; omega
  rw [Shape.rowMajor_val_three, Shape.rowMajor_val_two, h1]
  show (i 1).val * 128 + (i 2).val = (0 * 128 + (i 1).val) * 128 + (i 2).val; omega

/-! The layer norm. -/

section
variable (z : Fin 128 → Fin 512 → ℝ) (x1 : Vec Ideal S128x512 .f32) (h1 : ∀ i, x1 i = ((z (i 0) (i 1) : ℝ) : EReal))
include h1

theorem pay7_at (i : S128x512.Idx) : k0_pay7 (F := Ideal) x1 i = ((cen (z (i 0)) (i 1) : ℝ) : EReal) := by
  unfold k0_pay7; dsimp only
  rw [subf_apply, bcCol, divf_apply, rowSum x1 z h1, h1]
  show _ - Ideal.div _ (Ideal.ofBits .f32 0x44000000#32) = _
  rw [lit_512, div_real _ _ (by norm_num), ← EReal.coe_sub]; rfl

theorem pay8_at (i : S128x1.Idx) : k0_pay8 (F := Ideal) x1 i = ((rs (z (i 0)) : ℝ) : EReal) := by
  unfold k0_pay8; dsimp only
  refine (congrArg Ideal.rsqrt ?_).trans (rsqrt_pos _ (var_pos _))
  rw [addf_apply, divf_apply, rowSum _ (fun r l => cen (z r) l * cen (z r) l) (fun i => by
    rw [mulf_apply, pay7_at z x1 h1, EReal.coe_mul])]
  show Ideal.div _ (Ideal.ofBits .f32 0x44000000#32) + Ideal.ofBits .f32 0x358637BD#32 = _
  rw [lit_512, lit_eps, div_real _ _ (by norm_num), ← EReal.coe_add]; rfl

theorem pay9_at (i : S128x512.Idx) : k0_pay9 (F := Ideal) x1 i = ((hat (z (i 0)) (i 1) : ℝ) : EReal) := by
  unfold k0_pay9
  show mulf (F := Ideal) _ _ i = _
  rw [mulf_apply, bcCol, pay7_at z x1 h1, pay8_at z x1 h1, ← EReal.coe_mul]; rfl

theorem pay10_at (x2 x3 : Vec Ideal S1x512 .f32) (g b : Fin 512 → ℝ) (h2 : ∀ i, x2 i = ((g (i 1) : ℝ) : EReal))
    (h3 : ∀ i, x3 i = ((b (i 1) : ℝ) : EReal)) (i : S128x512.Idx) :
    k0_pay10 (F := Ideal) x1 x2 x3 i = ((hat (z (i 0)) (i 1) * g (i 1) + b (i 1) : ℝ) : EReal) := by
  unfold k0_pay10
  show addf (F := Ideal) (mulf _ _) _ i = _
  rw [addf_apply, mulf_apply, pay9_at z x1 h1, bcRow, bcRow, cast_self, cast_self, h2, h3, ← EReal.coe_mul, ← EReal.coe_add]

theorem pay2_at (x2 : Vec Ideal S1x512 .f32) (g : Fin 512 → ℝ) (h2 : ∀ i, x2 i = ((g (i 1) : ℝ) : EReal))
    (d : FVec Ideal S128x512 .f32) (y : Fin 128 → Fin 512 → ℝ) (hd : ∀ i, d i = ((y (i 0) (i 1) : ℝ) : EReal)) (i : S128x512.Idx) :
    k0_pay2 (F := Ideal) (k0_pay8 x1) (k0_pay9 x1) d x2 i = ((lnb (z (i 0)) (fun k => y (i 0) k * g k) (i 1) : ℝ) : EReal) := by
  have e1 : ∀ i : S128x512.Idx, mulf d (broadcastTo S128x512 (shapeCast S1x512 x2 shapeCasts_S1x512_S1x512) broadcasts_S1x512_S128x512) i
      = ((y (i 0) (i 1) * g (i 1) : ℝ) : EReal) := fun i => by
    rw [mulf_apply, bcRow, cast_self, hd, h2, ← EReal.coe_mul]
  unfold k0_pay2
  show mulf (F := Ideal) _ _ i = _
  rw [mulf_apply, bcCol, pay8_at z x1 h1, subf_apply, subf_apply, bcCol, divf_apply, rowSum _ (fun r l => y r l * g l) e1, e1, mulf_apply,
    pay9_at z x1 h1, bcCol, divf_apply, rowSum _ (fun r l => y r l * g l * hat (z r) l) (fun i => by
      rw [mulf_apply, e1, pay9_at z x1 h1, ← EReal.coe_mul])]
  show _ * (_ - Ideal.div _ (Ideal.ofBits .f32 0x44000000#32) - _ * Ideal.div _ (Ideal.ofBits .f32 0x44000000#32)) = _
  rw [lit_512, div_real _ _ (by norm_num), div_real _ _ (by norm_num), ← EReal.coe_sub, ← EReal.coe_mul, ← EReal.coe_sub, ← EReal.coe_mul]; rfl
end

/-! The heads of the lanes, as words. -/

/-- The head of a lane by the floor division the kernel writes out. -/
def headWord (x : BitVec 32) : BitVec 32 :=
  Scalar.select (IntOp.andi (IntOp.cmpi .ne (IntOp.subi ((IntOp.cmpi .sgt x 0#32).setWidth 32) ((IntOp.cmpi .slt x 0#32).setWidth 32))
      (Scalar.subi (Scalar.extui (Scalar.cmpi .sgt 64#32 0#32)) (Scalar.extui (Scalar.cmpi .slt 64#32 0#32))))
    (IntOp.cmpi .ne (IntOp.remsi .vector x 64#32) 0#32)) (IntOp.subi (IntOp.divsi .vector x 64#32) 1#32) (IntOp.divsi .vector x 64#32)

theorem headWord_lane : ∀ l : Fin 512, headWord (BitVec.ofNat 32 l.val) = BitVec.ofNat 32 (hd l).val := by decide +kernel

theorem pay14_at (i : S1x512.Idx) : k0_pay14 i = BitVec.ofNat 32 (hd (i 1)).val := by
  refine Eq.trans ?_ (headWord_lane (i 1))
  unfold k0_pay14
  show headWord (BitVec.ofNat 32 (0 * 512 + (i 1).val)) = _
  rw [Nat.zero_mul, Nat.zero_add]

theorem pay34_eq : k0_pay34 k0_pay31 k0_pay32 k0_pay33 = k0_pay14 := rfl

theorem hd_word : ∀ k h : Fin 8, IntOp.cmpi .eq (BitVec.ofNat 32 k.val) (BitVec.ofNat 32 h.val) = if k = h then 1#1 else 0#1 := by decide +kernel
theorem tri_word : ∀ r c : Fin 128, IntOp.cmpi .sge (BitVec.ofNat 32 r.val) (BitVec.ofNat 32 c.val) = if c.val ≤ r.val then 1#1 else 0#1 := by decide +kernel

/-- A choice by the lane's head. -/
theorem selHead (h : Fin 8) (x y : FVec Ideal S128x512 .f32) (i : S128x512.Idx) :
    select (broadcastTo S128x512 (shapeCast S1x512 (cmpi .eq k0_pay14 (broadcast S1x512 (BitVec.ofNat 32 h.val))) shapeCasts_S1x512_S1x512)
      broadcasts_S1x512_S128x512) x y i = if hd (i 1) = h then x i else y i := by
  rw [select_apply, bcRow, cast_self]
  show (if IntOp.cmpi .eq (k0_pay14 _) _ = 1#1 then _ else _) = _
  rw [pay14_at]
  refine (congrArg (fun c : BitVec 1 => if c = 1#1 then x i else y i) (hd_word (hd (i 1)) h)).trans ?_
  by_cases e : hd (i 1) = h
  · simp only [if_pos e, if_true]
  · simp only [if_neg e]; rfl

/-- A choice by the lower triangle. -/
theorem selTri (x y : FVec Ideal S128x128 .f32) (i : S128x128.Idx) :
    select (cmpi .sge (iota Kind.tc S128x128 32 [0] iota_S128x128_d0_w32) (iota Kind.tc S128x128 32 [1] iota_S128x128_d1_w32)) x y i
      = if (i 1).val ≤ (i 0).val then x i else y i := by
  rw [select_apply]
  show (if IntOp.cmpi .sge (BitVec.ofNat 32 (0 * 128 + (i 0).val)) (BitVec.ofNat 32 (0 * 128 + (i 1).val)) = 1#1 then _ else _) = _
  rw [Nat.zero_mul, Nat.zero_add, Nat.zero_add]
  refine (congrArg (fun c : BitVec 1 => if c = 1#1 then x i else y i) (tri_word (i 0) (i 1))).trans ?_
  by_cases e : (i 1).val ≤ (i 0).val
  · simp only [if_pos e, if_true]
  · simp only [if_neg e]; rfl

end Cert.KernelIdeal.Blk
end
-- ==== Proof.SguPay2.lean ====
module

public import proofs.«01_k».proof.Proof.SguPay

@[expose] public section

set_option maxRecDepth 16384

noncomputable section

/-! The products of one step of the kernel, as real arrays. -/

namespace Cert.KernelIdeal.Blk

open Idealize.ShloMosaic hiding ix0 ix1 ix2 ix3 ix4 ix5 eq_ix2 eq_ix3
open Cert.KernelIdeal Cert.KernelIdeal.Gen Idealize.ShloMosaic.ValueIdx Cert.Sgu

/-- A product over the lanes. -/
theorem dotLanes (x y : FVec Ideal S128x512 .bf16) (f g : Fin 128 → Fin 512 → ℝ) (hx : ∀ i, x i = ((f (i 0) (i 1) : ℝ) : EReal))
    (hy : ∀ i, y i = ((g (i 0) (i 1) : ℝ) : EReal)) (i : S128x128.Idx) :
    matmul dot_S128x512_S128x512_S128x128_1_1_0_0_n_n none x y (constant S128x128 .f32 0x00000000#32) i
      = ((∑ k, f (i 0) k * g (i 1) k : ℝ) : EReal) := by
  refine (Ideal.matmul_apply₁_of dot_S128x512_S128x512_S128x128_1_1_0_0_n_n (a := 1) rfl rfl x y _ i
    (fun k => ix2 (i 0 : Fin 128) k) (fun k => ix2 (i 1 : Fin 128) k) (fun k => funext fun b => match b with | ⟨0, _⟩ => rfl | ⟨1, _⟩ => rfl)
    (fun k => funext fun b => match b with | ⟨0, _⟩ => rfl | ⟨1, _⟩ => rfl)).trans ?_
  show Ideal.ofBits .f32 0x00000000#32 + _ = _
  rw [lit_zero, EReal.coe_zero, zero_add, ← coe_sum]
  exact Finset.sum_congr rfl fun k _ => by rw [hx, hy, EReal.coe_mul]

/-- A product over the rows. -/
theorem dotRows (x : FVec Ideal S128x128 .bf16) (y : FVec Ideal S128x512 .bf16) (f : Fin 128 → Fin 128 → ℝ) (g : Fin 128 → Fin 512 → ℝ)
    (hx : ∀ i, x i = ((f (i 0) (i 1) : ℝ) : EReal)) (hy : ∀ i, y i = ((g (i 0) (i 1) : ℝ) : EReal)) (i : S128x512.Idx) :
    matmul dot_S128x128_S128x512_S128x512_0_0_1_1_n_n none x y (constant S128x512 .f32 0x00000000#32) i
      = ((∑ k, f k (i 0) * g k (i 1) : ℝ) : EReal) := by
  refine (Ideal.matmul_apply₁_of dot_S128x128_S128x512_S128x512_0_0_1_1_n_n (a := 0) rfl rfl x y _ i
    (fun k => ix2 k (i 0 : Fin 128)) (fun k => ix2 k (i 1 : Fin 512)) (fun k => funext fun b => match b with | ⟨0, _⟩ => rfl | ⟨1, _⟩ => rfl)
    (fun k => funext fun b => match b with | ⟨0, _⟩ => rfl | ⟨1, _⟩ => rfl)).trans ?_
  show Ideal.ofBits .f32 0x00000000#32 + _ = _
  rw [lit_zero, EReal.coe_zero, zero_add, ← coe_sum]
  exact Finset.sum_congr rfl fun k _ => by rw [hx, hy, EReal.coe_mul]

/-- A product of rows with columns. -/
theorem dotCols (x : FVec Ideal S128x512 .bf16) (y : FVec Ideal S512x128 .bf16) (f : Fin 128 → Fin 512 → ℝ) (g : Fin 512 → Fin 128 → ℝ)
    (hx : ∀ i, x i = ((f (i 0) (i 1) : ℝ) : EReal)) (hy : ∀ i, y i = ((g (i 0) (i 1) : ℝ) : EReal)) (i : S128x128.Idx) :
    matmul dot_S128x512_S512x128_S128x128_1_0_0_1_n_n none x y (constant S128x128 .f32 0x00000000#32) i
      = ((∑ k, f (i 0) k * g k (i 1) : ℝ) : EReal) := by
  refine (Ideal.matmul_apply₁_of dot_S128x512_S512x128_S128x128_1_0_0_1_n_n (a := 1) rfl rfl x y _ i
    (fun k => ix2 (i 0 : Fin 128) k) (fun k => ix2 k (i 1 : Fin 128)) (fun k => funext fun b => match b with | ⟨0, _⟩ => rfl | ⟨1, _⟩ => rfl)
    (fun k => funext fun b => match b with | ⟨0, _⟩ => rfl | ⟨1, _⟩ => rfl)).trans ?_
  show Ideal.ofBits .f32 0x00000000#32 + _ = _
  rw [lit_zero, EReal.coe_zero, zero_add, ← coe_sum]
  exact Finset.sum_congr rfl fun k _ => by rw [hx, hy, EReal.coe_mul]

/-! One head's part of the mixing matrices' gradient. -/

/-- What the kernel adds for head `h`. -/
def dwPay (h : Fin 8) (vn : FVec Ideal S128x512 .bf16) (d : FVec Ideal S128x512 .f32) (prev : Vec Ideal S1x128x128 .f32) : FVec Ideal S1x128x128 .f32 :=
  shapeCast S1x128x128 (addf (shapeCast S128x128 prev shapeCasts_S1x128x128_S128x128)
    (select (cmpi .sge (iota Kind.tc S128x128 32 [0] iota_S128x128_d0_w32) (iota Kind.tc S128x128 32 [1] iota_S128x128_d1_w32))
      (matmul dot_S128x512_S128x512_S128x128_1_1_0_0_n_n none
        (truncf .bf16 (select (broadcastTo S128x512 (shapeCast S1x512 (cmpi .eq k0_pay14 (broadcast S1x512 (BitVec.ofNat 32 h.val))) shapeCasts_S1x512_S1x512)
          broadcasts_S1x512_S128x512) d (broadcast S128x512 (Scalar.ofBits .f32 0x00000000#32))) bitsLt_bf16_f32)
        vn (constant S128x128 .f32 0x00000000#32))
      (broadcast S128x128 (Scalar.ofBits .f32 0x00000000#32)))) shapeCasts_S128x128_S1x128x128

theorem dwPay_at (h : Fin 8) (vn : FVec Ideal S128x512 .bf16) (d : FVec Ideal S128x512 .f32) (prev : Vec Ideal S1x128x128 .f32)
    (f g : Fin 128 → Fin 512 → ℝ) (p : Fin 128 → Fin 128 → ℝ) (hd' : ∀ i, d i = ((f (i 0) (i 1) : ℝ) : EReal)) (hv : ∀ i, vn i = ((g (i 0) (i 1) : ℝ) : EReal))
    (r c : Fin 128) (hp : prev (ix3 (0 : Fin 1) r c) = ((p r c : ℝ) : EReal)) (z : Fin 1) :
    dwPay h vn d prev (ix3 z r c)
      = ((p r c + (if c.val ≤ r.val then ∑ k, f r (lane h k) * g c (lane h k) else 0) : ℝ) : EReal) := by
  unfold dwPay
  rw [castOut, addf_apply, castIn, selTri, dotLanes _ vn (fun r l => if hd l = h then f r l else 0) g (fun i => by
    refine (selHead h d _ i).trans ?_
    rw [hd']
    show (if hd (i 1) = h then _ else Ideal.ofBits .f32 0x00000000#32) = _
    rw [lit_zero]
    by_cases e : hd (i 1) = h
    · rw [if_pos e]; exact congrArg _ (if_pos e).symm
    · rw [if_neg e]; exact congrArg _ (if_neg e).symm) hv]
  refine (congrArg₂ (· + ·) hp ?_).trans (EReal.coe_add _ _).symm
  show (if c.val ≤ r.val then _ else Ideal.ofBits .f32 0x00000000#32) = _
  rw [lit_zero]
  by_cases e : c.val ≤ r.val
  · rw [if_pos e, if_pos e]
    refine congrArg _ (Eq.trans (Finset.sum_congr rfl fun k _ => ?_) (sum_head h fun k => f r k * g c k))
    show (if hd k = h then f r k else 0) * g c k = _
    rw [ite_mul, zero_mul]
  · rw [if_neg e, if_neg e]

section
variable (x0 x1 x6 : Vec Ideal S128x512 .f32) (x2 x3 : Vec Ideal S1x512 .f32) (prev : Vec Ideal S1x128x128 .f32)

theorem pay18_eq : k0_pay18 (k0_pay10 x1 x2 x3) (iota Kind.tc S128x128 32 [0] iota_S128x128_d0_w32) (iota Kind.tc S128x128 32 [1] iota_S128x128_d1_w32)
    (k0_pay16 x6 x0) (k0_pay17 prev) = dwPay 0 (k0_pay10 x1 x2 x3) (k0_pay12 x6 x0) prev := rfl
theorem pay19_eq (vn : FVec Ideal S128x512 .bf16) (d : FVec Ideal S128x512 .f32) :
    k0_pay19 vn d k0_pay14 (iota Kind.tc S128x128 32 [0] iota_S128x128_d0_w32) (iota Kind.tc S128x128 32 [1] iota_S128x128_d1_w32) prev = dwPay 1 vn d prev := rfl
theorem pay23_eq (vn : FVec Ideal S128x512 .bf16) (d : FVec Ideal S128x512 .f32) :
    k0_pay23 (k0_pay20 prev) (k0_pay21 (iota Kind.tc S128x128 32 [0] iota_S128x128_d0_w32) (iota Kind.tc S128x128 32 [1] iota_S128x128_d1_w32))
      (k0_pay22 vn d k0_pay14) (FloatOps.ofBits FTy.f32 0#32) = dwPay 2 vn d prev := rfl
theorem pay24_eq (vn : FVec Ideal S128x512 .bf16) (d : FVec Ideal S128x512 .f32) :
    k0_pay24 vn d k0_pay14 (iota Kind.tc S128x128 32 [0] iota_S128x128_d0_w32) (iota Kind.tc S128x128 32 [1] iota_S128x128_d1_w32) prev = dwPay 3 vn d prev := rfl
theorem pay26_eq (vn : FVec Ideal S128x512 .bf16) (d : FVec Ideal S128x512 .f32) :
    k0_pay26 (k0_pay25 vn d k0_pay14 (iota Kind.tc S128x128 32 [0] iota_S128x128_d0_w32) (iota Kind.tc S128x128 32 [1] iota_S128x128_d1_w32) prev) = dwPay 4 vn d prev := rfl
theorem pay27_eq (vn : FVec Ideal S128x512 .bf16) (d : FVec Ideal S128x512 .f32) :
    k0_pay27 vn d k0_pay14 (iota Kind.tc S128x128 32 [0] iota_S128x128_d0_w32) (iota Kind.tc S128x128 32 [1] iota_S128x128_d1_w32) prev = dwPay 5 vn d prev := rfl
theorem pay29_eq (vn : FVec Ideal S128x512 .bf16) (d : FVec Ideal S128x512 .f32) :
    k0_pay29 (k0_pay28 vn d k0_pay14 (iota Kind.tc S128x128 32 [0] iota_S128x128_d0_w32) (iota Kind.tc S128x128 32 [1] iota_S128x128_d1_w32) prev) = dwPay 6 vn d prev := rfl
theorem pay30_eq (vn : FVec Ideal S128x512 .bf16) (d : FVec Ideal S128x512 .f32) :
    k0_pay30 vn d k0_pay14 (iota Kind.tc S128x128 32 [0] iota_S128x128_d0_w32) (iota Kind.tc S128x128 32 [1] iota_S128x128_d1_w32) prev = dwPay 7 vn d prev := rfl
end

/-! The gradient that reaches the normalised rows. -/

/-- One head's transposed mixing. -/
def mixT (w : Vec Ideal S1x128x128 .f32) (d : FVec Ideal S128x512 .bf16) : FVec Ideal S128x512 .f32 :=
  matmul dot_S128x128_S128x512_S128x512_0_0_1_1_n_n none
    (truncf .bf16 (select (cmpi .sge (iota Kind.tc S128x128 32 [0] iota_S128x128_d0_w32) (iota Kind.tc S128x128 32 [1] iota_S128x128_d1_w32))
      (shapeCast S128x128 w shapeCasts_S1x128x128_S128x128) (broadcast S128x128 (Scalar.ofBits .f32 0x00000000#32))) bitsLt_bf16_f32)
    d (constant S128x512 .f32 0x00000000#32)

theorem mixT_at (h : Fin 8) (W : Fin 8 → Fin 128 → Fin 128 → ℝ) (w : Vec Ideal S1x128x128 .f32) (d : FVec Ideal S128x512 .bf16) (f : Fin 128 → Fin 512 → ℝ)
    (hw : ∀ r c, w (ix3 (0 : Fin 1) r c) = ((W h r c : ℝ) : EReal)) (hd' : ∀ i, d i = ((f (i 0) (i 1) : ℝ) : EReal)) (i : S128x512.Idx) :
    mixT w d i = ((∑ k, f k (i 1) * tri W h k (i 0) : ℝ) : EReal) := by
  unfold mixT
  rw [dotRows _ d (fun r c => tri W h r c) f (fun i => by
    refine (selTri _ _ i).trans ?_
    rw [castIn]
    show (if (i 1).val ≤ (i 0).val then _ else Ideal.ofBits .f32 0x00000000#32) = _
    rw [lit_zero]
    unfold tri
    by_cases e : (i 1).val ≤ (i 0).val
    · rw [if_pos e]; exact (hw _ _).trans (congrArg _ (if_pos e).symm)
    · rw [if_neg e]; exact congrArg _ (if_neg e).symm) hd']
  exact congrArg _ (Finset.sum_congr rfl fun k _ => mul_comm _ _)

/-- The heads' mixings, each on its own lanes. -/
def mixAll (d : FVec Ideal S128x512 .bf16) (w : Fin 8 → Vec Ideal S1x128x128 .f32) : FVec Ideal S128x512 .f32 :=
  k0_pay41 d (k0_pay34 k0_pay31 k0_pay32 k0_pay33)
    (k0_pay38 d (k0_pay34 k0_pay31 k0_pay32 k0_pay33) (k0_pay35 d k0_pay31 k0_pay32 k0_pay33 (w 0) (w 1)) (k0_pay36 d (w 2)) k0_pay37 (w 3) (w 4))
    (k0_pay39 d (w 5)) k0_pay40 (w 6) (w 7)

/-- One head's choice. -/
def pick (h : Fin 8) (x y : FVec Ideal S128x512 .f32) : FVec Ideal S128x512 .f32 :=
  select (broadcastTo S128x512 (shapeCast S1x512 (cmpi .eq k0_pay14 (broadcast S1x512 (BitVec.ofNat 32 h.val))) shapeCasts_S1x512_S1x512)
      broadcasts_S1x512_S128x512) x y

theorem mixAll_eq (d : FVec Ideal S128x512 .bf16) (w : Fin 8 → Vec Ideal S1x128x128 .f32) :
    mixAll d w = pick 7 (mixT (w 7) d) (pick 6 (mixT (w 6) d) (pick 5 (mixT (w 5) d) (pick 4 (mixT (w 4) d) (pick 3 (mixT (w 3) d)
      (pick 2 (mixT (w 2) d) (pick 1 (mixT (w 1) d) (pick 0 (mixT (w 0) d) (broadcast S128x512 (Scalar.ofBits .f32 0x00000000#32))))))))) := rfl

theorem pick_at (h : Fin 8) (x y : FVec Ideal S128x512 .f32) (i : S128x512.Idx) : pick h x y i = if hd (i 1) = h then x i else y i := selHead h x y i

theorem mixAll_at (d : FVec Ideal S128x512 .bf16) (w : Fin 8 → Vec Ideal S1x128x128 .f32) (W : Fin 8 → Fin 128 → Fin 128 → ℝ) (f : Fin 128 → Fin 512 → ℝ)
    (hw : ∀ h r c, w h (ix3 (0 : Fin 1) r c) = ((W h r c : ℝ) : EReal)) (hd' : ∀ i, d i = ((f (i 0) (i 1) : ℝ) : EReal)) (i : S128x512.Idx) :
    mixAll d w i = ((∑ k, f k (i 1) * tri W (hd (i 1)) k (i 0) : ℝ) : EReal) := by
  rw [mixAll_eq]
  simp only [pick_at]
  have key : ∀ h : Fin 8, hd (i 1) = h → mixT (w h) d i = ((∑ k, f k (i 1) * tri W (hd (i 1)) k (i 0) : ℝ) : EReal) := fun h e => by
    rw [mixT_at h W (w h) d f (hw h) hd', e]
  have all : ∀ k : Fin 8, k = 0 ∨ k = 1 ∨ k = 2 ∨ k = 3 ∨ k = 4 ∨ k = 5 ∨ k = 6 ∨ k = 7 := by decide
  by_cases e7 : hd (i 1) = 7
  · rw [if_pos e7]; exact key 7 e7
  rw [if_neg e7]
  by_cases e6 : hd (i 1) = 6
  · rw [if_pos e6]; exact key 6 e6
  rw [if_neg e6]
  by_cases e5 : hd (i 1) = 5
  · rw [if_pos e5]; exact key 5 e5
  rw [if_neg e5]
  by_cases e4 : hd (i 1) = 4
  · rw [if_pos e4]; exact key 4 e4
  rw [if_neg e4]
  by_cases e3 : hd (i 1) = 3
  · rw [if_pos e3]; exact key 3 e3
  rw [if_neg e3]
  by_cases e2 : hd (i 1) = 2
  · rw [if_pos e2]; exact key 2 e2
  rw [if_neg e2]
  by_cases e1 : hd (i 1) = 1
  · rw [if_pos e1]; exact key 1 e1
  rw [if_neg e1]
  have e0 : hd (i 1) = 0 := by rcases all (hd (i 1)) with e | e | e | e | e | e | e | e <;> first | exact e | contradiction
  rw [if_pos e0]; exact key 0 e0

/-! The small payloads. -/

theorem pay11_at (x6 x7 : Vec Ideal S128x512 .f32) (f g : Fin 128 → Fin 512 → ℝ) (hx : ∀ i, x6 i = ((f (i 0) (i 1) : ℝ) : EReal))
    (hy : ∀ i, x7 i = ((g (i 0) (i 1) : ℝ) : EReal)) (i : S128x512.Idx) : k0_pay11 x6 x7 i = ((f (i 0) (i 1) * g (i 0) (i 1) : ℝ) : EReal) := by
  unfold k0_pay11
  show mulf (F := Ideal) _ _ i = _
  rw [mulf_apply, cast_self, hx, hy, EReal.coe_mul]

theorem pay12_at (x6 x0 : Vec Ideal S128x512 .f32) (f g : Fin 128 → Fin 512 → ℝ) (hx : ∀ i, x6 i = ((f (i 0) (i 1) : ℝ) : EReal))
    (hy : ∀ i, x0 i = ((g (i 0) (i 1) : ℝ) : EReal)) (i : S128x512.Idx) : k0_pay12 x6 x0 i = ((g (i 0) (i 1) * f (i 0) (i 1) : ℝ) : EReal) := by
  unfold k0_pay12
  show mulf (F := Ideal) _ _ i = _
  rw [mulf_apply, hx, hy, mul_comm, EReal.coe_mul]

theorem pay13_at (x6 x0 s : Vec Ideal S128x512 .f32) (f p : Fin 128 → Fin 512 → ℝ) (hx : ∀ i, k0_pay12 x6 x0 i = ((f (i 0) (i 1) : ℝ) : EReal))
    (hs : ∀ i, s i = ((p (i 0) (i 1) : ℝ) : EReal)) (i : S128x512.Idx) : k0_pay13 x6 x0 s i = ((p (i 0) (i 1) + f (i 0) (i 1) : ℝ) : EReal) := by
  unfold k0_pay13
  show shapeCast S128x512 (addf (F := Ideal) _ _) _ i = _
  rw [cast_self, addf_apply, hx, hs, EReal.coe_add]

theorem pay1_at (d : FVec Ideal S128x512 .f32) (q : Vec Ideal S1x512 .f32) (f : Fin 128 → Fin 512 → ℝ) (p : Fin 512 → ℝ)
    (hd' : ∀ i, d i = ((f (i 0) (i 1) : ℝ) : EReal)) (hq : ∀ i, q i = ((p (i 1) : ℝ) : EReal)) (i : S1x512.Idx) :
    k0_pay1 d q i = ((p (i 1) + ∑ k, f k (i 1) : ℝ) : EReal) := by
  unfold k0_pay1
  show addf (F := Ideal) _ _ i = _
  rw [addf_apply, cast_self, colSum d f hd', hq, EReal.coe_add]

/-- The first row's payload, over the mixed rows. -/
def pay42' (y d : FVec Ideal S128x512 .f32) (q : Vec Ideal S1x512 .f32) : FVec Ideal S1x512 .f32 :=
  addf (shapeCast S1x512 q shapeCasts_S1x512_S1x512)
    (shapeCast S1x512 (multiReduction .add [0] S512 (mulf d y) 0x00000000#32 reduces_S128x512_S512 (.inl rfl) rfl) shapeCasts_S512_S1x512)

theorem pay42_eq (y : FVec Ideal S128x512 .f32) (d : FVec Ideal S128x512 .bf16) (w : Fin 8 → Vec Ideal S1x128x128 .f32) (q : Vec Ideal S1x512 .f32) :
    k0_pay42 y d (k0_pay34 k0_pay31 k0_pay32 k0_pay33)
      (k0_pay38 d (k0_pay34 k0_pay31 k0_pay32 k0_pay33) (k0_pay35 d k0_pay31 k0_pay32 k0_pay33 (w 0) (w 1)) (k0_pay36 d (w 2)) k0_pay37 (w 3) (w 4))
      (k0_pay39 d (w 5)) k0_pay40 (w 6) (w 7) q = pay42' y (mixAll d w) q := rfl

theorem pay42'_at (y d : FVec Ideal S128x512 .f32) (q : Vec Ideal S1x512 .f32) (g f : Fin 128 → Fin 512 → ℝ) (p : Fin 512 → ℝ)
    (hy : ∀ i, y i = ((g (i 0) (i 1) : ℝ) : EReal)) (hd' : ∀ i, d i = ((f (i 0) (i 1) : ℝ) : EReal)) (hq : ∀ i, q i = ((p (i 1) : ℝ) : EReal)) (i : S1x512.Idx) :
    pay42' y d q i = ((p (i 1) + ∑ k, g k (i 1) * f k (i 1) : ℝ) : EReal) := by
  unfold pay42'
  rw [addf_apply, cast_self, colSum _ (fun r l => g r l * f r l) (fun i => by rw [mulf_apply, hy, hd', mul_comm, EReal.coe_mul]), hq, EReal.coe_add]

/-- The lanes' heads set against the columns. -/
theorem selWord : ∀ (l : Fin 512) (c : Fin 128),
    (IntOp.cmpi .eq (headWord (BitVec.ofNat 32 l.val)) (BitVec.ofNat 32 c.val)).setWidth 32 = if (hd l).val = c.val then 1#32 else 0#32 := by
  intro l c
  rw [headWord_lane]
  have key : ∀ (k : Fin 8) (c : Fin 128), (IntOp.cmpi .eq (BitVec.ofNat 32 k.val) (BitVec.ofNat 32 c.val)).setWidth 32 = if k.val = c.val then 1#32 else 0#32 := by
    decide +kernel
  exact key _ _

/-- Which lanes belong to which head, as zeros and ones. -/
def sel : FVec Ideal S512x128 .bf16 :=
  truncf .bf16 (sitofp .f32 (extui 32 (cmpi .eq
      (select (andi (cmpi .ne (subi (extui 32 (cmpi .sgt (iota .tc S512x128 32 [0] iota_S512x128_d0_w32) (broadcast S512x128 0#32)) natLt_1_32)
          (extui 32 (cmpi .slt (iota .tc S512x128 32 [0] iota_S512x128_d0_w32) (broadcast S512x128 0#32)) natLt_1_32))
          (broadcast S512x128 (Scalar.subi (Scalar.extui (Scalar.cmpi .sgt 64#32 0#32)) (Scalar.extui (Scalar.cmpi .slt 64#32 0#32)))))
        (cmpi .ne (remsi (iota .tc S512x128 32 [0] iota_S512x128_d0_w32) (broadcast S512x128 64#32)) (broadcast S512x128 0#32)))
        (subi (divsi (iota .tc S512x128 32 [0] iota_S512x128_d0_w32) (broadcast S512x128 64#32)) (broadcast S512x128 1#32))
        (divsi (iota .tc S512x128 32 [0] iota_S512x128_d0_w32) (broadcast S512x128 64#32)))
      (iota .tc S512x128 32 [1] iota_S512x128_d1_w32)) natLt_1_32)) bitsLt_bf16_f32

/-- One where the lane belongs to the head, else zero. -/
def one (l : Fin 512) (c : Fin 128) : ℝ := if (hd l).val = c.val then 1 else 0
theorem sel_at (i : S512x128.Idx) : sel i = ((one (i 0) (i 1) : ℝ) : EReal) := by
  have e : sel i = (((((IntOp.cmpi .eq (headWord (BitVec.ofNat 32 (0 * 512 + (i 0).val))) (BitVec.ofNat 32 (0 * 128 + (i 1).val))).setWidth 32).toInt : ℤ) : ℝ) : EReal) := rfl
  rw [e, Nat.zero_mul, Nat.zero_add, Nat.zero_add]
  refine (congrArg (fun b : BitVec 32 => (((b.toInt : ℤ) : ℝ) : EReal)) (selWord (i 0) (i 1))).trans ?_
  unfold one
  by_cases h : (hd (i 0)).val = (i 1).val
  · simp only [if_pos h]; norm_num
  · simp only [if_neg h]; norm_num

def nil (_ : Fin 128) (_ : Fin 512) : ℝ := 0
/-- The three parts of the split. -/
def part1 (s : Vec Ideal S128x512 .f32) : FVec Ideal S128x512 .bf16 := fun i => (s i : EReal)
def part2 (s : Vec Ideal S128x512 .f32) : FVec Ideal S128x512 .bf16 := fun i => (s i : EReal) - (s i : EReal)
def part3 (s : Vec Ideal S128x512 .f32) : FVec Ideal S128x512 .bf16 := fun i => ((s i : EReal) - (s i : EReal)) - ((s i : EReal) - (s i : EReal))

theorem pay3_eq (s : Vec Ideal S128x512 .f32) : k0_pay3 s
    = addf (addf (matmul dot_S128x512_S512x128_S128x128_1_0_0_1_n_n none (part1 s) sel (constant S128x128 .f32 0x00000000#32))
        (matmul dot_S128x512_S512x128_S128x128_1_0_0_1_n_n none (part2 s) sel (constant S128x128 .f32 0x00000000#32)))
      (matmul dot_S128x512_S512x128_S128x128_1_0_0_1_n_n none (part3 s) sel (constant S128x128 .f32 0x00000000#32)) := rfl

theorem pay3_at (s : Vec Ideal S128x512 .f32) (p : Fin 128 → Fin 512 → ℝ) (hs : ∀ i, s i = ((p (i 0) (i 1) : ℝ) : EReal)) (i : S128x128.Idx) :
    k0_pay3 s i = ((if hh : (i 1).val < 8 then ∑ k, p (i 0) (lane ⟨(i 1).val, hh⟩ k) else 0 : ℝ) : EReal) := by
  rw [pay3_eq]
  have hx2 : ∀ i, part2 s i = ((nil (i 0) (i 1) : ℝ) : EReal) := fun i => by
    unfold part2; rw [hs, ← EReal.coe_sub, sub_self]; rfl
  have hx3 : ∀ i, part3 s i = ((nil (i 0) (i 1) : ℝ) : EReal) := fun i => by
    unfold part3; rw [hs, ← EReal.coe_sub, sub_self, ← EReal.coe_sub, sub_self]; rfl
  rw [addf_apply, addf_apply, dotCols (part1 s) _ p one hs sel_at, dotCols _ _ nil one hx2 sel_at, dotCols _ _ nil one hx3 sel_at]
  simp only [nil, zero_mul, Finset.sum_const_zero]
  rw [EReal.coe_zero, add_zero, add_zero]
  refine congrArg _ ?_
  by_cases hh : (i 1).val < 8
  · rw [dif_pos hh, ← sum_head]
    refine Finset.sum_congr rfl fun k _ => ?_
    unfold one
    by_cases e : hd k = ⟨(i 1).val, hh⟩
    · rw [if_pos e, if_pos (Fin.ext_iff.mp e), mul_one]
    · rw [if_neg e, if_neg (fun e' => e (Fin.ext e')), mul_zero]
  · rw [dif_neg hh]
    refine Finset.sum_eq_zero fun k _ => ?_
    unfold one
    rw [if_neg (fun e : (hd k).val = (i 1).val => hh (e ▸ (hd k).isLt)), mul_zero]

end Cert.KernelIdeal.Blk
end
-- ==== Proof.SguBlock.lean ====
module

public import proofs.«01_k».proof.Proof.SguPay2
public import Idealize.ShloMosaic.Lib.Tactic
public import Idealize.ShloMosaic.Lib.WritesUnit

@[expose] public section

set_option maxRecDepth 16384

noncomputable section

/-! What one step of the kernel stores, as the pieces it is stored in. -/

namespace Cert.KernelIdeal.Blk

open Idealize.ShloMosaic hiding ix0 ix1 ix2 ix3 ix4 ix5 eq_ix2 eq_ix3
open Cert.KernelIdeal Cert.KernelIdeal.Gen Idealize.ShloMosaic.ValueIdx Cert.Sgu Idealize.ShloMosaic.TcCoe Idealize.SL.Sem

theorem hz : (![0, 0] : Fin 2 → Nat) = fun _ => 0 := funext fun a => by fin_cases a <;> rfl

/-- Head `k`'s part of an array of eight matrices. -/
abbrev hrect (k : Nat) (hk : k < 8) : Rect S8x128x128 := Rect.unit ![k, 0, 0] ![1, 128, 128] (fun a => match a with
  | ⟨0, _⟩ => hk | ⟨1, _⟩ => le_refl 128 | ⟨2, _⟩ => le_refl 128)

/-- The eight heads' stores over `base`, head `k` adding to what `prev` reads for it. -/
def heads (vn : FVec Ideal S128x512 .bf16) (d : FVec Ideal S128x512 .f32)
    (prev : List (View.Piece (Elt Ideal) S8x128x128 .f32) → (k : Nat) → k < 8 → Vec Ideal S1x128x128 .f32)
    (base : List (View.Piece (Elt Ideal) S8x128x128 .f32)) : (k : Nat) → k ≤ 8 → List (View.Piece (Elt Ideal) S8x128x128 .f32)
  | 0, _ => base
  | k + 1, hk => ⟨hrect k hk, dwPay ⟨k, hk⟩ vn d (prev (heads vn d prev base k (Nat.le_of_succ_le hk)) k hk)⟩ :: heads vn d prev base k (Nat.le_of_succ_le hk)

theorem mem_hrect (k : Nat) (hk : k < 8) (y : S8x128x128.Idx) (h : y ∈ (hrect k hk).set) : (y 0).val = k := by
  have h0 := (Rect.mem_set_unit.mp h) 0
  have e1 : k ≤ (y 0).val := h0.1
  have e2 : (y 0).val < k + 1 := h0.2
  omega

theorem emb_hrect (k : Nat) (hk : k < 8) (y : S8x128x128.Idx) (h : (y 0).val = k) :
    y = (hrect k hk).emb (ix3 (0 : Fin 1) (y 1 : Fin 128) (y 2 : Fin 128)) := by
  funext b
  apply Fin.ext
  match b with
  | ⟨0, _⟩ => show (y 0).val = k + 1 * 0; omega
  | ⟨1, _⟩ => show (y 1).val = 0 + 1 * (y 1).val; omega
  | ⟨2, _⟩ => show (y 2).val = 0 + 1 * (y 2).val; omega

theorem readCov_head (v : View sig .tc .vmem S8x128x128 .f32) (L : List (View.Piece (Elt Ideal) S8x128x128 .f32)) (k : Nat) (hk : k < 8)
    (y : S8x128x128.Idx) (e : (y 0).val = k) :
    v.readCov L (hrect k hk).toLoadRect (ix3 (0 : Fin 1) (y 1 : Fin 128) (y 2 : Fin 128)) = View.canon L y := by
  rw [View.readCov_eq_canon']
  exact congrArg (View.canon L) (emb_hrect k hk y e).symm

theorem canon_head (r : (k : Nat) → k < 8 → Vec Ideal S1x128x128 .f32) (L : List (View.Piece (Elt Ideal) S8x128x128 .f32)) (k : Nat) (hk : k < 8)
    (y : S8x128x128.Idx) (e : (y 0).val = k) :
    View.canon ((⟨hrect k hk, r k hk⟩ : View.Piece (Elt Ideal) S8x128x128 .f32) :: L) y = r k hk (ix3 (0 : Fin 1) (y 1 : Fin 128) (y 2 : Fin 128)) := by
  have h := View.canon_cons_emb (hrect k hk) (r k hk) L (ix3 (0 : Fin 1) (y 1 : Fin 128) (y 2 : Fin 128))
  rwa [← emb_hrect k hk y e] at h

theorem canon_skip (w : Vec Ideal S1x128x128 .f32) (L : List (View.Piece (Elt Ideal) S8x128x128 .f32)) (k : Nat) (hk : k < 8)
    (y : S8x128x128.Idx) (e : ¬(y 0).val = k) :
    View.canon ((⟨hrect k hk, w⟩ : View.Piece (Elt Ideal) S8x128x128 .f32) :: L) y = View.canon L y :=
  View.canon_cons_of_not_mem (⟨hrect k hk, w⟩ : View.Piece (Elt Ideal) S8x128x128 .f32) L (fun h => e (mem_hrect k hk y h))

section
variable (vn : FVec Ideal S128x512 .bf16) (d : FVec Ideal S128x512 .f32) (f g : Fin 128 → Fin 512 → ℝ)
  (hd' : ∀ i, d i = ((f (i 0) (i 1) : ℝ) : EReal)) (hv : ∀ i, vn i = ((g (i 0) (i 1) : ℝ) : EReal))
include hd' hv

/-- Stores over an array already read: each head's own part gains the product. -/
theorem heads_old (x : Vec Ideal S8x128x128 .f32) (p : Fin 8 → Fin 128 → Fin 128 → ℝ) (hx : ∀ i, x i = ((p (i 0) (i 1) (i 2) : ℝ) : EReal))
    (k : Nat) (hk : k ≤ 8) (y : S8x128x128.Idx) (hy : (y 0).val < k) :
    View.canon (heads vn d (fun _ k hk => View.ld x (hrect k hk)) [] k hk) y
      = ((p (y 0) (y 1) (y 2) + (if (y 2).val ≤ (y 1).val then ∑ k, f (y 1) (lane (y 0) k) * g (y 2) (lane (y 0) k) else 0) : ℝ) : EReal) := by
  induction k with
  | zero => exact absurd hy (Nat.not_lt_zero _)
  | succ k ih =>
    by_cases e : (y 0).val = k
    · refine (canon_head (fun k hk => dwPay ⟨k, hk⟩ vn d (View.ld x (hrect k hk))) _ k hk y e).trans ?_
      have e0 : (⟨k, hk⟩ : Fin 8) = y 0 := Fin.ext e.symm
      rw [e0]
      refine dwPay_at (y 0) vn d _ f g (p (y 0)) hd' hv (y 1) (y 2) ?_ 0
      exact (congrArg x (emb_hrect k hk y e).symm).trans (hx y)
    · refine (canon_skip _ _ k hk y e).trans (ih _ (by omega))

/-- Stores over zeros. -/
theorem heads_new (v : View sig .tc .vmem S8x128x128 .f32) (base : List (View.Piece (Elt Ideal) S8x128x128 .f32))
    (hb : ∀ y, View.canon base y = ((0 : ℝ) : EReal)) (k : Nat) (hk : k ≤ 8) (y : S8x128x128.Idx) :
    View.canon (heads vn d (fun L k hk => v.readCov L (hrect k hk).toLoadRect) base k hk) y
      = ((if (y 0).val < k then (if (y 2).val ≤ (y 1).val then ∑ k, f (y 1) (lane (y 0) k) * g (y 2) (lane (y 0) k) else 0) else 0 : ℝ) : EReal) := by
  induction k generalizing y with
  | zero => rw [if_neg (Nat.not_lt_zero _)]; exact hb y
  | succ k ih =>
    by_cases e : (y 0).val = k
    · have h3 : (y 0).val < k + 1 := by omega
      rw [if_pos h3]
      refine (canon_head (fun k hk => dwPay ⟨k, hk⟩ vn d (v.readCov (heads vn d (fun L k hk => v.readCov L (hrect k hk).toLoadRect) base k (Nat.le_of_succ_le hk))
        (hrect k hk).toLoadRect)) _ k hk y e).trans ?_
      have e0 : (⟨k, hk⟩ : Fin 8) = y 0 := Fin.ext e.symm
      rw [e0]
      refine (dwPay_at (y 0) vn d _ f g (fun _ _ => 0) hd' hv (y 1) (y 2) ?_ 0).trans (congrArg _ (zero_add _))
      refine (readCov_head v _ k hk y e).trans ((ih _ y).trans ?_)
      have h4 : ¬(y 0).val < k := by omega
      rw [if_neg h4]
    · refine (canon_skip _ _ k hk y e).trans ((ih _ y).trans ?_)
      by_cases e2 : (y 0).val < k
      · have h3 : (y 0).val < k + 1 := by omega
        rw [if_pos e2, if_pos h3]
      · have h3 : ¬(y 0).val < k + 1 := by omega
        rw [if_neg e2, if_neg h3]
end

/-- The gradient that reaches the normalised rows. -/
abbrev DVN (x0 x6 : Vec Ideal S128x512 .f32) (x4 : Vec Ideal S8x128x128 .f32) : FVec Ideal S128x512 .f32 :=
  mixAll (k0_pay15 x6 x0) (fun h => View.ld x4 (hrect h.val h.isLt))

/-- The two halves' stores. -/
abbrev halves (x0 x1 : Vec Ideal S128x512 .f32) (x2 : Vec Ideal S1x512 .f32) (x4 : Vec Ideal S8x128x128 .f32) (x6 x7 : Vec Ideal S128x512 .f32) :
    List (View.Piece (Elt Ideal) S128x1024 .bf16) :=
  [⟨Rect.unit ![0, 512] ![128, 512] inb_S128x1024_S128x512_0_512, k0_pay2 (k0_pay8 x1) (k0_pay9 x1) (DVN x0 x6 x4) x2⟩,
   ⟨Rect.unit ![0, 0] ![128, 512] inb_S128x1024_S128x512_0_0, k0_pay11 x6 x7⟩]

abbrev row0 : Rect S8x512 := Rect.unit ![0, 0] ![1, 512] inb_S8x512_S1x512_0_0
abbrev row1 : Rect S8x512 := Rect.unit ![1, 0] ![1, 512] inb_S8x512_S1x512_1_0
abbrev whole9 : List (View.Piece (Elt Ideal) S8x128x128 .f32) := [⟨Rect.unit ![0, 0, 0] ![8, 128, 128] inb_S8x128x128_S8x128x128_0_0_0, k0_pay4 (F := Ideal)⟩]
abbrev whole11 : List (View.Piece (Elt Ideal) S8x512 .f32) := [⟨Rect.unit ![0, 0] ![8, 512] inb_S8x512_S8x512_0_0, k0_pay5 (F := Ideal)⟩]
/-- The first row's store over zeros. -/
abbrev first (v : View sig .tc .vmem S8x512 .f32) (x0 x1 : Vec Ideal S128x512 .f32) (x4 : Vec Ideal S8x128x128 .f32) (x6 : Vec Ideal S128x512 .f32) :
    List (View.Piece (Elt Ideal) S8x512 .f32) :=
  ⟨row0, pay42' (k0_pay9 x1) (DVN x0 x6 x4) (v.readCov whole11 row0.toLoadRect)⟩ :: whole11

end Cert.KernelIdeal.Blk
end
-- ==== Proof.SguStores.lean ====
module

public import proofs.«01_k».proof.Proof.SguBlock
public import Idealize.ShloMosaic.Lib.Tactic
public import Idealize.ShloMosaic.Lib.WritesUnit

@[expose] public section

set_option maxRecDepth 16384

noncomputable section

/-! What one step of the kernel stores, as the pieces it is stored in. -/

namespace Cert.KernelIdeal.Blk

open Idealize.ShloMosaic hiding ix0 ix1 ix2 ix3 ix4 ix5 eq_ix2 eq_ix3
open Cert.KernelIdeal Cert.KernelIdeal.Gen Idealize.ShloMosaic.ValueIdx Cert.Sgu Idealize.ShloMosaic.TcCoe Idealize.SL.Sem

section
variable (c : Dev nD) (i : grid0.Coords)
  (a1 : Memref sig .tc .vmem S128x512 .f32) (h1 : a1.IsWhole)
  (a2 : Memref sig .tc .vmem S128x512 .f32) (h2 : a2.IsWhole)
  (a3 : Memref sig .tc .vmem S1x512 .f32) (h3 : a3.IsWhole)
  (a4 : Memref sig .tc .vmem S1x512 .f32) (h4 : a4.IsWhole)
  (a5 : Memref sig .tc .vmem S8x128x128 .f32) (h5 : a5.IsWhole)
  (a6 : Memref sig .tc .vmem S128x512 .f32) (h6 : a6.IsWhole)
  (a7 : Memref sig .tc .vmem S128x512 .f32) (h7 : a7.IsWhole)
  (a8 : Memref sig .tc .vmem S128x512 .f32) (h8 : a8.IsWhole)
  (a9 : Memref sig .tc .vmem S128x1024 .bf16) (h9 : a9.IsWhole)
  (a10 : Memref sig .tc .vmem S8x128x128 .f32) (h10 : a10.IsWhole)
  (a11 : Memref sig .tc .vmem S128x128 .f32) (h11 : a11.IsWhole)
  (a12 : Memref sig .tc .vmem S8x512 .f32) (h12 : a12.IsWhole)
  (a13 : Memref sig .tc .vmem S128x512 .f32) (h13 : a13.IsWhole)
  (x0 x1 : Vec Ideal S128x512 .f32) (x2 x3 : Vec Ideal S1x512 .f32) (x4 : Vec Ideal S8x128x128 .f32) (x5 x6 x7 : Vec Ideal S128x512 .f32)
  (xo9 : Vec Ideal S8x128x128 .f32) (xo11 : Vec Ideal S8x512 .f32) (xs0 : Vec Ideal S128x512 .f32)

theorem out0_A_8_eq (hc0 : cond0_0 i) (hc1 : ¬cond0_1 i) :
    out0_A_8 c i a1 h1 a2 h2 a3 h3 a4 h4 a5 h5 a6 h6 a7 h7 a8 h8 a9 h9 a10 h10 a11 h11 a12 h12 a13 h13 hc0 hc1 x0 x1 x2 x3 x4 x5 x6 x7
      = View.canon (halves x0 x1 x2 x4 x6 x7) := by
  unfold out0_A_8
  rw [View.read_writes_eq_canon _ _ _ (cover0_A_8 c i a1 h1 a2 h2 a3 h3 a4 h4 a5 h5 a6 h6 a7 h7 a8 h8 a9 h9 a10 h10 a11 h11 a12 h12 a13 h13 hc0 hc1 x0 x1 x2 x3 x4 x5 x6 x7)]
  unfold kernelRun0_A
  dsimp only
  sl_unfold_words
  simp only [View.readAt_eq_ld, h1.read_unread, h2.read_unread, h3.read_unread, h4.read_unread, h5.read_unread, h6.read_unread, h7.read_unread, h8.read_unread, h10.read_unread, h12.read_unread, h13.read_unread, View.ld_unit_zero (S := S128x512) hz, View.ld_unit_zero (S := S1x512) hz]
  rfl

theorem out0_B_8_eq (hc0 : ¬cond0_0 i) (hc1 : ¬cond0_1 i) :
    out0_B_8 c i a1 h1 a2 h2 a3 h3 a4 h4 a5 h5 a6 h6 a7 h7 a8 h8 a9 h9 a10 h10 a11 h11 a12 h12 a13 h13 hc0 hc1 x0 x1 x2 x3 x4 x5 x6 x7 xo9 xo11 xs0
      = View.canon (halves x0 x1 x2 x4 x6 x7) := by
  unfold out0_B_8
  rw [View.read_writes_eq_canon _ _ _ (cover0_B_8 c i a1 h1 a2 h2 a3 h3 a4 h4 a5 h5 a6 h6 a7 h7 a8 h8 a9 h9 a10 h10 a11 h11 a12 h12 a13 h13 hc0 hc1 x0 x1 x2 x3 x4 x5 x6 x7 xo9 xo11 xs0)]
  unfold kernelRun0_B
  dsimp only
  sl_unfold_words
  simp only [View.readAt_eq_ld, h1.read_unread, h2.read_unread, h3.read_unread, h4.read_unread, h5.read_unread, h6.read_unread, h7.read_unread, h8.read_unread, h10.read_unread, h12.read_unread, h13.read_unread, View.ld_unit_zero (S := S128x512) hz, View.ld_unit_zero (S := S1x512) hz]
  rfl

theorem out0_C_8_eq (hc0 : ¬cond0_0 i) (hc1 : cond0_1 i) :
    out0_C_8 c i a1 h1 a2 h2 a3 h3 a4 h4 a5 h5 a6 h6 a7 h7 a8 h8 a9 h9 a10 h10 a11 h11 a12 h12 a13 h13 hc0 hc1 x0 x1 x2 x3 x4 x5 x6 x7 xo9 xo11 xs0
      = View.canon (halves x0 x1 x2 x4 x6 x7) := by
  unfold out0_C_8
  rw [View.read_writes_eq_canon _ _ _ (cover0_C_8 c i a1 h1 a2 h2 a3 h3 a4 h4 a5 h5 a6 h6 a7 h7 a8 h8 a9 h9 a10 h10 a11 h11 a12 h12 a13 h13 hc0 hc1 x0 x1 x2 x3 x4 x5 x6 x7 xo9 xo11 xs0)]
  unfold kernelRun0_C
  dsimp only
  sl_unfold_words
  simp only [View.readAt_eq_ld, h1.read_unread, h2.read_unread, h3.read_unread, h4.read_unread, h5.read_unread, h6.read_unread, h7.read_unread, h8.read_unread, h10.read_unread, h12.read_unread, h13.read_unread, View.ld_unit_zero (S := S128x512) hz, View.ld_unit_zero (S := S1x512) hz]
  rfl

theorem out0_A_9_eq (hc0 : cond0_0 i) (hc1 : ¬cond0_1 i) :
    out0_A_9 c i a1 h1 a2 h2 a3 h3 a4 h4 a5 h5 a6 h6 a7 h7 a8 h8 a9 h9 a10 h10 a11 h11 a12 h12 a13 h13 hc0 hc1 x0 x1 x2 x3 x4 x5 x6 x7
      = View.canon (heads (k0_pay10 x1 x2 x3) (k0_pay12 x6 x0) (fun L k hk => a10.view.readCov L (hrect k hk).toLoadRect) whole9 8 (le_refl 8)) := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 hc0 hc1 x0 x1 x2 x3 x4 x5 x6 x7)]
  unfold kernelRun0_A
  dsimp only
  sl_unfold_words
  simp only [View.readAt_eq_ld, h1.read_unread, h2.read_unread, h3.read_unread, h4.read_unread, h5.read_unread, h6.read_unread, h7.read_unread, h8.read_unread, h10.read_unread, h12.read_unread, h13.read_unread, View.ld_unit_zero (S := S128x512) hz, View.ld_unit_zero (S := S1x512) hz, pay18_eq, pay19_eq, pay23_eq, pay24_eq, pay26_eq, pay27_eq, pay29_eq, pay30_eq]
  rfl

theorem out0_B_9_eq (hc0 : ¬cond0_0 i) (hc1 : ¬cond0_1 i) :
    out0_B_9 c i a1 h1 a2 h2 a3 h3 a4 h4 a5 h5 a6 h6 a7 h7 a8 h8 a9 h9 a10 h10 a11 h11 a12 h12 a13 h13 hc0 hc1 x0 x1 x2 x3 x4 x5 x6 x7 xo9 xo11 xs0
      = View.canon (heads (k0_pay10 x1 x2 x3) (k0_pay12 x6 x0) (fun _ k hk => View.ld xo9 (hrect k hk)) [] 8 (le_refl 8)) := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 hc0 hc1 x0 x1 x2 x3 x4 x5 x6 x7 xo9 xo11 xs0)]
  unfold kernelRun0_B
  dsimp only
  sl_unfold_words
  simp only [View.readAt_eq_ld, h1.read_unread, h2.read_unread, h3.read_unread, h4.read_unread, h5.read_unread, h6.read_unread, h7.read_unread, h8.read_unread, h10.read_unread, h12.read_unread, h13.read_unread, View.ld_unit_zero (S := S128x512) hz, View.ld_unit_zero (S := S1x512) hz, pay18_eq, pay19_eq, pay23_eq, pay24_eq, pay26_eq, pay27_eq, pay29_eq, pay30_eq]
  rfl

theorem out0_C_9_eq (hc0 : ¬cond0_0 i) (hc1 : cond0_1 i) :
    out0_C_9 c i a1 h1 a2 h2 a3 h3 a4 h4 a5 h5 a6 h6 a7 h7 a8 h8 a9 h9 a10 h10 a11 h11 a12 h12 a13 h13 hc0 hc1 x0 x1 x2 x3 x4 x5 x6 x7 xo9 xo11 xs0
      = View.canon (heads (k0_pay10 x1 x2 x3) (k0_pay12 x6 x0) (fun _ k hk => View.ld xo9 (hrect k hk)) [] 8 (le_refl 8)) := by
  unfold out0_C_9
  rw [View.read_writes_eq_canon _ _ _ (cover0_C_9 c i a1 h1 a2 h2 a3 h3 a4 h4 a5 h5 a6 h6 a7 h7 a8 h8 a9 h9 a10 h10 a11 h11 a12 h12 a13 h13 hc0 hc1 x0 x1 x2 x3 x4 x5 x6 x7 xo9 xo11 xs0)]
  unfold kernelRun0_C
  dsimp only
  sl_unfold_words
  simp only [View.readAt_eq_ld, h1.read_unread, h2.read_unread, h3.read_unread, h4.read_unread, h5.read_unread, h6.read_unread, h7.read_unread, h8.read_unread, h10.read_unread, h12.read_unread, h13.read_unread, View.ld_unit_zero (S := S128x512) hz, View.ld_unit_zero (S := S1x512) hz, pay18_eq, pay19_eq, pay23_eq, pay24_eq, pay26_eq, pay27_eq, pay29_eq, pay30_eq]
  rfl

theorem out0_A_11_eq (hc0 : cond0_0 i) (hc1 : ¬cond0_1 i) :
    out0_A_11 c i a1 h1 a2 h2 a3 h3 a4 h4 a5 h5 a6 h6 a7 h7 a8 h8 a9 h9 a10 h10 a11 h11 a12 h12 a13 h13 hc0 hc1 x0 x1 x2 x3 x4 x5 x6 x7
      = View.canon (⟨row1, k0_pay1 (DVN x0 x6 x4) (a12.view.readCov (first a12.view x0 x1 x4 x6) row1.toLoadRect)⟩ :: first a12.view x0 x1 x4 x6) := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 hc0 hc1 x0 x1 x2 x3 x4 x5 x6 x7)]
  unfold kernelRun0_A
  dsimp only
  sl_unfold_words
  simp only [View.readAt_eq_ld, h1.read_unread, h2.read_unread, h3.read_unread, h4.read_unread, h5.read_unread, h6.read_unread, h7.read_unread, h8.read_unread, h10.read_unread, h12.read_unread, h13.read_unread, View.ld_unit_zero (S := S128x512) hz, View.ld_unit_zero (S := S1x512) hz]
  rfl

theorem out0_B_11_eq (hc0 : ¬cond0_0 i) (hc1 : ¬cond0_1 i) :
    out0_B_11 c i a1 h1 a2 h2 a3 h3 a4 h4 a5 h5 a6 h6 a7 h7 a8 h8 a9 h9 a10 h10 a11 h11 a12 h12 a13 h13 hc0 hc1 x0 x1 x2 x3 x4 x5 x6 x7 xo9 xo11 xs0
      = a12.view.read (Elt Ideal) (a12.view.writes (Elt Ideal) (h12.unread xo11)
        [⟨row1, k0_pay1 (DVN x0 x6 x4) (View.ld xo11 row1)⟩, ⟨row0, pay42' (k0_pay9 x1) (DVN x0 x6 x4) (View.ld xo11 row0)⟩]) := by
  unfold out0_B_11
  unfold kernelRun0_B
  dsimp only
  sl_unfold_words
  simp only [View.readAt_eq_ld, h1.read_unread, h2.read_unread, h3.read_unread, h4.read_unread, h5.read_unread, h6.read_unread, h7.read_unread, h8.read_unread, h10.read_unread, h12.read_unread, h13.read_unread, View.ld_unit_zero (S := S128x512) hz, View.ld_unit_zero (S := S1x512) hz]
  rfl

theorem out0_C_11_eq (hc0 : ¬cond0_0 i) (hc1 : cond0_1 i) :
    out0_C_11 c i a1 h1 a2 h2 a3 h3 a4 h4 a5 h5 a6 h6 a7 h7 a8 h8 a9 h9 a10 h10 a11 h11 a12 h12 a13 h13 hc0 hc1 x0 x1 x2 x3 x4 x5 x6 x7 xo9 xo11 xs0
      = a12.view.read (Elt Ideal) (a12.view.writes (Elt Ideal) (h12.unread xo11)
        [⟨row1, k0_pay1 (DVN x0 x6 x4) (View.ld xo11 row1)⟩, ⟨row0, pay42' (k0_pay9 x1) (DVN x0 x6 x4) (View.ld xo11 row0)⟩]) := by
  unfold out0_C_11
  unfold kernelRun0_C
  dsimp only
  sl_unfold_words
  simp only [View.readAt_eq_ld, h1.read_unread, h2.read_unread, h3.read_unread, h4.read_unread, h5.read_unread, h6.read_unread, h7.read_unread, h8.read_unread, h10.read_unread, h12.read_unread, h13.read_unread, View.ld_unit_zero (S := S128x512) hz, View.ld_unit_zero (S := S1x512) hz]
  rfl

theorem sout0_A_0_eq (hc0 : cond0_0 i) (hc1 : ¬cond0_1 i) :
    sout0_A_0 c i a1 h1 a2 h2 a3 h3 a4 h4 a5 h5 a6 h6 a7 h7 a8 h8 a9 h9 a10 h10 a11 h11 a12 h12 a13 h13 hc0 hc1 x0 x1 x2 x3 x4 x5 x6 x7
      = k0_pay13 x6 x0 (k0_pay6 (F := Ideal)) := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 hc0 hc1 x0 x1 x2 x3 x4 x5 x6 x7)]
  unfold kernelRun0_A
  dsimp only
  sl_unfold_words
  simp only [View.readAt_eq_ld, h1.read_unread, h2.read_unread, h3.read_unread, h4.read_unread, h5.read_unread, h6.read_unread, h7.read_unread, h8.read_unread, h10.read_unread, h12.read_unread, h13.read_unread, View.ld_unit_zero (S := S128x512) hz, View.ld_unit_zero (S := S1x512) hz]
  rw [View.canon_cons_unit_zero (S := S128x512) hz, View.readCov_unit_zero (S := S128x512) _ hz]

theorem sout0_B_0_eq (hc0 : ¬cond0_0 i) (hc1 : ¬cond0_1 i) :
    sout0_B_0 c i a1 h1 a2 h2 a3 h3 a4 h4 a5 h5 a6 h6 a7 h7 a8 h8 a9 h9 a10 h10 a11 h11 a12 h12 a13 h13 hc0 hc1 x0 x1 x2 x3 x4 x5 x6 x7 xo9 xo11 xs0
      = k0_pay13 x6 x0 xs0 := by
  unfold sout0_B_0
  rw [View.read_writes_eq_canon _ _ _ (scover0_B_0 c i a1 h1 a2 h2 a3 h3 a4 h4 a5 h5 a6 h6 a7 h7 a8 h8 a9 h9 a10 h10 a11 h11 a12 h12 a13 h13 hc0 hc1 x0 x1 x2 x3 x4 x5 x6 x7 xo9 xo11 xs0)]
  unfold kernelRun0_B
  dsimp only
  sl_unfold_words
  simp only [View.readAt_eq_ld, h1.read_unread, h2.read_unread, h3.read_unread, h4.read_unread, h5.read_unread, h6.read_unread, h7.read_unread, h8.read_unread, h10.read_unread, h12.read_unread, h13.read_unread, View.ld_unit_zero (S := S128x512) hz, View.ld_unit_zero (S := S1x512) hz]
  rw [View.canon_unit_zero (S := S128x512) hz]

theorem sout0_C_0_eq (hc0 : ¬cond0_0 i) (hc1 : cond0_1 i) :
    sout0_C_0 c i a1 h1 a2 h2 a3 h3 a4 h4 a5 h5 a6 h6 a7 h7 a8 h8 a9 h9 a10 h10 a11 h11 a12 h12 a13 h13 hc0 hc1 x0 x1 x2 x3 x4 x5 x6 x7 xo9 xo11 xs0
      = k0_pay13 x6 x0 xs0 := by
  unfold sout0_C_0
  rw [View.read_writes_eq_canon _ _ _ (scover0_C_0 c i a1 h1 a2 h2 a3 h3 a4 h4 a5 h5 a6 h6 a7 h7 a8 h8 a9 h9 a10 h10 a11 h11 a12 h12 a13 h13 hc0 hc1 x0 x1 x2 x3 x4 x5 x6 x7 xo9 xo11 xs0)]
  unfold kernelRun0_C
  dsimp only
  sl_unfold_words
  simp only [View.readAt_eq_ld, h1.read_unread, h2.read_unread, h3.read_unread, h4.read_unread, h5.read_unread, h6.read_unread, h7.read_unread, h8.read_unread, h10.read_unread, h12.read_unread, h13.read_unread, View.ld_unit_zero (S := S128x512) hz, View.ld_unit_zero (S := S1x512) hz]
  rw [View.canon_unit_zero (S := S128x512) hz]

theorem out0_C_10_eq (hc0 : ¬cond0_0 i) (hc1 : cond0_1 i) :
    out0_C_10 c i a1 h1 a2 h2 a3 h3 a4 h4 a5 h5 a6 h6 a7 h7 a8 h8 a9 h9 a10 h10 a11 h11 a12 h12 a13 h13 hc0 hc1 x0 x1 x2 x3 x4 x5 x6 x7 xo9 xo11 xs0
      = k0_pay3 (k0_pay13 x6 x0 xs0) := by
  unfold out0_C_10
  rw [View.read_writes_eq_canon _ _ _ (cover0_C_10 c i a1 h1 a2 h2 a3 h3 a4 h4 a5 h5 a6 h6 a7 h7 a8 h8 a9 h9 a10 h10 a11 h11 a12 h12 a13 h13 hc0 hc1 x0 x1 x2 x3 x4 x5 x6 x7 xo9 xo11 xs0)]
  unfold kernelRun0_C
  dsimp only
  sl_unfold_words
  simp only [View.readAt_eq_ld, h1.read_unread, h2.read_unread, h3.read_unread, h4.read_unread, h5.read_unread, h6.read_unread, h7.read_unread, h8.read_unread, h10.read_unread, h12.read_unread, h13.read_unread, View.ld_unit_zero (S := S128x512) hz, View.ld_unit_zero (S := S1x512) hz]
  rw [View.canon_unit_zero (S := S128x128) hz, View.readCov_unit_zero (S := S128x512) _ hz]

end

end Cert.KernelIdeal.Blk
end
-- ==== Proof.SguStep.lean ====
module

public import proofs.«01_k».proof.Proof.SguStores

@[expose] public section

set_option maxRecDepth 16384

noncomputable section

/-! One step of the kernel on one chunk of the real arrays. -/

namespace Cert.KernelIdeal.Blk

open Idealize.ShloMosaic hiding ix0 ix1 ix2 ix3 ix4 ix5 eq_ix2 eq_ix3
open Cert.KernelIdeal Cert.KernelIdeal.Gen Idealize.ShloMosaic.ValueIdx Cert.Sgu Idealize.ShloMosaic.TcCoe Idealize.SL.Sem

/-- The sum over the first `k` chunks. -/
def part (f : Fin 16 → ℝ) (k : Nat) : ℝ := ∑ m ∈ Finset.range k, if h : m < 16 then f ⟨m, h⟩ else 0
theorem part_zero (f : Fin 16 → ℝ) : part f 0 = 0 := rfl
theorem part_succ (f : Fin 16 → ℝ) (n : Fin 16) : part f (n.val + 1) = part f n.val + f n := by
  unfold part; rw [Finset.sum_range_succ, dif_pos n.isLt]
theorem part_all (f : Fin 16 → ℝ) : part f 16 = ∑ m, f m := by
  unfold part; rw [Finset.sum_range]
  exact Finset.sum_congr rfl fun m _ => dif_pos m.isLt

variable (a : Args)

/-- The accumulated results after `k` chunks. -/
def pW (k : Nat) (h : Fin 8) (r c : Fin 128) : ℝ :=
  if c.val ≤ r.val then part (fun m => ∑ d, dsv a (row m r) (lane h d) * vn a (row m c) (lane h d)) k else 0
def pG (k : Nat) (l : Fin 512) : ℝ := part (fun m => ∑ i, hat (v a (row m i)) l * dvn a (row m i) l) k
def pH (k : Nat) (l : Fin 512) : ℝ := part (fun m => ∑ i, dvn a (row m i) l) k
def pVec (k : Nat) (q : Fin 8) (l : Fin 512) : ℝ := if q.val = 0 then pG a k l else if q.val = 1 then pH a k l else 0
def pS (k : Nat) (r : Fin 128) (l : Fin 512) : ℝ := part (fun m => dsv a (row m r) l) k

theorem pW_zero (h : Fin 8) (r c : Fin 128) : pW a 0 h r c = 0 := by unfold pW; rw [part_zero, ite_self]
theorem pVec_zero (q : Fin 8) (l : Fin 512) : pVec a 0 q l = 0 := by unfold pVec pG pH; rw [part_zero, part_zero, ite_self, ite_self]
theorem pW_succ (n : Fin 16) (h : Fin 8) (r c : Fin 128) : pW a (n.val + 1) h r c
    = pW a n.val h r c + (if c.val ≤ r.val then ∑ d, dsv a (row n r) (lane h d) * vn a (row n c) (lane h d) else 0) := by
  unfold pW
  by_cases e : c.val ≤ r.val
  · rw [if_pos e, if_pos e, if_pos e, part_succ]
  · rw [if_neg e, if_neg e, if_neg e, add_zero]

theorem dvn_row (n : Fin 16) (r : Fin 128) (l : Fin 512) : ∑ k, dsv a (row n k) l * tri a.W (hd l) k r = dvn a (row n r) l := by
  unfold dvn; rw [chunk_row, pos_row]
theorem pW_first (n : Fin 16) (hn : n.val = 0) (h : Fin 8) (r c : Fin 128) :
    (if h.val < 8 then (if c.val ≤ r.val then ∑ d, dsv a (row n r) (lane h d) * vn a (row n c) (lane h d) else 0) else 0) = pW a (n.val + 1) h r c := by
  rw [if_pos h.isLt, pW_succ, hn, pW_zero, zero_add]
theorem pVec_0 (k : Nat) (q : Fin 8) (l : Fin 512) (e : q.val = 0) : pVec a k q l = pG a k l := if_pos e
theorem pVec_1 (k : Nat) (q : Fin 8) (l : Fin 512) (e : q.val = 1) : pVec a k q l = pH a k l :=
  (if_neg (by omega)).trans (if_pos e)
theorem pVec_2 (k : Nat) (q : Fin 8) (l : Fin 512) (e0 : ¬q.val = 0) (e1 : ¬q.val = 1) : pVec a k q l = 0 :=
  (if_neg e0).trans (if_neg e1)
theorem pS_zero (n : Fin 16) (hn : n.val = 0) (r : Fin 128) (l : Fin 512) : pS a n.val r l = 0 := by
  unfold pS; rw [hn, part_zero]
theorem pG_zero (n : Fin 16) (hn : n.val = 0) (l : Fin 512) : 0 = pG a n.val l := by
  unfold pG; rw [hn, part_zero]
theorem pH_zero (n : Fin 16) (hn : n.val = 0) (l : Fin 512) : 0 = pH a n.val l := by
  unfold pH; rw [hn, part_zero]

variable (n : Fin 16) (x0 x1 : Vec Ideal S128x512 .f32) (x2 x3 : Vec Ideal S1x512 .f32) (x4 : Vec Ideal S8x128x128 .f32) (x6 x7 : Vec Ideal S128x512 .f32)

/-- The blocks hold chunk `n` of the arrays. -/
structure Blk : Prop where
  b0 : ∀ i, x0 i = ((u a (row n (i 0)) (i 1) : ℝ) : EReal)
  b1 : ∀ i, x1 i = ((v a (row n (i 0)) (i 1) : ℝ) : EReal)
  b2 : ∀ i, x2 i = ((a.g (i 1) : ℝ) : EReal)
  b3 : ∀ i, x3 i = ((a.b (i 1) : ℝ) : EReal)
  b4 : ∀ i, x4 i = ((a.W (i 0) (i 1) (i 2) : ℝ) : EReal)
  b6 : ∀ i, x6 i = ((a.C (row n (i 0)) (i 1) : ℝ) : EReal)
  b7 : ∀ i, x7 i = ((gate a (row n (i 0)) (i 1) : ℝ) : EReal)

variable {a n x0 x1 x2 x3 x4 x6 x7} (B : Blk a n x0 x1 x2 x3 x4 x6 x7)
include B

theorem vn_blk (i : S128x512.Idx) : k0_pay10 x1 x2 x3 i = (((fun r l => vn a (row n r) l) (i 0) (i 1) : ℝ) : EReal) :=
  pay10_at (fun r l => v a (row n r) l) x1 B.b1 x2 x3 a.g a.b B.b2 B.b3 i
theorem dsv_blk (i : S128x512.Idx) : k0_pay12 x6 x0 i = (((fun r l => dsv a (row n r) l) (i 0) (i 1) : ℝ) : EReal) :=
  pay12_at x6 x0 (fun r l => a.C (row n r) l) (fun r l => u a (row n r) l) B.b6 B.b0 i
theorem hat_blk (i : S128x512.Idx) : k0_pay9 x1 i = (((fun r l => hat (v a (row n r)) l) (i 0) (i 1) : ℝ) : EReal) :=
  pay9_at (fun r l => v a (row n r) l) x1 B.b1 i

theorem dvn_blk (i : S128x512.Idx) : DVN x0 x6 x4 i = (((fun r l => dvn a (row n r) l) (i 0) (i 1) : ℝ) : EReal) := by
  refine (mixAll_at _ _ a.W (fun r l => dsv a (row n r) l) (fun h r c => ?_) (fun i => dsv_blk B i) i).trans (congrArg _ ?_)
  · exact (congrArg x4 (emb_hrect h.val h.isLt (ix3 h r c) rfl).symm).trans (B.b4 _)
  · exact dvn_row a n (i 0) (i 1)

theorem ds_blk (y : S128x1024.Idx) : View.canon (halves x0 x1 x2 x4 x6 x7) y = ((dUV a (row n (y 0)) (y 1) : ℝ) : EReal) := by
  have l0 : (y 0).val < 128 := (y 0).isLt
  have l1 : (y 1).val < 1024 := (y 1).isLt
  unfold dUV
  by_cases e : (y 1).val < 512
  · rw [dif_pos e]
    have hn : y ∉ (Rect.unit (s := S128x1024) ![0, 512] ![128, 512] inb_S128x1024_S128x512_0_512).set := fun h => by
      have h1 := ((Rect.mem_set_unit.mp h) 1).1
      have h2 : 512 ≤ (y 1).val := h1
      omega
    refine (View.canon_cons_of_not_mem (⟨Rect.unit ![0, 512] ![128, 512] inb_S128x1024_S128x512_0_512, _⟩ : View.Piece (Elt Ideal) S128x1024 .bf16) _ hn).trans ?_
    have hy : y = (Rect.unit (s := S128x1024) ![0, 0] ![128, 512] inb_S128x1024_S128x512_0_0).emb (ix2 (y 0 : Fin 128) (⟨(y 1).val, e⟩ : Fin 512)) := by
      funext b; apply Fin.ext
      match b with
      | ⟨0, _⟩ => show (y 0).val = 0 + 1 * (y 0).val; omega
      | ⟨1, _⟩ => show (y 1).val = 0 + 1 * (y 1).val; omega
    have h := View.canon_cons_emb (Rect.unit (s := S128x1024) ![0, 0] ![128, 512] inb_S128x1024_S128x512_0_0) (k0_pay11 x6 x7) ([] : List (View.Piece (Elt Ideal) S128x1024 .bf16))
      (ix2 (y 0 : Fin 128) (⟨(y 1).val, e⟩ : Fin 512))
    rw [← hy] at h
    exact h.trans (pay11_at x6 x7 (fun r l => a.C (row n r) l) (fun r l => gate a (row n r) l) B.b6 B.b7 _)
  · rw [dif_neg e]
    have hy : y = (Rect.unit (s := S128x1024) ![0, 512] ![128, 512] inb_S128x1024_S128x512_0_512).emb (ix2 (y 0 : Fin 128) (⟨(y 1).val - 512, by omega⟩ : Fin 512)) := by
      funext b; apply Fin.ext
      match b with
      | ⟨0, _⟩ => show (y 0).val = 0 + 1 * (y 0).val; omega
      | ⟨1, _⟩ => show (y 1).val = 512 + 1 * ((y 1).val - 512); omega
    have h := View.canon_cons_emb (Rect.unit (s := S128x1024) ![0, 512] ![128, 512] inb_S128x1024_S128x512_0_512) (k0_pay2 (k0_pay8 x1) (k0_pay9 x1) (DVN x0 x6 x4) x2)
      ([⟨Rect.unit ![0, 0] ![128, 512] inb_S128x1024_S128x512_0_0, k0_pay11 x6 x7⟩] : List (View.Piece (Elt Ideal) S128x1024 .bf16))
      (ix2 (y 0 : Fin 128) (⟨(y 1).val - 512, by omega⟩ : Fin 512))
    rw [← hy] at h
    exact h.trans (pay2_at (fun r l => v a (row n r) l) x1 B.b1 x2 a.g B.b2 (DVN x0 x6 x4) (fun r l => dvn a (row n r) l) (fun i => dvn_blk B i) _)

theorem dw_old (x : Vec Ideal S8x128x128 .f32) (hx : ∀ i, x i = ((pW a n.val (i 0) (i 1) (i 2) : ℝ) : EReal)) (y : S8x128x128.Idx) :
    View.canon (heads (k0_pay10 x1 x2 x3) (k0_pay12 x6 x0) (fun _ k hk => View.ld x (hrect k hk)) [] 8 (le_refl 8)) y
      = ((pW a (n.val + 1) (y 0) (y 1) (y 2) : ℝ) : EReal) := by
  refine Eq.trans ?_ (congrArg _ (pW_succ a n _ _ _).symm)
  exact heads_old _ _ (fun r l => dsv a (row n r) l) (fun r l => vn a (row n r) l) (fun i => dsv_blk B i) (fun i => vn_blk B i) x (pW a n.val) hx 8 (le_refl 8) y (y 0).isLt

omit B in
theorem whole9_at (y : S8x128x128.Idx) : View.canon whole9 y = ((0 : ℝ) : EReal) := by
  have hz3 : (![0, 0, 0] : Fin 3 → Nat) = fun _ => 0 := funext fun a => by fin_cases a <;> rfl
  rw [View.canon_unit_zero (S := S8x128x128) hz3]
  exact lit_zero
omit B in
theorem whole11_at (y : S8x512.Idx) : View.canon whole11 y = ((0 : ℝ) : EReal) := by
  rw [View.canon_unit_zero (S := S8x512) hz]
  exact lit_zero

theorem dw_new (w : View sig .tc .vmem S8x128x128 .f32) (hn : n.val = 0) (y : S8x128x128.Idx) :
    View.canon (heads (k0_pay10 x1 x2 x3) (k0_pay12 x6 x0) (fun L k hk => w.readCov L (hrect k hk).toLoadRect) whole9 8 (le_refl 8)) y
      = ((pW a (n.val + 1) (y 0) (y 1) (y 2) : ℝ) : EReal) := by
  refine (heads_new _ _ (fun r l => dsv a (row n r) l) (fun r l => vn a (row n r) l) (fun i => dsv_blk B i) (fun i => vn_blk B i) w whole9 whole9_at 8 (le_refl 8) y).trans
    (congrArg _ (pW_first a n hn (y 0) (y 1) (y 2)))

omit B in
theorem emb_row0 (y : S8x512.Idx) (e : (y 0).val = 0) : y = row0.emb (ix2 (0 : Fin 1) (y 1 : Fin 512)) := by
  funext b; apply Fin.ext
  match b with
  | ⟨0, _⟩ => show (y 0).val = 0 + 1 * 0; omega
  | ⟨1, _⟩ => show (y 1).val = 0 + 1 * (y 1).val; omega
omit B in
theorem emb_row1 (y : S8x512.Idx) (e : (y 0).val = 1) : y = row1.emb (ix2 (0 : Fin 1) (y 1 : Fin 512)) := by
  funext b; apply Fin.ext
  match b with
  | ⟨0, _⟩ => show (y 0).val = 1 + 1 * 0; omega
  | ⟨1, _⟩ => show (y 1).val = 0 + 1 * (y 1).val; omega
omit B in
theorem mem_row0 (y : S8x512.Idx) (h : y ∈ row0.set) : (y 0).val = 0 := by
  have h0 := (Rect.mem_set_unit.mp h) 0
  have e2 : (y 0).val < 0 + 1 := h0.2
  omega
omit B in
theorem mem_row1 (y : S8x512.Idx) (h : y ∈ row1.set) : (y 0).val = 1 := by
  have h0 := (Rect.mem_set_unit.mp h) 0
  have e1 : 1 ≤ (y 0).val := h0.1
  have e2 : (y 0).val < 1 + 1 := h0.2
  omega

omit B in
theorem pG_succ (n : Fin 16) (l : Fin 512) : pG a (n.val + 1) l = pG a n.val l + ∑ i, hat (v a (row n i)) l * dvn a (row n i) l := part_succ _ n
omit B in
theorem pH_succ (n : Fin 16) (l : Fin 512) : pH a (n.val + 1) l = pH a n.val l + ∑ i, dvn a (row n i) l := part_succ _ n

theorem row0_at (q : Vec Ideal S1x512 .f32) (hq : ∀ i, q i = ((pG a n.val (i 1) : ℝ) : EReal)) (i : S1x512.Idx) :
    pay42' (k0_pay9 x1) (DVN x0 x6 x4) q i = ((pG a (n.val + 1) (i 1) : ℝ) : EReal) := by
  refine Eq.trans ?_ (congrArg _ (pG_succ n _).symm)
  exact pay42'_at _ _ q (fun r l => hat (v a (row n r)) l) (fun r l => dvn a (row n r) l) (pG a n.val) (fun i => hat_blk B i) (fun i => dvn_blk B i) hq i
theorem row1_at (q : Vec Ideal S1x512 .f32) (hq : ∀ i, q i = ((pH a n.val (i 1) : ℝ) : EReal)) (i : S1x512.Idx) :
    k0_pay1 (DVN x0 x6 x4) q i = ((pH a (n.val + 1) (i 1) : ℝ) : EReal) := by
  refine Eq.trans ?_ (congrArg _ (pH_succ n _).symm)
  exact pay1_at _ q (fun r l => dvn a (row n r) l) (pH a n.val) (fun i => dvn_blk B i) hq i

theorem vec_old (w : Memref sig .tc .vmem S8x512 .f32) (hw : w.IsWhole) (x : Vec Ideal S8x512 .f32)
    (hx : ∀ i, x i = ((pVec a n.val (i 0) (i 1) : ℝ) : EReal)) (y : S8x512.Idx) :
    w.view.read (Elt Ideal) (w.view.writes (Elt Ideal) (hw.unread x)
        [⟨row1, k0_pay1 (DVN x0 x6 x4) (View.ld x row1)⟩, ⟨row0, pay42' (k0_pay9 x1) (DVN x0 x6 x4) (View.ld x row0)⟩]) y
      = ((pVec a (n.val + 1) (y 0) (y 1) : ℝ) : EReal) := by
  have hq0 : ∀ i : S1x512.Idx, View.ld x row0 i = ((pG a n.val (i 1) : ℝ) : EReal) := fun i => by
    refine (congrArg x (emb_row0 (ix2 (0 : Fin 8) (i 1 : Fin 512)) rfl).symm |> Eq.trans ?_).trans ((hx _).trans ?_)
    · refine congrArg x (congrArg row0.emb ?_)
      funext b; apply Fin.ext
      match b with
      | ⟨0, _⟩ => have : (i 0).val < 1 := (i 0).isLt; show (i 0).val = 0; omega
      | ⟨1, _⟩ => rfl
    · rfl
  have hq1 : ∀ i : S1x512.Idx, View.ld x row1 i = ((pH a n.val (i 1) : ℝ) : EReal) := fun i => by
    refine (congrArg x (emb_row1 (ix2 (1 : Fin 8) (i 1 : Fin 512)) rfl).symm |> Eq.trans ?_).trans ((hx _).trans ?_)
    · refine congrArg x (congrArg row1.emb ?_)
      funext b; apply Fin.ext
      match b with
      | ⟨0, _⟩ => have : (i 0).val < 1 := (i 0).isLt; show (i 0).val = 0; omega
      | ⟨1, _⟩ => rfl
    · rfl
  by_cases e1 : (y 0).val = 1
  · refine (View.read_writes_cons_unit_of_mem w.view _ inb_S8x512_S1x512_1_0 _ _ y (ix2 (0 : Fin 1) (y 1 : Fin 512)) rfl (fun b => ?_)).trans ((row1_at B _ hq1 _).trans ?_)
    · match b with
      | ⟨0, _⟩ => show (y 0).val = 1 + 0; omega
      | ⟨1, _⟩ => show (y 1).val = 0 + (y 1).val; omega
    · exact congrArg _ (pVec_1 a _ _ _ e1).symm
  · refine (View.read_writes_cons_unit_of_not_mem w.view _ inb_S8x512_S1x512_1_0 _ _ y rfl (0 : Fin 2) ?_).trans ?_
    · show (y 0).val < 1 ∨ 1 + 1 ≤ (y 0).val; omega
    by_cases e0 : (y 0).val = 0
    · refine (View.read_writes_cons_unit_of_mem w.view _ inb_S8x512_S1x512_0_0 _ _ y (ix2 (0 : Fin 1) (y 1 : Fin 512)) rfl (fun b => ?_)).trans ((row0_at B _ hq0 _).trans ?_)
      · match b with
        | ⟨0, _⟩ => show (y 0).val = 0 + 0; omega
        | ⟨1, _⟩ => show (y 1).val = 0 + (y 1).val; omega
      · exact congrArg _ (pVec_0 a _ _ _ e0).symm
    · refine (View.read_writes_cons_unit_of_not_mem w.view _ inb_S8x512_S1x512_0_0 _ _ y rfl (0 : Fin 2) ?_).trans ?_
      · show (y 0).val < 0 ∨ 0 + 1 ≤ (y 0).val; omega
      rw [View.writes_nil, hw.read_unread, hx]
      exact congrArg _ ((pVec_2 a _ _ _ e0 e1).trans (pVec_2 a _ _ _ e0 e1).symm)

theorem first_at (w : View sig .tc .vmem S8x512 .f32) (hn : n.val = 0) (y : S8x512.Idx) :
    View.canon (first w x0 x1 x4 x6) y = (((if (y 0).val = 0 then pG a (n.val + 1) (y 1) else 0) : ℝ) : EReal) := by
  by_cases e0 : (y 0).val = 0
  · rw [if_pos e0]
    have h := View.canon_cons_emb row0 (pay42' (k0_pay9 x1) (DVN x0 x6 x4) (w.readCov whole11 row0.toLoadRect)) whole11 (ix2 (0 : Fin 1) (y 1 : Fin 512))
    rw [← emb_row0 y e0] at h
    refine h.trans (row0_at B _ (fun i => ?_) _)
    rw [View.readCov_eq_canon']
    exact (whole11_at _).trans (congrArg _ (pG_zero a n hn _))
  · rw [if_neg e0]
    exact (View.canon_cons_of_not_mem (⟨row0, _⟩ : View.Piece (Elt Ideal) S8x512 .f32) _ (fun h => e0 (mem_row0 y h))).trans (whole11_at y)

theorem vec_new (w : View sig .tc .vmem S8x512 .f32) (hn : n.val = 0) (y : S8x512.Idx) :
    View.canon (⟨row1, k0_pay1 (DVN x0 x6 x4) (w.readCov (first w x0 x1 x4 x6) row1.toLoadRect)⟩ :: first w x0 x1 x4 x6) y
      = ((pVec a (n.val + 1) (y 0) (y 1) : ℝ) : EReal) := by
  by_cases e1 : (y 0).val = 1
  · refine Eq.trans ?_ (congrArg _ (pVec_1 a _ _ _ e1).symm)
    have h := View.canon_cons_emb row1 (k0_pay1 (DVN x0 x6 x4) (w.readCov (first w x0 x1 x4 x6) row1.toLoadRect)) (first w x0 x1 x4 x6) (ix2 (0 : Fin 1) (y 1 : Fin 512))
    rw [← emb_row1 y e1] at h
    refine h.trans (row1_at B _ (fun i => ?_) _)
    rw [View.readCov_eq_canon']
    refine (first_at B w hn _).trans (congrArg _ ?_)
    have hne : ¬ (1 + 1 * (i 0).val) = 0 := by omega
    exact (if_neg hne).trans (pH_zero a n hn _)
  · refine (View.canon_cons_of_not_mem (⟨row1, _⟩ : View.Piece (Elt Ideal) S8x512 .f32) _ (fun h => e1 (mem_row1 y h))).trans ((first_at B w hn y).trans (congrArg _ ?_))
    by_cases e0 : (y 0).val = 0
    · exact (if_pos e0).trans (pVec_0 a _ _ _ e0).symm
    · exact (if_neg e0).trans (pVec_2 a _ _ _ e0 e1).symm

theorem scr_blk (s : Vec Ideal S128x512 .f32) (hs : ∀ i, s i = ((pS a n.val (i 0) (i 1) : ℝ) : EReal)) (i : S128x512.Idx) :
    k0_pay13 x6 x0 s i = ((pS a (n.val + 1) (i 0) (i 1) : ℝ) : EReal) := by
  refine (pay13_at x6 x0 s (fun r l => dsv a (row n r) l) (pS a n.val) (fun i => dsv_blk B i) hs i).trans (congrArg _ ?_)
  exact (part_succ _ n).symm

omit B in
theorem pay6_at (hn : n.val = 0) (i : S128x512.Idx) : k0_pay6 (F := Ideal) i = ((pS a n.val (i 0) (i 1) : ℝ) : EReal) := by
  refine Eq.trans ?_ (congrArg _ (pS_zero a n hn (i 0) (i 1)).symm)
  unfold k0_pay6
  show shapeCast S128x512 _ _ i = _
  rw [cast_self]
  exact lit_zero

end Cert.KernelIdeal.Blk
end
-- ==== Proof.SguIn.lean ====
module

public import proofs.«01_k».proof.Proof.SguRef
public import proofs.«01_k».proof.Proof.SguStep
public import proofs.«01_k».proof.Proof.Gen.KernelIdeal.Frame
public import Idealize.ShloMosaic.Lib.StableHlo

@[expose] public section

set_option maxRecDepth 16384

noncomputable section

/-! The arrays that the kernel's windows read. -/

namespace Cert.KernelIdeal.Blk

open Idealize.ShloMosaic hiding ix0 ix1 ix2 ix3 ix4 ix5 eq_ix2 eq_ix3
open Cert.KernelIdeal Cert.KernelIdeal.Gen Idealize.ShloMosaic.ValueIdx Cert.Sgu Idealize.ShloMosaic.TcCoe Idealize.SL.Sem
open Idealize.ShloMosaic.StableHlo

variable (m : (ℓ : Loc nD τ sig) → Buf (Elt Ideal) ℓ) (c : Dev nD)

set_option maxHeartbeats 4000000 in
theorem V_lg : V m c main_v0 = broadcastInDim S1x512 ![1] bcast_S512_S1x512_1 (m ((c : Thread nD τ).loc main_arg2)) := by
  unfold V
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp <;> rfl

set_option maxHeartbeats 4000000 in
theorem V_lb : V m c main_v1 = broadcastInDim S1x512 ![1] bcast_S512_S1x512_1 (m ((c : Thread nD τ).loc main_arg3)) := by
  unfold V
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp <;> rfl

set_option maxHeartbeats 8000000 in
theorem V_gate : V m c main_v43 = shapeCast S2048x512
    (Cert.ReferenceIdeal.Read.val_main_v40 (F := Ideal) (m ((c : Thread nD τ).loc main_arg0)) (m ((c : Thread nD τ).loc main_arg2)) (m ((c : Thread nD τ).loc main_arg3))
      (m ((c : Thread nD τ).loc main_arg4)) (m ((c : Thread nD τ).loc main_arg5))) shapeCasts_S1x16x128x8x64_S2048x512 := by
  unfold V
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp <;> rfl

end Cert.KernelIdeal.Blk
end
-- ==== Proof.SguFold.lean ====
module

public import proofs.«01_k».proof.Proof.SguIn
public import proofs.«01_k».proof.Proof.Gen.KernelIdeal.Value

@[expose] public section

set_option maxRecDepth 16384

noncomputable section

/-! The kernel's results as sums over the chunks. -/

namespace Cert.KernelIdeal.Blk

open Idealize.ShloMosaic hiding ix0 ix1 ix2 ix3 ix4 ix5 eq_ix2 eq_ix3
open Cert.KernelIdeal Cert.KernelIdeal.Gen Idealize.ShloMosaic.ValueIdx Cert.Sgu Idealize.ShloMosaic.TcCoe Idealize.SL.Sem
open Cert.ReferenceIdeal.RefValue (Holds)

variable (m : (ℓ : Loc nD τ sig) → Buf (Elt Ideal) ℓ) (c : Dev nD) (a : Args)

/-- The point's chunk. -/
abbrev chk (t : Fin cfg0.N) : Fin 16 := ⟨t.val, lt_of_lt_of_eq t.isLt N_0⟩

theorem idx0 : ∀ t : Fin cfg0.N, win0_0.index t (0 : Fin 2) = t.val ∧ win0_0.index t (1 : Fin 2) = 5 := (by decide +kernel : ∀ t : Fin grid0.N, _)
theorem idx1 : ∀ t : Fin cfg0.N, win0_1.index t (0 : Fin 2) = t.val ∧ win0_1.index t (1 : Fin 2) = 6 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 3) = 0 ∧ win0_4.index t (1 : Fin 3) = 0 ∧ win0_4.index t (2 : Fin 3) = 0 := (by decide +kernel : ∀ t : Fin grid0.N, _)
theorem idx6 : ∀ t : Fin cfg0.N, win0_6.index t (0 : Fin 2) = t.val ∧ win0_6.index t (1 : Fin 2) = 0 := (by decide +kernel : ∀ t : Fin grid0.N, _)
theorem idx7 : ∀ t : Fin cfg0.N, win0_7.index t (0 : Fin 2) = t.val ∧ win0_7.index t (1 : Fin 2) = 0 := (by decide +kernel : ∀ t : Fin grid0.N, _)

/-- The kernel's arguments hold the real numbers `a`. -/
abbrev KHolds : Prop := Holds (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) a

variable {m c a} (H : KHolds m c a)
include H

omit H in
theorem row_bc (x : S512.Idx → EReal) (i : S1x512.Idx) : broadcastInDim S1x512 ![1] bcast_S512_S1x512_1 x i = x (ix1 (i 1 : Fin 512)) :=
  broadcastInDim_apply _ bcast_S512_S1x512_1 x i _ (fun a => match a with
    | ⟨0, _⟩ => by show (i 1).val = if (512 : Nat) = 1 then 0 else (i 1).val; rw [if_neg (by decide)])

theorem lg_at (i : S1x512.Idx) : V m c main_v0 i = ((a.g (i 1) : ℝ) : EReal) := by
  rw [V_lg]
  exact (row_bc _ i).trans (H.h2 _)
theorem lb_at (i : S1x512.Idx) : V m c main_v1 i = ((a.b (i 1) : ℝ) : EReal) := by
  rw [V_lb]
  exact (row_bc _ i).trans (H.h3 _)

omit H in
theorem flat_five (x : S1x16x128x8x64.Idx → EReal) (i : S2048x512.Idx) :
    shapeCast S2048x512 x shapeCasts_S1x16x128x8x64_S2048x512 i
      = x (Cert.ReferenceIdeal.Read.idx_main_v41 (ix3 (0 : Fin 1) (i 0 : Fin 2048) (i 1 : Fin 512))) := by
  refine shapeCast_apply x _ i _ ?_
  rw [Shape.rowMajor_val_five, Shape.rowMajor_val_two]
  have h1 : (i 0).val < 2048 := (i 0).isLt
  have h2 : (i 1).val < 512 := (i 1).isLt
  show (((0 * 16 + ((0 * 2048 + (i 0).val) * 512 + (i 1).val) / 65536 % 16) * 128 + ((0 * 2048 + (i 0).val) * 512 + (i 1).val) / 512 % 128) * 8
    + ((0 * 2048 + (i 0).val) * 512 + (i 1).val) / 64 % 8) * 64 + ((0 * 2048 + (i 0).val) * 512 + (i 1).val) % 64 = (i 0).val * 512 + (i 1).val
  omega

/-- The gate, as the host hands it over. -/
theorem gate_at (i : S2048x512.Idx) : V m c main_v43 i = ((gate a (i 0) (i 1) : ℝ) : EReal) := by
  rw [V_gate]
  refine (flat_five _ i).trans ?_
  refine (Cert.ReferenceIdeal.Read.val_main_v41_apply _ _ _ _ _ _).symm.trans ?_
  exact Cert.ReferenceIdeal.RefValue.r41 H (ix3 (0 : Fin 1) (i 0 : Fin 2048) (i 1 : Fin 512))

set_option maxHeartbeats 1000000 in
theorem b0_of (t : Fin cfg0.N) (i : S128x512.Idx) : (iblk m c 0 t : S128x512.Idx → EReal) i = ((u a (row (chk t) (i 0)) (i 1) : ℝ) : EReal) := by
  unfold iblk
  rw [View.read_apply]
  show V m c main_arg0 _ = _
  rw [V_main_arg0, H.h0]
  refine congrArg _ (congrArg₂ a.X (Fin.ext ?_) (Fin.ext ?_))
  · show win0_0.index t (0 : Fin 2) * 128 + 1 * (i 0).val = 128 * t.val + (i 0).val; rw [(idx0 t).1]; omega
  · show win0_0.index t (1 : Fin 2) * 512 + 1 * (i 1).val = 2560 + (i 1).val; rw [(idx0 t).2]; omega

set_option maxHeartbeats 1000000 in
theorem b1_of (t : Fin cfg0.N) (i : S128x512.Idx) : (iblk m c 1 t : S128x512.Idx → EReal) i = ((v a (row (chk t) (i 0)) (i 1) : ℝ) : EReal) := by
  unfold iblk
  rw [View.read_apply]
  show V m c main_arg0 _ = _
  rw [V_main_arg0, H.h0]
  refine congrArg _ (congrArg₂ a.X (Fin.ext ?_) (Fin.ext ?_))
  · show win0_1.index t (0 : Fin 2) * 128 + 1 * (i 0).val = 128 * t.val + (i 0).val; rw [(idx1 t).1]; omega
  · show win0_1.index t (1 : Fin 2) * 512 + 1 * (i 1).val = 3072 + (i 1).val; rw [(idx1 t).2]; omega

set_option maxHeartbeats 1000000 in
theorem b2_of (t : Fin cfg0.N) (i : S1x512.Idx) : (iblk m c 2 t : S1x512.Idx → EReal) i = ((a.g (i 1) : ℝ) : EReal) := by
  unfold iblk
  rw [View.read_apply]
  show V m c main_v0 _ = _
  refine (lg_at H _).trans (congrArg _ (congrArg a.g (Fin.ext ?_)))
  show win0_2.index t (1 : Fin 2) * 512 + 1 * (i 1).val = (i 1).val; rw [(idx2 t).2]; omega

set_option maxHeartbeats 1000000 in
theorem b3_of (t : Fin cfg0.N) (i : S1x512.Idx) : (iblk m c 3 t : S1x512.Idx → EReal) i = ((a.b (i 1) : ℝ) : EReal) := by
  unfold iblk
  rw [View.read_apply]
  show V m c main_v1 _ = _
  refine (lb_at H _).trans (congrArg _ (congrArg a.b (Fin.ext ?_)))
  show win0_3.index t (1 : Fin 2) * 512 + 1 * (i 1).val = (i 1).val; rw [(idx3 t).2]; omega

set_option maxHeartbeats 1000000 in
theorem b4_of (t : Fin cfg0.N) (i : S8x128x128.Idx) : (iblk m c 4 t : S8x128x128.Idx → EReal) i = ((a.W (i 0) (i 1) (i 2) : ℝ) : EReal) := by
  unfold iblk
  rw [View.read_apply]
  show V m c main_arg4 _ = _
  rw [V_main_arg4, H.h4]
  have e0 : ∀ (p p' : Fin 8) (q q' r r' : Fin 128), p = p' → q = q' → r = r' → a.W p q r = a.W p' q' r' := by
    rintro p _ q _ r _ rfl rfl rfl; rfl
  refine congrArg _ (e0 _ _ _ _ _ _ (Fin.ext ?_) (Fin.ext ?_) (Fin.ext ?_))
  · show win0_4.index t (0 : Fin 3) * 8 + 1 * (i 0).val = (i 0).val; rw [(idx4 t).1]; omega
  · show win0_4.index t (1 : Fin 3) * 128 + 1 * (i 1).val = (i 1).val; rw [(idx4 t).2.1]; omega
  · show win0_4.index t (2 : Fin 3) * 128 + 1 * (i 2).val = (i 2).val; rw [(idx4 t).2.2]; omega

set_option maxHeartbeats 1000000 in
theorem b6_of (t : Fin cfg0.N) (i : S128x512.Idx) : (iblk m c 6 t : S128x512.Idx → EReal) i = ((a.C (row (chk t) (i 0)) (i 1) : ℝ) : EReal) := by
  unfold iblk
  rw [View.read_apply]
  show V m c main_arg1 _ = _
  rw [V_main_arg1, H.h1]
  refine congrArg _ (congrArg₂ a.C (Fin.ext ?_) (Fin.ext ?_))
  · show win0_6.index t (0 : Fin 2) * 128 + 1 * (i 0).val = 128 * t.val + (i 0).val; rw [(idx6 t).1]; omega
  · show win0_6.index t (1 : Fin 2) * 512 + 1 * (i 1).val = (i 1).val; rw [(idx6 t).2]; omega

set_option maxHeartbeats 1000000 in
theorem b7_of (t : Fin cfg0.N) (i : S128x512.Idx) : (iblk m c 7 t : S128x512.Idx → EReal) i = ((gate a (row (chk t) (i 0)) (i 1) : ℝ) : EReal) := by
  unfold iblk
  rw [View.read_apply]
  show V m c main_v43 _ = _
  refine (gate_at H _).trans (congrArg _ (congrArg₂ (gate a) (Fin.ext ?_) (Fin.ext ?_)))
  · show win0_7.index t (0 : Fin 2) * 128 + 1 * (i 0).val = 128 * t.val + (i 0).val; rw [(idx7 t).1]; omega
  · show win0_7.index t (1 : Fin 2) * 512 + 1 * (i 1).val = (i 1).val; rw [(idx7 t).2]; omega

theorem blk_holds (t : Fin cfg0.N) : Blk a (chk t) (iblk m c 0 t) (iblk m c 1 t) (iblk m c 2 t) (iblk m c 3 t) (iblk m c 4 t) (iblk m c 6 t) (iblk m c 7 t) :=
  ⟨b0_of H t, b1_of H t, b2_of H t, b3_of H t, b4_of H t, b6_of H t, b7_of H t⟩

end Cert.KernelIdeal.Blk
end
-- ==== Proof.SguFold2.lean ====
module

public import proofs.«01_k».proof.Proof.SguFold

@[expose] public section

set_option maxRecDepth 16384

noncomputable section

/-! The kernel's steps folded into its results. -/

namespace Cert.KernelIdeal.Blk

open Idealize.ShloMosaic hiding ix0 ix1 ix2 ix3 ix4 ix5 eq_ix2 eq_ix3
open Cert.KernelIdeal Cert.KernelIdeal.Gen Idealize.ShloMosaic.ValueIdx Cert.Sgu Idealize.ShloMosaic.TcCoe Idealize.SL.Sem
open Cert.ReferenceIdeal.RefValue (Holds)

variable (m : (ℓ : Loc nD τ sig) → Buf (Elt Ideal) ℓ) (c : Dev nD) (a : Args)

variable {m c a} (H : KHolds m c a)

/-! ## The steps -/

open Cert.KernelIdeal.Value

/-- What the point leaves behind: its rows of the first result, and the sums over the chunks so far. -/
structure St (a : Args) (n : Fin 16) (s : Vec Ideal S128x1024 .bf16 × Vec Ideal S8x128x128 .f32 × Vec Ideal S128x128 .f32 × Vec Ideal S8x512 .f32 × Vec Ideal S128x512 .f32) : Prop where
  s0 : ∀ y, s.1 y = ((dUV a (row n (y 0)) (y 1) : ℝ) : EReal)
  s1 : ∀ y, s.2.1 y = ((pW a (n.val + 1) (y 0) (y 1) (y 2) : ℝ) : EReal)
  s3 : ∀ y, s.2.2.2.1 y = ((pVec a (n.val + 1) (y 0) (y 1) : ℝ) : EReal)
  s4 : ∀ y, s.2.2.2.2 y = ((pS a (n.val + 1) (y 0) (y 1) : ℝ) : EReal)
  s2 : n.val = 15 → ∀ y, s.2.2.1 y = (((if hh : (y 1).val < 8 then ∑ k, pS a 16 (y 0) (lane ⟨(y 1).val, hh⟩ k) else 0) : ℝ) : EReal)

theorem St.of {n : Fin 16} {d : Vec Ideal S128x1024 .bf16} {w : Vec Ideal S8x128x128 .f32} {b : Vec Ideal S128x128 .f32} {v : Vec Ideal S8x512 .f32} {s : Vec Ideal S128x512 .f32}
    (h0 : ∀ y, d y = ((dUV a (row n (y 0)) (y 1) : ℝ) : EReal)) (h1 : ∀ y, w y = ((pW a (n.val + 1) (y 0) (y 1) (y 2) : ℝ) : EReal))
    (h3 : ∀ y, v y = ((pVec a (n.val + 1) (y 0) (y 1) : ℝ) : EReal)) (h4 : ∀ y, s y = ((pS a (n.val + 1) (y 0) (y 1) : ℝ) : EReal))
    (h2 : n.val = 15 → ∀ y, b y = (((if hh : (y 1).val < 8 then ∑ k, pS a 16 (y 0) (lane ⟨(y 1).val, hh⟩ k) else 0) : ℝ) : EReal)) :
    St a n (d, w, b, v, s) := ⟨h0, h1, h3, h4, h2⟩

include H

theorem step_A (t : Fin cfg0.N) (acc) (h0 : t.val % 16 = 0) (h1 : ¬t.val % 16 = 15) : St a (chk t) (stAt0 m c t.val t.isLt acc) := by
  have hn : (chk t).val = 0 := by have := t.isLt; have e : cfg0.N = 16 := N_0; show t.val = 0; omega
  have B := blk_holds H t
  rw [stAt0_A m c t acc h0 h1, out0_A_8_eq, out0_A_9_eq, out0_A_11_eq, sout0_A_0_eq]
  refine St.of (fun y => ds_blk B y) (fun y => dw_new B _ hn y) (fun y => vec_new B _ hn y) (fun y => scr_blk B _ (pay6_at hn) y) (fun h => ?_)
  omega

theorem step_B (t : Fin cfg0.N) (acc) (n' : Fin 16) (hn' : n'.val + 1 = t.val) (S : St a n' acc) (h0 : ¬t.val % 16 = 0) (h1 : ¬t.val % 16 = 15) :
    St a (chk t) (stAt0 m c t.val t.isLt acc) := by
  have B := blk_holds H t
  have e : (chk t).val = n'.val + 1 := hn'.symm
  rw [stAt0_B m c t acc h0 h1, out0_B_8_eq, out0_B_9_eq, out0_B_11_eq, sout0_B_0_eq]
  refine St.of (fun y => ds_blk B y) (fun y => dw_old B _ ?_ y) (fun y => vec_old B _ _ _ ?_ y) (fun y => scr_blk B _ ?_ y) (fun h => ?_)
  · rw [e]; exact S.s1
  · rw [e]; exact S.s3
  · rw [e]; exact S.s4
  · have : t.val = 15 := h
    omega

theorem step_C (t : Fin cfg0.N) (acc) (n' : Fin 16) (hn' : n'.val + 1 = t.val) (S : St a n' acc) (h0 : ¬t.val % 16 = 0) (h1 : t.val % 16 = 15) :
    St a (chk t) (stAt0 m c t.val t.isLt acc) := by
  have B := blk_holds H t
  have e : (chk t).val = n'.val + 1 := hn'.symm
  rw [stAt0_C m c t acc h0 h1, out0_C_8_eq, out0_C_9_eq, out0_C_11_eq, out0_C_10_eq, sout0_C_0_eq]
  have hs : ∀ y, k0_pay13 (iblk m c 6 t) (iblk m c 0 t) acc.2.2.2.2 y = ((pS a ((chk t).val + 1) (y 0) (y 1) : ℝ) : EReal) :=
    fun y => scr_blk B _ (by rw [e]; exact S.s4) y
  refine St.of (fun y => ds_blk B y) (fun y => dw_old B _ ?_ y) (fun y => vec_old B _ _ _ ?_ y) hs (fun h y => ?_)
  · rw [e]; exact S.s1
  · rw [e]; exact S.s3
  · have h' : (chk t).val + 1 = 16 := by omega
    rw [h'] at hs
    exact pay3_at _ (pS a 16) hs y

theorem fold : ∀ (j : Nat) (h : 0 + j < cfg0.N), St a (chk ⟨j, by omega⟩) (Pipeline.accAt (fun n h => stAt0 m c n h junk0) (stAt0 m c) 0 j h)
  | 0, h => step_A H ⟨0, by omega⟩ junk0 rfl (by show ¬(0 % 16 = 15); decide)
  | j + 1, h => by
    have hN : cfg0.N = 16 := N_0
    have ih := fold j (Nat.lt_of_succ_lt h)
    have ej : 0 + (j + 1) = j + 1 := by omega
    have hj : j + 1 < cfg0.N := by omega
    have go : ∀ (k : Nat) (hk : k < cfg0.N), k = j + 1 → St a (chk ⟨j + 1, hj⟩)
        (stAt0 m c k hk (Pipeline.accAt (fun n h => stAt0 m c n h junk0) (stAt0 m c) 0 j (Nat.lt_of_succ_lt h))) := by
      rintro _ hk rfl
      by_cases h1 : (j + 1) % 16 = 15
      · exact step_C H ⟨j + 1, hj⟩ _ (chk ⟨j, by omega⟩) rfl ih (by dsimp only; omega) h1
      · exact step_B H ⟨j + 1, hj⟩ _ (chk ⟨j, by omega⟩) rfl ih (by dsimp only; omega) h1
    exact go _ h ej

/-! ## The results -/

omit H
theorem pW_all (a : Args) (h : Fin 8) (r c : Fin 128) : pW a 16 h r c = dW a h r c := by
  unfold pW dW
  simp only [part_all]
theorem pS_all (a : Args) (r h : Fin 128) : (if hh : h.val < 8 then ∑ k, pS a 16 r (lane ⟨h.val, hh⟩ k) else 0) = dBpad a r h := by
  unfold dBpad
  by_cases hh : h.val < 8
  · rw [dif_pos hh, dif_pos hh]
    unfold dB pS
    simp only [part_all]
    exact Finset.sum_comm
  · rw [dif_neg hh, dif_neg hh]
theorem pVec_all (a : Args) (q : Fin 8) (l : Fin 512) : pVec a 16 q l = dVec a q l := by
  unfold pVec dVec pG pH dG dH
  simp only [part_all, sum_rows]
include H

theorem res8 (i : S2048x1024.Idx) : G8 m c i = ((dUV a (i 0) (i 1) : ℝ) : EReal) := by
  have h0 : (i 0).val < 2048 := (i 0).isLt
  have h1 : (i 1).val < 1024 := (i 1).isLt
  have hN : cfg0.N = 16 := N_0
  have hp : pt8Of i < cfg0.N := by
    show 1 * ((i 0).val / 128 - 0) + 1 * ((i 1).val / 1024 - 0) < cfg0.N
    omega
  have hp' : pt8Of i = (i 0).val / 128 := by
    show 1 * ((i 0).val / 128 - 0) + 1 * ((i 1).val / 1024 - 0) = _
    omega
  unfold G8
  rw [dif_pos hp]
  refine ((fold H (pt8Of i) (by omega)).s0 (loc8Of i)).trans (congrArg _ (congrArg₂ (dUV a) (Fin.ext ?_) (Fin.ext ?_)))
  · show 128 * pt8Of i + (i 0).val % 128 = (i 0).val
    rw [hp']; omega
  · show (i 1).val % 1024 = (i 1).val
    omega

theorem last : St a (15 : Fin 16) (Pipeline.accAt (fun n h => stAt0 m c n h junk0) (stAt0 m c) 0 15 (lt_of_lt_of_eq (by decide) N_0.symm)) :=
  fold H 15 (lt_of_lt_of_eq (by decide) N_0.symm)

theorem res9 (i : S8x128x128.Idx) : G9 m c i = ((dW a (i 0) (i 1) (i 2) : ℝ) : EReal) := by
  rw [G9_last]
  exact ((last H).s1 i).trans (congrArg _ (pW_all a (i 0) (i 1) (i 2)))

theorem res10 (i : S128x128.Idx) : G10 m c i = ((dBpad a (i 0) (i 1) : ℝ) : EReal) := by
  rw [G10_last]
  exact ((last H).s2 rfl i).trans (congrArg _ (pS_all a (i 0) (i 1)))

theorem res11 (i : S8x512.Idx) : G11 m c i = ((dVec a (i 0) (i 1) : ℝ) : EReal) := by
  rw [G11_last]
  exact ((last H).s3 i).trans (congrArg _ (pVec_all a (i 0) (i 1)))

end Cert.KernelIdeal.Blk
end
-- ==== Proof.SguJoin.lean ====
module

public import proofs.«01_k».proof.Defs
public import proofs.«01_k».proof.Proof.SguPre
public import proofs.«01_k».proof.Proof.SguRef2
public import proofs.«01_k».proof.Proof.SguFold2
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read

@[expose] public section

noncomputable section

/-! The kernel's four results are the reference's. -/

namespace Cert.Sgu

open Idealize.ShloMosaic Idealize.SL.Sem

theorem join : Cert.algebraic_KernelIdeal_ReferenceIdeal_pre_finite := by
  intro m g m' g' hpre agree
  have hH : ∀ c, ∃ a, Cert.KernelIdeal.Blk.KHolds m c a := fun c => holds_of_finite _ _ _ _ _ _ (hpre c)
  refine ⟨Cert.KernelIdeal.Value.G8 m, Cert.KernelIdeal.Value.G9 m, Cert.KernelIdeal.Value.G10 m, Cert.KernelIdeal.Value.G11 m,
    Cert.KernelIdeal.Value.run m g, ?_⟩
  refine (θ_run Cert.ReferenceIdeal.defs _ _).mono (fun r h c => ?_) (Cert.ReferenceIdeal.Value.run (F := Ideal) m' g')
  obtain ⟨h0, h1, h2, h3, hargs⟩ := h c
  obtain ⟨e0, e1, e2, e3, e4, e5⟩ := agree c
  obtain ⟨a, H⟩ := hH c
  have K : Cert.ReferenceIdeal.RefValue.Holds (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) a := by
    rw [e0, e1, e2, e3, e4, e5]; exact H
  refine ⟨?_, ?_, ?_, ?_, hargs⟩
  · exact (h0.trans (Cert.ReferenceIdeal.Read.val_main_v98_eq m' c)).trans
      (funext fun i => (Cert.ReferenceIdeal.RefValue.ref0 K i).trans (Cert.KernelIdeal.Blk.res8 H i).symm)
  · exact (h1.trans (Cert.ReferenceIdeal.Read.val_main_v55_eq m' c)).trans
      (funext fun i => (Cert.ReferenceIdeal.RefValue.ref1 K i).trans (Cert.KernelIdeal.Blk.res9 H i).symm)
  · exact (h2.trans (Cert.ReferenceIdeal.Read.val_main_v92_eq _ _)).trans
      (funext fun i => (Cert.ReferenceIdeal.RefValue.ref2 K i).trans (Cert.KernelIdeal.Blk.res10 H i).symm)
  · exact (h3.trans (Cert.ReferenceIdeal.Read.val_main_v96_eq m' c)).trans
      (funext fun i => (Cert.ReferenceIdeal.RefValue.ref3 K i).trans (Cert.KernelIdeal.Blk.res11 H i).symm)

end Cert.Sgu
-- ==== Proof.DactKernel.lean ====
module

public import proofs.«01_k».proof.Proof.SguRef
public import proofs.«01_k».proof.Proof.Gen.DactIdeal.Value
public import proofs.«01_k».proof.Proof.Gen.DactRefIdeal.Read
public import Idealize.ShloMosaic.Lib.Pointwise.Contract

@[expose] public section

set_option maxRecDepth 16384

noncomputable section

/-! What the gradient of the squared ReLU leaves in its result array, index by index. -/

namespace Cert.DactIdeal.Blk

open Idealize.ShloMosaic hiding ix0 ix1 ix2 ix3 ix4 ix5 eq_ix2 eq_ix3
open Cert.DactIdeal Cert.DactIdeal.Gen Idealize.ShloMosaic.ValueIdx Idealize.ShloMosaic.TcCoe Idealize.SL.Sem
open Idealize.ShloMosaic.StableHlo

variable (m : (ℓ : Loc nD τ sig) → Buf (Elt Ideal) ℓ) (c : Dev nD)

/-- The value at one index: the product with the transposed weight, times twice the ReLU. -/
def val (up : S2048x8192.Idx → EReal) (w : S8192x2048.Idx → EReal) (ct : S2048x2048.Idx → EReal) (i : S2048x8192.Idx) : EReal :=
  (∑ k : Fin 2048, ct (ix2 (i 0 : Fin 2048) k) * w (ix2 (i 1 : Fin 8192) k)) * (Ideal.ofBits .f32 0x40000000#32 * max (up i) 0)

set_option maxHeartbeats 4000000 in
theorem V_ct : V m c main_v3 = (truncf .bf16 (m ((c : Thread nD τ).loc main_arg2)) bitsLt_bf16_f32 : FVec Ideal S2048x2048 .bf16) := by
  unfold V
  simp only [hostOps0, List.flatten_cons, List.flatten_nil, List.append_nil, List.cons_append, List.nil_append,
    TRef.binary, TRef.nullary, TRef.ternary, TRef.unary, TRef.toBuf, TRef.ofBuf, cast_eq]
  after_results_simp <;> rfl

set_option maxHeartbeats 4000000 in
theorem V_w : V m c main_v4 = (truncf .bf16 (m ((c : Thread nD τ).loc main_arg1)) bitsLt_bf16_f32 : FVec Ideal S8192x2048 .bf16) := by
  unfold V
  simp only [hostOps0, List.flatten_cons, List.flatten_nil, List.append_nil, List.cons_append, List.nil_append,
    TRef.binary, TRef.nullary, TRef.ternary, TRef.unary, TRef.toBuf, TRef.ofBuf, cast_eq]
  after_results_simp <;> rfl

set_option maxHeartbeats 4000000 in
theorem V_r : V m c main_v2 = (truncf .bf16 (maximumf (m ((c : Thread nD τ).loc main_arg0))
    (broadcastInDim S2048x8192 ![] bcast_S_S2048x8192 (constant S_ .f32 0x00000000#32))) bitsLt_bf16_f32 : FVec Ideal S2048x8192 .bf16) := by
  unfold V
  simp only [hostOps0, List.flatten_cons, List.flatten_nil, List.append_nil, List.cons_append, List.nil_append,
    TRef.binary, TRef.nullary, TRef.ternary, TRef.unary, TRef.toBuf, TRef.ofBuf, cast_eq]
  after_results_simp <;> rfl

/-- The three arguments, as arrays of numbers. -/
abbrev upA : S2048x8192.Idx → EReal := m ((c : Thread nD τ).loc main_arg0)
abbrev wA : S8192x2048.Idx → EReal := m ((c : Thread nD τ).loc main_arg1)
abbrev ctA : S2048x2048.Idx → EReal := m ((c : Thread nD τ).loc main_arg2)

theorem r_at (i : S2048x8192.Idx) : V m c main_v2 i = max (upA m c i) 0 := by
  rw [V_r]
  show max (upA m c i) ((broadcastInDim S2048x8192 ![] bcast_S_S2048x8192 (constant S_ .f32 0x00000000#32 : FVec Ideal S_ .f32) : FVec Ideal S2048x8192 .f32) i) = _
  rw [broadcastInDim_apply _ bcast_S_S2048x8192 _ i (fun a => a.elim0) (fun a => a.elim0)]
  show max _ (Ideal.ofBits .f32 0x00000000#32) = _
  rw [Cert.ReferenceIdeal.RefValue.lit_zero]; rfl

abbrev pt (t : Fin cfg0.N) : Fin 16 := ⟨t.val, lt_of_lt_of_eq t.isLt N_0⟩

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = 0 ∧ win0_2.index t (1 : Fin 2) = t.val := (by decide +kernel : ∀ t : Fin grid0.N, _)
theorem idx3 : ∀ t : Fin cfg0.N, win0_3.index t (0 : Fin 2) = 0 ∧ win0_3.index t (1 : Fin 2) = t.val := (by decide +kernel : ∀ t : Fin grid0.N, _)
theorem flush3 : ∀ t : Fin cfg0.N, (cfg0.win 3).flush t = true := (by decide +kernel : ∀ t : Fin grid0.N, _)

/-- The column of the wide array that column `j` of block `t` is. -/
abbrev col (t : Fin cfg0.N) (j : Fin 512) : Fin 8192 := ⟨t.val * 512 + j.val, by have := lt_of_lt_of_eq t.isLt N_0; have := j.isLt; omega⟩

theorem ct_blk (t : Fin cfg0.N) (i : S2048x2048.Idx) : iblk m c 0 t i = ctA m c (ix2 (i 0 : Fin 2048) (i 1 : Fin 2048)) := by
  unfold iblk
  rw [View.read_apply]
  show V m c main_v3 _ = _
  rw [V_ct]
  show ctA m c _ = _
  refine congrArg _ (funext fun a => Fin.ext ?_)
  match a with
  | ⟨0, _⟩ => show win0_0.index t (0 : Fin 2) * 2048 + 1 * (i 0).val = (i 0).val; rw [(idx0 t).1]; omega
  | ⟨1, _⟩ => show win0_0.index t (1 : Fin 2) * 2048 + 1 * (i 1).val = (i 1).val; rw [(idx0 t).2]; omega

theorem w_blk (t : Fin cfg0.N) (i : S512x2048.Idx) : iblk m c 1 t i = wA m c (ix2 (col t (i 0)) (i 1 : Fin 2048)) := by
  unfold iblk
  rw [View.read_apply]
  show V m c main_v4 _ = _
  rw [V_w]
  show wA m c _ = _
  refine congrArg _ (funext fun a => Fin.ext ?_)
  match a with
  | ⟨0, _⟩ => show win0_1.index t (0 : Fin 2) * 512 + 1 * (i 0).val = t.val * 512 + (i 0).val; rw [(idx1 t).1]; omega
  | ⟨1, _⟩ => show win0_1.index t (1 : Fin 2) * 2048 + 1 * (i 1).val = (i 1).val; rw [(idx1 t).2]; omega

theorem r_blk (t : Fin cfg0.N) (i : S2048x512.Idx) :
    iblk m c 2 t i = max (upA m c (ix2 (i 0 : Fin 2048) (col t (i 1)))) 0 := by
  unfold iblk
  rw [View.read_apply]
  show V m c main_v2 _ = _
  rw [r_at]
  refine congrArg (fun j => max (upA m c j) 0) (funext fun a => Fin.ext ?_)
  match a with
  | ⟨0, _⟩ => show win0_2.index t (0 : Fin 2) * 2048 + 1 * (i 0).val = (i 0).val; rw [(idx2 t).1]; omega
  | ⟨1, _⟩ => show win0_2.index t (1 : Fin 2) * 512 + 1 * (i 1).val = t.val * 512 + (i 1).val; rw [(idx2 t).2]; omega

theorem zz : (![0, 0] : Fin 2 → Nat) = fun _ => 0 := funext fun a => match a with | ⟨0, _⟩ => rfl | ⟨1, _⟩ => rfl

/-- The block one step writes. -/
theorem out_at (x0 : FVec Ideal S2048x2048 .bf16) (x1 : FVec Ideal S512x2048 .bf16) (x2 : FVec Ideal S2048x512 .bf16) (i : S2048x512.Idx) :
    out0_3 (F := Ideal) x0 x1 x2 i = (∑ k : Fin 2048, (x0 (ix2 (i 0 : Fin 2048) k) * x1 (ix2 (i 1 : Fin 512) k) : EReal)) * (Ideal.ofBits .f32 0x40000000#32 * x2 i) := by
  unfold out0_3
  rw [View.canon_unit_zero zz, View.ld_unit_zero zz, View.ld_unit_zero zz, View.ld_unit_zero zz]
  unfold k0_pay1
  rw [shapeCast_self, shapeCast_self, shapeCast_self]
  show (matmul dot_S2048x2048_S512x2048_S2048x512_1_1_0_0_n_n none x0 x1 (constant S2048x512 .f32 0x00000000#32) i : EReal)
    * (Ideal.ofBits .f32 0x40000000#32 * x2 i) = _
  refine congrArg (· * (Ideal.ofBits .f32 0x40000000#32 * x2 i)) ?_
  refine (Ideal.matmul_apply₁_of dot_S2048x2048_S512x2048_S2048x512_1_1_0_0_n_n (a := 1) rfl rfl x0 x1 _ i
    (fun k => ix2 (i 0 : Fin 2048) k) (fun k => ix2 (i 1 : Fin 512) k) (fun k => funext fun b => match b with | ⟨0, _⟩ => rfl | ⟨1, _⟩ => rfl)
    (fun k => funext fun b => match b with | ⟨0, _⟩ => rfl | ⟨1, _⟩ => rfl)).trans ?_
  show Ideal.ofBits .f32 0x00000000#32 + _ = _
  rw [Cert.ReferenceIdeal.RefValue.lit_zero, EReal.coe_zero, zero_add]; rfl

/-- The whole result array. -/
def G : Buf (Elt Ideal) ((c : Thread nD τ).loc main_v5) :=
  val (upA m c) (wA m c) (ctA m c)

theorem flushed_eq (t : Fin cfg0.N) : (dats m 0 c).flushed 3 t = ((cfg0.win 3).blk t).view.read (Elt Ideal) (G m c) := by
  rw [Cert.DactIdeal.Value.flushed3]
  funext y
  refine Eq.trans (b := val (upA m c) (wA m c) (ctA m c)
    (ix2 (y 0 : Fin 2048) (col t (y 1)))) ?_ ?_
  · show out0_3 (iblk m c 0 t) (iblk m c 1 t) (iblk m c 2 t) y = _
    rw [out_at, r_blk]
    unfold val
    refine congrArg (· * _) (Finset.sum_congr rfl fun k _ => ?_)
    rw [ct_blk, w_blk]
  · rw [View.read_apply]
    show G m c _ = G m c _
    refine congrArg _ (funext fun a => Fin.ext ?_)
    match a with
    | ⟨0, _⟩ => show (y 0).val = win0_3.index t (0 : Fin 2) * 2048 + 1 * (y 0).val; rw [(idx3 t).1]; omega
    | ⟨1, _⟩ => show t.val * 512 + (y 1).val = win0_3.index t (1 : Fin 2) * 512 + 1 * (y 1).val; rw [(idx3 t).2]; omega

theorem mem_blk (t : Fin cfg0.N) (i : S2048x8192.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v5).slice (win0_3.rect t)).set ↔ _
  rw [View.set_slice_whole, Rect.mem_set_unit]
  exact Iff.rfl

theorem covers (i : S2048x8192.Idx) : ∃ t : Fin cfg0.N, (cfg0.win 3).flush t = true ∧ i ∈ ((cfg0.win 3).blk t).view.set := by
  have h0 : (i 0).val < 2048 := (i 0).isLt
  have h1 : (i 1).val < 8192 := (i 1).isLt
  refine ⟨⟨(i 1).val / 512, lt_of_lt_of_eq (by omega) N_0.symm⟩, flush3 _, (mem_blk _ _).2 fun a => ?_⟩
  match a with
  | ⟨0, _⟩ =>
    show win0_3.index _ (0 : Fin 2) * 2048 ≤ (i 0).val ∧ (i 0).val < win0_3.index _ (0 : Fin 2) * 2048 + 2048
    rw [(idx3 _).1]; omega
  | ⟨1, _⟩ =>
    show win0_3.index _ (1 : Fin 2) * 512 ≤ (i 1).val ∧ (i 1).val < win0_3.index _ (1 : Fin 2) * 512 + 512
    rw [(idx3 _).2]
    show (i 1).val / 512 * 512 ≤ (i 1).val ∧ (i 1).val < (i 1).val / 512 * 512 + 512
    omega

theorem final : (dats m 0 c).arrAt 3 cfg0.N = G m c :=
  (dats m 0 c).arrAt_eq_of_cover 3 (G m c) (fun t _ => flushed_eq m c t) covers

end Cert.DactIdeal.Blk

/-! The reference's result at an index. -/

namespace Cert.DactRefIdeal.Read

open Idealize.ShloMosaic hiding ix0 ix1 ix2 ix3 ix4 ix5 eq_ix2 eq_ix3
open Idealize.ShloMosaic.ValueIdx

theorem ref_at (x0 : FVec Ideal S2048x8192 .f32) (x1 : FVec Ideal S8192x2048 .f32) (x2 : FVec Ideal S2048x2048 .f32) (i : S2048x8192.Idx) :
    val_main_v12 (F := Ideal) x0 x1 x2 i = Cert.DactIdeal.Blk.val x0 x1 x2 i := by
  have z : Ideal.ofBits .f32 0x00000000#32 = (0 : EReal) := by rw [Cert.ReferenceIdeal.RefValue.lit_zero]; rfl
  rw [val_main_v12_apply, val_main_v11_apply, val_main_v9_apply, val_main_v6_apply, val_main_v0_apply, val_main_v8_apply, val_main_v5_apply,
    val_main_v2_apply, val_main_call0_v0_apply, val_main_v10_apply, val_main_v1_apply]
  show Scalar.select (BitVec.ofBool (decide ((x0 i : EReal) > Ideal.ofBits .f32 0x00000000#32)))
    ((∑ k : Fin 2048, x2 (lidx_main_v8 i k) * x1 (ridx_main_v8 i k)) * (Ideal.ofBits .f32 0x40000000#32 * max (x0 i) (Ideal.ofBits .f32 0x00000000#32)))
    (Ideal.ofBits .f32 0x00000000#32) = _
  rw [z]
  have e : (∑ k : Fin 2048, x2 (lidx_main_v8 i k) * x1 (ridx_main_v8 i k))
      = ∑ k : Fin 2048, (x2 (ix2 (i 0 : Fin 2048) k) * x1 (ix2 (i 1 : Fin 8192) k) : EReal) :=
    Finset.sum_congr rfl fun k _ => by
      rw [show lidx_main_v8 i k = ix2 (i 0 : Fin 2048) k from funext fun a => match a with | ⟨0, _⟩ => rfl | ⟨1, _⟩ => rfl,
        show ridx_main_v8 i k = ix2 (i 1 : Fin 8192) k from funext fun a => match a with | ⟨0, _⟩ => rfl | ⟨1, _⟩ => rfl]; rfl
  rw [e]
  unfold Cert.DactIdeal.Blk.val
  by_cases h : (x0 i : EReal) > 0
  · rw [decide_eq_true h]; rfl
  · rw [decide_eq_false h, max_eq_right (not_lt.1 h), mul_zero, mul_zero]; rfl

end Cert.DactRefIdeal.Read
end
-- ==== Proof.DactJoin.lean ====
module

public import proofs.«01_k».proof.Defs
public import proofs.«01_k».proof.Proof.DactKernel
public import proofs.«01_k».proof.Proof.Gen.DactIdeal.Value
public import proofs.«01_k».proof.Proof.Gen.DactRefIdeal.Run
public import proofs.«01_k».proof.Proof.Gen.DactRefIdeal.Read

@[expose] public section

noncomputable section

/-! The gradient of the squared ReLU: the kernel's result is the reference's. -/

namespace Cert.Dact

open Idealize.ShloMosaic Idealize.SL.Sem

theorem join : Cert.algebraic_DactIdeal_DactRefIdeal := by
  intro m g m' g' hpre agree
  refine ⟨Cert.DactIdeal.Blk.G m, (θ_run Cert.DactIdeal.defs _ _).mono (fun r h c => ?_) (Cert.DactIdeal.Value.run_blocks (F := Ideal) m g), ?_⟩
  · obtain ⟨h0, hargs⟩ := h c
    exact ⟨h0.trans (Cert.DactIdeal.Blk.final m c), hargs⟩
  refine (θ_run Cert.DactRefIdeal.defs _ _).mono (fun r h c => ?_) (Cert.DactRefIdeal.Value.run (F := Ideal) m' g')
  obtain ⟨h0, hargs⟩ := h c
  obtain ⟨e0, e1, e2⟩ := agree c
  refine ⟨(h0.trans (Cert.DactRefIdeal.Read.val_main_v12_eq _ _ _)).trans (funext fun i => ?_), hargs⟩
  refine (Cert.DactRefIdeal.Read.ref_at _ _ _ i).trans ?_
  unfold Cert.DactIdeal.Blk.G
  rw [e0, e1, e2]

end Cert.Dact
end
-- ==== Proof.DnormMath.lean ====
module

public import proofs.«01_k».proof.Proof.SguMath

@[expose] public section

noncomputable section

/-! The gradient of the root-mean-square norm over rows of 2048 real numbers, and the two forms it is written in. -/

namespace Cert.Rms

open Cert.Sgu (eps eps_pos)

/-- A row's mean square, and the small constant. -/
def var (z : Fin 2048 → ℝ) : ℝ := (∑ l, z l * z l) / 2048 + eps
def rs (z : Fin 2048 → ℝ) : ℝ := (Real.sqrt (var z))⁻¹
def hat (z : Fin 2048 → ℝ) (l : Fin 2048) : ℝ := z l * rs z
/-- The gradient with respect to the row `z`, where `y` is the gradient with respect to the row that carries the gain `g`. -/
def back (z y g : Fin 2048 → ℝ) (l : Fin 2048) : ℝ := rs z * (y l * g l - hat z l * ((∑ k, y k * g k * hat z k) / 2048))

theorem var_pos (z : Fin 2048 → ℝ) : 0 < var z :=
  add_pos_of_nonneg_of_pos (div_nonneg (Finset.sum_nonneg fun _ _ => mul_self_nonneg _) (by norm_num)) eps_pos
theorem var_ne (z : Fin 2048 → ℝ) : var z ≠ 0 := (var_pos z).ne'
theorem rs_sq (z : Fin 2048 → ℝ) : rs z * rs z = (var z)⁻¹ := by
  unfold rs; rw [← mul_inv, Real.mul_self_sqrt (var_pos z).le]

/-- The derivative of the mean square's root, times the row, twice. -/
def side (z y g : Fin 2048 → ℝ) : ℝ := (∑ k, z k * (y k * g k)) * (-1 / 2 * (rs z / var z)) / 2048

theorem back_eq (d : ℝ) (z y g : Fin 2048 → ℝ) (l : Fin 2048) :
    d + y l * g l * rs z + z l * side z y g + side z y g * z l = d + back z y g l := by
  have hs : (∑ k, y k * g k * hat z k) = (∑ k, z k * (y k * g k)) * rs z := by
    rw [Finset.sum_mul]
    exact Finset.sum_congr rfl fun k _ => by unfold hat; ring
  have hv : rs z / var z = rs z * (rs z * rs z) := by rw [rs_sq, div_eq_mul_inv]
  unfold back side
  rw [hs, hv]
  unfold hat
  ring

end Cert.Rms
end
-- ==== Proof.DnormRef.lean ====
module

public import proofs.«01_k».proof.Proof.SguRef
public import proofs.«01_k».proof.Proof.DnormMath
public import proofs.«01_k».proof.Proof.Gen.DnormRefIdeal.Read
public import Idealize.ShloMosaic.Lib.KernelVsHost

@[expose] public section

set_option maxRecDepth 16384

noncomputable section

/-! The gradient through the MLP's first product and its norm: the reference's two results over the real numbers. -/

namespace Cert.Rms

/-- The arguments as real numbers. -/
structure Args where
  x : Fin 2048 → Fin 2048 → ℝ
  g : Fin 2048 → ℝ
  w : Fin 2048 → Fin 8192 → ℝ
  ct : Fin 2048 → Fin 8192 → ℝ
  dres : Fin 2048 → Fin 2048 → ℝ

/-- The gradient with respect to the normalised rows. -/
def dy (a : Args) (r l : Fin 2048) : ℝ := ∑ k, a.ct r k * a.w l k
def dx (a : Args) (r l : Fin 2048) : ℝ := a.dres r l + back (a.x r) (dy a r) a.g l
def dgRow (a : Args) (r l : Fin 2048) : ℝ := dy a r l * hat (a.x r) l
def dg (a : Args) (q : Fin 8) (l : Fin 2048) : ℝ := if q.val = 0 then ∑ r, dgRow a r l else 0

end Cert.Rms

namespace Cert.DnormRefIdeal.RefValue

open Idealize.ShloMosaic
open Cert.DnormRefIdeal Cert.DnormRefIdeal.Gen Cert.DnormRefIdeal.Read Idealize.ShloMosaic.ValueIdx Cert.Rms
open Cert.ReferenceIdeal.RefValue (coe_sum lit_zero lit_eps lit_half div_real rsqrt_pos)
open Cert.Sgu (eps)

theorem lit_2048 : Ideal.ofBits .f32 0x45000000#32 = ((2048 : ℝ) : EReal) := by
  simp [Ideal.ofBits, Ideal.ieee, -EReal.coe_mul]; norm_num

variable (x0 : (⟨S2048x2048, .f32⟩ : BufTy).Contents (Elt Ideal)) (x1 : (⟨S2048, .f32⟩ : BufTy).Contents (Elt Ideal))
  (x2 x3 : (⟨S2048x8192, .f32⟩ : BufTy).Contents (Elt Ideal)) (x4 : (⟨S2048x2048, .f32⟩ : BufTy).Contents (Elt Ideal)) (a : Args)

/-- The arrays are those of `a`. -/
structure Holds : Prop where
  h0 : ∀ i : S2048x2048.Idx, x0 i = ((a.x (i 0) (i 1) : ℝ) : EReal)
  h1 : ∀ i : S2048.Idx, x1 i = ((a.g (i 0) : ℝ) : EReal)
  h2 : ∀ i : S2048x8192.Idx, x2 i = ((a.w (i 0) (i 1) : ℝ) : EReal)
  h3 : ∀ i : S2048x8192.Idx, x3 i = ((a.ct (i 0) (i 1) : ℝ) : EReal)
  h4 : ∀ i : S2048x2048.Idx, x4 i = ((a.dres (i 0) (i 1) : ℝ) : EReal)

variable {x0 x1 x2 x3 x4 a}
variable (H : Holds x0 x1 x2 x3 x4 a)
include H

theorem r6 (i : S2048x1.Idx) : val_main_v6 (F := Ideal) x0 i = ((var (a.x (i 0)) : ℝ) : EReal) := by
  rw [val_main_v6_apply, val_main_v4_apply, val_main_v2_apply, val_main_v1_apply, val_main_v3_apply, val_main_v5_apply]
  simp only [val_main_v0_apply, H.h0, val_main_cst_apply, val_main_cst_0_apply, val_main_cst_1_apply, Ideal.ofBits_def, lit_zero, lit_2048, lit_eps,
    Ideal.hostDivf_def, Ideal.mulf_def, Ideal.addf_def, ← EReal.coe_mul, coe_sum]
  rw [← EReal.coe_add, div_real _ _ (by norm_num), ← EReal.coe_add, zero_add]
  rfl

theorem r7 (i : S2048x1.Idx) : val_main_v7 (F := Ideal) x0 i = ((rs (a.x (i 0)) : ℝ) : EReal) := by
  rw [val_main_v7_apply, r6 H]
  simp only [Ideal.hostUnary_rsqrt_def]
  exact rsqrt_pos _ (var_pos _)

theorem r10 (i : S2048x1.Idx) : val_main_v10 (F := Ideal) x0 i = ((-1 / 2 * (rs (a.x (i 0)) / var (a.x (i 0))) : ℝ) : EReal) := by
  rw [val_main_v10_apply, val_main_v8_apply, r7 H, r6 H, val_main_v9_apply]
  simp only [val_main_cst_2_apply, Ideal.ofBits_def, lit_half, Ideal.hostDivf_def, Ideal.mulf_def]
  rw [div_real _ _ (var_ne _), ← EReal.coe_mul]

theorem r12 (i : S2048x2048.Idx) : val_main_v12 (F := Ideal) x0 i = ((hat (a.x (i 0)) (i 1) : ℝ) : EReal) := by
  rw [val_main_v12_apply, val_main_v11_apply, r7 H, H.h0]
  simp only [Ideal.mulf_def, ← EReal.coe_mul]
  rfl

theorem r17 (i : S2048x2048.Idx) : val_main_v17 (F := Ideal) x2 x3 i = ((dy a (i 0) (i 1) : ℝ) : EReal) := by
  rw [val_main_v17_apply]
  simp only [H.h2, H.h3, ← EReal.coe_mul, coe_sum]
  rfl

theorem r19 (i : S2048.Idx) : val_main_v19 (F := Ideal) x0 x2 x3 i = ((∑ r, dgRow a r (i 0) : ℝ) : EReal) := by
  rw [val_main_v19_apply]
  simp only [val_main_v18_apply, r12 H, r17 H, val_main_cst_3_apply, Ideal.ofBits_def, lit_zero, Ideal.mulf_def, ← EReal.coe_mul, coe_sum]
  rw [← EReal.coe_add, zero_add]
  refine congrArg _ (Finset.sum_congr rfl fun r _ => mul_comm _ _)

theorem r20 (i : S1x2048.Idx) : val_main_v20 (F := Ideal) x0 x2 x3 i = ((∑ r, dgRow a r (i 1) : ℝ) : EReal) := by
  have e : (idx_main_v20 i) 0 = (i 1 : Fin 2048) := Fin.ext (by
    have h0 : (i 0).val < 1 := (i 0).isLt
    show (i 0).val * 2048 + (i 1).val = (i 1).val; omega)
  rw [val_main_v20_apply, r19 H]
  exact congrArg (fun l : Fin 2048 => ((∑ r, dgRow a r l : ℝ) : EReal)) e

theorem r39 (i : S1x2048.Idx) : val_main_v39 (F := Ideal) x0 x2 x3 i = ((∑ r, dgRow a r (i 1) : ℝ) : EReal) := by
  rw [val_main_v39_apply, val_main_v23_apply]
  simp only [r20 H, val_main_cst_4_apply, Ideal.ofBits_def, lit_zero, Fin.sum_univ_one]
  rw [← EReal.coe_add, zero_add]
  rfl

theorem r22 (i : S2048x2048.Idx) : val_main_v22 (F := Ideal) x1 x2 x3 i = ((dy a (i 0) (i 1) * a.g (i 1) : ℝ) : EReal) := by
  rw [val_main_v22_apply, val_main_v21_apply, val_main_v13_apply, r17 H, H.h1]
  simp only [Ideal.mulf_def, ← EReal.coe_mul]
  rfl

theorem r25 (i : S2048.Idx) : val_main_v25 (F := Ideal) x0 x1 x2 x3 i = ((∑ k, a.x (i 0) k * (dy a (i 0) k * a.g k) : ℝ) : EReal) := by
  rw [val_main_v25_apply]
  simp only [val_main_v24_apply, r22 H, H.h0, val_main_cst_5_apply, Ideal.ofBits_def, lit_zero, Ideal.mulf_def, ← EReal.coe_mul, coe_sum]
  rw [← EReal.coe_add, zero_add]
  rfl

theorem r26 (i : S2048x1.Idx) : val_main_v26 (F := Ideal) x0 x1 x2 x3 i = ((∑ k, a.x (i 0) k * (dy a (i 0) k * a.g k) : ℝ) : EReal) := by
  have e : (idx_main_v26 i) 0 = (i 0 : Fin 2048) := Fin.ext (by
    have h1 : (i 1).val < 1 := (i 1).isLt
    show (i 0).val * 1 + (i 1).val = (i 0).val; omega)
  rw [val_main_v26_apply, r25 H]
  exact congrArg (fun r : Fin 2048 => ((∑ k, a.x r k * (dy a r k * a.g k) : ℝ) : EReal)) e

theorem r34 (i : S2048x2048.Idx) : val_main_v34 (F := Ideal) x0 x1 x2 x3 i = ((side (a.x (i 0)) (dy a (i 0)) a.g : ℝ) : EReal) := by
  rw [val_main_v34_apply, val_main_v33_apply]
  simp only [Fin.sum_univ_one, val_main_v32_apply, val_main_v30_apply, val_main_v31_apply, r26 H, r10 H, val_main_cst_6_apply, val_main_cst_7_apply, Ideal.ofBits_def, lit_zero, lit_2048,
    Ideal.hostDivf_def, Ideal.mulf_def, ← EReal.coe_mul, coe_sum]
  rw [div_real _ _ (by norm_num), ← EReal.coe_add, zero_add]
  rfl

theorem ref0 (i : S2048x2048.Idx) : val_main_v38 (F := Ideal) x0 x1 x2 x3 x4 i = ((dx a (i 0) (i 1) : ℝ) : EReal) := by
  rw [val_main_v38_apply, val_main_v36_apply, val_main_v37_apply, val_main_v35_apply, val_main_v29_apply, val_main_v28_apply, val_main_v27_apply,
    r34 H, r22 H, r7 H, H.h0, H.h4]
  simp only [Ideal.mulf_def, Ideal.addf_def, ← EReal.coe_mul, ← EReal.coe_add]
  exact congrArg _ (back_eq _ _ _ _ _)

theorem ref1 (i : S8x2048.Idx) : val_main_v40 (F := Ideal) x0 x2 x3 i = ((dg a (i 0) (i 1) : ℝ) : EReal) := by
  unfold val_main_v40 dg
  by_cases h : (i 0).val = 0
  · rw [if_pos h]
    refine (pad_apply_of_inside _ _ _ _ _ _ _ _ (ix2 (0 : Fin 1) (i 1 : Fin 2048)) ?_).trans (r39 H _)
    intro b
    match b with
    | ⟨0, _⟩ => show (i 0).val = 0 + 0 * 1; omega
    | ⟨1, _⟩ => show (i 1).val = 0 + (i 1).val * 1; omega
  · rw [if_neg h]
    refine (pad_apply_of_not_inside _ _ _ _ _ _ _ _ (0 : Fin 2) ?_).trans ?_

    · rintro ⟨h1, h2, h3⟩
      have h3' : ((i 0).val - 0) / (0 + 1) < 1 := h3
      omega
    · rw [val_main_call0_v0_apply, val_main_c_apply]
      show (((0#32 : BitVec 32).toInt : ℝ) : EReal) = ((0 : ℝ) : EReal)
      simp

end Cert.DnormRefIdeal.RefValue
end
-- ==== Proof.DnormPre.lean ====
module

public import proofs.«01_k».proof.Proof.SguPre
public import proofs.«01_k».proof.Proof.DnormRef
public import proofs.«01_k».proof.Proof.Gen.Pre_finite_dnorm

@[expose] public section

noncomputable section

/-! Arguments that pass the comparison with infinity are the arrays of some `Args`. -/

namespace Cert.Rms

open Idealize.ShloMosaic Idealize.ShloMosaic.ValueIdx Cert.DnormRefIdeal.RefValue
open Cert.Sgu (real_of_vec)

theorem holds_of_reals (x0 : Cert.Pre_finite_dnorm.S2048x2048.Idx → EReal) (x1 : Cert.Pre_finite_dnorm.S2048.Idx → EReal)
    (x2 x3 : Cert.Pre_finite_dnorm.S2048x8192.Idx → EReal) (x4 : Cert.Pre_finite_dnorm.S2048x2048.Idx → EReal)
    (h0 : ∀ i, (((x0 i).toReal : ℝ) : EReal) = x0 i) (h1 : ∀ i, (((x1 i).toReal : ℝ) : EReal) = x1 i)
    (h2 : ∀ i, (((x2 i).toReal : ℝ) : EReal) = x2 i) (h3 : ∀ i, (((x3 i).toReal : ℝ) : EReal) = x3 i)
    (h4 : ∀ i, (((x4 i).toReal : ℝ) : EReal) = x4 i) : ∃ a : Args, Holds x0 x1 x2 x3 x4 a := by
  refine ⟨⟨fun p q => (x0 (ix2 p q)).toReal, fun p => (x1 (ix1 p)).toReal, fun p q => (x2 (ix2 p q)).toReal, fun p q => (x3 (ix2 p q)).toReal,
    fun p q => (x4 (ix2 p q)).toReal⟩, ?_, ?_, ?_, ?_, ?_⟩
  · intro i; obtain ⟨p, q, rfl⟩ : ∃ p q, i = ix2 p q := ⟨i 0, i 1, eq_ix2 i⟩; exact (h0 _).symm
  · intro i; obtain ⟨p, rfl⟩ : ∃ p, i = ix1 p := ⟨i 0, eq_ix1 i⟩; exact (h1 _).symm
  · intro i; obtain ⟨p, q, rfl⟩ : ∃ p q, i = ix2 p q := ⟨i 0, i 1, eq_ix2 i⟩; exact (h2 _).symm
  · intro i; obtain ⟨p, q, rfl⟩ : ∃ p q, i = ix2 p q := ⟨i 0, i 1, eq_ix2 i⟩; exact (h3 _).symm
  · intro i; obtain ⟨p, q, rfl⟩ : ∃ p q, i = ix2 p q := ⟨i 0, i 1, eq_ix2 i⟩; exact (h4 _).symm

theorem holds_of_finite (x0 : FVec Ideal Cert.Pre_finite_dnorm.S2048x2048 .f32) (x1 : FVec Ideal Cert.Pre_finite_dnorm.S2048 .f32)
    (x2 x3 : FVec Ideal Cert.Pre_finite_dnorm.S2048x8192 .f32) (x4 : FVec Ideal Cert.Pre_finite_dnorm.S2048x2048 .f32)
    (h : (Cert.Pre_finite_dnorm.fn (F := Ideal) x0 x1 x2 x3 x4).1 = (fun _ => 1#1)
      ∧ (Cert.Pre_finite_dnorm.fn (F := Ideal) x0 x1 x2 x3 x4).2.1 = (fun _ => 1#1)
      ∧ (Cert.Pre_finite_dnorm.fn (F := Ideal) x0 x1 x2 x3 x4).2.2.1 = (fun _ => 1#1)
      ∧ (Cert.Pre_finite_dnorm.fn (F := Ideal) x0 x1 x2 x3 x4).2.2.2.1 = (fun _ => 1#1)
      ∧ (Cert.Pre_finite_dnorm.fn (F := Ideal) x0 x1 x2 x3 x4).2.2.2.2 = (fun _ => 1#1)) :
    ∃ a : Args, Holds x0 x1 x2 x3 x4 a := by
  unfold Cert.Pre_finite_dnorm.fn at h
  obtain ⟨h0, h1, h2, h3, h4⟩ := h
  exact holds_of_reals x0 x1 x2 x3 x4 (real_of_vec _ x0 h0) (real_of_vec _ x1 h1) (real_of_vec _ x2 h2) (real_of_vec _ x3 h3) (real_of_vec _ x4 h4)

end Cert.Rms
end
-- ==== Proof.Sums.lean ====
module

public import Mathlib.Algebra.BigOperators.Fin

@[expose] public section

noncomputable section

/-! A sum taken block by block. -/

namespace Cert.Sums

variable {M : Type} [AddCommMonoid M]

/-- A function of the first `N` numbers, continued by zero. -/
def ext (N : ℕ) (f : Fin N → M) (n : ℕ) : M := if h : n < N then f ⟨n, h⟩ else 0

theorem ext_of_lt (N : ℕ) (f : Fin N → M) (n : ℕ) (h : n < N) : ext N f n = f ⟨n, h⟩ := dif_pos h

theorem sum_ext (N : ℕ) (f : Fin N → M) : ∑ n ∈ Finset.range N, ext N f n = ∑ k, f k := by
  rw [Finset.sum_range]
  exact Finset.sum_congr rfl fun k _ => ext_of_lt N f k.val k.isLt

theorem range_mul (g : ℕ → M) (b : ℕ) : ∀ n : ℕ, ∑ k ∈ Finset.range (n * b), g k = ∑ s ∈ Finset.range n, ∑ k : Fin b, g (s * b + k.val)
  | 0 => by rw [Nat.zero_mul]; rfl
  | n + 1 => by
    rw [Nat.succ_mul, Finset.sum_range_add, range_mul g b n, Finset.sum_range_succ, Finset.sum_range (fun x => g (n * b + x))]

/-- A sum over `n` blocks of `b`. -/
theorem blocks (n b N : ℕ) (h : N = n * b) (f : Fin N → M) :
    ∑ k, f k = ∑ s ∈ Finset.range n, ∑ k : Fin b, ext N f (s * b + k.val) := by
  subst h
  rw [← sum_ext, ← range_mul]

end Cert.Sums
end
-- ==== Proof.DnormPay.lean ====
module

public import proofs.«01_k».proof.Proof.DnormRef
public import proofs.«01_k».proof.Proof.SguPay
public import proofs.«01_k».proof.Proof.Sums
public import proofs.«01_k».proof.Proof.Gen.DnormIdeal.Value
public import Idealize.ShloMosaic.Lib.Pointwise.Contract
public import Idealize.ShloMosaic.Lib.Tactic
public import Idealize.ShloMosaic.Lib.WritesUnit

@[expose] public section

set_option maxRecDepth 16384

noncomputable section

/-! The gradient through the MLP's first product and its norm: what one step of the kernel computes, index by index. -/

namespace Cert.DnormIdeal.Blk

open Idealize.ShloMosaic hiding ix0 ix1 ix2 ix3 ix4 ix5 eq_ix2 eq_ix3
open Cert.DnormIdeal Cert.DnormIdeal.Gen Idealize.ShloMosaic.ValueIdx Cert.Rms
open Cert.ReferenceIdeal.RefValue (coe_sum lit_zero lit_eps div_real rsqrt_pos)
open Cert.DnormRefIdeal.RefValue (lit_2048)

/-- The sum of a row, kept as a column. -/
theorem rowSum (x : FVec Ideal S512x2048 .f32) (f : Fin 512 → Fin 2048 → ℝ) (hx : ∀ i, x i = ((f (i 0) (i 1) : ℝ) : EReal)) (i : S512x1.Idx) :
    shapeCast S512x1 (multiReduction .add [1] S512 x 0x00000000#32 reduces_S512x2048_S512 (.inl rfl) rfl) shapeCasts_S512_S512x1 i
      = ((∑ k, f (i 0) k : ℝ) : EReal) := by
  have hk : (S512.rowMajor (ix1 (i 0 : Fin 512))).val = (S512x1.rowMajor i).val := by
    have h1 : (i 1).val = 0 := by have : (i 1).val < 1 := (i 1).isLt; omega
    rw [Shape.rowMajor_val_one, Shape.rowMajor_val_two, h1]
    show (i 0).val = (i 0).val * 1 + 0; omega
  refine (shapeCast_apply _ _ i (ix1 (i 0 : Fin 512)) hk).trans ((Ideal.multiReduction_add_single _ _ _ _ _ _).trans (Eq.trans ?_ (coe_sum _ _)))
  refine Finset.sum_congr rfl fun k _ => ?_
  rw [hx]; rfl

/-- The sum of a column, kept as a row. -/
theorem colSum (x : FVec Ideal S512x2048 .f32) (f : Fin 512 → Fin 2048 → ℝ) (hx : ∀ i, x i = ((f (i 0) (i 1) : ℝ) : EReal)) (i : S1x2048.Idx) :
    shapeCast S1x2048 (multiReduction .add [0] S2048 x 0x00000000#32 reduces_S512x2048_S2048 (.inl rfl) rfl) shapeCasts_S2048_S1x2048 i
      = ((∑ k, f k (i 1) : ℝ) : EReal) := by
  have hk : (S2048.rowMajor (ix1 (i 1 : Fin 2048))).val = (S1x2048.rowMajor i).val := by
    have h1 : (i 0).val = 0 := by have : (i 0).val < 1 := (i 0).isLt; omega
    rw [Shape.rowMajor_val_one, Shape.rowMajor_val_two, h1]
    show (i 1).val = 0 * 2048 + (i 1).val; omega
  refine (shapeCast_apply _ _ i (ix1 (i 1 : Fin 2048)) hk).trans ((Ideal.multiReduction_add_single _ _ _ _ _ _).trans (Eq.trans ?_ (coe_sum _ _)))
  refine Finset.sum_congr rfl fun k _ => ?_
  rw [hx]; rfl

theorem bcCol {α : Type} (x : S512x1.Idx → α) (i : S512x2048.Idx) :
    broadcastTo S512x2048 x broadcasts_S512x1_S512x2048 i = x (ix2 (i 0 : Fin 512) (0 : Fin 1)) :=
  broadcastTo_apply x _ i _ (fun a => match a with | ⟨0, _⟩ => rfl | ⟨1, _⟩ => rfl)
theorem bcRow {α : Type} (x : S1x2048.Idx → α) (i : S512x2048.Idx) :
    broadcastTo S512x2048 x broadcasts_S1x2048_S512x2048 i = x (ix2 (0 : Fin 1) (i 1 : Fin 2048)) :=
  broadcastTo_apply x _ i _ (fun a => match a with | ⟨0, _⟩ => rfl | ⟨1, _⟩ => rfl)

theorem castW {α : Type} (x : S1x2048x1024.Idx → α) (i : S2048x1024.Idx) :
    shapeCast S2048x1024 x shapeCasts_S1x2048x1024_S2048x1024 i = x (ix3 (0 : Fin 1) (i 0 : Fin 2048) (i 1 : Fin 1024)) := by
  refine shapeCast_apply x _ i _ ?_
  rw [Shape.rowMajor_val_three, Shape.rowMajor_val_two]
  show (0 * 2048 + (i 0).val) * 1024 + (i 1).val = (i 0).val * 1024 + (i 1).val; omega

/-- One step adds a block of the product. -/
theorem step_at (acc : FVec Ideal S512x2048 .f32) (x0 : FVec Ideal S512x1024 .bf16) (x1 : FVec Ideal S1x2048x1024 .bf16) (i : S512x2048.Idx) :
    k0_pay3 (F := Ideal) acc x0 x1 i
      = acc i + ∑ k : Fin 1024, (x0 (ix2 (i 0 : Fin 512) k) * x1 (ix3 (0 : Fin 1) (i 1 : Fin 2048) k) : EReal) := by
  unfold k0_pay3
  rw [shapeCast_self, shapeCast_self]
  show (acc i + matmul dot_S512x1024_S2048x1024_S512x2048_1_1_0_0_n_n none x0 (shapeCast S2048x1024 x1 shapeCasts_S1x2048x1024_S2048x1024)
    (constant S512x2048 .f32 0x00000000#32) i : EReal) = _
  refine congrArg (acc i + ·) ?_
  refine (Ideal.matmul_apply₁_of dot_S512x1024_S2048x1024_S512x2048_1_1_0_0_n_n (a := 1) rfl rfl x0 _ _ i
    (fun k => ix2 (i 0 : Fin 512) k) (fun k => ix2 (i 1 : Fin 2048) k) (fun k => funext fun b => match b with | ⟨0, _⟩ => rfl | ⟨1, _⟩ => rfl)
    (fun k => funext fun b => match b with | ⟨0, _⟩ => rfl | ⟨1, _⟩ => rfl)).trans ?_
  show Ideal.ofBits .f32 0x00000000#32 + _ = _
  rw [lit_zero, EReal.coe_zero, zero_add]
  refine Finset.sum_congr rfl fun k _ => ?_
  rw [castW]

section
variable (z d q : Fin 512 → Fin 2048 → ℝ) (g p : Fin 2048 → ℝ)
  (x acc res : FVec Ideal S512x2048 .f32) (gv pv : FVec Ideal S1x2048 .f32)
  (hx : ∀ i, x i = ((z (i 0) (i 1) : ℝ) : EReal)) (ha : ∀ i, acc i = ((d (i 0) (i 1) : ℝ) : EReal))
  (hr : ∀ i, res i = ((q (i 0) (i 1) : ℝ) : EReal)) (hg : ∀ i, gv i = ((g (i 1) : ℝ) : EReal)) (hp : ∀ i, pv i = ((p (i 1) : ℝ) : EReal))

include hx in
theorem pay4_at (i : S512x1.Idx) : k0_pay4 (F := Ideal) x i = ((rs (z (i 0)) : ℝ) : EReal) := by
  unfold k0_pay4; dsimp only
  refine (congrArg Ideal.rsqrt ?_).trans (rsqrt_pos _ (var_pos _))
  rw [addf_apply, divf_apply, rowSum _ (fun r l => z r l * z r l) (fun i => by rw [mulf_apply, hx, EReal.coe_mul])]
  show Ideal.div _ (Ideal.ofBits .f32 0x45000000#32) + Ideal.ofBits .f32 0x358637BD#32 = _
  rw [lit_2048, lit_eps, div_real _ _ (by norm_num), ← EReal.coe_add]; rfl

include hx in
theorem pay5_at (i : S512x2048.Idx) : k0_pay5 (F := Ideal) x i = ((hat (z (i 0)) (i 1) : ℝ) : EReal) := by
  unfold k0_pay5
  show mulf (F := Ideal) _ _ i = _
  rw [mulf_apply, bcCol, pay4_at z x hx, hx, ← EReal.coe_mul]; rfl

include hx ha hr hg in
theorem pay6_at (i : S512x2048.Idx) : k0_pay6 (F := Ideal) acc x gv res i = ((q (i 0) (i 1) + back (z (i 0)) (d (i 0)) g (i 1) : ℝ) : EReal) := by
  have h36 : ∀ i, mulf (F := Ideal) acc (broadcastTo S512x2048 (shapeCast S1x2048 gv shapeCasts_S1x2048_S1x2048) broadcasts_S1x2048_S512x2048) i
      = ((d (i 0) (i 1) * g (i 1) : ℝ) : EReal) := fun i => by
    rw [shapeCast_self, mulf_apply, bcRow, ha, hg, EReal.coe_mul]
  unfold k0_pay6; dsimp only
  rw [addf_apply, mulf_apply, subf_apply, h36, mulf_apply, bcCol, bcCol, divf_apply, hr, pay4_at z x hx, pay5_at z x hx,
    rowSum _ (fun r l => d r l * g l * hat (z r) l) (fun i => by rw [mulf_apply, h36, pay5_at z x hx, ← EReal.coe_mul])]
  show _ + _ * (_ - _ * Ideal.div _ (Ideal.ofBits .f32 0x45000000#32)) = _
  rw [lit_2048, div_real _ _ (by norm_num), ← EReal.coe_mul, ← EReal.coe_sub, ← EReal.coe_mul, ← EReal.coe_add]; rfl

include hx ha hp in
theorem pay7_at (i : S1x2048.Idx) : k0_pay7 (F := Ideal) acc x pv i = ((p (i 1) + ∑ r, d r (i 1) * hat (z r) (i 1) : ℝ) : EReal) := by
  unfold k0_pay7; dsimp only
  rw [shapeCast_self, addf_apply, hp, colSum _ (fun r l => d r l * hat (z r) l) (fun i => by rw [mulf_apply, ha, pay5_at z x hx, EReal.coe_mul]),
    ← EReal.coe_add]
end

end Cert.DnormIdeal.Blk
end
-- ==== Proof.DnormStep.lean ====
module

public import proofs.«01_k».proof.Proof.DnormPay
public import Idealize.ShloMosaic.Lib.Pointwise.Contract
public import Idealize.ShloMosaic.Lib.Tactic
public import Idealize.ShloMosaic.Lib.WritesUnit

@[expose] public section

set_option maxRecDepth 16384

noncomputable section

/-! The gradient through the MLP's first product and its norm: what each kind of grid point leaves behind. -/

namespace Cert.DnormIdeal.Blk

open Idealize.ShloMosaic hiding ix0 ix1 ix2 ix3 ix4 ix5 eq_ix2 eq_ix3
open Cert.DnormIdeal Cert.DnormIdeal.Gen Idealize.ShloMosaic.ValueIdx Idealize.ShloMosaic.TcCoe Idealize.SL.Sem
open Idealize.ShloMosaic.StableHlo

theorem zz : (![0, 0] : Fin 2 → Nat) = fun _ => 0 := funext fun a => match a with | ⟨0, _⟩ => rfl | ⟨1, _⟩ => rfl
theorem zzz : (![0, 0, 0] : Fin 3 → Nat) = fun _ => 0 := funext fun a => match a with | ⟨0, _⟩ => rfl | ⟨1, _⟩ => rfl | ⟨2, _⟩ => rfl

/-- The first row of the gain gradient's block. -/
abbrev row0 : Rect S8x2048 := Rect.unit ![0, 0] ![1, 2048] inb_S8x2048_S1x2048_0_0

section
variable (c : Dev nD) (i : grid0.Coords)
  (a2 : Memref sig .tc .vmem S512x1024 .bf16) (h2 : a2.IsWhole)
  (a3 : Memref sig .tc .vmem S1x2048x1024 .bf16) (h3 : a3.IsWhole)
  (a4 : Memref sig .tc .vmem S512x2048 .f32) (h4 : a4.IsWhole)
  (a5 : Memref sig .tc .vmem S1x2048 .f32) (h5 : a5.IsWhole)
  (a6 : Memref sig .tc .vmem S512x2048 .f32) (h6 : a6.IsWhole)
  (a7 : Memref sig .tc .vmem S512x2048 .f32) (h7 : a7.IsWhole)
  (a8 : Memref sig .tc .vmem S8x2048 .f32) (h8 : a8.IsWhole)
  (a9 : Memref sig .tc .vmem S512x2048 .f32) (h9 : a9.IsWhole)
  (x0 : Vec Ideal S512x1024 .bf16) (x1 : Vec Ideal S1x2048x1024 .bf16) (x2 : Vec Ideal S512x2048 .f32) (x3 : Vec Ideal S1x2048 .f32)
  (x4 xs0 : Vec Ideal S512x2048 .f32) (xo6 : Vec Ideal S8x2048 .f32)

theorem scratch_A (hc0 : cond0_0 i) (hc1 : cond0_1 i) (hc2 : ¬cond0_2 i) :
    sout0_A_0 c i a2 h2 a3 h3 a4 h4 a5 h5 a6 h6 a7 h7 a8 h8 a9 h9 hc0 hc1 hc2 x0 x1 x2 x3 x4 = k0_pay3 (k0_pay2 (F := Ideal)) x0 x1 := by
  unfold sout0_A_0
  rw [View.read_writes_eq_canon _ _ _ (scover0_A_0 c i a2 h2 a3 h3 a4 h4 a5 h5 a6 h6 a7 h7 a8 h8 a9 h9 hc0 hc1 hc2 x0 x1 x2 x3 x4)]
  unfold kernelRun0_A
  dsimp only
  sl_unfold_words
  rw [View.canon_cons_unit_zero zz, View.readCov_unit_zero _ zz]
  simp only [View.readAt_eq_ld, h2.read_unread, h3.read_unread, h4.read_unread, h5.read_unread, h6.read_unread, h7.read_unread, h8.read_unread, h9.read_unread,
    View.ld_unit_zero (S := S512x1024) zz, View.ld_unit_zero (S := S1x2048x1024) zzz, View.ld_unit_zero (S := S512x2048) zz, View.ld_unit_zero (S := S1x2048) zz]

theorem scratch_B (hc0 : ¬cond0_0 i) (hc1 : ¬cond0_1 i) (hc2 : ¬cond0_2 i) :
    sout0_B_0 c i a2 h2 a3 h3 a4 h4 a5 h5 a6 h6 a7 h7 a8 h8 a9 h9 hc0 hc1 hc2 x0 x1 x2 x3 x4 xs0 = k0_pay3 xs0 x0 x1 := by
  unfold sout0_B_0
  rw [View.read_writes_eq_canon _ _ _ (scover0_B_0 c i a2 h2 a3 h3 a4 h4 a5 h5 a6 h6 a7 h7 a8 h8 a9 h9 hc0 hc1 hc2 x0 x1 x2 x3 x4 xs0)]
  unfold kernelRun0_B
  dsimp only
  sl_unfold_words
  rw [View.canon_unit_zero zz]
  simp only [View.readAt_eq_ld, h2.read_unread, h3.read_unread, h4.read_unread, h5.read_unread, h6.read_unread, h7.read_unread, h8.read_unread, h9.read_unread,
    View.ld_unit_zero (S := S512x1024) zz, View.ld_unit_zero (S := S1x2048x1024) zzz, View.ld_unit_zero (S := S512x2048) zz, View.ld_unit_zero (S := S1x2048) zz]

theorem scratch_C (hc0 : ¬cond0_0 i) (hc1 : ¬cond0_1 i) (hc2 : cond0_2 i) :
    sout0_C_0 c i a2 h2 a3 h3 a4 h4 a5 h5 a6 h6 a7 h7 a8 h8 a9 h9 hc0 hc1 hc2 x0 x1 x2 x3 x4 xo6 xs0 = k0_pay3 xs0 x0 x1 := by
  unfold sout0_C_0
  rw [View.read_writes_eq_canon _ _ _ (scover0_C_0 c i a2 h2 a3 h3 a4 h4 a5 h5 a6 h6 a7 h7 a8 h8 a9 h9 hc0 hc1 hc2 x0 x1 x2 x3 x4 xo6 xs0)]
  unfold kernelRun0_C
  dsimp only
  sl_unfold_words
  rw [View.canon_unit_zero zz]
  simp only [View.readAt_eq_ld, h2.read_unread, h3.read_unread, h4.read_unread, h5.read_unread, h6.read_unread, h7.read_unread, h8.read_unread, h9.read_unread,
    View.ld_unit_zero (S := S512x1024) zz, View.ld_unit_zero (S := S1x2048x1024) zzz, View.ld_unit_zero (S := S512x2048) zz, View.ld_unit_zero (S := S1x2048) zz]

theorem scratch_D (hc0 : ¬cond0_0 i) (hc1 : cond0_1 i) (hc2 : ¬cond0_2 i) :
    sout0_D_0 c i a2 h2 a3 h3 a4 h4 a5 h5 a6 h6 a7 h7 a8 h8 a9 h9 hc0 hc1 hc2 x0 x1 x2 x3 x4 = k0_pay3 (k0_pay2 (F := Ideal)) x0 x1 := by
  unfold sout0_D_0
  rw [View.read_writes_eq_canon _ _ _ (scover0_D_0 c i a2 h2 a3 h3 a4 h4 a5 h5 a6 h6 a7 h7 a8 h8 a9 h9 hc0 hc1 hc2 x0 x1 x2 x3 x4)]
  unfold kernelRun0_D
  dsimp only
  sl_unfold_words
  rw [View.canon_cons_unit_zero zz, View.readCov_unit_zero _ zz]
  simp only [View.readAt_eq_ld, h2.read_unread, h3.read_unread, h4.read_unread, h5.read_unread, h6.read_unread, h7.read_unread, h8.read_unread, h9.read_unread,
    View.ld_unit_zero (S := S512x1024) zz, View.ld_unit_zero (S := S1x2048x1024) zzz, View.ld_unit_zero (S := S512x2048) zz, View.ld_unit_zero (S := S1x2048) zz]

theorem gain_A (hc0 : cond0_0 i) (hc1 : cond0_1 i) (hc2 : ¬cond0_2 i) :
    out0_A_6 c i a2 h2 a3 h3 a4 h4 a5 h5 a6 h6 a7 h7 a8 h8 a9 h9 hc0 hc1 hc2 x0 x1 x2 x3 x4 = k0_pay1 (F := Ideal) := by
  unfold out0_A_6
  rw [View.read_writes_eq_canon _ _ _ (cover0_A_6 c i a2 h2 a3 h3 a4 h4 a5 h5 a6 h6 a7 h7 a8 h8 a9 h9 hc0 hc1 hc2 x0 x1 x2 x3 x4)]
  unfold kernelRun0_A
  dsimp only
  sl_unfold_words
  rw [View.canon_unit_zero zz]

theorem out_C (hc0 : ¬cond0_0 i) (hc1 : ¬cond0_1 i) (hc2 : cond0_2 i) :
    out0_C_5 c i a2 h2 a3 h3 a4 h4 a5 h5 a6 h6 a7 h7 a8 h8 a9 h9 hc0 hc1 hc2 x0 x1 x2 x3 x4 xo6 xs0 = k0_pay6 (k0_pay3 xs0 x0 x1) x2 x3 x4 := by
  unfold out0_C_5
  rw [View.read_writes_eq_canon _ _ _ (cover0_C_5 c i a2 h2 a3 h3 a4 h4 a5 h5 a6 h6 a7 h7 a8 h8 a9 h9 hc0 hc1 hc2 x0 x1 x2 x3 x4 xo6 xs0)]
  unfold kernelRun0_C
  dsimp only
  sl_unfold_words
  rw [View.canon_unit_zero zz, View.readCov_unit_zero _ zz]
  simp only [View.readAt_eq_ld, h2.read_unread, h3.read_unread, h4.read_unread, h5.read_unread, h6.read_unread, h7.read_unread, h8.read_unread, h9.read_unread,
    View.ld_unit_zero (S := S512x1024) zz, View.ld_unit_zero (S := S1x2048x1024) zzz, View.ld_unit_zero (S := S512x2048) zz, View.ld_unit_zero (S := S1x2048) zz]

theorem gain_C (hc0 : ¬cond0_0 i) (hc1 : ¬cond0_1 i) (hc2 : cond0_2 i) :
    out0_C_6 c i a2 h2 a3 h3 a4 h4 a5 h5 a6 h6 a7 h7 a8 h8 a9 h9 hc0 hc1 hc2 x0 x1 x2 x3 x4 xo6 xs0
      = a8.view.read (Elt Ideal) (a8.view.writes (Elt Ideal) (h8.unread xo6) [⟨row0, k0_pay7 (k0_pay3 xs0 x0 x1) x2 (View.ld xo6 row0)⟩]) := by
  unfold out0_C_6
  unfold kernelRun0_C
  dsimp only
  sl_unfold_words
  rw [View.readCov_unit_zero _ zz]
  simp only [View.readAt_eq_ld, h2.read_unread, h3.read_unread, h4.read_unread, h5.read_unread, h6.read_unread, h7.read_unread, h8.read_unread, h9.read_unread,
    View.ld_unit_zero (S := S512x1024) zz, View.ld_unit_zero (S := S1x2048x1024) zzz, View.ld_unit_zero (S := S512x2048) zz, View.ld_unit_zero (S := S1x2048) zz]
end

theorem emb_row0 (y : S8x2048.Idx) (e : (y 0).val = 0) : y = row0.emb (ix2 (0 : Fin 1) (y 1 : Fin 2048)) := by
  funext b; apply Fin.ext
  match b with
  | ⟨0, _⟩ => show (y 0).val = 0 + 1 * 0; omega
  | ⟨1, _⟩ => show (y 1).val = 0 + 1 * (y 1).val; omega

/-- A store into the first row: that row is the stored one, the others are as before. -/
theorem row_store (w : Memref sig .tc .vmem S8x2048 .f32) (hw : w.IsWhole) (x : Vec Ideal S8x2048 .f32) (v : Vec Ideal S1x2048 .f32) (y : S8x2048.Idx) :
    w.view.read (Elt Ideal) (w.view.writes (Elt Ideal) (hw.unread x) [⟨row0, v⟩]) y
      = if (y 0).val = 0 then v (ix2 (0 : Fin 1) (y 1 : Fin 2048)) else x y := by
  by_cases e0 : (y 0).val = 0
  · rw [if_pos e0]
    refine View.read_writes_cons_unit_of_mem w.view _ inb_S8x2048_S1x2048_0_0 _ _ y (ix2 (0 : Fin 1) (y 1 : Fin 2048)) rfl (fun b => ?_)
    match b with
    | ⟨0, _⟩ => show (y 0).val = 0 + 0; omega
    | ⟨1, _⟩ => show (y 1).val = 0 + (y 1).val; omega
  · rw [if_neg e0]
    refine (View.read_writes_cons_unit_of_not_mem w.view _ inb_S8x2048_S1x2048_0_0 _ _ y rfl (0 : Fin 2) ?_).trans ?_
    · show (y 0).val < 0 ∨ 0 + 1 ≤ (y 0).val; omega
    rw [View.writes_nil, hw.read_unread]

/-- The first row read. -/
theorem row_load (x : Vec Ideal S8x2048 .f32) (i : S1x2048.Idx) : View.ld x row0 i = x (ix2 (0 : Fin 8) (i 1 : Fin 2048)) := by
  refine Eq.trans ?_ (congrArg x (emb_row0 (ix2 (0 : Fin 8) (i 1 : Fin 2048)) rfl).symm)
  refine congrArg x (congrArg row0.emb ?_)
  funext b; apply Fin.ext
  match b with
  | ⟨0, _⟩ => have : (i 0).val < 1 := (i 0).isLt; show (i 0).val = 0; omega
  | ⟨1, _⟩ => rfl

end Cert.DnormIdeal.Blk
end
-- ==== Proof.DnormKernel.lean ====
module

public import proofs.«01_k».proof.Proof.DnormStep
public import Idealize.ShloMosaic.Lib.Pointwise.Contract
public import Idealize.ShloMosaic.Lib.Tactic
public import Idealize.ShloMosaic.Lib.WritesUnit

@[expose] public section

set_option maxRecDepth 16384

noncomputable section

/-! The gradient through the MLP's first product and its norm: what the kernel leaves in its two result arrays, index by index. -/

namespace Cert.DnormIdeal.Blk

open Idealize.ShloMosaic hiding ix0 ix1 ix2 ix3 ix4 ix5 eq_ix2 eq_ix3
open Cert.DnormIdeal Cert.DnormIdeal.Gen Idealize.ShloMosaic.ValueIdx Idealize.ShloMosaic.TcCoe Idealize.SL.Sem Cert.Rms
open Idealize.ShloMosaic.StableHlo

variable (m : (ℓ : Loc nD τ sig) → Buf (Elt Ideal) ℓ) (c : Dev nD)

abbrev xA : S2048x2048.Idx → EReal := m ((c : Thread nD τ).loc main_arg0)
abbrev gA : S2048.Idx → EReal := m ((c : Thread nD τ).loc main_arg1)
abbrev wA : S2048x8192.Idx → EReal := m ((c : Thread nD τ).loc main_arg2)
abbrev ctA : S2048x8192.Idx → EReal := m ((c : Thread nD τ).loc main_arg3)
abbrev dA : S2048x2048.Idx → EReal := m ((c : Thread nD τ).loc main_arg4)

set_option maxHeartbeats 4000000 in
theorem V_ct : V m c main_v3 = (truncf .bf16 (m ((c : Thread nD τ).loc main_arg3)) bitsLt_bf16_f32 : FVec Ideal S2048x8192 .bf16) := by
  unfold V
  simp only [hostOps0, List.flatten_cons, List.flatten_nil, List.append_nil, List.cons_append, List.nil_append,
    TRef.binary, TRef.nullary, TRef.ternary, TRef.unary, TRef.toBuf, TRef.ofBuf, cast_eq]
  after_results_simp <;> rfl

set_option maxHeartbeats 4000000 in
theorem V_w : V m c main_v2 = (transpose S8x2048x1024 [1, 0, 2] (shapeCast S2048x8x1024 (truncf .bf16 (m ((c : Thread nD τ).loc main_arg2)) bitsLt_bf16_f32 : FVec Ideal S2048x8192 .bf16)
      shapeCasts_S2048x8192_S2048x8x1024) transposes_S2048x8x1024_S8x2048x1024_1_0_2 : FVec Ideal S8x2048x1024 .bf16) := by
  unfold V
  simp only [hostOps0, List.flatten_cons, List.flatten_nil, List.append_nil, List.cons_append, List.nil_append,
    TRef.binary, TRef.nullary, TRef.ternary, TRef.unary, TRef.toBuf, TRef.ofBuf, cast_eq]
  after_results_simp <;> rfl

set_option maxHeartbeats 4000000 in
theorem V_g : V m c main_v4 = (broadcastInDim S1x2048 ![1] bcast_S2048_S1x2048_1 (m ((c : Thread nD τ).loc main_arg1)) : FVec Ideal S1x2048 .f32) := by
  unfold V
  simp only [hostOps0, List.flatten_cons, List.flatten_nil, List.append_nil, List.cons_append, List.nil_append,
    TRef.binary, TRef.nullary, TRef.ternary, TRef.unary, TRef.toBuf, TRef.ofBuf, cast_eq]
  after_results_simp <;> rfl

/-- The weight by blocks of its columns. -/
theorem w_tr (x : S2048x8192.Idx → EReal) (s : Fin 8) (l : Fin 2048) (k : Fin 1024) (e : Fin 8192) (he : e.val = s.val * 1024 + k.val) :
    transpose S8x2048x1024 [1, 0, 2] (shapeCast S2048x8x1024 x shapeCasts_S2048x8192_S2048x8x1024) transposes_S2048x8x1024_S8x2048x1024_1_0_2 (ix3 s l k)
      = x (ix2 l e) := by
  refine (transpose_apply _ _ _ _ (ix3 l s k : S2048x8x1024.Idx) (fun b => match b with | ⟨0, _⟩ => rfl | ⟨1, _⟩ => rfl | ⟨2, _⟩ => rfl)).trans ?_
  refine shapeCast_apply x _ _ _ ?_
  rw [Shape.rowMajor_val_two, Shape.rowMajor_val_three]
  show l.val * 8192 + e.val = (l.val * 8 + s.val) * 1024 + k.val
  omega

theorem lt32 (t : Fin cfg0.N) : t.val < 32 := lt_of_lt_of_eq t.isLt N_0

theorem idx0 : ∀ t : Fin cfg0.N, win0_0.index t (0 : Fin 2) = t.val / 8 ∧ win0_0.index t (1 : Fin 2) = t.val % 8 := (by decide +kernel : ∀ t : Fin grid0.N, _)
theorem idx2 : ∀ t : Fin cfg0.N, win0_2.index t (0 : Fin 2) = t.val / 8 ∧ win0_2.index t (1 : Fin 2) = 0 := (by decide +kernel : ∀ t : Fin grid0.N, _)
theorem idx4 : ∀ t : Fin cfg0.N, win0_4.index t (0 : Fin 2) = t.val / 8 ∧ win0_4.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx1 : ∀ t : Fin cfg0.N, win0_1.index t (0 : Fin 3) = t.val % 8 ∧ win0_1.index t (1 : Fin 3) = 0 ∧ win0_1.index t (2 : Fin 3) = 0 := (by decide +kernel : ∀ t : Fin grid0.N, _)

/-- The row of the array that row `r` of the point's block is, and the summand that its summand `k` is. -/
abbrev row (t : Fin cfg0.N) (r : Fin 512) : Fin 2048 := ⟨t.val / 8 * 512 + r.val, by have := lt32 t; have := r.isLt; omega⟩
abbrev ctr (t : Fin cfg0.N) (k : Fin 1024) : Fin 8192 := ⟨t.val % 8 * 1024 + k.val, by have := lt32 t; have := k.isLt; omega⟩

theorem ct_blk (t : Fin cfg0.N) (i : S512x1024.Idx) : iblk m c 0 t i = ctA m c (ix2 (row t (i 0)) (ctr t (i 1))) := by
  unfold iblk
  rw [View.read_apply]
  show V m c main_v3 _ = _
  rw [V_ct]
  show ctA m c _ = _
  refine congrArg _ (funext fun a => Fin.ext ?_)
  match a with
  | ⟨0, _⟩ => show win0_0.index t (0 : Fin 2) * 512 + 1 * (i 0).val = t.val / 8 * 512 + (i 0).val; rw [(idx0 t).1]; omega
  | ⟨1, _⟩ => show win0_0.index t (1 : Fin 2) * 1024 + 1 * (i 1).val = t.val % 8 * 1024 + (i 1).val; rw [(idx0 t).2]; omega

theorem w_blk (t : Fin cfg0.N) (i : S1x2048x1024.Idx) : iblk m c 1 t i = wA m c (ix2 (i 1 : Fin 2048) (ctr t (i 2))) := by
  have h8 : t.val % 8 < 8 := Nat.mod_lt _ (by norm_num)
  have h0 : (i 0).val = 0 := by have : (i 0).val < 1 := (i 0).isLt; omega
  unfold iblk
  rw [View.read_apply]
  show V m c main_v2 _ = _
  rw [V_w]
  refine Eq.trans ?_ (w_tr (wA m c) ⟨t.val % 8, h8⟩ (i 1) (i 2) (ctr t (i 2)) rfl)
  refine congrArg (transpose S8x2048x1024 [1, 0, 2] (shapeCast S2048x8x1024 (wA m c) shapeCasts_S2048x8192_S2048x8x1024)
    transposes_S2048x8x1024_S8x2048x1024_1_0_2) (funext fun a => Fin.ext ?_)
  match a with
  | ⟨0, _⟩ => show win0_1.index t (0 : Fin 3) * 1 + 1 * (i 0).val = t.val % 8; rw [(idx1 t).1]; omega
  | ⟨1, _⟩ => show win0_1.index t (1 : Fin 3) * 2048 + 1 * (i 1).val = (i 1).val; rw [(idx1 t).2.1]; omega
  | ⟨2, _⟩ => show win0_1.index t (2 : Fin 3) * 1024 + 1 * (i 2).val = (i 2).val; rw [(idx1 t).2.2]; omega

theorem g_blk (t : Fin cfg0.N) (i : S1x2048.Idx) : iblk m c 3 t i = gA m c (ix1 (i 1 : Fin 2048)) := by
  unfold iblk
  rw [View.read_apply]
  show V m c main_v4 _ = _
  rw [V_g]
  refine broadcastInDim_apply _ bcast_S2048_S1x2048_1 (gA m c) _ _ (fun a => match a with
    | ⟨0, _⟩ => ?_)
  show (i 1).val = win0_3.index t (1 : Fin 2) * 2048 + 1 * (i 1).val
  rw [(idx3 t).2]; omega

theorem x_blk (t : Fin cfg0.N) (i : S512x2048.Idx) : iblk m c 2 t i = xA m c (ix2 (row t (i 0)) (i 1 : Fin 2048)) := by
  unfold iblk
  rw [View.read_apply]
  show V m c main_arg0 _ = _
  rw [V_main_arg0]
  show xA m c _ = _
  refine congrArg _ (funext fun a => Fin.ext ?_)
  match a with
  | ⟨0, _⟩ => show win0_2.index t (0 : Fin 2) * 512 + 1 * (i 0).val = t.val / 8 * 512 + (i 0).val; rw [(idx2 t).1]; omega
  | ⟨1, _⟩ => show win0_2.index t (1 : Fin 2) * 2048 + 1 * (i 1).val = (i 1).val; rw [(idx2 t).2]; omega

theorem d_blk (t : Fin cfg0.N) (i : S512x2048.Idx) : iblk m c 4 t i = dA m c (ix2 (row t (i 0)) (i 1 : Fin 2048)) := by
  unfold iblk
  rw [View.read_apply]
  show V m c main_arg4 _ = _
  rw [V_main_arg4]
  show dA m c _ = _
  refine congrArg _ (funext fun a => Fin.ext ?_)
  match a with
  | ⟨0, _⟩ => show win0_4.index t (0 : Fin 2) * 512 + 1 * (i 0).val = t.val / 8 * 512 + (i 0).val; rw [(idx4 t).1]; omega
  | ⟨1, _⟩ => show win0_4.index t (1 : Fin 2) * 2048 + 1 * (i 1).val = (i 1).val; rw [(idx4 t).2]; omega

/-- The product's summand, and a block of the product. -/
abbrev term (p q : Fin 2048) (k : Fin 8192) : EReal := ctA m c (ix2 p k) * wA m c (ix2 q k)
abbrev part (p q : Fin 2048) (s : ℕ) : EReal := ∑ k : Fin 1024, Cert.Sums.ext 8192 (term m c p q) (s * 1024 + k.val)

theorem add_blk (t : Fin cfg0.N) (acc : FVec Ideal S512x2048 .f32) (i : S512x2048.Idx) :
    k0_pay3 (F := Ideal) acc (iblk m c 0 t) (iblk m c 1 t) i = acc i + part m c (row t (i 0)) (i 1) (t.val % 8) := by
  rw [step_at]
  refine congrArg (fun z : EReal => acc i + z) (Finset.sum_congr rfl fun k _ => ?_)
  rw [ct_blk, w_blk]
  exact (Cert.Sums.ext_of_lt 8192 (term m c (row t (i 0)) (i 1)) _ (ctr t k).isLt).symm

theorem zero_at (i : S512x2048.Idx) : k0_pay2 (F := Ideal) i = (0 : EReal) := by
  unfold k0_pay2
  rw [shapeCast_self]
  exact Cert.ReferenceIdeal.RefValue.lit_zero
theorem zero8_at (i : S8x2048.Idx) : k0_pay1 (F := Ideal) i = ((0 : ℝ) : EReal) := by
  unfold k0_pay1
  exact Cert.ReferenceIdeal.RefValue.lit_zero

abbrev prev (t : Fin cfg0.N) := outsAt0 m c (t.val - 1) (Nat.lt_of_le_of_lt (Nat.sub_le _ _) t.isLt)

theorem first (t : Fin cfg0.N) (h0 : t.val % 8 = 0) :
    (outsAt0 m c t.val t.isLt).2.2 = k0_pay3 (F := Ideal) (k0_pay2 (F := Ideal)) (iblk m c 0 t) (iblk m c 1 t) := by
  by_cases h : t.val % 32 = 0
  · rw [outsAt0_A m c t h h0 (by omega)]
    dsimp only
    exact scratch_A ..
  · rw [outsAt0_D m c t h h0 (by omega)]
    dsimp only
    exact scratch_D ..

theorem next (t : Fin cfg0.N) (h0 : ¬t.val % 8 = 0) :
    (outsAt0 m c t.val t.isLt).2.2 = k0_pay3 (F := Ideal) (prev m c t).2.2 (iblk m c 0 t) (iblk m c 1 t) := by
  by_cases h1 : t.val % 8 = 7
  · rw [outsAt0_C m c t (by omega) h0 h1]
    dsimp only
    exact scratch_C ..
  · rw [outsAt0_B m c t (by omega) h0 h1]
    dsimp only
    exact scratch_B ..

theorem first_at (t : Fin cfg0.N) (h0 : t.val % 8 = 0) (i : S512x2048.Idx) :
    (outsAt0 m c t.val t.isLt).2.2 i = ∑ s ∈ Finset.range (t.val % 8 + 1), part m c (row t (i 0)) (i 1) s := by
  rw [first m c t h0, add_blk, h0, Finset.sum_range_one, zero_at, zero_add]

/-- The scratch after a point: the blocks of the product so far. -/
theorem scratch_at : ∀ (n : ℕ) (hn : n < cfg0.N) (i : S512x2048.Idx),
    (outsAt0 m c n hn).2.2 i = ∑ s ∈ Finset.range (n % 8 + 1), part m c (row ⟨n, hn⟩ (i 0)) (i 1) s := by
  intro n
  induction n with
  | zero => exact fun hn i => first_at m c ⟨0, hn⟩ rfl i
  | succ n ih =>
    intro hn i
    by_cases h0 : (n + 1) % 8 = 0
    · exact first_at m c ⟨n + 1, hn⟩ h0 i
    · have er : row ⟨n + 1, hn⟩ (i 0) = row ⟨n, Nat.lt_of_succ_lt hn⟩ (i 0) := Fin.ext (by
        show (n + 1) / 8 * 512 + (i 0).val = n / 8 * 512 + (i 0).val
        rw [show (n + 1) / 8 = n / 8 by omega])
      have es : (n + 1) % 8 = n % 8 + 1 := by omega
      refine (congrFun (next m c ⟨n + 1, hn⟩ h0) i).trans ((add_blk m c ⟨n + 1, hn⟩ _ i).trans ?_)
      have e := ih (Nat.lt_of_succ_lt hn) i
      rw [Finset.sum_range_succ _ ((n + 1) % 8), er, es]
      exact congrArg (fun z : EReal => z + _) e

open Cert.DnormRefIdeal.RefValue (Holds)
variable {a : Args} (H : Holds (xA m c) (gA m c) (wA m c) (ctA m c) (dA m c) a)

include H in
/-- After the last block the scratch holds the product. -/
theorem full_at (t : Fin cfg0.N) (h : t.val % 8 = 7) (i : S512x2048.Idx) :
    (outsAt0 m c t.val t.isLt).2.2 i = ((dy a (row t (i 0)) (i 1) : ℝ) : EReal) := by
  rw [scratch_at, h, ← Cert.Sums.blocks 8 1024 8192 rfl]
  refine Eq.trans (Finset.sum_congr rfl fun k _ => ?_) (Cert.ReferenceIdeal.RefValue.coe_sum _ _)
  exact (congrArg₂ (· * ·) (H.h3 _) (H.h2 _)).trans (EReal.coe_mul _ _).symm

include H in
theorem acc_at (t : Fin cfg0.N) (h : t.val % 8 = 7) (i : S512x2048.Idx) :
    k0_pay3 (F := Ideal) (prev m c t).2.2 (iblk m c 0 t) (iblk m c 1 t) i = ((dy a (row t (i 0)) (i 1) : ℝ) : EReal) :=
  (congrFun (next m c t (by omega)) i).symm.trans (full_at m c H t h i)

include H in
theorem xr_blk (t : Fin cfg0.N) (i : S512x2048.Idx) : iblk m c 2 t i = ((a.x (row t (i 0)) (i 1) : ℝ) : EReal) :=
  (x_blk m c t i).trans (H.h0 _)
include H in
theorem dr_blk (t : Fin cfg0.N) (i : S512x2048.Idx) : iblk m c 4 t i = ((a.dres (row t (i 0)) (i 1) : ℝ) : EReal) :=
  (d_blk m c t i).trans (H.h4 _)
include H in
theorem gr_blk (t : Fin cfg0.N) (i : S1x2048.Idx) : iblk m c 3 t i = ((a.g (i 1) : ℝ) : EReal) :=
  (g_blk m c t i).trans (H.h1 _)

include H in
/-- What a point that ends a block of rows leaves in the first result's block. -/
theorem out_at (t : Fin cfg0.N) (h : t.val % 8 = 7) (i : S512x2048.Idx) :
    (outsAt0 m c t.val t.isLt).1 i = ((dx a (row t (i 0)) (i 1) : ℝ) : EReal) := by
  rw [outsAt0_C m c t (by omega) (by omega) h]
  dsimp only
  refine (congrFun (out_C ..) i).trans ?_
  exact pay6_at (fun r => a.x (row t r)) (fun r => dy a (row t r)) (fun r => a.dres (row t r)) a.g _ _ _ _
    (xr_blk m c H t) (acc_at m c H t h) (dr_blk m c H t) (gr_blk m c H t) i

/-- The gain's gradient from a block of rows. -/
abbrev gpart (a : Args) (s : ℕ) (l : Fin 2048) : ℝ := ∑ r : Fin 512, Cert.Sums.ext 2048 (fun r => dgRow a r l) (s * 512 + r.val)
abbrev gsum (a : Args) (n : ℕ) (q : Fin 8) (l : Fin 2048) : ℝ := if q.val = 0 then ∑ s ∈ Finset.range n, gpart a s l else 0

theorem gain_first (t : Fin cfg0.N) (h : t.val % 32 = 0) (y : S8x2048.Idx) : (outsAt0 m c t.val t.isLt).2.1 y = ((gsum a 0 (y 0) (y 1) : ℝ) : EReal) := by
  rw [outsAt0_A m c t h (by omega) (by omega)]
  dsimp only
  refine (congrFun (gain_A ..) y).trans ((zero8_at y).trans (congrArg _ ?_))
  show (0 : ℝ) = if (y 0).val = 0 then ∑ s ∈ Finset.range 0, gpart a s (y 1) else 0
  rw [Finset.sum_range_zero, ite_self]

theorem gain_keep (t : Fin cfg0.N) (h : ¬t.val % 32 = 0) (h7 : ¬t.val % 8 = 7) : (outsAt0 m c t.val t.isLt).2.1 = (prev m c t).2.1 := by
  by_cases h1 : t.val % 8 = 0
  · rw [outsAt0_D m c t h h1 h7]; rfl
  · rw [outsAt0_B m c t h h1 h7]; rfl

include H in
theorem gain_add (t : Fin cfg0.N) (h : t.val % 8 = 7)
    (hp : ∀ y : S8x2048.Idx, (prev m c t).2.1 y = ((gsum a (t.val / 8) (y 0) (y 1) : ℝ) : EReal)) (y : S8x2048.Idx) :
    (outsAt0 m c t.val t.isLt).2.1 y = ((gsum a (t.val / 8 + 1) (y 0) (y 1) : ℝ) : EReal) := by
  rw [outsAt0_C m c t (by omega) (by omega) h]
  dsimp only
  refine (congrFun (gain_C ..) y).trans ((row_store _ _ _ _ y).trans ?_)
  by_cases e0 : (y 0).val = 0
  · rw [if_pos e0]
    refine (pay7_at (fun r => a.x (row t r)) (fun r => dy a (row t r)) (fun l => ∑ s ∈ Finset.range (t.val / 8), gpart a s l) _ _ _
      (xr_blk m c H t) (acc_at m c H t h) (fun i => (row_load _ i).trans ((hp _).trans ?_)) _).trans (congrArg _ ?_)
    · exact congrArg _ (if_pos rfl)
    · show _ + _ = if (y 0).val = 0 then _ else _
      rw [if_pos e0, Finset.sum_range_succ]
      refine congrArg (_ + ·) (Finset.sum_congr rfl fun r _ => ?_)
      exact (Cert.Sums.ext_of_lt 2048 (fun r => dgRow a r (y 1)) _ (row t r).isLt).symm
  · rw [if_neg e0]
    refine (hp y).trans (congrArg _ ?_)
    exact (if_neg e0).trans (if_neg e0).symm

include H in
/-- The gain's gradient after a point: the blocks of rows that have ended, in the first of the eight rows. -/
theorem gain_at : ∀ (n : ℕ) (hn : n < cfg0.N) (y : S8x2048.Idx),
    (outsAt0 m c n hn).2.1 y = ((gsum a ((n + 1) / 8) (y 0) (y 1) : ℝ) : EReal) := by
  intro n
  induction n with
  | zero => exact fun hn y => gain_first m c ⟨0, hn⟩ rfl y
  | succ n ih =>
    intro hn y
    have hN : n + 1 < 32 := lt_of_lt_of_eq hn N_0
    have e := ih (Nat.lt_of_succ_lt hn)
    by_cases h7 : (n + 1) % 8 = 7
    · rw [show (n + 1 + 1) / 8 = (n + 1) / 8 + 1 by omega]
      exact gain_add m c H ⟨n + 1, hn⟩ h7 e y
    · rw [show (n + 1 + 1) / 8 = (n + 1) / 8 by omega]
      exact (congrFun (gain_keep m c ⟨n + 1, hn⟩ (by show ¬(n + 1) % 32 = 0; omega) h7) y).trans (e y)

include H in
theorem res5 (i : S2048x2048.Idx) : Cert.DnormIdeal.Value.G5 m c i = ((dx a (i 0) (i 1) : ℝ) : EReal) := by
  have hi0 : (i 0).val < 2048 := (i 0).isLt
  have hi1 : (i 1).val < 2048 := (i 1).isLt
  have hr : Cert.DnormIdeal.Value.run5Of i = (i 0).val / 512 := by
    show 1 * ((i 0).val / 512 - 0) + 1 * ((i 1).val / 2048 - 0) = _
    omega
  have hp : Cert.DnormIdeal.Value.pt5Of i = 8 * ((i 0).val / 512) + 7 := by
    show 8 * Cert.DnormIdeal.Value.run5Of i + 7 = _
    rw [hr]
  have hlt : Cert.DnormIdeal.Value.pt5Of i < cfg0.N := lt_of_lt_of_eq (by omega) N_0.symm
  unfold Cert.DnormIdeal.Value.G5
  rw [dif_pos hlt, ← Cert.DnormIdeal.Value.outsAt0_sweep m c _ hlt]
  refine (out_at m c H ⟨_, hlt⟩ (by show Cert.DnormIdeal.Value.pt5Of i % 8 = 7; omega) _).trans ?_
  have er : row ⟨Cert.DnormIdeal.Value.pt5Of i, hlt⟩ ((Cert.DnormIdeal.Value.loc5Of i) 0) = (i 0 : Fin 2048) := Fin.ext (by
    show Cert.DnormIdeal.Value.pt5Of i / 8 * 512 + (i 0).val % 512 = (i 0).val
    rw [hp]; omega)
  have ec : ((Cert.DnormIdeal.Value.loc5Of i) 1 : Fin 2048) = (i 1 : Fin 2048) := Fin.ext (by
    show (i 1).val % 2048 = (i 1).val
    omega)
  rw [er, ec]

include H in
theorem res6 (i : S8x2048.Idx) : Cert.DnormIdeal.Value.G6 m c i = ((dg a (i 0) (i 1) : ℝ) : EReal) := by
  have hi0 : (i 0).val < 8 := (i 0).isLt
  have hi1 : (i 1).val < 2048 := (i 1).isLt
  have hr : Cert.DnormIdeal.Value.run6Of i = 0 := by
    show 1 * ((i 0).val / 8 - 0) + 1 * ((i 1).val / 2048 - 0) = _
    omega
  have hp : Cert.DnormIdeal.Value.pt6Of i = 31 := by
    show 32 * Cert.DnormIdeal.Value.run6Of i + 31 = _
    rw [hr]
  have hlt : Cert.DnormIdeal.Value.pt6Of i < cfg0.N := lt_of_lt_of_eq (by omega) N_0.symm
  unfold Cert.DnormIdeal.Value.G6
  rw [dif_pos hlt, ← Cert.DnormIdeal.Value.outsAt0_sweep m c _ hlt]
  refine (gain_at m c H _ hlt _).trans ?_
  have er : ((Cert.DnormIdeal.Value.loc6Of i) 0 : Fin 8) = (i 0 : Fin 8) := Fin.ext (by
    show (i 0).val % 8 = (i 0).val
    omega)
  have ec : ((Cert.DnormIdeal.Value.loc6Of i) 1 : Fin 2048) = (i 1 : Fin 2048) := Fin.ext (by
    show (i 1).val % 2048 = (i 1).val
    omega)
  have es : (Cert.DnormIdeal.Value.pt6Of i + 1) / 8 = 4 := by omega
  rw [er, ec, es]
  unfold dg
  rw [Cert.Sums.blocks 4 512 2048 rfl]

end Cert.DnormIdeal.Blk
end
-- ==== Proof.DnormJoin.lean ====
module

public import proofs.«01_k».proof.Defs
public import proofs.«01_k».proof.Proof.DnormPre
public import proofs.«01_k».proof.Proof.DnormKernel
public import proofs.«01_k».proof.Proof.Gen.DnormRefIdeal.Run

@[expose] public section

noncomputable section

/-! The gradient through the MLP's first product and its norm: the kernel's two results are the reference's. -/

namespace Cert.Dnorm

open Idealize.ShloMosaic Idealize.SL.Sem

theorem join : Cert.algebraic_DnormIdeal_DnormRefIdeal_pre_finite_dnorm := by
  intro m g m' g' hpre agree
  have hH : ∀ c, ∃ a, Cert.DnormRefIdeal.RefValue.Holds (Cert.DnormIdeal.Blk.xA m c) (Cert.DnormIdeal.Blk.gA m c) (Cert.DnormIdeal.Blk.wA m c)
    (Cert.DnormIdeal.Blk.ctA m c) (Cert.DnormIdeal.Blk.dA m c) a := fun c => Cert.Rms.holds_of_finite _ _ _ _ _ (hpre c)
  refine ⟨Cert.DnormIdeal.Value.G5 m, Cert.DnormIdeal.Value.G6 m, Cert.DnormIdeal.Value.run m g, ?_⟩
  refine (θ_run Cert.DnormRefIdeal.defs _ _).mono (fun r h c => ?_) (Cert.DnormRefIdeal.Value.run (F := Ideal) m' g')
  obtain ⟨h0, h1, hargs⟩ := h c
  obtain ⟨e0, e1, e2, e3, e4⟩ := agree c
  obtain ⟨a, H⟩ := hH c
  have K : Cert.DnormRefIdeal.RefValue.Holds (m' ((c.tc : Thread Cert.DnormRefIdeal.nD Cert.DnormRefIdeal.τ).loc Cert.DnormRefIdeal.main_arg0))
      (m' ((c.tc : Thread Cert.DnormRefIdeal.nD Cert.DnormRefIdeal.τ).loc Cert.DnormRefIdeal.main_arg1))
      (m' ((c.tc : Thread Cert.DnormRefIdeal.nD Cert.DnormRefIdeal.τ).loc Cert.DnormRefIdeal.main_arg2))
      (m' ((c.tc : Thread Cert.DnormRefIdeal.nD Cert.DnormRefIdeal.τ).loc Cert.DnormRefIdeal.main_arg3))
      (m' ((c.tc : Thread Cert.DnormRefIdeal.nD Cert.DnormRefIdeal.τ).loc Cert.DnormRefIdeal.main_arg4)) a := by
    rw [e0, e1, e2, e3, e4]; exact H
  refine ⟨?_, ?_, hargs⟩
  · exact (h0.trans (Cert.DnormRefIdeal.Read.val_main_v38_eq m' c)).trans
      (funext fun i => (Cert.DnormRefIdeal.RefValue.ref0 K i).trans (Cert.DnormIdeal.Blk.res5 m c H i).symm)
  · exact (h1.trans (Cert.DnormRefIdeal.Read.val_main_v40_eq _ _ _)).trans
      (funext fun i => (Cert.DnormRefIdeal.RefValue.ref1 K i).trans (Cert.DnormIdeal.Blk.res6 m c H i).symm)

end Cert.Dnorm
end
-- ==== Proof.DownKernel.lean ====
module

public import proofs.«01_k».proof.Proof.SguRef
public import proofs.«01_k».proof.Proof.Sums
public import proofs.«01_k».proof.Proof.Gen.DownIdeal.Value
public import proofs.«01_k».proof.Proof.Gen.DownRefIdeal.Read
public import Idealize.ShloMosaic.Lib.Pointwise.Contract
public import Idealize.ShloMosaic.Lib.Tactic
public import Idealize.ShloMosaic.Lib.WritesUnit

@[expose] public section

set_option maxRecDepth 16384

noncomputable section

/-! What the second MLP product, added to its input, leaves in its result array, index by index. -/

namespace Cert.DownIdeal.Blk

open Idealize.ShloMosaic hiding ix0 ix1 ix2 ix3 ix4 ix5 eq_ix2 eq_ix3
open Cert.DownIdeal Cert.DownIdeal.Gen Idealize.ShloMosaic.ValueIdx Idealize.ShloMosaic.TcCoe Idealize.SL.Sem
open Idealize.ShloMosaic.StableHlo

/-- The product's summand at a result index. -/
abbrev term (act : S2048x8192.Idx → EReal) (w : S8192x2048.Idx → EReal) (p q : Fin 2048) (k : Fin 8192) : EReal :=
  act (ix2 p k) * w (ix2 k q)

/-- The value at one index. -/
def val (act : S2048x8192.Idx → EReal) (w : S8192x2048.Idx → EReal) (x : S2048x2048.Idx → EReal) (i : S2048x2048.Idx) : EReal :=
  x i + ∑ k : Fin 8192, term act w (i 0) (i 1) k

theorem zz : (![0, 0] : Fin 2 → Nat) = fun _ => 0 := funext fun a => match a with | ⟨0, _⟩ => rfl | ⟨1, _⟩ => rfl

section
variable (c : Dev nD) (i : grid0.Coords)
  (a3 : Memref sig .tc .vmem S1024x512 .bf16) (h3 : a3.IsWhole)
  (a4 : Memref sig .tc .vmem S512x2048 .bf16) (h4 : a4.IsWhole)
  (a5 : Memref sig .tc .vmem S1024x2048 .f32) (h5 : a5.IsWhole)
  (a6 : Memref sig .tc .vmem S1024x2048 .f32) (h6 : a6.IsWhole)
  (a7 : Memref sig .tc .vmem S1024x2048 .f32) (h7 : a7.IsWhole)
  (x0 : Vec Ideal S1024x512 .bf16) (x1 : Vec Ideal S512x2048 .bf16) (x2 xs0 : Vec Ideal S1024x2048 .f32)

theorem scratch_A (hc0 : cond0_0 i) (hc1 : ¬cond0_1 i) :
    sout0_A_0 c i a3 h3 a4 h4 a5 h5 a6 h6 a7 h7 hc0 hc1 x0 x1 x2 = k0_pay2 (k0_pay1 x2) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero zz, View.readCov_unit_zero _ zz]
  simp only [View.readAt_eq_ld, h3.read_unread, h4.read_unread, h5.read_unread, h6.read_unread, h7.read_unread,
    View.ld_unit_zero (S := S1024x512) zz, View.ld_unit_zero (S := S512x2048) zz, View.ld_unit_zero (S := S1024x2048) zz]

theorem scratch_B (hc0 : ¬cond0_0 i) (hc1 : ¬cond0_1 i) :
    sout0_B_0 c i a3 h3 a4 h4 a5 h5 a6 h6 a7 h7 hc0 hc1 x0 x1 x2 xs0 = k0_pay2 xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero zz]
  simp only [View.readAt_eq_ld, h3.read_unread, h4.read_unread, h5.read_unread, h6.read_unread, h7.read_unread,
    View.ld_unit_zero (S := S1024x512) zz, View.ld_unit_zero (S := S512x2048) zz, View.ld_unit_zero (S := S1024x2048) zz]

theorem scratch_C (hc0 : ¬cond0_0 i) (hc1 : cond0_1 i) :
    sout0_C_0 c i a3 h3 a4 h4 a5 h5 a6 h6 a7 h7 hc0 hc1 x0 x1 x2 xs0 = k0_pay2 xs0 x0 x1 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero zz]
  simp only [View.readAt_eq_ld, h3.read_unread, h4.read_unread, h5.read_unread, h6.read_unread, h7.read_unread,
    View.ld_unit_zero (S := S1024x512) zz, View.ld_unit_zero (S := S512x2048) zz, View.ld_unit_zero (S := S1024x2048) zz]

theorem out_C (hc0 : ¬cond0_0 i) (hc1 : cond0_1 i) :
    out0_C_3 c i a3 h3 a4 h4 a5 h5 a6 h6 a7 h7 hc0 hc1 x0 x1 x2 xs0 = k0_pay2 xs0 x0 x1 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero zz, View.readCov_unit_zero _ zz]
  simp only [View.readAt_eq_ld, h3.read_unread, h4.read_unread, h5.read_unread, h6.read_unread, h7.read_unread,
    View.ld_unit_zero (S := S1024x512) zz, View.ld_unit_zero (S := S512x2048) zz, View.ld_unit_zero (S := S1024x2048) zz]
end

/-- One step adds a block of the product. -/
theorem step_at (acc : FVec Ideal S1024x2048 .f32) (x0 : FVec Ideal S1024x512 .bf16) (x1 : FVec Ideal S512x2048 .bf16) (i : S1024x2048.Idx) :
    k0_pay2 (F := Ideal) acc x0 x1 i = acc i + ∑ k : Fin 512, (x0 (ix2 (i 0 : Fin 1024) k) * x1 (ix2 k (i 1 : Fin 2048)) : EReal) := by
  unfold k0_pay2
  rw [shapeCast_self, shapeCast_self, shapeCast_self]
  show (acc i + matmul dot_S1024x512_S512x2048_S1024x2048_1_0_0_1_n_n none x0 x1 (constant S1024x2048 .f32 0x00000000#32) i : EReal) = _
  refine congrArg (acc i + ·) ?_
  refine (Ideal.matmul_apply₁_of dot_S1024x512_S512x2048_S1024x2048_1_0_0_1_n_n (a := 1) rfl rfl x0 x1 _ i
    (fun k => ix2 (i 0 : Fin 1024) k) (fun k => ix2 k (i 1 : Fin 2048)) (fun k => funext fun b => match b with | ⟨0, _⟩ => rfl | ⟨1, _⟩ => rfl)
    (fun k => funext fun b => match b with | ⟨0, _⟩ => rfl | ⟨1, _⟩ => rfl)).trans ?_
  show Ideal.ofBits .f32 0x00000000#32 + _ = _
  rw [Cert.ReferenceIdeal.RefValue.lit_zero, EReal.coe_zero, zero_add]; rfl

variable (m : (ℓ : Loc nD τ sig) → Buf (Elt Ideal) ℓ) (c : Dev nD)

abbrev actA : S2048x8192.Idx → EReal := m ((c : Thread nD τ).loc main_arg0)
abbrev wA : S8192x2048.Idx → EReal := m ((c : Thread nD τ).loc main_arg1)
abbrev xA : S2048x2048.Idx → EReal := m ((c : Thread nD τ).loc main_arg2)

set_option maxHeartbeats 4000000 in
theorem V_act : V m c main_v0 = (truncf .bf16 (m ((c : Thread nD τ).loc main_arg0)) bitsLt_bf16_f32 : FVec Ideal S2048x8192 .bf16) := by
  unfold V
  simp only [hostOps0, List.flatten_cons, List.flatten_nil, List.append_nil, List.cons_append, List.nil_append,
    TRef.binary, TRef.nullary, TRef.ternary, TRef.unary, TRef.toBuf, TRef.ofBuf, cast_eq]
  after_results_simp <;> rfl

set_option maxHeartbeats 4000000 in
theorem V_w : V m c main_v1 = (truncf .bf16 (m ((c : Thread nD τ).loc main_arg1)) bitsLt_bf16_f32 : FVec Ideal S8192x2048 .bf16) := by
  unfold V
  simp only [hostOps0, List.flatten_cons, List.flatten_nil, List.append_nil, List.cons_append, List.nil_append,
    TRef.binary, TRef.nullary, TRef.ternary, TRef.unary, TRef.toBuf, TRef.ofBuf, cast_eq]
  after_results_simp <;> rfl

theorem lt32 (t : Fin cfg0.N) : t.val < 32 := lt_of_lt_of_eq t.isLt N_0

theorem idx0 : ∀ t : Fin cfg0.N, win0_0.index t (0 : Fin 2) = t.val / 16 ∧ win0_0.index t (1 : Fin 2) = t.val % 16 := (by decide +kernel : ∀ t : Fin grid0.N, _)
theorem idx1 : ∀ t : Fin cfg0.N, win0_1.index t (0 : Fin 2) = t.val % 16 ∧ win0_1.index t (1 : Fin 2) = 0 := (by decide +kernel : ∀ t : Fin grid0.N, _)
theorem idx2 : ∀ t : Fin cfg0.N, win0_2.index t (0 : Fin 2) = t.val / 16 ∧ win0_2.index t (1 : Fin 2) = 0 := (by decide +kernel : ∀ t : Fin grid0.N, _)

/-- The row of the array that row `r` of the point's block is, and the summand that its summand `k` is. -/
abbrev row (t : Fin cfg0.N) (r : Fin 1024) : Fin 2048 := ⟨t.val / 16 * 1024 + r.val, by have := lt32 t; have := r.isLt; omega⟩
abbrev ctr (t : Fin cfg0.N) (k : Fin 512) : Fin 8192 := ⟨t.val % 16 * 512 + k.val, by have := lt32 t; have := k.isLt; omega⟩

theorem act_blk (t : Fin cfg0.N) (i : S1024x512.Idx) : iblk m c 0 t i = actA m c (ix2 (row t (i 0)) (ctr t (i 1))) := by
  unfold iblk
  rw [View.read_apply]
  show V m c main_v0 _ = _
  rw [V_act]
  show actA m c _ = _
  refine congrArg _ (funext fun a => Fin.ext ?_)
  match a with
  | ⟨0, _⟩ => show win0_0.index t (0 : Fin 2) * 1024 + 1 * (i 0).val = t.val / 16 * 1024 + (i 0).val; rw [(idx0 t).1]; omega
  | ⟨1, _⟩ => show win0_0.index t (1 : Fin 2) * 512 + 1 * (i 1).val = t.val % 16 * 512 + (i 1).val; rw [(idx0 t).2]; omega

theorem w_blk (t : Fin cfg0.N) (i : S512x2048.Idx) : iblk m c 1 t i = wA m c (ix2 (ctr t (i 0)) (i 1 : Fin 2048)) := by
  unfold iblk
  rw [View.read_apply]
  show V m c main_v1 _ = _
  rw [V_w]
  show wA m c _ = _
  refine congrArg _ (funext fun a => Fin.ext ?_)
  match a with
  | ⟨0, _⟩ => show win0_1.index t (0 : Fin 2) * 512 + 1 * (i 0).val = t.val % 16 * 512 + (i 0).val; rw [(idx1 t).1]; omega
  | ⟨1, _⟩ => show win0_1.index t (1 : Fin 2) * 2048 + 1 * (i 1).val = (i 1).val; rw [(idx1 t).2]; omega

theorem x_blk (t : Fin cfg0.N) (i : S1024x2048.Idx) : iblk m c 2 t i = xA m c (ix2 (row t (i 0)) (i 1 : Fin 2048)) := by
  unfold iblk
  rw [View.read_apply]
  show V m c main_arg2 _ = _
  rw [V_main_arg2]
  show xA m c _ = _
  refine congrArg _ (funext fun a => Fin.ext ?_)
  match a with
  | ⟨0, _⟩ => show win0_2.index t (0 : Fin 2) * 1024 + 1 * (i 0).val = t.val / 16 * 1024 + (i 0).val; rw [(idx2 t).1]; omega
  | ⟨1, _⟩ => show win0_2.index t (1 : Fin 2) * 2048 + 1 * (i 1).val = (i 1).val; rw [(idx2 t).2]; omega

/-- Block `s` of the product at an index. -/
abbrev part (p q : Fin 2048) (s : ℕ) : EReal := ∑ k : Fin 512, Cert.Sums.ext 8192 (term (actA m c) (wA m c) p q) (s * 512 + k.val)

theorem add_blk (t : Fin cfg0.N) (acc : FVec Ideal S1024x2048 .f32) (i : S1024x2048.Idx) :
    k0_pay2 (F := Ideal) acc (iblk m c 0 t) (iblk m c 1 t) i = acc i + part m c (row t (i 0)) (i 1) (t.val % 16) := by
  rw [step_at]
  refine congrArg (fun z : EReal => acc i + z) (Finset.sum_congr rfl fun k _ => ?_)
  rw [act_blk, w_blk]
  exact (Cert.Sums.ext_of_lt 8192 (term (actA m c) (wA m c) (row t (i 0)) (i 1)) _ (ctr t k).isLt).symm

theorem first (t : Fin cfg0.N) (h0 : t.val % 16 = 0) :
    (outsAt0 m c t.val t.isLt).2 = k0_pay2 (F := Ideal) (k0_pay1 (iblk m c 2 t)) (iblk m c 0 t) (iblk m c 1 t) := by
  rw [outsAt0_A m c t h0 (by omega)]
  dsimp only
  exact scratch_A ..

theorem next (t : Fin cfg0.N) (h0 : ¬t.val % 16 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  by_cases h1 : t.val % 16 = 15
  · rw [outsAt0_C m c t h0 h1]
    dsimp only
    exact scratch_C ..
  · rw [outsAt0_B m c t h0 h1]
    dsimp only
    exact scratch_B ..

theorem first_at (t : Fin cfg0.N) (h0 : t.val % 16 = 0) (i : S1024x2048.Idx) : (outsAt0 m c t.val t.isLt).2 i
    = xA m c (ix2 (row t (i 0)) (i 1 : Fin 2048)) + ∑ s ∈ Finset.range (t.val % 16 + 1), part m c (row t (i 0)) (i 1) s := by
  rw [first m c t h0, add_blk, h0, Finset.sum_range_one]
  refine congrArg (fun z : EReal => z + _) ?_
  unfold k0_pay1
  rw [shapeCast_self]
  exact x_blk m c t i

/-- The scratch after a point: the input and the blocks of the product so far. -/
theorem scratch_at : ∀ (n : ℕ) (hn : n < cfg0.N) (i : S1024x2048.Idx), (outsAt0 m c n hn).2 i
    = xA m c (ix2 (row ⟨n, hn⟩ (i 0)) (i 1 : Fin 2048)) + ∑ s ∈ Finset.range (n % 16 + 1), part m c (row ⟨n, hn⟩ (i 0)) (i 1) s := by
  intro n
  induction n with
  | zero => exact fun hn i => first_at m c ⟨0, hn⟩ rfl i
  | succ n ih =>
    intro hn i
    by_cases h0 : (n + 1) % 16 = 0
    · exact first_at m c ⟨n + 1, hn⟩ h0 i
    · have er : row ⟨n + 1, hn⟩ (i 0) = row ⟨n, Nat.lt_of_succ_lt hn⟩ (i 0) := Fin.ext (by
        show (n + 1) / 16 * 1024 + (i 0).val = n / 16 * 1024 + (i 0).val
        rw [show (n + 1) / 16 = n / 16 by omega])
      have es : (n + 1) % 16 = n % 16 + 1 := by omega
      refine (congrFun (next m c ⟨n + 1, hn⟩ h0) i).trans ((add_blk m c ⟨n + 1, hn⟩ _ i).trans ?_)
      have e := ih (Nat.lt_of_succ_lt hn) i
      rw [Finset.sum_range_succ _ ((n + 1) % 16), er, es, ← add_assoc]
      exact congrArg (fun z : EReal => z + _) e

/-- What a point that writes back leaves in the result's block is what it leaves in the scratch. -/
theorem out_eq (t : Fin cfg0.N) (h : t.val % 16 = 15) : (outsAt0 m c t.val t.isLt).1 = (outsAt0 m c t.val t.isLt).2 := by
  rw [outsAt0_C m c t (by omega) h]
  dsimp only
  exact (out_C ..).trans (scratch_C ..).symm

theorem res (i : S2048x2048.Idx) : Cert.DownIdeal.Value.G3 m c i = val (actA m c) (wA m c) (xA m c) i := by
  have hi0 : (i 0).val < 2048 := (i 0).isLt
  have hi1 : (i 1).val < 2048 := (i 1).isLt
  have hr : Cert.DownIdeal.Value.run3Of i = (i 0).val / 1024 := by
    show 1 * ((i 0).val / 1024 - 0) + 1 * ((i 1).val / 2048 - 0) = _
    omega
  have hp : Cert.DownIdeal.Value.pt3Of i = 16 * ((i 0).val / 1024) + 15 := by
    show 16 * Cert.DownIdeal.Value.run3Of i + 15 = _
    rw [hr]
  have hlt : Cert.DownIdeal.Value.pt3Of i < cfg0.N := lt_of_lt_of_eq (by omega) N_0.symm
  unfold Cert.DownIdeal.Value.G3
  rw [dif_pos hlt, ← Cert.DownIdeal.Value.outsAt0_sweep m c _ hlt, out_eq m c ⟨_, hlt⟩ (by show Cert.DownIdeal.Value.pt3Of i % 16 = 15; omega)]
  refine (scratch_at m c _ hlt _).trans ?_
  have er : row ⟨Cert.DownIdeal.Value.pt3Of i, hlt⟩ ((Cert.DownIdeal.Value.loc3Of i) 0) = (i 0 : Fin 2048) := Fin.ext (by
    show Cert.DownIdeal.Value.pt3Of i / 16 * 1024 + (i 0).val % 1024 = (i 0).val
    rw [hp]; omega)
  have ec : ((Cert.DownIdeal.Value.loc3Of i) 1 : Fin 2048) = (i 1 : Fin 2048) := Fin.ext (by
    show (i 1).val % 2048 = (i 1).val
    omega)
  have es : Cert.DownIdeal.Value.pt3Of i % 16 + 1 = 16 := by omega
  rw [er, ec, es]
  unfold val
  rw [Cert.Sums.blocks 16 512 8192 rfl]
  exact congrArg (· + _) (congrArg (xA m c) (funext fun a => match a with | ⟨0, _⟩ => rfl | ⟨1, _⟩ => rfl))

end Cert.DownIdeal.Blk

/-! The reference's result at an index. -/

namespace Cert.DownRefIdeal.Read

open Idealize.ShloMosaic hiding ix0 ix1 ix2 ix3 ix4 ix5 eq_ix2 eq_ix3
open Idealize.ShloMosaic.ValueIdx

theorem ref_at (x0 : FVec Ideal S2048x8192 .f32) (x1 : FVec Ideal S8192x2048 .f32) (x2 : FVec Ideal S2048x2048 .f32) (i : S2048x2048.Idx) :
    val_main_v1 (F := Ideal) x0 x1 x2 i = Cert.DownIdeal.Blk.val x0 x1 x2 i := by
  rw [val_main_v1_apply, val_main_v0_apply]
  refine congrArg (x2 i + ·) (Finset.sum_congr rfl fun k _ => ?_)
  exact congrArg₂ (· * ·) (congrArg x0 (funext fun a => match a with | ⟨0, _⟩ => rfl | ⟨1, _⟩ => rfl))
    (congrArg x1 (funext fun a => match a with | ⟨0, _⟩ => rfl | ⟨1, _⟩ => rfl))

end Cert.DownRefIdeal.Read
end
-- ==== Proof.DownJoin.lean ====
module

public import proofs.«01_k».proof.Defs
public import proofs.«01_k».proof.Proof.DownKernel
public import proofs.«01_k».proof.Proof.Gen.DownRefIdeal.Run

@[expose] public section

noncomputable section

/-! The second MLP product: the kernel's result is the reference's. -/

namespace Cert.Down

open Idealize.ShloMosaic Idealize.SL.Sem

theorem join : Cert.algebraic_DownIdeal_DownRefIdeal := by
  intro m g m' g' hpre agree
  refine ⟨Cert.DownIdeal.Value.G3 m, Cert.DownIdeal.Value.run m g, ?_⟩
  refine (θ_run Cert.DownRefIdeal.defs _ _).mono (fun r h c => ?_) (Cert.DownRefIdeal.Value.run (F := Ideal) m' g')
  obtain ⟨h0, hargs⟩ := h c
  obtain ⟨e0, e1, e2⟩ := agree c
  refine ⟨(h0.trans (Cert.DownRefIdeal.Read.val_main_v1_eq _ _ _)).trans (funext fun i => ?_), hargs⟩
  refine (Cert.DownRefIdeal.Read.ref_at _ _ _ i).trans ?_
  rw [e0, e1, e2]
  exact (Cert.DownIdeal.Blk.res m c i).symm

end Cert.Down
end
-- ==== Proof.GradDownHalf.lean ====
module

public import proofs.«01_k».proof.Proof.Gen.GradDown.Frame
public import proofs.«01_k».proof.Proof.Gen.GradDownIdeal.Frame
public import proofs.«01_k».proof.Proof.Gen.Pre_half_graddown
public import Idealize.ShloMosaic.Lib.Pipeline.Value
public import Idealize.ShloMosaic.Lib.Pointwise.Contract

@[expose] public section

set_option maxRecDepth 16384

noncomputable section

/-! Either half that may be asked for is inside the array. -/

namespace Cert.Pre_half_graddown

open Idealize.ShloMosaic

variable {F : FTy → Type} [FloatOps F]

theorem sub (j k : S1.Idx) : j = k := funext fun a => match a with
  | ⟨0, _⟩ => Fin.ext (by have : (j 0).val < 1 := (j 0).isLt; have : (k 0).val < 1 := (k 0).isLt; show (j 0).val = (k 0).val; omega)

theorem half (x0 : FVec F S2048x8192 .f32) (x1 : FVec F S2048x2048 .f32) (x2 : IVec S1 32) (h : fn x0 x1 x2 = fun _ => 1#1) (j : S1.Idx) : x2 j = 0#32 ∨ x2 j = 1#32 := by
  have e0 : ∀ k : S1.Idx, x2 k = x2 j := fun k => congrArg x2 (sub k j)
  have e := congrFun h (fun a => a.elim0)
  have e' : BitVec.ofBool (decide (x2 j = 0#32)) ||| BitVec.ofBool (decide (x2 j = 1#32)) = 1#1 := by
    refine Eq.trans ?_ e
    show _ = IntOp.cmpi .eq (x2 _) 0#32 ||| IntOp.cmpi .eq (x2 _) 1#32
    simp only [e0]; rfl
  by_cases h0 : x2 j = 0#32
  · exact Or.inl h0
  by_cases h1 : x2 j = 1#32
  · exact Or.inr h1
  rw [decide_eq_false h0, decide_eq_false h1] at e'
  exact absurd e' (by decide)

end Cert.Pre_half_graddown

namespace Cert.GradDown.Half

open Idealize.ShloMosaic Idealize.ShloMosaic.TcCoe Cert.GradDown Cert.GradDown.Gen Idealize.SL.Sem

/-- Where a point's block of the first operand is. -/
def place (w : BitVec 32) (i : grid0.Coords) : Fin 2 → Nat := cc0_transform_0 inb_S1_S1_0 numel1_S1 (F := Ideal) (fun | 0 => fun _ => w) i

theorem place_at (w : BitVec 32) (hw : w = 0#32 ∨ w = 1#32) : ∀ i : grid0.Coords,
    place w i = ![0, (2 * (i 0).val + w.toNat) * 2 + (i 1).val] := by
  rcases hw with rfl | rfl <;> decide +kernel

variable {F : FTy → Type} [FloatOps F]

theorem transform_at (pf : pre0.Contents (Elt F)) (w : BitVec 32) (e : pf 0 = fun _ => w) (i : grid0.Coords) :
    cc0_transform_0 inb_S1_S1_0 numel1_S1 pf i = place w i := by
  unfold place cc0_transform_0 Pipeline.Prefetch.Contents.at
  rw [e]

theorem ok_of_word (pf : pre0.Contents (Elt F)) (w : BitVec 32) (e : pf 0 = fun _ => w) (hw : w = 0#32 ∨ w = 1#32) : ok0 pf := by
  intro i
  refine ⟨fun a => ?_, .inr (Affine.block_words_dvd (of_decide_eq_true rfl) (by decide))⟩
  rw [transform_at pf w e, place_at w hw]
  have h0 : (i 0).val < 4 := (i 0).isLt
  have h1 : (i 1).val < 2 := (i 1).isLt
  have h2 : w.toNat ≤ 1 := by rcases hw with rfl | rfl <;> decide
  match a with
  | ⟨0, _⟩ => show (0 + 1) * 2048 ≤ 2048; omega
  | ⟨1, _⟩ => show ((2 * (i 0).val + w.toNat) * 2 + (i 1).val + 1) * 512 ≤ 8192; omega

variable (m : (ℓ : Loc nD τ sig) → Buf (Elt F) ℓ)

/-- The half that is asked for. -/
def word : BitVec 32 := (m (((0 : Dev nD) : Thread nD τ).loc main_arg2) : IVec S1 32) (fun a => match a with | ⟨0, _⟩ => (0 : Fin 1))

theorem tbl_at : tbl m 0 = fun _ => word m := by
  funext j
  show (V m 0 main_arg2 : IVec S1 32) j = _
  rw [V_main_arg2]
  exact congrArg _ (Cert.Pre_half_graddown.sub j _)

theorem ok (hw : word m = 0#32 ∨ word m = 1#32) : Ok m := ok_of_word (tbl m) (word m) (tbl_at m) hw

end Cert.GradDown.Half

namespace Cert.GradDownIdeal.Half

open Idealize.ShloMosaic Idealize.ShloMosaic.TcCoe Cert.GradDownIdeal Cert.GradDownIdeal.Gen Idealize.SL.Sem

/-- Where a point's block of the first operand is. -/
def place (w : BitVec 32) (i : grid0.Coords) : Fin 2 → Nat := cc0_transform_0 inb_S1_S1_0 numel1_S1 (F := Ideal) (fun | 0 => fun _ => w) i

theorem place_at (w : BitVec 32) (hw : w = 0#32 ∨ w = 1#32) : ∀ i : grid0.Coords,
    place w i = ![0, (2 * (i 0).val + w.toNat) * 2 + (i 1).val] := by
  rcases hw with rfl | rfl <;> decide +kernel

variable {F : FTy → Type} [FloatOps F]

theorem transform_at (pf : pre0.Contents (Elt F)) (w : BitVec 32) (e : pf 0 = fun _ => w) (i : grid0.Coords) :
    cc0_transform_0 inb_S1_S1_0 numel1_S1 pf i = place w i := by
  unfold place cc0_transform_0 Pipeline.Prefetch.Contents.at
  rw [e]

theorem ok_of_word (pf : pre0.Contents (Elt F)) (w : BitVec 32) (e : pf 0 = fun _ => w) (hw : w = 0#32 ∨ w = 1#32) : ok0 pf := by
  intro i
  refine ⟨fun a => ?_, .inr (Affine.block_words_dvd (of_decide_eq_true rfl) (by decide))⟩
  rw [transform_at pf w e, place_at w hw]
  have h0 : (i 0).val < 4 := (i 0).isLt
  have h1 : (i 1).val < 2 := (i 1).isLt
  have h2 : w.toNat ≤ 1 := by rcases hw with rfl | rfl <;> decide
  match a with
  | ⟨0, _⟩ => show (0 + 1) * 2048 ≤ 2048; omega
  | ⟨1, _⟩ => show ((2 * (i 0).val + w.toNat) * 2 + (i 1).val + 1) * 512 ≤ 8192; omega

variable (m : (ℓ : Loc nD τ sig) → Buf (Elt F) ℓ)

/-- The half that is asked for. -/
def word : BitVec 32 := (m (((0 : Dev nD) : Thread nD τ).loc main_arg2) : IVec S1 32) (fun a => match a with | ⟨0, _⟩ => (0 : Fin 1))

theorem tbl_at : tbl m 0 = fun _ => word m := by
  funext j
  show (V m 0 main_arg2 : IVec S1 32) j = _
  rw [V_main_arg2]
  exact congrArg _ (Cert.Pre_half_graddown.sub j _)

theorem ok (hw : word m = 0#32 ∨ word m = 1#32) : Ok m := ok_of_word (tbl m) (word m) (tbl_at m) hw

end Cert.GradDownIdeal.Half

end
-- ==== Proof.GradDownKernel.lean ====
module

public import proofs.«01_k».proof.Proof.SguRef
public import proofs.«01_k».proof.Proof.GradDownHalf
public import proofs.«01_k».proof.Proof.Gen.GradDownRefIdeal.Read
public import Idealize.ShloMosaic.Lib.Pointwise.Contract
public import Idealize.ShloMosaic.Lib.Tactic
public import Idealize.ShloMosaic.Lib.WritesUnit

@[expose] public section

set_option maxRecDepth 16384

noncomputable section

/-! Half of the gradient of the second MLP weight, index by index. -/

namespace Cert.GradDownIdeal.Blk

open Idealize.ShloMosaic hiding ix0 ix1 ix2 ix3 ix4 ix5 eq_ix2 eq_ix3
open Cert.GradDownIdeal Cert.GradDownIdeal.Gen Idealize.ShloMosaic.ValueIdx Idealize.ShloMosaic.TcCoe Idealize.SL.Sem
open Idealize.ShloMosaic.StableHlo Cert.GradDownIdeal.Half

/-- The row of the whole gradient that row `r` of quarter `q` of half `s` is. -/
abbrev row (s : Fin 2) (q : Fin 4) (r : Fin 1024) : Fin 8192 :=
  ⟨(2 * q.val + s.val) * 1024 + r.val, by have := s.isLt; have := q.isLt; have := r.isLt; omega⟩

/-- The value at one index. -/
def val (s : Fin 2) (a : S2048x8192.Idx → EReal) (b : S2048x2048.Idx → EReal) (i : S4x1024x2048.Idx) : EReal :=
  ∑ k : Fin 2048, (a (ix2 k (row s (i 0) (i 1))) * b (ix2 k (i 2 : Fin 2048)) : EReal)

theorem zz : (![0, 0] : Fin 2 → Nat) = fun _ => 0 := funext fun a => match a with | ⟨0, _⟩ => rfl | ⟨1, _⟩ => rfl
theorem zzz : (![0, 0, 0] : Fin 3 → Nat) = fun _ => 0 := funext fun a => match a with | ⟨0, _⟩ => rfl | ⟨1, _⟩ => rfl | ⟨2, _⟩ => rfl

/-- The block a point writes. -/
theorem pay_at (x0 : FVec Ideal S2048x512 .bf16) (x1 : FVec Ideal S2048x2048 .bf16) (y : S1x512x2048.Idx) :
    k0_pay1 (F := Ideal) x0 x1 y = ∑ k : Fin 2048, (x0 (ix2 k (y 1 : Fin 512)) * x1 (ix2 k (y 2 : Fin 2048)) : EReal) := by
  unfold k0_pay1
  rw [shapeCast_self, shapeCast_self]
  refine (shapeCast_apply _ _ y (ix2 (y 1 : Fin 512) (y 2 : Fin 2048)) ?_).trans ?_
  · rw [Shape.rowMajor_val_two, Shape.rowMajor_val_three]
    have h0 : (y 0).val < 1 := (y 0).isLt
    show (y 1).val * 2048 + (y 2).val = ((y 0).val * 512 + (y 1).val) * 2048 + (y 2).val
    omega
  show matmul dot_S2048x512_S2048x2048_S512x2048_0_0_1_1_n_n none x0 x1 (constant S512x2048 .f32 0x00000000#32) (ix2 (y 1 : Fin 512) (y 2 : Fin 2048)) = _
  refine (Ideal.matmul_apply₁_of dot_S2048x512_S2048x2048_S512x2048_0_0_1_1_n_n (a := 0) rfl rfl x0 x1 _ _
    (fun k => ix2 k (y 1 : Fin 512)) (fun k => ix2 k (y 2 : Fin 2048)) (fun k => funext fun b => match b with | ⟨0, _⟩ => rfl | ⟨1, _⟩ => rfl)
    (fun k => funext fun b => match b with | ⟨0, _⟩ => rfl | ⟨1, _⟩ => rfl)).trans ?_
  show Ideal.ofBits .f32 0x00000000#32 + _ = _
  rw [Cert.ReferenceIdeal.RefValue.lit_zero, EReal.coe_zero, zero_add]; rfl

variable (m : (ℓ : Loc nD τ sig) → Buf (Elt Ideal) ℓ) (hO : Ok m) (c : Dev nD)

abbrev aA : S2048x8192.Idx → EReal := m ((c : Thread nD τ).loc main_arg0)
abbrev bA : S2048x2048.Idx → EReal := m ((c : Thread nD τ).loc main_arg1)

/-- The half that is asked for, as a number. -/
abbrev half : Fin 2 := if word m = 0#32 then 0 else 1

theorem half_val (hw : word m = 0#32 ∨ word m = 1#32) : (word m).toNat = (half m).val := by
  unfold half
  rcases hw with h | h <;> rw [h] <;> rfl

set_option maxHeartbeats 4000000 in
theorem V_a : V m c main_v0 = (truncf .bf16 (m ((c : Thread nD τ).loc main_arg0)) bitsLt_bf16_f32 : FVec Ideal S2048x8192 .bf16) := by
  unfold V
  simp only [hostOps0, List.flatten_cons, List.flatten_nil, List.append_nil, List.cons_append, List.nil_append,
    TRef.binary, TRef.nullary, TRef.ternary, TRef.unary, TRef.toBuf, TRef.ofBuf, cast_eq]
  after_results_simp <;> rfl

set_option maxHeartbeats 4000000 in
theorem V_b : V m c main_v1 = (truncf .bf16 (m ((c : Thread nD τ).loc main_arg1)) bitsLt_bf16_f32 : FVec Ideal S2048x2048 .bf16) := by
  unfold V
  simp only [hostOps0, List.flatten_cons, List.flatten_nil, List.append_nil, List.cons_append, List.nil_append,
    TRef.binary, TRef.nullary, TRef.ternary, TRef.unary, TRef.toBuf, TRef.ofBuf, cast_eq]
  after_results_simp <;> rfl

theorem lt8 (t : Fin (cfgM m hO).N) : t.val < 8 := lt_of_lt_of_eq t.isLt (by decide : grid0.N = 8)

theorem coords : ∀ t : Fin grid0.N, (grid0.coords t 0).val = t.val / 2 ∧ (grid0.coords t 1).val = t.val % 2 ∧ (grid0.coords t 2).val = 0 := by decide +kernel

theorem idx0 (hw : word m = 0#32 ∨ word m = 1#32) (t : Fin (cfgM m hO).N) :
    ((cfgM m hO).win 0).index t = ![0, (2 * (t.val / 2) + (half m).val) * 2 + t.val % 2] := by
  show cc0_transform_0 inb_S1_S1_0 numel1_S1 (tbl m) (grid0.coords t) = _
  rw [transform_at (tbl m) (word m) (tbl_at m), place_at (word m) hw, half_val m hw, (coords t).1, (coords t).2.1]
theorem idx1 (t : Fin (cfgM m hO).N) : ((cfgM m hO).win 1).index t = ![0, 0] := by
  show cc0_transform_1 (grid0.coords t) = _
  exact (by decide +kernel : ∀ t : Fin grid0.N, cc0_transform_1 (grid0.coords t) = ![0, 0]) t
theorem idx2 (t : Fin (cfgM m hO).N) : ((cfgM m hO).win 2).index t = ![t.val / 2, t.val % 2, 0] := by
  show cc0_transform_2 (grid0.coords t) = _
  exact (by decide +kernel : ∀ t : Fin grid0.N, cc0_transform_2 (grid0.coords t) = ![t.val / 2, t.val % 2, 0]) t

abbrev qr (t : Fin (cfgM m hO).N) : Fin 4 := ⟨t.val / 2, by have := lt8 m hO t; omega⟩
abbrev rw' (t : Fin (cfgM m hO).N) (r : Fin 512) : Fin 1024 := ⟨t.val % 2 * 512 + r.val, by have := r.isLt; omega⟩

theorem a_blk (hw : word m = 0#32 ∨ word m = 1#32) (t : Fin (cfgM m hO).N) (i : S2048x512.Idx) :
    iblk m hO c 0 t i = aA m c (ix2 (i 0 : Fin 2048) (row (half m) (qr m hO t) (rw' m hO t (i 1)))) := by
  unfold iblk
  show V m c main_v0 ((((cfgM m hO).win 0).blk t).view.emb i) = _
  rw [V_a]
  show aA m c _ = _
  have h1 : (i 1).val < 512 := (i 1).isLt
  have e := idx0 m hO hw t
  refine congrArg _ (funext fun a => Fin.ext ?_)
  match a with
  | ⟨0, _⟩ => show ((cfgM m hO).win 0).index t (0 : Fin 2) * 2048 + 1 * (i 0).val = (i 0).val; rw [e]; show 0 * 2048 + 1 * (i 0).val = (i 0).val; omega
  | ⟨1, _⟩ =>
    show ((cfgM m hO).win 0).index t (1 : Fin 2) * 512 + 1 * (i 1).val = _
    rw [e]
    show ((2 * (t.val / 2) + (half m).val) * 2 + t.val % 2) * 512 + 1 * (i 1).val = (2 * (t.val / 2) + (half m).val) * 1024 + (t.val % 2 * 512 + (i 1).val)
    omega

theorem b_blk (t : Fin (cfgM m hO).N) (i : S2048x2048.Idx) : iblk m hO c 1 t i = bA m c (ix2 (i 0 : Fin 2048) (i 1 : Fin 2048)) := by
  unfold iblk
  show V m c main_v1 ((((cfgM m hO).win 1).blk t).view.emb i) = _
  rw [V_b]
  show bA m c _ = _
  have e := idx1 m hO t
  refine congrArg _ (funext fun a => Fin.ext ?_)
  match a with
  | ⟨0, _⟩ => show ((cfgM m hO).win 1).index t (0 : Fin 2) * 2048 + 1 * (i 0).val = (i 0).val; rw [e]; show 0 * 2048 + 1 * (i 0).val = (i 0).val; omega
  | ⟨1, _⟩ => show ((cfgM m hO).win 1).index t (1 : Fin 2) * 2048 + 1 * (i 1).val = (i 1).val; rw [e]; show 0 * 2048 + 1 * (i 1).val = (i 1).val; omega

theorem out_pay (i : grid0.Coords)
    (a4 : Memref sig .tc .vmem S2048x512 .bf16) (h4 : a4.IsWhole)
    (a5 : Memref sig .tc .vmem S2048x2048 .bf16) (h5 : a5.IsWhole)
    (a6 : Memref sig .tc .vmem S1x512x2048 .bf16) (h6 : a6.IsWhole)
    (x0 : Vec Ideal S2048x512 .bf16) (x1 : Vec Ideal S2048x2048 .bf16) (xt : TbBuf0 (F := Ideal) c tbM0_0) :
    out0_A_2 c i a4 h4 a5 h5 a6 h6 x0 x1 xt = k0_pay1 x0 x1 := by
  unfold out0_A_2
  rw [View.read_writes_eq_canon _ _ _ (cover0_A_2 c i a4 h4 a5 h5 a6 h6 x0 x1 xt)]
  unfold kernelRun0_A
  dsimp only
  sl_unfold_words
  rw [View.canon_unit_zero zzz]
  simp only [View.readAt_eq_ld, h4.read_unread, h5.read_unread, View.ld_unit_zero (S := S2048x512) zz, View.ld_unit_zero (S := S2048x2048) zz]

/-- The whole result array. -/
def G : Buf (Elt Ideal) ((c : Thread nD τ).loc main_v2) := val (half m) (aA m c) (bA m c)

theorem flushed_eq (hw : word m = 0#32 ∨ word m = 1#32) (t : Fin (cfgM m hO).N) :
    (dats m hO 0 c).flushed 2 t = (((cfgM m hO).win 2).blk t).view.read (Elt Ideal) (G m c) := by
  refine funext fun (y : S1x512x2048.Idx) => ?_
  refine Eq.trans (b := val (half m) (aA m c) (bA m c) (ix3 (qr m hO t) (rw' m hO t (y 1)) (y 2 : Fin 2048))) ?_ ?_
  · show (dats m hO 0 c).after 2 t y = _
    rw [after0_2]
    unfold outsAt0
    refine (congrFun (out_pay c (grid0.coords t) _ (hs0_0 m hO t) _ (hs0_1 m hO t) _ (hs0_2 m hO t) (iblk m hO c 0 t) (iblk m hO c 1 t) (tbl m 0)) y).trans ?_
    refine (pay_at (iblk m hO c 0 t) (iblk m hO c 1 t) y).trans ?_
    unfold val
    exact Finset.sum_congr rfl fun k _ => congrArg₂ (· * ·) (a_blk m hO c hw t _) (b_blk m hO c t _)
  · show G m c _ = G m c ((((cfgM m hO).win 2).blk t).view.emb y)
    have h0 : (y 0).val < 1 := (y 0).isLt
    have e := idx2 m hO t
    refine congrArg _ (funext fun a => Fin.ext ?_)
    match a with
    | ⟨0, _⟩ => show t.val / 2 = ((cfgM m hO).win 2).index t (0 : Fin 3) * 1 + 1 * (y 0).val; rw [e]; show t.val / 2 = t.val / 2 * 1 + 1 * (y 0).val; omega
    | ⟨1, _⟩ => show t.val % 2 * 512 + (y 1).val = ((cfgM m hO).win 2).index t (1 : Fin 3) * 512 + 1 * (y 1).val; rw [e]; show _ = t.val % 2 * 512 + 1 * (y 1).val; omega
    | ⟨2, _⟩ => show (y 2).val = ((cfgM m hO).win 2).index t (2 : Fin 3) * 2048 + 1 * (y 2).val; rw [e]; show _ = 0 * 2048 + 1 * (y 2).val; omega

theorem mem_blk (t : Fin (cfgM m hO).N) (i : S4x1024x2048.Idx) :
    i ∈ (((cfgM m hO).win 2).blk t).view.set ↔ ∀ a : Fin 3, ((cfgM m hO).win 2).index t a * S1x512x2048.size a ≤ (i a).val ∧ (i a).val < ((cfgM m hO).win 2).index t a * S1x512x2048.size a + S1x512x2048.size a := by
  have e : (((cfgM m hO).win 2).blk t).view.set = (((cfgM m hO).win 2).rect t).set := View.set_slice_whole main_v2 _
  rw [e]
  exact Rect.mem_set_unit

theorem covers (i : S4x1024x2048.Idx) : ∃ t : Fin (cfgM m hO).N, ((cfgM m hO).win 2).flush t = true ∧ i ∈ (((cfgM m hO).win 2).blk t).view.set := by
  have h0 : (i 0).val < 4 := (i 0).isLt
  have h1 : (i 1).val < 1024 := (i 1).isLt
  have h2 : (i 2).val < 2048 := (i 2).isLt
  refine ⟨⟨(i 0).val * 2 + (i 1).val / 512, lt_of_lt_of_eq (by omega) (by decide : 8 = grid0.N)⟩, flush0_2 _ _, (mem_blk m hO _ _).2 fun a => ?_⟩
  rw [idx2]
  match a with
  | ⟨0, _⟩ =>
    show ((i 0).val * 2 + (i 1).val / 512) / 2 * 1 ≤ (i 0).val ∧ (i 0).val < ((i 0).val * 2 + (i 1).val / 512) / 2 * 1 + 1
    omega
  | ⟨1, _⟩ =>
    show ((i 0).val * 2 + (i 1).val / 512) % 2 * 512 ≤ (i 1).val ∧ (i 1).val < ((i 0).val * 2 + (i 1).val / 512) % 2 * 512 + 512
    omega
  | ⟨2, _⟩ => show 0 * 2048 ≤ (i 2).val ∧ (i 2).val < 0 * 2048 + 2048; omega

theorem final (hw : word m = 0#32 ∨ word m = 1#32) : (dats m hO 0 c).arrAt 2 (cfgM m hO).N = G m c :=
  (dats m hO 0 c).arrAt_eq_of_cover 2 (G m c) (fun t _ => flushed_eq m hO c hw t) (covers m hO)

/-- The run: the result array and the arguments afterwards. -/
theorem run (ρ : Dev nD → PrngReg) (hw : word m = 0#32 ∨ word m = 1#32) :
    θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 2).trans (final m (ok m hw) c hw),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩)
    (run_main m ρ (ok m hw))

end Cert.GradDownIdeal.Blk

/-! The reference's result at an index. -/

namespace Cert.GradDownRefIdeal.Read

open Idealize.ShloMosaic hiding ix0 ix1 ix2 ix3 ix4 ix5 eq_ix2 eq_ix3
open Cert.GradDownRefIdeal Cert.GradDownRefIdeal.Gen Idealize.ShloMosaic.ValueIdx Idealize.ShloMosaic.StableHlo

variable (x0 : FVec Ideal S2048x8192 .f32) (x1 : FVec Ideal S2048x2048 .f32) (x2 : IVec S1 32) (i : S4x1024x2048.Idx)

theorem whole_at (p : Fin 8192) (q : Fin 2048) :
    val_main_v3 (F := Ideal) x0 x1 (ix2 p q) = ∑ k : Fin 2048, (x0 (ix2 k p) * x1 (ix2 k q) : EReal) := by
  rw [val_main_v3_apply, val_main_v2_apply]
  refine Finset.sum_congr rfl fun k _ => ?_
  refine (mul_comm (x1 _) (x0 _)).trans (congrArg₂ (· * ·) (congrArg x0 ?_) (congrArg x1 ?_))
  · exact funext fun a => match a with | ⟨0, _⟩ => rfl | ⟨1, _⟩ => rfl
  · exact funext fun a => match a with | ⟨0, _⟩ => rfl | ⟨1, _⟩ => rfl

theorem cut_at (j : S4x2x1024x2048.Idx) (p : Fin 8192) (q : Fin 2048) (hp : p.val = (2 * (j 0).val + (j 1).val) * 1024 + (j 2).val) (hq : q.val = (j 3).val) :
    val_main_v4 (F := Ideal) x0 x1 j = val_main_v3 (F := Ideal) x0 x1 (ix2 p q) := by
  rw [val_main_v4_apply]
  have h0 : (j 0).val < 4 := (j 0).isLt
  have h1 : (j 1).val < 2 := (j 1).isLt
  have h2 : (j 2).val < 1024 := (j 2).isLt
  have h3 : (j 3).val < 2048 := (j 3).isLt
  refine congrArg _ (funext fun a => Fin.ext ?_)
  match a with
  | ⟨0, _⟩ => show ((((j 0).val * 2 + (j 1).val) * 1024 + (j 2).val) * 2048 + (j 3).val) / 2048 = p.val; omega
  | ⟨1, _⟩ => show ((((j 0).val * 2 + (j 1).val) * 1024 + (j 2).val) * 2048 + (j 3).val) % 2048 = q.val; omega

theorem first_at : val_main_v8 (F := Ideal) x0 x1 i = Cert.GradDownIdeal.Blk.val 0 x0 x1 i := by
  have h0 : (i 0).val < 4 := (i 0).isLt
  have h1 : (i 1).val < 1024 := (i 1).isLt
  have h2 : (i 2).val < 2048 := (i 2).isLt
  rw [val_main_v8_apply, val_main_v7_apply]
  refine (cut_at x0 x1 _ (Cert.GradDownIdeal.Blk.row 0 (i 0) (i 1)) (i 2) ?_ ?_).trans (whole_at x0 x1 _ _)
  · show (2 * (i 0).val + 0) * 1024 + (i 1).val = (2 * ((((i 0).val * 1024 + (i 1).val) * 2048 + (i 2).val) / 2097152) + 0) * 1024 + ((((i 0).val * 1024 + (i 1).val) * 2048 + (i 2).val) / 2048 % 1024)
    omega
  · show (i 2).val = (((i 0).val * 1024 + (i 1).val) * 2048 + (i 2).val) % 2048
    omega

theorem second_at : val_main_v10 (F := Ideal) x0 x1 i = Cert.GradDownIdeal.Blk.val 1 x0 x1 i := by
  have h0 : (i 0).val < 4 := (i 0).isLt
  have h1 : (i 1).val < 1024 := (i 1).isLt
  have h2 : (i 2).val < 2048 := (i 2).isLt
  rw [val_main_v10_apply, val_main_v9_apply]
  refine (cut_at x0 x1 _ (Cert.GradDownIdeal.Blk.row 1 (i 0) (i 1)) (i 2) ?_ ?_).trans (whole_at x0 x1 _ _)
  · show (2 * (i 0).val + 1) * 1024 + (i 1).val = (2 * ((((i 0).val * 1024 + (i 1).val) * 2048 + (i 2).val) / 2097152) + (1 + 0)) * 1024 + ((((i 0).val * 1024 + (i 1).val) * 2048 + (i 2).val) / 2048 % 1024)
    omega
  · show (i 2).val = (((i 0).val * 1024 + (i 1).val) * 2048 + (i 2).val) % 2048
    omega

theorem chosen_at (j : S1.Idx) : val_main_v11 (F := Ideal) x0 x1 x2 i = Cert.GradDownIdeal.Blk.val (if x2 j = 0#32 then 0 else 1) x0 x1 i := by
  have e0 : ∀ k : S1.Idx, x2 k = x2 j := fun k => congrArg x2 (Cert.Pre_half_graddown.sub k j)
  have e : val_main_v11 (F := Ideal) x0 x1 x2 i
      = Scalar.select (BitVec.ofBool (x2 j == 0#32)) (val_main_v8 (F := Ideal) x0 x1 i) (val_main_v10 (F := Ideal) x0 x1 i) := by
    unfold val_main_v11
    show Scalar.select ((broadcastInDim S4x1024x2048 ![] bcast_S_S4x1024x2048 (val_main_v6 (F := Ideal) x2)) i) _ _ = _
    rw [broadcastInDim_apply _ bcast_S_S4x1024x2048 _ i (fun a => a.elim0) (fun a => a.elim0), val_main_v6_apply]
    show Scalar.select (BitVec.ofBool (x2 _ == 0#32)) _ _ = _
    simp only [e0]
  rw [e, first_at, second_at]
  by_cases h : x2 j = 0#32
  · rw [if_pos h, h]; rfl
  · rw [if_neg h, beq_eq_false_iff_ne.2 h]; rfl

theorem ref_at (j : S1.Idx) : val_main_v12 (F := Ideal) x0 x1 x2 i = Cert.GradDownIdeal.Blk.val (if x2 j = 0#32 then 0 else 1) x0 x1 i :=
  chosen_at x0 x1 x2 i j

end Cert.GradDownRefIdeal.Read
end
-- ==== Proof.GradDownJoin.lean ====
module

public import proofs.«01_k».proof.Proof.GradDownKernel
public import proofs.«01_k».proof.Defs

@[expose] public section

noncomputable section

/-! Half of the gradient of the second MLP weight: the kernel's result is the reference's. -/

namespace Cert.GradDown

open Idealize.ShloMosaic Idealize.SL.Sem

theorem ok_of_pre (m : (ℓ : Loc Cert.GradDown.nD Cert.GradDown.τ Cert.GradDown.sig) → Buf (Elt Bits) ℓ) (h : Cert.Pre_GradDown m) : Cert.GradDown.Gen.Ok m :=
  Cert.GradDown.Half.ok m (Cert.Pre_half_graddown.half _ _ _ (h 0) _)

theorem half_of_pre (m : (ℓ : Loc Cert.GradDownIdeal.nD Cert.GradDownIdeal.τ Cert.GradDownIdeal.sig) → Buf (Elt Ideal) ℓ) (h : Cert.Pre_GradDownIdeal m) :
    Cert.GradDownIdeal.Half.word m = 0#32 ∨ Cert.GradDownIdeal.Half.word m = 1#32 :=
  Cert.Pre_half_graddown.half _ _ _ (h 0) _

theorem ok_of_pre_ideal (m : (ℓ : Loc Cert.GradDownIdeal.nD Cert.GradDownIdeal.τ Cert.GradDownIdeal.sig) → Buf (Elt Ideal) ℓ) (h : Cert.Pre_GradDownIdeal m) :
    Cert.GradDownIdeal.Gen.Ok m := Cert.GradDownIdeal.Half.ok m (half_of_pre m h)

theorem join : Cert.algebraic_GradDownIdeal_GradDownRefIdeal := by
  intro m g m' g' hpre agree
  refine ⟨Cert.GradDownIdeal.Blk.G m, Cert.GradDownIdeal.Blk.run m g (half_of_pre m hpre), ?_⟩
  refine (θ_run Cert.GradDownRefIdeal.defs _ _).mono (fun r h c => ?_) (Cert.GradDownRefIdeal.Value.run (F := Ideal) m' g')
  obtain ⟨h0, hargs⟩ := h c
  obtain rfl : c = 0 := Subsingleton.elim _ _
  obtain ⟨e0, e1, e2⟩ := agree 0
  refine ⟨(h0.trans (Cert.GradDownRefIdeal.Read.val_main_v12_eq _ _ _)).trans (funext fun i => ?_), hargs⟩
  refine (Cert.GradDownRefIdeal.Read.ref_at _ _ _ i (fun a => match a with | ⟨0, _⟩ => (0 : Fin 1))).trans ?_
  unfold Cert.GradDownIdeal.Blk.G
  rw [e0, e1, e2]
  rfl

end Cert.GradDown
end
-- ==== Proof.GradDownAddHalf.lean ====
module

public import proofs.«01_k».proof.Proof.Gen.GradDownAdd.Frame
public import proofs.«01_k».proof.Proof.Gen.GradDownAddIdeal.Frame
public import proofs.«01_k».proof.Proof.Gen.Pre_half_graddownadd
public import Idealize.ShloMosaic.Lib.Pipeline.Value
public import Idealize.ShloMosaic.Lib.Pointwise.Contract

@[expose] public section

set_option maxRecDepth 16384

noncomputable section

/-! Either half that may be asked for is inside the array. -/

namespace Cert.Pre_half_graddownadd

open Idealize.ShloMosaic

variable {F : FTy → Type} [FloatOps F]

theorem sub (j k : S1.Idx) : j = k := funext fun a => match a with
  | ⟨0, _⟩ => Fin.ext (by have : (j 0).val < 1 := (j 0).isLt; have : (k 0).val < 1 := (k 0).isLt; show (j 0).val = (k 0).val; omega)

theorem half (x0 : FVec F S2048x8192 .f32) (x1 : FVec F S2048x2048 .f32) (x2 : IVec S1 32) (x3 : FVec F S4x1024x2048 .bf16) (h : fn x0 x1 x2 x3 = fun _ => 1#1) (j : S1.Idx) : x2 j = 0#32 ∨ x2 j = 1#32 := by
  have e0 : ∀ k : S1.Idx, x2 k = x2 j := fun k => congrArg x2 (sub k j)
  have e := congrFun h (fun a => a.elim0)
  have e' : BitVec.ofBool (decide (x2 j = 0#32)) ||| BitVec.ofBool (decide (x2 j = 1#32)) = 1#1 := by
    refine Eq.trans ?_ e
    show _ = IntOp.cmpi .eq (x2 _) 0#32 ||| IntOp.cmpi .eq (x2 _) 1#32
    simp only [e0]; rfl
  by_cases h0 : x2 j = 0#32
  · exact Or.inl h0
  by_cases h1 : x2 j = 1#32
  · exact Or.inr h1
  rw [decide_eq_false h0, decide_eq_false h1] at e'
  exact absurd e' (by decide)

end Cert.Pre_half_graddownadd

namespace Cert.GradDownAdd.Half

open Idealize.ShloMosaic Idealize.ShloMosaic.TcCoe Cert.GradDownAdd Cert.GradDownAdd.Gen Idealize.SL.Sem

/-- Where a point's block of the first operand is. -/
def place (w : BitVec 32) (i : grid0.Coords) : Fin 2 → Nat := cc0_transform_0 inb_S1_S1_0 numel1_S1 (F := Ideal) (fun | 0 => fun _ => w) i

theorem place_at (w : BitVec 32) (hw : w = 0#32 ∨ w = 1#32) : ∀ i : grid0.Coords,
    place w i = ![0, (2 * (i 0).val + w.toNat) * 2 + (i 1).val] := by
  rcases hw with rfl | rfl <;> decide +kernel

variable {F : FTy → Type} [FloatOps F]

theorem transform_at (pf : pre0.Contents (Elt F)) (w : BitVec 32) (e : pf 0 = fun _ => w) (i : grid0.Coords) :
    cc0_transform_0 inb_S1_S1_0 numel1_S1 pf i = place w i := by
  unfold place cc0_transform_0 Pipeline.Prefetch.Contents.at
  rw [e]

theorem ok_of_word (pf : pre0.Contents (Elt F)) (w : BitVec 32) (e : pf 0 = fun _ => w) (hw : w = 0#32 ∨ w = 1#32) : ok0 pf := by
  intro i
  refine ⟨fun a => ?_, .inr (Affine.block_words_dvd (of_decide_eq_true rfl) (by decide))⟩
  rw [transform_at pf w e, place_at w hw]
  have h0 : (i 0).val < 4 := (i 0).isLt
  have h1 : (i 1).val < 2 := (i 1).isLt
  have h2 : w.toNat ≤ 1 := by rcases hw with rfl | rfl <;> decide
  match a with
  | ⟨0, _⟩ => show (0 + 1) * 2048 ≤ 2048; omega
  | ⟨1, _⟩ => show ((2 * (i 0).val + w.toNat) * 2 + (i 1).val + 1) * 512 ≤ 8192; omega

variable (m : (ℓ : Loc nD τ sig) → Buf (Elt F) ℓ)

/-- The half that is asked for. -/
def word : BitVec 32 := (m (((0 : Dev nD) : Thread nD τ).loc main_arg2) : IVec S1 32) (fun a => match a with | ⟨0, _⟩ => (0 : Fin 1))

theorem tbl_at : tbl m 0 = fun _ => word m := by
  funext j
  show (V m 0 main_arg2 : IVec S1 32) j = _
  rw [V_main_arg2]
  exact congrArg _ (Cert.Pre_half_graddownadd.sub j _)

theorem ok (hw : word m = 0#32 ∨ word m = 1#32) : Ok m := ok_of_word (tbl m) (word m) (tbl_at m) hw

end Cert.GradDownAdd.Half

namespace Cert.GradDownAddIdeal.Half

open Idealize.ShloMosaic Idealize.ShloMosaic.TcCoe Cert.GradDownAddIdeal Cert.GradDownAddIdeal.Gen Idealize.SL.Sem

/-- Where a point's block of the first operand is. -/
def place (w : BitVec 32) (i : grid0.Coords) : Fin 2 → Nat := cc0_transform_0 inb_S1_S1_0 numel1_S1 (F := Ideal) (fun | 0 => fun _ => w) i

theorem place_at (w : BitVec 32) (hw : w = 0#32 ∨ w = 1#32) : ∀ i : grid0.Coords,
    place w i = ![0, (2 * (i 0).val + w.toNat) * 2 + (i 1).val] := by
  rcases hw with rfl | rfl <;> decide +kernel

variable {F : FTy → Type} [FloatOps F]

theorem transform_at (pf : pre0.Contents (Elt F)) (w : BitVec 32) (e : pf 0 = fun _ => w) (i : grid0.Coords) :
    cc0_transform_0 inb_S1_S1_0 numel1_S1 pf i = place w i := by
  unfold place cc0_transform_0 Pipeline.Prefetch.Contents.at
  rw [e]

theorem ok_of_word (pf : pre0.Contents (Elt F)) (w : BitVec 32) (e : pf 0 = fun _ => w) (hw : w = 0#32 ∨ w = 1#32) : ok0 pf := by
  intro i
  refine ⟨fun a => ?_, .inr (Affine.block_words_dvd (of_decide_eq_true rfl) (by decide))⟩
  rw [transform_at pf w e, place_at w hw]
  have h0 : (i 0).val < 4 := (i 0).isLt
  have h1 : (i 1).val < 2 := (i 1).isLt
  have h2 : w.toNat ≤ 1 := by rcases hw with rfl | rfl <;> decide
  match a with
  | ⟨0, _⟩ => show (0 + 1) * 2048 ≤ 2048; omega
  | ⟨1, _⟩ => show ((2 * (i 0).val + w.toNat) * 2 + (i 1).val + 1) * 512 ≤ 8192; omega

variable (m : (ℓ : Loc nD τ sig) → Buf (Elt F) ℓ)

/-- The half that is asked for. -/
def word : BitVec 32 := (m (((0 : Dev nD) : Thread nD τ).loc main_arg2) : IVec S1 32) (fun a => match a with | ⟨0, _⟩ => (0 : Fin 1))

theorem tbl_at : tbl m 0 = fun _ => word m := by
  funext j
  show (V m 0 main_arg2 : IVec S1 32) j = _
  rw [V_main_arg2]
  exact congrArg _ (Cert.Pre_half_graddownadd.sub j _)

theorem ok (hw : word m = 0#32 ∨ word m = 1#32) : Ok m := ok_of_word (tbl m) (word m) (tbl_at m) hw

end Cert.GradDownAddIdeal.Half

end
-- ==== Proof.GradDownAddKernel.lean ====
module

public import proofs.«01_k».proof.Proof.SguRef
public import proofs.«01_k».proof.Proof.GradDownAddHalf
public import proofs.«01_k».proof.Proof.Gen.GradDownAddRefIdeal.Read
public import Idealize.ShloMosaic.Lib.Pointwise.Contract
public import Idealize.ShloMosaic.Lib.Tactic
public import Idealize.ShloMosaic.Lib.WritesUnit

@[expose] public section

set_option maxRecDepth 16384

noncomputable section

/-! Half of the gradient, added to what is there of the second MLP weight, index by index. -/

namespace Cert.GradDownAddIdeal.Blk

open Idealize.ShloMosaic hiding ix0 ix1 ix2 ix3 ix4 ix5 eq_ix2 eq_ix3
open Cert.GradDownAddIdeal Cert.GradDownAddIdeal.Gen Idealize.ShloMosaic.ValueIdx Idealize.ShloMosaic.TcCoe Idealize.SL.Sem
open Idealize.ShloMosaic.StableHlo Cert.GradDownAddIdeal.Half

/-- The row of the whole gradient that row `r` of quarter `q` of half `s` is. -/
abbrev row (s : Fin 2) (q : Fin 4) (r : Fin 1024) : Fin 8192 :=
  ⟨(2 * q.val + s.val) * 1024 + r.val, by have := s.isLt; have := q.isLt; have := r.isLt; omega⟩

/-- The value at one index. -/
def val (s : Fin 2) (a : S2048x8192.Idx → EReal) (b : S2048x2048.Idx → EReal) (i : S4x1024x2048.Idx) : EReal :=
  ∑ k : Fin 2048, (a (ix2 k (row s (i 0) (i 1))) * b (ix2 k (i 2 : Fin 2048)) : EReal)

/-- The value at one index, with what is there. -/
def tot (s : Fin 2) (a : S2048x8192.Idx → EReal) (b : S2048x2048.Idx → EReal) (d : S4x1024x2048.Idx → EReal) (i : S4x1024x2048.Idx) : EReal := val s a b i + d i

theorem zz : (![0, 0] : Fin 2 → Nat) = fun _ => 0 := funext fun a => match a with | ⟨0, _⟩ => rfl | ⟨1, _⟩ => rfl
theorem zzz : (![0, 0, 0] : Fin 3 → Nat) = fun _ => 0 := funext fun a => match a with | ⟨0, _⟩ => rfl | ⟨1, _⟩ => rfl | ⟨2, _⟩ => rfl

/-- The block a point writes. -/
theorem pay_at (x0 : FVec Ideal S2048x512 .bf16) (x1 : FVec Ideal S2048x2048 .bf16) (x2 : FVec Ideal S1x512x2048 .bf16) (y : S1x512x2048.Idx) :
    k0_pay1 (F := Ideal) x0 x1 x2 y = ∑ k : Fin 2048, (x0 (ix2 k (y 1 : Fin 512)) * x1 (ix2 k (y 2 : Fin 2048)) : EReal) + x2 y := by
  unfold k0_pay1
  rw [shapeCast_self, shapeCast_self]
  refine (shapeCast_apply _ _ y (ix2 (y 1 : Fin 512) (y 2 : Fin 2048)) ?_).trans ?_
  · rw [Shape.rowMajor_val_two, Shape.rowMajor_val_three]
    have h0 : (y 0).val < 1 := (y 0).isLt
    show (y 1).val * 2048 + (y 2).val = ((y 0).val * 512 + (y 1).val) * 2048 + (y 2).val
    omega
  show matmul dot_S2048x512_S2048x2048_S512x2048_0_0_1_1_n_n none x0 x1 (constant S512x2048 .f32 0x00000000#32) (ix2 (y 1 : Fin 512) (y 2 : Fin 2048)) + shapeCast S512x2048 x2 _ (ix2 (y 1 : Fin 512) (y 2 : Fin 2048)) = _
  refine congrArg₂ (· + ·) ?_ ?_
  · show matmul dot_S2048x512_S2048x2048_S512x2048_0_0_1_1_n_n none x0 x1 (constant S512x2048 .f32 0x00000000#32) (ix2 (y 1 : Fin 512) (y 2 : Fin 2048)) = _
    refine (Ideal.matmul_apply₁_of dot_S2048x512_S2048x2048_S512x2048_0_0_1_1_n_n (a := 0) rfl rfl x0 x1 _ _
      (fun k => ix2 k (y 1 : Fin 512)) (fun k => ix2 k (y 2 : Fin 2048)) (fun k => funext fun b => match b with | ⟨0, _⟩ => rfl | ⟨1, _⟩ => rfl)
      (fun k => funext fun b => match b with | ⟨0, _⟩ => rfl | ⟨1, _⟩ => rfl)).trans ?_
    show Ideal.ofBits .f32 0x00000000#32 + _ = _
    rw [Cert.ReferenceIdeal.RefValue.lit_zero, EReal.coe_zero, zero_add]; rfl

  · refine shapeCast_apply _ _ _ y ?_
    rw [Shape.rowMajor_val_two, Shape.rowMajor_val_three]
    have h0 : (y 0).val < 1 := (y 0).isLt
    show ((y 0).val * 512 + (y 1).val) * 2048 + (y 2).val = (y 1).val * 2048 + (y 2).val
    omega

variable (m : (ℓ : Loc nD τ sig) → Buf (Elt Ideal) ℓ) (hO : Ok m) (c : Dev nD)

abbrev aA : S2048x8192.Idx → EReal := m ((c : Thread nD τ).loc main_arg0)
abbrev bA : S2048x2048.Idx → EReal := m ((c : Thread nD τ).loc main_arg1)
abbrev dA : S4x1024x2048.Idx → EReal := m ((c : Thread nD τ).loc main_arg3)

/-- The half that is asked for, as a number. -/
abbrev half : Fin 2 := if word m = 0#32 then 0 else 1

theorem half_val (hw : word m = 0#32 ∨ word m = 1#32) : (word m).toNat = (half m).val := by
  unfold half
  rcases hw with h | h <;> rw [h] <;> rfl

set_option maxHeartbeats 4000000 in
theorem V_a : V m c main_v0 = (truncf .bf16 (m ((c : Thread nD τ).loc main_arg0)) bitsLt_bf16_f32 : FVec Ideal S2048x8192 .bf16) := by
  unfold V
  simp only [hostOps0, List.flatten_cons, List.flatten_nil, List.append_nil, List.cons_append, List.nil_append,
    TRef.binary, TRef.nullary, TRef.ternary, TRef.unary, TRef.toBuf, TRef.ofBuf, cast_eq]
  after_results_simp <;> rfl

set_option maxHeartbeats 4000000 in
theorem V_b : V m c main_v1 = (truncf .bf16 (m ((c : Thread nD τ).loc main_arg1)) bitsLt_bf16_f32 : FVec Ideal S2048x2048 .bf16) := by
  unfold V
  simp only [hostOps0, List.flatten_cons, List.flatten_nil, List.append_nil, List.cons_append, List.nil_append,
    TRef.binary, TRef.nullary, TRef.ternary, TRef.unary, TRef.toBuf, TRef.ofBuf, cast_eq]
  after_results_simp <;> rfl

theorem lt8 (t : Fin (cfgM m hO).N) : t.val < 8 := lt_of_lt_of_eq t.isLt (by decide : grid0.N = 8)

theorem coords : ∀ t : Fin grid0.N, (grid0.coords t 0).val = t.val / 2 ∧ (grid0.coords t 1).val = t.val % 2 ∧ (grid0.coords t 2).val = 0 := by decide +kernel

theorem idx0 (hw : word m = 0#32 ∨ word m = 1#32) (t : Fin (cfgM m hO).N) :
    ((cfgM m hO).win 0).index t = ![0, (2 * (t.val / 2) + (half m).val) * 2 + t.val % 2] := by
  show cc0_transform_0 inb_S1_S1_0 numel1_S1 (tbl m) (grid0.coords t) = _
  rw [transform_at (tbl m) (word m) (tbl_at m), place_at (word m) hw, half_val m hw, (coords t).1, (coords t).2.1]
theorem idx1 (t : Fin (cfgM m hO).N) : ((cfgM m hO).win 1).index t = ![0, 0] := by
  show cc0_transform_1 (grid0.coords t) = _
  exact (by decide +kernel : ∀ t : Fin grid0.N, cc0_transform_1 (grid0.coords t) = ![0, 0]) t
theorem idx2 (t : Fin (cfgM m hO).N) : ((cfgM m hO).win 2).index t = ![t.val / 2, t.val % 2, 0] := by
  show cc0_transform_2 (grid0.coords t) = _
  exact (by decide +kernel : ∀ t : Fin grid0.N, cc0_transform_2 (grid0.coords t) = ![t.val / 2, t.val % 2, 0]) t
theorem idx3 (t : Fin (cfgM m hO).N) : ((cfgM m hO).win 3).index t = ![t.val / 2, t.val % 2, 0] := by
  show cc0_transform_3 (grid0.coords t) = _
  exact (by decide +kernel : ∀ t : Fin grid0.N, cc0_transform_3 (grid0.coords t) = ![t.val / 2, t.val % 2, 0]) t

abbrev qr (t : Fin (cfgM m hO).N) : Fin 4 := ⟨t.val / 2, by have := lt8 m hO t; omega⟩
abbrev rw' (t : Fin (cfgM m hO).N) (r : Fin 512) : Fin 1024 := ⟨t.val % 2 * 512 + r.val, by have := r.isLt; omega⟩

theorem a_blk (hw : word m = 0#32 ∨ word m = 1#32) (t : Fin (cfgM m hO).N) (i : S2048x512.Idx) :
    iblk m hO c 0 t i = aA m c (ix2 (i 0 : Fin 2048) (row (half m) (qr m hO t) (rw' m hO t (i 1)))) := by
  unfold iblk
  show V m c main_v0 ((((cfgM m hO).win 0).blk t).view.emb i) = _
  rw [V_a]
  show aA m c _ = _
  have h1 : (i 1).val < 512 := (i 1).isLt
  have e := idx0 m hO hw t
  refine congrArg _ (funext fun a => Fin.ext ?_)
  match a with
  | ⟨0, _⟩ => show ((cfgM m hO).win 0).index t (0 : Fin 2) * 2048 + 1 * (i 0).val = (i 0).val; rw [e]; show 0 * 2048 + 1 * (i 0).val = (i 0).val; omega
  | ⟨1, _⟩ =>
    show ((cfgM m hO).win 0).index t (1 : Fin 2) * 512 + 1 * (i 1).val = _
    rw [e]
    show ((2 * (t.val / 2) + (half m).val) * 2 + t.val % 2) * 512 + 1 * (i 1).val = (2 * (t.val / 2) + (half m).val) * 1024 + (t.val % 2 * 512 + (i 1).val)
    omega

theorem b_blk (t : Fin (cfgM m hO).N) (i : S2048x2048.Idx) : iblk m hO c 1 t i = bA m c (ix2 (i 0 : Fin 2048) (i 1 : Fin 2048)) := by
  unfold iblk
  show V m c main_v1 ((((cfgM m hO).win 1).blk t).view.emb i) = _
  rw [V_b]
  show bA m c _ = _
  have e := idx1 m hO t
  refine congrArg _ (funext fun a => Fin.ext ?_)
  match a with
  | ⟨0, _⟩ => show ((cfgM m hO).win 1).index t (0 : Fin 2) * 2048 + 1 * (i 0).val = (i 0).val; rw [e]; show 0 * 2048 + 1 * (i 0).val = (i 0).val; omega
  | ⟨1, _⟩ => show ((cfgM m hO).win 1).index t (1 : Fin 2) * 2048 + 1 * (i 1).val = (i 1).val; rw [e]; show 0 * 2048 + 1 * (i 1).val = (i 1).val; omega

theorem d_blk (t : Fin (cfgM m hO).N) (y : S1x512x2048.Idx) : iblk m hO c 2 t y = dA m c (ix3 (qr m hO t) (rw' m hO t (y 1)) (y 2 : Fin 2048)) := by
  unfold iblk
  show V m c main_arg3 ((((cfgM m hO).win 2).blk t).view.emb y) = _
  rw [V_main_arg3]
  show dA m c _ = dA m c _
  have h0 : (y 0).val < 1 := (y 0).isLt
  have e := idx2 m hO t
  refine congrArg _ (funext fun a => Fin.ext ?_)
  match a with
  | ⟨0, _⟩ => show ((cfgM m hO).win 2).index t (0 : Fin 3) * 1 + 1 * (y 0).val = t.val / 2; rw [e]; show t.val / 2 * 1 + 1 * (y 0).val = t.val / 2; omega
  | ⟨1, _⟩ => show ((cfgM m hO).win 2).index t (1 : Fin 3) * 512 + 1 * (y 1).val = t.val % 2 * 512 + (y 1).val; rw [e]; show t.val % 2 * 512 + 1 * (y 1).val = _; omega
  | ⟨2, _⟩ => show ((cfgM m hO).win 2).index t (2 : Fin 3) * 2048 + 1 * (y 2).val = (y 2).val; rw [e]; show 0 * 2048 + 1 * (y 2).val = _; omega

theorem out_pay (i : grid0.Coords)
    (a4 : Memref sig .tc .vmem S2048x512 .bf16) (h4 : a4.IsWhole)
    (a5 : Memref sig .tc .vmem S2048x2048 .bf16) (h5 : a5.IsWhole)
    (a6 : Memref sig .tc .vmem S1x512x2048 .bf16) (h6 : a6.IsWhole)
    (a7 : Memref sig .tc .vmem S1x512x2048 .bf16) (h7 : a7.IsWhole)
    (x0 : Vec Ideal S2048x512 .bf16) (x1 : Vec Ideal S2048x2048 .bf16) (x2 : Vec Ideal S1x512x2048 .bf16) (xt : TbBuf0 (F := Ideal) c tbM0_0) :
    out0_A_3 c i a4 h4 a5 h5 a6 h6 a7 h7 x0 x1 x2 xt = k0_pay1 x0 x1 x2 := by
  unfold out0_A_3
  rw [View.read_writes_eq_canon _ _ _ (cover0_A_3 c i a4 h4 a5 h5 a6 h6 a7 h7 x0 x1 x2 xt)]
  unfold kernelRun0_A
  dsimp only
  sl_unfold_words
  rw [View.canon_unit_zero zzz]
  simp only [View.readAt_eq_ld, h4.read_unread, h5.read_unread, h6.read_unread, View.ld_unit_zero (S := S1x512x2048) zzz, View.ld_unit_zero (S := S2048x512) zz, View.ld_unit_zero (S := S2048x2048) zz]

/-- The whole result array. -/
def G : Buf (Elt Ideal) ((c : Thread nD τ).loc main_v2) := tot (half m) (aA m c) (bA m c) (dA m c)

theorem flushed_eq (hw : word m = 0#32 ∨ word m = 1#32) (t : Fin (cfgM m hO).N) :
    (dats m hO 0 c).flushed 3 t = (((cfgM m hO).win 3).blk t).view.read (Elt Ideal) (G m c) := by
  refine funext fun (y : S1x512x2048.Idx) => ?_
  refine Eq.trans (b := tot (half m) (aA m c) (bA m c) (dA m c) (ix3 (qr m hO t) (rw' m hO t (y 1)) (y 2 : Fin 2048))) ?_ ?_
  · show (dats m hO 0 c).after 3 t y = _
    rw [after0_3]
    unfold outsAt0
    refine (congrFun (out_pay c (grid0.coords t) _ (hs0_0 m hO t) _ (hs0_1 m hO t) _ (hs0_2 m hO t) _ (hs0_3 m hO t) (iblk m hO c 0 t) (iblk m hO c 1 t) (iblk m hO c 2 t) (tbl m 0)) y).trans ?_
    refine (pay_at (iblk m hO c 0 t) (iblk m hO c 1 t) (iblk m hO c 2 t) y).trans ?_
    unfold tot val
    exact congrArg₂ (· + ·) (Finset.sum_congr rfl fun k _ => congrArg₂ (· * ·) (a_blk m hO c hw t _) (b_blk m hO c t _)) (d_blk m hO c t y)
  · show G m c _ = G m c ((((cfgM m hO).win 3).blk t).view.emb y)
    have h0 : (y 0).val < 1 := (y 0).isLt
    have e := idx3 m hO t
    refine congrArg _ (funext fun a => Fin.ext ?_)
    match a with
    | ⟨0, _⟩ => show t.val / 2 = ((cfgM m hO).win 3).index t (0 : Fin 3) * 1 + 1 * (y 0).val; rw [e]; show t.val / 2 = t.val / 2 * 1 + 1 * (y 0).val; omega
    | ⟨1, _⟩ => show t.val % 2 * 512 + (y 1).val = ((cfgM m hO).win 3).index t (1 : Fin 3) * 512 + 1 * (y 1).val; rw [e]; show _ = t.val % 2 * 512 + 1 * (y 1).val; omega
    | ⟨2, _⟩ => show (y 2).val = ((cfgM m hO).win 3).index t (2 : Fin 3) * 2048 + 1 * (y 2).val; rw [e]; show _ = 0 * 2048 + 1 * (y 2).val; omega

theorem mem_blk (t : Fin (cfgM m hO).N) (i : S4x1024x2048.Idx) :
    i ∈ (((cfgM m hO).win 3).blk t).view.set ↔ ∀ a : Fin 3, ((cfgM m hO).win 3).index t a * S1x512x2048.size a ≤ (i a).val ∧ (i a).val < ((cfgM m hO).win 3).index t a * S1x512x2048.size a + S1x512x2048.size a := by
  have e : (((cfgM m hO).win 3).blk t).view.set = (((cfgM m hO).win 3).rect t).set := View.set_slice_whole main_v2 _
  rw [e]
  exact Rect.mem_set_unit

theorem covers (i : S4x1024x2048.Idx) : ∃ t : Fin (cfgM m hO).N, ((cfgM m hO).win 3).flush t = true ∧ i ∈ (((cfgM m hO).win 3).blk t).view.set := by
  have h0 : (i 0).val < 4 := (i 0).isLt
  have h1 : (i 1).val < 1024 := (i 1).isLt
  have h2 : (i 2).val < 2048 := (i 2).isLt
  refine ⟨⟨(i 0).val * 2 + (i 1).val / 512, lt_of_lt_of_eq (by omega) (by decide : 8 = grid0.N)⟩, flush0_3 _ _, (mem_blk m hO _ _).2 fun a => ?_⟩
  rw [idx3]
  match a with
  | ⟨0, _⟩ =>
    show ((i 0).val * 2 + (i 1).val / 512) / 2 * 1 ≤ (i 0).val ∧ (i 0).val < ((i 0).val * 2 + (i 1).val / 512) / 2 * 1 + 1
    omega
  | ⟨1, _⟩ =>
    show ((i 0).val * 2 + (i 1).val / 512) % 2 * 512 ≤ (i 1).val ∧ (i 1).val < ((i 0).val * 2 + (i 1).val / 512) % 2 * 512 + 512
    omega
  | ⟨2, _⟩ => show 0 * 2048 ≤ (i 2).val ∧ (i 2).val < 0 * 2048 + 2048; omega

theorem final (hw : word m = 0#32 ∨ word m = 1#32) : (dats m hO 0 c).arrAt 3 (cfgM m hO).N = G m c :=
  (dats m hO 0 c).arrAt_eq_of_cover 3 (G m c) (fun t _ => flushed_eq m hO c hw t) (covers m hO)

/-- The run: the result array and the arguments afterwards. -/
theorem run (ρ : Dev nD → PrngReg) (hw : word m = 0#32 ∨ word m = 1#32) :
    θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 3).trans (final m (ok m hw) c hw),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 2).trans (((dats m (ok m hw) 0 c).arrAt_in 2 rfl _).trans ((A_eq m (ok m hw) c 2).trans (V_main_arg3 m c)))⟩)
    (run_main m ρ (ok m hw))

end Cert.GradDownAddIdeal.Blk

/-! The reference's result at an index. -/

namespace Cert.GradDownAddRefIdeal.Read

open Idealize.ShloMosaic hiding ix0 ix1 ix2 ix3 ix4 ix5 eq_ix2 eq_ix3
open Cert.GradDownAddRefIdeal Cert.GradDownAddRefIdeal.Gen Idealize.ShloMosaic.ValueIdx Idealize.ShloMosaic.StableHlo

variable (x0 : FVec Ideal S2048x8192 .f32) (x1 : FVec Ideal S2048x2048 .f32) (x2 : IVec S1 32) (i : S4x1024x2048.Idx)

theorem whole_at (p : Fin 8192) (q : Fin 2048) :
    val_main_v3 (F := Ideal) x0 x1 (ix2 p q) = ∑ k : Fin 2048, (x0 (ix2 k p) * x1 (ix2 k q) : EReal) := by
  rw [val_main_v3_apply, val_main_v2_apply]
  refine Finset.sum_congr rfl fun k _ => ?_
  refine (mul_comm (x1 _) (x0 _)).trans (congrArg₂ (· * ·) (congrArg x0 ?_) (congrArg x1 ?_))
  · exact funext fun a => match a with | ⟨0, _⟩ => rfl | ⟨1, _⟩ => rfl
  · exact funext fun a => match a with | ⟨0, _⟩ => rfl | ⟨1, _⟩ => rfl

theorem cut_at (j : S4x2x1024x2048.Idx) (p : Fin 8192) (q : Fin 2048) (hp : p.val = (2 * (j 0).val + (j 1).val) * 1024 + (j 2).val) (hq : q.val = (j 3).val) :
    val_main_v4 (F := Ideal) x0 x1 j = val_main_v3 (F := Ideal) x0 x1 (ix2 p q) := by
  rw [val_main_v4_apply]
  have h0 : (j 0).val < 4 := (j 0).isLt
  have h1 : (j 1).val < 2 := (j 1).isLt
  have h2 : (j 2).val < 1024 := (j 2).isLt
  have h3 : (j 3).val < 2048 := (j 3).isLt
  refine congrArg _ (funext fun a => Fin.ext ?_)
  match a with
  | ⟨0, _⟩ => show ((((j 0).val * 2 + (j 1).val) * 1024 + (j 2).val) * 2048 + (j 3).val) / 2048 = p.val; omega
  | ⟨1, _⟩ => show ((((j 0).val * 2 + (j 1).val) * 1024 + (j 2).val) * 2048 + (j 3).val) % 2048 = q.val; omega

theorem first_at : val_main_v8 (F := Ideal) x0 x1 i = Cert.GradDownAddIdeal.Blk.val 0 x0 x1 i := by
  have h0 : (i 0).val < 4 := (i 0).isLt
  have h1 : (i 1).val < 1024 := (i 1).isLt
  have h2 : (i 2).val < 2048 := (i 2).isLt
  rw [val_main_v8_apply, val_main_v7_apply]
  refine (cut_at x0 x1 _ (Cert.GradDownAddIdeal.Blk.row 0 (i 0) (i 1)) (i 2) ?_ ?_).trans (whole_at x0 x1 _ _)
  · show (2 * (i 0).val + 0) * 1024 + (i 1).val = (2 * ((((i 0).val * 1024 + (i 1).val) * 2048 + (i 2).val) / 2097152) + 0) * 1024 + ((((i 0).val * 1024 + (i 1).val) * 2048 + (i 2).val) / 2048 % 1024)
    omega
  · show (i 2).val = (((i 0).val * 1024 + (i 1).val) * 2048 + (i 2).val) % 2048
    omega

theorem second_at : val_main_v10 (F := Ideal) x0 x1 i = Cert.GradDownAddIdeal.Blk.val 1 x0 x1 i := by
  have h0 : (i 0).val < 4 := (i 0).isLt
  have h1 : (i 1).val < 1024 := (i 1).isLt
  have h2 : (i 2).val < 2048 := (i 2).isLt
  rw [val_main_v10_apply, val_main_v9_apply]
  refine (cut_at x0 x1 _ (Cert.GradDownAddIdeal.Blk.row 1 (i 0) (i 1)) (i 2) ?_ ?_).trans (whole_at x0 x1 _ _)
  · show (2 * (i 0).val + 1) * 1024 + (i 1).val = (2 * ((((i 0).val * 1024 + (i 1).val) * 2048 + (i 2).val) / 2097152) + (1 + 0)) * 1024 + ((((i 0).val * 1024 + (i 1).val) * 2048 + (i 2).val) / 2048 % 1024)
    omega
  · show (i 2).val = (((i 0).val * 1024 + (i 1).val) * 2048 + (i 2).val) % 2048
    omega

theorem chosen_at (j : S1.Idx) : val_main_v11 (F := Ideal) x0 x1 x2 i = Cert.GradDownAddIdeal.Blk.val (if x2 j = 0#32 then 0 else 1) x0 x1 i := by
  have e0 : ∀ k : S1.Idx, x2 k = x2 j := fun k => congrArg x2 (Cert.Pre_half_graddownadd.sub k j)
  have e : val_main_v11 (F := Ideal) x0 x1 x2 i
      = Scalar.select (BitVec.ofBool (x2 j == 0#32)) (val_main_v8 (F := Ideal) x0 x1 i) (val_main_v10 (F := Ideal) x0 x1 i) := by
    unfold val_main_v11
    show Scalar.select ((broadcastInDim S4x1024x2048 ![] bcast_S_S4x1024x2048 (val_main_v6 (F := Ideal) x2)) i) _ _ = _
    rw [broadcastInDim_apply _ bcast_S_S4x1024x2048 _ i (fun a => a.elim0) (fun a => a.elim0), val_main_v6_apply]
    show Scalar.select (BitVec.ofBool (x2 _ == 0#32)) _ _ = _
    simp only [e0]
  rw [e, first_at, second_at]
  by_cases h : x2 j = 0#32
  · rw [if_pos h, h]; rfl
  · rw [if_neg h, beq_eq_false_iff_ne.2 h]; rfl

theorem ref_at (x3 : FVec Ideal S4x1024x2048 .bf16) (j : S1.Idx) : val_main_v14 (F := Ideal) x0 x1 x2 x3 i = Cert.GradDownAddIdeal.Blk.tot (if x2 j = 0#32 then 0 else 1) x0 x1 x3 i := by
  rw [val_main_v14_apply, val_main_v13_apply, val_main_v12_apply, chosen_at x0 x1 x2 i j]
  rfl

end Cert.GradDownAddRefIdeal.Read
end
-- ==== Proof.GradDownAddJoin.lean ====
module

public import proofs.«01_k».proof.Proof.GradDownAddKernel
public import proofs.«01_k».proof.Defs

@[expose] public section

noncomputable section

/-! Half of the gradient, added to what is there of the second MLP weight: the kernel's result is the reference's. -/

namespace Cert.GradDownAdd

open Idealize.ShloMosaic Idealize.SL.Sem

theorem ok_of_pre (m : (ℓ : Loc Cert.GradDownAdd.nD Cert.GradDownAdd.τ Cert.GradDownAdd.sig) → Buf (Elt Bits) ℓ) (h : Cert.Pre_GradDownAdd m) : Cert.GradDownAdd.Gen.Ok m :=
  Cert.GradDownAdd.Half.ok m (Cert.Pre_half_graddownadd.half _ _ _ _ (h 0) _)

theorem half_of_pre (m : (ℓ : Loc Cert.GradDownAddIdeal.nD Cert.GradDownAddIdeal.τ Cert.GradDownAddIdeal.sig) → Buf (Elt Ideal) ℓ) (h : Cert.Pre_GradDownAddIdeal m) :
    Cert.GradDownAddIdeal.Half.word m = 0#32 ∨ Cert.GradDownAddIdeal.Half.word m = 1#32 :=
  Cert.Pre_half_graddownadd.half _ _ _ _ (h 0) _

theorem ok_of_pre_ideal (m : (ℓ : Loc Cert.GradDownAddIdeal.nD Cert.GradDownAddIdeal.τ Cert.GradDownAddIdeal.sig) → Buf (Elt Ideal) ℓ) (h : Cert.Pre_GradDownAddIdeal m) :
    Cert.GradDownAddIdeal.Gen.Ok m := Cert.GradDownAddIdeal.Half.ok m (half_of_pre m h)

theorem join : Cert.algebraic_GradDownAddIdeal_GradDownAddRefIdeal := by
  intro m g m' g' hpre agree
  refine ⟨Cert.GradDownAddIdeal.Blk.G m, Cert.GradDownAddIdeal.Blk.run m g (half_of_pre m hpre), ?_⟩
  refine (θ_run Cert.GradDownAddRefIdeal.defs _ _).mono (fun r h c => ?_) (Cert.GradDownAddRefIdeal.Value.run (F := Ideal) m' g')
  obtain ⟨h0, hargs⟩ := h c
  obtain rfl : c = 0 := Subsingleton.elim _ _
  obtain ⟨e0, e1, e2, e3⟩ := agree 0
  refine ⟨(h0.trans (Cert.GradDownAddRefIdeal.Read.val_main_v14_eq _ _ _ _)).trans (funext fun i => ?_), hargs⟩
  refine (Cert.GradDownAddRefIdeal.Read.ref_at _ _ _ i _ (fun a => match a with | ⟨0, _⟩ => (0 : Fin 1))).trans ?_
  unfold Cert.GradDownAddIdeal.Blk.G
  rw [e0, e1, e2, e3]
  rfl

end Cert.GradDownAdd
end
-- ==== Proof.GradUpHalf.lean ====
module

public import proofs.«01_k».proof.Proof.Gen.GradUp.Frame
public import proofs.«01_k».proof.Proof.Gen.GradUpIdeal.Frame
public import proofs.«01_k».proof.Proof.Gen.Pre_half_gradup
public import Idealize.ShloMosaic.Lib.Pipeline.Value
public import Idealize.ShloMosaic.Lib.Pointwise.Contract

@[expose] public section

set_option maxRecDepth 16384

noncomputable section

/-! Either half that may be asked for is inside the array. -/

namespace Cert.Pre_half_gradup

open Idealize.ShloMosaic

variable {F : FTy → Type} [FloatOps F]

theorem sub (j k : S1.Idx) : j = k := funext fun a => match a with
  | ⟨0, _⟩ => Fin.ext (by have : (j 0).val < 1 := (j 0).isLt; have : (k 0).val < 1 := (k 0).isLt; show (j 0).val = (k 0).val; omega)

theorem half (x0 : FVec F S2048x2048 .f32) (x1 : FVec F S2048x8192 .f32) (x2 : IVec S1 32) (h : fn x0 x1 x2 = fun _ => 1#1) (j : S1.Idx) : x2 j = 0#32 ∨ x2 j = 1#32 := by
  have e0 : ∀ k : S1.Idx, x2 k = x2 j := fun k => congrArg x2 (sub k j)
  have e := congrFun h (fun a => a.elim0)
  have e' : BitVec.ofBool (decide (x2 j = 0#32)) ||| BitVec.ofBool (decide (x2 j = 1#32)) = 1#1 := by
    refine Eq.trans ?_ e
    show _ = IntOp.cmpi .eq (x2 _) 0#32 ||| IntOp.cmpi .eq (x2 _) 1#32
    simp only [e0]; rfl
  by_cases h0 : x2 j = 0#32
  · exact Or.inl h0
  by_cases h1 : x2 j = 1#32
  · exact Or.inr h1
  rw [decide_eq_false h0, decide_eq_false h1] at e'
  exact absurd e' (by decide)

end Cert.Pre_half_gradup

namespace Cert.GradUp.Half

open Idealize.ShloMosaic Idealize.ShloMosaic.TcCoe Cert.GradUp Cert.GradUp.Gen Idealize.SL.Sem

/-- Where a point's block of the second operand is. -/
def place (w : BitVec 32) (i : grid0.Coords) : Fin 2 → Nat := cc0_transform_1 inb_S1_S1_0 numel1_S1 (F := Ideal) (fun | 0 => fun _ => w) i

theorem place_at (w : BitVec 32) (hw : w = 0#32 ∨ w = 1#32) : ∀ i : grid0.Coords,
    place w i = ![0, (2 * (i 0).val + w.toNat) + (i 2).val] := by
  rcases hw with rfl | rfl <;> decide +kernel

variable {F : FTy → Type} [FloatOps F]

theorem transform_at (pf : pre0.Contents (Elt F)) (w : BitVec 32) (e : pf 0 = fun _ => w) (i : grid0.Coords) :
    cc0_transform_1 inb_S1_S1_0 numel1_S1 pf i = place w i := by
  unfold place cc0_transform_1 Pipeline.Prefetch.Contents.at
  rw [e]

theorem ok_of_word (pf : pre0.Contents (Elt F)) (w : BitVec 32) (e : pf 0 = fun _ => w) (hw : w = 0#32 ∨ w = 1#32) : ok0 pf := by
  intro i
  refine ⟨fun a => ?_, .inr (Affine.block_words_dvd (of_decide_eq_true rfl) (by decide))⟩
  rw [transform_at pf w e, place_at w hw]
  have h0 : (i 0).val < 4 := (i 0).isLt
  have h1 : (i 2).val < 1 := (i 2).isLt
  have h2 : w.toNat ≤ 1 := by rcases hw with rfl | rfl <;> decide
  match a with
  | ⟨0, _⟩ => show (0 + 1) * 2048 ≤ 2048; omega
  | ⟨1, _⟩ => show ((2 * (i 0).val + w.toNat) + (i 2).val + 1) * 1024 ≤ 8192; omega

variable (m : (ℓ : Loc nD τ sig) → Buf (Elt F) ℓ)

/-- The half that is asked for. -/
def word : BitVec 32 := (m (((0 : Dev nD) : Thread nD τ).loc main_arg2) : IVec S1 32) (fun a => match a with | ⟨0, _⟩ => (0 : Fin 1))

theorem tbl_at : tbl m 0 = fun _ => word m := by
  funext j
  show (V m 0 main_arg2 : IVec S1 32) j = _
  rw [V_main_arg2]
  exact congrArg _ (Cert.Pre_half_gradup.sub j _)

theorem ok (hw : word m = 0#32 ∨ word m = 1#32) : Ok m := ok_of_word (tbl m) (word m) (tbl_at m) hw

end Cert.GradUp.Half

namespace Cert.GradUpIdeal.Half

open Idealize.ShloMosaic Idealize.ShloMosaic.TcCoe Cert.GradUpIdeal Cert.GradUpIdeal.Gen Idealize.SL.Sem

/-- Where a point's block of the second operand is. -/
def place (w : BitVec 32) (i : grid0.Coords) : Fin 2 → Nat := cc0_transform_1 inb_S1_S1_0 numel1_S1 (F := Ideal) (fun | 0 => fun _ => w) i

theorem place_at (w : BitVec 32) (hw : w = 0#32 ∨ w = 1#32) : ∀ i : grid0.Coords,
    place w i = ![0, (2 * (i 0).val + w.toNat) + (i 2).val] := by
  rcases hw with rfl | rfl <;> decide +kernel

variable {F : FTy → Type} [FloatOps F]

theorem transform_at (pf : pre0.Contents (Elt F)) (w : BitVec 32) (e : pf 0 = fun _ => w) (i : grid0.Coords) :
    cc0_transform_1 inb_S1_S1_0 numel1_S1 pf i = place w i := by
  unfold place cc0_transform_1 Pipeline.Prefetch.Contents.at
  rw [e]

theorem ok_of_word (pf : pre0.Contents (Elt F)) (w : BitVec 32) (e : pf 0 = fun _ => w) (hw : w = 0#32 ∨ w = 1#32) : ok0 pf := by
  intro i
  refine ⟨fun a => ?_, .inr (Affine.block_words_dvd (of_decide_eq_true rfl) (by decide))⟩
  rw [transform_at pf w e, place_at w hw]
  have h0 : (i 0).val < 4 := (i 0).isLt
  have h1 : (i 2).val < 1 := (i 2).isLt
  have h2 : w.toNat ≤ 1 := by rcases hw with rfl | rfl <;> decide
  match a with
  | ⟨0, _⟩ => show (0 + 1) * 2048 ≤ 2048; omega
  | ⟨1, _⟩ => show ((2 * (i 0).val + w.toNat) + (i 2).val + 1) * 1024 ≤ 8192; omega

variable (m : (ℓ : Loc nD τ sig) → Buf (Elt F) ℓ)

/-- The half that is asked for. -/
def word : BitVec 32 := (m (((0 : Dev nD) : Thread nD τ).loc main_arg2) : IVec S1 32) (fun a => match a with | ⟨0, _⟩ => (0 : Fin 1))

theorem tbl_at : tbl m 0 = fun _ => word m := by
  funext j
  show (V m 0 main_arg2 : IVec S1 32) j = _
  rw [V_main_arg2]
  exact congrArg _ (Cert.Pre_half_gradup.sub j _)

theorem ok (hw : word m = 0#32 ∨ word m = 1#32) : Ok m := ok_of_word (tbl m) (word m) (tbl_at m) hw

end Cert.GradUpIdeal.Half

end
-- ==== Proof.GradUpKernel.lean ====
module

public import proofs.«01_k».proof.Proof.SguRef
public import proofs.«01_k».proof.Proof.GradUpHalf
public import proofs.«01_k».proof.Proof.Gen.GradUpRefIdeal.Read
public import Idealize.ShloMosaic.Lib.Pointwise.Contract
public import Idealize.ShloMosaic.Lib.Tactic
public import Idealize.ShloMosaic.Lib.WritesUnit

@[expose] public section

set_option maxRecDepth 16384

noncomputable section

/-! Half of the gradient of the first MLP weight, index by index. -/

namespace Cert.GradUpIdeal.Blk

open Idealize.ShloMosaic hiding ix0 ix1 ix2 ix3 ix4 ix5 eq_ix2 eq_ix3
open Cert.GradUpIdeal Cert.GradUpIdeal.Gen Idealize.ShloMosaic.ValueIdx Idealize.ShloMosaic.TcCoe Idealize.SL.Sem
open Idealize.ShloMosaic.StableHlo Cert.GradUpIdeal.Half

/-- The column of the whole gradient that column `r` of quarter `q` of half `s` is. -/
abbrev col (s : Fin 2) (q : Fin 4) (r : Fin 1024) : Fin 8192 :=
  ⟨(2 * q.val + s.val) * 1024 + r.val, by have := s.isLt; have := q.isLt; have := r.isLt; omega⟩

/-- The value at one index. -/
def val (s : Fin 2) (a : S2048x2048.Idx → EReal) (b : S2048x8192.Idx → EReal) (i : S4x2048x1024.Idx) : EReal :=
  ∑ k : Fin 2048, (a (ix2 k (i 1 : Fin 2048)) * b (ix2 k (col s (i 0) (i 2))) : EReal)

theorem zz : (![0, 0] : Fin 2 → Nat) = fun _ => 0 := funext fun a => match a with | ⟨0, _⟩ => rfl | ⟨1, _⟩ => rfl
theorem zzz : (![0, 0, 0] : Fin 3 → Nat) = fun _ => 0 := funext fun a => match a with | ⟨0, _⟩ => rfl | ⟨1, _⟩ => rfl | ⟨2, _⟩ => rfl

/-- The block a point writes. -/
theorem pay_at (x0 : FVec Ideal S2048x1024 .bf16) (x1 : FVec Ideal S2048x1024 .bf16) (y : S1x1024x1024.Idx) :
    k0_pay1 (F := Ideal) x0 x1 y = ∑ k : Fin 2048, (x0 (ix2 k (y 1 : Fin 1024)) * x1 (ix2 k (y 2 : Fin 1024)) : EReal) := by
  unfold k0_pay1
  rw [shapeCast_self, shapeCast_self]
  refine (shapeCast_apply _ _ y (ix2 (y 1 : Fin 1024) (y 2 : Fin 1024)) ?_).trans ?_
  · rw [Shape.rowMajor_val_two, Shape.rowMajor_val_three]
    have h0 : (y 0).val < 1 := (y 0).isLt
    show (y 1).val * 1024 + (y 2).val = ((y 0).val * 1024 + (y 1).val) * 1024 + (y 2).val
    omega
  show matmul dot_S2048x1024_S2048x1024_S1024x1024_0_0_1_1_n_n none x0 x1 (constant S1024x1024 .f32 0x00000000#32) (ix2 (y 1 : Fin 1024) (y 2 : Fin 1024)) = _
  refine (Ideal.matmul_apply₁_of dot_S2048x1024_S2048x1024_S1024x1024_0_0_1_1_n_n (a := 0) rfl rfl x0 x1 _ _
    (fun k => ix2 k (y 1 : Fin 1024)) (fun k => ix2 k (y 2 : Fin 1024)) (fun k => funext fun b => match b with | ⟨0, _⟩ => rfl | ⟨1, _⟩ => rfl)
    (fun k => funext fun b => match b with | ⟨0, _⟩ => rfl | ⟨1, _⟩ => rfl)).trans ?_
  show Ideal.ofBits .f32 0x00000000#32 + _ = _
  rw [Cert.ReferenceIdeal.RefValue.lit_zero, EReal.coe_zero, zero_add]; rfl

variable (m : (ℓ : Loc nD τ sig) → Buf (Elt Ideal) ℓ) (hO : Ok m) (c : Dev nD)

abbrev aA : S2048x2048.Idx → EReal := m ((c : Thread nD τ).loc main_arg0)
abbrev bA : S2048x8192.Idx → EReal := m ((c : Thread nD τ).loc main_arg1)

/-- The half that is asked for, as a number. -/
abbrev half : Fin 2 := if word m = 0#32 then 0 else 1

theorem half_val (hw : word m = 0#32 ∨ word m = 1#32) : (word m).toNat = (half m).val := by
  unfold half
  rcases hw with h | h <;> rw [h] <;> rfl

set_option maxHeartbeats 4000000 in
theorem V_a : V m c main_v0 = (truncf .bf16 (m ((c : Thread nD τ).loc main_arg0)) bitsLt_bf16_f32 : FVec Ideal S2048x2048 .bf16) := by
  unfold V
  simp only [hostOps0, List.flatten_cons, List.flatten_nil, List.append_nil, List.cons_append, List.nil_append,
    TRef.binary, TRef.nullary, TRef.ternary, TRef.unary, TRef.toBuf, TRef.ofBuf, cast_eq]
  after_results_simp <;> rfl

set_option maxHeartbeats 4000000 in
theorem V_b : V m c main_v1 = (truncf .bf16 (m ((c : Thread nD τ).loc main_arg1)) bitsLt_bf16_f32 : FVec Ideal S2048x8192 .bf16) := by
  unfold V
  simp only [hostOps0, List.flatten_cons, List.flatten_nil, List.append_nil, List.cons_append, List.nil_append,
    TRef.binary, TRef.nullary, TRef.ternary, TRef.unary, TRef.toBuf, TRef.ofBuf, cast_eq]
  after_results_simp <;> rfl

theorem lt8 (t : Fin (cfgM m hO).N) : t.val < 8 := lt_of_lt_of_eq t.isLt (by decide : grid0.N = 8)

theorem coords : ∀ t : Fin grid0.N, (grid0.coords t 0).val = t.val / 2 ∧ (grid0.coords t 1).val = t.val % 2 ∧ (grid0.coords t 2).val = 0 := by decide +kernel

theorem idx0 (t : Fin (cfgM m hO).N) : ((cfgM m hO).win 0).index t = ![0, t.val % 2] := by
  show cc0_transform_0 (grid0.coords t) = _
  exact (by decide +kernel : ∀ t : Fin grid0.N, cc0_transform_0 (grid0.coords t) = ![0, t.val % 2]) t
theorem idx1 (hw : word m = 0#32 ∨ word m = 1#32) (t : Fin (cfgM m hO).N) :
    ((cfgM m hO).win 1).index t = ![0, 2 * (t.val / 2) + (half m).val] := by
  show cc0_transform_1 inb_S1_S1_0 numel1_S1 (tbl m) (grid0.coords t) = _
  rw [transform_at (tbl m) (word m) (tbl_at m), place_at (word m) hw, half_val m hw, (coords t).1, (coords t).2.2]
  rfl
theorem idx2 (t : Fin (cfgM m hO).N) : ((cfgM m hO).win 2).index t = ![t.val / 2, t.val % 2, 0] := by
  show cc0_transform_2 (grid0.coords t) = _
  exact (by decide +kernel : ∀ t : Fin grid0.N, cc0_transform_2 (grid0.coords t) = ![t.val / 2, t.val % 2, 0]) t

abbrev qr (t : Fin (cfgM m hO).N) : Fin 4 := ⟨t.val / 2, by have := lt8 m hO t; omega⟩
abbrev rw' (t : Fin (cfgM m hO).N) (r : Fin 1024) : Fin 2048 := ⟨t.val % 2 * 1024 + r.val, by have := r.isLt; omega⟩

theorem a_blk (t : Fin (cfgM m hO).N) (i : S2048x1024.Idx) : iblk m hO c 0 t i = aA m c (ix2 (i 0 : Fin 2048) (rw' m hO t (i 1))) := by
  unfold iblk
  show V m c main_v0 ((((cfgM m hO).win 0).blk t).view.emb i) = _
  rw [V_a]
  show aA m c _ = _
  have e := idx0 m hO t
  refine congrArg _ (funext fun a => Fin.ext ?_)
  match a with
  | ⟨0, _⟩ => show ((cfgM m hO).win 0).index t (0 : Fin 2) * 2048 + 1 * (i 0).val = (i 0).val; rw [e]; show 0 * 2048 + 1 * (i 0).val = (i 0).val; omega
  | ⟨1, _⟩ => show ((cfgM m hO).win 0).index t (1 : Fin 2) * 1024 + 1 * (i 1).val = _; rw [e]; show t.val % 2 * 1024 + 1 * (i 1).val = t.val % 2 * 1024 + (i 1).val; omega

theorem b_blk (hw : word m = 0#32 ∨ word m = 1#32) (t : Fin (cfgM m hO).N) (i : S2048x1024.Idx) :
    iblk m hO c 1 t i = bA m c (ix2 (i 0 : Fin 2048) (col (half m) (qr m hO t) (i 1))) := by
  unfold iblk
  show V m c main_v1 ((((cfgM m hO).win 1).blk t).view.emb i) = _
  rw [V_b]
  show bA m c _ = _
  have e := idx1 m hO hw t
  refine congrArg _ (funext fun a => Fin.ext ?_)
  match a with
  | ⟨0, _⟩ => show ((cfgM m hO).win 1).index t (0 : Fin 2) * 2048 + 1 * (i 0).val = (i 0).val; rw [e]; show 0 * 2048 + 1 * (i 0).val = (i 0).val; omega
  | ⟨1, _⟩ =>
    show ((cfgM m hO).win 1).index t (1 : Fin 2) * 1024 + 1 * (i 1).val = _
    rw [e]
    show (2 * (t.val / 2) + (half m).val) * 1024 + 1 * (i 1).val = (2 * (t.val / 2) + (half m).val) * 1024 + (i 1).val
    omega

theorem out_pay (i : grid0.Coords)
    (a4 : Memref sig .tc .vmem S2048x1024 .bf16) (h4 : a4.IsWhole)
    (a5 : Memref sig .tc .vmem S2048x1024 .bf16) (h5 : a5.IsWhole)
    (a6 : Memref sig .tc .vmem S1x1024x1024 .bf16) (h6 : a6.IsWhole)
    (x0 : Vec Ideal S2048x1024 .bf16) (x1 : Vec Ideal S2048x1024 .bf16) (xt : TbBuf0 (F := Ideal) c tbM0_0) :
    out0_A_2 c i a4 h4 a5 h5 a6 h6 x0 x1 xt = k0_pay1 x0 x1 := by
  unfold out0_A_2
  rw [View.read_writes_eq_canon _ _ _ (cover0_A_2 c i a4 h4 a5 h5 a6 h6 x0 x1 xt)]
  unfold kernelRun0_A
  dsimp only
  sl_unfold_words
  rw [View.canon_unit_zero zzz]
  simp only [View.readAt_eq_ld, h4.read_unread, h5.read_unread, View.ld_unit_zero (S := S2048x1024) zz]

/-- The whole result array. -/
def G : Buf (Elt Ideal) ((c : Thread nD τ).loc main_v2) := val (half m) (aA m c) (bA m c)

theorem flushed_eq (hw : word m = 0#32 ∨ word m = 1#32) (t : Fin (cfgM m hO).N) :
    (dats m hO 0 c).flushed 2 t = (((cfgM m hO).win 2).blk t).view.read (Elt Ideal) (G m c) := by
  refine funext fun (y : S1x1024x1024.Idx) => ?_
  refine Eq.trans (b := val (half m) (aA m c) (bA m c) (ix3 (qr m hO t) (rw' m hO t (y 1)) (y 2 : Fin 1024))) ?_ ?_
  · show (dats m hO 0 c).after 2 t y = _
    rw [after0_2]
    unfold outsAt0
    refine (congrFun (out_pay c (grid0.coords t) _ (hs0_0 m hO t) _ (hs0_1 m hO t) _ (hs0_2 m hO t) (iblk m hO c 0 t) (iblk m hO c 1 t) (tbl m 0)) y).trans ?_
    refine (pay_at (iblk m hO c 0 t) (iblk m hO c 1 t) y).trans ?_
    unfold val
    exact Finset.sum_congr rfl fun k _ => congrArg₂ (· * ·) (a_blk m hO c t _) (b_blk m hO c hw t _)
  · show G m c _ = G m c ((((cfgM m hO).win 2).blk t).view.emb y)
    have h0 : (y 0).val < 1 := (y 0).isLt
    have e := idx2 m hO t
    refine congrArg _ (funext fun a => Fin.ext ?_)
    match a with
    | ⟨0, _⟩ => show t.val / 2 = ((cfgM m hO).win 2).index t (0 : Fin 3) * 1 + 1 * (y 0).val; rw [e]; show t.val / 2 = t.val / 2 * 1 + 1 * (y 0).val; omega
    | ⟨1, _⟩ => show t.val % 2 * 1024 + (y 1).val = ((cfgM m hO).win 2).index t (1 : Fin 3) * 1024 + 1 * (y 1).val; rw [e]; show _ = t.val % 2 * 1024 + 1 * (y 1).val; omega
    | ⟨2, _⟩ => show (y 2).val = ((cfgM m hO).win 2).index t (2 : Fin 3) * 1024 + 1 * (y 2).val; rw [e]; show _ = 0 * 1024 + 1 * (y 2).val; omega

theorem mem_blk (t : Fin (cfgM m hO).N) (i : S4x2048x1024.Idx) :
    i ∈ (((cfgM m hO).win 2).blk t).view.set ↔ ∀ a : Fin 3, ((cfgM m hO).win 2).index t a * S1x1024x1024.size a ≤ (i a).val ∧ (i a).val < ((cfgM m hO).win 2).index t a * S1x1024x1024.size a + S1x1024x1024.size a := by
  have e : (((cfgM m hO).win 2).blk t).view.set = (((cfgM m hO).win 2).rect t).set := View.set_slice_whole main_v2 _
  rw [e]
  exact Rect.mem_set_unit

theorem covers (i : S4x2048x1024.Idx) : ∃ t : Fin (cfgM m hO).N, ((cfgM m hO).win 2).flush t = true ∧ i ∈ (((cfgM m hO).win 2).blk t).view.set := by
  have h0 : (i 0).val < 4 := (i 0).isLt
  have h1 : (i 1).val < 2048 := (i 1).isLt
  have h2 : (i 2).val < 1024 := (i 2).isLt
  refine ⟨⟨(i 0).val * 2 + (i 1).val / 1024, lt_of_lt_of_eq (by omega) (by decide : 8 = grid0.N)⟩, flush0_2 _ _, (mem_blk m hO _ _).2 fun a => ?_⟩
  rw [idx2]
  match a with
  | ⟨0, _⟩ =>
    show ((i 0).val * 2 + (i 1).val / 1024) / 2 * 1 ≤ (i 0).val ∧ (i 0).val < ((i 0).val * 2 + (i 1).val / 1024) / 2 * 1 + 1
    omega
  | ⟨1, _⟩ =>
    show ((i 0).val * 2 + (i 1).val / 1024) % 2 * 1024 ≤ (i 1).val ∧ (i 1).val < ((i 0).val * 2 + (i 1).val / 1024) % 2 * 1024 + 1024
    omega
  | ⟨2, _⟩ => show 0 * 1024 ≤ (i 2).val ∧ (i 2).val < 0 * 1024 + 1024; omega

theorem final (hw : word m = 0#32 ∨ word m = 1#32) : (dats m hO 0 c).arrAt 2 (cfgM m hO).N = G m c :=
  (dats m hO 0 c).arrAt_eq_of_cover 2 (G m c) (fun t _ => flushed_eq m hO c hw t) (covers m hO)

/-- The run: the result array and the arguments afterwards. -/
theorem run (ρ : Dev nD → PrngReg) (hw : word m = 0#32 ∨ word m = 1#32) :
    θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 2).trans (final m (ok m hw) c hw),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩)
    (run_main m ρ (ok m hw))

end Cert.GradUpIdeal.Blk

/-! The reference's result at an index. -/

namespace Cert.GradUpRefIdeal.Read

open Idealize.ShloMosaic hiding ix0 ix1 ix2 ix3 ix4 ix5 eq_ix2 eq_ix3
open Cert.GradUpRefIdeal Cert.GradUpRefIdeal.Gen Idealize.ShloMosaic.ValueIdx Idealize.ShloMosaic.StableHlo

variable (x0 : FVec Ideal S2048x2048 .f32) (x1 : FVec Ideal S2048x8192 .f32) (x2 : IVec S1 32) (i : S4x2048x1024.Idx)

theorem whole_at (p : Fin 2048) (q : Fin 8192) :
    val_main_v3 (F := Ideal) x0 x1 (ix2 p q) = ∑ k : Fin 2048, (x0 (ix2 k p) * x1 (ix2 k q) : EReal) := by
  rw [val_main_v3_apply, val_main_v2_apply]
  refine Finset.sum_congr rfl fun k _ => ?_
  refine (mul_comm (x1 _) (x0 _)).trans (congrArg₂ (· * ·) (congrArg x0 ?_) (congrArg x1 ?_))
  · exact funext fun a => match a with | ⟨0, _⟩ => rfl | ⟨1, _⟩ => rfl
  · exact funext fun a => match a with | ⟨0, _⟩ => rfl | ⟨1, _⟩ => rfl

theorem cut_at (j : S4x2x2048x1024.Idx) (p : Fin 2048) (q : Fin 8192) (hp : p.val = (j 2).val) (hq : q.val = (2 * (j 0).val + (j 1).val) * 1024 + (j 3).val) :
    val_main_v5 (F := Ideal) x0 x1 j = val_main_v3 (F := Ideal) x0 x1 (ix2 p q) := by
  rw [val_main_v5_apply, val_main_v4_apply]
  have h0 : (j 0).val < 4 := (j 0).isLt
  have h1 : (j 1).val < 2 := (j 1).isLt
  have h2 : (j 2).val < 2048 := (j 2).isLt
  have h3 : (j 3).val < 1024 := (j 3).isLt
  refine congrArg _ (funext fun a => Fin.ext ?_)
  match a with
  | ⟨0, _⟩ => show ((((j 2).val * 4 + (j 0).val) * 2 + (j 1).val) * 1024 + (j 3).val) / 8192 = p.val; omega
  | ⟨1, _⟩ => show ((((j 2).val * 4 + (j 0).val) * 2 + (j 1).val) * 1024 + (j 3).val) % 8192 = q.val; omega

theorem first_at : val_main_v9 (F := Ideal) x0 x1 i = Cert.GradUpIdeal.Blk.val 0 x0 x1 i := by
  have h0 : (i 0).val < 4 := (i 0).isLt
  have h1 : (i 1).val < 2048 := (i 1).isLt
  have h2 : (i 2).val < 1024 := (i 2).isLt
  rw [val_main_v9_apply, val_main_v8_apply]
  refine (cut_at x0 x1 _ (i 1) (Cert.GradUpIdeal.Blk.col 0 (i 0) (i 2)) ?_ ?_).trans (whole_at x0 x1 _ _)
  · show (i 1).val = (((i 0).val * 2048 + (i 1).val) * 1024 + (i 2).val) / 1024 % 2048
    omega
  · show (2 * (i 0).val + 0) * 1024 + (i 2).val = (2 * ((((i 0).val * 2048 + (i 1).val) * 1024 + (i 2).val) / 2097152) + 0) * 1024 + (((i 0).val * 2048 + (i 1).val) * 1024 + (i 2).val) % 1024
    omega

theorem second_at : val_main_v11 (F := Ideal) x0 x1 i = Cert.GradUpIdeal.Blk.val 1 x0 x1 i := by
  have h0 : (i 0).val < 4 := (i 0).isLt
  have h1 : (i 1).val < 2048 := (i 1).isLt
  have h2 : (i 2).val < 1024 := (i 2).isLt
  rw [val_main_v11_apply, val_main_v10_apply]
  refine (cut_at x0 x1 _ (i 1) (Cert.GradUpIdeal.Blk.col 1 (i 0) (i 2)) ?_ ?_).trans (whole_at x0 x1 _ _)
  · show (i 1).val = (((i 0).val * 2048 + (i 1).val) * 1024 + (i 2).val) / 1024 % 2048
    omega
  · show (2 * (i 0).val + 1) * 1024 + (i 2).val = (2 * ((((i 0).val * 2048 + (i 1).val) * 1024 + (i 2).val) / 2097152) + (1 + 0)) * 1024 + (((i 0).val * 2048 + (i 1).val) * 1024 + (i 2).val) % 1024
    omega

theorem chosen_at (j : S1.Idx) : val_main_v12 (F := Ideal) x0 x1 x2 i = Cert.GradUpIdeal.Blk.val (if x2 j = 0#32 then 0 else 1) x0 x1 i := by
  have e0 : ∀ k : S1.Idx, x2 k = x2 j := fun k => congrArg x2 (Cert.Pre_half_gradup.sub k j)
  have e : val_main_v12 (F := Ideal) x0 x1 x2 i
      = Scalar.select (BitVec.ofBool (x2 j == 0#32)) (val_main_v9 (F := Ideal) x0 x1 i) (val_main_v11 (F := Ideal) x0 x1 i) := by
    unfold val_main_v12
    show Scalar.select ((broadcastInDim S4x2048x1024 ![] bcast_S_S4x2048x1024 (val_main_v7 (F := Ideal) x2)) i) _ _ = _
    rw [broadcastInDim_apply _ bcast_S_S4x2048x1024 _ i (fun a => a.elim0) (fun a => a.elim0), val_main_v7_apply]
    show Scalar.select (BitVec.ofBool (x2 _ == 0#32)) _ _ = _
    simp only [e0]
  rw [e, first_at, second_at]
  by_cases h : x2 j = 0#32
  · rw [if_pos h, h]; rfl
  · rw [if_neg h, beq_eq_false_iff_ne.2 h]; rfl

theorem ref_at (j : S1.Idx) : val_main_v13 (F := Ideal) x0 x1 x2 i = Cert.GradUpIdeal.Blk.val (if x2 j = 0#32 then 0 else 1) x0 x1 i :=
  chosen_at x0 x1 x2 i j

end Cert.GradUpRefIdeal.Read
end
-- ==== Proof.GradUpJoin.lean ====
module

public import proofs.«01_k».proof.Proof.GradUpKernel
public import proofs.«01_k».proof.Defs

@[expose] public section

noncomputable section

/-! Half of the gradient of the first MLP weight: the kernel's result is the reference's. -/

namespace Cert.GradUp

open Idealize.ShloMosaic Idealize.SL.Sem

theorem ok_of_pre (m : (ℓ : Loc Cert.GradUp.nD Cert.GradUp.τ Cert.GradUp.sig) → Buf (Elt Bits) ℓ) (h : Cert.Pre_GradUp m) : Cert.GradUp.Gen.Ok m :=
  Cert.GradUp.Half.ok m (Cert.Pre_half_gradup.half _ _ _ (h 0) _)

theorem half_of_pre (m : (ℓ : Loc Cert.GradUpIdeal.nD Cert.GradUpIdeal.τ Cert.GradUpIdeal.sig) → Buf (Elt Ideal) ℓ) (h : Cert.Pre_GradUpIdeal m) :
    Cert.GradUpIdeal.Half.word m = 0#32 ∨ Cert.GradUpIdeal.Half.word m = 1#32 :=
  Cert.Pre_half_gradup.half _ _ _ (h 0) _

theorem ok_of_pre_ideal (m : (ℓ : Loc Cert.GradUpIdeal.nD Cert.GradUpIdeal.τ Cert.GradUpIdeal.sig) → Buf (Elt Ideal) ℓ) (h : Cert.Pre_GradUpIdeal m) :
    Cert.GradUpIdeal.Gen.Ok m := Cert.GradUpIdeal.Half.ok m (half_of_pre m h)

theorem join : Cert.algebraic_GradUpIdeal_GradUpRefIdeal := by
  intro m g m' g' hpre agree
  refine ⟨Cert.GradUpIdeal.Blk.G m, Cert.GradUpIdeal.Blk.run m g (half_of_pre m hpre), ?_⟩
  refine (θ_run Cert.GradUpRefIdeal.defs _ _).mono (fun r h c => ?_) (Cert.GradUpRefIdeal.Value.run (F := Ideal) m' g')
  obtain ⟨h0, hargs⟩ := h c
  obtain rfl : c = 0 := Subsingleton.elim _ _
  obtain ⟨e0, e1, e2⟩ := agree 0
  refine ⟨(h0.trans (Cert.GradUpRefIdeal.Read.val_main_v13_eq _ _ _)).trans (funext fun i => ?_), hargs⟩
  refine (Cert.GradUpRefIdeal.Read.ref_at _ _ _ i (fun a => match a with | ⟨0, _⟩ => (0 : Fin 1))).trans ?_
  unfold Cert.GradUpIdeal.Blk.G
  rw [e0, e1, e2]
  rfl

end Cert.GradUp
end
-- ==== Proof.GradUpAddHalf.lean ====
module

public import proofs.«01_k».proof.Proof.Gen.GradUpAdd.Frame
public import proofs.«01_k».proof.Proof.Gen.GradUpAddIdeal.Frame
public import proofs.«01_k».proof.Proof.Gen.Pre_half_gradupadd
public import Idealize.ShloMosaic.Lib.Pipeline.Value
public import Idealize.ShloMosaic.Lib.Pointwise.Contract

@[expose] public section

set_option maxRecDepth 16384

noncomputable section

/-! Either half that may be asked for is inside the array. -/

namespace Cert.Pre_half_gradupadd

open Idealize.ShloMosaic

variable {F : FTy → Type} [FloatOps F]

theorem sub (j k : S1.Idx) : j = k := funext fun a => match a with
  | ⟨0, _⟩ => Fin.ext (by have : (j 0).val < 1 := (j 0).isLt; have : (k 0).val < 1 := (k 0).isLt; show (j 0).val = (k 0).val; omega)

theorem half (x0 : FVec F S2048x2048 .f32) (x1 : FVec F S2048x8192 .f32) (x2 : IVec S1 32) (x3 : FVec F S4x2048x1024 .bf16) (h : fn x0 x1 x2 x3 = fun _ => 1#1) (j : S1.Idx) : x2 j = 0#32 ∨ x2 j = 1#32 := by
  have e0 : ∀ k : S1.Idx, x2 k = x2 j := fun k => congrArg x2 (sub k j)
  have e := congrFun h (fun a => a.elim0)
  have e' : BitVec.ofBool (decide (x2 j = 0#32)) ||| BitVec.ofBool (decide (x2 j = 1#32)) = 1#1 := by
    refine Eq.trans ?_ e
    show _ = IntOp.cmpi .eq (x2 _) 0#32 ||| IntOp.cmpi .eq (x2 _) 1#32
    simp only [e0]; rfl
  by_cases h0 : x2 j = 0#32
  · exact Or.inl h0
  by_cases h1 : x2 j = 1#32
  · exact Or.inr h1
  rw [decide_eq_false h0, decide_eq_false h1] at e'
  exact absurd e' (by decide)

end Cert.Pre_half_gradupadd

namespace Cert.GradUpAdd.Half

open Idealize.ShloMosaic Idealize.ShloMosaic.TcCoe Cert.GradUpAdd Cert.GradUpAdd.Gen Idealize.SL.Sem

/-- Where a point's block of the second operand is. -/
def place (w : BitVec 32) (i : grid0.Coords) : Fin 2 → Nat := cc0_transform_1 inb_S1_S1_0 numel1_S1 (F := Ideal) (fun | 0 => fun _ => w) i

theorem place_at (w : BitVec 32) (hw : w = 0#32 ∨ w = 1#32) : ∀ i : grid0.Coords,
    place w i = ![0, (2 * (i 0).val + w.toNat) + (i 2).val] := by
  rcases hw with rfl | rfl <;> decide +kernel

variable {F : FTy → Type} [FloatOps F]

theorem transform_at (pf : pre0.Contents (Elt F)) (w : BitVec 32) (e : pf 0 = fun _ => w) (i : grid0.Coords) :
    cc0_transform_1 inb_S1_S1_0 numel1_S1 pf i = place w i := by
  unfold place cc0_transform_1 Pipeline.Prefetch.Contents.at
  rw [e]

theorem ok_of_word (pf : pre0.Contents (Elt F)) (w : BitVec 32) (e : pf 0 = fun _ => w) (hw : w = 0#32 ∨ w = 1#32) : ok0 pf := by
  intro i
  refine ⟨fun a => ?_, .inr (Affine.block_words_dvd (of_decide_eq_true rfl) (by decide))⟩
  rw [transform_at pf w e, place_at w hw]
  have h0 : (i 0).val < 4 := (i 0).isLt
  have h1 : (i 2).val < 1 := (i 2).isLt
  have h2 : w.toNat ≤ 1 := by rcases hw with rfl | rfl <;> decide
  match a with
  | ⟨0, _⟩ => show (0 + 1) * 2048 ≤ 2048; omega
  | ⟨1, _⟩ => show ((2 * (i 0).val + w.toNat) + (i 2).val + 1) * 1024 ≤ 8192; omega

variable (m : (ℓ : Loc nD τ sig) → Buf (Elt F) ℓ)

/-- The half that is asked for. -/
def word : BitVec 32 := (m (((0 : Dev nD) : Thread nD τ).loc main_arg2) : IVec S1 32) (fun a => match a with | ⟨0, _⟩ => (0 : Fin 1))

theorem tbl_at : tbl m 0 = fun _ => word m := by
  funext j
  show (V m 0 main_arg2 : IVec S1 32) j = _
  rw [V_main_arg2]
  exact congrArg _ (Cert.Pre_half_gradupadd.sub j _)

theorem ok (hw : word m = 0#32 ∨ word m = 1#32) : Ok m := ok_of_word (tbl m) (word m) (tbl_at m) hw

end Cert.GradUpAdd.Half

namespace Cert.GradUpAddIdeal.Half

open Idealize.ShloMosaic Idealize.ShloMosaic.TcCoe Cert.GradUpAddIdeal Cert.GradUpAddIdeal.Gen Idealize.SL.Sem

/-- Where a point's block of the second operand is. -/
def place (w : BitVec 32) (i : grid0.Coords) : Fin 2 → Nat := cc0_transform_1 inb_S1_S1_0 numel1_S1 (F := Ideal) (fun | 0 => fun _ => w) i

theorem place_at (w : BitVec 32) (hw : w = 0#32 ∨ w = 1#32) : ∀ i : grid0.Coords,
    place w i = ![0, (2 * (i 0).val + w.toNat) + (i 2).val] := by
  rcases hw with rfl | rfl <;> decide +kernel

variable {F : FTy → Type} [FloatOps F]

theorem transform_at (pf : pre0.Contents (Elt F)) (w : BitVec 32) (e : pf 0 = fun _ => w) (i : grid0.Coords) :
    cc0_transform_1 inb_S1_S1_0 numel1_S1 pf i = place w i := by
  unfold place cc0_transform_1 Pipeline.Prefetch.Contents.at
  rw [e]

theorem ok_of_word (pf : pre0.Contents (Elt F)) (w : BitVec 32) (e : pf 0 = fun _ => w) (hw : w = 0#32 ∨ w = 1#32) : ok0 pf := by
  intro i
  refine ⟨fun a => ?_, .inr (Affine.block_words_dvd (of_decide_eq_true rfl) (by decide))⟩
  rw [transform_at pf w e, place_at w hw]
  have h0 : (i 0).val < 4 := (i 0).isLt
  have h1 : (i 2).val < 1 := (i 2).isLt
  have h2 : w.toNat ≤ 1 := by rcases hw with rfl | rfl <;> decide
  match a with
  | ⟨0, _⟩ => show (0 + 1) * 2048 ≤ 2048; omega
  | ⟨1, _⟩ => show ((2 * (i 0).val + w.toNat) + (i 2).val + 1) * 1024 ≤ 8192; omega

variable (m : (ℓ : Loc nD τ sig) → Buf (Elt F) ℓ)

/-- The half that is asked for. -/
def word : BitVec 32 := (m (((0 : Dev nD) : Thread nD τ).loc main_arg2) : IVec S1 32) (fun a => match a with | ⟨0, _⟩ => (0 : Fin 1))

theorem tbl_at : tbl m 0 = fun _ => word m := by
  funext j
  show (V m 0 main_arg2 : IVec S1 32) j = _
  rw [V_main_arg2]
  exact congrArg _ (Cert.Pre_half_gradupadd.sub j _)

theorem ok (hw : word m = 0#32 ∨ word m = 1#32) : Ok m := ok_of_word (tbl m) (word m) (tbl_at m) hw

end Cert.GradUpAddIdeal.Half

end
-- ==== Proof.GradUpAddKernel.lean ====
module

public import proofs.«01_k».proof.Proof.SguRef
public import proofs.«01_k».proof.Proof.GradUpAddHalf
public import proofs.«01_k».proof.Proof.Gen.GradUpAddRefIdeal.Read
public import Idealize.ShloMosaic.Lib.Pointwise.Contract
public import Idealize.ShloMosaic.Lib.Tactic
public import Idealize.ShloMosaic.Lib.WritesUnit

@[expose] public section

set_option maxRecDepth 16384

noncomputable section

/-! Half of the gradient, added to what is there of the first MLP weight, index by index. -/

namespace Cert.GradUpAddIdeal.Blk

open Idealize.ShloMosaic hiding ix0 ix1 ix2 ix3 ix4 ix5 eq_ix2 eq_ix3
open Cert.GradUpAddIdeal Cert.GradUpAddIdeal.Gen Idealize.ShloMosaic.ValueIdx Idealize.ShloMosaic.TcCoe Idealize.SL.Sem
open Idealize.ShloMosaic.StableHlo Cert.GradUpAddIdeal.Half

/-- The column of the whole gradient that column `r` of quarter `q` of half `s` is. -/
abbrev col (s : Fin 2) (q : Fin 4) (r : Fin 1024) : Fin 8192 :=
  ⟨(2 * q.val + s.val) * 1024 + r.val, by have := s.isLt; have := q.isLt; have := r.isLt; omega⟩

/-- The value at one index. -/
def val (s : Fin 2) (a : S2048x2048.Idx → EReal) (b : S2048x8192.Idx → EReal) (i : S4x2048x1024.Idx) : EReal :=
  ∑ k : Fin 2048, (a (ix2 k (i 1 : Fin 2048)) * b (ix2 k (col s (i 0) (i 2))) : EReal)

/-- The value at one index, with what is there. -/
def tot (s : Fin 2) (a : S2048x2048.Idx → EReal) (b : S2048x8192.Idx → EReal) (d : S4x2048x1024.Idx → EReal) (i : S4x2048x1024.Idx) : EReal := val s a b i + d i

theorem zz : (![0, 0] : Fin 2 → Nat) = fun _ => 0 := funext fun a => match a with | ⟨0, _⟩ => rfl | ⟨1, _⟩ => rfl
theorem zzz : (![0, 0, 0] : Fin 3 → Nat) = fun _ => 0 := funext fun a => match a with | ⟨0, _⟩ => rfl | ⟨1, _⟩ => rfl | ⟨2, _⟩ => rfl

/-- The block a point writes. -/
theorem pay_at (x0 : FVec Ideal S2048x1024 .bf16) (x1 : FVec Ideal S2048x1024 .bf16) (x2 : FVec Ideal S1x1024x1024 .bf16) (y : S1x1024x1024.Idx) :
    k0_pay1 (F := Ideal) x0 x1 x2 y = ∑ k : Fin 2048, (x0 (ix2 k (y 1 : Fin 1024)) * x1 (ix2 k (y 2 : Fin 1024)) : EReal) + x2 y := by
  unfold k0_pay1
  rw [shapeCast_self, shapeCast_self]
  refine (shapeCast_apply _ _ y (ix2 (y 1 : Fin 1024) (y 2 : Fin 1024)) ?_).trans ?_
  · rw [Shape.rowMajor_val_two, Shape.rowMajor_val_three]
    have h0 : (y 0).val < 1 := (y 0).isLt
    show (y 1).val * 1024 + (y 2).val = ((y 0).val * 1024 + (y 1).val) * 1024 + (y 2).val
    omega
  show matmul dot_S2048x1024_S2048x1024_S1024x1024_0_0_1_1_n_n none x0 x1 (constant S1024x1024 .f32 0x00000000#32) (ix2 (y 1 : Fin 1024) (y 2 : Fin 1024)) + shapeCast S1024x1024 x2 _ (ix2 (y 1 : Fin 1024) (y 2 : Fin 1024)) = _
  refine congrArg₂ (· + ·) ?_ ?_
  · show matmul dot_S2048x1024_S2048x1024_S1024x1024_0_0_1_1_n_n none x0 x1 (constant S1024x1024 .f32 0x00000000#32) (ix2 (y 1 : Fin 1024) (y 2 : Fin 1024)) = _
    refine (Ideal.matmul_apply₁_of dot_S2048x1024_S2048x1024_S1024x1024_0_0_1_1_n_n (a := 0) rfl rfl x0 x1 _ _
      (fun k => ix2 k (y 1 : Fin 1024)) (fun k => ix2 k (y 2 : Fin 1024)) (fun k => funext fun b => match b with | ⟨0, _⟩ => rfl | ⟨1, _⟩ => rfl)
      (fun k => funext fun b => match b with | ⟨0, _⟩ => rfl | ⟨1, _⟩ => rfl)).trans ?_
    show Ideal.ofBits .f32 0x00000000#32 + _ = _
    rw [Cert.ReferenceIdeal.RefValue.lit_zero, EReal.coe_zero, zero_add]; rfl

  · refine shapeCast_apply _ _ _ y ?_
    rw [Shape.rowMajor_val_two, Shape.rowMajor_val_three]
    have h0 : (y 0).val < 1 := (y 0).isLt
    show ((y 0).val * 1024 + (y 1).val) * 1024 + (y 2).val = (y 1).val * 1024 + (y 2).val
    omega

variable (m : (ℓ : Loc nD τ sig) → Buf (Elt Ideal) ℓ) (hO : Ok m) (c : Dev nD)

abbrev aA : S2048x2048.Idx → EReal := m ((c : Thread nD τ).loc main_arg0)
abbrev bA : S2048x8192.Idx → EReal := m ((c : Thread nD τ).loc main_arg1)
abbrev dA : S4x2048x1024.Idx → EReal := m ((c : Thread nD τ).loc main_arg3)

/-- The half that is asked for, as a number. -/
abbrev half : Fin 2 := if word m = 0#32 then 0 else 1

theorem half_val (hw : word m = 0#32 ∨ word m = 1#32) : (word m).toNat = (half m).val := by
  unfold half
  rcases hw with h | h <;> rw [h] <;> rfl

set_option maxHeartbeats 4000000 in
theorem V_a : V m c main_v0 = (truncf .bf16 (m ((c : Thread nD τ).loc main_arg0)) bitsLt_bf16_f32 : FVec Ideal S2048x2048 .bf16) := by
  unfold V
  simp only [hostOps0, List.flatten_cons, List.flatten_nil, List.append_nil, List.cons_append, List.nil_append,
    TRef.binary, TRef.nullary, TRef.ternary, TRef.unary, TRef.toBuf, TRef.ofBuf, cast_eq]
  after_results_simp <;> rfl

set_option maxHeartbeats 4000000 in
theorem V_b : V m c main_v1 = (truncf .bf16 (m ((c : Thread nD τ).loc main_arg1)) bitsLt_bf16_f32 : FVec Ideal S2048x8192 .bf16) := by
  unfold V
  simp only [hostOps0, List.flatten_cons, List.flatten_nil, List.append_nil, List.cons_append, List.nil_append,
    TRef.binary, TRef.nullary, TRef.ternary, TRef.unary, TRef.toBuf, TRef.ofBuf, cast_eq]
  after_results_simp <;> rfl

theorem lt8 (t : Fin (cfgM m hO).N) : t.val < 8 := lt_of_lt_of_eq t.isLt (by decide : grid0.N = 8)

theorem coords : ∀ t : Fin grid0.N, (grid0.coords t 0).val = t.val / 2 ∧ (grid0.coords t 1).val = t.val % 2 ∧ (grid0.coords t 2).val = 0 := by decide +kernel

theorem idx0 (t : Fin (cfgM m hO).N) : ((cfgM m hO).win 0).index t = ![0, t.val % 2] := by
  show cc0_transform_0 (grid0.coords t) = _
  exact (by decide +kernel : ∀ t : Fin grid0.N, cc0_transform_0 (grid0.coords t) = ![0, t.val % 2]) t
theorem idx1 (hw : word m = 0#32 ∨ word m = 1#32) (t : Fin (cfgM m hO).N) :
    ((cfgM m hO).win 1).index t = ![0, 2 * (t.val / 2) + (half m).val] := by
  show cc0_transform_1 inb_S1_S1_0 numel1_S1 (tbl m) (grid0.coords t) = _
  rw [transform_at (tbl m) (word m) (tbl_at m), place_at (word m) hw, half_val m hw, (coords t).1, (coords t).2.2]
  rfl
theorem idx2 (t : Fin (cfgM m hO).N) : ((cfgM m hO).win 2).index t = ![t.val / 2, t.val % 2, 0] := by
  show cc0_transform_2 (grid0.coords t) = _
  exact (by decide +kernel : ∀ t : Fin grid0.N, cc0_transform_2 (grid0.coords t) = ![t.val / 2, t.val % 2, 0]) t
theorem idx3 (t : Fin (cfgM m hO).N) : ((cfgM m hO).win 3).index t = ![t.val / 2, t.val % 2, 0] := by
  show cc0_transform_3 (grid0.coords t) = _
  exact (by decide +kernel : ∀ t : Fin grid0.N, cc0_transform_3 (grid0.coords t) = ![t.val / 2, t.val % 2, 0]) t

abbrev qr (t : Fin (cfgM m hO).N) : Fin 4 := ⟨t.val / 2, by have := lt8 m hO t; omega⟩
abbrev rw' (t : Fin (cfgM m hO).N) (r : Fin 1024) : Fin 2048 := ⟨t.val % 2 * 1024 + r.val, by have := r.isLt; omega⟩

theorem a_blk (t : Fin (cfgM m hO).N) (i : S2048x1024.Idx) : iblk m hO c 0 t i = aA m c (ix2 (i 0 : Fin 2048) (rw' m hO t (i 1))) := by
  unfold iblk
  show V m c main_v0 ((((cfgM m hO).win 0).blk t).view.emb i) = _
  rw [V_a]
  show aA m c _ = _
  have e := idx0 m hO t
  refine congrArg _ (funext fun a => Fin.ext ?_)
  match a with
  | ⟨0, _⟩ => show ((cfgM m hO).win 0).index t (0 : Fin 2) * 2048 + 1 * (i 0).val = (i 0).val; rw [e]; show 0 * 2048 + 1 * (i 0).val = (i 0).val; omega
  | ⟨1, _⟩ => show ((cfgM m hO).win 0).index t (1 : Fin 2) * 1024 + 1 * (i 1).val = _; rw [e]; show t.val % 2 * 1024 + 1 * (i 1).val = t.val % 2 * 1024 + (i 1).val; omega

theorem b_blk (hw : word m = 0#32 ∨ word m = 1#32) (t : Fin (cfgM m hO).N) (i : S2048x1024.Idx) :
    iblk m hO c 1 t i = bA m c (ix2 (i 0 : Fin 2048) (col (half m) (qr m hO t) (i 1))) := by
  unfold iblk
  show V m c main_v1 ((((cfgM m hO).win 1).blk t).view.emb i) = _
  rw [V_b]
  show bA m c _ = _
  have e := idx1 m hO hw t
  refine congrArg _ (funext fun a => Fin.ext ?_)
  match a with
  | ⟨0, _⟩ => show ((cfgM m hO).win 1).index t (0 : Fin 2) * 2048 + 1 * (i 0).val = (i 0).val; rw [e]; show 0 * 2048 + 1 * (i 0).val = (i 0).val; omega
  | ⟨1, _⟩ =>
    show ((cfgM m hO).win 1).index t (1 : Fin 2) * 1024 + 1 * (i 1).val = _
    rw [e]
    show (2 * (t.val / 2) + (half m).val) * 1024 + 1 * (i 1).val = (2 * (t.val / 2) + (half m).val) * 1024 + (i 1).val
    omega

theorem d_blk (t : Fin (cfgM m hO).N) (y : S1x1024x1024.Idx) : iblk m hO c 2 t y = dA m c (ix3 (qr m hO t) (rw' m hO t (y 1)) (y 2 : Fin 1024)) := by
  unfold iblk
  show V m c main_arg3 ((((cfgM m hO).win 2).blk t).view.emb y) = _
  rw [V_main_arg3]
  show dA m c _ = dA m c _
  have h0 : (y 0).val < 1 := (y 0).isLt
  have e := idx2 m hO t
  refine congrArg _ (funext fun a => Fin.ext ?_)
  match a with
  | ⟨0, _⟩ => show ((cfgM m hO).win 2).index t (0 : Fin 3) * 1 + 1 * (y 0).val = t.val / 2; rw [e]; show t.val / 2 * 1 + 1 * (y 0).val = t.val / 2; omega
  | ⟨1, _⟩ => show ((cfgM m hO).win 2).index t (1 : Fin 3) * 1024 + 1 * (y 1).val = t.val % 2 * 1024 + (y 1).val; rw [e]; show t.val % 2 * 1024 + 1 * (y 1).val = _; omega
  | ⟨2, _⟩ => show ((cfgM m hO).win 2).index t (2 : Fin 3) * 1024 + 1 * (y 2).val = (y 2).val; rw [e]; show 0 * 1024 + 1 * (y 2).val = _; omega

theorem out_pay (i : grid0.Coords)
    (a4 : Memref sig .tc .vmem S2048x1024 .bf16) (h4 : a4.IsWhole)
    (a5 : Memref sig .tc .vmem S2048x1024 .bf16) (h5 : a5.IsWhole)
    (a6 : Memref sig .tc .vmem S1x1024x1024 .bf16) (h6 : a6.IsWhole)
    (a7 : Memref sig .tc .vmem S1x1024x1024 .bf16) (h7 : a7.IsWhole)
    (x0 : Vec Ideal S2048x1024 .bf16) (x1 : Vec Ideal S2048x1024 .bf16) (x2 : Vec Ideal S1x1024x1024 .bf16) (xt : TbBuf0 (F := Ideal) c tbM0_0) :
    out0_A_3 c i a4 h4 a5 h5 a6 h6 a7 h7 x0 x1 x2 xt = k0_pay1 x0 x1 x2 := by
  unfold out0_A_3
  rw [View.read_writes_eq_canon _ _ _ (cover0_A_3 c i a4 h4 a5 h5 a6 h6 a7 h7 x0 x1 x2 xt)]
  unfold kernelRun0_A
  dsimp only
  sl_unfold_words
  rw [View.canon_unit_zero zzz]
  simp only [View.readAt_eq_ld, h4.read_unread, h5.read_unread, h6.read_unread, View.ld_unit_zero (S := S1x1024x1024) zzz, View.ld_unit_zero (S := S2048x1024) zz]

/-- The whole result array. -/
def G : Buf (Elt Ideal) ((c : Thread nD τ).loc main_v2) := tot (half m) (aA m c) (bA m c) (dA m c)

theorem flushed_eq (hw : word m = 0#32 ∨ word m = 1#32) (t : Fin (cfgM m hO).N) :
    (dats m hO 0 c).flushed 3 t = (((cfgM m hO).win 3).blk t).view.read (Elt Ideal) (G m c) := by
  refine funext fun (y : S1x1024x1024.Idx) => ?_
  refine Eq.trans (b := tot (half m) (aA m c) (bA m c) (dA m c) (ix3 (qr m hO t) (rw' m hO t (y 1)) (y 2 : Fin 1024))) ?_ ?_
  · show (dats m hO 0 c).after 3 t y = _
    rw [after0_3]
    unfold outsAt0
    refine (congrFun (out_pay c (grid0.coords t) _ (hs0_0 m hO t) _ (hs0_1 m hO t) _ (hs0_2 m hO t) _ (hs0_3 m hO t) (iblk m hO c 0 t) (iblk m hO c 1 t) (iblk m hO c 2 t) (tbl m 0)) y).trans ?_
    refine (pay_at (iblk m hO c 0 t) (iblk m hO c 1 t) (iblk m hO c 2 t) y).trans ?_
    unfold tot val
    exact congrArg₂ (· + ·) (Finset.sum_congr rfl fun k _ => congrArg₂ (· * ·) (a_blk m hO c t _) (b_blk m hO c hw t _)) (d_blk m hO c t y)
  · show G m c _ = G m c ((((cfgM m hO).win 3).blk t).view.emb y)
    have h0 : (y 0).val < 1 := (y 0).isLt
    have e := idx3 m hO t
    refine congrArg _ (funext fun a => Fin.ext ?_)
    match a with
    | ⟨0, _⟩ => show t.val / 2 = ((cfgM m hO).win 3).index t (0 : Fin 3) * 1 + 1 * (y 0).val; rw [e]; show t.val / 2 = t.val / 2 * 1 + 1 * (y 0).val; omega
    | ⟨1, _⟩ => show t.val % 2 * 1024 + (y 1).val = ((cfgM m hO).win 3).index t (1 : Fin 3) * 1024 + 1 * (y 1).val; rw [e]; show _ = t.val % 2 * 1024 + 1 * (y 1).val; omega
    | ⟨2, _⟩ => show (y 2).val = ((cfgM m hO).win 3).index t (2 : Fin 3) * 1024 + 1 * (y 2).val; rw [e]; show _ = 0 * 1024 + 1 * (y 2).val; omega

theorem mem_blk (t : Fin (cfgM m hO).N) (i : S4x2048x1024.Idx) :
    i ∈ (((cfgM m hO).win 3).blk t).view.set ↔ ∀ a : Fin 3, ((cfgM m hO).win 3).index t a * S1x1024x1024.size a ≤ (i a).val ∧ (i a).val < ((cfgM m hO).win 3).index t a * S1x1024x1024.size a + S1x1024x1024.size a := by
  have e : (((cfgM m hO).win 3).blk t).view.set = (((cfgM m hO).win 3).rect t).set := View.set_slice_whole main_v2 _
  rw [e]
  exact Rect.mem_set_unit

theorem covers (i : S4x2048x1024.Idx) : ∃ t : Fin (cfgM m hO).N, ((cfgM m hO).win 3).flush t = true ∧ i ∈ (((cfgM m hO).win 3).blk t).view.set := by
  have h0 : (i 0).val < 4 := (i 0).isLt
  have h1 : (i 1).val < 2048 := (i 1).isLt
  have h2 : (i 2).val < 1024 := (i 2).isLt
  refine ⟨⟨(i 0).val * 2 + (i 1).val / 1024, lt_of_lt_of_eq (by omega) (by decide : 8 = grid0.N)⟩, flush0_3 _ _, (mem_blk m hO _ _).2 fun a => ?_⟩
  rw [idx3]
  match a with
  | ⟨0, _⟩ =>
    show ((i 0).val * 2 + (i 1).val / 1024) / 2 * 1 ≤ (i 0).val ∧ (i 0).val < ((i 0).val * 2 + (i 1).val / 1024) / 2 * 1 + 1
    omega
  | ⟨1, _⟩ =>
    show ((i 0).val * 2 + (i 1).val / 1024) % 2 * 1024 ≤ (i 1).val ∧ (i 1).val < ((i 0).val * 2 + (i 1).val / 1024) % 2 * 1024 + 1024
    omega
  | ⟨2, _⟩ => show 0 * 1024 ≤ (i 2).val ∧ (i 2).val < 0 * 1024 + 1024; omega

theorem final (hw : word m = 0#32 ∨ word m = 1#32) : (dats m hO 0 c).arrAt 3 (cfgM m hO).N = G m c :=
  (dats m hO 0 c).arrAt_eq_of_cover 3 (G m c) (fun t _ => flushed_eq m hO c hw t) (covers m hO)

/-- The run: the result array and the arguments afterwards. -/
theorem run (ρ : Dev nD → PrngReg) (hw : word m = 0#32 ∨ word m = 1#32) :
    θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 3).trans (final m (ok m hw) c hw),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 2).trans (((dats m (ok m hw) 0 c).arrAt_in 2 rfl _).trans ((A_eq m (ok m hw) c 2).trans (V_main_arg3 m c)))⟩)
    (run_main m ρ (ok m hw))

end Cert.GradUpAddIdeal.Blk

/-! The reference's result at an index. -/

namespace Cert.GradUpAddRefIdeal.Read

open Idealize.ShloMosaic hiding ix0 ix1 ix2 ix3 ix4 ix5 eq_ix2 eq_ix3
open Cert.GradUpAddRefIdeal Cert.GradUpAddRefIdeal.Gen Idealize.ShloMosaic.ValueIdx Idealize.ShloMosaic.StableHlo

variable (x0 : FVec Ideal S2048x2048 .f32) (x1 : FVec Ideal S2048x8192 .f32) (x2 : IVec S1 32) (i : S4x2048x1024.Idx)

theorem whole_at (p : Fin 2048) (q : Fin 8192) :
    val_main_v3 (F := Ideal) x0 x1 (ix2 p q) = ∑ k : Fin 2048, (x0 (ix2 k p) * x1 (ix2 k q) : EReal) := by
  rw [val_main_v3_apply, val_main_v2_apply]
  refine Finset.sum_congr rfl fun k _ => ?_
  refine (mul_comm (x1 _) (x0 _)).trans (congrArg₂ (· * ·) (congrArg x0 ?_) (congrArg x1 ?_))
  · exact funext fun a => match a with | ⟨0, _⟩ => rfl | ⟨1, _⟩ => rfl
  · exact funext fun a => match a with | ⟨0, _⟩ => rfl | ⟨1, _⟩ => rfl

theorem cut_at (j : S4x2x2048x1024.Idx) (p : Fin 2048) (q : Fin 8192) (hp : p.val = (j 2).val) (hq : q.val = (2 * (j 0).val + (j 1).val) * 1024 + (j 3).val) :
    val_main_v5 (F := Ideal) x0 x1 j = val_main_v3 (F := Ideal) x0 x1 (ix2 p q) := by
  rw [val_main_v5_apply, val_main_v4_apply]
  have h0 : (j 0).val < 4 := (j 0).isLt
  have h1 : (j 1).val < 2 := (j 1).isLt
  have h2 : (j 2).val < 2048 := (j 2).isLt
  have h3 : (j 3).val < 1024 := (j 3).isLt
  refine congrArg _ (funext fun a => Fin.ext ?_)
  match a with
  | ⟨0, _⟩ => show ((((j 2).val * 4 + (j 0).val) * 2 + (j 1).val) * 1024 + (j 3).val) / 8192 = p.val; omega
  | ⟨1, _⟩ => show ((((j 2).val * 4 + (j 0).val) * 2 + (j 1).val) * 1024 + (j 3).val) % 8192 = q.val; omega

theorem first_at : val_main_v9 (F := Ideal) x0 x1 i = Cert.GradUpAddIdeal.Blk.val 0 x0 x1 i := by
  have h0 : (i 0).val < 4 := (i 0).isLt
  have h1 : (i 1).val < 2048 := (i 1).isLt
  have h2 : (i 2).val < 1024 := (i 2).isLt
  rw [val_main_v9_apply, val_main_v8_apply]
  refine (cut_at x0 x1 _ (i 1) (Cert.GradUpAddIdeal.Blk.col 0 (i 0) (i 2)) ?_ ?_).trans (whole_at x0 x1 _ _)
  · show (i 1).val = (((i 0).val * 2048 + (i 1).val) * 1024 + (i 2).val) / 1024 % 2048
    omega
  · show (2 * (i 0).val + 0) * 1024 + (i 2).val = (2 * ((((i 0).val * 2048 + (i 1).val) * 1024 + (i 2).val) / 2097152) + 0) * 1024 + (((i 0).val * 2048 + (i 1).val) * 1024 + (i 2).val) % 1024
    omega

theorem second_at : val_main_v11 (F := Ideal) x0 x1 i = Cert.GradUpAddIdeal.Blk.val 1 x0 x1 i := by
  have h0 : (i 0).val < 4 := (i 0).isLt
  have h1 : (i 1).val < 2048 := (i 1).isLt
  have h2 : (i 2).val < 1024 := (i 2).isLt
  rw [val_main_v11_apply, val_main_v10_apply]
  refine (cut_at x0 x1 _ (i 1) (Cert.GradUpAddIdeal.Blk.col 1 (i 0) (i 2)) ?_ ?_).trans (whole_at x0 x1 _ _)
  · show (i 1).val = (((i 0).val * 2048 + (i 1).val) * 1024 + (i 2).val) / 1024 % 2048
    omega
  · show (2 * (i 0).val + 1) * 1024 + (i 2).val = (2 * ((((i 0).val * 2048 + (i 1).val) * 1024 + (i 2).val) / 2097152) + (1 + 0)) * 1024 + (((i 0).val * 2048 + (i 1).val) * 1024 + (i 2).val) % 1024
    omega

theorem chosen_at (j : S1.Idx) : val_main_v12 (F := Ideal) x0 x1 x2 i = Cert.GradUpAddIdeal.Blk.val (if x2 j = 0#32 then 0 else 1) x0 x1 i := by
  have e0 : ∀ k : S1.Idx, x2 k = x2 j := fun k => congrArg x2 (Cert.Pre_half_gradupadd.sub k j)
  have e : val_main_v12 (F := Ideal) x0 x1 x2 i
      = Scalar.select (BitVec.ofBool (x2 j == 0#32)) (val_main_v9 (F := Ideal) x0 x1 i) (val_main_v11 (F := Ideal) x0 x1 i) := by
    unfold val_main_v12
    show Scalar.select ((broadcastInDim S4x2048x1024 ![] bcast_S_S4x2048x1024 (val_main_v7 (F := Ideal) x2)) i) _ _ = _
    rw [broadcastInDim_apply _ bcast_S_S4x2048x1024 _ i (fun a => a.elim0) (fun a => a.elim0), val_main_v7_apply]
    show Scalar.select (BitVec.ofBool (x2 _ == 0#32)) _ _ = _
    simp only [e0]
  rw [e, first_at, second_at]
  by_cases h : x2 j = 0#32
  · rw [if_pos h, h]; rfl
  · rw [if_neg h, beq_eq_false_iff_ne.2 h]; rfl

theorem ref_at (x3 : FVec Ideal S4x2048x1024 .bf16) (j : S1.Idx) : val_main_v15 (F := Ideal) x0 x1 x2 x3 i = Cert.GradUpAddIdeal.Blk.tot (if x2 j = 0#32 then 0 else 1) x0 x1 x3 i := by
  rw [val_main_v15_apply, val_main_v14_apply, val_main_v13_apply, chosen_at x0 x1 x2 i j]
  rfl

end Cert.GradUpAddRefIdeal.Read
end
-- ==== Proof.GradUpAddJoin.lean ====
module

public import proofs.«01_k».proof.Proof.GradUpAddKernel
public import proofs.«01_k».proof.Defs

@[expose] public section

noncomputable section

/-! Half of the gradient, added to what is there of the first MLP weight: the kernel's result is the reference's. -/

namespace Cert.GradUpAdd

open Idealize.ShloMosaic Idealize.SL.Sem

theorem ok_of_pre (m : (ℓ : Loc Cert.GradUpAdd.nD Cert.GradUpAdd.τ Cert.GradUpAdd.sig) → Buf (Elt Bits) ℓ) (h : Cert.Pre_GradUpAdd m) : Cert.GradUpAdd.Gen.Ok m :=
  Cert.GradUpAdd.Half.ok m (Cert.Pre_half_gradupadd.half _ _ _ _ (h 0) _)

theorem half_of_pre (m : (ℓ : Loc Cert.GradUpAddIdeal.nD Cert.GradUpAddIdeal.τ Cert.GradUpAddIdeal.sig) → Buf (Elt Ideal) ℓ) (h : Cert.Pre_GradUpAddIdeal m) :
    Cert.GradUpAddIdeal.Half.word m = 0#32 ∨ Cert.GradUpAddIdeal.Half.word m = 1#32 :=
  Cert.Pre_half_gradupadd.half _ _ _ _ (h 0) _

theorem ok_of_pre_ideal (m : (ℓ : Loc Cert.GradUpAddIdeal.nD Cert.GradUpAddIdeal.τ Cert.GradUpAddIdeal.sig) → Buf (Elt Ideal) ℓ) (h : Cert.Pre_GradUpAddIdeal m) :
    Cert.GradUpAddIdeal.Gen.Ok m := Cert.GradUpAddIdeal.Half.ok m (half_of_pre m h)

theorem join : Cert.algebraic_GradUpAddIdeal_GradUpAddRefIdeal := by
  intro m g m' g' hpre agree
  refine ⟨Cert.GradUpAddIdeal.Blk.G m, Cert.GradUpAddIdeal.Blk.run m g (half_of_pre m hpre), ?_⟩
  refine (θ_run Cert.GradUpAddRefIdeal.defs _ _).mono (fun r h c => ?_) (Cert.GradUpAddRefIdeal.Value.run (F := Ideal) m' g')
  obtain ⟨h0, hargs⟩ := h c
  obtain rfl : c = 0 := Subsingleton.elim _ _
  obtain ⟨e0, e1, e2, e3⟩ := agree 0
  refine ⟨(h0.trans (Cert.GradUpAddRefIdeal.Read.val_main_v15_eq _ _ _ _)).trans (funext fun i => ?_), hargs⟩
  refine (Cert.GradUpAddRefIdeal.Read.ref_at _ _ _ i _ (fun a => match a with | ⟨0, _⟩ => (0 : Fin 1))).trans ?_
  unfold Cert.GradUpAddIdeal.Blk.G
  rw [e0, e1, e2, e3]
  rfl

end Cert.GradUpAdd
end
-- ==== Proof.GradOutHalf.lean ====
module

public import proofs.«01_k».proof.Proof.Gen.GradOut.Frame
public import proofs.«01_k».proof.Proof.Gen.GradOutIdeal.Frame
public import proofs.«01_k».proof.Proof.Gen.Pre_half_gradout
public import Idealize.ShloMosaic.Lib.Pipeline.Value
public import Idealize.ShloMosaic.Lib.Pointwise.Contract

@[expose] public section

set_option maxRecDepth 16384

noncomputable section

/-! Either half that may be asked for is inside the array. -/

namespace Cert.Pre_half_gradout

open Idealize.ShloMosaic

variable {F : FTy → Type} [FloatOps F]

theorem sub (j k : S1.Idx) : j = k := funext fun a => match a with
  | ⟨0, _⟩ => Fin.ext (by have : (j 0).val < 1 := (j 0).isLt; have : (k 0).val < 1 := (k 0).isLt; show (j 0).val = (k 0).val; omega)

theorem half (x0 : FVec F S2048x2048 .f32) (x1 : FVec F S2048x2048 .f32) (x2 : IVec S1 32) (h : fn x0 x1 x2 = fun _ => 1#1) (j : S1.Idx) : x2 j = 0#32 ∨ x2 j = 1#32 := by
  have e0 : ∀ k : S1.Idx, x2 k = x2 j := fun k => congrArg x2 (sub k j)
  have e := congrFun h (fun a => a.elim0)
  have e' : BitVec.ofBool (decide (x2 j = 0#32)) ||| BitVec.ofBool (decide (x2 j = 1#32)) = 1#1 := by
    refine Eq.trans ?_ e
    show _ = IntOp.cmpi .eq (x2 _) 0#32 ||| IntOp.cmpi .eq (x2 _) 1#32
    simp only [e0]; rfl
  by_cases h0 : x2 j = 0#32
  · exact Or.inl h0
  by_cases h1 : x2 j = 1#32
  · exact Or.inr h1
  rw [decide_eq_false h0, decide_eq_false h1] at e'
  exact absurd e' (by decide)

end Cert.Pre_half_gradout

namespace Cert.GradOut.Half

open Idealize.ShloMosaic Idealize.ShloMosaic.TcCoe Cert.GradOut Cert.GradOut.Gen Idealize.SL.Sem

/-- Where a point's block of the first operand is. -/
def place (w : BitVec 32) (i : grid0.Coords) : Fin 2 → Nat := cc0_transform_0 inb_S1_S1_0 numel1_S1 (F := Ideal) (fun | 0 => fun _ => w) i

theorem place_at (w : BitVec 32) (hw : w = 0#32 ∨ w = 1#32) : ∀ i : grid0.Coords,
    place w i = ![0, (2 * (i 0).val + w.toNat) + (i 1).val] := by
  rcases hw with rfl | rfl <;> decide +kernel

variable {F : FTy → Type} [FloatOps F]

theorem transform_at (pf : pre0.Contents (Elt F)) (w : BitVec 32) (e : pf 0 = fun _ => w) (i : grid0.Coords) :
    cc0_transform_0 inb_S1_S1_0 numel1_S1 pf i = place w i := by
  unfold place cc0_transform_0 Pipeline.Prefetch.Contents.at
  rw [e]

theorem ok_of_word (pf : pre0.Contents (Elt F)) (w : BitVec 32) (e : pf 0 = fun _ => w) (hw : w = 0#32 ∨ w = 1#32) : ok0 pf := by
  intro i
  refine ⟨fun a => ?_, .inr (Affine.block_words_dvd (of_decide_eq_true rfl) (by decide))⟩
  rw [transform_at pf w e, place_at w hw]
  have h0 : (i 0).val < 4 := (i 0).isLt
  have h1 : (i 1).val < 1 := (i 1).isLt
  have h2 : w.toNat ≤ 1 := by rcases hw with rfl | rfl <;> decide
  match a with
  | ⟨0, _⟩ => show (0 + 1) * 2048 ≤ 2048; omega
  | ⟨1, _⟩ => show ((2 * (i 0).val + w.toNat) + (i 1).val + 1) * 256 ≤ 2048; omega

variable (m : (ℓ : Loc nD τ sig) → Buf (Elt F) ℓ)

/-- The half that is asked for. -/
def word : BitVec 32 := (m (((0 : Dev nD) : Thread nD τ).loc main_arg2) : IVec S1 32) (fun a => match a with | ⟨0, _⟩ => (0 : Fin 1))

theorem tbl_at : tbl m 0 = fun _ => word m := by
  funext j
  show (V m 0 main_arg2 : IVec S1 32) j = _
  rw [V_main_arg2]
  exact congrArg _ (Cert.Pre_half_gradout.sub j _)

theorem ok (hw : word m = 0#32 ∨ word m = 1#32) : Ok m := ok_of_word (tbl m) (word m) (tbl_at m) hw

end Cert.GradOut.Half

namespace Cert.GradOutIdeal.Half

open Idealize.ShloMosaic Idealize.ShloMosaic.TcCoe Cert.GradOutIdeal Cert.GradOutIdeal.Gen Idealize.SL.Sem

/-- Where a point's block of the first operand is. -/
def place (w : BitVec 32) (i : grid0.Coords) : Fin 2 → Nat := cc0_transform_0 inb_S1_S1_0 numel1_S1 (F := Ideal) (fun | 0 => fun _ => w) i

theorem place_at (w : BitVec 32) (hw : w = 0#32 ∨ w = 1#32) : ∀ i : grid0.Coords,
    place w i = ![0, (2 * (i 0).val + w.toNat) + (i 1).val] := by
  rcases hw with rfl | rfl <;> decide +kernel

variable {F : FTy → Type} [FloatOps F]

theorem transform_at (pf : pre0.Contents (Elt F)) (w : BitVec 32) (e : pf 0 = fun _ => w) (i : grid0.Coords) :
    cc0_transform_0 inb_S1_S1_0 numel1_S1 pf i = place w i := by
  unfold place cc0_transform_0 Pipeline.Prefetch.Contents.at
  rw [e]

theorem ok_of_word (pf : pre0.Contents (Elt F)) (w : BitVec 32) (e : pf 0 = fun _ => w) (hw : w = 0#32 ∨ w = 1#32) : ok0 pf := by
  intro i
  refine ⟨fun a => ?_, .inr (Affine.block_words_dvd (of_decide_eq_true rfl) (by decide))⟩
  rw [transform_at pf w e, place_at w hw]
  have h0 : (i 0).val < 4 := (i 0).isLt
  have h1 : (i 1).val < 1 := (i 1).isLt
  have h2 : w.toNat ≤ 1 := by rcases hw with rfl | rfl <;> decide
  match a with
  | ⟨0, _⟩ => show (0 + 1) * 2048 ≤ 2048; omega
  | ⟨1, _⟩ => show ((2 * (i 0).val + w.toNat) + (i 1).val + 1) * 256 ≤ 2048; omega

variable (m : (ℓ : Loc nD τ sig) → Buf (Elt F) ℓ)

/-- The half that is asked for. -/
def word : BitVec 32 := (m (((0 : Dev nD) : Thread nD τ).loc main_arg2) : IVec S1 32) (fun a => match a with | ⟨0, _⟩ => (0 : Fin 1))

theorem tbl_at : tbl m 0 = fun _ => word m := by
  funext j
  show (V m 0 main_arg2 : IVec S1 32) j = _
  rw [V_main_arg2]
  exact congrArg _ (Cert.Pre_half_gradout.sub j _)

theorem ok (hw : word m = 0#32 ∨ word m = 1#32) : Ok m := ok_of_word (tbl m) (word m) (tbl_at m) hw

end Cert.GradOutIdeal.Half

end
-- ==== Proof.GradOutKernel.lean ====
module

public import proofs.«01_k».proof.Proof.SguRef
public import proofs.«01_k».proof.Proof.GradOutHalf
public import proofs.«01_k».proof.Proof.Gen.GradOutRefIdeal.Read
public import Idealize.ShloMosaic.Lib.Pointwise.Contract
public import Idealize.ShloMosaic.Lib.Tactic
public import Idealize.ShloMosaic.Lib.WritesUnit

@[expose] public section

set_option maxRecDepth 16384

noncomputable section

/-! Half of the gradient of the output projection, index by index. -/

namespace Cert.GradOutIdeal.Blk

open Idealize.ShloMosaic hiding ix0 ix1 ix2 ix3 ix4 ix5 eq_ix2 eq_ix3
open Cert.GradOutIdeal Cert.GradOutIdeal.Gen Idealize.ShloMosaic.ValueIdx Idealize.ShloMosaic.TcCoe Idealize.SL.Sem
open Idealize.ShloMosaic.StableHlo Cert.GradOutIdeal.Half

/-- The row of the whole gradient that row `r` of quarter `q` of half `s` is. -/
abbrev row (s : Fin 2) (q : Fin 4) (r : Fin 256) : Fin 2048 :=
  ⟨(2 * q.val + s.val) * 256 + r.val, by have := s.isLt; have := q.isLt; have := r.isLt; omega⟩

/-- The value at one index. -/
def val (s : Fin 2) (a : S2048x2048.Idx → EReal) (b : S2048x2048.Idx → EReal) (i : S4x256x2048.Idx) : EReal :=
  ∑ k : Fin 2048, (a (ix2 k (row s (i 0) (i 1))) * b (ix2 k (i 2 : Fin 2048)) : EReal)

theorem zz : (![0, 0] : Fin 2 → Nat) = fun _ => 0 := funext fun a => match a with | ⟨0, _⟩ => rfl | ⟨1, _⟩ => rfl
theorem zzz : (![0, 0, 0] : Fin 3 → Nat) = fun _ => 0 := funext fun a => match a with | ⟨0, _⟩ => rfl | ⟨1, _⟩ => rfl | ⟨2, _⟩ => rfl

/-- The block a point writes. -/
theorem pay_at (x0 : FVec Ideal S2048x256 .bf16) (x1 : FVec Ideal S2048x2048 .bf16) (y : S1x256x2048.Idx) :
    k0_pay1 (F := Ideal) x0 x1 y = ∑ k : Fin 2048, (x0 (ix2 k (y 1 : Fin 256)) * x1 (ix2 k (y 2 : Fin 2048)) : EReal) := by
  unfold k0_pay1
  rw [shapeCast_self, shapeCast_self]
  refine (shapeCast_apply _ _ y (ix2 (y 1 : Fin 256) (y 2 : Fin 2048)) ?_).trans ?_
  · rw [Shape.rowMajor_val_two, Shape.rowMajor_val_three]
    have h0 : (y 0).val < 1 := (y 0).isLt
    show (y 1).val * 2048 + (y 2).val = ((y 0).val * 256 + (y 1).val) * 2048 + (y 2).val
    omega
  show matmul dot_S2048x256_S2048x2048_S256x2048_0_0_1_1_n_n none x0 x1 (constant S256x2048 .f32 0x00000000#32) (ix2 (y 1 : Fin 256) (y 2 : Fin 2048)) = _
  refine (Ideal.matmul_apply₁_of dot_S2048x256_S2048x2048_S256x2048_0_0_1_1_n_n (a := 0) rfl rfl x0 x1 _ _
    (fun k => ix2 k (y 1 : Fin 256)) (fun k => ix2 k (y 2 : Fin 2048)) (fun k => funext fun b => match b with | ⟨0, _⟩ => rfl | ⟨1, _⟩ => rfl)
    (fun k => funext fun b => match b with | ⟨0, _⟩ => rfl | ⟨1, _⟩ => rfl)).trans ?_
  show Ideal.ofBits .f32 0x00000000#32 + _ = _
  rw [Cert.ReferenceIdeal.RefValue.lit_zero, EReal.coe_zero, zero_add]; rfl

variable (m : (ℓ : Loc nD τ sig) → Buf (Elt Ideal) ℓ) (hO : Ok m) (c : Dev nD)

abbrev aA : S2048x2048.Idx → EReal := m ((c : Thread nD τ).loc main_arg0)
abbrev bA : S2048x2048.Idx → EReal := m ((c : Thread nD τ).loc main_arg1)

/-- The half that is asked for, as a number. -/
abbrev half : Fin 2 := if word m = 0#32 then 0 else 1

theorem half_val (hw : word m = 0#32 ∨ word m = 1#32) : (word m).toNat = (half m).val := by
  unfold half
  rcases hw with h | h <;> rw [h] <;> rfl

set_option maxHeartbeats 4000000 in
theorem V_a : V m c main_v0 = (truncf .bf16 (m ((c : Thread nD τ).loc main_arg0)) bitsLt_bf16_f32 : FVec Ideal S2048x2048 .bf16) := by
  unfold V
  simp only [hostOps0, List.flatten_cons, List.flatten_nil, List.append_nil, List.cons_append, List.nil_append,
    TRef.binary, TRef.nullary, TRef.ternary, TRef.unary, TRef.toBuf, TRef.ofBuf, cast_eq]
  after_results_simp <;> rfl

set_option maxHeartbeats 4000000 in
theorem V_b : V m c main_v1 = (truncf .bf16 (m ((c : Thread nD τ).loc main_arg1)) bitsLt_bf16_f32 : FVec Ideal S2048x2048 .bf16) := by
  unfold V
  simp only [hostOps0, List.flatten_cons, List.flatten_nil, List.append_nil, List.cons_append, List.nil_append,
    TRef.binary, TRef.nullary, TRef.ternary, TRef.unary, TRef.toBuf, TRef.ofBuf, cast_eq]
  after_results_simp <;> rfl

theorem lt8 (t : Fin (cfgM m hO).N) : t.val < 4 := lt_of_lt_of_eq t.isLt (by decide : grid0.N = 4)

theorem coords : ∀ t : Fin grid0.N, (grid0.coords t 0).val = t.val / 1 ∧ (grid0.coords t 1).val = t.val % 1 ∧ (grid0.coords t 2).val = 0 := by decide +kernel

theorem idx0 (hw : word m = 0#32 ∨ word m = 1#32) (t : Fin (cfgM m hO).N) :
    ((cfgM m hO).win 0).index t = ![0, 2 * (t.val / 1) + (half m).val + t.val % 1] := by
  show cc0_transform_0 inb_S1_S1_0 numel1_S1 (tbl m) (grid0.coords t) = _
  rw [transform_at (tbl m) (word m) (tbl_at m), place_at (word m) hw, half_val m hw, (coords t).1, (coords t).2.1]
theorem idx1 (t : Fin (cfgM m hO).N) : ((cfgM m hO).win 1).index t = ![0, 0] := by
  show cc0_transform_1 (grid0.coords t) = _
  exact (by decide +kernel : ∀ t : Fin grid0.N, cc0_transform_1 (grid0.coords t) = ![0, 0]) t
theorem idx2 (t : Fin (cfgM m hO).N) : ((cfgM m hO).win 2).index t = ![t.val / 1, t.val % 1, 0] := by
  show cc0_transform_2 (grid0.coords t) = _
  exact (by decide +kernel : ∀ t : Fin grid0.N, cc0_transform_2 (grid0.coords t) = ![t.val / 1, t.val % 1, 0]) t

abbrev qr (t : Fin (cfgM m hO).N) : Fin 4 := ⟨t.val / 1, by have := lt8 m hO t; omega⟩
abbrev rw' (t : Fin (cfgM m hO).N) (r : Fin 256) : Fin 256 := ⟨t.val % 1 * 256 + r.val, by have := r.isLt; omega⟩

theorem a_blk (hw : word m = 0#32 ∨ word m = 1#32) (t : Fin (cfgM m hO).N) (i : S2048x256.Idx) :
    iblk m hO c 0 t i = aA m c (ix2 (i 0 : Fin 2048) (row (half m) (qr m hO t) (rw' m hO t (i 1)))) := by
  unfold iblk
  show V m c main_v0 ((((cfgM m hO).win 0).blk t).view.emb i) = _
  rw [V_a]
  show aA m c _ = _
  have h1 : (i 1).val < 256 := (i 1).isLt
  have e := idx0 m hO hw t
  refine congrArg _ (funext fun a => Fin.ext ?_)
  match a with
  | ⟨0, _⟩ => show ((cfgM m hO).win 0).index t (0 : Fin 2) * 2048 + 1 * (i 0).val = (i 0).val; rw [e]; show 0 * 2048 + 1 * (i 0).val = (i 0).val; omega
  | ⟨1, _⟩ =>
    show ((cfgM m hO).win 0).index t (1 : Fin 2) * 256 + 1 * (i 1).val = _
    rw [e]
    show (2 * (t.val / 1) + (half m).val + t.val % 1) * 256 + 1 * (i 1).val = (2 * (t.val / 1) + (half m).val) * 256 + (t.val % 1 * 256 + (i 1).val)
    omega

theorem b_blk (t : Fin (cfgM m hO).N) (i : S2048x2048.Idx) : iblk m hO c 1 t i = bA m c (ix2 (i 0 : Fin 2048) (i 1 : Fin 2048)) := by
  unfold iblk
  show V m c main_v1 ((((cfgM m hO).win 1).blk t).view.emb i) = _
  rw [V_b]
  show bA m c _ = _
  have e := idx1 m hO t
  refine congrArg _ (funext fun a => Fin.ext ?_)
  match a with
  | ⟨0, _⟩ => show ((cfgM m hO).win 1).index t (0 : Fin 2) * 2048 + 1 * (i 0).val = (i 0).val; rw [e]; show 0 * 2048 + 1 * (i 0).val = (i 0).val; omega
  | ⟨1, _⟩ => show ((cfgM m hO).win 1).index t (1 : Fin 2) * 2048 + 1 * (i 1).val = (i 1).val; rw [e]; show 0 * 2048 + 1 * (i 1).val = (i 1).val; omega

theorem out_pay (i : grid0.Coords)
    (a4 : Memref sig .tc .vmem S2048x256 .bf16) (h4 : a4.IsWhole)
    (a5 : Memref sig .tc .vmem S2048x2048 .bf16) (h5 : a5.IsWhole)
    (a6 : Memref sig .tc .vmem S1x256x2048 .bf16) (h6 : a6.IsWhole)
    (x0 : Vec Ideal S2048x256 .bf16) (x1 : Vec Ideal S2048x2048 .bf16) (xt : TbBuf0 (F := Ideal) c tbM0_0) :
    out0_A_2 c i a4 h4 a5 h5 a6 h6 x0 x1 xt = k0_pay1 x0 x1 := by
  unfold out0_A_2
  rw [View.read_writes_eq_canon _ _ _ (cover0_A_2 c i a4 h4 a5 h5 a6 h6 x0 x1 xt)]
  unfold kernelRun0_A
  dsimp only
  sl_unfold_words
  rw [View.canon_unit_zero zzz]
  simp only [View.readAt_eq_ld, h4.read_unread, h5.read_unread, View.ld_unit_zero (S := S2048x256) zz, View.ld_unit_zero (S := S2048x2048) zz]

/-- The whole result array. -/
def G : Buf (Elt Ideal) ((c : Thread nD τ).loc main_v2) := val (half m) (aA m c) (bA m c)

theorem flushed_eq (hw : word m = 0#32 ∨ word m = 1#32) (t : Fin (cfgM m hO).N) :
    (dats m hO 0 c).flushed 2 t = (((cfgM m hO).win 2).blk t).view.read (Elt Ideal) (G m c) := by
  refine funext fun (y : S1x256x2048.Idx) => ?_
  refine Eq.trans (b := val (half m) (aA m c) (bA m c) (ix3 (qr m hO t) (rw' m hO t (y 1)) (y 2 : Fin 2048))) ?_ ?_
  · show (dats m hO 0 c).after 2 t y = _
    rw [after0_2]
    unfold outsAt0
    refine (congrFun (out_pay c (grid0.coords t) _ (hs0_0 m hO t) _ (hs0_1 m hO t) _ (hs0_2 m hO t) (iblk m hO c 0 t) (iblk m hO c 1 t) (tbl m 0)) y).trans ?_
    refine (pay_at (iblk m hO c 0 t) (iblk m hO c 1 t) y).trans ?_
    unfold val
    exact Finset.sum_congr rfl fun k _ => congrArg₂ (· * ·) (a_blk m hO c hw t _) (b_blk m hO c t _)
  · show G m c _ = G m c ((((cfgM m hO).win 2).blk t).view.emb y)
    have h0 : (y 0).val < 1 := (y 0).isLt
    have e := idx2 m hO t
    refine congrArg _ (funext fun a => Fin.ext ?_)
    match a with
    | ⟨0, _⟩ => show t.val / 1 = ((cfgM m hO).win 2).index t (0 : Fin 3) * 1 + 1 * (y 0).val; rw [e]; show t.val / 1 = t.val / 1 * 1 + 1 * (y 0).val; omega
    | ⟨1, _⟩ => show t.val % 1 * 256 + (y 1).val = ((cfgM m hO).win 2).index t (1 : Fin 3) * 256 + 1 * (y 1).val; rw [e]; show _ = t.val % 1 * 256 + 1 * (y 1).val; omega
    | ⟨2, _⟩ => show (y 2).val = ((cfgM m hO).win 2).index t (2 : Fin 3) * 2048 + 1 * (y 2).val; rw [e]; show _ = 0 * 2048 + 1 * (y 2).val; omega

theorem mem_blk (t : Fin (cfgM m hO).N) (i : S4x256x2048.Idx) :
    i ∈ (((cfgM m hO).win 2).blk t).view.set ↔ ∀ a : Fin 3, ((cfgM m hO).win 2).index t a * S1x256x2048.size a ≤ (i a).val ∧ (i a).val < ((cfgM m hO).win 2).index t a * S1x256x2048.size a + S1x256x2048.size a := by
  have e : (((cfgM m hO).win 2).blk t).view.set = (((cfgM m hO).win 2).rect t).set := View.set_slice_whole main_v2 _
  rw [e]
  exact Rect.mem_set_unit

theorem covers (i : S4x256x2048.Idx) : ∃ t : Fin (cfgM m hO).N, ((cfgM m hO).win 2).flush t = true ∧ i ∈ (((cfgM m hO).win 2).blk t).view.set := by
  have h0 : (i 0).val < 4 := (i 0).isLt
  have h1 : (i 1).val < 256 := (i 1).isLt
  have h2 : (i 2).val < 2048 := (i 2).isLt
  refine ⟨⟨(i 0).val * 1 + (i 1).val / 256, lt_of_lt_of_eq (by omega) (by decide : 4 = grid0.N)⟩, flush0_2 _ _, (mem_blk m hO _ _).2 fun a => ?_⟩
  rw [idx2]
  match a with
  | ⟨0, _⟩ =>
    show ((i 0).val * 1 + (i 1).val / 256) / 1 * 1 ≤ (i 0).val ∧ (i 0).val < ((i 0).val * 1 + (i 1).val / 256) / 1 * 1 + 1
    omega
  | ⟨1, _⟩ =>
    show ((i 0).val * 1 + (i 1).val / 256) % 1 * 256 ≤ (i 1).val ∧ (i 1).val < ((i 0).val * 1 + (i 1).val / 256) % 1 * 256 + 256
    omega
  | ⟨2, _⟩ => show 0 * 2048 ≤ (i 2).val ∧ (i 2).val < 0 * 2048 + 2048; omega

theorem final (hw : word m = 0#32 ∨ word m = 1#32) : (dats m hO 0 c).arrAt 2 (cfgM m hO).N = G m c :=
  (dats m hO 0 c).arrAt_eq_of_cover 2 (G m c) (fun t _ => flushed_eq m hO c hw t) (covers m hO)

/-- The run: the result array and the arguments afterwards. -/
theorem run (ρ : Dev nD → PrngReg) (hw : word m = 0#32 ∨ word m = 1#32) :
    θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 2).trans (final m (ok m hw) c hw),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩)
    (run_main m ρ (ok m hw))

end Cert.GradOutIdeal.Blk

/-! The reference's result at an index. -/

namespace Cert.GradOutRefIdeal.Read

open Idealize.ShloMosaic hiding ix0 ix1 ix2 ix3 ix4 ix5 eq_ix2 eq_ix3
open Cert.GradOutRefIdeal Cert.GradOutRefIdeal.Gen Idealize.ShloMosaic.ValueIdx Idealize.ShloMosaic.StableHlo

variable (x0 : FVec Ideal S2048x2048 .f32) (x1 : FVec Ideal S2048x2048 .f32) (x2 : IVec S1 32) (i : S4x256x2048.Idx)

theorem whole_at (p : Fin 2048) (q : Fin 2048) :
    val_main_v3 (F := Ideal) x0 x1 (ix2 p q) = ∑ k : Fin 2048, (x0 (ix2 k p) * x1 (ix2 k q) : EReal) := by
  rw [val_main_v3_apply, val_main_v2_apply]
  refine Finset.sum_congr rfl fun k _ => ?_
  refine (mul_comm (x1 _) (x0 _)).trans (congrArg₂ (· * ·) (congrArg x0 ?_) (congrArg x1 ?_))
  · exact funext fun a => match a with | ⟨0, _⟩ => rfl | ⟨1, _⟩ => rfl
  · exact funext fun a => match a with | ⟨0, _⟩ => rfl | ⟨1, _⟩ => rfl

theorem cut_at (j : S4x2x256x2048.Idx) (p : Fin 2048) (q : Fin 2048) (hp : p.val = (2 * (j 0).val + (j 1).val) * 256 + (j 2).val) (hq : q.val = (j 3).val) :
    val_main_v4 (F := Ideal) x0 x1 j = val_main_v3 (F := Ideal) x0 x1 (ix2 p q) := by
  rw [val_main_v4_apply]
  have h0 : (j 0).val < 4 := (j 0).isLt
  have h1 : (j 1).val < 2 := (j 1).isLt
  have h2 : (j 2).val < 256 := (j 2).isLt
  have h3 : (j 3).val < 2048 := (j 3).isLt
  refine congrArg _ (funext fun a => Fin.ext ?_)
  match a with
  | ⟨0, _⟩ => show ((((j 0).val * 2 + (j 1).val) * 256 + (j 2).val) * 2048 + (j 3).val) / 2048 = p.val; omega
  | ⟨1, _⟩ => show ((((j 0).val * 2 + (j 1).val) * 256 + (j 2).val) * 2048 + (j 3).val) % 2048 = q.val; omega

theorem first_at : val_main_v8 (F := Ideal) x0 x1 i = Cert.GradOutIdeal.Blk.val 0 x0 x1 i := by
  have h0 : (i 0).val < 4 := (i 0).isLt
  have h1 : (i 1).val < 256 := (i 1).isLt
  have h2 : (i 2).val < 2048 := (i 2).isLt
  rw [val_main_v8_apply, val_main_v7_apply]
  refine (cut_at x0 x1 _ (Cert.GradOutIdeal.Blk.row 0 (i 0) (i 1)) (i 2) ?_ ?_).trans (whole_at x0 x1 _ _)
  · show (2 * (i 0).val + 0) * 256 + (i 1).val = (2 * ((((i 0).val * 256 + (i 1).val) * 2048 + (i 2).val) / 524288) + 0) * 256 + ((((i 0).val * 256 + (i 1).val) * 2048 + (i 2).val) / 2048 % 256)
    omega
  · show (i 2).val = (((i 0).val * 256 + (i 1).val) * 2048 + (i 2).val) % 2048
    omega

theorem second_at : val_main_v10 (F := Ideal) x0 x1 i = Cert.GradOutIdeal.Blk.val 1 x0 x1 i := by
  have h0 : (i 0).val < 4 := (i 0).isLt
  have h1 : (i 1).val < 256 := (i 1).isLt
  have h2 : (i 2).val < 2048 := (i 2).isLt
  rw [val_main_v10_apply, val_main_v9_apply]
  refine (cut_at x0 x1 _ (Cert.GradOutIdeal.Blk.row 1 (i 0) (i 1)) (i 2) ?_ ?_).trans (whole_at x0 x1 _ _)
  · show (2 * (i 0).val + 1) * 256 + (i 1).val = (2 * ((((i 0).val * 256 + (i 1).val) * 2048 + (i 2).val) / 524288) + (1 + 0)) * 256 + ((((i 0).val * 256 + (i 1).val) * 2048 + (i 2).val) / 2048 % 256)
    omega
  · show (i 2).val = (((i 0).val * 256 + (i 1).val) * 2048 + (i 2).val) % 2048
    omega

theorem chosen_at (j : S1.Idx) : val_main_v11 (F := Ideal) x0 x1 x2 i = Cert.GradOutIdeal.Blk.val (if x2 j = 0#32 then 0 else 1) x0 x1 i := by
  have e0 : ∀ k : S1.Idx, x2 k = x2 j := fun k => congrArg x2 (Cert.Pre_half_gradout.sub k j)
  have e : val_main_v11 (F := Ideal) x0 x1 x2 i
      = Scalar.select (BitVec.ofBool (x2 j == 0#32)) (val_main_v8 (F := Ideal) x0 x1 i) (val_main_v10 (F := Ideal) x0 x1 i) := by
    unfold val_main_v11
    show Scalar.select ((broadcastInDim S4x256x2048 ![] bcast_S_S4x256x2048 (val_main_v6 (F := Ideal) x2)) i) _ _ = _
    rw [broadcastInDim_apply _ bcast_S_S4x256x2048 _ i (fun a => a.elim0) (fun a => a.elim0), val_main_v6_apply]
    show Scalar.select (BitVec.ofBool (x2 _ == 0#32)) _ _ = _
    simp only [e0]
  rw [e, first_at, second_at]
  by_cases h : x2 j = 0#32
  · rw [if_pos h, h]; rfl
  · rw [if_neg h, beq_eq_false_iff_ne.2 h]; rfl

theorem ref_at (j : S1.Idx) : val_main_v12 (F := Ideal) x0 x1 x2 i = Cert.GradOutIdeal.Blk.val (if x2 j = 0#32 then 0 else 1) x0 x1 i :=
  chosen_at x0 x1 x2 i j

end Cert.GradOutRefIdeal.Read
end
-- ==== Proof.GradOutJoin.lean ====
module

public import proofs.«01_k».proof.Proof.GradOutKernel
public import proofs.«01_k».proof.Defs

@[expose] public section

noncomputable section

/-! Half of the gradient of the output projection: the kernel's result is the reference's. -/

namespace Cert.GradOut

open Idealize.ShloMosaic Idealize.SL.Sem

theorem ok_of_pre (m : (ℓ : Loc Cert.GradOut.nD Cert.GradOut.τ Cert.GradOut.sig) → Buf (Elt Bits) ℓ) (h : Cert.Pre_GradOut m) : Cert.GradOut.Gen.Ok m :=
  Cert.GradOut.Half.ok m (Cert.Pre_half_gradout.half _ _ _ (h 0) _)

theorem half_of_pre (m : (ℓ : Loc Cert.GradOutIdeal.nD Cert.GradOutIdeal.τ Cert.GradOutIdeal.sig) → Buf (Elt Ideal) ℓ) (h : Cert.Pre_GradOutIdeal m) :
    Cert.GradOutIdeal.Half.word m = 0#32 ∨ Cert.GradOutIdeal.Half.word m = 1#32 :=
  Cert.Pre_half_gradout.half _ _ _ (h 0) _

theorem ok_of_pre_ideal (m : (ℓ : Loc Cert.GradOutIdeal.nD Cert.GradOutIdeal.τ Cert.GradOutIdeal.sig) → Buf (Elt Ideal) ℓ) (h : Cert.Pre_GradOutIdeal m) :
    Cert.GradOutIdeal.Gen.Ok m := Cert.GradOutIdeal.Half.ok m (half_of_pre m h)

theorem join : Cert.algebraic_GradOutIdeal_GradOutRefIdeal := by
  intro m g m' g' hpre agree
  refine ⟨Cert.GradOutIdeal.Blk.G m, Cert.GradOutIdeal.Blk.run m g (half_of_pre m hpre), ?_⟩
  refine (θ_run Cert.GradOutRefIdeal.defs _ _).mono (fun r h c => ?_) (Cert.GradOutRefIdeal.Value.run (F := Ideal) m' g')
  obtain ⟨h0, hargs⟩ := h c
  obtain rfl : c = 0 := Subsingleton.elim _ _
  obtain ⟨e0, e1, e2⟩ := agree 0
  refine ⟨(h0.trans (Cert.GradOutRefIdeal.Read.val_main_v12_eq _ _ _)).trans (funext fun i => ?_), hargs⟩
  refine (Cert.GradOutRefIdeal.Read.ref_at _ _ _ i (fun a => match a with | ⟨0, _⟩ => (0 : Fin 1))).trans ?_
  unfold Cert.GradOutIdeal.Blk.G
  rw [e0, e1, e2]
  rfl

end Cert.GradOut
end
-- ==== Proof.GradOutAddHalf.lean ====
module

public import proofs.«01_k».proof.Proof.Gen.GradOutAdd.Frame
public import proofs.«01_k».proof.Proof.Gen.GradOutAddIdeal.Frame
public import proofs.«01_k».proof.Proof.Gen.Pre_half_gradoutadd
public import Idealize.ShloMosaic.Lib.Pipeline.Value
public import Idealize.ShloMosaic.Lib.Pointwise.Contract

@[expose] public section

set_option maxRecDepth 16384

noncomputable section

/-! Either half that may be asked for is inside the array. -/

namespace Cert.Pre_half_gradoutadd

open Idealize.ShloMosaic

variable {F : FTy → Type} [FloatOps F]

theorem sub (j k : S1.Idx) : j = k := funext fun a => match a with
  | ⟨0, _⟩ => Fin.ext (by have : (j 0).val < 1 := (j 0).isLt; have : (k 0).val < 1 := (k 0).isLt; show (j 0).val = (k 0).val; omega)

theorem half (x0 : FVec F S2048x2048 .f32) (x1 : FVec F S2048x2048 .f32) (x2 : IVec S1 32) (x3 : FVec F S4x256x2048 .bf16) (h : fn x0 x1 x2 x3 = fun _ => 1#1) (j : S1.Idx) : x2 j = 0#32 ∨ x2 j = 1#32 := by
  have e0 : ∀ k : S1.Idx, x2 k = x2 j := fun k => congrArg x2 (sub k j)
  have e := congrFun h (fun a => a.elim0)
  have e' : BitVec.ofBool (decide (x2 j = 0#32)) ||| BitVec.ofBool (decide (x2 j = 1#32)) = 1#1 := by
    refine Eq.trans ?_ e
    show _ = IntOp.cmpi .eq (x2 _) 0#32 ||| IntOp.cmpi .eq (x2 _) 1#32
    simp only [e0]; rfl
  by_cases h0 : x2 j = 0#32
  · exact Or.inl h0
  by_cases h1 : x2 j = 1#32
  · exact Or.inr h1
  rw [decide_eq_false h0, decide_eq_false h1] at e'
  exact absurd e' (by decide)

end Cert.Pre_half_gradoutadd

namespace Cert.GradOutAdd.Half

open Idealize.ShloMosaic Idealize.ShloMosaic.TcCoe Cert.GradOutAdd Cert.GradOutAdd.Gen Idealize.SL.Sem

/-- Where a point's block of the first operand is. -/
def place (w : BitVec 32) (i : grid0.Coords) : Fin 2 → Nat := cc0_transform_0 inb_S1_S1_0 numel1_S1 (F := Ideal) (fun | 0 => fun _ => w) i

theorem place_at (w : BitVec 32) (hw : w = 0#32 ∨ w = 1#32) : ∀ i : grid0.Coords,
    place w i = ![0, (2 * (i 0).val + w.toNat) + (i 1).val] := by
  rcases hw with rfl | rfl <;> decide +kernel

variable {F : FTy → Type} [FloatOps F]

theorem transform_at (pf : pre0.Contents (Elt F)) (w : BitVec 32) (e : pf 0 = fun _ => w) (i : grid0.Coords) :
    cc0_transform_0 inb_S1_S1_0 numel1_S1 pf i = place w i := by
  unfold place cc0_transform_0 Pipeline.Prefetch.Contents.at
  rw [e]

theorem ok_of_word (pf : pre0.Contents (Elt F)) (w : BitVec 32) (e : pf 0 = fun _ => w) (hw : w = 0#32 ∨ w = 1#32) : ok0 pf := by
  intro i
  refine ⟨fun a => ?_, .inr (Affine.block_words_dvd (of_decide_eq_true rfl) (by decide))⟩
  rw [transform_at pf w e, place_at w hw]
  have h0 : (i 0).val < 4 := (i 0).isLt
  have h1 : (i 1).val < 1 := (i 1).isLt
  have h2 : w.toNat ≤ 1 := by rcases hw with rfl | rfl <;> decide
  match a with
  | ⟨0, _⟩ => show (0 + 1) * 2048 ≤ 2048; omega
  | ⟨1, _⟩ => show ((2 * (i 0).val + w.toNat) + (i 1).val + 1) * 256 ≤ 2048; omega

variable (m : (ℓ : Loc nD τ sig) → Buf (Elt F) ℓ)

/-- The half that is asked for. -/
def word : BitVec 32 := (m (((0 : Dev nD) : Thread nD τ).loc main_arg2) : IVec S1 32) (fun a => match a with | ⟨0, _⟩ => (0 : Fin 1))

theorem tbl_at : tbl m 0 = fun _ => word m := by
  funext j
  show (V m 0 main_arg2 : IVec S1 32) j = _
  rw [V_main_arg2]
  exact congrArg _ (Cert.Pre_half_gradoutadd.sub j _)

theorem ok (hw : word m = 0#32 ∨ word m = 1#32) : Ok m := ok_of_word (tbl m) (word m) (tbl_at m) hw

end Cert.GradOutAdd.Half

namespace Cert.GradOutAddIdeal.Half

open Idealize.ShloMosaic Idealize.ShloMosaic.TcCoe Cert.GradOutAddIdeal Cert.GradOutAddIdeal.Gen Idealize.SL.Sem

/-- Where a point's block of the first operand is. -/
def place (w : BitVec 32) (i : grid0.Coords) : Fin 2 → Nat := cc0_transform_0 inb_S1_S1_0 numel1_S1 (F := Ideal) (fun | 0 => fun _ => w) i

theorem place_at (w : BitVec 32) (hw : w = 0#32 ∨ w = 1#32) : ∀ i : grid0.Coords,
    place w i = ![0, (2 * (i 0).val + w.toNat) + (i 1).val] := by
  rcases hw with rfl | rfl <;> decide +kernel

variable {F : FTy → Type} [FloatOps F]

theorem transform_at (pf : pre0.Contents (Elt F)) (w : BitVec 32) (e : pf 0 = fun _ => w) (i : grid0.Coords) :
    cc0_transform_0 inb_S1_S1_0 numel1_S1 pf i = place w i := by
  unfold place cc0_transform_0 Pipeline.Prefetch.Contents.at
  rw [e]

theorem ok_of_word (pf : pre0.Contents (Elt F)) (w : BitVec 32) (e : pf 0 = fun _ => w) (hw : w = 0#32 ∨ w = 1#32) : ok0 pf := by
  intro i
  refine ⟨fun a => ?_, .inr (Affine.block_words_dvd (of_decide_eq_true rfl) (by decide))⟩
  rw [transform_at pf w e, place_at w hw]
  have h0 : (i 0).val < 4 := (i 0).isLt
  have h1 : (i 1).val < 1 := (i 1).isLt
  have h2 : w.toNat ≤ 1 := by rcases hw with rfl | rfl <;> decide
  match a with
  | ⟨0, _⟩ => show (0 + 1) * 2048 ≤ 2048; omega
  | ⟨1, _⟩ => show ((2 * (i 0).val + w.toNat) + (i 1).val + 1) * 256 ≤ 2048; omega

variable (m : (ℓ : Loc nD τ sig) → Buf (Elt F) ℓ)

/-- The half that is asked for. -/
def word : BitVec 32 := (m (((0 : Dev nD) : Thread nD τ).loc main_arg2) : IVec S1 32) (fun a => match a with | ⟨0, _⟩ => (0 : Fin 1))

theorem tbl_at : tbl m 0 = fun _ => word m := by
  funext j
  show (V m 0 main_arg2 : IVec S1 32) j = _
  rw [V_main_arg2]
  exact congrArg _ (Cert.Pre_half_gradoutadd.sub j _)

theorem ok (hw : word m = 0#32 ∨ word m = 1#32) : Ok m := ok_of_word (tbl m) (word m) (tbl_at m) hw

end Cert.GradOutAddIdeal.Half

end
-- ==== Proof.GradOutAddKernel.lean ====
module

public import proofs.«01_k».proof.Proof.SguRef
public import proofs.«01_k».proof.Proof.GradOutAddHalf
public import proofs.«01_k».proof.Proof.Gen.GradOutAddRefIdeal.Read
public import Idealize.ShloMosaic.Lib.Pointwise.Contract
public import Idealize.ShloMosaic.Lib.Tactic
public import Idealize.ShloMosaic.Lib.WritesUnit

@[expose] public section

set_option maxRecDepth 16384

noncomputable section

/-! Half of the gradient, added to what is there of the output projection, index by index. -/

namespace Cert.GradOutAddIdeal.Blk

open Idealize.ShloMosaic hiding ix0 ix1 ix2 ix3 ix4 ix5 eq_ix2 eq_ix3
open Cert.GradOutAddIdeal Cert.GradOutAddIdeal.Gen Idealize.ShloMosaic.ValueIdx Idealize.ShloMosaic.TcCoe Idealize.SL.Sem
open Idealize.ShloMosaic.StableHlo Cert.GradOutAddIdeal.Half

/-- The row of the whole gradient that row `r` of quarter `q` of half `s` is. -/
abbrev row (s : Fin 2) (q : Fin 4) (r : Fin 256) : Fin 2048 :=
  ⟨(2 * q.val + s.val) * 256 + r.val, by have := s.isLt; have := q.isLt; have := r.isLt; omega⟩

/-- The value at one index. -/
def val (s : Fin 2) (a : S2048x2048.Idx → EReal) (b : S2048x2048.Idx → EReal) (i : S4x256x2048.Idx) : EReal :=
  ∑ k : Fin 2048, (a (ix2 k (row s (i 0) (i 1))) * b (ix2 k (i 2 : Fin 2048)) : EReal)

/-- The value at one index, with what is there. -/
def tot (s : Fin 2) (a : S2048x2048.Idx → EReal) (b : S2048x2048.Idx → EReal) (d : S4x256x2048.Idx → EReal) (i : S4x256x2048.Idx) : EReal := val s a b i + d i

theorem zz : (![0, 0] : Fin 2 → Nat) = fun _ => 0 := funext fun a => match a with | ⟨0, _⟩ => rfl | ⟨1, _⟩ => rfl
theorem zzz : (![0, 0, 0] : Fin 3 → Nat) = fun _ => 0 := funext fun a => match a with | ⟨0, _⟩ => rfl | ⟨1, _⟩ => rfl | ⟨2, _⟩ => rfl

/-- The block a point writes. -/
theorem pay_at (x0 : FVec Ideal S2048x256 .bf16) (x1 : FVec Ideal S2048x2048 .bf16) (x2 : FVec Ideal S1x256x2048 .bf16) (y : S1x256x2048.Idx) :
    k0_pay1 (F := Ideal) x0 x1 x2 y = ∑ k : Fin 2048, (x0 (ix2 k (y 1 : Fin 256)) * x1 (ix2 k (y 2 : Fin 2048)) : EReal) + x2 y := by
  unfold k0_pay1
  rw [shapeCast_self, shapeCast_self]
  refine (shapeCast_apply _ _ y (ix2 (y 1 : Fin 256) (y 2 : Fin 2048)) ?_).trans ?_
  · rw [Shape.rowMajor_val_two, Shape.rowMajor_val_three]
    have h0 : (y 0).val < 1 := (y 0).isLt
    show (y 1).val * 2048 + (y 2).val = ((y 0).val * 256 + (y 1).val) * 2048 + (y 2).val
    omega
  show matmul dot_S2048x256_S2048x2048_S256x2048_0_0_1_1_n_n none x0 x1 (constant S256x2048 .f32 0x00000000#32) (ix2 (y 1 : Fin 256) (y 2 : Fin 2048)) + shapeCast S256x2048 x2 _ (ix2 (y 1 : Fin 256) (y 2 : Fin 2048)) = _
  refine congrArg₂ (· + ·) ?_ ?_
  · show matmul dot_S2048x256_S2048x2048_S256x2048_0_0_1_1_n_n none x0 x1 (constant S256x2048 .f32 0x00000000#32) (ix2 (y 1 : Fin 256) (y 2 : Fin 2048)) = _
    refine (Ideal.matmul_apply₁_of dot_S2048x256_S2048x2048_S256x2048_0_0_1_1_n_n (a := 0) rfl rfl x0 x1 _ _
      (fun k => ix2 k (y 1 : Fin 256)) (fun k => ix2 k (y 2 : Fin 2048)) (fun k => funext fun b => match b with | ⟨0, _⟩ => rfl | ⟨1, _⟩ => rfl)
      (fun k => funext fun b => match b with | ⟨0, _⟩ => rfl | ⟨1, _⟩ => rfl)).trans ?_
    show Ideal.ofBits .f32 0x00000000#32 + _ = _
    rw [Cert.ReferenceIdeal.RefValue.lit_zero, EReal.coe_zero, zero_add]; rfl

  · refine shapeCast_apply _ _ _ y ?_
    rw [Shape.rowMajor_val_two, Shape.rowMajor_val_three]
    have h0 : (y 0).val < 1 := (y 0).isLt
    show ((y 0).val * 256 + (y 1).val) * 2048 + (y 2).val = (y 1).val * 2048 + (y 2).val
    omega

variable (m : (ℓ : Loc nD τ sig) → Buf (Elt Ideal) ℓ) (hO : Ok m) (c : Dev nD)

abbrev aA : S2048x2048.Idx → EReal := m ((c : Thread nD τ).loc main_arg0)
abbrev bA : S2048x2048.Idx → EReal := m ((c : Thread nD τ).loc main_arg1)
abbrev dA : S4x256x2048.Idx → EReal := m ((c : Thread nD τ).loc main_arg3)

/-- The half that is asked for, as a number. -/
abbrev half : Fin 2 := if word m = 0#32 then 0 else 1

theorem half_val (hw : word m = 0#32 ∨ word m = 1#32) : (word m).toNat = (half m).val := by
  unfold half
  rcases hw with h | h <;> rw [h] <;> rfl

set_option maxHeartbeats 4000000 in
theorem V_a : V m c main_v0 = (truncf .bf16 (m ((c : Thread nD τ).loc main_arg0)) bitsLt_bf16_f32 : FVec Ideal S2048x2048 .bf16) := by
  unfold V
  simp only [hostOps0, List.flatten_cons, List.flatten_nil, List.append_nil, List.cons_append, List.nil_append,
    TRef.binary, TRef.nullary, TRef.ternary, TRef.unary, TRef.toBuf, TRef.ofBuf, cast_eq]
  after_results_simp <;> rfl

set_option maxHeartbeats 4000000 in
theorem V_b : V m c main_v1 = (truncf .bf16 (m ((c : Thread nD τ).loc main_arg1)) bitsLt_bf16_f32 : FVec Ideal S2048x2048 .bf16) := by
  unfold V
  simp only [hostOps0, List.flatten_cons, List.flatten_nil, List.append_nil, List.cons_append, List.nil_append,
    TRef.binary, TRef.nullary, TRef.ternary, TRef.unary, TRef.toBuf, TRef.ofBuf, cast_eq]
  after_results_simp <;> rfl

theorem lt8 (t : Fin (cfgM m hO).N) : t.val < 4 := lt_of_lt_of_eq t.isLt (by decide : grid0.N = 4)

theorem coords : ∀ t : Fin grid0.N, (grid0.coords t 0).val = t.val / 1 ∧ (grid0.coords t 1).val = t.val % 1 ∧ (grid0.coords t 2).val = 0 := by decide +kernel

theorem idx0 (hw : word m = 0#32 ∨ word m = 1#32) (t : Fin (cfgM m hO).N) :
    ((cfgM m hO).win 0).index t = ![0, 2 * (t.val / 1) + (half m).val + t.val % 1] := by
  show cc0_transform_0 inb_S1_S1_0 numel1_S1 (tbl m) (grid0.coords t) = _
  rw [transform_at (tbl m) (word m) (tbl_at m), place_at (word m) hw, half_val m hw, (coords t).1, (coords t).2.1]
theorem idx1 (t : Fin (cfgM m hO).N) : ((cfgM m hO).win 1).index t = ![0, 0] := by
  show cc0_transform_1 (grid0.coords t) = _
  exact (by decide +kernel : ∀ t : Fin grid0.N, cc0_transform_1 (grid0.coords t) = ![0, 0]) t
theorem idx2 (t : Fin (cfgM m hO).N) : ((cfgM m hO).win 2).index t = ![t.val / 1, t.val % 1, 0] := by
  show cc0_transform_2 (grid0.coords t) = _
  exact (by decide +kernel : ∀ t : Fin grid0.N, cc0_transform_2 (grid0.coords t) = ![t.val / 1, t.val % 1, 0]) t
theorem idx3 (t : Fin (cfgM m hO).N) : ((cfgM m hO).win 3).index t = ![t.val / 1, t.val % 1, 0] := by
  show cc0_transform_3 (grid0.coords t) = _
  exact (by decide +kernel : ∀ t : Fin grid0.N, cc0_transform_3 (grid0.coords t) = ![t.val / 1, t.val % 1, 0]) t

abbrev qr (t : Fin (cfgM m hO).N) : Fin 4 := ⟨t.val / 1, by have := lt8 m hO t; omega⟩
abbrev rw' (t : Fin (cfgM m hO).N) (r : Fin 256) : Fin 256 := ⟨t.val % 1 * 256 + r.val, by have := r.isLt; omega⟩

theorem a_blk (hw : word m = 0#32 ∨ word m = 1#32) (t : Fin (cfgM m hO).N) (i : S2048x256.Idx) :
    iblk m hO c 0 t i = aA m c (ix2 (i 0 : Fin 2048) (row (half m) (qr m hO t) (rw' m hO t (i 1)))) := by
  unfold iblk
  show V m c main_v0 ((((cfgM m hO).win 0).blk t).view.emb i) = _
  rw [V_a]
  show aA m c _ = _
  have h1 : (i 1).val < 256 := (i 1).isLt
  have e := idx0 m hO hw t
  refine congrArg _ (funext fun a => Fin.ext ?_)
  match a with
  | ⟨0, _⟩ => show ((cfgM m hO).win 0).index t (0 : Fin 2) * 2048 + 1 * (i 0).val = (i 0).val; rw [e]; show 0 * 2048 + 1 * (i 0).val = (i 0).val; omega
  | ⟨1, _⟩ =>
    show ((cfgM m hO).win 0).index t (1 : Fin 2) * 256 + 1 * (i 1).val = _
    rw [e]
    show (2 * (t.val / 1) + (half m).val + t.val % 1) * 256 + 1 * (i 1).val = (2 * (t.val / 1) + (half m).val) * 256 + (t.val % 1 * 256 + (i 1).val)
    omega

theorem b_blk (t : Fin (cfgM m hO).N) (i : S2048x2048.Idx) : iblk m hO c 1 t i = bA m c (ix2 (i 0 : Fin 2048) (i 1 : Fin 2048)) := by
  unfold iblk
  show V m c main_v1 ((((cfgM m hO).win 1).blk t).view.emb i) = _
  rw [V_b]
  show bA m c _ = _
  have e := idx1 m hO t
  refine congrArg _ (funext fun a => Fin.ext ?_)
  match a with
  | ⟨0, _⟩ => show ((cfgM m hO).win 1).index t (0 : Fin 2) * 2048 + 1 * (i 0).val = (i 0).val; rw [e]; show 0 * 2048 + 1 * (i 0).val = (i 0).val; omega
  | ⟨1, _⟩ => show ((cfgM m hO).win 1).index t (1 : Fin 2) * 2048 + 1 * (i 1).val = (i 1).val; rw [e]; show 0 * 2048 + 1 * (i 1).val = (i 1).val; omega

theorem d_blk (t : Fin (cfgM m hO).N) (y : S1x256x2048.Idx) : iblk m hO c 2 t y = dA m c (ix3 (qr m hO t) (rw' m hO t (y 1)) (y 2 : Fin 2048)) := by
  unfold iblk
  show V m c main_arg3 ((((cfgM m hO).win 2).blk t).view.emb y) = _
  rw [V_main_arg3]
  show dA m c _ = dA m c _
  have h0 : (y 0).val < 1 := (y 0).isLt
  have e := idx2 m hO t
  refine congrArg _ (funext fun a => Fin.ext ?_)
  match a with
  | ⟨0, _⟩ => show ((cfgM m hO).win 2).index t (0 : Fin 3) * 1 + 1 * (y 0).val = t.val / 1; rw [e]; show t.val / 1 * 1 + 1 * (y 0).val = t.val / 1; omega
  | ⟨1, _⟩ => show ((cfgM m hO).win 2).index t (1 : Fin 3) * 256 + 1 * (y 1).val = t.val % 1 * 256 + (y 1).val; rw [e]; show t.val % 1 * 256 + 1 * (y 1).val = _; omega
  | ⟨2, _⟩ => show ((cfgM m hO).win 2).index t (2 : Fin 3) * 2048 + 1 * (y 2).val = (y 2).val; rw [e]; show 0 * 2048 + 1 * (y 2).val = _; omega

theorem out_pay (i : grid0.Coords)
    (a4 : Memref sig .tc .vmem S2048x256 .bf16) (h4 : a4.IsWhole)
    (a5 : Memref sig .tc .vmem S2048x2048 .bf16) (h5 : a5.IsWhole)
    (a6 : Memref sig .tc .vmem S1x256x2048 .bf16) (h6 : a6.IsWhole)
    (a7 : Memref sig .tc .vmem S1x256x2048 .bf16) (h7 : a7.IsWhole)
    (x0 : Vec Ideal S2048x256 .bf16) (x1 : Vec Ideal S2048x2048 .bf16) (x2 : Vec Ideal S1x256x2048 .bf16) (xt : TbBuf0 (F := Ideal) c tbM0_0) :
    out0_A_3 c i a4 h4 a5 h5 a6 h6 a7 h7 x0 x1 x2 xt = k0_pay1 x0 x1 x2 := by
  unfold out0_A_3
  rw [View.read_writes_eq_canon _ _ _ (cover0_A_3 c i a4 h4 a5 h5 a6 h6 a7 h7 x0 x1 x2 xt)]
  unfold kernelRun0_A
  dsimp only
  sl_unfold_words
  rw [View.canon_unit_zero zzz]
  simp only [View.readAt_eq_ld, h4.read_unread, h5.read_unread, h6.read_unread, View.ld_unit_zero (S := S1x256x2048) zzz, View.ld_unit_zero (S := S2048x256) zz, View.ld_unit_zero (S := S2048x2048) zz]

/-- The whole result array. -/
def G : Buf (Elt Ideal) ((c : Thread nD τ).loc main_v2) := tot (half m) (aA m c) (bA m c) (dA m c)

theorem flushed_eq (hw : word m = 0#32 ∨ word m = 1#32) (t : Fin (cfgM m hO).N) :
    (dats m hO 0 c).flushed 3 t = (((cfgM m hO).win 3).blk t).view.read (Elt Ideal) (G m c) := by
  refine funext fun (y : S1x256x2048.Idx) => ?_
  refine Eq.trans (b := tot (half m) (aA m c) (bA m c) (dA m c) (ix3 (qr m hO t) (rw' m hO t (y 1)) (y 2 : Fin 2048))) ?_ ?_
  · show (dats m hO 0 c).after 3 t y = _
    rw [after0_3]
    unfold outsAt0
    refine (congrFun (out_pay c (grid0.coords t) _ (hs0_0 m hO t) _ (hs0_1 m hO t) _ (hs0_2 m hO t) _ (hs0_3 m hO t) (iblk m hO c 0 t) (iblk m hO c 1 t) (iblk m hO c 2 t) (tbl m 0)) y).trans ?_
    refine (pay_at (iblk m hO c 0 t) (iblk m hO c 1 t) (iblk m hO c 2 t) y).trans ?_
    unfold tot val
    exact congrArg₂ (· + ·) (Finset.sum_congr rfl fun k _ => congrArg₂ (· * ·) (a_blk m hO c hw t _) (b_blk m hO c t _)) (d_blk m hO c t y)
  · show G m c _ = G m c ((((cfgM m hO).win 3).blk t).view.emb y)
    have h0 : (y 0).val < 1 := (y 0).isLt
    have e := idx3 m hO t
    refine congrArg _ (funext fun a => Fin.ext ?_)
    match a with
    | ⟨0, _⟩ => show t.val / 1 = ((cfgM m hO).win 3).index t (0 : Fin 3) * 1 + 1 * (y 0).val; rw [e]; show t.val / 1 = t.val / 1 * 1 + 1 * (y 0).val; omega
    | ⟨1, _⟩ => show t.val % 1 * 256 + (y 1).val = ((cfgM m hO).win 3).index t (1 : Fin 3) * 256 + 1 * (y 1).val; rw [e]; show _ = t.val % 1 * 256 + 1 * (y 1).val; omega
    | ⟨2, _⟩ => show (y 2).val = ((cfgM m hO).win 3).index t (2 : Fin 3) * 2048 + 1 * (y 2).val; rw [e]; show _ = 0 * 2048 + 1 * (y 2).val; omega

theorem mem_blk (t : Fin (cfgM m hO).N) (i : S4x256x2048.Idx) :
    i ∈ (((cfgM m hO).win 3).blk t).view.set ↔ ∀ a : Fin 3, ((cfgM m hO).win 3).index t a * S1x256x2048.size a ≤ (i a).val ∧ (i a).val < ((cfgM m hO).win 3).index t a * S1x256x2048.size a + S1x256x2048.size a := by
  have e : (((cfgM m hO).win 3).blk t).view.set = (((cfgM m hO).win 3).rect t).set := View.set_slice_whole main_v2 _
  rw [e]
  exact Rect.mem_set_unit

theorem covers (i : S4x256x2048.Idx) : ∃ t : Fin (cfgM m hO).N, ((cfgM m hO).win 3).flush t = true ∧ i ∈ (((cfgM m hO).win 3).blk t).view.set := by
  have h0 : (i 0).val < 4 := (i 0).isLt
  have h1 : (i 1).val < 256 := (i 1).isLt
  have h2 : (i 2).val < 2048 := (i 2).isLt
  refine ⟨⟨(i 0).val * 1 + (i 1).val / 256, lt_of_lt_of_eq (by omega) (by decide : 4 = grid0.N)⟩, flush0_3 _ _, (mem_blk m hO _ _).2 fun a => ?_⟩
  rw [idx3]
  match a with
  | ⟨0, _⟩ =>
    show ((i 0).val * 1 + (i 1).val / 256) / 1 * 1 ≤ (i 0).val ∧ (i 0).val < ((i 0).val * 1 + (i 1).val / 256) / 1 * 1 + 1
    omega
  | ⟨1, _⟩ =>
    show ((i 0).val * 1 + (i 1).val / 256) % 1 * 256 ≤ (i 1).val ∧ (i 1).val < ((i 0).val * 1 + (i 1).val / 256) % 1 * 256 + 256
    omega
  | ⟨2, _⟩ => show 0 * 2048 ≤ (i 2).val ∧ (i 2).val < 0 * 2048 + 2048; omega

theorem final (hw : word m = 0#32 ∨ word m = 1#32) : (dats m hO 0 c).arrAt 3 (cfgM m hO).N = G m c :=
  (dats m hO 0 c).arrAt_eq_of_cover 3 (G m c) (fun t _ => flushed_eq m hO c hw t) (covers m hO)

/-- The run: the result array and the arguments afterwards. -/
theorem run (ρ : Dev nD → PrngReg) (hw : word m = 0#32 ∨ word m = 1#32) :
    θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 3).trans (final m (ok m hw) c hw),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 2).trans (((dats m (ok m hw) 0 c).arrAt_in 2 rfl _).trans ((A_eq m (ok m hw) c 2).trans (V_main_arg3 m c)))⟩)
    (run_main m ρ (ok m hw))

end Cert.GradOutAddIdeal.Blk

/-! The reference's result at an index. -/

namespace Cert.GradOutAddRefIdeal.Read

open Idealize.ShloMosaic hiding ix0 ix1 ix2 ix3 ix4 ix5 eq_ix2 eq_ix3
open Cert.GradOutAddRefIdeal Cert.GradOutAddRefIdeal.Gen Idealize.ShloMosaic.ValueIdx Idealize.ShloMosaic.StableHlo

variable (x0 : FVec Ideal S2048x2048 .f32) (x1 : FVec Ideal S2048x2048 .f32) (x2 : IVec S1 32) (i : S4x256x2048.Idx)

theorem whole_at (p : Fin 2048) (q : Fin 2048) :
    val_main_v3 (F := Ideal) x0 x1 (ix2 p q) = ∑ k : Fin 2048, (x0 (ix2 k p) * x1 (ix2 k q) : EReal) := by
  rw [val_main_v3_apply, val_main_v2_apply]
  refine Finset.sum_congr rfl fun k _ => ?_
  refine (mul_comm (x1 _) (x0 _)).trans (congrArg₂ (· * ·) (congrArg x0 ?_) (congrArg x1 ?_))
  · exact funext fun a => match a with | ⟨0, _⟩ => rfl | ⟨1, _⟩ => rfl
  · exact funext fun a => match a with | ⟨0, _⟩ => rfl | ⟨1, _⟩ => rfl

theorem cut_at (j : S4x2x256x2048.Idx) (p : Fin 2048) (q : Fin 2048) (hp : p.val = (2 * (j 0).val + (j 1).val) * 256 + (j 2).val) (hq : q.val = (j 3).val) :
    val_main_v4 (F := Ideal) x0 x1 j = val_main_v3 (F := Ideal) x0 x1 (ix2 p q) := by
  rw [val_main_v4_apply]
  have h0 : (j 0).val < 4 := (j 0).isLt
  have h1 : (j 1).val < 2 := (j 1).isLt
  have h2 : (j 2).val < 256 := (j 2).isLt
  have h3 : (j 3).val < 2048 := (j 3).isLt
  refine congrArg _ (funext fun a => Fin.ext ?_)
  match a with
  | ⟨0, _⟩ => show ((((j 0).val * 2 + (j 1).val) * 256 + (j 2).val) * 2048 + (j 3).val) / 2048 = p.val; omega
  | ⟨1, _⟩ => show ((((j 0).val * 2 + (j 1).val) * 256 + (j 2).val) * 2048 + (j 3).val) % 2048 = q.val; omega

theorem first_at : val_main_v8 (F := Ideal) x0 x1 i = Cert.GradOutAddIdeal.Blk.val 0 x0 x1 i := by
  have h0 : (i 0).val < 4 := (i 0).isLt
  have h1 : (i 1).val < 256 := (i 1).isLt
  have h2 : (i 2).val < 2048 := (i 2).isLt
  rw [val_main_v8_apply, val_main_v7_apply]
  refine (cut_at x0 x1 _ (Cert.GradOutAddIdeal.Blk.row 0 (i 0) (i 1)) (i 2) ?_ ?_).trans (whole_at x0 x1 _ _)
  · show (2 * (i 0).val + 0) * 256 + (i 1).val = (2 * ((((i 0).val * 256 + (i 1).val) * 2048 + (i 2).val) / 524288) + 0) * 256 + ((((i 0).val * 256 + (i 1).val) * 2048 + (i 2).val) / 2048 % 256)
    omega
  · show (i 2).val = (((i 0).val * 256 + (i 1).val) * 2048 + (i 2).val) % 2048
    omega

theorem second_at : val_main_v10 (F := Ideal) x0 x1 i = Cert.GradOutAddIdeal.Blk.val 1 x0 x1 i := by
  have h0 : (i 0).val < 4 := (i 0).isLt
  have h1 : (i 1).val < 256 := (i 1).isLt
  have h2 : (i 2).val < 2048 := (i 2).isLt
  rw [val_main_v10_apply, val_main_v9_apply]
  refine (cut_at x0 x1 _ (Cert.GradOutAddIdeal.Blk.row 1 (i 0) (i 1)) (i 2) ?_ ?_).trans (whole_at x0 x1 _ _)
  · show (2 * (i 0).val + 1) * 256 + (i 1).val = (2 * ((((i 0).val * 256 + (i 1).val) * 2048 + (i 2).val) / 524288) + (1 + 0)) * 256 + ((((i 0).val * 256 + (i 1).val) * 2048 + (i 2).val) / 2048 % 256)
    omega
  · show (i 2).val = (((i 0).val * 256 + (i 1).val) * 2048 + (i 2).val) % 2048
    omega

theorem chosen_at (j : S1.Idx) : val_main_v11 (F := Ideal) x0 x1 x2 i = Cert.GradOutAddIdeal.Blk.val (if x2 j = 0#32 then 0 else 1) x0 x1 i := by
  have e0 : ∀ k : S1.Idx, x2 k = x2 j := fun k => congrArg x2 (Cert.Pre_half_gradoutadd.sub k j)
  have e : val_main_v11 (F := Ideal) x0 x1 x2 i
      = Scalar.select (BitVec.ofBool (x2 j == 0#32)) (val_main_v8 (F := Ideal) x0 x1 i) (val_main_v10 (F := Ideal) x0 x1 i) := by
    unfold val_main_v11
    show Scalar.select ((broadcastInDim S4x256x2048 ![] bcast_S_S4x256x2048 (val_main_v6 (F := Ideal) x2)) i) _ _ = _
    rw [broadcastInDim_apply _ bcast_S_S4x256x2048 _ i (fun a => a.elim0) (fun a => a.elim0), val_main_v6_apply]
    show Scalar.select (BitVec.ofBool (x2 _ == 0#32)) _ _ = _
    simp only [e0]
  rw [e, first_at, second_at]
  by_cases h : x2 j = 0#32
  · rw [if_pos h, h]; rfl
  · rw [if_neg h, beq_eq_false_iff_ne.2 h]; rfl

theorem ref_at (x3 : FVec Ideal S4x256x2048 .bf16) (j : S1.Idx) : val_main_v14 (F := Ideal) x0 x1 x2 x3 i = Cert.GradOutAddIdeal.Blk.tot (if x2 j = 0#32 then 0 else 1) x0 x1 x3 i := by
  rw [val_main_v14_apply, val_main_v13_apply, val_main_v12_apply, chosen_at x0 x1 x2 i j]
  rfl

end Cert.GradOutAddRefIdeal.Read
end
-- ==== Proof.GradOutAddJoin.lean ====
module

public import proofs.«01_k».proof.Proof.GradOutAddKernel
public import proofs.«01_k».proof.Defs

@[expose] public section

noncomputable section

/-! Half of the gradient, added to what is there of the output projection: the kernel's result is the reference's. -/

namespace Cert.GradOutAdd

open Idealize.ShloMosaic Idealize.SL.Sem

theorem ok_of_pre (m : (ℓ : Loc Cert.GradOutAdd.nD Cert.GradOutAdd.τ Cert.GradOutAdd.sig) → Buf (Elt Bits) ℓ) (h : Cert.Pre_GradOutAdd m) : Cert.GradOutAdd.Gen.Ok m :=
  Cert.GradOutAdd.Half.ok m (Cert.Pre_half_gradoutadd.half _ _ _ _ (h 0) _)

theorem half_of_pre (m : (ℓ : Loc Cert.GradOutAddIdeal.nD Cert.GradOutAddIdeal.τ Cert.GradOutAddIdeal.sig) → Buf (Elt Ideal) ℓ) (h : Cert.Pre_GradOutAddIdeal m) :
    Cert.GradOutAddIdeal.Half.word m = 0#32 ∨ Cert.GradOutAddIdeal.Half.word m = 1#32 :=
  Cert.Pre_half_gradoutadd.half _ _ _ _ (h 0) _

theorem ok_of_pre_ideal (m : (ℓ : Loc Cert.GradOutAddIdeal.nD Cert.GradOutAddIdeal.τ Cert.GradOutAddIdeal.sig) → Buf (Elt Ideal) ℓ) (h : Cert.Pre_GradOutAddIdeal m) :
    Cert.GradOutAddIdeal.Gen.Ok m := Cert.GradOutAddIdeal.Half.ok m (half_of_pre m h)

theorem join : Cert.algebraic_GradOutAddIdeal_GradOutAddRefIdeal := by
  intro m g m' g' hpre agree
  refine ⟨Cert.GradOutAddIdeal.Blk.G m, Cert.GradOutAddIdeal.Blk.run m g (half_of_pre m hpre), ?_⟩
  refine (θ_run Cert.GradOutAddRefIdeal.defs _ _).mono (fun r h c => ?_) (Cert.GradOutAddRefIdeal.Value.run (F := Ideal) m' g')
  obtain ⟨h0, hargs⟩ := h c
  obtain rfl : c = 0 := Subsingleton.elim _ _
  obtain ⟨e0, e1, e2, e3⟩ := agree 0
  refine ⟨(h0.trans (Cert.GradOutAddRefIdeal.Read.val_main_v14_eq _ _ _ _)).trans (funext fun i => ?_), hargs⟩
  refine (Cert.GradOutAddRefIdeal.Read.ref_at _ _ _ i _ (fun a => match a with | ⟨0, _⟩ => (0 : Fin 1))).trans ?_
  unfold Cert.GradOutAddIdeal.Blk.G
  rw [e0, e1, e2, e3]
  rfl

end Cert.GradOutAdd
end
-- ==== Proof.GradInKernel.lean ====
module

public import proofs.«01_k».proof.Proof.SguRef
public import proofs.«01_k».proof.Proof.Gen.GradInIdeal.Value
public import proofs.«01_k».proof.Proof.Gen.GradInRefIdeal.Read
public import Idealize.ShloMosaic.Lib.Pointwise.Contract
public import Idealize.ShloMosaic.Lib.Tactic
public import Idealize.ShloMosaic.Lib.WritesUnit

@[expose] public section

set_option maxRecDepth 16384

noncomputable section

/-! The gradient of the input projection's weight, transposed, index by index. -/

namespace Cert.GradInIdeal.Blk

open Idealize.ShloMosaic hiding ix0 ix1 ix2 ix3 ix4 ix5 eq_ix2 eq_ix3
open Cert.GradInIdeal Cert.GradInIdeal.Gen Idealize.ShloMosaic.ValueIdx Idealize.ShloMosaic.TcCoe Idealize.SL.Sem
open Idealize.ShloMosaic.StableHlo

variable (m : (ℓ : Loc nD τ sig) → Buf (Elt Ideal) ℓ) (c : Dev nD)

/-- The value at one index. -/
def val (h : S2048x2048.Idx → EReal) (ct : S2048x3584.Idx → EReal) (i : S3584x2048.Idx) : EReal :=
  ∑ k : Fin 2048, (ct (ix2 k (i 0 : Fin 3584)) * h (ix2 k (i 1 : Fin 2048)) : EReal)

theorem zz : (![0, 0] : Fin 2 → Nat) = fun _ => 0 := funext fun a => match a with | ⟨0, _⟩ => rfl | ⟨1, _⟩ => rfl

/-- The block one step writes. -/
theorem pay_at (x0 : FVec Ideal S2048x512 .bf16) (x1 : FVec Ideal S2048x2048 .bf16) (y : S512x2048.Idx) :
    k0_pay1 (F := Ideal) x0 x1 y = ∑ k : Fin 2048, (x0 (ix2 k (y 0 : Fin 512)) * x1 (ix2 k (y 1 : Fin 2048)) : EReal) := by
  unfold k0_pay1
  rw [shapeCast_self, shapeCast_self]
  show matmul dot_S2048x512_S2048x2048_S512x2048_0_0_1_1_n_n none x0 x1 (constant S512x2048 .f32 0x00000000#32) y = _
  refine (Ideal.matmul_apply₁_of dot_S2048x512_S2048x2048_S512x2048_0_0_1_1_n_n (a := 0) rfl rfl x0 x1 _ _
    (fun k => ix2 k (y 0 : Fin 512)) (fun k => ix2 k (y 1 : Fin 2048)) (fun k => funext fun b => match b with | ⟨0, _⟩ => rfl | ⟨1, _⟩ => rfl)
    (fun k => funext fun b => match b with | ⟨0, _⟩ => rfl | ⟨1, _⟩ => rfl)).trans ?_
  show Ideal.ofBits .f32 0x00000000#32 + _ = _
  rw [Cert.ReferenceIdeal.RefValue.lit_zero, EReal.coe_zero, zero_add]; rfl

/-- The arguments, as arrays of numbers. -/
abbrev hA : S2048x2048.Idx → EReal := m ((c : Thread nD τ).loc main_arg0)
abbrev ctA : S2048x3584.Idx → EReal := m ((c : Thread nD τ).loc main_arg1)

set_option maxHeartbeats 4000000 in
theorem V_h : V m c main_v4 = (truncf .bf16 (m ((c : Thread nD τ).loc main_arg0)) bitsLt_bf16_f32 : FVec Ideal S2048x2048 .bf16) := by
  unfold V
  simp only [hostOps0, List.flatten_cons, List.flatten_nil, List.append_nil, List.cons_append, List.nil_append,
    TRef.binary, TRef.nullary, TRef.ternary, TRef.unary, TRef.toBuf, TRef.ofBuf, cast_eq]
  after_results_simp <;> rfl

theorem col_lt (t : Fin cfg0.N) (j : Fin 512) : t.val * 512 + j.val < 3584 := by
  have := lt_of_lt_of_eq t.isLt N_0; have := j.isLt; omega

/-- The column of the product's gradient that column `j` of block `t` is. -/
abbrev col (t : Fin cfg0.N) (j : Fin 512) : Fin 3584 := ⟨t.val * 512 + j.val, col_lt t j⟩

theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem flush4 : ∀ t : Fin cfg0.N, (cfg0.win 4).flush t = true := (by decide +kernel : ∀ t : Fin grid0.N, _)

/-! The columns from 0 on. -/

set_option maxHeartbeats 4000000 in
theorem V_v1 : V m c main_v1 = (extractStridedSlice S2048x1536 ![0, 0] (truncf .bf16 (m ((c : Thread nD τ).loc main_arg1)) bitsLt_bf16_f32 : FVec Ideal S2048x3584 .bf16) slices_S2048x3584_S2048x1536_0_0 : FVec Ideal S2048x1536 .bf16) := by
  unfold V
  simp only [hostOps0, List.flatten_cons, List.flatten_nil, List.append_nil, List.cons_append, List.nil_append,
    TRef.binary, TRef.nullary, TRef.ternary, TRef.unary, TRef.toBuf, TRef.ofBuf, cast_eq]
  after_results_simp <;> rfl

theorem v1_at (i : S2048x1536.Idx) (q : Fin 3584) (hq : q.val = 0 + (i 1).val) : V m c main_v1 i = ctA m c (ix2 (i 0 : Fin 2048) q) := by
  rw [V_v1]
  exact extractStridedSlice_apply ![0, 0] _ slices_S2048x3584_S2048x1536_0_0 i (ix2 (i 0 : Fin 2048) q) (fun a => match a with
    | ⟨0, _⟩ => (Nat.zero_add _).symm
    | ⟨1, _⟩ => hq)

theorem idx0 : ∀ t : Fin cfg0.N, 0 ≤ t.val → t.val < 3 → win0_0.index t (0 : Fin 2) = 0 ∧ win0_0.index t (1 : Fin 2) + 0 = t.val := (by decide +kernel : ∀ t : Fin grid0.N, _)

theorem v1_blk (t : Fin cfg0.N) (hl : 0 ≤ t.val) (hh : t.val < 3) (i : S2048x512.Idx) : iblk m c 0 t i = ctA m c (ix2 (i 0 : Fin 2048) (col t (i 1))) := by
  unfold iblk
  rw [View.read_apply]
  show V m c main_v1 _ = _
  have e := idx0 t hl hh
  refine (v1_at m c _ (col t (i 1)) ?_).trans (congrArg (ctA m c) (funext fun a => ?_))
  · show t.val * 512 + (i 1).val = 0 + (win0_0.index t (1 : Fin 2) * 512 + 1 * (i 1).val)
    omega
  · match a with
    | ⟨0, _⟩ => exact Fin.ext (show win0_0.index t (0 : Fin 2) * 2048 + 1 * (i 0).val = (i 0).val by rw [e.1]; omega)
    | ⟨1, _⟩ => rfl

theorem out_A (i : grid0.Coords)
    (a1 : Memref sig .tc .vmem S2048x512 .bf16) (h1 : a1.IsWhole) (a2 : Memref sig .tc .vmem S2048x512 .bf16) (h2 : a2.IsWhole)
    (a3 : Memref sig .tc .vmem S2048x512 .bf16) (h3 : a3.IsWhole) (a4 : Memref sig .tc .vmem S2048x2048 .bf16) (h4 : a4.IsWhole)
    (a5 : Memref sig .tc .vmem S512x2048 .bf16) (h5 : a5.IsWhole) (c0 : cond0_0 i) (c1 : ¬cond0_1 i) (c2 : ¬cond0_2 i)
    (x0 : Vec Ideal S2048x512 .bf16) (x1 : Vec Ideal S2048x512 .bf16) (x2 : Vec Ideal S2048x512 .bf16) (x3 : Vec Ideal S2048x2048 .bf16) :
    out0_A_4 c i a1 h1 a2 h2 a3 h3 a4 h4 a5 h5 c0 c1 c2 x0 x1 x2 x3 = k0_pay1 x0 x3 := by
  unfold out0_A_4
  rw [View.read_writes_eq_canon _ _ _ (cover0_A_4 c i a1 h1 a2 h2 a3 h3 a4 h4 a5 h5 c0 c1 c2 x0 x1 x2 x3)]
  unfold kernelRun0_A
  dsimp only
  sl_unfold_words
  rw [View.canon_unit_zero zz]
  simp only [View.readAt_eq_ld, h1.read_unread, h4.read_unread, View.ld_unit_zero (S := S2048x512) zz, View.ld_unit_zero (S := S2048x2048) zz]

/-! The columns from 1536 on. -/

set_option maxHeartbeats 4000000 in
theorem V_v2 : V m c main_v2 = (extractStridedSlice S2048x1024 ![0, 1536] (truncf .bf16 (m ((c : Thread nD τ).loc main_arg1)) bitsLt_bf16_f32 : FVec Ideal S2048x3584 .bf16) slices_S2048x3584_S2048x1024_0_1536 : FVec Ideal S2048x1024 .bf16) := by
  unfold V
  simp only [hostOps0, List.flatten_cons, List.flatten_nil, List.append_nil, List.cons_append, List.nil_append,
    TRef.binary, TRef.nullary, TRef.ternary, TRef.unary, TRef.toBuf, TRef.ofBuf, cast_eq]
  after_results_simp <;> rfl

theorem v2_at (i : S2048x1024.Idx) (q : Fin 3584) (hq : q.val = 1536 + (i 1).val) : V m c main_v2 i = ctA m c (ix2 (i 0 : Fin 2048) q) := by
  rw [V_v2]
  exact extractStridedSlice_apply ![0, 1536] _ slices_S2048x3584_S2048x1024_0_1536 i (ix2 (i 0 : Fin 2048) q) (fun a => match a with
    | ⟨0, _⟩ => (Nat.zero_add _).symm
    | ⟨1, _⟩ => hq)

theorem idx1 : ∀ t : Fin cfg0.N, 3 ≤ t.val → t.val < 5 → win0_1.index t (0 : Fin 2) = 0 ∧ win0_1.index t (1 : Fin 2) + 3 = t.val := (by decide +kernel : ∀ t : Fin grid0.N, _)

theorem v2_blk (t : Fin cfg0.N) (hl : 3 ≤ t.val) (hh : t.val < 5) (i : S2048x512.Idx) : iblk m c 1 t i = ctA m c (ix2 (i 0 : Fin 2048) (col t (i 1))) := by
  unfold iblk
  rw [View.read_apply]
  show V m c main_v2 _ = _
  have e := idx1 t hl hh
  refine (v2_at m c _ (col t (i 1)) ?_).trans (congrArg (ctA m c) (funext fun a => ?_))
  · show t.val * 512 + (i 1).val = 1536 + (win0_1.index t (1 : Fin 2) * 512 + 1 * (i 1).val)
    omega
  · match a with
    | ⟨0, _⟩ => exact Fin.ext (show win0_1.index t (0 : Fin 2) * 2048 + 1 * (i 0).val = (i 0).val by rw [e.1]; omega)
    | ⟨1, _⟩ => rfl

theorem out_B (i : grid0.Coords)
    (a1 : Memref sig .tc .vmem S2048x512 .bf16) (h1 : a1.IsWhole) (a2 : Memref sig .tc .vmem S2048x512 .bf16) (h2 : a2.IsWhole)
    (a3 : Memref sig .tc .vmem S2048x512 .bf16) (h3 : a3.IsWhole) (a4 : Memref sig .tc .vmem S2048x2048 .bf16) (h4 : a4.IsWhole)
    (a5 : Memref sig .tc .vmem S512x2048 .bf16) (h5 : a5.IsWhole) (c0 : ¬cond0_0 i) (c1 : cond0_1 i) (c2 : ¬cond0_2 i)
    (x0 : Vec Ideal S2048x512 .bf16) (x1 : Vec Ideal S2048x512 .bf16) (x2 : Vec Ideal S2048x512 .bf16) (x3 : Vec Ideal S2048x2048 .bf16) :
    out0_B_4 c i a1 h1 a2 h2 a3 h3 a4 h4 a5 h5 c0 c1 c2 x0 x1 x2 x3 = k0_pay1 x1 x3 := by
  unfold out0_B_4
  rw [View.read_writes_eq_canon _ _ _ (cover0_B_4 c i a1 h1 a2 h2 a3 h3 a4 h4 a5 h5 c0 c1 c2 x0 x1 x2 x3)]
  unfold kernelRun0_B
  dsimp only
  sl_unfold_words
  rw [View.canon_unit_zero zz]
  simp only [View.readAt_eq_ld, h2.read_unread, h4.read_unread, View.ld_unit_zero (S := S2048x512) zz, View.ld_unit_zero (S := S2048x2048) zz]
  rfl

/-! The columns from 2560 on. -/

set_option maxHeartbeats 4000000 in
theorem V_v3 : V m c main_v3 = (extractStridedSlice S2048x1024 ![0, 2560] (truncf .bf16 (m ((c : Thread nD τ).loc main_arg1)) bitsLt_bf16_f32 : FVec Ideal S2048x3584 .bf16) slices_S2048x3584_S2048x1024_0_2560 : FVec Ideal S2048x1024 .bf16) := by
  unfold V
  simp only [hostOps0, List.flatten_cons, List.flatten_nil, List.append_nil, List.cons_append, List.nil_append,
    TRef.binary, TRef.nullary, TRef.ternary, TRef.unary, TRef.toBuf, TRef.ofBuf, cast_eq]
  after_results_simp <;> rfl

theorem v3_at (i : S2048x1024.Idx) (q : Fin 3584) (hq : q.val = 2560 + (i 1).val) : V m c main_v3 i = ctA m c (ix2 (i 0 : Fin 2048) q) := by
  rw [V_v3]
  exact extractStridedSlice_apply ![0, 2560] _ slices_S2048x3584_S2048x1024_0_2560 i (ix2 (i 0 : Fin 2048) q) (fun a => match a with
    | ⟨0, _⟩ => (Nat.zero_add _).symm
    | ⟨1, _⟩ => hq)

theorem idx2 : ∀ t : Fin cfg0.N, 5 ≤ t.val → t.val < 7 → win0_2.index t (0 : Fin 2) = 0 ∧ win0_2.index t (1 : Fin 2) + 5 = t.val := (by decide +kernel : ∀ t : Fin grid0.N, _)

theorem v3_blk (t : Fin cfg0.N) (hl : 5 ≤ t.val) (hh : t.val < 7) (i : S2048x512.Idx) : iblk m c 2 t i = ctA m c (ix2 (i 0 : Fin 2048) (col t (i 1))) := by
  unfold iblk
  rw [View.read_apply]
  show V m c main_v3 _ = _
  have e := idx2 t hl hh
  refine (v3_at m c _ (col t (i 1)) ?_).trans (congrArg (ctA m c) (funext fun a => ?_))
  · show t.val * 512 + (i 1).val = 2560 + (win0_2.index t (1 : Fin 2) * 512 + 1 * (i 1).val)
    omega
  · match a with
    | ⟨0, _⟩ => exact Fin.ext (show win0_2.index t (0 : Fin 2) * 2048 + 1 * (i 0).val = (i 0).val by rw [e.1]; omega)
    | ⟨1, _⟩ => rfl

theorem out_C (i : grid0.Coords)
    (a1 : Memref sig .tc .vmem S2048x512 .bf16) (h1 : a1.IsWhole) (a2 : Memref sig .tc .vmem S2048x512 .bf16) (h2 : a2.IsWhole)
    (a3 : Memref sig .tc .vmem S2048x512 .bf16) (h3 : a3.IsWhole) (a4 : Memref sig .tc .vmem S2048x2048 .bf16) (h4 : a4.IsWhole)
    (a5 : Memref sig .tc .vmem S512x2048 .bf16) (h5 : a5.IsWhole) (c0 : ¬cond0_0 i) (c1 : ¬cond0_1 i) (c2 : cond0_2 i)
    (x0 : Vec Ideal S2048x512 .bf16) (x1 : Vec Ideal S2048x512 .bf16) (x2 : Vec Ideal S2048x512 .bf16) (x3 : Vec Ideal S2048x2048 .bf16) :
    out0_C_4 c i a1 h1 a2 h2 a3 h3 a4 h4 a5 h5 c0 c1 c2 x0 x1 x2 x3 = k0_pay1 x2 x3 := by
  unfold out0_C_4
  rw [View.read_writes_eq_canon _ _ _ (cover0_C_4 c i a1 h1 a2 h2 a3 h3 a4 h4 a5 h5 c0 c1 c2 x0 x1 x2 x3)]
  unfold kernelRun0_C
  dsimp only
  sl_unfold_words
  rw [View.canon_unit_zero zz]
  simp only [View.readAt_eq_ld, h3.read_unread, h4.read_unread, View.ld_unit_zero (S := S2048x512) zz, View.ld_unit_zero (S := S2048x2048) zz]
  rfl

theorem h_blk (t : Fin cfg0.N) (i : S2048x2048.Idx) : iblk m c 3 t i = hA m c (ix2 (i 0 : Fin 2048) (i 1 : Fin 2048)) := by
  unfold iblk
  rw [View.read_apply]
  show V m c main_v4 _ = _
  rw [V_h]
  show hA m c _ = _
  refine congrArg _ (funext fun a => Fin.ext ?_)
  match a with
  | ⟨0, _⟩ => show win0_3.index t (0 : Fin 2) * 2048 + 1 * (i 0).val = (i 0).val; rw [(idx3 t).1]; omega
  | ⟨1, _⟩ => show win0_3.index t (1 : Fin 2) * 2048 + 1 * (i 1).val = (i 1).val; rw [(idx3 t).2]; omega

/-- The whole result array. -/
def G : Buf (Elt Ideal) ((c : Thread nD τ).loc main_v5) := val (hA m c) (ctA m c)

theorem pay_G (t : Fin cfg0.N) (x0 : FVec Ideal S2048x512 .bf16) (e : ∀ i, x0 i = ctA m c (ix2 (i 0 : Fin 2048) (col t (i 1)))) :
    k0_pay1 (F := Ideal) x0 (iblk m c 3 t) = ((cfg0.win 4).blk t).view.read (Elt Ideal) (G m c) := by
  refine funext fun (y : S512x2048.Idx) => ?_
  refine Eq.trans (b := val (hA m c) (ctA m c) (ix2 (col t (y 0)) (y 1 : Fin 2048))) ?_ ?_
  · refine (pay_at _ _ y).trans ?_
    unfold val
    exact Finset.sum_congr rfl fun k _ => congrArg₂ (· * ·) (e _) (h_blk m c t _)
  · rw [View.read_apply]
    show G m c _ = G m c _
    refine congrArg _ (funext fun a => Fin.ext ?_)
    match a with
    | ⟨0, _⟩ => show t.val * 512 + (y 0).val = win0_4.index t (0 : Fin 2) * 512 + 1 * (y 0).val; rw [(idx4 t).1]; omega
    | ⟨1, _⟩ => show (y 1).val = win0_4.index t (1 : Fin 2) * 2048 + 1 * (y 1).val; rw [(idx4 t).2]; omega

theorem flushed_eq (t : Fin cfg0.N) : (dats m 0 c).flushed 4 t = ((cfg0.win 4).blk t).view.read (Elt Ideal) (G m c) := by
  have ht : t.val < 7 := lt_of_lt_of_eq t.isLt N_0
  by_cases hA : t.val < 3
  · rw [Cert.GradInIdeal.Value.flushed4_A m c t hA (by omega) (by omega), out_A]
    exact pay_G m c t _ (v1_blk m c t (Nat.zero_le _) hA)
  by_cases hB : t.val < 5
  · rw [Cert.GradInIdeal.Value.flushed4_B m c t hA (by omega) (by omega), out_B]
    exact pay_G m c t _ (v2_blk m c t (by omega) hB)
  · rw [Cert.GradInIdeal.Value.flushed4_C m c t hA (by omega) (by omega), out_C]
    exact pay_G m c t _ (v3_blk m c t (by omega) ht)

theorem mem_blk (t : Fin cfg0.N) (i : S3584x2048.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v5).slice (win0_4.rect t)).set ↔ _
  rw [View.set_slice_whole, Rect.mem_set_unit]
  exact Iff.rfl

theorem covers (i : S3584x2048.Idx) : ∃ t : Fin cfg0.N, (cfg0.win 4).flush t = true ∧ i ∈ ((cfg0.win 4).blk t).view.set := by
  have h0 : (i 0).val < 3584 := (i 0).isLt
  have h1 : (i 1).val < 2048 := (i 1).isLt
  refine ⟨⟨(i 0).val / 512, lt_of_lt_of_eq (by omega) N_0.symm⟩, flush4 _, (mem_blk _ _).2 fun a => ?_⟩
  match a with
  | ⟨0, _⟩ =>
    show win0_4.index _ (0 : Fin 2) * 512 ≤ (i 0).val ∧ (i 0).val < win0_4.index _ (0 : Fin 2) * 512 + 512
    rw [(idx4 _).1]
    show (i 0).val / 512 * 512 ≤ (i 0).val ∧ (i 0).val < (i 0).val / 512 * 512 + 512
    omega
  | ⟨1, _⟩ =>
    show win0_4.index _ (1 : Fin 2) * 2048 ≤ (i 1).val ∧ (i 1).val < win0_4.index _ (1 : Fin 2) * 2048 + 2048
    rw [(idx4 _).2]; omega

theorem final : (dats m 0 c).arrAt 4 cfg0.N = G m c :=
  (dats m 0 c).arrAt_eq_of_cover 4 (G m c) (fun t _ => flushed_eq m c t) covers

end Cert.GradInIdeal.Blk

/-! The reference's result at an index. -/

namespace Cert.GradInRefIdeal.Read

open Idealize.ShloMosaic hiding ix0 ix1 ix2 ix3 ix4 ix5 eq_ix2 eq_ix3
open Idealize.ShloMosaic.ValueIdx

theorem ref_at (x0 : FVec Ideal S2048x2048 .f32) (x1 : FVec Ideal S2048x3584 .f32) (i : S3584x2048.Idx) :
    val_main_v5 (F := Ideal) x0 x1 i = Cert.GradInIdeal.Blk.val x0 x1 i := by
  rw [val_main_v5_apply, val_main_v4_apply, val_main_v3_apply, val_main_v2_apply]
  refine Finset.sum_congr rfl fun k _ => congrArg₂ (· * ·) (congrArg x1 ?_) (congrArg x0 ?_)
  · exact funext fun a => match a with | ⟨0, _⟩ => rfl | ⟨1, _⟩ => rfl
  · exact funext fun a => match a with | ⟨0, _⟩ => rfl | ⟨1, _⟩ => rfl

end Cert.GradInRefIdeal.Read
end
-- ==== Proof.GradInJoin.lean ====
module

public import proofs.«01_k».proof.Defs
public import proofs.«01_k».proof.Proof.GradInKernel
public import proofs.«01_k».proof.Proof.Gen.GradInIdeal.Value
public import proofs.«01_k».proof.Proof.Gen.GradInRefIdeal.Run
public import proofs.«01_k».proof.Proof.Gen.GradInRefIdeal.Read

@[expose] public section

noncomputable section

/-! The gradient of the input projection's weight: the kernel's result is the reference's. -/

namespace Cert.GradIn

open Idealize.ShloMosaic Idealize.SL.Sem

theorem join : Cert.algebraic_GradInIdeal_GradInRefIdeal := by
  intro m g m' g' hpre agree
  refine ⟨Cert.GradInIdeal.Blk.G m, (θ_run Cert.GradInIdeal.defs _ _).mono (fun r h c => ?_) (Cert.GradInIdeal.Value.run_blocks (F := Ideal) m g), ?_⟩
  · obtain ⟨h0, hargs⟩ := h c
    exact ⟨h0.trans (Cert.GradInIdeal.Blk.final m c), hargs⟩
  refine (θ_run Cert.GradInRefIdeal.defs _ _).mono (fun r h c => ?_) (Cert.GradInRefIdeal.Value.run (F := Ideal) m' g')
  obtain ⟨h0, hargs⟩ := h c
  obtain ⟨e0, e1⟩ := agree c
  refine ⟨(h0.trans (Cert.GradInRefIdeal.Read.val_main_v5_eq _ _)).trans (funext fun i => ?_), hargs⟩
  refine (Cert.GradInRefIdeal.Read.ref_at _ _ i).trans ?_
  unfold Cert.GradInIdeal.Blk.G
  rw [e0, e1]

end Cert.GradIn
end
-- ==== Proof.InDnormRef.lean ====
module

public import proofs.«01_k».proof.Proof.SguRef
public import proofs.«01_k».proof.Proof.DnormRef
public import proofs.«01_k».proof.Proof.Gen.InDnormRefIdeal.Read
public import Idealize.ShloMosaic.Lib.KernelVsHost

@[expose] public section

set_option maxRecDepth 16384

noncomputable section

/-! The gradient through the input projection and its norm: the reference's two results over the real numbers. -/

namespace Cert.RmsIn

open Cert.Rms (hat back)

/-- The arguments as real numbers. -/
structure Args where
  x : Fin 2048 → Fin 2048 → ℝ
  g : Fin 2048 → ℝ
  w : Fin 2048 → Fin 3584 → ℝ
  ct : Fin 2048 → Fin 3584 → ℝ
  dres : Fin 2048 → Fin 2048 → ℝ

/-- The gradient with respect to the normalised rows. -/
def dy (a : Args) (r l : Fin 2048) : ℝ := ∑ k, a.ct r k * a.w l k
def dx (a : Args) (r l : Fin 2048) : ℝ := a.dres r l + back (a.x r) (dy a r) a.g l
def dgRow (a : Args) (r l : Fin 2048) : ℝ := dy a r l * hat (a.x r) l
def dg (a : Args) (q : Fin 8) (l : Fin 2048) : ℝ := if q.val = 0 then ∑ r, dgRow a r l else 0

end Cert.RmsIn

namespace Cert.InDnormRefIdeal.RefValue

open Idealize.ShloMosaic
open Cert.InDnormRefIdeal Cert.InDnormRefIdeal.Gen Cert.InDnormRefIdeal.Read Idealize.ShloMosaic.ValueIdx Cert.RmsIn
open Cert.Rms (var rs hat back side back_eq var_pos var_ne)
open Cert.DnormRefIdeal.RefValue (lit_2048)
open Cert.ReferenceIdeal.RefValue (coe_sum lit_zero lit_eps lit_half div_real rsqrt_pos)
open Cert.Sgu (eps)

variable (x0 : (⟨S2048x2048, .f32⟩ : BufTy).Contents (Elt Ideal)) (x1 : (⟨S2048, .f32⟩ : BufTy).Contents (Elt Ideal))
  (x2 x3 : (⟨S2048x3584, .f32⟩ : BufTy).Contents (Elt Ideal)) (x4 : (⟨S2048x2048, .f32⟩ : BufTy).Contents (Elt Ideal)) (a : Args)

/-- The arrays are those of `a`. -/
structure Holds : Prop where
  h0 : ∀ i : S2048x2048.Idx, x0 i = ((a.x (i 0) (i 1) : ℝ) : EReal)
  h1 : ∀ i : S2048.Idx, x1 i = ((a.g (i 0) : ℝ) : EReal)
  h2 : ∀ i : S2048x3584.Idx, x2 i = ((a.w (i 0) (i 1) : ℝ) : EReal)
  h3 : ∀ i : S2048x3584.Idx, x3 i = ((a.ct (i 0) (i 1) : ℝ) : EReal)
  h4 : ∀ i : S2048x2048.Idx, x4 i = ((a.dres (i 0) (i 1) : ℝ) : EReal)

variable {x0 x1 x2 x3 x4 a}
variable (H : Holds x0 x1 x2 x3 x4 a)
include H

theorem r6 (i : S2048x1.Idx) : val_main_v6 (F := Ideal) x0 i = ((var (a.x (i 0)) : ℝ) : EReal) := by
  rw [val_main_v6_apply, val_main_v4_apply, val_main_v2_apply, val_main_v1_apply, val_main_v3_apply, val_main_v5_apply]
  simp only [val_main_v0_apply, H.h0, val_main_cst_apply, val_main_cst_0_apply, val_main_cst_1_apply, Ideal.ofBits_def, lit_zero, lit_2048, lit_eps,
    Ideal.hostDivf_def, Ideal.mulf_def, Ideal.addf_def, ← EReal.coe_mul, coe_sum]
  rw [← EReal.coe_add, div_real _ _ (by norm_num), ← EReal.coe_add, zero_add]
  rfl

theorem r7 (i : S2048x1.Idx) : val_main_v7 (F := Ideal) x0 i = ((rs (a.x (i 0)) : ℝ) : EReal) := by
  rw [val_main_v7_apply, r6 H]
  simp only [Ideal.hostUnary_rsqrt_def]
  exact rsqrt_pos _ (var_pos _)

theorem r10 (i : S2048x1.Idx) : val_main_v10 (F := Ideal) x0 i = ((-1 / 2 * (rs (a.x (i 0)) / var (a.x (i 0))) : ℝ) : EReal) := by
  rw [val_main_v10_apply, val_main_v8_apply, r7 H, r6 H, val_main_v9_apply]
  simp only [val_main_cst_2_apply, Ideal.ofBits_def, lit_half, Ideal.hostDivf_def, Ideal.mulf_def]
  rw [div_real _ _ (var_ne _), ← EReal.coe_mul]

theorem r12 (i : S2048x2048.Idx) : val_main_v12 (F := Ideal) x0 i = ((hat (a.x (i 0)) (i 1) : ℝ) : EReal) := by
  rw [val_main_v12_apply, val_main_v11_apply, r7 H, H.h0]
  simp only [Ideal.mulf_def, ← EReal.coe_mul]
  rfl

theorem r17 (i : S2048x2048.Idx) : val_main_v17 (F := Ideal) x2 x3 i = ((dy a (i 0) (i 1) : ℝ) : EReal) := by
  rw [val_main_v17_apply]
  simp only [H.h2, H.h3, ← EReal.coe_mul, coe_sum]
  rfl

theorem r19 (i : S2048.Idx) : val_main_v19 (F := Ideal) x0 x2 x3 i = ((∑ r, dgRow a r (i 0) : ℝ) : EReal) := by
  rw [val_main_v19_apply]
  simp only [val_main_v18_apply, r12 H, r17 H, val_main_cst_3_apply, Ideal.ofBits_def, lit_zero, Ideal.mulf_def, ← EReal.coe_mul, coe_sum]
  rw [← EReal.coe_add, zero_add]
  refine congrArg _ (Finset.sum_congr rfl fun r _ => mul_comm _ _)

theorem r20 (i : S1x2048.Idx) : val_main_v20 (F := Ideal) x0 x2 x3 i = ((∑ r, dgRow a r (i 1) : ℝ) : EReal) := by
  have e : (idx_main_v20 i) 0 = (i 1 : Fin 2048) := Fin.ext (by
    have h0 : (i 0).val < 1 := (i 0).isLt
    show (i 0).val * 2048 + (i 1).val = (i 1).val; omega)
  rw [val_main_v20_apply, r19 H]
  exact congrArg (fun l : Fin 2048 => ((∑ r, dgRow a r l : ℝ) : EReal)) e

theorem r40 (i : S1x2048.Idx) : val_main_v40 (F := Ideal) x0 x2 x3 i = ((∑ r, dgRow a r (i 1) : ℝ) : EReal) := by
  rw [val_main_v40_apply, val_main_v23_apply]
  simp only [r20 H, val_main_cst_4_apply, Ideal.ofBits_def, lit_zero, Fin.sum_univ_one]
  rw [← EReal.coe_add, zero_add]
  rfl

theorem r22 (i : S2048x2048.Idx) : val_main_v22 (F := Ideal) x1 x2 x3 i = ((dy a (i 0) (i 1) * a.g (i 1) : ℝ) : EReal) := by
  rw [val_main_v22_apply, val_main_v21_apply, val_main_v13_apply, r17 H, H.h1]
  simp only [Ideal.mulf_def, ← EReal.coe_mul]
  rfl

theorem r25 (i : S2048.Idx) : val_main_v25 (F := Ideal) x0 x1 x2 x3 i = ((∑ k, a.x (i 0) k * (dy a (i 0) k * a.g k) : ℝ) : EReal) := by
  rw [val_main_v25_apply]
  simp only [val_main_v24_apply, r22 H, H.h0, val_main_cst_5_apply, Ideal.ofBits_def, lit_zero, Ideal.mulf_def, ← EReal.coe_mul, coe_sum]
  rw [← EReal.coe_add, zero_add]
  rfl

theorem r26 (i : S2048x1.Idx) : val_main_v26 (F := Ideal) x0 x1 x2 x3 i = ((∑ k, a.x (i 0) k * (dy a (i 0) k * a.g k) : ℝ) : EReal) := by
  have e : (idx_main_v26 i) 0 = (i 0 : Fin 2048) := Fin.ext (by
    have h1 : (i 1).val < 1 := (i 1).isLt
    show (i 0).val * 1 + (i 1).val = (i 0).val; omega)
  rw [val_main_v26_apply, r25 H]
  exact congrArg (fun r : Fin 2048 => ((∑ k, a.x r k * (dy a r k * a.g k) : ℝ) : EReal)) e

theorem r34 (i : S2048x2048.Idx) : val_main_v34 (F := Ideal) x0 x1 x2 x3 i = ((side (a.x (i 0)) (dy a (i 0)) a.g : ℝ) : EReal) := by
  rw [val_main_v34_apply, val_main_v33_apply]
  simp only [Fin.sum_univ_one, val_main_v32_apply, val_main_v30_apply, val_main_v31_apply, r26 H, r10 H, val_main_cst_6_apply, val_main_cst_7_apply, Ideal.ofBits_def, lit_zero, lit_2048,
    Ideal.hostDivf_def, Ideal.mulf_def, ← EReal.coe_mul, coe_sum]
  rw [div_real _ _ (by norm_num), ← EReal.coe_add, zero_add]
  rfl

theorem ref0 (i : S2048x2048.Idx) : val_main_v38 (F := Ideal) x0 x1 x2 x3 x4 i = ((dx a (i 0) (i 1) : ℝ) : EReal) := by
  rw [val_main_v38_apply, val_main_v36_apply, val_main_v37_apply, val_main_v35_apply, val_main_v29_apply, val_main_v28_apply, val_main_v27_apply,
    r34 H, r22 H, r7 H, H.h0, H.h4]
  simp only [Ideal.mulf_def, Ideal.addf_def, ← EReal.coe_mul, ← EReal.coe_add]
  exact congrArg _ (back_eq _ _ _ _ _)

theorem ref0b (i : S2048x2048.Idx) : val_main_v39 (F := Ideal) x0 x1 x2 x3 x4 i = ((dx a (i 0) (i 1) : ℝ) : EReal) := by
  rw [val_main_v39_apply]
  exact ref0 H i

theorem ref1 (i : S8x2048.Idx) : val_main_v41 (F := Ideal) x0 x2 x3 i = ((dg a (i 0) (i 1) : ℝ) : EReal) := by
  unfold val_main_v41 dg
  by_cases h : (i 0).val = 0
  · rw [if_pos h]
    refine (pad_apply_of_inside _ _ _ _ _ _ _ _ (ix2 (0 : Fin 1) (i 1 : Fin 2048)) ?_).trans (r40 H _)
    intro b
    match b with
    | ⟨0, _⟩ => show (i 0).val = 0 + 0 * 1; omega
    | ⟨1, _⟩ => show (i 1).val = 0 + (i 1).val * 1; omega
  · rw [if_neg h]
    refine (pad_apply_of_not_inside _ _ _ _ _ _ _ _ (0 : Fin 2) ?_).trans ?_

    · rintro ⟨h1, h2, h3⟩
      have h3' : ((i 0).val - 0) / (0 + 1) < 1 := h3
      omega
    · rw [val_main_call0_v0_apply, val_main_c_apply]
      show (((0#32 : BitVec 32).toInt : ℝ) : EReal) = ((0 : ℝ) : EReal)
      simp

end Cert.InDnormRefIdeal.RefValue
end
-- ==== Proof.InDnormPre.lean ====
module

public import proofs.«01_k».proof.Proof.SguPre
public import proofs.«01_k».proof.Proof.InDnormRef
public import proofs.«01_k».proof.Proof.Gen.Pre_finite_indnorm

@[expose] public section

noncomputable section

/-! Arguments that pass the comparison with infinity are the arrays of some `Args`. -/

namespace Cert.RmsIn

open Idealize.ShloMosaic Idealize.ShloMosaic.ValueIdx Cert.InDnormRefIdeal.RefValue
open Cert.Sgu (real_of_vec)

theorem holds_of_reals (x0 : Cert.Pre_finite_indnorm.S2048x2048.Idx → EReal) (x1 : Cert.Pre_finite_indnorm.S2048.Idx → EReal)
    (x2 x3 : Cert.Pre_finite_indnorm.S2048x3584.Idx → EReal) (x4 : Cert.Pre_finite_indnorm.S2048x2048.Idx → EReal)
    (h0 : ∀ i, (((x0 i).toReal : ℝ) : EReal) = x0 i) (h1 : ∀ i, (((x1 i).toReal : ℝ) : EReal) = x1 i)
    (h2 : ∀ i, (((x2 i).toReal : ℝ) : EReal) = x2 i) (h3 : ∀ i, (((x3 i).toReal : ℝ) : EReal) = x3 i)
    (h4 : ∀ i, (((x4 i).toReal : ℝ) : EReal) = x4 i) : ∃ a : Args, Holds x0 x1 x2 x3 x4 a := by
  refine ⟨⟨fun p q => (x0 (ix2 p q)).toReal, fun p => (x1 (ix1 p)).toReal, fun p q => (x2 (ix2 p q)).toReal, fun p q => (x3 (ix2 p q)).toReal,
    fun p q => (x4 (ix2 p q)).toReal⟩, ?_, ?_, ?_, ?_, ?_⟩
  · intro i; obtain ⟨p, q, rfl⟩ : ∃ p q, i = ix2 p q := ⟨i 0, i 1, eq_ix2 i⟩; exact (h0 _).symm
  · intro i; obtain ⟨p, rfl⟩ : ∃ p, i = ix1 p := ⟨i 0, eq_ix1 i⟩; exact (h1 _).symm
  · intro i; obtain ⟨p, q, rfl⟩ : ∃ p q, i = ix2 p q := ⟨i 0, i 1, eq_ix2 i⟩; exact (h2 _).symm
  · intro i; obtain ⟨p, q, rfl⟩ : ∃ p q, i = ix2 p q := ⟨i 0, i 1, eq_ix2 i⟩; exact (h3 _).symm
  · intro i; obtain ⟨p, q, rfl⟩ : ∃ p q, i = ix2 p q := ⟨i 0, i 1, eq_ix2 i⟩; exact (h4 _).symm

theorem holds_of_finite (x0 : FVec Ideal Cert.Pre_finite_indnorm.S2048x2048 .f32) (x1 : FVec Ideal Cert.Pre_finite_indnorm.S2048 .f32)
    (x2 x3 : FVec Ideal Cert.Pre_finite_indnorm.S2048x3584 .f32) (x4 : FVec Ideal Cert.Pre_finite_indnorm.S2048x2048 .f32)
    (h : (Cert.Pre_finite_indnorm.fn (F := Ideal) x0 x1 x2 x3 x4).1 = (fun _ => 1#1)
      ∧ (Cert.Pre_finite_indnorm.fn (F := Ideal) x0 x1 x2 x3 x4).2.1 = (fun _ => 1#1)
      ∧ (Cert.Pre_finite_indnorm.fn (F := Ideal) x0 x1 x2 x3 x4).2.2.1 = (fun _ => 1#1)
      ∧ (Cert.Pre_finite_indnorm.fn (F := Ideal) x0 x1 x2 x3 x4).2.2.2.1 = (fun _ => 1#1)
      ∧ (Cert.Pre_finite_indnorm.fn (F := Ideal) x0 x1 x2 x3 x4).2.2.2.2 = (fun _ => 1#1)) :
    ∃ a : Args, Holds x0 x1 x2 x3 x4 a := by
  unfold Cert.Pre_finite_indnorm.fn at h
  obtain ⟨h0, h1, h2, h3, h4⟩ := h
  exact holds_of_reals x0 x1 x2 x3 x4 (real_of_vec _ x0 h0) (real_of_vec _ x1 h1) (real_of_vec _ x2 h2) (real_of_vec _ x3 h3) (real_of_vec _ x4 h4)

end Cert.RmsIn
end
-- ==== Proof.InDnormPay.lean ====
module

public import proofs.«01_k».proof.Proof.InDnormRef
public import proofs.«01_k».proof.Proof.SguPay
public import proofs.«01_k».proof.Proof.Sums
public import proofs.«01_k».proof.Proof.Gen.InDnormIdeal.Value
public import Idealize.ShloMosaic.Lib.Pointwise.Contract
public import Idealize.ShloMosaic.Lib.Tactic
public import Idealize.ShloMosaic.Lib.WritesUnit

@[expose] public section

set_option maxRecDepth 16384

noncomputable section

/-! The gradient through the input projection and its norm: what one step of the kernel computes, index by index. -/

namespace Cert.InDnormIdeal.Blk

open Idealize.ShloMosaic hiding ix0 ix1 ix2 ix3 ix4 ix5 eq_ix2 eq_ix3
open Cert.InDnormIdeal Cert.InDnormIdeal.Gen Idealize.ShloMosaic.ValueIdx Cert.Rms
open Cert.ReferenceIdeal.RefValue (coe_sum lit_zero lit_eps div_real rsqrt_pos)
open Cert.DnormRefIdeal.RefValue (lit_2048)

/-- The sum of a row, kept as a column. -/
theorem rowSum (x : FVec Ideal S256x2048 .f32) (f : Fin 256 → Fin 2048 → ℝ) (hx : ∀ i, x i = ((f (i 0) (i 1) : ℝ) : EReal)) (i : S256x1.Idx) :
    shapeCast S256x1 (multiReduction .add [1] S256 x 0x00000000#32 reduces_S256x2048_S256 (.inl rfl) rfl) shapeCasts_S256_S256x1 i
      = ((∑ k, f (i 0) k : ℝ) : EReal) := by
  have hk : (S256.rowMajor (ix1 (i 0 : Fin 256))).val = (S256x1.rowMajor i).val := by
    have h1 : (i 1).val = 0 := by have : (i 1).val < 1 := (i 1).isLt; omega
    rw [Shape.rowMajor_val_one, Shape.rowMajor_val_two, h1]
    show (i 0).val = (i 0).val * 1 + 0; omega
  refine (shapeCast_apply _ _ i (ix1 (i 0 : Fin 256)) hk).trans ((Ideal.multiReduction_add_single _ _ _ _ _ _).trans (Eq.trans ?_ (coe_sum _ _)))
  refine Finset.sum_congr rfl fun k _ => ?_
  rw [hx]; rfl

/-- The sum of a column, kept as a row. -/
theorem colSum (x : FVec Ideal S256x2048 .f32) (f : Fin 256 → Fin 2048 → ℝ) (hx : ∀ i, x i = ((f (i 0) (i 1) : ℝ) : EReal)) (i : S1x2048.Idx) :
    shapeCast S1x2048 (multiReduction .add [0] S2048 x 0x00000000#32 reduces_S256x2048_S2048 (.inl rfl) rfl) shapeCasts_S2048_S1x2048 i
      = ((∑ k, f k (i 1) : ℝ) : EReal) := by
  have hk : (S2048.rowMajor (ix1 (i 1 : Fin 2048))).val = (S1x2048.rowMajor i).val := by
    have h1 : (i 0).val = 0 := by have : (i 0).val < 1 := (i 0).isLt; omega
    rw [Shape.rowMajor_val_one, Shape.rowMajor_val_two, h1]
    show (i 1).val = 0 * 2048 + (i 1).val; omega
  refine (shapeCast_apply _ _ i (ix1 (i 1 : Fin 2048)) hk).trans ((Ideal.multiReduction_add_single _ _ _ _ _ _).trans (Eq.trans ?_ (coe_sum _ _)))
  refine Finset.sum_congr rfl fun k _ => ?_
  rw [hx]; rfl

theorem bcCol {α : Type} (x : S256x1.Idx → α) (i : S256x2048.Idx) :
    broadcastTo S256x2048 x broadcasts_S256x1_S256x2048 i = x (ix2 (i 0 : Fin 256) (0 : Fin 1)) :=
  broadcastTo_apply x _ i _ (fun a => match a with | ⟨0, _⟩ => rfl | ⟨1, _⟩ => rfl)
theorem bcRow {α : Type} (x : S1x2048.Idx → α) (i : S256x2048.Idx) :
    broadcastTo S256x2048 x broadcasts_S1x2048_S256x2048 i = x (ix2 (0 : Fin 1) (i 1 : Fin 2048)) :=
  broadcastTo_apply x _ i _ (fun a => match a with | ⟨0, _⟩ => rfl | ⟨1, _⟩ => rfl)

/-- The product of a block of `n` columns with `n` rows of the transposed weight. -/
theorem prod_a (x : FVec Ideal S256x1536 .bf16) (w : FVec Ideal S1536x2048 .bf16) (i : S256x2048.Idx) :
    matmul dot_S256x1536_S1536x2048_S256x2048_1_0_0_1_n_n none x w (constant S256x2048 .f32 0x00000000#32) i
      = ∑ k : Fin 1536, (x (ix2 (i 0 : Fin 256) k) * w (ix2 k (i 1 : Fin 2048)) : EReal) := by
  refine (Ideal.matmul_apply₁_of dot_S256x1536_S1536x2048_S256x2048_1_0_0_1_n_n (a := 1) rfl rfl x w _ i
    (fun k => ix2 (i 0 : Fin 256) k) (fun k => ix2 k (i 1 : Fin 2048)) (fun k => funext fun b => match b with | ⟨0, _⟩ => rfl | ⟨1, _⟩ => rfl)
    (fun k => funext fun b => match b with | ⟨0, _⟩ => rfl | ⟨1, _⟩ => rfl)).trans ?_
  show Ideal.ofBits .f32 0x00000000#32 + _ = _
  rw [lit_zero, EReal.coe_zero, zero_add]; rfl

theorem prod_b (x : FVec Ideal S256x1024 .bf16) (w : FVec Ideal S1024x2048 .bf16) (i : S256x2048.Idx) :
    matmul dot_S256x1024_S1024x2048_S256x2048_1_0_0_1_n_n none x w (constant S256x2048 .f32 0x00000000#32) i
      = ∑ k : Fin 1024, (x (ix2 (i 0 : Fin 256) k) * w (ix2 k (i 1 : Fin 2048)) : EReal) := by
  refine (Ideal.matmul_apply₁_of dot_S256x1024_S1024x2048_S256x2048_1_0_0_1_n_n (a := 1) rfl rfl x w _ i
    (fun k => ix2 (i 0 : Fin 256) k) (fun k => ix2 k (i 1 : Fin 2048)) (fun k => funext fun b => match b with | ⟨0, _⟩ => rfl | ⟨1, _⟩ => rfl)
    (fun k => funext fun b => match b with | ⟨0, _⟩ => rfl | ⟨1, _⟩ => rfl)).trans ?_
  show Ideal.ofBits .f32 0x00000000#32 + _ = _
  rw [lit_zero, EReal.coe_zero, zero_add]; rfl

/-- The three products together. -/
theorem prod_at (x0 : FVec Ideal S256x1536 .bf16) (w0 : FVec Ideal S1536x2048 .bf16) (x1 : FVec Ideal S256x1024 .bf16) (w1 : FVec Ideal S1024x2048 .bf16)
    (x2 : FVec Ideal S256x1024 .bf16) (w2 : FVec Ideal S1024x2048 .bf16) (i : S256x2048.Idx) :
    k0_pay5 (F := Ideal) x0 w0 x1 w1 x2 w2 i
      = (∑ k : Fin 1536, (x0 (ix2 (i 0 : Fin 256) k) * w0 (ix2 k (i 1 : Fin 2048)) : EReal))
        + (∑ k : Fin 1024, (x1 (ix2 (i 0 : Fin 256) k) * w1 (ix2 k (i 1 : Fin 2048)) : EReal))
        + ∑ k : Fin 1024, (x2 (ix2 (i 0 : Fin 256) k) * w2 (ix2 k (i 1 : Fin 2048)) : EReal) := by
  unfold k0_pay5
  simp only [shapeCast_self]
  exact congrArg₂ (fun p q : EReal => p + q) (congrArg₂ (fun p q : EReal => p + q) (prod_a x0 w0 i) (prod_b x1 w1 i)) (prod_b x2 w2 i)

section
variable (z d q : Fin 256 → Fin 2048 → ℝ) (g p : Fin 2048 → ℝ)
  (x acc res : FVec Ideal S256x2048 .f32) (gv pv : FVec Ideal S1x2048 .f32)
  (hx : ∀ i, x i = ((z (i 0) (i 1) : ℝ) : EReal)) (ha : ∀ i, acc i = ((d (i 0) (i 1) : ℝ) : EReal))
  (hr : ∀ i, res i = ((q (i 0) (i 1) : ℝ) : EReal)) (hg : ∀ i, gv i = ((g (i 1) : ℝ) : EReal)) (hp : ∀ i, pv i = ((p (i 1) : ℝ) : EReal))

include hx in
theorem rs_at (i : S256x1.Idx) : k0_pay6 (F := Ideal) x i = ((rs (z (i 0)) : ℝ) : EReal) := by
  unfold k0_pay6; dsimp only
  refine (congrArg Ideal.rsqrt ?_).trans (rsqrt_pos _ (var_pos _))
  rw [addf_apply, divf_apply, rowSum _ (fun r l => z r l * z r l) (fun i => by rw [mulf_apply, hx, EReal.coe_mul])]
  show Ideal.div _ (Ideal.ofBits .f32 0x45000000#32) + Ideal.ofBits .f32 0x358637BD#32 = _
  rw [lit_2048, lit_eps, div_real _ _ (by norm_num), ← EReal.coe_add]; rfl

include hx in
theorem hat_at (i : S256x2048.Idx) : k0_pay7 (F := Ideal) x i = ((hat (z (i 0)) (i 1) : ℝ) : EReal) := by
  unfold k0_pay7
  show mulf (F := Ideal) _ _ i = _
  rw [mulf_apply, bcCol, rs_at z x hx, hx, ← EReal.coe_mul]; rfl

include hx ha hr hg in
theorem out_pay (i : S256x2048.Idx) : k0_pay1 (F := Ideal) acc (k0_pay6 x) (k0_pay7 x) (k0_pay8 gv) res i = ((q (i 0) (i 1) + back (z (i 0)) (d (i 0)) g (i 1) : ℝ) : EReal) := by
  have h36 : ∀ i, mulf (F := Ideal) acc (broadcastTo S256x2048 (shapeCast S1x2048 gv shapeCasts_S1x2048_S1x2048) broadcasts_S1x2048_S256x2048) i
      = ((d (i 0) (i 1) * g (i 1) : ℝ) : EReal) := fun i => by
    rw [shapeCast_self, mulf_apply, bcRow, ha, hg, EReal.coe_mul]
  unfold k0_pay1 k0_pay8; dsimp only
  rw [addf_apply, mulf_apply, subf_apply, h36, mulf_apply, bcCol, bcCol, divf_apply, hr, rs_at z x hx, hat_at z x hx,
    rowSum _ (fun r l => d r l * g l * hat (z r) l) (fun i => by rw [mulf_apply, h36, hat_at z x hx, ← EReal.coe_mul])]
  show _ + _ * (_ - _ * Ideal.div _ (Ideal.ofBits .f32 0x45000000#32)) = _
  rw [lit_2048, div_real _ _ (by norm_num), ← EReal.coe_mul, ← EReal.coe_sub, ← EReal.coe_mul, ← EReal.coe_add]; rfl

include hx ha hp in
theorem gain_pay (i : S1x2048.Idx) : k0_pay3 (F := Ideal) acc (k0_pay7 x) pv i = ((p (i 1) + ∑ r, d r (i 1) * hat (z r) (i 1) : ℝ) : EReal) := by
  unfold k0_pay3; dsimp only
  rw [shapeCast_self, addf_apply, hp, colSum _ (fun r l => d r l * hat (z r) l) (fun i => by rw [mulf_apply, ha, hat_at z x hx, EReal.coe_mul]),
    ← EReal.coe_add]
end

end Cert.InDnormIdeal.Blk
end
-- ==== Proof.InDnormStep.lean ====
module

public import proofs.«01_k».proof.Proof.InDnormPay
public import Idealize.ShloMosaic.Lib.Pointwise.Contract
public import Idealize.ShloMosaic.Lib.Tactic
public import Idealize.ShloMosaic.Lib.WritesUnit

@[expose] public section

set_option maxRecDepth 16384

noncomputable section

/-! The gradient through the input projection and its norm: what each kind of grid point leaves behind. -/

namespace Cert.InDnormIdeal.Blk

open Idealize.ShloMosaic hiding ix0 ix1 ix2 ix3 ix4 ix5 eq_ix2 eq_ix3
open Cert.InDnormIdeal Cert.InDnormIdeal.Gen Idealize.ShloMosaic.ValueIdx Idealize.ShloMosaic.TcCoe Idealize.SL.Sem
open Idealize.ShloMosaic.StableHlo

theorem zz : (![0, 0] : Fin 2 → Nat) = fun _ => 0 := funext fun a => match a with | ⟨0, _⟩ => rfl | ⟨1, _⟩ => rfl

/-- The first row of the gain gradient's block. -/
abbrev row0 : Rect S8x2048 := Rect.unit ![0, 0] ![1, 2048] inb_S8x2048_S1x2048_0_0

/-- The rows of the weight that belong to the three pieces. -/
abbrev rowsA : Rect S3584x2048 := Rect.unit ![0, 0] ![1536, 2048] inb_S3584x2048_S1536x2048_0_0
abbrev rowsB : Rect S3584x2048 := Rect.unit ![1536, 0] ![1024, 2048] inb_S3584x2048_S1024x2048_1536_0
abbrev rowsC : Rect S3584x2048 := Rect.unit ![2560, 0] ![1024, 2048] inb_S3584x2048_S1024x2048_2560_0

/-- The product of a block of rows. -/
abbrev prod (x0 : Vec Ideal S256x1536 .bf16) (x1 x2 : Vec Ideal S256x1024 .bf16) (x3 : Vec Ideal S3584x2048 .bf16) : FVec Ideal S256x2048 .f32 :=
  k0_pay5 (F := Ideal) x0 (View.ld x3 rowsA) x1 (View.ld x3 rowsB) x2 (View.ld x3 rowsC)

section
variable (c : Dev nD) (i : grid0.Coords)
  (a1 : Memref sig .tc .vmem S256x1536 .bf16) (h1 : a1.IsWhole)
  (a2 : Memref sig .tc .vmem S256x1024 .bf16) (h2 : a2.IsWhole)
  (a3 : Memref sig .tc .vmem S256x1024 .bf16) (h3 : a3.IsWhole)
  (a4 : Memref sig .tc .vmem S3584x2048 .bf16) (h4 : a4.IsWhole)
  (a5 : Memref sig .tc .vmem S256x2048 .f32) (h5 : a5.IsWhole)
  (a6 : Memref sig .tc .vmem S1x2048 .f32) (h6 : a6.IsWhole)
  (a7 : Memref sig .tc .vmem S256x2048 .f32) (h7 : a7.IsWhole)
  (a8 : Memref sig .tc .vmem S256x2048 .f32) (h8 : a8.IsWhole)
  (a9 : Memref sig .tc .vmem S256x2048 .bf16) (h9 : a9.IsWhole)
  (a10 : Memref sig .tc .vmem S8x2048 .f32) (h10 : a10.IsWhole)
  (x0 : Vec Ideal S256x1536 .bf16) (x1 x2 : Vec Ideal S256x1024 .bf16) (x3 : Vec Ideal S3584x2048 .bf16) (x4 : Vec Ideal S256x2048 .f32)
  (x5 : Vec Ideal S1x2048 .f32) (x6 : Vec Ideal S256x2048 .f32) (xo9 : Vec Ideal S8x2048 .f32)

theorem out7_A (hc0 : cond0_0 i) :
    out0_A_7 c i a1 h1 a2 h2 a3 h3 a4 h4 a5 h5 a6 h6 a7 h7 a8 h8 a9 h9 a10 h10 hc0 x0 x1 x2 x3 x4 x5 x6
      = k0_pay1 (F := Ideal) (prod x0 x1 x2 x3) (k0_pay6 x4) (k0_pay7 x4) (k0_pay8 x5) x6 := by
  unfold out0_A_7
  rw [View.read_writes_eq_canon _ _ _ (cover0_A_7 c i a1 h1 a2 h2 a3 h3 a4 h4 a5 h5 a6 h6 a7 h7 a8 h8 a9 h9 a10 h10 hc0 x0 x1 x2 x3 x4 x5 x6)]
  unfold kernelRun0_A
  dsimp only
  sl_unfold_words
  rw [View.canon_unit_zero zz]
  simp only [View.readAt_eq_ld, h1.read_unread, h2.read_unread, h3.read_unread, h4.read_unread, h5.read_unread, h6.read_unread, h7.read_unread, h8.read_unread, h9.read_unread, h10.read_unread,
    View.ld_unit_zero (S := S256x1536) zz, View.ld_unit_zero (S := S256x1024) zz, View.ld_unit_zero (S := S256x2048) zz, View.ld_unit_zero (S := S1x2048) zz]

theorem out8_A (hc0 : cond0_0 i) :
    out0_A_8 c i a1 h1 a2 h2 a3 h3 a4 h4 a5 h5 a6 h6 a7 h7 a8 h8 a9 h9 a10 h10 hc0 x0 x1 x2 x3 x4 x5 x6
      = k0_pay2 (F := Ideal) (prod x0 x1 x2 x3) (k0_pay6 x4) (k0_pay7 x4) (k0_pay8 x5) x6 := by
  unfold out0_A_8
  rw [View.read_writes_eq_canon _ _ _ (cover0_A_8 c i a1 h1 a2 h2 a3 h3 a4 h4 a5 h5 a6 h6 a7 h7 a8 h8 a9 h9 a10 h10 hc0 x0 x1 x2 x3 x4 x5 x6)]
  unfold kernelRun0_A
  dsimp only
  sl_unfold_words
  rw [View.canon_unit_zero zz]
  simp only [View.readAt_eq_ld, h1.read_unread, h2.read_unread, h3.read_unread, h4.read_unread, h5.read_unread, h6.read_unread, h7.read_unread, h8.read_unread, h9.read_unread, h10.read_unread,
    View.ld_unit_zero (S := S256x1536) zz, View.ld_unit_zero (S := S256x1024) zz, View.ld_unit_zero (S := S256x2048) zz, View.ld_unit_zero (S := S1x2048) zz]

theorem out7_B (hc0 : ¬cond0_0 i) :
    out0_B_7 c i a1 h1 a2 h2 a3 h3 a4 h4 a5 h5 a6 h6 a7 h7 a8 h8 a9 h9 a10 h10 hc0 x0 x1 x2 x3 x4 x5 x6 xo9
      = k0_pay1 (F := Ideal) (prod x0 x1 x2 x3) (k0_pay6 x4) (k0_pay7 x4) (k0_pay8 x5) x6 := by
  unfold out0_B_7
  rw [View.read_writes_eq_canon _ _ _ (cover0_B_7 c i a1 h1 a2 h2 a3 h3 a4 h4 a5 h5 a6 h6 a7 h7 a8 h8 a9 h9 a10 h10 hc0 x0 x1 x2 x3 x4 x5 x6 xo9)]
  unfold kernelRun0_B
  dsimp only
  sl_unfold_words
  rw [View.canon_unit_zero zz]
  simp only [View.readAt_eq_ld, h1.read_unread, h2.read_unread, h3.read_unread, h4.read_unread, h5.read_unread, h6.read_unread, h7.read_unread, h8.read_unread, h9.read_unread, h10.read_unread,
    View.ld_unit_zero (S := S256x1536) zz, View.ld_unit_zero (S := S256x1024) zz, View.ld_unit_zero (S := S256x2048) zz, View.ld_unit_zero (S := S1x2048) zz]

theorem out8_B (hc0 : ¬cond0_0 i) :
    out0_B_8 c i a1 h1 a2 h2 a3 h3 a4 h4 a5 h5 a6 h6 a7 h7 a8 h8 a9 h9 a10 h10 hc0 x0 x1 x2 x3 x4 x5 x6 xo9
      = k0_pay2 (F := Ideal) (prod x0 x1 x2 x3) (k0_pay6 x4) (k0_pay7 x4) (k0_pay8 x5) x6 := by
  unfold out0_B_8
  rw [View.read_writes_eq_canon _ _ _ (cover0_B_8 c i a1 h1 a2 h2 a3 h3 a4 h4 a5 h5 a6 h6 a7 h7 a8 h8 a9 h9 a10 h10 hc0 x0 x1 x2 x3 x4 x5 x6 xo9)]
  unfold kernelRun0_B
  dsimp only
  sl_unfold_words
  rw [View.canon_unit_zero zz]
  simp only [View.readAt_eq_ld, h1.read_unread, h2.read_unread, h3.read_unread, h4.read_unread, h5.read_unread, h6.read_unread, h7.read_unread, h8.read_unread, h9.read_unread, h10.read_unread,
    View.ld_unit_zero (S := S256x1536) zz, View.ld_unit_zero (S := S256x1024) zz, View.ld_unit_zero (S := S256x2048) zz, View.ld_unit_zero (S := S1x2048) zz]

theorem gain_B (hc0 : ¬cond0_0 i) :
    out0_B_9 c i a1 h1 a2 h2 a3 h3 a4 h4 a5 h5 a6 h6 a7 h7 a8 h8 a9 h9 a10 h10 hc0 x0 x1 x2 x3 x4 x5 x6 xo9
      = a10.view.read (Elt Ideal) (a10.view.writes (Elt Ideal) (h10.unread xo9) [⟨row0, k0_pay3 (prod x0 x1 x2 x3) (k0_pay7 x4) (View.ld xo9 row0)⟩]) := by
  unfold out0_B_9
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread,
    View.ld_unit_zero (S := S256x1536) zz, View.ld_unit_zero (S := S256x1024) zz, View.ld_unit_zero (S := S256x2048) zz, View.ld_unit_zero (S := S1x2048) zz]

theorem gain_A (hc0 : cond0_0 i) (y : S8x2048.Idx) :
    out0_A_9 c i a1 h1 a2 h2 a3 h3 a4 h4 a5 h5 a6 h6 a7 h7 a8 h8 a9 h9 a10 h10 hc0 x0 x1 x2 x3 x4 x5 x6 y
      = if (y 0).val = 0 then k0_pay3 (prod x0 x1 x2 x3) (k0_pay7 x4) (View.ld (k0_pay4 (F := Ideal)) row0) (ix2 (0 : Fin 1) (y 1 : Fin 2048))
        else k0_pay4 (F := Ideal) y := by
  unfold out0_A_9
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread,
    View.ld_unit_zero (S := S256x1536) zz, View.ld_unit_zero (S := S256x1024) zz, View.ld_unit_zero (S := S256x2048) zz, View.ld_unit_zero (S := S1x2048) zz]
  rw [View.readCov_eq_canon', View.canon_unit_zero zz]
  by_cases e0 : (y 0).val = 0
  · rw [if_pos e0]
    refine View.read_writes_cons_unit_of_mem _ _ inb_S8x2048_S1x2048_0_0 _ _ y (ix2 (0 : Fin 1) (y 1 : Fin 2048)) rfl (fun b => ?_)
    match b with
    | ⟨0, _⟩ => show (y 0).val = 0 + 0; omega
    | ⟨1, _⟩ => show (y 1).val = 0 + (y 1).val; omega
  · rw [if_neg e0]
    refine (View.read_writes_cons_unit_of_not_mem _ _ inb_S8x2048_S1x2048_0_0 _ _ y rfl (0 : Fin 2) ?_).trans ?_
    · show (y 0).val < 0 ∨ 0 + 1 ≤ (y 0).val; omega
    refine View.read_writes_cons_unit_of_mem _ _ inb_S8x2048_S8x2048_0_0 _ _ y y rfl (fun b => ?_)
    match b with
    | ⟨0, _⟩ => show (y 0).val = 0 + (y 0).val; omega
    | ⟨1, _⟩ => show (y 1).val = 0 + (y 1).val; omega
end

theorem emb_row0 (y : S8x2048.Idx) (e : (y 0).val = 0) : y = row0.emb (ix2 (0 : Fin 1) (y 1 : Fin 2048)) := by
  funext b; apply Fin.ext
  match b with
  | ⟨0, _⟩ => show (y 0).val = 0 + 1 * 0; omega
  | ⟨1, _⟩ => show (y 1).val = 0 + 1 * (y 1).val; omega

/-- A store into the first row: that row is the stored one, the others are as before. -/
theorem row_store (w : Memref sig .tc .vmem S8x2048 .f32) (hw : w.IsWhole) (x : Vec Ideal S8x2048 .f32) (v : Vec Ideal S1x2048 .f32) (y : S8x2048.Idx) :
    w.view.read (Elt Ideal) (w.view.writes (Elt Ideal) (hw.unread x) [⟨row0, v⟩]) y
      = if (y 0).val = 0 then v (ix2 (0 : Fin 1) (y 1 : Fin 2048)) else x y := by
  by_cases e0 : (y 0).val = 0
  · rw [if_pos e0]
    refine View.read_writes_cons_unit_of_mem w.view _ inb_S8x2048_S1x2048_0_0 _ _ y (ix2 (0 : Fin 1) (y 1 : Fin 2048)) rfl (fun b => ?_)
    match b with
    | ⟨0, _⟩ => show (y 0).val = 0 + 0; omega
    | ⟨1, _⟩ => show (y 1).val = 0 + (y 1).val; omega
  · rw [if_neg e0]
    refine (View.read_writes_cons_unit_of_not_mem w.view _ inb_S8x2048_S1x2048_0_0 _ _ y rfl (0 : Fin 2) ?_).trans ?_
    · show (y 0).val < 0 ∨ 0 + 1 ≤ (y 0).val; omega
    rw [View.writes_nil, hw.read_unread]

/-- The first row read. -/
theorem row_load (x : Vec Ideal S8x2048 .f32) (i : S1x2048.Idx) : View.ld x row0 i = x (ix2 (0 : Fin 8) (i 1 : Fin 2048)) := by
  refine Eq.trans ?_ (congrArg x (emb_row0 (ix2 (0 : Fin 8) (i 1 : Fin 2048)) rfl).symm)
  refine congrArg x (congrArg row0.emb ?_)
  funext b; apply Fin.ext
  match b with
  | ⟨0, _⟩ => have : (i 0).val < 1 := (i 0).isLt; show (i 0).val = 0; omega
  | ⟨1, _⟩ => rfl

end Cert.InDnormIdeal.Blk
end
-- ==== Proof.InDnormKernel.lean ====
module

public import proofs.«01_k».proof.Proof.InDnormStep
public import Idealize.ShloMosaic.Lib.Pointwise.Contract
public import Idealize.ShloMosaic.Lib.Tactic
public import Idealize.ShloMosaic.Lib.WritesUnit

@[expose] public section

set_option maxRecDepth 16384

noncomputable section

/-! The gradient through the input projection and its norm: what the kernel leaves in its three result arrays, index by index. -/

namespace Cert.InDnormIdeal.Blk

open Idealize.ShloMosaic hiding ix0 ix1 ix2 ix3 ix4 ix5 eq_ix2 eq_ix3
open Cert.InDnormIdeal Cert.InDnormIdeal.Gen Idealize.ShloMosaic.ValueIdx Idealize.ShloMosaic.TcCoe Idealize.SL.Sem Cert.RmsIn
open Cert.Rms (hat back)
open Idealize.ShloMosaic.StableHlo

variable (m : (ℓ : Loc nD τ sig) → Buf (Elt Ideal) ℓ) (c : Dev nD)

abbrev xA : S2048x2048.Idx → EReal := m ((c : Thread nD τ).loc main_arg0)
abbrev gA : S2048.Idx → EReal := m ((c : Thread nD τ).loc main_arg1)
abbrev wA : S2048x3584.Idx → EReal := m ((c : Thread nD τ).loc main_arg2)
abbrev ctA : S2048x3584.Idx → EReal := m ((c : Thread nD τ).loc main_arg3)
abbrev dA : S2048x2048.Idx → EReal := m ((c : Thread nD τ).loc main_arg4)

set_option maxHeartbeats 4000000 in
theorem V_w : V m c main_v5 = (truncf .bf16 (transpose S3584x2048 [1, 0] (m ((c : Thread nD τ).loc main_arg2)) transposes_S2048x3584_S3584x2048_1_0 : FVec Ideal S3584x2048 .f32) bitsLt_bf16_f32 : FVec Ideal S3584x2048 .bf16) := by
  unfold V
  simp only [hostOps0, List.flatten_cons, List.flatten_nil, List.append_nil, List.cons_append, List.nil_append,
    TRef.binary, TRef.nullary, TRef.ternary, TRef.unary, TRef.toBuf, TRef.ofBuf, cast_eq]
  after_results_simp <;> rfl

set_option maxHeartbeats 4000000 in
theorem V_g : V m c main_v6 = (broadcastInDim S1x2048 ![1] bcast_S2048_S1x2048_1 (m ((c : Thread nD τ).loc main_arg1)) : FVec Ideal S1x2048 .f32) := by
  unfold V
  simp only [hostOps0, List.flatten_cons, List.flatten_nil, List.append_nil, List.cons_append, List.nil_append,
    TRef.binary, TRef.nullary, TRef.ternary, TRef.unary, TRef.toBuf, TRef.ofBuf, cast_eq]
  after_results_simp <;> rfl

theorem lt8 (t : Fin cfg0.N) : t.val < 8 := lt_of_lt_of_eq t.isLt N_0

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx6 : ∀ t : Fin cfg0.N, win0_6.index t (0 : Fin 2) = t.val ∧ win0_6.index t (1 : Fin 2) = 0 := (by decide +kernel : ∀ t : Fin grid0.N, _)
theorem idx7 : ∀ t : Fin cfg0.N, win0_7.index t (0 : Fin 2) = t.val ∧ win0_7.index t (1 : Fin 2) = 0 := (by decide +kernel : ∀ t : Fin grid0.N, _)
theorem idx8 : ∀ t : Fin cfg0.N, win0_8.index t (0 : Fin 2) = t.val ∧ win0_8.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx9 : ∀ t : Fin cfg0.N, win0_9.index t (0 : Fin 2) = 0 ∧ win0_9.index t (1 : Fin 2) = 0 := (by decide +kernel : ∀ t : Fin grid0.N, _)
theorem flush7 : ∀ t : Fin cfg0.N, (cfg0.win 7).flush t = true := (by decide +kernel : ∀ t : Fin grid0.N, _)
theorem flush8 : ∀ t : Fin cfg0.N, (cfg0.win 8).flush t = true := (by decide +kernel : ∀ t : Fin grid0.N, _)
theorem flush9 : ∀ t : Fin cfg0.N, (cfg0.win 9).flush t = true ↔ t.val = 7 := (by decide +kernel : ∀ t : Fin grid0.N, _)

/-- The row of the array that row `r` of the point's block is. -/
abbrev row (t : Fin cfg0.N) (r : Fin 256) : Fin 2048 := ⟨t.val * 256 + r.val, by have := lt8 t; have := r.isLt; omega⟩

set_option maxHeartbeats 4000000 in
theorem V_v1 : V m c main_v1 = (extractStridedSlice S2048x1536 ![0, 0] (truncf .bf16 (m ((c : Thread nD τ).loc main_arg3)) bitsLt_bf16_f32 : FVec Ideal S2048x3584 .bf16) slices_S2048x3584_S2048x1536_0_0 : FVec Ideal S2048x1536 .bf16) := by
  unfold V
  simp only [hostOps0, List.flatten_cons, List.flatten_nil, List.append_nil, List.cons_append, List.nil_append,
    TRef.binary, TRef.nullary, TRef.ternary, TRef.unary, TRef.toBuf, TRef.ofBuf, cast_eq]
  after_results_simp <;> rfl

abbrev ctr0 (k : Fin 1536) : Fin 3584 := ⟨0 + k.val, by have := k.isLt; omega⟩

theorem v1_at (i : S2048x1536.Idx) : V m c main_v1 i = ctA m c (ix2 (i 0 : Fin 2048) (ctr0 (i 1))) := by
  rw [V_v1]
  exact extractStridedSlice_apply ![0, 0] _ slices_S2048x3584_S2048x1536_0_0 i (ix2 (i 0 : Fin 2048) (ctr0 (i 1))) (fun a => match a with
    | ⟨0, _⟩ => (Nat.zero_add _).symm
    | ⟨1, _⟩ => rfl)

theorem v1_blk (t : Fin cfg0.N) (i : S256x1536.Idx) : iblk m c 0 t i = ctA m c (ix2 (row t (i 0)) (ctr0 (i 1))) := by
  unfold iblk
  rw [View.read_apply]
  show V m c main_v1 _ = _
  refine (v1_at m c _).trans (congrArg (ctA m c) (funext fun a => Fin.ext ?_))
  match a with
  | ⟨0, _⟩ => show win0_0.index t (0 : Fin 2) * 256 + 1 * (i 0).val = t.val * 256 + (i 0).val; rw [(idx0 t).1]; omega
  | ⟨1, _⟩ => show 0 + (win0_0.index t (1 : Fin 2) * 1536 + 1 * (i 1).val) = 0 + (i 1).val; rw [(idx0 t).2]; omega

set_option maxHeartbeats 4000000 in
theorem V_v2 : V m c main_v2 = (extractStridedSlice S2048x1024 ![0, 1536] (truncf .bf16 (m ((c : Thread nD τ).loc main_arg3)) bitsLt_bf16_f32 : FVec Ideal S2048x3584 .bf16) slices_S2048x3584_S2048x1024_0_1536 : FVec Ideal S2048x1024 .bf16) := by
  unfold V
  simp only [hostOps0, List.flatten_cons, List.flatten_nil, List.append_nil, List.cons_append, List.nil_append,
    TRef.binary, TRef.nullary, TRef.ternary, TRef.unary, TRef.toBuf, TRef.ofBuf, cast_eq]
  after_results_simp <;> rfl

abbrev ctr1 (k : Fin 1024) : Fin 3584 := ⟨1536 + k.val, by have := k.isLt; omega⟩

theorem v2_at (i : S2048x1024.Idx) : V m c main_v2 i = ctA m c (ix2 (i 0 : Fin 2048) (ctr1 (i 1))) := by
  rw [V_v2]
  exact extractStridedSlice_apply ![0, 1536] _ slices_S2048x3584_S2048x1024_0_1536 i (ix2 (i 0 : Fin 2048) (ctr1 (i 1))) (fun a => match a with
    | ⟨0, _⟩ => (Nat.zero_add _).symm
    | ⟨1, _⟩ => rfl)

theorem v2_blk (t : Fin cfg0.N) (i : S256x1024.Idx) : iblk m c 1 t i = ctA m c (ix2 (row t (i 0)) (ctr1 (i 1))) := by
  unfold iblk
  rw [View.read_apply]
  show V m c main_v2 _ = _
  refine (v2_at m c _).trans (congrArg (ctA m c) (funext fun a => Fin.ext ?_))
  match a with
  | ⟨0, _⟩ => show win0_1.index t (0 : Fin 2) * 256 + 1 * (i 0).val = t.val * 256 + (i 0).val; rw [(idx1 t).1]; omega
  | ⟨1, _⟩ => show 1536 + (win0_1.index t (1 : Fin 2) * 1024 + 1 * (i 1).val) = 1536 + (i 1).val; rw [(idx1 t).2]; omega

set_option maxHeartbeats 4000000 in
theorem V_v3 : V m c main_v3 = (extractStridedSlice S2048x1024 ![0, 2560] (truncf .bf16 (m ((c : Thread nD τ).loc main_arg3)) bitsLt_bf16_f32 : FVec Ideal S2048x3584 .bf16) slices_S2048x3584_S2048x1024_0_2560 : FVec Ideal S2048x1024 .bf16) := by
  unfold V
  simp only [hostOps0, List.flatten_cons, List.flatten_nil, List.append_nil, List.cons_append, List.nil_append,
    TRef.binary, TRef.nullary, TRef.ternary, TRef.unary, TRef.toBuf, TRef.ofBuf, cast_eq]
  after_results_simp <;> rfl

abbrev ctr2 (k : Fin 1024) : Fin 3584 := ⟨2560 + k.val, by have := k.isLt; omega⟩

theorem v3_at (i : S2048x1024.Idx) : V m c main_v3 i = ctA m c (ix2 (i 0 : Fin 2048) (ctr2 (i 1))) := by
  rw [V_v3]
  exact extractStridedSlice_apply ![0, 2560] _ slices_S2048x3584_S2048x1024_0_2560 i (ix2 (i 0 : Fin 2048) (ctr2 (i 1))) (fun a => match a with
    | ⟨0, _⟩ => (Nat.zero_add _).symm
    | ⟨1, _⟩ => rfl)

theorem v3_blk (t : Fin cfg0.N) (i : S256x1024.Idx) : iblk m c 2 t i = ctA m c (ix2 (row t (i 0)) (ctr2 (i 1))) := by
  unfold iblk
  rw [View.read_apply]
  show V m c main_v3 _ = _
  refine (v3_at m c _).trans (congrArg (ctA m c) (funext fun a => Fin.ext ?_))
  match a with
  | ⟨0, _⟩ => show win0_2.index t (0 : Fin 2) * 256 + 1 * (i 0).val = t.val * 256 + (i 0).val; rw [(idx2 t).1]; omega
  | ⟨1, _⟩ => show 2560 + (win0_2.index t (1 : Fin 2) * 1024 + 1 * (i 1).val) = 2560 + (i 1).val; rw [(idx2 t).2]; omega

theorem w_at (i : S3584x2048.Idx) : V m c main_v5 i = wA m c (ix2 (i 1 : Fin 2048) (i 0 : Fin 3584)) := by
  rw [V_w]
  exact transpose_apply _ _ _ i (ix2 (i 1 : Fin 2048) (i 0 : Fin 3584) : S2048x3584.Idx) (fun b => match b with | ⟨0, _⟩ => rfl | ⟨1, _⟩ => rfl)

theorem w_blk (t : Fin cfg0.N) (i : S3584x2048.Idx) : iblk m c 3 t i = wA m c (ix2 (i 1 : Fin 2048) (i 0 : Fin 3584)) := by
  unfold iblk
  rw [View.read_apply]
  show V m c main_v5 _ = _
  refine (w_at m c _).trans (congrArg (wA m c) (funext fun a => Fin.ext ?_))
  match a with
  | ⟨0, _⟩ => show win0_3.index t (1 : Fin 2) * 2048 + 1 * (i 1).val = (i 1).val; rw [(idx3 t).2]; omega
  | ⟨1, _⟩ => show win0_3.index t (0 : Fin 2) * 3584 + 1 * (i 0).val = (i 0).val; rw [(idx3 t).1]; omega

theorem w0_ld (t : Fin cfg0.N) (k : Fin 1536) (l : Fin 2048) : View.ld (iblk m c 3 t) rowsA (ix2 k l) = wA m c (ix2 l (ctr0 k)) := by
  refine (w_blk m c t (rowsA.emb (ix2 k l))).trans (congrArg (wA m c) (funext fun a => Fin.ext ?_))
  match a with
  | ⟨0, _⟩ => show 0 + 1 * l.val = l.val; omega
  | ⟨1, _⟩ => show 0 + 1 * k.val = 0 + k.val; omega

theorem w1_ld (t : Fin cfg0.N) (k : Fin 1024) (l : Fin 2048) : View.ld (iblk m c 3 t) rowsB (ix2 k l) = wA m c (ix2 l (ctr1 k)) := by
  refine (w_blk m c t (rowsB.emb (ix2 k l))).trans (congrArg (wA m c) (funext fun a => Fin.ext ?_))
  match a with
  | ⟨0, _⟩ => show 0 + 1 * l.val = l.val; omega
  | ⟨1, _⟩ => show 1536 + 1 * k.val = 1536 + k.val; omega

theorem w2_ld (t : Fin cfg0.N) (k : Fin 1024) (l : Fin 2048) : View.ld (iblk m c 3 t) rowsC (ix2 k l) = wA m c (ix2 l (ctr2 k)) := by
  refine (w_blk m c t (rowsC.emb (ix2 k l))).trans (congrArg (wA m c) (funext fun a => Fin.ext ?_))
  match a with
  | ⟨0, _⟩ => show 0 + 1 * l.val = l.val; omega
  | ⟨1, _⟩ => show 2560 + 1 * k.val = 2560 + k.val; omega

theorem g_blk (t : Fin cfg0.N) (i : S1x2048.Idx) : iblk m c 5 t i = gA m c (ix1 (i 1 : Fin 2048)) := by
  unfold iblk
  rw [View.read_apply]
  show V m c main_v6 _ = _
  rw [V_g]
  refine broadcastInDim_apply _ bcast_S2048_S1x2048_1 (gA m c) _ _ (fun a => match a with
    | ⟨0, _⟩ => ?_)
  show (i 1).val = win0_5.index t (1 : Fin 2) * 2048 + 1 * (i 1).val
  rw [(idx5 t).2]; omega

theorem x_blk (t : Fin cfg0.N) (i : S256x2048.Idx) : iblk m c 4 t i = xA m c (ix2 (row t (i 0)) (i 1 : Fin 2048)) := by
  unfold iblk
  rw [View.read_apply]
  show V m c main_arg0 _ = _
  rw [V_main_arg0]
  show xA m c _ = _
  refine congrArg _ (funext fun a => Fin.ext ?_)
  match a with
  | ⟨0, _⟩ => show win0_4.index t (0 : Fin 2) * 256 + 1 * (i 0).val = t.val * 256 + (i 0).val; rw [(idx4 t).1]; omega
  | ⟨1, _⟩ => show win0_4.index t (1 : Fin 2) * 2048 + 1 * (i 1).val = (i 1).val; rw [(idx4 t).2]; omega

theorem d_blk (t : Fin cfg0.N) (i : S256x2048.Idx) : iblk m c 6 t i = dA m c (ix2 (row t (i 0)) (i 1 : Fin 2048)) := by
  unfold iblk
  rw [View.read_apply]
  show V m c main_arg4 _ = _
  rw [V_main_arg4]
  show dA m c _ = _
  refine congrArg _ (funext fun a => Fin.ext ?_)
  match a with
  | ⟨0, _⟩ => show win0_6.index t (0 : Fin 2) * 256 + 1 * (i 0).val = t.val * 256 + (i 0).val; rw [(idx6 t).1]; omega
  | ⟨1, _⟩ => show win0_6.index t (1 : Fin 2) * 2048 + 1 * (i 1).val = (i 1).val; rw [(idx6 t).2]; omega

theorem zero8_at (i : S8x2048.Idx) : k0_pay4 (F := Ideal) i = ((0 : ℝ) : EReal) := by
  unfold k0_pay4
  exact Cert.ReferenceIdeal.RefValue.lit_zero

abbrev prev (t : Fin cfg0.N) := outsAt0 m c (t.val - 1) (Nat.lt_of_le_of_lt (Nat.sub_le _ _) t.isLt)

/-- A sum over the columns is the sum over the three pieces. -/
theorem sum_pieces (f : Fin 3584 → ℝ) : ∑ k, f k = (∑ k, f (ctr0 k)) + (∑ k, f (ctr1 k)) + ∑ k, f (ctr2 k) := by
  rw [show (∑ k, f k) = ∑ k : Fin (1536 + 1024 + 1024), f k from rfl, Fin.sum_univ_add, Fin.sum_univ_add]
  refine congrArg₂ (· + ·) (congrArg₂ (· + ·) (Finset.sum_congr rfl fun k _ => congrArg f (Fin.ext ?_)) (Finset.sum_congr rfl fun k _ => congrArg f (Fin.ext ?_)))
    (Finset.sum_congr rfl fun k _ => congrArg f (Fin.ext ?_))
  · show k.val = 0 + k.val; omega
  · rfl
  · rfl

open Cert.InDnormRefIdeal.RefValue (Holds)
variable {a : Args} (H : Holds (xA m c) (gA m c) (wA m c) (ctA m c) (dA m c) a)

/-- The product of the point's block of rows. -/
abbrev pblk (t : Fin cfg0.N) : FVec Ideal S256x2048 .f32 := prod (iblk m c 0 t) (iblk m c 1 t) (iblk m c 2 t) (iblk m c 3 t)

include H in
theorem acc_at (t : Fin cfg0.N) (i : S256x2048.Idx) : pblk m c t i = ((dy a (row t (i 0)) (i 1) : ℝ) : EReal) := by
  have e : ∀ k : Fin 3584, (ctA m c (ix2 (row t (i 0)) k) * wA m c (ix2 (i 1 : Fin 2048) k) : EReal) = ((a.ct (row t (i 0)) k * a.w (i 1) k : ℝ) : EReal) :=
    fun k => (congrArg₂ (· * ·) (H.h3 _) (H.h2 _)).trans (EReal.coe_mul _ _).symm
  refine (prod_at _ _ _ _ _ _ i).trans ?_
  show _ = ((∑ k, a.ct (row t (i 0)) k * a.w (i 1) k : ℝ) : EReal)
  rw [sum_pieces, EReal.coe_add, EReal.coe_add]
  refine congrArg₂ (fun p q : EReal => p + q) (congrArg₂ (fun p q : EReal => p + q) ?_ ?_) ?_
  · refine Eq.trans (Finset.sum_congr rfl fun k _ => ?_) (Cert.ReferenceIdeal.RefValue.coe_sum _ _)
    exact (congrArg₂ (fun p q : EReal => p * q) (v1_blk m c t (ix2 (i 0 : Fin 256) k)) (w0_ld m c t k (i 1))).trans (e (ctr0 k))
  · refine Eq.trans (Finset.sum_congr rfl fun k _ => ?_) (Cert.ReferenceIdeal.RefValue.coe_sum _ _)
    exact (congrArg₂ (fun p q : EReal => p * q) (v2_blk m c t (ix2 (i 0 : Fin 256) k)) (w1_ld m c t k (i 1))).trans (e (ctr1 k))
  · refine Eq.trans (Finset.sum_congr rfl fun k _ => ?_) (Cert.ReferenceIdeal.RefValue.coe_sum _ _)
    exact (congrArg₂ (fun p q : EReal => p * q) (v3_blk m c t (ix2 (i 0 : Fin 256) k)) (w2_ld m c t k (i 1))).trans (e (ctr2 k))

include H in
theorem xr_blk (t : Fin cfg0.N) (i : S256x2048.Idx) : iblk m c 4 t i = ((a.x (row t (i 0)) (i 1) : ℝ) : EReal) :=
  (x_blk m c t i).trans (H.h0 _)
include H in
theorem dr_blk (t : Fin cfg0.N) (i : S256x2048.Idx) : iblk m c 6 t i = ((a.dres (row t (i 0)) (i 1) : ℝ) : EReal) :=
  (d_blk m c t i).trans (H.h4 _)
include H in
theorem gr_blk (t : Fin cfg0.N) (i : S1x2048.Idx) : iblk m c 5 t i = ((a.g (i 1) : ℝ) : EReal) :=
  (g_blk m c t i).trans (H.h1 _)

include H in
/-- What a point leaves in the first result's block. -/
theorem out_at (t : Fin cfg0.N) (i : S256x2048.Idx) : (outsAt0 m c t.val t.isLt).1 i = ((dx a (row t (i 0)) (i 1) : ℝ) : EReal) := by
  have e := out_pay (fun r => a.x (row t r)) (fun r => dy a (row t r)) (fun r => a.dres (row t r)) a.g _ _ _ _
      (xr_blk m c H t) (acc_at m c H t) (dr_blk m c H t) (gr_blk m c H t) i
  by_cases h : t.val % 8 = 0
  · rw [outsAt0_A m c t h]
    dsimp only
    exact (congrFun (out7_A ..) i).trans e
  · rw [outsAt0_B m c t h]
    dsimp only
    exact (congrFun (out7_B ..) i).trans e

include H in
/-- The second result's block is the first's. -/
theorem out_at' (t : Fin cfg0.N) (i : S256x2048.Idx) : (outsAt0 m c t.val t.isLt).2.1 i = ((dx a (row t (i 0)) (i 1) : ℝ) : EReal) := by
  have e := out_pay (fun r => a.x (row t r)) (fun r => dy a (row t r)) (fun r => a.dres (row t r)) a.g _ _ _ _
      (xr_blk m c H t) (acc_at m c H t) (dr_blk m c H t) (gr_blk m c H t) i
  by_cases h : t.val % 8 = 0
  · rw [outsAt0_A m c t h]
    dsimp only
    exact (congrFun (out8_A ..) i).trans e
  · rw [outsAt0_B m c t h]
    dsimp only
    exact (congrFun (out8_B ..) i).trans e

/-- The gain's gradient from a block of rows. -/
abbrev gpart (a : Args) (s : ℕ) (l : Fin 2048) : ℝ := ∑ r : Fin 256, Cert.Sums.ext 2048 (fun r => dgRow a r l) (s * 256 + r.val)
abbrev gsum (a : Args) (n : ℕ) (q : Fin 8) (l : Fin 2048) : ℝ := if q.val = 0 then ∑ s ∈ Finset.range n, gpart a s l else 0

include H in
/-- The first row after a point, when it held the blocks of rows before. -/
theorem row_at (t : Fin cfg0.N) (p : Vec Ideal S1x2048 .f32) (hp : ∀ i : S1x2048.Idx, p i = ((∑ s ∈ Finset.range t.val, gpart a s (i 1) : ℝ) : EReal)) (l : Fin 2048) :
    k0_pay3 (F := Ideal) (pblk m c t) (k0_pay7 (iblk m c 4 t)) p (ix2 (0 : Fin 1) l) = ((∑ s ∈ Finset.range (t.val + 1), gpart a s l : ℝ) : EReal) := by
  refine (gain_pay (fun r => a.x (row t r)) (fun r => dy a (row t r)) (fun l => ∑ s ∈ Finset.range t.val, gpart a s l) _ _ _
    (xr_blk m c H t) (acc_at m c H t) hp _).trans (congrArg _ ?_)
  rw [Finset.sum_range_succ]
  refine congrArg (_ + ·) (Finset.sum_congr rfl fun r _ => ?_)
  exact (Cert.Sums.ext_of_lt 2048 (fun r => dgRow a r l) _ (row t r).isLt).symm

include H in
theorem gain_first (t : Fin cfg0.N) (h : t.val = 0) (y : S8x2048.Idx) : (outsAt0 m c t.val t.isLt).2.2 y = ((gsum a (t.val + 1) (y 0) (y 1) : ℝ) : EReal) := by
  rw [outsAt0_A m c t (by omega)]
  dsimp only
  refine (gain_A .. ).trans ?_
  by_cases e0 : (y 0).val = 0
  · rw [if_pos e0]
    refine (row_at m c H t _ (fun i => (row_load _ i).trans ((zero8_at _).trans (congrArg _ ?_))) (y 1)).trans (congrArg _ (if_pos e0).symm)
    rw [h, Finset.sum_range_zero]
  · rw [if_neg e0]
    exact (zero8_at y).trans (congrArg _ (if_neg e0).symm)

include H in
theorem gain_add (t : Fin cfg0.N) (h : ¬t.val % 8 = 0)
    (hp : ∀ y : S8x2048.Idx, (prev m c t).2.2 y = ((gsum a t.val (y 0) (y 1) : ℝ) : EReal)) (y : S8x2048.Idx) :
    (outsAt0 m c t.val t.isLt).2.2 y = ((gsum a (t.val + 1) (y 0) (y 1) : ℝ) : EReal) := by
  rw [outsAt0_B m c t h]
  dsimp only
  refine (congrFun (gain_B ..) y).trans ((row_store _ _ _ _ y).trans ?_)
  by_cases e0 : (y 0).val = 0
  · rw [if_pos e0]
    exact (row_at m c H t _ (fun i => (row_load _ i).trans ((hp _).trans (congrArg _ (if_pos rfl)))) (y 1)).trans (congrArg _ (if_pos e0).symm)
  · rw [if_neg e0]
    refine (hp y).trans (congrArg _ ?_)
    exact (if_neg e0).trans (if_neg e0).symm

include H in
/-- The gain's gradient after a point: the blocks of rows so far, in the first of the eight rows. -/
theorem gain_at : ∀ (n : ℕ) (hn : n < cfg0.N) (y : S8x2048.Idx), (outsAt0 m c n hn).2.2 y = ((gsum a (n + 1) (y 0) (y 1) : ℝ) : EReal) := by
  intro n
  induction n with
  | zero => exact fun hn y => gain_first m c H ⟨0, hn⟩ rfl y
  | succ n ih =>
    intro hn y
    have hN : n + 1 < 8 := lt_of_lt_of_eq hn N_0
    exact gain_add m c H ⟨n + 1, hn⟩ (by show ¬(n + 1) % 8 = 0; omega) (ih (Nat.lt_of_succ_lt hn)) y

theorem mem7 (t : Fin cfg0.N) (i : S2048x2048.Idx) :
    i ∈ ((cfg0.win 7).blk t).view.set ↔ ∀ a : Fin 2, win0_7.index t a * S256x2048.size a ≤ (i a).val ∧ (i a).val < win0_7.index t a * S256x2048.size a + S256x2048.size a := by
  show i ∈ ((View.whole main_v7_0).slice (win0_7.rect t)).set ↔ _
  rw [View.set_slice_whole, Rect.mem_set_unit]
  exact Iff.rfl

theorem covers7 (i : S2048x2048.Idx) : ∃ t : Fin cfg0.N, (cfg0.win 7).flush t = true ∧ i ∈ ((cfg0.win 7).blk t).view.set := by
  have h0 : (i 0).val < 2048 := (i 0).isLt
  have h1 : (i 1).val < 2048 := (i 1).isLt
  refine ⟨⟨(i 0).val / 256, lt_of_lt_of_eq (by omega) N_0.symm⟩, flush7 _, (mem7 _ _).2 fun a => ?_⟩
  match a with
  | ⟨0, _⟩ =>
    show win0_7.index _ (0 : Fin 2) * 256 ≤ (i 0).val ∧ (i 0).val < win0_7.index _ (0 : Fin 2) * 256 + 256
    rw [(idx7 _).1]
    show (i 0).val / 256 * 256 ≤ (i 0).val ∧ (i 0).val < (i 0).val / 256 * 256 + 256
    omega
  | ⟨1, _⟩ =>
    show win0_7.index _ (1 : Fin 2) * 2048 ≤ (i 1).val ∧ (i 1).val < win0_7.index _ (1 : Fin 2) * 2048 + 2048
    rw [(idx7 _).2]; omega

theorem mem8 (t : Fin cfg0.N) (i : S2048x2048.Idx) :
    i ∈ ((cfg0.win 8).blk t).view.set ↔ ∀ a : Fin 2, win0_8.index t a * S256x2048.size a ≤ (i a).val ∧ (i a).val < win0_8.index t a * S256x2048.size a + S256x2048.size a := by
  show i ∈ ((View.whole main_v7_1).slice (win0_8.rect t)).set ↔ _
  rw [View.set_slice_whole, Rect.mem_set_unit]
  exact Iff.rfl

theorem covers8 (i : S2048x2048.Idx) : ∃ t : Fin cfg0.N, (cfg0.win 8).flush t = true ∧ i ∈ ((cfg0.win 8).blk t).view.set := by
  have h0 : (i 0).val < 2048 := (i 0).isLt
  have h1 : (i 1).val < 2048 := (i 1).isLt
  refine ⟨⟨(i 0).val / 256, lt_of_lt_of_eq (by omega) N_0.symm⟩, flush8 _, (mem8 _ _).2 fun a => ?_⟩
  match a with
  | ⟨0, _⟩ =>
    show win0_8.index _ (0 : Fin 2) * 256 ≤ (i 0).val ∧ (i 0).val < win0_8.index _ (0 : Fin 2) * 256 + 256
    rw [(idx8 _).1]
    show (i 0).val / 256 * 256 ≤ (i 0).val ∧ (i 0).val < (i 0).val / 256 * 256 + 256
    omega
  | ⟨1, _⟩ =>
    show win0_8.index _ (1 : Fin 2) * 2048 ≤ (i 1).val ∧ (i 1).val < win0_8.index _ (1 : Fin 2) * 2048 + 2048
    rw [(idx8 _).2]; omega

/-- The results, as arrays. -/
def G (a : Args) : S2048x2048.Idx → EReal := fun i => ((dx a (i 0) (i 1) : ℝ) : EReal)
def Gg (a : Args) : S8x2048.Idx → EReal := fun i => ((dg a (i 0) (i 1) : ℝ) : EReal)

include H in
theorem flushed7_eq (t : Fin cfg0.N) : (dats m 0 c).flushed 7 t = ((cfg0.win 7).blk t).view.read (Elt Ideal) (G a) := by
  rw [Cert.InDnormIdeal.Value.flushed7 m c t]
  funext y
  refine (out_at m c H t y).trans ?_
  rw [View.read_apply]
  show _ = ((dx a _ _ : ℝ) : EReal)
  refine congrArg₂ (fun p q : Fin 2048 => ((dx a p q : ℝ) : EReal)) (Fin.ext ?_) (Fin.ext ?_)
  · show t.val * 256 + (y 0).val = win0_7.index t (0 : Fin 2) * 256 + 1 * (y 0).val
    rw [(idx7 t).1]; omega
  · show (y 1).val = win0_7.index t (1 : Fin 2) * 2048 + 1 * (y 1).val
    rw [(idx7 t).2]; omega

include H in
theorem final7 : (dats m 0 c).arrAt 7 cfg0.N = G a :=
  (dats m 0 c).arrAt_eq_of_cover 7 (G a) (fun t _ => flushed7_eq m c H t) covers7

include H in
theorem flushed8_eq (t : Fin cfg0.N) : (dats m 0 c).flushed 8 t = ((cfg0.win 8).blk t).view.read (Elt Ideal) (G a) := by
  rw [Cert.InDnormIdeal.Value.flushed8 m c t]
  funext y
  refine (out_at' m c H t y).trans ?_
  rw [View.read_apply]
  show _ = ((dx a _ _ : ℝ) : EReal)
  refine congrArg₂ (fun p q : Fin 2048 => ((dx a p q : ℝ) : EReal)) (Fin.ext ?_) (Fin.ext ?_)
  · show t.val * 256 + (y 0).val = win0_8.index t (0 : Fin 2) * 256 + 1 * (y 0).val
    rw [(idx8 t).1]; omega
  · show (y 1).val = win0_8.index t (1 : Fin 2) * 2048 + 1 * (y 1).val
    rw [(idx8 t).2]; omega

include H in
theorem final8 : (dats m 0 c).arrAt 8 cfg0.N = G a :=
  (dats m 0 c).arrAt_eq_of_cover 8 (G a) (fun t _ => flushed8_eq m c H t) covers8

theorem mem9 (t : Fin cfg0.N) (i : S8x2048.Idx) :
    i ∈ ((cfg0.win 9).blk t).view.set ↔ ∀ a : Fin 2, win0_9.index t a * S8x2048.size a ≤ (i a).val ∧ (i a).val < win0_9.index t a * S8x2048.size a + S8x2048.size a := by
  show i ∈ ((View.whole main_v7_2).slice (win0_9.rect t)).set ↔ _
  rw [View.set_slice_whole, Rect.mem_set_unit]
  exact Iff.rfl

theorem covers9 (i : S8x2048.Idx) : ∃ t : Fin cfg0.N, (cfg0.win 9).flush t = true ∧ i ∈ ((cfg0.win 9).blk t).view.set := by
  have h0 : (i 0).val < 8 := (i 0).isLt
  have h1 : (i 1).val < 2048 := (i 1).isLt
  refine ⟨⟨7, lt_of_lt_of_eq (by omega) N_0.symm⟩, (flush9 _).2 rfl, (mem9 _ _).2 fun a => ?_⟩
  match a with
  | ⟨0, _⟩ =>
    show win0_9.index _ (0 : Fin 2) * 8 ≤ (i 0).val ∧ (i 0).val < win0_9.index _ (0 : Fin 2) * 8 + 8
    rw [(idx9 _).1]; omega
  | ⟨1, _⟩ =>
    show win0_9.index _ (1 : Fin 2) * 2048 ≤ (i 1).val ∧ (i 1).val < win0_9.index _ (1 : Fin 2) * 2048 + 2048
    rw [(idx9 _).2]; omega

/-- All the blocks of rows together. -/
theorem gsum_all (q : Fin 8) (l : Fin 2048) : gsum a 8 q l = dg a q l := by
  show (if q.val = 0 then ∑ s ∈ Finset.range 8, ∑ r : Fin 256, Cert.Sums.ext 2048 (fun r => dgRow a r l) (s * 256 + r.val) else 0) = _
  unfold dg
  rw [← Cert.Sums.blocks 8 256 2048 rfl]

include H in
theorem flushed9_eq (t : Fin cfg0.N) (ht : t.val = 7) : (dats m 0 c).flushed 9 t = ((cfg0.win 9).blk t).view.read (Elt Ideal) (Gg a) := by
  rw [Cert.InDnormIdeal.Value.flushed9 m c t]
  funext y
  refine (gain_at m c H t.val t.isLt y).trans ?_
  have e : ∀ (n : ℕ) (p : Fin 8) (q : Fin 2048), n = 7 → gsum a (n + 1) p q = dg a p q := fun n p q h => by rw [h, gsum_all]
  refine (congrArg (fun z : ℝ => (z : EReal)) (e t.val _ _ ht)).trans ?_
  rw [View.read_apply]
  show _ = ((dg a _ _ : ℝ) : EReal)
  refine congrArg₂ (fun (p : Fin 8) (q : Fin 2048) => ((dg a p q : ℝ) : EReal)) (Fin.ext ?_) (Fin.ext ?_)
  · show (y 0).val = win0_9.index t (0 : Fin 2) * 8 + 1 * (y 0).val
    rw [(idx9 t).1]; omega
  · show (y 1).val = win0_9.index t (1 : Fin 2) * 2048 + 1 * (y 1).val
    rw [(idx9 t).2]; omega

include H in
theorem final9 : (dats m 0 c).arrAt 9 cfg0.N = Gg a :=
  (dats m 0 c).arrAt_eq_of_cover 9 (Gg a) (fun t hf => flushed9_eq m c H t ((flush9 t).1 hf)) covers9

end Cert.InDnormIdeal.Blk
end
-- ==== Proof.InDnormJoin.lean ====
module

public import proofs.«01_k».proof.Defs
public import proofs.«01_k».proof.Proof.InDnormPre
public import proofs.«01_k».proof.Proof.InDnormKernel
public import proofs.«01_k».proof.Proof.Gen.InDnormIdeal.Value
public import proofs.«01_k».proof.Proof.Gen.InDnormRefIdeal.Run

@[expose] public section

noncomputable section

/-! The gradient through the input projection and its norm: the kernel's three results are the reference's. -/

namespace Cert.InDnorm

open Idealize.ShloMosaic Idealize.SL.Sem

theorem join : Cert.algebraic_InDnormIdeal_InDnormRefIdeal_pre_finite_indnorm := by
  intro m g m' g' hpre agree
  have hH : ∀ c, ∃ a, Cert.InDnormRefIdeal.RefValue.Holds (Cert.InDnormIdeal.Blk.xA m c) (Cert.InDnormIdeal.Blk.gA m c) (Cert.InDnormIdeal.Blk.wA m c)
    (Cert.InDnormIdeal.Blk.ctA m c) (Cert.InDnormIdeal.Blk.dA m c) a := fun c => Cert.RmsIn.holds_of_finite _ _ _ _ _ (hpre c)
  choose A HA using hH
  refine ⟨fun c => Cert.InDnormIdeal.Blk.G (A c), fun c => Cert.InDnormIdeal.Blk.G (A c), fun c => Cert.InDnormIdeal.Blk.Gg (A c),
    (θ_run Cert.InDnormIdeal.defs _ _).mono (fun r h c => ?_) (Cert.InDnormIdeal.Value.run_blocks (F := Ideal) m g), ?_⟩
  · obtain ⟨h0, h1, h2, hargs⟩ := h c
    exact ⟨h0.trans (Cert.InDnormIdeal.Blk.final7 m c (HA c)), h1.trans (Cert.InDnormIdeal.Blk.final8 m c (HA c)),
      h2.trans (Cert.InDnormIdeal.Blk.final9 m c (HA c)), hargs⟩
  refine (θ_run Cert.InDnormRefIdeal.defs _ _).mono (fun r h c => ?_) (Cert.InDnormRefIdeal.Value.run (F := Ideal) m' g')
  obtain ⟨h0, h1, h2, hargs⟩ := h c
  obtain ⟨e0, e1, e2, e3, e4⟩ := agree c
  have K : Cert.InDnormRefIdeal.RefValue.Holds (m' ((c.tc : Thread Cert.InDnormRefIdeal.nD Cert.InDnormRefIdeal.τ).loc Cert.InDnormRefIdeal.main_arg0))
      (m' ((c.tc : Thread Cert.InDnormRefIdeal.nD Cert.InDnormRefIdeal.τ).loc Cert.InDnormRefIdeal.main_arg1))
      (m' ((c.tc : Thread Cert.InDnormRefIdeal.nD Cert.InDnormRefIdeal.τ).loc Cert.InDnormRefIdeal.main_arg2))
      (m' ((c.tc : Thread Cert.InDnormRefIdeal.nD Cert.InDnormRefIdeal.τ).loc Cert.InDnormRefIdeal.main_arg3))
      (m' ((c.tc : Thread Cert.InDnormRefIdeal.nD Cert.InDnormRefIdeal.τ).loc Cert.InDnormRefIdeal.main_arg4)) (A c) := by
    rw [e0, e1, e2, e3, e4]; exact HA c
  refine ⟨?_, ?_, ?_, hargs⟩
  · exact (h0.trans (Cert.InDnormRefIdeal.Read.val_main_v38_eq m' c)).trans (funext fun i => Cert.InDnormRefIdeal.RefValue.ref0 K i)
  · exact (h1.trans (Cert.InDnormRefIdeal.Read.val_main_v39_eq m' c)).trans (funext fun i => Cert.InDnormRefIdeal.RefValue.ref0b K i)
  · exact (h2.trans (Cert.InDnormRefIdeal.Read.val_main_v41_eq _ _ _)).trans (funext fun i => Cert.InDnormRefIdeal.RefValue.ref1 K i)

end Cert.InDnorm
end
-- ==== Proof.MlpUpRun.lean ====
module

public import proofs.«01_k».proof.Proof.Gen.MlpUpIdeal.Launch
public import proofs.«01_k».proof.Proof.Gen.MlpUpIdeal.Skeleton
public import proofs.«01_k».proof.Proof.Gen.MlpUpIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

/-! The body of the call, run once per case of its condition: at the first step of a row block it stores the normed rows,
    at the others it only reads them. -/

namespace Cert.MlpUpIdeal.Carry

open Cert.MlpUpIdeal Cert.MlpUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

abbrev cond0_0 (i : grid0.Coords) : Prop := k0_cond1 i = 1#1
theorem hcond0_0 : ∀ t : Fin cfg0.N, cond0_0 (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

abbrev cond0_1 (i : grid0.Coords) : Prop := ¬cond0_0 i
theorem hcond0_1 : ∀ t : Fin cfg0.N, cond0_1 (grid0.coords t) ↔ 1 ≤ t.val % 8 :=
  fun t => (not_congr (hcond0_0 t)).trans (by omega)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
def freshTab0_3 : ℕ → Bool
  | 0 => true
  | n + 1 => (0x80808080 : ℕ).testBit n
theorem freshTab0_3_step : ∀ t : Fin cfg0.N,
    freshTab0_3 (t.val + 1) = ((cfg0.win 3).flush t || (cfg0.idle 3 (cfg0.grid.coords t) && freshTab0_3 t.val)) := by decide +kernel
theorem fresh0_3_eq (t : Fin cfg0.N) : cfg0.fresh 3 t.val = freshTab0_3 t.val :=
  Pipeline.Cfg.fresh_tab cfg0 3 freshTab0_3 rfl freshTab0_3_step t.val (Nat.le_of_lt t.isLt)
theorem liveAt0_3_A : ∀ t : Fin cfg0.N, cond0_0 (grid0.coords t) → ¬cond0_1 (grid0.coords t) → cfg0.idle 3 (grid0.coords t) = false := by decide +kernel
theorem idleAt0_3_B : ∀ t : Fin cfg0.N, ¬cond0_0 (grid0.coords t) → cond0_1 (grid0.coords t) → cfg0.idle 3 (grid0.coords t) = true := by decide +kernel
theorem notFresh0_3_B : ∀ t : Fin cfg0.N, ¬cond0_0 (grid0.coords t) → cond0_1 (grid0.coords t) → cfg0.fresh 3 t.val = false := by
  intro t; rw [fresh0_3_eq t]; revert t; decide +kernel

abbrev VO0_3 : View sig .tc .vmem S512x2048 .bf16 := (Memref.whole cc0_stg3_0 : Memref sig .tc .vmem S512x2048 .bf16).view
abbrev VO0_4 : View sig .tc .vmem S512x1024 .bf16 := (Memref.whole cc0_stg4_0 : Memref sig .tc .vmem S512x1024 .bf16).view
abbrev VO0_5 : View sig .tc .vmem S512x1024 .bf16 := (Memref.whole cc0_stg5_0 : Memref sig .tc .vmem S512x1024 .bf16).view
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .bf16 := win0_5.stage (cfg0.slots t 5)
abbrev hs0_5 (t : Fin cfg0.N) : (ms0_5 t).IsWhole := hstage0_5 ((cfg0.slots t 5).cast nbuf0_5)

set_option maxHeartbeats 1000000 in
noncomputable def kernelRun0_A (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S512x2048 .bf16) (harg5 : arg5.IsWhole) (arg6 : Memref sig .tc .vmem S512x1024 .bf16) (harg6 : arg6.IsWhole) (arg7 : Memref sig .tc .vmem S512x1024 .bf16) (harg7 : arg7.IsWhole) (hc0 : cond0_0 i) (hc1 : ¬cond0_1 i)
    (x0 : Vec F S512x2048 .f32) (x1 : Vec F S1x2048 .f32) (x2 : Vec F S1x2048x1024 .bf16) :
    Σ' (L3 : List (View.Piece (Elt F) S512x2048 .bf16)), Σ' (L4 : List (View.Piece (Elt F) S512x1024 .bf16)), { L5 : List (View.Piece (Elt F) S512x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0_mlp_up i arg2 harg2 arg3 harg3 arg4 harg4 arg5 harg5 arg6 harg6 arg7 harg7) K } := by
  refine ⟨?_, ?_, ?_, fun E K => ?run⟩
  case run =>
    simp only [cc0_mlp_up_eq_skeleton]; unfold cc0_mlp_up_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg2.eq_unread hf0; obtain rfl := harg3.eq_unread hf1; obtain rfl := harg4.eq_unread hf2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact H5

set_option maxHeartbeats 1000000 in
noncomputable def kernelRun0_B (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S512x2048 .bf16) (harg5 : arg5.IsWhole) (arg6 : Memref sig .tc .vmem S512x1024 .bf16) (harg6 : arg6.IsWhole) (arg7 : Memref sig .tc .vmem S512x1024 .bf16) (harg7 : arg7.IsWhole) (hc0 : ¬cond0_0 i) (hc1 : cond0_1 i)
    (x0 : Vec F S512x2048 .f32) (x1 : Vec F S1x2048 .f32) (x2 : Vec F S1x2048x1024 .bf16) (xo3 : Vec F S512x2048 .bf16) :
    Σ' (L4 : List (View.Piece (Elt F) S512x1024 .bf16)), { L5 : List (View.Piece (Elt F) S512x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0_mlp_up i arg2 harg2 arg3 harg3 arg4 harg4 arg5 harg5 arg6 harg6 arg7 harg7) K } := by
  refine ⟨?_, ?_, fun E K => ?run⟩
  case run =>
    simp only [cc0_mlp_up_eq_skeleton]; unfold cc0_mlp_up_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

end Cert.MlpUpIdeal.Carry

end
-- ==== Proof.MlpUpFrame.lean ====
module

public import proofs.«01_k».proof.Proof.MlpUpRun
public import Idealize.ShloMosaic.Lib.Pipeline.Value
public import Idealize.ShloMosaic.Lib.Claim

@[expose] public section

set_option maxRecDepth 16384

noncomputable section

/-! What the outputs hold after each grid point, the whole run, and each output array after it. The normed rows stay in
    their buffer through the steps that only read them, and go back to the array at the last of these. -/

namespace Cert.MlpUpIdeal.Carry

open Cert.MlpUpIdeal Cert.MlpUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover0_A_3 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S512x2048 .bf16) (harg5 : arg5.IsWhole) (arg6 : Memref sig .tc .vmem S512x1024 .bf16) (harg6 : arg6.IsWhole) (arg7 : Memref sig .tc .vmem S512x1024 .bf16) (harg7 : arg7.IsWhole) (hc0 : cond0_0 i) (hc1 : ¬cond0_1 i)
    (x0 : Vec F S512x2048 .f32) (x1 : Vec F S1x2048 .f32) (x2 : Vec F S1x2048x1024 .bf16) (y : S512x2048.Idx) :
    ∃ pc ∈ (kernelRun0_A c i arg2 harg2 arg3 harg3 arg4 harg4 arg5 harg5 arg6 harg6 arg7 harg7 hc0 hc1 x0 x1 x2).1, y ∈ pc.1.set :=
  View.cover_of_tiledL (kernelRun0_A c i arg2 harg2 arg3 harg3 arg4 harg4 arg5 harg5 arg6 harg6 arg7 harg7 hc0 hc1 x0 x1 x2).1 S512x2048.size (by sl_kernel_rfl) y

def out0_A_3 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S512x2048 .bf16) (harg5 : arg5.IsWhole) (arg6 : Memref sig .tc .vmem S512x1024 .bf16) (harg6 : arg6.IsWhole) (arg7 : Memref sig .tc .vmem S512x1024 .bf16) (harg7 : arg7.IsWhole) (hc0 : cond0_0 i) (hc1 : ¬cond0_1 i)
    (x0 : Vec F S512x2048 .f32) (x1 : Vec F S1x2048 .f32) (x2 : Vec F S1x2048x1024 .bf16) : Vec F S512x2048 .bf16 :=
  VO0_3.read (Elt F) (VO0_3.writes (Elt F) VO0_3.junk (kernelRun0_A c i arg2 harg2 arg3 harg3 arg4 harg4 arg5 harg5 arg6 harg6 arg7 harg7 hc0 hc1 x0 x1 x2).1)

theorem cover0_A_4 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S512x2048 .bf16) (harg5 : arg5.IsWhole) (arg6 : Memref sig .tc .vmem S512x1024 .bf16) (harg6 : arg6.IsWhole) (arg7 : Memref sig .tc .vmem S512x1024 .bf16) (harg7 : arg7.IsWhole) (hc0 : cond0_0 i) (hc1 : ¬cond0_1 i)
    (x0 : Vec F S512x2048 .f32) (x1 : Vec F S1x2048 .f32) (x2 : Vec F S1x2048x1024 .bf16) (y : S512x1024.Idx) :
    ∃ pc ∈ (kernelRun0_A c i arg2 harg2 arg3 harg3 arg4 harg4 arg5 harg5 arg6 harg6 arg7 harg7 hc0 hc1 x0 x1 x2).2.1, y ∈ pc.1.set :=
  View.cover_of_tiledL (kernelRun0_A c i arg2 harg2 arg3 harg3 arg4 harg4 arg5 harg5 arg6 harg6 arg7 harg7 hc0 hc1 x0 x1 x2).2.1 S512x1024.size (by sl_kernel_rfl) y

def out0_A_4 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S512x2048 .bf16) (harg5 : arg5.IsWhole) (arg6 : Memref sig .tc .vmem S512x1024 .bf16) (harg6 : arg6.IsWhole) (arg7 : Memref sig .tc .vmem S512x1024 .bf16) (harg7 : arg7.IsWhole) (hc0 : cond0_0 i) (hc1 : ¬cond0_1 i)
    (x0 : Vec F S512x2048 .f32) (x1 : Vec F S1x2048 .f32) (x2 : Vec F S1x2048x1024 .bf16) : Vec F S512x1024 .bf16 :=
  VO0_4.read (Elt F) (VO0_4.writes (Elt F) VO0_4.junk (kernelRun0_A c i arg2 harg2 arg3 harg3 arg4 harg4 arg5 harg5 arg6 harg6 arg7 harg7 hc0 hc1 x0 x1 x2).2.1)

theorem cover0_A_5 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S512x2048 .bf16) (harg5 : arg5.IsWhole) (arg6 : Memref sig .tc .vmem S512x1024 .bf16) (harg6 : arg6.IsWhole) (arg7 : Memref sig .tc .vmem S512x1024 .bf16) (harg7 : arg7.IsWhole) (hc0 : cond0_0 i) (hc1 : ¬cond0_1 i)
    (x0 : Vec F S512x2048 .f32) (x1 : Vec F S1x2048 .f32) (x2 : Vec F S1x2048x1024 .bf16) (y : S512x1024.Idx) :
    ∃ pc ∈ (kernelRun0_A c i arg2 harg2 arg3 harg3 arg4 harg4 arg5 harg5 arg6 harg6 arg7 harg7 hc0 hc1 x0 x1 x2).2.2.1, y ∈ pc.1.set :=
  View.cover_of_tiledL (kernelRun0_A c i arg2 harg2 arg3 harg3 arg4 harg4 arg5 harg5 arg6 harg6 arg7 harg7 hc0 hc1 x0 x1 x2).2.2.1 S512x1024.size (by sl_kernel_rfl) y

def out0_A_5 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S512x2048 .bf16) (harg5 : arg5.IsWhole) (arg6 : Memref sig .tc .vmem S512x1024 .bf16) (harg6 : arg6.IsWhole) (arg7 : Memref sig .tc .vmem S512x1024 .bf16) (harg7 : arg7.IsWhole) (hc0 : cond0_0 i) (hc1 : ¬cond0_1 i)
    (x0 : Vec F S512x2048 .f32) (x1 : Vec F S1x2048 .f32) (x2 : Vec F S1x2048x1024 .bf16) : Vec F S512x1024 .bf16 :=
  VO0_5.read (Elt F) (VO0_5.writes (Elt F) VO0_5.junk (kernelRun0_A c i arg2 harg2 arg3 harg3 arg4 harg4 arg5 harg5 arg6 harg6 arg7 harg7 hc0 hc1 x0 x1 x2).2.2.1)

def out0_B_3 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S512x2048 .bf16) (harg5 : arg5.IsWhole) (arg6 : Memref sig .tc .vmem S512x1024 .bf16) (harg6 : arg6.IsWhole) (arg7 : Memref sig .tc .vmem S512x1024 .bf16) (harg7 : arg7.IsWhole) (hc0 : ¬cond0_0 i) (hc1 : cond0_1 i)
    (x0 : Vec F S512x2048 .f32) (x1 : Vec F S1x2048 .f32) (x2 : Vec F S1x2048x1024 .bf16) (xo3 : Vec F S512x2048 .bf16) : Vec F S512x2048 .bf16 :=
  xo3

theorem cover0_B_4 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S512x2048 .bf16) (harg5 : arg5.IsWhole) (arg6 : Memref sig .tc .vmem S512x1024 .bf16) (harg6 : arg6.IsWhole) (arg7 : Memref sig .tc .vmem S512x1024 .bf16) (harg7 : arg7.IsWhole) (hc0 : ¬cond0_0 i) (hc1 : cond0_1 i)
    (x0 : Vec F S512x2048 .f32) (x1 : Vec F S1x2048 .f32) (x2 : Vec F S1x2048x1024 .bf16) (xo3 : Vec F S512x2048 .bf16) (y : S512x1024.Idx) :
    ∃ pc ∈ (kernelRun0_B c i arg2 harg2 arg3 harg3 arg4 harg4 arg5 harg5 arg6 harg6 arg7 harg7 hc0 hc1 x0 x1 x2 xo3).1, y ∈ pc.1.set :=
  View.cover_of_tiledL (kernelRun0_B c i arg2 harg2 arg3 harg3 arg4 harg4 arg5 harg5 arg6 harg6 arg7 harg7 hc0 hc1 x0 x1 x2 xo3).1 S512x1024.size (by sl_kernel_rfl) y

def out0_B_4 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S512x2048 .bf16) (harg5 : arg5.IsWhole) (arg6 : Memref sig .tc .vmem S512x1024 .bf16) (harg6 : arg6.IsWhole) (arg7 : Memref sig .tc .vmem S512x1024 .bf16) (harg7 : arg7.IsWhole) (hc0 : ¬cond0_0 i) (hc1 : cond0_1 i)
    (x0 : Vec F S512x2048 .f32) (x1 : Vec F S1x2048 .f32) (x2 : Vec F S1x2048x1024 .bf16) (xo3 : Vec F S512x2048 .bf16) : Vec F S512x1024 .bf16 :=
  VO0_4.read (Elt F) (VO0_4.writes (Elt F) VO0_4.junk (kernelRun0_B c i arg2 harg2 arg3 harg3 arg4 harg4 arg5 harg5 arg6 harg6 arg7 harg7 hc0 hc1 x0 x1 x2 xo3).1)

theorem cover0_B_5 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S512x2048 .bf16) (harg5 : arg5.IsWhole) (arg6 : Memref sig .tc .vmem S512x1024 .bf16) (harg6 : arg6.IsWhole) (arg7 : Memref sig .tc .vmem S512x1024 .bf16) (harg7 : arg7.IsWhole) (hc0 : ¬cond0_0 i) (hc1 : cond0_1 i)
    (x0 : Vec F S512x2048 .f32) (x1 : Vec F S1x2048 .f32) (x2 : Vec F S1x2048x1024 .bf16) (xo3 : Vec F S512x2048 .bf16) (y : S512x1024.Idx) :
    ∃ pc ∈ (kernelRun0_B c i arg2 harg2 arg3 harg3 arg4 harg4 arg5 harg5 arg6 harg6 arg7 harg7 hc0 hc1 x0 x1 x2 xo3).2.1, y ∈ pc.1.set :=
  View.cover_of_tiledL (kernelRun0_B c i arg2 harg2 arg3 harg3 arg4 harg4 arg5 harg5 arg6 harg6 arg7 harg7 hc0 hc1 x0 x1 x2 xo3).2.1 S512x1024.size (by sl_kernel_rfl) y

def out0_B_5 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S512x2048 .bf16) (harg5 : arg5.IsWhole) (arg6 : Memref sig .tc .vmem S512x1024 .bf16) (harg6 : arg6.IsWhole) (arg7 : Memref sig .tc .vmem S512x1024 .bf16) (harg7 : arg7.IsWhole) (hc0 : ¬cond0_0 i) (hc1 : cond0_1 i)
    (x0 : Vec F S512x2048 .f32) (x1 : Vec F S1x2048 .f32) (x2 : Vec F S1x2048x1024 .bf16) (xo3 : Vec F S512x2048 .bf16) : Vec F S512x1024 .bf16 :=
  VO0_5.read (Elt F) (VO0_5.writes (Elt F) VO0_5.junk (kernelRun0_B c i arg2 harg2 arg3 harg3 arg4 harg4 arg5 harg5 arg6 harg6 arg7 harg7 hc0 hc1 x0 x1 x2 xo3).2.1)

def outsAt0 (c : Dev nD) : (n : ℕ) → n < cfg0.N → Vec F S512x2048 .bf16 × Vec F S512x1024 .bf16 × Vec F S512x1024 .bf16
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 8 = 0 then
      if h1 : 1 ≤ (n + 1) % 8 then
        False.elim (by have hN : n + 1 < 32 := lt_of_lt_of_eq hn (show cfg0.N = 32 from N_0); omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : 1 ≤ (n + 1) % 8 then
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).1, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).1, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).1)
      else
        False.elim (by have hN : n + 1 < 32 := lt_of_lt_of_eq hn (show cfg0.N = 32 from N_0); omega)

theorem outsAt0_A (c : Dev nD) (t : Fin cfg0.N) (h0 : t.val % 8 = 0) (h1 : ¬1 ≤ t.val % 8) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fun h => h1 ((hcond0_1 t).mp h)) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fun h => h1 ((hcond0_1 t).mp h)) (iblk m c 0 t) (iblk m c 1 t) (iblk m c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : 1 ≤ t.val % 8) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).1, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).1, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_pos h1).trans rfl)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem hcarry0_3 (c : Dev nD) : ∀ (t : Fin cfg0.N) (_ : t.val ≠ 0), cfg0.idle 3 (grid0.coords t) = true → cfg0.fresh 3 t.val = false →
    (dats m 0 c).after 3 t = (dats m 0 c).after 3 ⟨t.val - 1, by omega⟩ := by
  intro t _ hi _
  have hN : t.val < 32 := lt_of_lt_of_eq t.isLt (show cfg0.N = 32 from N_0)
  rw [after0_3, after0_3]
  by_cases h0 : t.val % 8 = 0
  · by_cases h1 : 1 ≤ t.val % 8
    · exfalso; omega
    · rw [liveAt0_3_A t ((hcond0_0 t).mpr h0) (fun h => h1 ((hcond0_1 t).mp h))] at hi
      exact absurd hi Bool.false_ne_true
  · by_cases h1 : 1 ≤ t.val % 8
    · refine (congrArg (·.1) (outsAt0_B m c t h0 h1)).trans ?_
      dsimp only [out0_B_3]
    · exfalso; omega
theorem before0_3_B (c : Dev nD) (t : Fin cfg0.N) (h0 : ¬t.val % 8 = 0) (h1 : 1 ≤ t.val % 8) (d) :
    (dats m 0 c).before 3 t d = (outsAt0 m c (t.val - 1) (Nat.lt_of_le_of_lt (Nat.sub_le _ _) t.isLt)).1 := by
  rw [Dat.before_out_traj _ 3 rfl (fun _ _ => rfl) (hcarry0_3 m c) t.val t rfl d,
    if_neg (by rw [notFresh0_3_B t (fun h => h0 ((hcond0_0 t).mp h)) ((hcond0_1 t).mpr h1)]; exact Bool.false_ne_true)]
  dsimp only [dats]

/-- Where the body leaves the window alone, its buffer still holds what the point before left. -/
theorem kept0_3_B (c : Dev nD) (t : Fin cfg0.N) (h0 : ¬t.val % 8 = 0) (h1 : 1 ≤ t.val % 8) :
    owns (c : Thread nD τ) (ms0_3 t) fullShare ((outsAt0 m c (t.val - 1) (Nat.lt_of_le_of_lt (Nat.sub_le _ _) t.isLt)).1) ⊢ ((dats m 0 c).leavesExact 3 t : sProp 𝕄) := by
  unfold Dat.leavesExact
  rw [idleAt0_3_B t (fun h => h0 ((hcond0_0 t).mp h)) ((hcond0_1 t).mpr h1)]
  cases hf : (cfg0.win 3).flush t with
  | false =>
    simp only [before0_3_B m c t h0 h1]
    iintro H
    iexists (outsAt0 m c t.val t.isLt).1
    iexact H
  | true =>
    have e : (dats m 0 c).after 3 t = (outsAt0 m c (t.val - 1) (Nat.lt_of_le_of_lt (Nat.sub_le _ _) t.isLt)).1 := by
      rw [after0_3]
      refine (congrArg (·.1) (outsAt0_B m c t h0 h1)).trans ?_
      dsimp only [out0_B_3]
    simp only [e]
    iintro H
    iexact H

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  have hN : t.val < 32 := lt_of_lt_of_eq t.isLt (show cfg0.N = 32 from N_0)
  by_cases h0 : t.val % 8 = 0
  · by_cases h1 : 1 ≤ t.val % 8
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3_A t ((hcond0_0 t).mpr h0) (fun h => h1 ((hcond0_1 t).mp h))], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [outsAt0_A m c t h0 h1]
      unfold out0_A_3 out0_A_4 out0_A_5; (try dsimp only)
      iintro ⟨HΦ, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ ((hcond0_0 t).mpr h0) (fun h => h1 ((hcond0_1 t).mp h)) (iblk m c 0 t) (iblk m c 1 t) (iblk m c 2 t)).2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      iintro ⟨H0, H1, H2, ⟨%e3, H3⟩, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 c _ _ _ _ _ _ _ _ _ _ _ _ _ _ _ _ _ _)
      isplitl [H4]
      · unfold owns; iexists _; isplitr
        swap; · iexact H4
        ipureintro; exact View.read_writes_of_cover _ _ _ _ _ (cover0_A_4 c _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _)
  · by_cases h1 : 1 ≤ t.val % 8
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [outsAt0_B m c t h0 h1]
      simp only [before0_3_B m c t h0 h1]
      unfold out0_B_4 out0_B_5; (try dsimp only)
      iintro ⟨HΦ, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ (fun h => h0 ((hcond0_0 t).mp h)) ((hcond0_1 t).mpr h1) (iblk m c 0 t) (iblk m c 1 t) (iblk m c 2 t) _).2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      iintro ⟨H0, H1, H2, H3, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]; · iapply (kept0_3_B m c t h0 h1); iexact H3
      isplitl [H4]
      · unfold owns; iexists _; isplitr
        swap; · iexact H4
        ipureintro; exact View.read_writes_of_cover _ _ _ _ _ (cover0_B_4 c _ _ _ _ _ _ _ _ _ _ _ _ _ _ _ _ _ _ _)
      unfold owns; iexists _; isplitr
      swap; · iexact H5
      ipureintro; exact View.read_writes_of_cover _ _ _ _ _ (cover0_B_5 c _ _ _ _ _ _ _ _ _ _ _ _ _ _ _ _ _ _ _)
    · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

theorem flushed3 (c : Dev nD) (t : Fin cfg0.N) :
    (dats m 0 c).flushed 3 t = (cfg0.win 3).cut (grid0.coords t) ((outsAt0 m c t.val t.isLt).1) := by
  show (cfg0.win 3).cut (grid0.coords t) ((dats m 0 c).after 3 t) = _
  rw [after0_3]

theorem flushed4 (c : Dev nD) (t : Fin cfg0.N) :
    (dats m 0 c).flushed 4 t = (cfg0.win 4).cut (grid0.coords t) ((outsAt0 m c t.val t.isLt).2.1) := by
  show (cfg0.win 4).cut (grid0.coords t) ((dats m 0 c).after 4 t) = _
  rw [after0_4]

theorem flushed5 (c : Dev nD) (t : Fin cfg0.N) :
    (dats m 0 c).flushed 5 t = (cfg0.win 5).cut (grid0.coords t) ((outsAt0 m c t.val t.isLt).2.2) := by
  show (cfg0.win 5).cut (grid0.coords t) ((dats m 0 c).after 5 t) = _
  rw [after0_5]

theorem post3 (r : PUnit × MemSt nD τ sig (Elt F)) (h : Pipeline.FramePost cfgs (dats m) 0 (V m) r) (c : Dev nD) :
    r.2.mem ((c : Thread nD τ).loc main_v4_0) = (dats m 0 c).arrAt 3 cfg0.N :=
  (h c).1 3

theorem post4 (r : PUnit × MemSt nD τ sig (Elt F)) (h : Pipeline.FramePost cfgs (dats m) 0 (V m) r) (c : Dev nD) :
    r.2.mem ((c : Thread nD τ).loc main_v4_1) = (dats m 0 c).arrAt 4 cfg0.N :=
  (h c).1 4

theorem post5 (r : PUnit × MemSt nD τ sig (Elt F)) (h : Pipeline.FramePost cfgs (dats m) 0 (V m) r) (c : Dev nD) :
    r.2.mem ((c : Thread nD τ).loc main_v4_2) = (dats m 0 c).arrAt 5 cfg0.N :=
  (h c).1 5

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem run_blocks : θ_run defs (onTc (τ := τ) (main (F := F))) ⟨m, fun _ => 0, ρ⟩ fun r => ∀ c : Dev nD,
      r.2.mem ((c : Thread nD τ).loc main_v4_0) = (dats m 0 c).arrAt 3 cfg0.N
      ∧ r.2.mem ((c : Thread nD τ).loc main_v4_1) = (dats m 0 c).arrAt 4 cfg0.N
      ∧ r.2.mem ((c : Thread nD τ).loc main_v4_2) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      post4 m r h c,
      post5 m r h c,
      kept_main_arg0 m r h c,
      kept_main_arg1 m r h c,
      kept_main_arg2 m r h c⟩)
    (run_main m ρ)

end Cert.MlpUpIdeal.Carry

end
-- ==== Proof.MlpUpKernel.lean ====
module

public import proofs.«01_k».proof.Proof.SguRef
public import proofs.«01_k».proof.Proof.MlpUpFrame
public import proofs.«01_k».proof.Proof.Gen.MlpUpRefIdeal.Read
public import Idealize.ShloMosaic.Lib.Pointwise.Contract
public import Idealize.ShloMosaic.Lib.Tactic
public import Idealize.ShloMosaic.Lib.WritesUnit

@[expose] public section

set_option maxRecDepth 16384

noncomputable section

/-! The MLP's first product with its norm and ReLU: what the kernel leaves in its result arrays, index by index. -/

namespace Cert.MlpUpIdeal.Blk

open Idealize.ShloMosaic hiding ix0 ix1 ix2 ix3 ix4 ix5 eq_ix2 eq_ix3
open Cert.MlpUpIdeal Cert.MlpUpIdeal.Gen Cert.MlpUpIdeal.Carry Idealize.ShloMosaic.ValueIdx Idealize.ShloMosaic.TcCoe Idealize.SL.Sem
open Idealize.ShloMosaic.StableHlo
open Cert.ReferenceIdeal.RefValue (lit_zero)

/-- A row of the first argument, divided by its root mean square and scaled by the gain. -/
def nval (x : S2048x2048.Idx → EReal) (g : S2048.Idx → EReal) (i : S2048x2048.Idx) : EReal :=
  x i * Ideal.rsqrt (Ideal.div (∑ k : Fin 2048, x (ix2 (i 0 : Fin 2048) k) * x (ix2 (i 0 : Fin 2048) k)) (Ideal.ofBits .f32 0x45000000#32)
    + Ideal.ofBits .f32 0x358637BD#32) * g (ix1 (i 1 : Fin 2048))

/-- The ReLU of the product of the normed rows with the weight. -/
def uval (x : S2048x2048.Idx → EReal) (g : S2048.Idx → EReal) (w : S2048x8192.Idx → EReal) (i : S2048x8192.Idx) : EReal :=
  max (∑ k : Fin 2048, nval x g (ix2 (i 0 : Fin 2048) k) * w (ix2 k (i 1 : Fin 8192))) (Ideal.ofBits .f32 0x00000000#32)

def val4 (x : S2048x2048.Idx → EReal) (g : S2048.Idx → EReal) (w : S2048x8192.Idx → EReal) (i : S2048x8192.Idx) : EReal := uval x g w i * uval x g w i
def val5 (x : S2048x2048.Idx → EReal) (g : S2048.Idx → EReal) (w : S2048x8192.Idx → EReal) (i : S2048x8192.Idx) : EReal := uval x g w i

/-- The sum of a row, kept as a column. -/
theorem rowSum (x : FVec Ideal S512x2048 .f32) (i : S512x1.Idx) :
    shapeCast S512x1 (multiReduction .add [1] S512 x 0x00000000#32 reduces_S512x2048_S512 (.inl rfl) rfl) shapeCasts_S512_S512x1 i
      = ∑ k : Fin 2048, (x (ix2 (i 0 : Fin 512) k) : EReal) := by
  have hk : (S512.rowMajor (ix1 (i 0 : Fin 512))).val = (S512x1.rowMajor i).val := by
    have h1 : (i 1).val = 0 := by have : (i 1).val < 1 := (i 1).isLt; omega
    rw [Shape.rowMajor_val_one, Shape.rowMajor_val_two, h1]
    show (i 0).val = (i 0).val * 1 + 0; omega
  refine (shapeCast_apply _ _ i (ix1 (i 0 : Fin 512)) hk).trans ((Ideal.multiReduction_add_single _ _ _ _ _ _).trans ?_)
  exact Finset.sum_congr rfl fun k _ => congrArg x (funext fun a => match a with | ⟨0, _⟩ => rfl | ⟨1, _⟩ => rfl)

theorem bcCol {α : Type} (x : S512x1.Idx → α) (i : S512x2048.Idx) :
    broadcastTo S512x2048 x broadcasts_S512x1_S512x2048 i = x (ix2 (i 0 : Fin 512) (0 : Fin 1)) :=
  broadcastTo_apply x _ i _ (fun a => match a with | ⟨0, _⟩ => rfl | ⟨1, _⟩ => rfl)
theorem bcRow {α : Type} (x : S1x2048.Idx → α) (i : S512x2048.Idx) :
    broadcastTo S512x2048 x broadcasts_S1x2048_S512x2048 i = x (ix2 (0 : Fin 1) (i 1 : Fin 2048)) :=
  broadcastTo_apply x _ i _ (fun a => match a with | ⟨0, _⟩ => rfl | ⟨1, _⟩ => rfl)

/-- The normed rows of one block. -/
theorem norm_pay (x : FVec Ideal S512x2048 .f32) (g : FVec Ideal S1x2048 .f32) (i : S512x2048.Idx) :
    k0_pay1 (F := Ideal) x g i
      = x i * Ideal.rsqrt (Ideal.div (∑ k : Fin 2048, x (ix2 (i 0 : Fin 512) k) * x (ix2 (i 0 : Fin 512) k)) (Ideal.ofBits .f32 0x45000000#32)
        + Ideal.ofBits .f32 0x358637BD#32) * g (ix2 (0 : Fin 1) (i 1 : Fin 2048)) := by
  unfold k0_pay1; dsimp only
  simp only [shapeCast_self]
  show mulf (F := Ideal) (mulf _ (broadcastTo _ _ _)) (broadcastTo _ _ _) i = _
  rw [mulf_apply, mulf_apply, bcCol, bcRow]
  refine congrArg (fun z : EReal => x i * Ideal.rsqrt z * g (ix2 (0 : Fin 1) (i 1 : Fin 2048))) ?_
  rw [addf_apply, divf_apply, rowSum]
  rfl

/-- The ReLU of the product of one block of rows with one block of columns. -/
theorem prod_pay (h : FVec Ideal S512x2048 .bf16) (w : FVec Ideal S1x2048x1024 .bf16) (i : S512x1024.Idx) :
    k0_pay2 (F := Ideal) h w i
      = max (∑ k : Fin 2048, (h (ix2 (i 0 : Fin 512) k) * w (ix3 (0 : Fin 1) k (i 1 : Fin 1024)) : EReal)) (Ideal.ofBits .f32 0x00000000#32) := by
  unfold k0_pay2
  rw [shapeCast_self]
  show max (matmul dot_S512x2048_S2048x1024_S512x1024_1_0_0_1_n_n none h (shapeCast S2048x1024 w shapeCasts_S1x2048x1024_S2048x1024 : FVec Ideal S2048x1024 .bf16)
    (constant S512x1024 .f32 0x00000000#32) i : EReal) (Ideal.ofBits .f32 0x00000000#32) = _
  refine congrArg (fun z : EReal => max z _) ?_
  refine (Ideal.matmul_apply₁_of dot_S512x2048_S2048x1024_S512x1024_1_0_0_1_n_n (a := 1) rfl rfl h _ _ i
    (fun k => ix2 (i 0 : Fin 512) k) (fun k => ix2 k (i 1 : Fin 1024)) (fun k => funext fun b => match b with | ⟨0, _⟩ => rfl | ⟨1, _⟩ => rfl)
    (fun k => funext fun b => match b with | ⟨0, _⟩ => rfl | ⟨1, _⟩ => rfl)).trans ?_
  show Ideal.ofBits .f32 0x00000000#32 + _ = _
  rw [lit_zero, EReal.coe_zero, zero_add]
  refine Finset.sum_congr rfl fun k _ => congrArg (fun z : EReal => h (ix2 (i 0 : Fin 512) k) * z) ?_
  refine shapeCast_apply w _ (ix2 k (i 1 : Fin 1024)) (ix3 (0 : Fin 1) k (i 1 : Fin 1024)) ?_
  rw [Shape.rowMajor_val_two, Shape.rowMajor_val_three]
  show (0 * 2048 + k.val) * 1024 + (i 1).val = k.val * 1024 + (i 1).val
  omega

theorem zz : (![0, 0] : Fin 2 → Nat) = fun _ => 0 := funext fun a => match a with | ⟨0, _⟩ => rfl | ⟨1, _⟩ => rfl
theorem zzz : (![0, 0, 0] : Fin 3 → Nat) = fun _ => 0 := funext fun a => match a with | ⟨0, _⟩ => rfl | ⟨1, _⟩ => rfl | ⟨2, _⟩ => rfl

section
variable (c : Dev nD) (i : grid0.Coords) (a2 : Memref sig .tc .vmem S512x2048 .f32) (h2 : a2.IsWhole) (a3 : Memref sig .tc .vmem S1x2048 .f32) (h3 : a3.IsWhole) (a4 : Memref sig .tc .vmem S1x2048x1024 .bf16) (h4 : a4.IsWhole) (a5 : Memref sig .tc .vmem S512x2048 .bf16) (h5 : a5.IsWhole) (a6 : Memref sig .tc .vmem S512x1024 .bf16) (h6 : a6.IsWhole) (a7 : Memref sig .tc .vmem S512x1024 .bf16) (h7 : a7.IsWhole)
  (x0 : FVec Ideal S512x2048 .f32) (x1 : FVec Ideal S1x2048 .f32) (x2 : FVec Ideal S1x2048x1024 .bf16) (xo3 : FVec Ideal S512x2048 .bf16)

theorem out_A_3 (hc0 : cond0_0 i) (hc1 : ¬cond0_1 i) : out0_A_3 (F := Ideal) c i a2 h2 a3 h3 a4 h4 a5 h5 a6 h6 a7 h7 hc0 hc1 x0 x1 x2 = k0_pay1 (F := Ideal) x0 x1 := by
  unfold out0_A_3
  rw [View.read_writes_eq_canon _ _ _ (cover0_A_3 (F := Ideal) c i a2 h2 a3 h3 a4 h4 a5 h5 a6 h6 a7 h7 hc0 hc1 x0 x1 x2)]
  unfold kernelRun0_A
  dsimp only
  sl_unfold_words
  rw [View.canon_unit_zero zz]
  simp only [View.readAt_eq_ld, h2.read_unread, h3.read_unread, h4.read_unread, h5.read_unread, h6.read_unread, h7.read_unread, View.ld_unit_zero (S := S512x2048) zz, View.ld_unit_zero (S := S1x2048) zz, View.ld_unit_zero (S := S1x2048x1024) zzz]

theorem out_A_4 (hc0 : cond0_0 i) (hc1 : ¬cond0_1 i) : out0_A_4 (F := Ideal) c i a2 h2 a3 h3 a4 h4 a5 h5 a6 h6 a7 h7 hc0 hc1 x0 x1 x2 = k0_pay3 (F := Ideal) (k0_pay1 (F := Ideal) x0 x1) x2 := by
  unfold out0_A_4
  rw [View.read_writes_eq_canon _ _ _ (cover0_A_4 (F := Ideal) c i a2 h2 a3 h3 a4 h4 a5 h5 a6 h6 a7 h7 hc0 hc1 x0 x1 x2)]
  unfold kernelRun0_A
  dsimp only
  sl_unfold_words
  rw [View.canon_unit_zero zz, View.readCov_unit_zero _ zz]
  simp only [View.readAt_eq_ld, h2.read_unread, h3.read_unread, h4.read_unread, h5.read_unread, h6.read_unread, h7.read_unread, View.ld_unit_zero (S := S512x2048) zz, View.ld_unit_zero (S := S1x2048) zz, View.ld_unit_zero (S := S1x2048x1024) zzz]

theorem out_B_4 (hc0 : ¬cond0_0 i) (hc1 : cond0_1 i) : out0_B_4 (F := Ideal) c i a2 h2 a3 h3 a4 h4 a5 h5 a6 h6 a7 h7 hc0 hc1 x0 x1 x2 xo3 = k0_pay3 (F := Ideal) xo3 x2 := by
  unfold out0_B_4
  rw [View.read_writes_eq_canon _ _ _ (cover0_B_4 (F := Ideal) c i a2 h2 a3 h3 a4 h4 a5 h5 a6 h6 a7 h7 hc0 hc1 x0 x1 x2 xo3)]
  unfold kernelRun0_B
  dsimp only
  sl_unfold_words
  rw [View.canon_unit_zero zz]
  simp only [View.readAt_eq_ld, h2.read_unread, h3.read_unread, h4.read_unread, h5.read_unread, h6.read_unread, h7.read_unread, View.ld_unit_zero (S := S512x2048) zz, View.ld_unit_zero (S := S1x2048) zz, View.ld_unit_zero (S := S1x2048x1024) zzz]

theorem out_A_5 (hc0 : cond0_0 i) (hc1 : ¬cond0_1 i) : out0_A_5 (F := Ideal) c i a2 h2 a3 h3 a4 h4 a5 h5 a6 h6 a7 h7 hc0 hc1 x0 x1 x2 = k0_pay4 (F := Ideal) (k0_pay1 (F := Ideal) x0 x1) x2 := by
  unfold out0_A_5
  rw [View.read_writes_eq_canon _ _ _ (cover0_A_5 (F := Ideal) c i a2 h2 a3 h3 a4 h4 a5 h5 a6 h6 a7 h7 hc0 hc1 x0 x1 x2)]
  unfold kernelRun0_A
  dsimp only
  sl_unfold_words
  rw [View.canon_unit_zero zz, View.readCov_unit_zero _ zz]
  simp only [View.readAt_eq_ld, h2.read_unread, h3.read_unread, h4.read_unread, h5.read_unread, h6.read_unread, h7.read_unread, View.ld_unit_zero (S := S512x2048) zz, View.ld_unit_zero (S := S1x2048) zz, View.ld_unit_zero (S := S1x2048x1024) zzz]

theorem out_B_5 (hc0 : ¬cond0_0 i) (hc1 : cond0_1 i) : out0_B_5 (F := Ideal) c i a2 h2 a3 h3 a4 h4 a5 h5 a6 h6 a7 h7 hc0 hc1 x0 x1 x2 xo3 = k0_pay4 (F := Ideal) xo3 x2 := by
  unfold out0_B_5
  rw [View.read_writes_eq_canon _ _ _ (cover0_B_5 (F := Ideal) c i a2 h2 a3 h3 a4 h4 a5 h5 a6 h6 a7 h7 hc0 hc1 x0 x1 x2 xo3)]
  unfold kernelRun0_B
  dsimp only
  sl_unfold_words
  rw [View.canon_unit_zero zz]
  simp only [View.readAt_eq_ld, h2.read_unread, h3.read_unread, h4.read_unread, h5.read_unread, h6.read_unread, h7.read_unread, View.ld_unit_zero (S := S512x2048) zz, View.ld_unit_zero (S := S1x2048) zz, View.ld_unit_zero (S := S1x2048x1024) zzz]

end

variable (m : (ℓ : Loc nD τ sig) → Buf (Elt Ideal) ℓ) (c : Dev nD)

/-- The three arguments, as arrays of numbers. -/
abbrev xA : S2048x2048.Idx → EReal := m ((c : Thread nD τ).loc main_arg0)
abbrev gA : S2048.Idx → EReal := m ((c : Thread nD τ).loc main_arg1)
abbrev wA : S2048x8192.Idx → EReal := m ((c : Thread nD τ).loc main_arg2)

set_option maxHeartbeats 4000000 in
theorem V_w : V m c main_v2 = (transpose S8x2048x1024 [1, 0, 2] (shapeCast S2048x8x1024 (truncf .bf16 (m ((c : Thread nD τ).loc main_arg2)) bitsLt_bf16_f32 : FVec Ideal S2048x8192 .bf16)
      shapeCasts_S2048x8192_S2048x8x1024) transposes_S2048x8x1024_S8x2048x1024_1_0_2 : FVec Ideal S8x2048x1024 .bf16) := by
  unfold V
  simp only [hostOps0, List.flatten_cons, List.flatten_nil, List.append_nil, List.cons_append, List.nil_append,
    TRef.binary, TRef.nullary, TRef.ternary, TRef.unary, TRef.toBuf, TRef.ofBuf, cast_eq]
  after_results_simp <;> rfl

set_option maxHeartbeats 4000000 in
theorem V_g : V m c main_v3 = (broadcastInDim S1x2048 ![1] bcast_S2048_S1x2048_1 (m ((c : Thread nD τ).loc main_arg1)) : FVec Ideal S1x2048 .f32) := by
  unfold V
  simp only [hostOps0, List.flatten_cons, List.flatten_nil, List.append_nil, List.cons_append, List.nil_append,
    TRef.binary, TRef.nullary, TRef.ternary, TRef.unary, TRef.toBuf, TRef.ofBuf, cast_eq]
  after_results_simp <;> rfl

set_option maxHeartbeats 4000000 in
theorem V_x : V m c main_arg0 = m ((c : Thread nD τ).loc main_arg0) := by
  unfold V
  simp only [hostOps0, List.flatten_cons, List.flatten_nil, List.append_nil, List.cons_append, List.nil_append,
    TRef.binary, TRef.nullary, TRef.ternary, TRef.unary, TRef.toBuf, TRef.ofBuf, cast_eq]
  after_results_simp <;> rfl

theorem lt_N (t : Fin cfg0.N) : t.val < 32 := lt_of_lt_of_eq t.isLt N_0

theorem idx0 : ∀ t : Fin cfg0.N, win0_0.index t (0 : Fin 2) = t.val / 8 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 3) = t.val % 8 ∧ win0_2.index t (1 : Fin 3) = 0 ∧ win0_2.index t (2 : Fin 3) = 0 := (by decide +kernel : ∀ t : Fin grid0.N, _)
theorem idx3 : ∀ t : Fin cfg0.N, win0_3.index t (0 : Fin 2) = t.val / 8 ∧ win0_3.index t (1 : Fin 2) = 0 := (by decide +kernel : ∀ t : Fin grid0.N, _)
theorem idx4 : ∀ t : Fin cfg0.N, win0_4.index t (0 : Fin 2) = t.val / 8 ∧ win0_4.index t (1 : Fin 2) = t.val % 8 := (by decide +kernel : ∀ t : Fin grid0.N, _)
theorem idx5 : ∀ t : Fin cfg0.N, win0_5.index t (0 : Fin 2) = t.val / 8 ∧ win0_5.index t (1 : Fin 2) = t.val % 8 := (by decide +kernel : ∀ t : Fin grid0.N, _)
theorem flush3 : ∀ t : Fin cfg0.N, t.val % 8 = 7 → (cfg0.win 3).flush t = true := (by decide +kernel : ∀ t : Fin grid0.N, _)
theorem flush4 : ∀ t : Fin cfg0.N, (cfg0.win 4).flush t = true := (by decide +kernel : ∀ t : Fin grid0.N, _)
theorem flush5 : ∀ t : Fin cfg0.N, (cfg0.win 5).flush t = true := (by decide +kernel : ∀ t : Fin grid0.N, _)

/-- The row and the column of the whole array that a row and a column of the blocks at `t` are. -/
abbrev row (t : Fin cfg0.N) (r : Fin 512) : Fin 2048 := ⟨t.val / 8 * 512 + r.val, by have := lt_N t; have := r.isLt; omega⟩
abbrev col (t : Fin cfg0.N) (j : Fin 1024) : Fin 8192 := ⟨t.val % 8 * 1024 + j.val, by have := Nat.mod_lt t.val (show 0 < 8 by norm_num); have := j.isLt; omega⟩

theorem x_blk (t : Fin cfg0.N) (i : S512x2048.Idx) : iblk m c 0 t i = xA m c (ix2 (row t (i 0)) (i 1 : Fin 2048)) := by
  unfold iblk
  rw [View.read_apply]
  show V m c main_arg0 _ = _
  rw [V_x]
  refine congrArg (xA m c) (funext fun a => Fin.ext ?_)
  match a with
  | ⟨0, _⟩ => show win0_0.index t (0 : Fin 2) * 512 + 1 * (i 0).val = t.val / 8 * 512 + (i 0).val; rw [(idx0 t).1]; omega
  | ⟨1, _⟩ => show win0_0.index t (1 : Fin 2) * 2048 + 1 * (i 1).val = (i 1).val; rw [(idx0 t).2]; omega

theorem g_blk (t : Fin cfg0.N) (i : S1x2048.Idx) : iblk m c 1 t i = gA m c (ix1 (i 1 : Fin 2048)) := by
  unfold iblk
  rw [View.read_apply]
  show V m c main_v3 _ = _
  rw [V_g]
  refine broadcastInDim_apply _ bcast_S2048_S1x2048_1 (gA m c) _ _ (fun a => match a with
    | ⟨0, _⟩ => ?_)
  show (i 1).val = win0_1.index t (1 : Fin 2) * 2048 + 1 * (i 1).val
  rw [(idx1 t).2]; omega

/-- The weight by blocks of its columns. -/
theorem w_tr (x : S2048x8192.Idx → EReal) (s : Fin 8) (l : Fin 2048) (k : Fin 1024) (e : Fin 8192) (he : e.val = s.val * 1024 + k.val) :
    transpose S8x2048x1024 [1, 0, 2] (shapeCast S2048x8x1024 x shapeCasts_S2048x8192_S2048x8x1024) transposes_S2048x8x1024_S8x2048x1024_1_0_2 (ix3 s l k)
      = x (ix2 l e) := by
  refine (transpose_apply _ _ _ _ (ix3 l s k : S2048x8x1024.Idx) (fun b => match b with | ⟨0, _⟩ => rfl | ⟨1, _⟩ => rfl | ⟨2, _⟩ => rfl)).trans ?_
  refine shapeCast_apply x _ _ _ ?_
  rw [Shape.rowMajor_val_two, Shape.rowMajor_val_three]
  show l.val * 8192 + e.val = (l.val * 8 + s.val) * 1024 + k.val
  omega

theorem w_blk (t : Fin cfg0.N) (i : S1x2048x1024.Idx) : iblk m c 2 t i = wA m c (ix2 (i 1 : Fin 2048) (col t (i 2))) := by
  have h8 : t.val % 8 < 8 := Nat.mod_lt _ (by norm_num)
  have h0 : (i 0).val = 0 := by have : (i 0).val < 1 := (i 0).isLt; omega
  unfold iblk
  rw [View.read_apply]
  show V m c main_v2 _ = _
  rw [V_w]
  refine Eq.trans ?_ (w_tr (wA m c) ⟨t.val % 8, h8⟩ (i 1) (i 2) (col t (i 2)) rfl)
  refine congrArg (transpose S8x2048x1024 [1, 0, 2] (shapeCast S2048x8x1024 (wA m c) shapeCasts_S2048x8192_S2048x8x1024)
    transposes_S2048x8x1024_S8x2048x1024_1_0_2) (funext fun a => Fin.ext ?_)
  match a with
  | ⟨0, _⟩ => show win0_2.index t (0 : Fin 3) * 1 + 1 * (i 0).val = t.val % 8; rw [(idx2 t).1]; omega
  | ⟨1, _⟩ => show win0_2.index t (1 : Fin 3) * 2048 + 1 * (i 1).val = (i 1).val; rw [(idx2 t).2.1]; omega
  | ⟨2, _⟩ => show win0_2.index t (2 : Fin 3) * 1024 + 1 * (i 2).val = (i 2).val; rw [(idx2 t).2.2]; omega

theorem norm_at (t : Fin cfg0.N) (i : S512x2048.Idx) :
    k0_pay1 (F := Ideal) (iblk m c 0 t) (iblk m c 1 t) i = nval (xA m c) (gA m c) (ix2 (row t (i 0)) (i 1 : Fin 2048)) := by
  rw [norm_pay, x_blk, g_blk]
  unfold nval
  refine congrArg (fun z : EReal => xA m c (ix2 (row t (i 0)) (i 1 : Fin 2048)) * Ideal.rsqrt (Ideal.div z _ + _) * gA m c (ix1 (i 1 : Fin 2048)))
    (Finset.sum_congr rfl fun k _ => ?_)
  rw [x_blk]

theorem h_first (t : Fin cfg0.N) (h0 : t.val % 8 = 0) (i : S512x2048.Idx) :
    (outsAt0 m c t.val t.isLt).1 i = nval (xA m c) (gA m c) (ix2 (row t (i 0)) (i 1 : Fin 2048)) := by
  rw [outsAt0_A m c t h0 (by omega)]
  dsimp only
  rw [out_A_3]
  exact norm_at m c t i

/-- The window of normed rows holds the same block from the first tile of a block of rows to the last. -/
theorem h_at (n : ℕ) : ∀ (hn : n < cfg0.N) (i : S512x2048.Idx),
    (outsAt0 m c n hn).1 i = nval (xA m c) (gA m c) (ix2 (row ⟨n, hn⟩ (i 0)) (i 1 : Fin 2048)) := by
  induction n with
  | zero => exact fun hn i => h_first m c ⟨0, hn⟩ rfl i
  | succ n ih =>
    intro hn i
    by_cases h0 : (n + 1) % 8 = 0
    · exact h_first m c ⟨n + 1, hn⟩ h0 i
    · refine (congrArg (fun p => p.1 i) (outsAt0_B m c ⟨n + 1, hn⟩ h0 (by show 1 ≤ (n + 1) % 8; omega))).trans ?_
      refine (ih (Nat.lt_of_succ_lt hn) i).trans ?_
      refine congrArg (fun q : Fin 2048 => nval (xA m c) (gA m c) (ix2 q (i 1 : Fin 2048))) (Fin.ext ?_)
      show n / 8 * 512 + (i 0).val = (n + 1) / 8 * 512 + (i 0).val
      omega

theorem o4_eq (t : Fin cfg0.N) : (outsAt0 m c t.val t.isLt).2.1 = k0_pay3 (F := Ideal) (outsAt0 m c t.val t.isLt).1 (iblk m c 2 t) := by
  by_cases h0 : t.val % 8 = 0
  · rw [outsAt0_A m c t h0 (by omega)]
    dsimp only
    rw [out_A_4, out_A_3]
  · rw [outsAt0_B m c t h0 (by omega)]
    dsimp only
    rw [out_B_4]; rfl

theorem o5_eq (t : Fin cfg0.N) : (outsAt0 m c t.val t.isLt).2.2 = k0_pay4 (F := Ideal) (outsAt0 m c t.val t.isLt).1 (iblk m c 2 t) := by
  by_cases h0 : t.val % 8 = 0
  · rw [outsAt0_A m c t h0 (by omega)]
    dsimp only
    rw [out_A_5, out_A_3]
  · rw [outsAt0_B m c t h0 (by omega)]
    dsimp only
    rw [out_B_5]; rfl

theorem u_at (t : Fin cfg0.N) (i : S512x1024.Idx) : k0_pay2 (F := Ideal) (outsAt0 m c t.val t.isLt).1 (iblk m c 2 t) i
    = uval (xA m c) (gA m c) (wA m c) (ix2 (row t (i 0)) (col t (i 1))) := by
  rw [prod_pay]
  unfold uval
  refine congrArg (fun z : EReal => max z _) (Finset.sum_congr rfl fun k _ => ?_)
  rw [h_at, w_blk]

theorem o4_at (t : Fin cfg0.N) (i : S512x1024.Idx) : (outsAt0 m c t.val t.isLt).2.1 i = val4 (xA m c) (gA m c) (wA m c) (ix2 (row t (i 0)) (col t (i 1))) := by
  rw [o4_eq]
  exact congrArg (fun z : EReal => z * z) (u_at m c t i)

theorem o5_at (t : Fin cfg0.N) (i : S512x1024.Idx) : (outsAt0 m c t.val t.isLt).2.2 i = val5 (xA m c) (gA m c) (wA m c) (ix2 (row t (i 0)) (col t (i 1))) := by
  rw [o5_eq]
  exact u_at m c t i

/-- The whole result arrays. -/
def G3 : Buf (Elt Ideal) ((c : Thread nD τ).loc main_v4_0) := nval (xA m c) (gA m c)
def G4 : Buf (Elt Ideal) ((c : Thread nD τ).loc main_v4_1) := val4 (xA m c) (gA m c) (wA m c)
def G5 : Buf (Elt Ideal) ((c : Thread nD τ).loc main_v4_2) := val5 (xA m c) (gA m c) (wA m c)

theorem flushed3_eq (t : Fin cfg0.N) : (dats m 0 c).flushed 3 t = ((cfg0.win 3).blk t).view.read (Elt Ideal) (G3 m c) := by
  rw [flushed3]
  funext y
  refine (h_at m c t.val t.isLt y).trans ?_
  rw [View.read_apply]
  show G3 m c _ = G3 m c _
  refine congrArg _ (funext fun a => Fin.ext ?_)
  match a with
  | ⟨0, _⟩ => show t.val / 8 * 512 + (y 0).val = win0_3.index t (0 : Fin 2) * 512 + 1 * (y 0).val; rw [(idx3 t).1]; omega
  | ⟨1, _⟩ => show (y 1).val = win0_3.index t (1 : Fin 2) * 2048 + 1 * (y 1).val; rw [(idx3 t).2]; omega

theorem mem3 (t : Fin cfg0.N) (i : S2048x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v4_0).slice (win0_3.rect t)).set ↔ _
  rw [View.set_slice_whole, Rect.mem_set_unit]
  exact Iff.rfl

theorem covers3 (i : S2048x2048.Idx) : ∃ t : Fin cfg0.N, (cfg0.win 3).flush t = true ∧ i ∈ ((cfg0.win 3).blk t).view.set := by
  have h0 : (i 0).val < 2048 := (i 0).isLt
  have h1 : (i 1).val < 2048 := (i 1).isLt
  refine ⟨⟨(i 0).val / 512 * 8 + 7, lt_of_lt_of_eq (by omega) N_0.symm⟩, flush3 _ (by show ((i 0).val / 512 * 8 + 7) % 8 = 7; omega), (mem3 _ _).2 fun a => ?_⟩
  match a with
  | ⟨0, _⟩ =>
    show win0_3.index _ (0 : Fin 2) * 512 ≤ (i 0).val ∧ (i 0).val < win0_3.index _ (0 : Fin 2) * 512 + 512
    rw [(idx3 _).1]
    show ((i 0).val / 512 * 8 + 7) / 8 * 512 ≤ (i 0).val ∧ (i 0).val < ((i 0).val / 512 * 8 + 7) / 8 * 512 + 512
    omega
  | ⟨1, _⟩ =>
    show win0_3.index _ (1 : Fin 2) * 2048 ≤ (i 1).val ∧ (i 1).val < win0_3.index _ (1 : Fin 2) * 2048 + 2048
    rw [(idx3 _).2]; omega

theorem final3 : (dats m 0 c).arrAt 3 cfg0.N = G3 m c :=
  (dats m 0 c).arrAt_eq_of_cover 3 (G3 m c) (fun t _ => flushed3_eq m c t) covers3

theorem flushed4_eq (t : Fin cfg0.N) : (dats m 0 c).flushed 4 t = ((cfg0.win 4).blk t).view.read (Elt Ideal) (G4 m c) := by
  rw [flushed4]
  funext y
  refine (o4_at m c t y).trans ?_
  rw [View.read_apply]
  show G4 m c _ = G4 m c _
  refine congrArg _ (funext fun a => Fin.ext ?_)
  match a with
  | ⟨0, _⟩ => show t.val / 8 * 512 + (y 0).val = win0_4.index t (0 : Fin 2) * 512 + 1 * (y 0).val; rw [(idx4 t).1]; omega
  | ⟨1, _⟩ => show t.val % 8 * 1024 + (y 1).val = win0_4.index t (1 : Fin 2) * 1024 + 1 * (y 1).val; rw [(idx4 t).2]; omega

theorem mem4 (t : Fin cfg0.N) (i : S2048x8192.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v4_1).slice (win0_4.rect t)).set ↔ _
  rw [View.set_slice_whole, Rect.mem_set_unit]
  exact Iff.rfl

theorem covers4 (i : S2048x8192.Idx) : ∃ t : Fin cfg0.N, (cfg0.win 4).flush t = true ∧ i ∈ ((cfg0.win 4).blk t).view.set := by
  have h0 : (i 0).val < 2048 := (i 0).isLt
  have h1 : (i 1).val < 8192 := (i 1).isLt
  refine ⟨⟨(i 0).val / 512 * 8 + (i 1).val / 1024, lt_of_lt_of_eq (by omega) N_0.symm⟩, flush4 _, (mem4 _ _).2 fun a => ?_⟩
  match a with
  | ⟨0, _⟩ =>
    show win0_4.index _ (0 : Fin 2) * 512 ≤ (i 0).val ∧ (i 0).val < win0_4.index _ (0 : Fin 2) * 512 + 512
    rw [(idx4 _).1]
    show ((i 0).val / 512 * 8 + (i 1).val / 1024) / 8 * 512 ≤ (i 0).val ∧ (i 0).val < ((i 0).val / 512 * 8 + (i 1).val / 1024) / 8 * 512 + 512
    omega
  | ⟨1, _⟩ =>
    show win0_4.index _ (1 : Fin 2) * 1024 ≤ (i 1).val ∧ (i 1).val < win0_4.index _ (1 : Fin 2) * 1024 + 1024
    rw [(idx4 _).2]
    show ((i 0).val / 512 * 8 + (i 1).val / 1024) % 8 * 1024 ≤ (i 1).val ∧ (i 1).val < ((i 0).val / 512 * 8 + (i 1).val / 1024) % 8 * 1024 + 1024
    omega

theorem final4 : (dats m 0 c).arrAt 4 cfg0.N = G4 m c :=
  (dats m 0 c).arrAt_eq_of_cover 4 (G4 m c) (fun t _ => flushed4_eq m c t) covers4

theorem flushed5_eq (t : Fin cfg0.N) : (dats m 0 c).flushed 5 t = ((cfg0.win 5).blk t).view.read (Elt Ideal) (G5 m c) := by
  rw [flushed5]
  funext y
  refine (o5_at m c t y).trans ?_
  rw [View.read_apply]
  show G5 m c _ = G5 m c _
  refine congrArg _ (funext fun a => Fin.ext ?_)
  match a with
  | ⟨0, _⟩ => show t.val / 8 * 512 + (y 0).val = win0_5.index t (0 : Fin 2) * 512 + 1 * (y 0).val; rw [(idx5 t).1]; omega
  | ⟨1, _⟩ => show t.val % 8 * 1024 + (y 1).val = win0_5.index t (1 : Fin 2) * 1024 + 1 * (y 1).val; rw [(idx5 t).2]; omega

theorem mem5 (t : Fin cfg0.N) (i : S2048x8192.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v4_2).slice (win0_5.rect t)).set ↔ _
  rw [View.set_slice_whole, Rect.mem_set_unit]
  exact Iff.rfl

theorem covers5 (i : S2048x8192.Idx) : ∃ t : Fin cfg0.N, (cfg0.win 5).flush t = true ∧ i ∈ ((cfg0.win 5).blk t).view.set := by
  have h0 : (i 0).val < 2048 := (i 0).isLt
  have h1 : (i 1).val < 8192 := (i 1).isLt
  refine ⟨⟨(i 0).val / 512 * 8 + (i 1).val / 1024, lt_of_lt_of_eq (by omega) N_0.symm⟩, flush5 _, (mem5 _ _).2 fun a => ?_⟩
  match a with
  | ⟨0, _⟩ =>
    show win0_5.index _ (0 : Fin 2) * 512 ≤ (i 0).val ∧ (i 0).val < win0_5.index _ (0 : Fin 2) * 512 + 512
    rw [(idx5 _).1]
    show ((i 0).val / 512 * 8 + (i 1).val / 1024) / 8 * 512 ≤ (i 0).val ∧ (i 0).val < ((i 0).val / 512 * 8 + (i 1).val / 1024) / 8 * 512 + 512
    omega
  | ⟨1, _⟩ =>
    show win0_5.index _ (1 : Fin 2) * 1024 ≤ (i 1).val ∧ (i 1).val < win0_5.index _ (1 : Fin 2) * 1024 + 1024
    rw [(idx5 _).2]
    show ((i 0).val / 512 * 8 + (i 1).val / 1024) % 8 * 1024 ≤ (i 1).val ∧ (i 1).val < ((i 0).val / 512 * 8 + (i 1).val / 1024) % 8 * 1024 + 1024
    omega

theorem final5 : (dats m 0 c).arrAt 5 cfg0.N = G5 m c :=
  (dats m 0 c).arrAt_eq_of_cover 5 (G5 m c) (fun t _ => flushed5_eq m c t) covers5

end Cert.MlpUpIdeal.Blk

/-! The reference's results at an index. -/

namespace Cert.MlpUpRefIdeal.Read

open Idealize.ShloMosaic hiding ix0 ix1 ix2 ix3 ix4 ix5 eq_ix2 eq_ix3
open Idealize.ShloMosaic.ValueIdx
open Cert.ReferenceIdeal.RefValue (lit_zero)

theorem norm_at (x0 : FVec Ideal S2048x2048 .f32) (x1 : FVec Ideal S2048 .f32) (i : S2048x2048.Idx) :
    val_main_v12 (F := Ideal) x0 x1 i = Cert.MlpUpIdeal.Blk.nval x0 x1 i := by
  have e1 : ∀ k, idx_main_v1 (idx_main_v2 (idx_main_v8 i)) k = ix2 (i 0 : Fin 2048) k := fun k => funext fun a => match a with | ⟨0, _⟩ => rfl | ⟨1, _⟩ => rfl
  have e2 : idx_main_v10 (idx_main_v11 i) = ix1 (i 1 : Fin 2048) := funext fun a => match a with | ⟨0, _⟩ => rfl
  rw [val_main_v12_apply, val_main_v9_apply, val_main_v8_apply, val_main_v7_apply, val_main_v6_apply, val_main_v4_apply, val_main_v2_apply,
    val_main_v1_apply, val_main_v3_apply, val_main_cst_0_apply, val_main_v5_apply, val_main_cst_1_apply, val_main_v11_apply, val_main_v10_apply, e2]
  simp only [val_main_v0_apply, e1]
  show x0 i * Ideal.rsqrt (Ideal.div (Ideal.ofBits .f32 0x00000000#32 + ∑ k : Fin 2048, x0 (ix2 (i 0 : Fin 2048) k) * x0 (ix2 (i 0 : Fin 2048) k)) _ + _) * _ = _
  rw [lit_zero, EReal.coe_zero, zero_add]
  rfl

theorem dot_at (x0 : FVec Ideal S2048x2048 .f32) (x1 : FVec Ideal S2048 .f32) (x2 : FVec Ideal S2048x8192 .f32) (i : S2048x8192.Idx) :
    val_main_v13 (F := Ideal) x0 x1 x2 i = ∑ k : Fin 2048, Cert.MlpUpIdeal.Blk.nval x0 x1 (ix2 (i 0 : Fin 2048) k) * x2 (ix2 k (i 1 : Fin 8192)) := by
  rw [val_main_v13_apply]
  refine Finset.sum_congr rfl fun k _ => ?_
  rw [norm_at, show lidx_main_v13 i k = ix2 (i 0 : Fin 2048) k from funext fun a => match a with | ⟨0, _⟩ => rfl | ⟨1, _⟩ => rfl,
    show ridx_main_v13 i k = ix2 k (i 1 : Fin 8192) from funext fun a => match a with | ⟨0, _⟩ => rfl | ⟨1, _⟩ => rfl]
  rfl

theorem relu_at (x0 : FVec Ideal S2048x2048 .f32) (x1 : FVec Ideal S2048 .f32) (x2 : FVec Ideal S2048x8192 .f32) (i : S2048x8192.Idx) :
    val_main_v14 (F := Ideal) x0 x1 x2 i = Cert.MlpUpIdeal.Blk.uval x0 x1 x2 i := by
  rw [val_main_v14_apply, dot_at, val_main_call0_v0_apply, val_main_call0_cst_apply]
  rfl

end Cert.MlpUpRefIdeal.Read
end
-- ==== Proof.MlpUpJoin.lean ====
module

public import proofs.«01_k».proof.Defs
public import proofs.«01_k».proof.Proof.MlpUpKernel
public import proofs.«01_k».proof.Proof.Gen.MlpUp.Skeleton
public import proofs.«01_k».proof.Proof.Gen.MlpUp.Launch
public import proofs.«01_k».proof.Proof.Gen.MlpUpRefIdeal.Run
public import proofs.«01_k».proof.Proof.Gen.MlpUpRefIdeal.Read

@[expose] public section

set_option maxRecDepth 16384

noncomputable section

/-! The MLP's first product with its norm and ReLU: the program read bit by bit has the run of the program read at the ideal instance, and the kernel's results are the reference's. -/

namespace Cert.MlpUp

open Idealize.ShloMosaic Idealize.SL.Sem

/-- The two programs have the same text, so they have the same body tables. -/
theorem defs₀_eq : Cert.MlpUp.defs₀ (F := Bits) = Cert.MlpUpIdeal.defs₀ (F := Bits) := by
  unfold Cert.MlpUp.defs₀ Cert.MlpUpIdeal.defs₀
  congr 1; funext l
  match l with
  | ⟨0, _⟩ => rfl

theorem defs_eq : Cert.MlpUp.defs (F := Bits) = Cert.MlpUpIdeal.defs (F := Bits) := by
  unfold Cert.MlpUp.defs
  rw [defs₀_eq]; rfl

theorem frame : Cert.quiescent_MlpUp := fun m ρ _ => defs_eq ▸ Cert.MlpUpIdeal.Carry.frame (F := Bits) m ρ

theorem join : Cert.algebraic_MlpUpIdeal_MlpUpRefIdeal := by
  intro m g m' g' hpre agree
  refine ⟨Cert.MlpUpIdeal.Blk.G3 m, Cert.MlpUpIdeal.Blk.G4 m, Cert.MlpUpIdeal.Blk.G5 m,
    (θ_run Cert.MlpUpIdeal.defs _ _).mono (fun r h c => ?_) (Cert.MlpUpIdeal.Carry.run_blocks (F := Ideal) m g), ?_⟩
  · obtain ⟨h0, h1, h2, hargs⟩ := h c
    exact ⟨h0.trans (Cert.MlpUpIdeal.Blk.final3 m c), h1.trans (Cert.MlpUpIdeal.Blk.final4 m c), h2.trans (Cert.MlpUpIdeal.Blk.final5 m c), hargs⟩
  refine (θ_run Cert.MlpUpRefIdeal.defs _ _).mono (fun r h c => ?_) (Cert.MlpUpRefIdeal.Value.run (F := Ideal) m' g')
  obtain ⟨h0, h1, h2, hargs⟩ := h c
  obtain ⟨e0, e1, e2⟩ := agree c
  refine ⟨?_, ?_, ?_, hargs⟩
  · refine (h0.trans (Cert.MlpUpRefIdeal.Read.val_main_v15_eq _ _)).trans (funext fun i => ?_)
    refine (Cert.MlpUpRefIdeal.Read.norm_at _ _ i).trans ?_
    unfold Cert.MlpUpIdeal.Blk.G3
    rw [e0, e1]
  · refine (h1.trans (Cert.MlpUpRefIdeal.Read.val_main_v17_eq _ _ _)).trans (funext fun i => ?_)
    refine (congrArg (fun z : EReal => z * z) (Cert.MlpUpRefIdeal.Read.relu_at _ _ _ i)).trans ?_
    unfold Cert.MlpUpIdeal.Blk.G4
    rw [e0, e1, e2]; rfl
  · refine (h2.trans (Cert.MlpUpRefIdeal.Read.val_main_v18_eq _ _ _)).trans (funext fun i => ?_)
    refine (Cert.MlpUpRefIdeal.Read.relu_at _ _ _ i).trans ?_
    unfold Cert.MlpUpIdeal.Blk.G5
    rw [e0, e1, e2]; rfl

end Cert.MlpUp
end
-- ==== Proof.InProjRun.lean ====
module

public import proofs.«01_k».proof.Proof.Gen.InProjIdeal.Launch
public import proofs.«01_k».proof.Proof.Gen.InProjIdeal.Skeleton
public import proofs.«01_k».proof.Proof.Gen.InProjIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

/-! The body of the call, run once per case of its condition: at the first step of a row block it stores the normed rows,
    at the others it only reads them. -/

namespace Cert.InProjIdeal.Carry

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

abbrev cond0_0 (i : grid0.Coords) : Prop := k0_cond1 i = 1#1
theorem hcond0_0 : ∀ t : Fin cfg0.N, cond0_0 (grid0.coords t) ↔ t.val % 7 = 0 :=
  (fun t => by
    have ht : t.val < 28 := Nat.lt_of_lt_of_eq t.isLt N_0
    have e0 : (grid0.coords t 0).val = t.val / 7 % 4 := Pipeline.Grid.coords_val t 0 (by decide) rfl
    have e1 : (grid0.coords t 1).val = t.val / 1 % 7 := Pipeline.Grid.coords_val t 1 (by decide) rfl
    simp only [cond0_0, k0_cond1, e0, e1]
    word_cmp
   : ∀ t : Fin grid0.N, cond0_0 (grid0.coords t) ↔ t.val % 7 = 0)

abbrev cond0_1 (i : grid0.Coords) : Prop := ¬cond0_0 i
theorem hcond0_1 : ∀ t : Fin cfg0.N, cond0_1 (grid0.coords t) ↔ 1 ≤ t.val % 7 :=
  fun t => (not_congr (hcond0_0 t)).trans (by omega)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_4 : ∀ t : Fin cfg0.N, cfg0.idle 4 (grid0.coords t) = false := fun _ => rfl
def freshTab0_3 : ℕ → Bool
  | 0 => true
  | n + 1 => (0x8102040 : ℕ).testBit n
theorem freshTab0_3_step : ∀ t : Fin cfg0.N,
    freshTab0_3 (t.val + 1) = ((cfg0.win 3).flush t || (cfg0.idle 3 (cfg0.grid.coords t) && freshTab0_3 t.val)) := by decide +kernel
theorem fresh0_3_eq (t : Fin cfg0.N) : cfg0.fresh 3 t.val = freshTab0_3 t.val :=
  Pipeline.Cfg.fresh_tab cfg0 3 freshTab0_3 rfl freshTab0_3_step t.val (Nat.le_of_lt t.isLt)
theorem liveAt0_3_A : ∀ t : Fin cfg0.N, cond0_0 (grid0.coords t) → ¬cond0_1 (grid0.coords t) → cfg0.idle 3 (grid0.coords t) = false := by decide +kernel
theorem idleAt0_3_B : ∀ t : Fin cfg0.N, ¬cond0_0 (grid0.coords t) → cond0_1 (grid0.coords t) → cfg0.idle 3 (grid0.coords t) = true := by decide +kernel
theorem notFresh0_3_B : ∀ t : Fin cfg0.N, ¬cond0_0 (grid0.coords t) → cond0_1 (grid0.coords t) → cfg0.fresh 3 t.val = false := by
  intro t; rw [fresh0_3_eq t]; revert t; decide +kernel

abbrev VO0_3 : View sig .tc .vmem S512x2048 .bf16 := (Memref.whole cc0_stg3_0 : Memref sig .tc .vmem S512x2048 .bf16).view
abbrev VO0_4 : View sig .tc .vmem S512x512 .f32 := (Memref.whole cc0_stg4_0 : Memref sig .tc .vmem S512x512 .f32).view
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .f32 := win0_4.stage (cfg0.slots t 4)
abbrev hs0_4 (t : Fin cfg0.N) : (ms0_4 t).IsWhole := hstage0_4 ((cfg0.slots t 4).cast nbuf0_4)

set_option maxHeartbeats 1000000 in
noncomputable def kernelRun0_A (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x512 .f32) (harg6 : arg6.IsWhole) (hc0 : cond0_0 i) (hc1 : ¬cond0_1 i)
    (x0 : Vec F S512x2048 .f32) (x1 : Vec F S1x2048 .f32) (x2 : Vec F S512x2048 .bf16) :
    Σ' (L3 : List (View.Piece (Elt F) S512x2048 .bf16)), { L4 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0_in_proj i arg2 harg2 arg3 harg3 arg4 harg4 arg5 harg5 arg6 harg6) K } := by
  refine ⟨?_, ?_, fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

set_option maxHeartbeats 1000000 in
noncomputable def kernelRun0_B (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x512 .f32) (harg6 : arg6.IsWhole) (hc0 : ¬cond0_0 i) (hc1 : cond0_1 i)
    (x0 : Vec F S512x2048 .f32) (x1 : Vec F S1x2048 .f32) (x2 : Vec F S512x2048 .bf16) (xo3 : Vec F S512x2048 .bf16) :
    { L4 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo3 ∗ (∃ f, arg6.view.loc (c : Thread nD τ) ↦[arg6.view.set]{fullShare} arg6.view.writes (Elt F) f L4)) -∗ K ⟨⟩))
          ⊢ wp frame (wpE (defs₀ (F := F)) Variants.none c none) E (cc0_in_proj i arg2 harg2 arg3 harg3 arg4 harg4 arg5 harg5 arg6 harg6) K } := by
  refine ⟨?_, fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.InProjIdeal.Carry

end
-- ==== Proof.InProjFrame.lean ====
module

public import proofs.«01_k».proof.Proof.InProjRun
public import Idealize.ShloMosaic.Lib.Pipeline.Value
public import Idealize.ShloMosaic.Lib.Claim

@[expose] public section

set_option maxRecDepth 16384

noncomputable section

/-! What the outputs hold after each grid point, the whole run, and each output array after it. The normed rows stay in
    their buffer through the steps that only read them, and go back to the array at the last of these. -/

namespace Cert.InProjIdeal.Carry

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover0_A_3 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x512 .f32) (harg6 : arg6.IsWhole) (hc0 : cond0_0 i) (hc1 : ¬cond0_1 i)
    (x0 : Vec F S512x2048 .f32) (x1 : Vec F S1x2048 .f32) (x2 : Vec F S512x2048 .bf16) (y : S512x2048.Idx) :
    ∃ pc ∈ (kernelRun0_A c i arg2 harg2 arg3 harg3 arg4 harg4 arg5 harg5 arg6 harg6 hc0 hc1 x0 x1 x2).1, y ∈ pc.1.set :=
  View.cover_of_tiledL (kernelRun0_A c i arg2 harg2 arg3 harg3 arg4 harg4 arg5 harg5 arg6 harg6 hc0 hc1 x0 x1 x2).1 S512x2048.size (by sl_kernel_rfl) y

def out0_A_3 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x512 .f32) (harg6 : arg6.IsWhole) (hc0 : cond0_0 i) (hc1 : ¬cond0_1 i)
    (x0 : Vec F S512x2048 .f32) (x1 : Vec F S1x2048 .f32) (x2 : Vec F S512x2048 .bf16) : Vec F S512x2048 .bf16 :=
  VO0_3.read (Elt F) (VO0_3.writes (Elt F) VO0_3.junk (kernelRun0_A c i arg2 harg2 arg3 harg3 arg4 harg4 arg5 harg5 arg6 harg6 hc0 hc1 x0 x1 x2).1)

theorem cover0_A_4 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x512 .f32) (harg6 : arg6.IsWhole) (hc0 : cond0_0 i) (hc1 : ¬cond0_1 i)
    (x0 : Vec F S512x2048 .f32) (x1 : Vec F S1x2048 .f32) (x2 : Vec F S512x2048 .bf16) (y : S512x512.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S512x512.size (by sl_kernel_rfl) y

def out0_A_4 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x512 .f32) (harg6 : arg6.IsWhole) (hc0 : cond0_0 i) (hc1 : ¬cond0_1 i)
    (x0 : Vec F S512x2048 .f32) (x1 : Vec F S1x2048 .f32) (x2 : Vec F S512x2048 .bf16) : Vec F S512x512 .f32 :=
  VO0_4.read (Elt F) (VO0_4.writes (Elt F) VO0_4.junk (kernelRun0_A c i arg2 harg2 arg3 harg3 arg4 harg4 arg5 harg5 arg6 harg6 hc0 hc1 x0 x1 x2).2.1)

def out0_B_3 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x512 .f32) (harg6 : arg6.IsWhole) (hc0 : ¬cond0_0 i) (hc1 : cond0_1 i)
    (x0 : Vec F S512x2048 .f32) (x1 : Vec F S1x2048 .f32) (x2 : Vec F S512x2048 .bf16) (xo3 : Vec F S512x2048 .bf16) : Vec F S512x2048 .bf16 :=
  xo3

theorem cover0_B_4 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x512 .f32) (harg6 : arg6.IsWhole) (hc0 : ¬cond0_0 i) (hc1 : cond0_1 i)
    (x0 : Vec F S512x2048 .f32) (x1 : Vec F S1x2048 .f32) (x2 : Vec F S512x2048 .bf16) (xo3 : Vec F S512x2048 .bf16) (y : S512x512.Idx) :
    ∃ pc ∈ (kernelRun0_B c i arg2 harg2 arg3 harg3 arg4 harg4 arg5 harg5 arg6 harg6 hc0 hc1 x0 x1 x2 xo3).1, y ∈ pc.1.set :=
  View.cover_of_tiledL (kernelRun0_B c i arg2 harg2 arg3 harg3 arg4 harg4 arg5 harg5 arg6 harg6 hc0 hc1 x0 x1 x2 xo3).1 S512x512.size (by sl_kernel_rfl) y

def out0_B_4 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x512 .f32) (harg6 : arg6.IsWhole) (hc0 : ¬cond0_0 i) (hc1 : cond0_1 i)
    (x0 : Vec F S512x2048 .f32) (x1 : Vec F S1x2048 .f32) (x2 : Vec F S512x2048 .bf16) (xo3 : Vec F S512x2048 .bf16) : Vec F S512x512 .f32 :=
  VO0_4.read (Elt F) (VO0_4.writes (Elt F) VO0_4.junk (kernelRun0_B c i arg2 harg2 arg3 harg3 arg4 harg4 arg5 harg5 arg6 harg6 hc0 hc1 x0 x1 x2 xo3).1)

def outsAt0 (c : Dev nD) : (n : ℕ) → n < cfg0.N → Vec F S512x2048 .bf16 × Vec F S512x512 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 7 = 0 then
      if h1 : 1 ≤ (n + 1) % 7 then
        False.elim (by have hN : n + 1 < 28 := lt_of_lt_of_eq hn (show cfg0.N = 28 from N_0); omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : 1 ≤ (n + 1) % 7 then
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).1, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).1)
      else
        False.elim (by have hN : n + 1 < 28 := lt_of_lt_of_eq hn (show cfg0.N = 28 from N_0); omega)

theorem outsAt0_A (c : Dev nD) (t : Fin cfg0.N) (h0 : t.val % 7 = 0) (h1 : ¬1 ≤ t.val % 7) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 7 = 0) (h1 : 1 ≤ t.val % 7) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).1, out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_pos h1).trans rfl)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem hcarry0_3 (c : Dev nD) : ∀ (t : Fin cfg0.N) (_ : t.val ≠ 0), cfg0.idle 3 (grid0.coords t) = true → cfg0.fresh 3 t.val = false →
    (dats m 0 c).after 3 t = (dats m 0 c).after 3 ⟨t.val - 1, by omega⟩ := by
  intro t _ hi _
  have hN : t.val < 28 := lt_of_lt_of_eq t.isLt (show cfg0.N = 28 from N_0)
  rw [after0_3, after0_3]
  by_cases h0 : t.val % 7 = 0
  · by_cases h1 : 1 ≤ t.val % 7
    · exfalso; omega
    · rw [liveAt0_3_A t ((hcond0_0 t).mpr h0) (fun h => h1 ((hcond0_1 t).mp h))] at hi
      exact absurd hi Bool.false_ne_true
  · by_cases h1 : 1 ≤ t.val % 7
    · refine (congrArg (·.1) (outsAt0_B m c t h0 h1)).trans ?_
      dsimp only [out0_B_3]
    · exfalso; omega
theorem before0_3_B (c : Dev nD) (t : Fin cfg0.N) (h0 : ¬t.val % 7 = 0) (h1 : 1 ≤ t.val % 7) (d) :
    (dats m 0 c).before 3 t d = (outsAt0 m c (t.val - 1) (Nat.lt_of_le_of_lt (Nat.sub_le _ _) t.isLt)).1 := by
  rw [Dat.before_out_traj _ 3 rfl (fun _ _ => rfl) (hcarry0_3 m c) t.val t rfl d,
    if_neg (by rw [notFresh0_3_B t (fun h => h0 ((hcond0_0 t).mp h)) ((hcond0_1 t).mpr h1)]; exact Bool.false_ne_true)]
  dsimp only [dats]

/-- Where the body leaves the window alone, its buffer still holds what the point before left. -/
theorem kept0_3_B (c : Dev nD) (t : Fin cfg0.N) (h0 : ¬t.val % 7 = 0) (h1 : 1 ≤ t.val % 7) :
    owns (c : Thread nD τ) (ms0_3 t) fullShare ((outsAt0 m c (t.val - 1) (Nat.lt_of_le_of_lt (Nat.sub_le _ _) t.isLt)).1) ⊢ ((dats m 0 c).leavesExact 3 t : sProp 𝕄) := by
  unfold Dat.leavesExact
  rw [idleAt0_3_B t (fun h => h0 ((hcond0_0 t).mp h)) ((hcond0_1 t).mpr h1)]
  cases hf : (cfg0.win 3).flush t with
  | false =>
    simp only [before0_3_B m c t h0 h1]
    iintro H
    iexists (outsAt0 m c t.val t.isLt).1
    iexact H
  | true =>
    have e : (dats m 0 c).after 3 t = (outsAt0 m c (t.val - 1) (Nat.lt_of_le_of_lt (Nat.sub_le _ _) t.isLt)).1 := by
      rw [after0_3]
      refine (congrArg (·.1) (outsAt0_B m c t h0 h1)).trans ?_
      dsimp only [out0_B_3]
    simp only [e]
    iintro H
    iexact H

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  have hN : t.val < 28 := lt_of_lt_of_eq t.isLt (show cfg0.N = 28 from N_0)
  by_cases h0 : t.val % 7 = 0
  · by_cases h1 : 1 ≤ t.val % 7
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3_A t ((hcond0_0 t).mpr h0) (fun h => h1 ((hcond0_1 t).mp h))], after0_3]
      rw [show (dats m 0 c).leavesExact 4 t = owns (c : Thread nD τ) (ms0_4 t) fullShare ((dats m 0 c).after 4 t) from by
      unfold Dat.leavesExact; rw [liveAt0_4 t], after0_4]
      rw [outsAt0_A m c t h0 h1]
      unfold out0_A_3 out0_A_4; (try dsimp only)
      iintro ⟨HΦ, Ho, ⟨%d0, H0⟩, ⟨%d1, H1⟩, ⟨%d2, H2⟩, ⟨%d3, H3⟩, ⟨%d4, H4⟩⟩
      iapply ((kernelRun0_A c (grid0.coords t) _ _ _ _ _ _ _ _ _ _ ((hcond0_0 t).mpr h0) (fun h => h1 ((hcond0_1 t).mp h)) (iblk m c 0 t) (iblk m c 1 t) (iblk m c 2 t)).2.2 Set.univ _)
      isplitl [H0]; · iexact H0
      isplitl [H1]; · iexact H1
      isplitl [H2]; · iexact H2
      isplitl [H3]; · iexists _; iexact H3
      isplitl [H4]; · iexists _; iexact H4
      iintro ⟨H0, H1, H2, ⟨%e3, H3⟩, ⟨%e4, H4⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 c _ _ _ _ _ _ _ _ _ _ _ _ _ _ _ _)
      unfold owns; iexists _; isplitr
      swap; · iexact H4
      ipureintro; exact View.read_writes_of_cover _ _ _ _ _ (cover0_A_4 c _ _ _ _ _ _ _ _ _ _ _ _ _ _ _ _)
  · by_cases h1 : 1 ≤ t.val % 7
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 4 t = owns (c : Thread nD τ) (ms0_4 t) fullShare ((dats m 0 c).after 4 t) from by
      unfold Dat.leavesExact; rw [liveAt0_4 t], after0_4]
      rw [outsAt0_B m c t h0 h1]
      simp only [before0_3_B m c t h0 h1]
      unfold out0_B_4; (try dsimp only)
      iintro ⟨HΦ, Ho, ⟨%d0, H0⟩, ⟨%d1, H1⟩, ⟨%d2, H2⟩, ⟨%d3, H3⟩, ⟨%d4, H4⟩⟩
      iapply ((kernelRun0_B c (grid0.coords t) _ _ _ _ _ _ _ _ _ _ (fun h => h0 ((hcond0_0 t).mp h)) ((hcond0_1 t).mpr h1) (iblk m c 0 t) (iblk m c 1 t) (iblk m c 2 t) _).2 Set.univ _)
      isplitl [H0]; · iexact H0
      isplitl [H1]; · iexact H1
      isplitl [H2]; · iexact H2
      isplitl [H3]; · iexact H3
      isplitl [H4]; · iexists _; iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iapply (kept0_3_B m c t h0 h1); iexact H3
      unfold owns; iexists _; isplitr
      swap; · iexact H4
      ipureintro; exact View.read_writes_of_cover _ _ _ _ _ (cover0_B_4 c _ _ _ _ _ _ _ _ _ _ _ _ _ _ _ _ _)
    · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

theorem flushed3 (c : Dev nD) (t : Fin cfg0.N) :
    (dats m 0 c).flushed 3 t = (cfg0.win 3).cut (grid0.coords t) ((outsAt0 m c t.val t.isLt).1) := by
  show (cfg0.win 3).cut (grid0.coords t) ((dats m 0 c).after 3 t) = _
  rw [after0_3]

theorem flushed4 (c : Dev nD) (t : Fin cfg0.N) :
    (dats m 0 c).flushed 4 t = (cfg0.win 4).cut (grid0.coords t) ((outsAt0 m c t.val t.isLt).2) := by
  show (cfg0.win 4).cut (grid0.coords t) ((dats m 0 c).after 4 t) = _
  rw [after0_4]

theorem post3 (r : PUnit × MemSt nD τ sig (Elt F)) (h : Pipeline.FramePost cfgs (dats m) 0 (V m) r) (c : Dev nD) :
    r.2.mem ((c : Thread nD τ).loc main_v3_0) = (dats m 0 c).arrAt 3 cfg0.N :=
  (h c).1 3

theorem post4 (r : PUnit × MemSt nD τ sig (Elt F)) (h : Pipeline.FramePost cfgs (dats m) 0 (V m) r) (c : Dev nD) :
    r.2.mem ((c : Thread nD τ).loc main_v3_1) = (dats m 0 c).arrAt 4 cfg0.N :=
  (h c).1 4

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem run_blocks : θ_run defs (onTc (τ := τ) (main (F := F))) ⟨m, fun _ => 0, ρ⟩ fun r => ∀ c : Dev nD,
      r.2.mem ((c : Thread nD τ).loc main_v3_0) = (dats m 0 c).arrAt 3 cfg0.N
      ∧ r.2.mem ((c : Thread nD τ).loc main_v3_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      post4 m r h c,
      kept_main_arg0 m r h c,
      kept_main_arg1 m r h c,
      kept_main_arg2 m r h c⟩)
    (run_main m ρ)

end Cert.InProjIdeal.Carry

end
-- ==== Proof.InProjKernel.lean ====
module

public import proofs.«01_k».proof.Proof.SguRef
public import proofs.«01_k».proof.Proof.InProjFrame
public import proofs.«01_k».proof.Proof.Gen.InProjRefIdeal.Read
public import Idealize.ShloMosaic.Lib.Pointwise.Contract
public import Idealize.ShloMosaic.Lib.Tactic
public import Idealize.ShloMosaic.Lib.WritesUnit

@[expose] public section

set_option maxRecDepth 16384

noncomputable section

/-! The input projection with its norm: what the kernel leaves in its result arrays, index by index. -/

namespace Cert.InProjIdeal.Blk

open Idealize.ShloMosaic hiding ix0 ix1 ix2 ix3 ix4 ix5 eq_ix2 eq_ix3
open Cert.InProjIdeal Cert.InProjIdeal.Gen Cert.InProjIdeal.Carry Idealize.ShloMosaic.ValueIdx Idealize.ShloMosaic.TcCoe Idealize.SL.Sem
open Idealize.ShloMosaic.StableHlo
open Cert.ReferenceIdeal.RefValue (lit_zero)

/-- A row of the first argument, divided by its root mean square and scaled by the gain. -/
def nval (x : S2048x2048.Idx → EReal) (g : S2048.Idx → EReal) (i : S2048x2048.Idx) : EReal :=
  x i * Ideal.rsqrt (Ideal.div (∑ k : Fin 2048, x (ix2 (i 0 : Fin 2048) k) * x (ix2 (i 0 : Fin 2048) k)) (Ideal.ofBits .f32 0x45000000#32)
    + Ideal.ofBits .f32 0x358637BD#32) * g (ix1 (i 1 : Fin 2048))

/-- The product of the normed rows with the weight. -/
def val4 (x : S2048x2048.Idx → EReal) (g : S2048.Idx → EReal) (w : S2048x3584.Idx → EReal) (i : S2048x3584.Idx) : EReal :=
  ∑ k : Fin 2048, nval x g (ix2 (i 0 : Fin 2048) k) * w (ix2 k (i 1 : Fin 3584))

/-- The sum of a row, kept as a column. -/
theorem rowSum (x : FVec Ideal S512x2048 .f32) (i : S512x1.Idx) :
    shapeCast S512x1 (multiReduction .add [1] S512 x 0x00000000#32 reduces_S512x2048_S512 (.inl rfl) rfl) shapeCasts_S512_S512x1 i
      = ∑ k : Fin 2048, (x (ix2 (i 0 : Fin 512) k) : EReal) := by
  have hk : (S512.rowMajor (ix1 (i 0 : Fin 512))).val = (S512x1.rowMajor i).val := by
    have h1 : (i 1).val = 0 := by have : (i 1).val < 1 := (i 1).isLt; omega
    rw [Shape.rowMajor_val_one, Shape.rowMajor_val_two, h1]
    show (i 0).val = (i 0).val * 1 + 0; omega
  refine (shapeCast_apply _ _ i (ix1 (i 0 : Fin 512)) hk).trans ((Ideal.multiReduction_add_single _ _ _ _ _ _).trans ?_)
  exact Finset.sum_congr rfl fun k _ => congrArg x (funext fun a => match a with | ⟨0, _⟩ => rfl | ⟨1, _⟩ => rfl)

theorem bcCol {α : Type} (x : S512x1.Idx → α) (i : S512x2048.Idx) :
    broadcastTo S512x2048 x broadcasts_S512x1_S512x2048 i = x (ix2 (i 0 : Fin 512) (0 : Fin 1)) :=
  broadcastTo_apply x _ i _ (fun a => match a with | ⟨0, _⟩ => rfl | ⟨1, _⟩ => rfl)
theorem bcRow {α : Type} (x : S1x2048.Idx → α) (i : S512x2048.Idx) :
    broadcastTo S512x2048 x broadcasts_S1x2048_S512x2048 i = x (ix2 (0 : Fin 1) (i 1 : Fin 2048)) :=
  broadcastTo_apply x _ i _ (fun a => match a with | ⟨0, _⟩ => rfl | ⟨1, _⟩ => rfl)

/-- The normed rows of one block. -/
theorem norm_pay (x : FVec Ideal S512x2048 .f32) (g : FVec Ideal S1x2048 .f32) (i : S512x2048.Idx) :
    k0_pay1 (F := Ideal) x g i
      = x i * Ideal.rsqrt (Ideal.div (∑ k : Fin 2048, x (ix2 (i 0 : Fin 512) k) * x (ix2 (i 0 : Fin 512) k)) (Ideal.ofBits .f32 0x45000000#32)
        + Ideal.ofBits .f32 0x358637BD#32) * g (ix2 (0 : Fin 1) (i 1 : Fin 2048)) := by
  unfold k0_pay1; dsimp only
  simp only [shapeCast_self]
  show mulf (F := Ideal) (mulf _ (broadcastTo _ _ _)) (broadcastTo _ _ _) i = _
  rw [mulf_apply, mulf_apply, bcCol, bcRow]
  refine congrArg (fun z : EReal => x i * Ideal.rsqrt z * g (ix2 (0 : Fin 1) (i 1 : Fin 2048))) ?_
  rw [addf_apply, divf_apply, rowSum]
  rfl

/-- The product of one block of rows with one block of the transposed weight. -/
theorem prod_pay (h : FVec Ideal S512x2048 .bf16) (w : FVec Ideal S512x2048 .bf16) (i : S512x512.Idx) :
    k0_pay2 (F := Ideal) h w i = ∑ k : Fin 2048, (h (ix2 (i 0 : Fin 512) k) * w (ix2 (i 1 : Fin 512) k) : EReal) := by
  unfold k0_pay2
  rw [shapeCast_self, shapeCast_self]
  refine (Ideal.matmul_apply₁_of dot_S512x2048_S512x2048_S512x512_1_1_0_0_n_n (a := 1) rfl rfl h w _ i
    (fun k => ix2 (i 0 : Fin 512) k) (fun k => ix2 (i 1 : Fin 512) k) (fun k => funext fun b => match b with | ⟨0, _⟩ => rfl | ⟨1, _⟩ => rfl)
    (fun k => funext fun b => match b with | ⟨0, _⟩ => rfl | ⟨1, _⟩ => rfl)).trans ?_
  show Ideal.ofBits .f32 0x00000000#32 + _ = _
  rw [lit_zero, EReal.coe_zero, zero_add]; rfl

theorem zz : (![0, 0] : Fin 2 → Nat) = fun _ => 0 := funext fun a => match a with | ⟨0, _⟩ => rfl | ⟨1, _⟩ => rfl

section
variable (c : Dev nD) (i : grid0.Coords) (a2 : Memref sig .tc .vmem S512x2048 .f32) (h2 : a2.IsWhole) (a3 : Memref sig .tc .vmem S1x2048 .f32) (h3 : a3.IsWhole) (a4 : Memref sig .tc .vmem S512x2048 .bf16) (h4 : a4.IsWhole) (a5 : Memref sig .tc .vmem S512x2048 .bf16) (h5 : a5.IsWhole) (a6 : Memref sig .tc .vmem S512x512 .f32) (h6 : a6.IsWhole)
  (x0 : FVec Ideal S512x2048 .f32) (x1 : FVec Ideal S1x2048 .f32) (x2 : FVec Ideal S512x2048 .bf16) (xo3 : FVec Ideal S512x2048 .bf16)

theorem out_A_3 (hc0 : cond0_0 i) (hc1 : ¬cond0_1 i) : out0_A_3 (F := Ideal) c i a2 h2 a3 h3 a4 h4 a5 h5 a6 h6 hc0 hc1 x0 x1 x2 = k0_pay1 (F := Ideal) x0 x1 := by
  unfold out0_A_3
  rw [View.read_writes_eq_canon _ _ _ (cover0_A_3 (F := Ideal) c i a2 h2 a3 h3 a4 h4 a5 h5 a6 h6 hc0 hc1 x0 x1 x2)]
  unfold kernelRun0_A
  dsimp only
  sl_unfold_words
  rw [View.canon_unit_zero zz]
  simp only [View.readAt_eq_ld, h2.read_unread, h3.read_unread, h4.read_unread, h5.read_unread, h6.read_unread, View.ld_unit_zero (S := S512x2048) zz, View.ld_unit_zero (S := S1x2048) zz]

theorem out_A_4 (hc0 : cond0_0 i) (hc1 : ¬cond0_1 i) : out0_A_4 (F := Ideal) c i a2 h2 a3 h3 a4 h4 a5 h5 a6 h6 hc0 hc1 x0 x1 x2 = k0_pay2 (F := Ideal) (k0_pay1 (F := Ideal) x0 x1) x2 := by
  unfold out0_A_4
  rw [View.read_writes_eq_canon _ _ _ (cover0_A_4 (F := Ideal) c i a2 h2 a3 h3 a4 h4 a5 h5 a6 h6 hc0 hc1 x0 x1 x2)]
  unfold kernelRun0_A
  dsimp only
  sl_unfold_words
  rw [View.canon_unit_zero zz, View.readCov_unit_zero _ zz]
  simp only [View.readAt_eq_ld, h2.read_unread, h3.read_unread, h4.read_unread, h5.read_unread, h6.read_unread, View.ld_unit_zero (S := S512x2048) zz, View.ld_unit_zero (S := S1x2048) zz]

theorem out_B_4 (hc0 : ¬cond0_0 i) (hc1 : cond0_1 i) : out0_B_4 (F := Ideal) c i a2 h2 a3 h3 a4 h4 a5 h5 a6 h6 hc0 hc1 x0 x1 x2 xo3 = k0_pay2 (F := Ideal) xo3 x2 := by
  unfold out0_B_4
  rw [View.read_writes_eq_canon _ _ _ (cover0_B_4 (F := Ideal) c i a2 h2 a3 h3 a4 h4 a5 h5 a6 h6 hc0 hc1 x0 x1 x2 xo3)]
  unfold kernelRun0_B
  dsimp only
  sl_unfold_words
  rw [View.canon_unit_zero zz]
  simp only [View.readAt_eq_ld, h2.read_unread, h3.read_unread, h4.read_unread, h5.read_unread, h6.read_unread, View.ld_unit_zero (S := S512x2048) zz, View.ld_unit_zero (S := S1x2048) zz]

end

variable (m : (ℓ : Loc nD τ sig) → Buf (Elt Ideal) ℓ) (c : Dev nD)

/-- The three arguments, as arrays of numbers. -/
abbrev xA : S2048x2048.Idx → EReal := m ((c : Thread nD τ).loc main_arg0)
abbrev gA : S2048.Idx → EReal := m ((c : Thread nD τ).loc main_arg1)
abbrev wA : S2048x3584.Idx → EReal := m ((c : Thread nD τ).loc main_arg2)

set_option maxHeartbeats 4000000 in
theorem V_w : V m c main_v2 = (truncf .bf16 (transpose S3584x2048 [1, 0] (m ((c : Thread nD τ).loc main_arg2)) transposes_S2048x3584_S3584x2048_1_0 : FVec Ideal S3584x2048 .f32) bitsLt_bf16_f32 : FVec Ideal S3584x2048 .bf16) := by
  unfold V
  simp only [hostOps0, List.flatten_cons, List.flatten_nil, List.append_nil, List.cons_append, List.nil_append,
    TRef.binary, TRef.nullary, TRef.ternary, TRef.unary, TRef.toBuf, TRef.ofBuf, cast_eq]
  after_results_simp <;> rfl

set_option maxHeartbeats 4000000 in
theorem V_g : V m c main_v0 = (broadcastInDim S1x2048 ![1] bcast_S2048_S1x2048_1 (m ((c : Thread nD τ).loc main_arg1)) : FVec Ideal S1x2048 .f32) := by
  unfold V
  simp only [hostOps0, List.flatten_cons, List.flatten_nil, List.append_nil, List.cons_append, List.nil_append,
    TRef.binary, TRef.nullary, TRef.ternary, TRef.unary, TRef.toBuf, TRef.ofBuf, cast_eq]
  after_results_simp <;> rfl

set_option maxHeartbeats 4000000 in
theorem V_x : V m c main_arg0 = m ((c : Thread nD τ).loc main_arg0) := by
  unfold V
  simp only [hostOps0, List.flatten_cons, List.flatten_nil, List.append_nil, List.cons_append, List.nil_append,
    TRef.binary, TRef.nullary, TRef.ternary, TRef.unary, TRef.toBuf, TRef.ofBuf, cast_eq]
  after_results_simp <;> rfl

theorem lt_N (t : Fin cfg0.N) : t.val < 28 := lt_of_lt_of_eq t.isLt N_0

theorem idx0 : ∀ t : Fin cfg0.N, win0_0.index t (0 : Fin 2) = t.val / 7 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = t.val % 7 ∧ win0_2.index t (1 : Fin 2) = 0 := (by decide +kernel : ∀ t : Fin grid0.N, _)
theorem idx3 : ∀ t : Fin cfg0.N, win0_3.index t (0 : Fin 2) = t.val / 7 ∧ win0_3.index t (1 : Fin 2) = 0 := (by decide +kernel : ∀ t : Fin grid0.N, _)
theorem idx4 : ∀ t : Fin cfg0.N, win0_4.index t (0 : Fin 2) = t.val / 7 ∧ win0_4.index t (1 : Fin 2) = t.val % 7 := (by decide +kernel : ∀ t : Fin grid0.N, _)
theorem flush3 : ∀ t : Fin cfg0.N, t.val % 7 = 6 → (cfg0.win 3).flush t = true := (by decide +kernel : ∀ t : Fin grid0.N, _)
theorem flush4 : ∀ t : Fin cfg0.N, (cfg0.win 4).flush t = true := (by decide +kernel : ∀ t : Fin grid0.N, _)

/-- The row and the column of the whole array that a row and a column of the blocks at `t` are. -/
abbrev row (t : Fin cfg0.N) (r : Fin 512) : Fin 2048 := ⟨t.val / 7 * 512 + r.val, by have := lt_N t; have := r.isLt; omega⟩
abbrev col (t : Fin cfg0.N) (j : Fin 512) : Fin 3584 := ⟨t.val % 7 * 512 + j.val, by have := Nat.mod_lt t.val (show 0 < 7 by norm_num); have := j.isLt; omega⟩

theorem x_blk (t : Fin cfg0.N) (i : S512x2048.Idx) : iblk m c 0 t i = xA m c (ix2 (row t (i 0)) (i 1 : Fin 2048)) := by
  unfold iblk
  rw [View.read_apply]
  show V m c main_arg0 _ = _
  rw [V_x]
  refine congrArg (xA m c) (funext fun a => Fin.ext ?_)
  match a with
  | ⟨0, _⟩ => show win0_0.index t (0 : Fin 2) * 512 + 1 * (i 0).val = t.val / 7 * 512 + (i 0).val; rw [(idx0 t).1]; omega
  | ⟨1, _⟩ => show win0_0.index t (1 : Fin 2) * 2048 + 1 * (i 1).val = (i 1).val; rw [(idx0 t).2]; omega

theorem g_blk (t : Fin cfg0.N) (i : S1x2048.Idx) : iblk m c 1 t i = gA m c (ix1 (i 1 : Fin 2048)) := by
  unfold iblk
  rw [View.read_apply]
  show V m c main_v0 _ = _
  rw [V_g]
  refine broadcastInDim_apply _ bcast_S2048_S1x2048_1 (gA m c) _ _ (fun a => match a with
    | ⟨0, _⟩ => ?_)
  show (i 1).val = win0_1.index t (1 : Fin 2) * 2048 + 1 * (i 1).val
  rw [(idx1 t).2]; omega

theorem w_at (i : S3584x2048.Idx) : V m c main_v2 i = wA m c (ix2 (i 1 : Fin 2048) (i 0 : Fin 3584)) := by
  rw [V_w]
  exact transpose_apply _ _ _ i (ix2 (i 1 : Fin 2048) (i 0 : Fin 3584) : S2048x3584.Idx) (fun b => match b with | ⟨0, _⟩ => rfl | ⟨1, _⟩ => rfl)

theorem w_blk (t : Fin cfg0.N) (i : S512x2048.Idx) : iblk m c 2 t i = wA m c (ix2 (i 1 : Fin 2048) (col t (i 0))) := by
  unfold iblk
  rw [View.read_apply]
  show V m c main_v2 _ = _
  refine (w_at m c _).trans (congrArg (wA m c) (funext fun a => Fin.ext ?_))
  match a with
  | ⟨0, _⟩ => show win0_2.index t (1 : Fin 2) * 2048 + 1 * (i 1).val = (i 1).val; rw [(idx2 t).2]; omega
  | ⟨1, _⟩ => show win0_2.index t (0 : Fin 2) * 512 + 1 * (i 0).val = t.val % 7 * 512 + (i 0).val; rw [(idx2 t).1]; omega

theorem norm_at (t : Fin cfg0.N) (i : S512x2048.Idx) :
    k0_pay1 (F := Ideal) (iblk m c 0 t) (iblk m c 1 t) i = nval (xA m c) (gA m c) (ix2 (row t (i 0)) (i 1 : Fin 2048)) := by
  rw [norm_pay, x_blk, g_blk]
  unfold nval
  refine congrArg (fun z : EReal => xA m c (ix2 (row t (i 0)) (i 1 : Fin 2048)) * Ideal.rsqrt (Ideal.div z _ + _) * gA m c (ix1 (i 1 : Fin 2048)))
    (Finset.sum_congr rfl fun k _ => ?_)
  rw [x_blk]

theorem h_first (t : Fin cfg0.N) (h0 : t.val % 7 = 0) (i : S512x2048.Idx) :
    (outsAt0 m c t.val t.isLt).1 i = nval (xA m c) (gA m c) (ix2 (row t (i 0)) (i 1 : Fin 2048)) := by
  rw [outsAt0_A m c t h0 (by omega)]
  dsimp only
  rw [out_A_3]
  exact norm_at m c t i

/-- The window of normed rows holds the same block from the first tile of a block of rows to the last. -/
theorem h_at (n : ℕ) : ∀ (hn : n < cfg0.N) (i : S512x2048.Idx),
    (outsAt0 m c n hn).1 i = nval (xA m c) (gA m c) (ix2 (row ⟨n, hn⟩ (i 0)) (i 1 : Fin 2048)) := by
  induction n with
  | zero => exact fun hn i => h_first m c ⟨0, hn⟩ rfl i
  | succ n ih =>
    intro hn i
    by_cases h0 : (n + 1) % 7 = 0
    · exact h_first m c ⟨n + 1, hn⟩ h0 i
    · refine (congrArg (fun p => p.1 i) (outsAt0_B m c ⟨n + 1, hn⟩ h0 (by show 1 ≤ (n + 1) % 7; omega))).trans ?_
      refine (ih (Nat.lt_of_succ_lt hn) i).trans ?_
      refine congrArg (fun q : Fin 2048 => nval (xA m c) (gA m c) (ix2 q (i 1 : Fin 2048))) (Fin.ext ?_)
      show n / 7 * 512 + (i 0).val = (n + 1) / 7 * 512 + (i 0).val
      omega

theorem o4_eq (t : Fin cfg0.N) : (outsAt0 m c t.val t.isLt).2 = k0_pay2 (F := Ideal) (outsAt0 m c t.val t.isLt).1 (iblk m c 2 t) := by
  by_cases h0 : t.val % 7 = 0
  · rw [outsAt0_A m c t h0 (by omega)]
    dsimp only
    rw [out_A_4, out_A_3]
  · rw [outsAt0_B m c t h0 (by omega)]
    dsimp only
    rw [out_B_4]; rfl

theorem o4_at (t : Fin cfg0.N) (i : S512x512.Idx) : (outsAt0 m c t.val t.isLt).2 i = val4 (xA m c) (gA m c) (wA m c) (ix2 (row t (i 0)) (col t (i 1))) := by
  rw [o4_eq, prod_pay]
  unfold val4
  refine Finset.sum_congr rfl fun k _ => ?_
  rw [h_at, w_blk]

/-- The whole result arrays. -/
def G3 : Buf (Elt Ideal) ((c : Thread nD τ).loc main_v3_0) := nval (xA m c) (gA m c)
def G4 : Buf (Elt Ideal) ((c : Thread nD τ).loc main_v3_1) := val4 (xA m c) (gA m c) (wA m c)

theorem flushed3_eq (t : Fin cfg0.N) : (dats m 0 c).flushed 3 t = ((cfg0.win 3).blk t).view.read (Elt Ideal) (G3 m c) := by
  rw [flushed3]
  funext y
  refine (h_at m c t.val t.isLt y).trans ?_
  rw [View.read_apply]
  show G3 m c _ = G3 m c _
  refine congrArg _ (funext fun a => Fin.ext ?_)
  match a with
  | ⟨0, _⟩ => show t.val / 7 * 512 + (y 0).val = win0_3.index t (0 : Fin 2) * 512 + 1 * (y 0).val; rw [(idx3 t).1]; omega
  | ⟨1, _⟩ => show (y 1).val = win0_3.index t (1 : Fin 2) * 2048 + 1 * (y 1).val; rw [(idx3 t).2]; omega

theorem mem3 (t : Fin cfg0.N) (i : S2048x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v3_0).slice (win0_3.rect t)).set ↔ _
  rw [View.set_slice_whole, Rect.mem_set_unit]
  exact Iff.rfl

theorem covers3 (i : S2048x2048.Idx) : ∃ t : Fin cfg0.N, (cfg0.win 3).flush t = true ∧ i ∈ ((cfg0.win 3).blk t).view.set := by
  have h0 : (i 0).val < 2048 := (i 0).isLt
  have h1 : (i 1).val < 2048 := (i 1).isLt
  refine ⟨⟨(i 0).val / 512 * 7 + 6, lt_of_lt_of_eq (by omega) N_0.symm⟩, flush3 _ (by show ((i 0).val / 512 * 7 + 6) % 7 = 6; omega), (mem3 _ _).2 fun a => ?_⟩
  match a with
  | ⟨0, _⟩ =>
    show win0_3.index _ (0 : Fin 2) * 512 ≤ (i 0).val ∧ (i 0).val < win0_3.index _ (0 : Fin 2) * 512 + 512
    rw [(idx3 _).1]
    show ((i 0).val / 512 * 7 + 6) / 7 * 512 ≤ (i 0).val ∧ (i 0).val < ((i 0).val / 512 * 7 + 6) / 7 * 512 + 512
    omega
  | ⟨1, _⟩ =>
    show win0_3.index _ (1 : Fin 2) * 2048 ≤ (i 1).val ∧ (i 1).val < win0_3.index _ (1 : Fin 2) * 2048 + 2048
    rw [(idx3 _).2]; omega

theorem final3 : (dats m 0 c).arrAt 3 cfg0.N = G3 m c :=
  (dats m 0 c).arrAt_eq_of_cover 3 (G3 m c) (fun t _ => flushed3_eq m c t) covers3

theorem flushed4_eq (t : Fin cfg0.N) : (dats m 0 c).flushed 4 t = ((cfg0.win 4).blk t).view.read (Elt Ideal) (G4 m c) := by
  rw [flushed4]
  funext y
  refine (o4_at m c t y).trans ?_
  rw [View.read_apply]
  show G4 m c _ = G4 m c _
  refine congrArg _ (funext fun a => Fin.ext ?_)
  match a with
  | ⟨0, _⟩ => show t.val / 7 * 512 + (y 0).val = win0_4.index t (0 : Fin 2) * 512 + 1 * (y 0).val; rw [(idx4 t).1]; omega
  | ⟨1, _⟩ => show t.val % 7 * 512 + (y 1).val = win0_4.index t (1 : Fin 2) * 512 + 1 * (y 1).val; rw [(idx4 t).2]; omega

theorem mem4 (t : Fin cfg0.N) (i : S2048x3584.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v3_1).slice (win0_4.rect t)).set ↔ _
  rw [View.set_slice_whole, Rect.mem_set_unit]
  exact Iff.rfl

theorem covers4 (i : S2048x3584.Idx) : ∃ t : Fin cfg0.N, (cfg0.win 4).flush t = true ∧ i ∈ ((cfg0.win 4).blk t).view.set := by
  have h0 : (i 0).val < 2048 := (i 0).isLt
  have h1 : (i 1).val < 3584 := (i 1).isLt
  refine ⟨⟨(i 0).val / 512 * 7 + (i 1).val / 512, lt_of_lt_of_eq (by omega) N_0.symm⟩, flush4 _, (mem4 _ _).2 fun a => ?_⟩
  match a with
  | ⟨0, _⟩ =>
    show win0_4.index _ (0 : Fin 2) * 512 ≤ (i 0).val ∧ (i 0).val < win0_4.index _ (0 : Fin 2) * 512 + 512
    rw [(idx4 _).1]
    show ((i 0).val / 512 * 7 + (i 1).val / 512) / 7 * 512 ≤ (i 0).val ∧ (i 0).val < ((i 0).val / 512 * 7 + (i 1).val / 512) / 7 * 512 + 512
    omega
  | ⟨1, _⟩ =>
    show win0_4.index _ (1 : Fin 2) * 512 ≤ (i 1).val ∧ (i 1).val < win0_4.index _ (1 : Fin 2) * 512 + 512
    rw [(idx4 _).2]
    show ((i 0).val / 512 * 7 + (i 1).val / 512) % 7 * 512 ≤ (i 1).val ∧ (i 1).val < ((i 0).val / 512 * 7 + (i 1).val / 512) % 7 * 512 + 512
    omega

theorem final4 : (dats m 0 c).arrAt 4 cfg0.N = G4 m c :=
  (dats m 0 c).arrAt_eq_of_cover 4 (G4 m c) (fun t _ => flushed4_eq m c t) covers4

end Cert.InProjIdeal.Blk

/-! The reference's results at an index. -/

namespace Cert.InProjRefIdeal.Read

open Idealize.ShloMosaic hiding ix0 ix1 ix2 ix3 ix4 ix5 eq_ix2 eq_ix3
open Idealize.ShloMosaic.ValueIdx
open Cert.ReferenceIdeal.RefValue (lit_zero)

theorem norm_at (x0 : FVec Ideal S2048x2048 .f32) (x1 : FVec Ideal S2048 .f32) (i : S2048x2048.Idx) :
    val_main_v12 (F := Ideal) x0 x1 i = Cert.InProjIdeal.Blk.nval x0 x1 i := by
  have e1 : ∀ k, idx_main_v1 (idx_main_v2 (idx_main_v8 i)) k = ix2 (i 0 : Fin 2048) k := fun k => funext fun a => match a with | ⟨0, _⟩ => rfl | ⟨1, _⟩ => rfl
  have e2 : idx_main_v10 (idx_main_v11 i) = ix1 (i 1 : Fin 2048) := funext fun a => match a with | ⟨0, _⟩ => rfl
  rw [val_main_v12_apply, val_main_v9_apply, val_main_v8_apply, val_main_v7_apply, val_main_v6_apply, val_main_v4_apply, val_main_v2_apply,
    val_main_v1_apply, val_main_v3_apply, val_main_cst_0_apply, val_main_v5_apply, val_main_cst_1_apply, val_main_v11_apply, val_main_v10_apply, e2]
  simp only [val_main_v0_apply, e1]
  show x0 i * Ideal.rsqrt (Ideal.div (Ideal.ofBits .f32 0x00000000#32 + ∑ k : Fin 2048, x0 (ix2 (i 0 : Fin 2048) k) * x0 (ix2 (i 0 : Fin 2048) k)) _ + _) * _ = _
  rw [lit_zero, EReal.coe_zero, zero_add]
  rfl

theorem dot_at (x0 : FVec Ideal S2048x2048 .f32) (x1 : FVec Ideal S2048 .f32) (x2 : FVec Ideal S2048x3584 .f32) (i : S2048x3584.Idx) :
    val_main_v14 (F := Ideal) x0 x1 x2 i = ∑ k : Fin 2048, Cert.InProjIdeal.Blk.nval x0 x1 (ix2 (i 0 : Fin 2048) k) * x2 (ix2 k (i 1 : Fin 3584)) := by
  rw [val_main_v14_apply]
  refine Finset.sum_congr rfl fun k _ => ?_
  rw [norm_at, show lidx_main_v14 i k = ix2 (i 0 : Fin 2048) k from funext fun a => match a with | ⟨0, _⟩ => rfl | ⟨1, _⟩ => rfl,
    show ridx_main_v14 i k = ix2 k (i 1 : Fin 3584) from funext fun a => match a with | ⟨0, _⟩ => rfl | ⟨1, _⟩ => rfl]
  rfl

end Cert.InProjRefIdeal.Read
end
-- ==== Proof.InProjJoin.lean ====
module

public import proofs.«01_k».proof.Defs
public import proofs.«01_k».proof.Proof.InProjKernel
public import proofs.«01_k».proof.Proof.Gen.InProj.Skeleton
public import proofs.«01_k».proof.Proof.Gen.InProj.Launch
public import proofs.«01_k».proof.Proof.Gen.InProjRefIdeal.Run
public import proofs.«01_k».proof.Proof.Gen.InProjRefIdeal.Read

@[expose] public section

set_option maxRecDepth 16384

noncomputable section

/-! The input projection with its norm: the program read bit by bit has the run of the program read at the ideal instance, and the kernel's results are the reference's. -/

namespace Cert.InProj

open Idealize.ShloMosaic Idealize.SL.Sem

/-- The two programs have the same text, so they have the same body tables. -/
theorem defs₀_eq : Cert.InProj.defs₀ (F := Bits) = Cert.InProjIdeal.defs₀ (F := Bits) := by
  unfold Cert.InProj.defs₀ Cert.InProjIdeal.defs₀
  congr 1; funext l
  match l with
  | ⟨0, _⟩ => rfl

theorem defs_eq : Cert.InProj.defs (F := Bits) = Cert.InProjIdeal.defs (F := Bits) := by
  unfold Cert.InProj.defs
  rw [defs₀_eq]; rfl

theorem frame : Cert.quiescent_InProj := fun m ρ _ => defs_eq ▸ Cert.InProjIdeal.Carry.frame (F := Bits) m ρ

theorem join : Cert.algebraic_InProjIdeal_InProjRefIdeal := by
  intro m g m' g' hpre agree
  refine ⟨Cert.InProjIdeal.Blk.G3 m, Cert.InProjIdeal.Blk.G4 m,
    (θ_run Cert.InProjIdeal.defs _ _).mono (fun r h c => ?_) (Cert.InProjIdeal.Carry.run_blocks (F := Ideal) m g), ?_⟩
  · obtain ⟨h0, h1, hargs⟩ := h c
    exact ⟨h0.trans (Cert.InProjIdeal.Blk.final3 m c), h1.trans (Cert.InProjIdeal.Blk.final4 m c), hargs⟩
  refine (θ_run Cert.InProjRefIdeal.defs _ _).mono (fun r h c => ?_) (Cert.InProjRefIdeal.Value.run (F := Ideal) m' g')
  obtain ⟨h0, h1, hargs⟩ := h c
  obtain ⟨e0, e1, e2⟩ := agree c
  refine ⟨?_, ?_, hargs⟩
  · refine (h0.trans (Cert.InProjRefIdeal.Read.val_main_v13_eq _ _)).trans (funext fun i => ?_)
    refine (Cert.InProjRefIdeal.Read.norm_at _ _ i).trans ?_
    unfold Cert.InProjIdeal.Blk.G3
    rw [e0, e1]
  · refine (h1.trans (Cert.InProjRefIdeal.Read.val_main_v14_eq _ _ _)).trans (funext fun i => ?_)
    refine (Cert.InProjRefIdeal.Read.dot_at _ _ _ i).trans ?_
    unfold Cert.InProjIdeal.Blk.G4
    rw [e0, e1, e2]; rfl

end Cert.InProj
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.SguJoin
public import proofs.«01_k».proof.Proof.Gen.Dact
public import proofs.«01_k».proof.Proof.Gen.Dact.Skeleton
public import proofs.«01_k».proof.Proof.Gen.Dact.Launch
public import proofs.«01_k».proof.Proof.Gen.Dact.Points
public import proofs.«01_k».proof.Proof.Gen.Dact.Frame
public import proofs.«01_k».proof.Proof.Gen.DactIdeal
public import proofs.«01_k».proof.Proof.Gen.DactIdeal.Skeleton
public import proofs.«01_k».proof.Proof.Gen.DactIdeal.Launch
public import proofs.«01_k».proof.Proof.Gen.DactIdeal.Points
public import proofs.«01_k».proof.Proof.Gen.DactIdeal.Frame
public import proofs.«01_k».proof.Proof.Gen.DactIdeal.Value
public import proofs.«01_k».proof.Proof.Gen.DactRefIdeal
public import proofs.«01_k».proof.Proof.Gen.DactRefIdeal.Run
public import proofs.«01_k».proof.Proof.Gen.DactRefIdeal.Read
public import proofs.«01_k».proof.Proof.DactJoin
public import proofs.«01_k».proof.Proof.Gen.Dnorm
public import proofs.«01_k».proof.Proof.Gen.Dnorm.Skeleton
public import proofs.«01_k».proof.Proof.Gen.Dnorm.Launch
public import proofs.«01_k».proof.Proof.Gen.Dnorm.Points
public import proofs.«01_k».proof.Proof.Gen.Dnorm.Frame
public import proofs.«01_k».proof.Proof.Gen.DnormIdeal
public import proofs.«01_k».proof.Proof.Gen.DnormIdeal.Skeleton
public import proofs.«01_k».proof.Proof.Gen.DnormIdeal.Launch
public import proofs.«01_k».proof.Proof.Gen.DnormIdeal.Points
public import proofs.«01_k».proof.Proof.Gen.DnormIdeal.Frame
public import proofs.«01_k».proof.Proof.Gen.DnormIdeal.Value
public import proofs.«01_k».proof.Proof.Gen.DnormRefIdeal
public import proofs.«01_k».proof.Proof.Gen.DnormRefIdeal.Run
public import proofs.«01_k».proof.Proof.Gen.DnormRefIdeal.Read
public import proofs.«01_k».proof.Proof.Gen.Pre_finite_dnorm
public import proofs.«01_k».proof.Proof.DnormJoin
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.DownJoin
public import proofs.«01_k».proof.Proof.Gen.GradDown
public import proofs.«01_k».proof.Proof.Gen.GradDown.Skeleton
public import proofs.«01_k».proof.Proof.Gen.GradDown.Launch
public import proofs.«01_k».proof.Proof.Gen.GradDown.Points
public import proofs.«01_k».proof.Proof.Gen.GradDown.Frame
public import proofs.«01_k».proof.Proof.Gen.GradDownIdeal
public import proofs.«01_k».proof.Proof.Gen.GradDownIdeal.Skeleton
public import proofs.«01_k».proof.Proof.Gen.GradDownIdeal.Launch
public import proofs.«01_k».proof.Proof.Gen.GradDownIdeal.Points
public import proofs.«01_k».proof.Proof.Gen.GradDownIdeal.Frame
public import proofs.«01_k».proof.Proof.Gen.GradDownRefIdeal
public import proofs.«01_k».proof.Proof.Gen.GradDownRefIdeal.Run
public import proofs.«01_k».proof.Proof.Gen.GradDownRefIdeal.Read
public import proofs.«01_k».proof.Proof.Gen.Pre_half_graddown
public import proofs.«01_k».proof.Proof.GradDownJoin
public import proofs.«01_k».proof.Proof.Gen.GradDownAdd
public import proofs.«01_k».proof.Proof.Gen.GradDownAdd.Skeleton
public import proofs.«01_k».proof.Proof.Gen.GradDownAdd.Launch
public import proofs.«01_k».proof.Proof.Gen.GradDownAdd.Points
public import proofs.«01_k».proof.Proof.Gen.GradDownAdd.Frame
public import proofs.«01_k».proof.Proof.Gen.GradDownAddIdeal
public import proofs.«01_k».proof.Proof.Gen.GradDownAddIdeal.Skeleton
public import proofs.«01_k».proof.Proof.Gen.GradDownAddIdeal.Launch
public import proofs.«01_k».proof.Proof.Gen.GradDownAddIdeal.Points
public import proofs.«01_k».proof.Proof.Gen.GradDownAddIdeal.Frame
public import proofs.«01_k».proof.Proof.Gen.GradDownAddRefIdeal
public import proofs.«01_k».proof.Proof.Gen.GradDownAddRefIdeal.Run
public import proofs.«01_k».proof.Proof.Gen.GradDownAddRefIdeal.Read
public import proofs.«01_k».proof.Proof.Gen.Pre_half_graddownadd
public import proofs.«01_k».proof.Proof.GradDownAddJoin
public import proofs.«01_k».proof.Proof.Gen.GradUp
public import proofs.«01_k».proof.Proof.Gen.GradUp.Skeleton
public import proofs.«01_k».proof.Proof.Gen.GradUp.Launch
public import proofs.«01_k».proof.Proof.Gen.GradUp.Points
public import proofs.«01_k».proof.Proof.Gen.GradUp.Frame
public import proofs.«01_k».proof.Proof.Gen.GradUpIdeal
public import proofs.«01_k».proof.Proof.Gen.GradUpIdeal.Skeleton
public import proofs.«01_k».proof.Proof.Gen.GradUpIdeal.Launch
public import proofs.«01_k».proof.Proof.Gen.GradUpIdeal.Points
public import proofs.«01_k».proof.Proof.Gen.GradUpIdeal.Frame
public import proofs.«01_k».proof.Proof.Gen.GradUpRefIdeal
public import proofs.«01_k».proof.Proof.Gen.GradUpRefIdeal.Run
public import proofs.«01_k».proof.Proof.Gen.GradUpRefIdeal.Read
public import proofs.«01_k».proof.Proof.Gen.Pre_half_gradup
public import proofs.«01_k».proof.Proof.GradUpJoin
public import proofs.«01_k».proof.Proof.Gen.GradUpAdd
public import proofs.«01_k».proof.Proof.Gen.GradUpAdd.Skeleton
public import proofs.«01_k».proof.Proof.Gen.GradUpAdd.Launch
public import proofs.«01_k».proof.Proof.Gen.GradUpAdd.Points
public import proofs.«01_k».proof.Proof.Gen.GradUpAdd.Frame
public import proofs.«01_k».proof.Proof.Gen.GradUpAddIdeal
public import proofs.«01_k».proof.Proof.Gen.GradUpAddIdeal.Skeleton
public import proofs.«01_k».proof.Proof.Gen.GradUpAddIdeal.Launch
public import proofs.«01_k».proof.Proof.Gen.GradUpAddIdeal.Points
public import proofs.«01_k».proof.Proof.Gen.GradUpAddIdeal.Frame
public import proofs.«01_k».proof.Proof.Gen.GradUpAddRefIdeal
public import proofs.«01_k».proof.Proof.Gen.GradUpAddRefIdeal.Run
public import proofs.«01_k».proof.Proof.Gen.GradUpAddRefIdeal.Read
public import proofs.«01_k».proof.Proof.Gen.Pre_half_gradupadd
public import proofs.«01_k».proof.Proof.GradUpAddJoin
public import proofs.«01_k».proof.Proof.Gen.GradOut
public import proofs.«01_k».proof.Proof.Gen.GradOut.Skeleton
public import proofs.«01_k».proof.Proof.Gen.GradOut.Launch
public import proofs.«01_k».proof.Proof.Gen.GradOut.Points
public import proofs.«01_k».proof.Proof.Gen.GradOut.Frame
public import proofs.«01_k».proof.Proof.Gen.GradOutIdeal
public import proofs.«01_k».proof.Proof.Gen.GradOutIdeal.Skeleton
public import proofs.«01_k».proof.Proof.Gen.GradOutIdeal.Launch
public import proofs.«01_k».proof.Proof.Gen.GradOutIdeal.Points
public import proofs.«01_k».proof.Proof.Gen.GradOutIdeal.Frame
public import proofs.«01_k».proof.Proof.Gen.GradOutRefIdeal
public import proofs.«01_k».proof.Proof.Gen.GradOutRefIdeal.Run
public import proofs.«01_k».proof.Proof.Gen.GradOutRefIdeal.Read
public import proofs.«01_k».proof.Proof.Gen.Pre_half_gradout
public import proofs.«01_k».proof.Proof.GradOutJoin
public import proofs.«01_k».proof.Proof.Gen.GradOutAdd
public import proofs.«01_k».proof.Proof.Gen.GradOutAdd.Skeleton
public import proofs.«01_k».proof.Proof.Gen.GradOutAdd.Launch
public import proofs.«01_k».proof.Proof.Gen.GradOutAdd.Points
public import proofs.«01_k».proof.Proof.Gen.GradOutAdd.Frame
public import proofs.«01_k».proof.Proof.Gen.GradOutAddIdeal
public import proofs.«01_k».proof.Proof.Gen.GradOutAddIdeal.Skeleton
public import proofs.«01_k».proof.Proof.Gen.GradOutAddIdeal.Launch
public import proofs.«01_k».proof.Proof.Gen.GradOutAddIdeal.Points
public import proofs.«01_k».proof.Proof.Gen.GradOutAddIdeal.Frame
public import proofs.«01_k».proof.Proof.Gen.GradOutAddRefIdeal
public import proofs.«01_k».proof.Proof.Gen.GradOutAddRefIdeal.Run
public import proofs.«01_k».proof.Proof.Gen.GradOutAddRefIdeal.Read
public import proofs.«01_k».proof.Proof.Gen.Pre_half_gradoutadd
public import proofs.«01_k».proof.Proof.GradOutAddJoin
public import proofs.«01_k».proof.Proof.Gen.GradIn
public import proofs.«01_k».proof.Proof.Gen.GradIn.Skeleton
public import proofs.«01_k».proof.Proof.Gen.GradIn.Launch
public import proofs.«01_k».proof.Proof.Gen.GradIn.Points
public import proofs.«01_k».proof.Proof.Gen.GradIn.Frame
public import proofs.«01_k».proof.Proof.Gen.GradInIdeal
public import proofs.«01_k».proof.Proof.Gen.GradInIdeal.Skeleton
public import proofs.«01_k».proof.Proof.Gen.GradInIdeal.Launch
public import proofs.«01_k».proof.Proof.Gen.GradInIdeal.Points
public import proofs.«01_k».proof.Proof.Gen.GradInIdeal.Frame
public import proofs.«01_k».proof.Proof.Gen.GradInIdeal.Value
public import proofs.«01_k».proof.Proof.Gen.GradInRefIdeal
public import proofs.«01_k».proof.Proof.Gen.GradInRefIdeal.Run
public import proofs.«01_k».proof.Proof.Gen.GradInRefIdeal.Read
public import proofs.«01_k».proof.Proof.GradInJoin
public import proofs.«01_k».proof.Proof.Gen.InDnorm
public import proofs.«01_k».proof.Proof.Gen.InDnorm.Skeleton
public import proofs.«01_k».proof.Proof.Gen.InDnorm.Launch
public import proofs.«01_k».proof.Proof.Gen.InDnorm.Points
public import proofs.«01_k».proof.Proof.Gen.InDnorm.Frame
public import proofs.«01_k».proof.Proof.Gen.InDnormIdeal
public import proofs.«01_k».proof.Proof.Gen.InDnormIdeal.Skeleton
public import proofs.«01_k».proof.Proof.Gen.InDnormIdeal.Launch
public import proofs.«01_k».proof.Proof.Gen.InDnormIdeal.Points
public import proofs.«01_k».proof.Proof.Gen.InDnormIdeal.Frame
public import proofs.«01_k».proof.Proof.Gen.InDnormIdeal.Value
public import proofs.«01_k».proof.Proof.Gen.InDnormRefIdeal
public import proofs.«01_k».proof.Proof.Gen.InDnormRefIdeal.Run
public import proofs.«01_k».proof.Proof.Gen.InDnormRefIdeal.Read
public import proofs.«01_k».proof.Proof.Gen.Pre_finite_indnorm
public import proofs.«01_k».proof.Proof.InDnormJoin
public import proofs.«01_k».proof.Proof.Gen.MlpUp
public import proofs.«01_k».proof.Proof.Gen.MlpUp.Skeleton
public import proofs.«01_k».proof.Proof.Gen.MlpUp.Launch
public import proofs.«01_k».proof.Proof.Gen.MlpUp.Points
public import proofs.«01_k».proof.Proof.Gen.MlpUpIdeal
public import proofs.«01_k».proof.Proof.Gen.MlpUpIdeal.Skeleton
public import proofs.«01_k».proof.Proof.Gen.MlpUpIdeal.Launch
public import proofs.«01_k».proof.Proof.Gen.MlpUpIdeal.Points
public import proofs.«01_k».proof.Proof.Gen.MlpUpRefIdeal
public import proofs.«01_k».proof.Proof.Gen.MlpUpRefIdeal.Run
public import proofs.«01_k».proof.Proof.Gen.MlpUpRefIdeal.Read
public import proofs.«01_k».proof.Proof.MlpUpFrame
public import proofs.«01_k».proof.Proof.MlpUpJoin
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjRefIdeal
public import proofs.«01_k».proof.Proof.Gen.InProjRefIdeal.Run
public import proofs.«01_k».proof.Proof.Gen.InProjRefIdeal.Read
public import proofs.«01_k».proof.Proof.InProjFrame
public import proofs.«01_k».proof.Proof.InProjJoin
public import Idealize.ShloMosaic.Adequacy
public import Idealize.ShloMosaic.Init

@[expose] public section

noncomputable section

namespace Cert.Proof

open Idealize.ShloMosaic Idealize.SL.Sem Cert.Kernel

/-- The reference ends with its arguments kept and no semaphore pending. -/
theorem refFrame : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The reference ends with its arguments kept and no semaphore pending. -/
theorem refFrameDact : Cert.quiescent_DactRefIdeal := fun m ρ _ =>
  (θ_run Cert.DactRefIdeal.defs _ _).mono (fun r h => ⟨fun c => (h c).2, sem_eq_zero_of_no_sems (by decide) r.2⟩)
    (Cert.DactRefIdeal.Value.run (F := Ideal) m ρ)

/-- The reference ends with its arguments kept and no semaphore pending. -/
theorem refFrameDnorm : Cert.quiescent_DnormRefIdeal := fun m ρ _ =>
  (θ_run Cert.DnormRefIdeal.defs _ _).mono (fun r h => ⟨fun c => (h c).2.2, sem_eq_zero_of_no_sems (by decide) r.2⟩)
    (Cert.DnormRefIdeal.Value.run (F := Ideal) m ρ)

/-- The reference ends with its arguments kept and no semaphore pending. -/
theorem refFrameDown : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

/-- The reference ends with its arguments kept and no semaphore pending. -/
theorem refFrameGradDown : Cert.quiescent_GradDownRefIdeal := fun m ρ _ =>
  (θ_run Cert.GradDownRefIdeal.defs _ _).mono (fun r h => ⟨fun c => (h c).2, sem_eq_zero_of_no_sems (by decide) r.2⟩)
    (Cert.GradDownRefIdeal.Value.run (F := Ideal) m ρ)

/-- The reference ends with its arguments kept and no semaphore pending. -/
theorem refFrameGradDownAdd : Cert.quiescent_GradDownAddRefIdeal := fun m ρ _ =>
  (θ_run Cert.GradDownAddRefIdeal.defs _ _).mono (fun r h => ⟨fun c => (h c).2, sem_eq_zero_of_no_sems (by decide) r.2⟩)
    (Cert.GradDownAddRefIdeal.Value.run (F := Ideal) m ρ)

/-- The reference ends with its arguments kept and no semaphore pending. -/
theorem refFrameGradUp : Cert.quiescent_GradUpRefIdeal := fun m ρ _ =>
  (θ_run Cert.GradUpRefIdeal.defs _ _).mono (fun r h => ⟨fun c => (h c).2, sem_eq_zero_of_no_sems (by decide) r.2⟩)
    (Cert.GradUpRefIdeal.Value.run (F := Ideal) m ρ)

/-- The reference ends with its arguments kept and no semaphore pending. -/
theorem refFrameGradUpAdd : Cert.quiescent_GradUpAddRefIdeal := fun m ρ _ =>
  (θ_run Cert.GradUpAddRefIdeal.defs _ _).mono (fun r h => ⟨fun c => (h c).2, sem_eq_zero_of_no_sems (by decide) r.2⟩)
    (Cert.GradUpAddRefIdeal.Value.run (F := Ideal) m ρ)

/-- The reference ends with its arguments kept and no semaphore pending. -/
theorem refFrameGradOut : Cert.quiescent_GradOutRefIdeal := fun m ρ _ =>
  (θ_run Cert.GradOutRefIdeal.defs _ _).mono (fun r h => ⟨fun c => (h c).2, sem_eq_zero_of_no_sems (by decide) r.2⟩)
    (Cert.GradOutRefIdeal.Value.run (F := Ideal) m ρ)

/-- The reference ends with its arguments kept and no semaphore pending. -/
theorem refFrameGradOutAdd : Cert.quiescent_GradOutAddRefIdeal := fun m ρ _ =>
  (θ_run Cert.GradOutAddRefIdeal.defs _ _).mono (fun r h => ⟨fun c => (h c).2, sem_eq_zero_of_no_sems (by decide) r.2⟩)
    (Cert.GradOutAddRefIdeal.Value.run (F := Ideal) m ρ)

/-- The reference ends with its arguments kept and no semaphore pending. -/
theorem refFrameGradIn : Cert.quiescent_GradInRefIdeal := fun m ρ _ =>
  (θ_run Cert.GradInRefIdeal.defs _ _).mono (fun r h => ⟨fun c => (h c).2, sem_eq_zero_of_no_sems (by decide) r.2⟩)
    (Cert.GradInRefIdeal.Value.run (F := Ideal) m ρ)

/-- The reference ends with its arguments kept and no semaphore pending. -/
theorem refFrameInDnorm : Cert.quiescent_InDnormRefIdeal := fun m ρ _ =>
  (θ_run Cert.InDnormRefIdeal.defs _ _).mono (fun r h => ⟨fun c => (h c).2.2.2, sem_eq_zero_of_no_sems (by decide) r.2⟩)
    (Cert.InDnormRefIdeal.Value.run (F := Ideal) m ρ)

/-- The reference ends with its arguments kept and no semaphore pending. -/
theorem refFrameMlpUp : Cert.quiescent_MlpUpRefIdeal := fun m ρ _ =>
  (θ_run Cert.MlpUpRefIdeal.defs _ _).mono (fun r h => ⟨fun c => (h c).2.2.2, sem_eq_zero_of_no_sems (by decide) r.2⟩)
    (Cert.MlpUpRefIdeal.Value.run (F := Ideal) m ρ)

/-- The reference ends with its arguments kept and no semaphore pending. -/
theorem refFrameInProj : Cert.quiescent_InProjRefIdeal := fun m ρ _ =>
  (θ_run Cert.InProjRefIdeal.defs _ _).mono (fun r h => ⟨fun c => (h c).2.2, sem_eq_zero_of_no_sems (by decide) r.2⟩)
    (Cert.InProjRefIdeal.Value.run (F := Ideal) m ρ)

theorem claim : Cert.Claim :=
  ⟨Cert.Kernel.Gen.facts, Cert.KernelIdeal.Gen.facts, Cert.ReferenceIdeal.Gen.facts, Cert.Dact.Gen.facts, Cert.DactIdeal.Gen.facts, Cert.DactRefIdeal.Gen.facts, Cert.Dnorm.Gen.facts, Cert.DnormIdeal.Gen.facts, Cert.DnormRefIdeal.Gen.facts, Cert.Down.Gen.facts, Cert.DownIdeal.Gen.facts, Cert.DownRefIdeal.Gen.facts, Cert.GradDown.Gen.facts, Cert.GradDownIdeal.Gen.facts, Cert.GradDownRefIdeal.Gen.facts, Cert.GradDownAdd.Gen.facts, Cert.GradDownAddIdeal.Gen.facts, Cert.GradDownAddRefIdeal.Gen.facts, Cert.GradUp.Gen.facts, Cert.GradUpIdeal.Gen.facts, Cert.GradUpRefIdeal.Gen.facts, Cert.GradUpAdd.Gen.facts, Cert.GradUpAddIdeal.Gen.facts, Cert.GradUpAddRefIdeal.Gen.facts, Cert.GradOut.Gen.facts, Cert.GradOutIdeal.Gen.facts, Cert.GradOutRefIdeal.Gen.facts, Cert.GradOutAdd.Gen.facts, Cert.GradOutAddIdeal.Gen.facts, Cert.GradOutAddRefIdeal.Gen.facts, Cert.GradIn.Gen.facts, Cert.GradInIdeal.Gen.facts, Cert.GradInRefIdeal.Gen.facts, Cert.InDnorm.Gen.facts, Cert.InDnormIdeal.Gen.facts, Cert.InDnormRefIdeal.Gen.facts, Cert.MlpUp.Gen.facts, Cert.MlpUpIdeal.Gen.facts, Cert.MlpUpRefIdeal.Gen.facts, Cert.InProj.Gen.facts, Cert.InProjIdeal.Gen.facts, Cert.InProjRefIdeal.Gen.facts, Cert.Pre_finite.Gen.facts, Cert.Pre_finite_dnorm.Gen.facts, Cert.Pre_half_graddown.Gen.facts, Cert.Pre_half_graddownadd.Gen.facts, Cert.Pre_half_gradup.Gen.facts, Cert.Pre_half_gradupadd.Gen.facts, Cert.Pre_half_gradout.Gen.facts, Cert.Pre_half_gradoutadd.Gen.facts, Cert.Pre_finite_indnorm.Gen.facts,
    fun m ρ _ => Cert.Kernel.Gen.frame m ρ, fun m ρ _ => Cert.KernelIdeal.Gen.frame m ρ, fun m ρ _ => Cert.KernelIdeal.Gen.frame m ρ, refFrame, fun m ρ _ => refFrame m ρ trivial,
    fun m ρ _ => Cert.Dact.Gen.frame m ρ, fun m ρ _ => Cert.DactIdeal.Gen.frame m ρ, refFrameDact,
    fun m ρ _ => Cert.Dnorm.Gen.frame m ρ, fun m ρ _ => Cert.DnormIdeal.Gen.frame m ρ, fun m ρ _ => Cert.DnormIdeal.Gen.frame m ρ, refFrameDnorm, fun m ρ _ => refFrameDnorm m ρ trivial,
    fun m ρ _ => Cert.Down.Gen.frame m ρ, fun m ρ _ => Cert.DownIdeal.Gen.frame m ρ, refFrameDown,
    fun m ρ h => Cert.GradDown.Gen.frame m ρ (Cert.GradDown.ok_of_pre m h), fun m ρ h => Cert.GradDownIdeal.Gen.frame m ρ (Cert.GradDown.ok_of_pre_ideal m h), refFrameGradDown, fun m ρ _ => refFrameGradDown m ρ trivial,
    fun m ρ h => Cert.GradDownAdd.Gen.frame m ρ (Cert.GradDownAdd.ok_of_pre m h), fun m ρ h => Cert.GradDownAddIdeal.Gen.frame m ρ (Cert.GradDownAdd.ok_of_pre_ideal m h), refFrameGradDownAdd, fun m ρ _ => refFrameGradDownAdd m ρ trivial,
    fun m ρ h => Cert.GradUp.Gen.frame m ρ (Cert.GradUp.ok_of_pre m h), fun m ρ h => Cert.GradUpIdeal.Gen.frame m ρ (Cert.GradUp.ok_of_pre_ideal m h), refFrameGradUp, fun m ρ _ => refFrameGradUp m ρ trivial,
    fun m ρ h => Cert.GradUpAdd.Gen.frame m ρ (Cert.GradUpAdd.ok_of_pre m h), fun m ρ h => Cert.GradUpAddIdeal.Gen.frame m ρ (Cert.GradUpAdd.ok_of_pre_ideal m h), refFrameGradUpAdd, fun m ρ _ => refFrameGradUpAdd m ρ trivial,
    fun m ρ h => Cert.GradOut.Gen.frame m ρ (Cert.GradOut.ok_of_pre m h), fun m ρ h => Cert.GradOutIdeal.Gen.frame m ρ (Cert.GradOut.ok_of_pre_ideal m h), refFrameGradOut, fun m ρ _ => refFrameGradOut m ρ trivial,
    fun m ρ h => Cert.GradOutAdd.Gen.frame m ρ (Cert.GradOutAdd.ok_of_pre m h), fun m ρ h => Cert.GradOutAddIdeal.Gen.frame m ρ (Cert.GradOutAdd.ok_of_pre_ideal m h), refFrameGradOutAdd, fun m ρ _ => refFrameGradOutAdd m ρ trivial,
    fun m ρ _ => Cert.GradIn.Gen.frame m ρ, fun m ρ _ => Cert.GradInIdeal.Gen.frame m ρ, refFrameGradIn,
    fun m ρ _ => Cert.InDnorm.Gen.frame m ρ, fun m ρ _ => Cert.InDnormIdeal.Gen.frame m ρ, fun m ρ _ => Cert.InDnormIdeal.Gen.frame m ρ, refFrameInDnorm, fun m ρ _ => refFrameInDnorm m ρ trivial,
    Cert.MlpUp.frame, fun m ρ _ => Cert.MlpUpIdeal.Carry.frame m ρ, refFrameMlpUp,
    Cert.InProj.frame, fun m ρ _ => Cert.InProjIdeal.Carry.frame m ρ, refFrameInProj,
    trivial, Cert.Sgu.join,
    trivial, Cert.Dact.join,
    trivial, Cert.Dnorm.join,
    trivial, Cert.Down.join,
    trivial, Cert.GradDown.join,
    trivial, Cert.GradDownAdd.join,
    trivial, Cert.GradUp.join,
    trivial, Cert.GradUpAdd.join,
    trivial, Cert.GradOut.join,
    trivial, Cert.GradOutAdd.join,
    trivial, Cert.GradIn.join,
    trivial, Cert.InDnorm.join,
    trivial, Cert.MlpUp.join,
    trivial, Cert.InProj.join⟩

end Cert.Proof

end
